-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_FfnDwOut (m : (ℓ : Loc Cert.FfnDwOut.nD Cert.FfnDwOut.τ Cert.FfnDwOut.sig) → Buf (Elt Bits) ℓ) : Prop :=
  True

def Pre_FfnDwOutIdeal (m : (ℓ : Loc Cert.FfnDwOutIdeal.nD Cert.FfnDwOutIdeal.τ Cert.FfnDwOutIdeal.sig) → Buf (Elt Ideal) ℓ) : Prop :=
  True

def Pre_FfnDwOutRefIdeal (m : (ℓ : Loc Cert.FfnDwOutRefIdeal.nD Cert.FfnDwOutRefIdeal.τ Cert.FfnDwOutRefIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_att_finite [hPre_att_finite : Cert.Pre_att_finite.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_att_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))) = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_att_finite [hPre_att_finite : Cert.Pre_att_finite.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_att_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))) = (fun _ => 1#1)

def Pre_MlaUvBwd (m : (ℓ : Loc Cert.MlaUvBwd.nD Cert.MlaUvBwd.τ Cert.MlaUvBwd.sig) → Buf (Elt Bits) ℓ) : Prop :=
  True

def Pre_MlaUvBwdIdeal (m : (ℓ : Loc Cert.MlaUvBwdIdeal.nD Cert.MlaUvBwdIdeal.τ Cert.MlaUvBwdIdeal.sig) → Buf (Elt Ideal) ℓ) : Prop :=
  True

def Pre_MlaUvBwdRefIdeal (m : (ℓ : Loc Cert.MlaUvBwdRefIdeal.nD Cert.MlaUvBwdRefIdeal.τ Cert.MlaUvBwdRefIdeal.sig) → Buf (Elt Ideal) ℓ) : Prop :=
  True

def Pre_MlaDo (m : (ℓ : Loc Cert.MlaDo.nD Cert.MlaDo.τ Cert.MlaDo.sig) → Buf (Elt Bits) ℓ) : Prop :=
  True

def Pre_MlaDoIdeal (m : (ℓ : Loc Cert.MlaDoIdeal.nD Cert.MlaDoIdeal.τ Cert.MlaDoIdeal.sig) → Buf (Elt Ideal) ℓ) : Prop :=
  True

def Pre_MlaDoRefIdeal (m : (ℓ : Loc Cert.MlaDoRefIdeal.nD Cert.MlaDoRefIdeal.τ Cert.MlaDoRefIdeal.sig) → Buf (Elt Ideal) ℓ) : Prop :=
  True

def Pre_MlaDwo (m : (ℓ : Loc Cert.MlaDwo.nD Cert.MlaDwo.τ Cert.MlaDwo.sig) → Buf (Elt Bits) ℓ) : Prop :=
  True

def Pre_MlaDwoIdeal (m : (ℓ : Loc Cert.MlaDwoIdeal.nD Cert.MlaDwoIdeal.τ Cert.MlaDwoIdeal.sig) → Buf (Elt Ideal) ℓ) : Prop :=
  True

def Pre_MlaDwoRefIdeal (m : (ℓ : Loc Cert.MlaDwoRefIdeal.nD Cert.MlaDwoRefIdeal.τ Cert.MlaDwoRefIdeal.sig) → Buf (Elt Ideal) ℓ) : Prop :=
  True

def Pre_MlaDh (m : (ℓ : Loc Cert.MlaDh.nD Cert.MlaDh.τ Cert.MlaDh.sig) → Buf (Elt Bits) ℓ) : Prop :=
  True

def Pre_MlaDhIdeal (m : (ℓ : Loc Cert.MlaDhIdeal.nD Cert.MlaDhIdeal.τ Cert.MlaDhIdeal.sig) → Buf (Elt Ideal) ℓ) : Prop :=
  True

def Pre_MlaDhRefIdeal (m : (ℓ : Loc Cert.MlaDhRefIdeal.nD Cert.MlaDhRefIdeal.τ Cert.MlaDhRefIdeal.sig) → Buf (Elt Ideal) ℓ) : Prop :=
  True

def Pre_MlaDwin (m : (ℓ : Loc Cert.MlaDwin.nD Cert.MlaDwin.τ Cert.MlaDwin.sig) → Buf (Elt Bits) ℓ) : Prop :=
  True

def Pre_MlaDwinIdeal (m : (ℓ : Loc Cert.MlaDwinIdeal.nD Cert.MlaDwinIdeal.τ Cert.MlaDwinIdeal.sig) → Buf (Elt Ideal) ℓ) : Prop :=
  True

def Pre_MlaDwinRefIdeal (m : (ℓ : Loc Cert.MlaDwinRefIdeal.nD Cert.MlaDwinRefIdeal.τ Cert.MlaDwinRefIdeal.sig) → Buf (Elt Ideal) ℓ) : Prop :=
  True

def Pre_MlaLat (m : (ℓ : Loc Cert.MlaLat.nD Cert.MlaLat.τ Cert.MlaLat.sig) → Buf (Elt Bits) ℓ) : Prop :=
  True

def Pre_MlaLatIdeal (m : (ℓ : Loc Cert.MlaLatIdeal.nD Cert.MlaLatIdeal.τ Cert.MlaLatIdeal.sig) → Buf (Elt Ideal) ℓ) : Prop :=
  True

def Pre_MlaLatRefIdeal (m : (ℓ : Loc Cert.MlaLatRefIdeal.nD Cert.MlaLatRefIdeal.τ Cert.MlaLatRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_MlaUv (m : (ℓ : Loc Cert.MlaUv.nD Cert.MlaUv.τ Cert.MlaUv.sig) → Buf (Elt Bits) ℓ) : Prop :=
  True

def Pre_MlaUvIdeal (m : (ℓ : Loc Cert.MlaUvIdeal.nD Cert.MlaUvIdeal.τ Cert.MlaUvIdeal.sig) → Buf (Elt Ideal) ℓ) : Prop :=
  True

def Pre_MlaUvRefIdeal (m : (ℓ : Loc Cert.MlaUvRefIdeal.nD Cert.MlaUvRefIdeal.τ Cert.MlaUvRefIdeal.sig) → Buf (Elt Ideal) ℓ) : Prop :=
  True

def Pre_PoolProj (m : (ℓ : Loc Cert.PoolProj.nD Cert.PoolProj.τ Cert.PoolProj.sig) → Buf (Elt Bits) ℓ) : Prop :=
  True

def Pre_PoolProjIdeal (m : (ℓ : Loc Cert.PoolProjIdeal.nD Cert.PoolProjIdeal.τ Cert.PoolProjIdeal.sig) → Buf (Elt Ideal) ℓ) : Prop :=
  True

def Pre_PoolProjRefIdeal (m : (ℓ : Loc Cert.PoolProjRefIdeal.nD Cert.PoolProjRefIdeal.τ Cert.PoolProjRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_PoolDz (m : (ℓ : Loc Cert.PoolDz.nD Cert.PoolDz.τ Cert.PoolDz.sig) → Buf (Elt Bits) ℓ) : Prop :=
  True

def Pre_PoolDzIdeal (m : (ℓ : Loc Cert.PoolDzIdeal.nD Cert.PoolDzIdeal.τ Cert.PoolDzIdeal.sig) → Buf (Elt Ideal) ℓ) : Prop :=
  True

def Pre_PoolDzRefIdeal (m : (ℓ : Loc Cert.PoolDzRefIdeal.nD Cert.PoolDzRefIdeal.τ Cert.PoolDzRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_NormLink (m : (ℓ : Loc Cert.NormLink.nD Cert.NormLink.τ Cert.NormLink.sig) → Buf (Elt Bits) ℓ) : Prop :=
  True

def Pre_NormLinkIdeal (m : (ℓ : Loc Cert.NormLinkIdeal.nD Cert.NormLinkIdeal.τ Cert.NormLinkIdeal.sig) → Buf (Elt Ideal) ℓ) : Prop :=
  True

def Pre_NormLinkRefIdeal (m : (ℓ : Loc Cert.NormLinkRefIdeal.nD Cert.NormLinkRefIdeal.τ Cert.NormLinkRefIdeal.sig) → Buf (Elt Ideal) ℓ) : Prop :=
  True

def Pre_PreNormBwd (m : (ℓ : Loc Cert.PreNormBwd.nD Cert.PreNormBwd.τ Cert.PreNormBwd.sig) → Buf (Elt Bits) ℓ) : Prop :=
  True

def Pre_PreNormBwdIdeal (m : (ℓ : Loc Cert.PreNormBwdIdeal.nD Cert.PreNormBwdIdeal.τ Cert.PreNormBwdIdeal.sig) → Buf (Elt Ideal) ℓ) : Prop :=
  True

def Pre_PreNormBwdRefIdeal (m : (ℓ : Loc Cert.PreNormBwdRefIdeal.nD Cert.PreNormBwdRefIdeal.τ Cert.PreNormBwdRefIdeal.sig) → Buf (Elt Ideal) ℓ) : Prop :=
  True

def Pre_NormLinkBwd (m : (ℓ : Loc Cert.NormLinkBwd.nD Cert.NormLinkBwd.τ Cert.NormLinkBwd.sig) → Buf (Elt Bits) ℓ) : Prop :=
  True

def Pre_NormLinkBwdIdeal (m : (ℓ : Loc Cert.NormLinkBwdIdeal.nD Cert.NormLinkBwdIdeal.τ Cert.NormLinkBwdIdeal.sig) → Buf (Elt Ideal) ℓ) : Prop :=
  True

def Pre_NormLinkBwdRefIdeal (m : (ℓ : Loc Cert.NormLinkBwdRefIdeal.nD Cert.NormLinkBwdRefIdeal.τ Cert.NormLinkBwdRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_NormLoss (m : (ℓ : Loc Cert.NormLoss.nD Cert.NormLoss.τ Cert.NormLoss.sig) → Buf (Elt Bits) ℓ) : Prop :=
  True

def Pre_NormLossIdeal (m : (ℓ : Loc Cert.NormLossIdeal.nD Cert.NormLossIdeal.τ Cert.NormLossIdeal.sig) → Buf (Elt Ideal) ℓ) : Prop :=
  True

def Pre_NormLossRefIdeal (m : (ℓ : Loc Cert.NormLossRefIdeal.nD Cert.NormLossRefIdeal.τ Cert.NormLossRefIdeal.sig) → Buf (Elt Ideal) ℓ) : Prop :=
  True

def Pre_NormLink1 (m : (ℓ : Loc Cert.NormLink1.nD Cert.NormLink1.τ Cert.NormLink1.sig) → Buf (Elt Bits) ℓ) : Prop :=
  True

def Pre_NormLink1Ideal (m : (ℓ : Loc Cert.NormLink1Ideal.nD Cert.NormLink1Ideal.τ Cert.NormLink1Ideal.sig) → Buf (Elt Ideal) ℓ) : Prop :=
  True

def Pre_NormLink1RefIdeal (m : (ℓ : Loc Cert.NormLink1RefIdeal.nD Cert.NormLink1RefIdeal.τ Cert.NormLink1RefIdeal.sig) → Buf (Elt Ideal) ℓ) : Prop :=
  True

def Pre_NormLink3 (m : (ℓ : Loc Cert.NormLink3.nD Cert.NormLink3.τ Cert.NormLink3.sig) → Buf (Elt Bits) ℓ) : Prop :=
  True

def Pre_NormLink3Ideal (m : (ℓ : Loc Cert.NormLink3Ideal.nD Cert.NormLink3Ideal.τ Cert.NormLink3Ideal.sig) → Buf (Elt Ideal) ℓ) : Prop :=
  True

def Pre_NormLink3RefIdeal (m : (ℓ : Loc Cert.NormLink3RefIdeal.nD Cert.NormLink3RefIdeal.τ Cert.NormLink3RefIdeal.sig) → Buf (Elt Ideal) ℓ) : Prop :=
  True

def Pre_NormLink5 (m : (ℓ : Loc Cert.NormLink5.nD Cert.NormLink5.τ Cert.NormLink5.sig) → Buf (Elt Bits) ℓ) : Prop :=
  True

def Pre_NormLink5Ideal (m : (ℓ : Loc Cert.NormLink5Ideal.nD Cert.NormLink5Ideal.τ Cert.NormLink5Ideal.sig) → Buf (Elt Ideal) ℓ) : Prop :=
  True

def Pre_NormLink5RefIdeal (m : (ℓ : Loc Cert.NormLink5RefIdeal.nD Cert.NormLink5RefIdeal.τ Cert.NormLink5RefIdeal.sig) → Buf (Elt Ideal) ℓ) : Prop :=
  True

def Pre_NormLinkBwd5 (m : (ℓ : Loc Cert.NormLinkBwd5.nD Cert.NormLinkBwd5.τ Cert.NormLinkBwd5.sig) → Buf (Elt Bits) ℓ) : Prop :=
  True

def Pre_NormLinkBwd5Ideal (m : (ℓ : Loc Cert.NormLinkBwd5Ideal.nD Cert.NormLinkBwd5Ideal.τ Cert.NormLinkBwd5Ideal.sig) → Buf (Elt Ideal) ℓ) : Prop :=
  True

def Pre_NormLinkBwd5RefIdeal (m : (ℓ : Loc Cert.NormLinkBwd5RefIdeal.nD Cert.NormLinkBwd5RefIdeal.τ Cert.NormLinkBwd5RefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1))
      ∧ r.2.sem = fun _ => 0)

def quiescent_FfnDwOut [hFfnDwOut : Cert.FfnDwOut.Facts] : Prop :=
  ∀ (m : (ℓ : Loc Cert.FfnDwOut.nD Cert.FfnDwOut.τ Cert.FfnDwOut.sig) → Buf (Elt Bits) ℓ) (g : Dev Cert.FfnDwOut.nD → PrngReg), Pre_FfnDwOut m →
    θ_run (Cert.FfnDwOut.defs (F := Bits)) (onTc (τ := Cert.FfnDwOut.τ) (Cert.FfnDwOut.main (F := Bits))) ⟨m, fun _ => 0, g⟩ (fun r => (∀ c : Dev Cert.FfnDwOut.nD,
      r.2.mem ((c.tc : Thread Cert.FfnDwOut.nD Cert.FfnDwOut.τ).loc Cert.FfnDwOut.main_arg0) = m ((c.tc : Thread Cert.FfnDwOut.nD Cert.FfnDwOut.τ).loc Cert.FfnDwOut.main_arg0)
      ∧ r.2.mem ((c.tc : Thread Cert.FfnDwOut.nD Cert.FfnDwOut.τ).loc Cert.FfnDwOut.main_arg1) = m ((c.tc : Thread Cert.FfnDwOut.nD Cert.FfnDwOut.τ).loc Cert.FfnDwOut.main_arg1))
      ∧ r.2.sem = fun _ => 0)

def quiescent_FfnDwOutIdeal [hFfnDwOutIdeal : Cert.FfnDwOutIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg), Pre_FfnDwOutIdeal m →
    θ_run (Cert.FfnDwOutIdeal.defs (F := Ideal)) (onTc (τ := Cert.FfnDwOutIdeal.τ) (Cert.FfnDwOutIdeal.main (F := Ideal))) ⟨m, fun _ => 0, g⟩ (fun r => (∀ c : Dev Cert.FfnDwOutIdeal.nD,
      r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
      ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ r.2.sem = fun _ => 0)

def quiescent_FfnDwOutRefIdeal [hFfnDwOutRefIdeal : Cert.FfnDwOutRefIdeal.Facts] : Prop :=
  ∀ (m : (ℓ : Loc Cert.FfnDwOutRefIdeal.nD Cert.FfnDwOutRefIdeal.τ Cert.FfnDwOutRefIdeal.sig) → Buf (Elt Ideal) ℓ) (g : Dev Cert.FfnDwOutRefIdeal.nD → PrngReg), Pre_FfnDwOutRefIdeal m →
    θ_run (Cert.FfnDwOutRefIdeal.defs (F := Ideal)) (onTc (τ := Cert.FfnDwOutRefIdeal.τ) (Cert.FfnDwOutRefIdeal.main (F := Ideal))) ⟨m, fun _ => 0, g⟩ (fun r => (∀ c : Dev Cert.FfnDwOutRefIdeal.nD,
      r.2.mem ((c.tc : Thread Cert.FfnDwOutRefIdeal.nD Cert.FfnDwOutRefIdeal.τ).loc Cert.FfnDwOutRefIdeal.main_arg0) = m ((c.tc : Thread Cert.FfnDwOutRefIdeal.nD Cert.FfnDwOutRefIdeal.τ).loc Cert.FfnDwOutRefIdeal.main_arg0)
      ∧ r.2.mem ((c.tc : Thread Cert.FfnDwOutRefIdeal.nD Cert.FfnDwOutRefIdeal.τ).loc Cert.FfnDwOutRefIdeal.main_arg1) = m ((c.tc : Thread Cert.FfnDwOutRefIdeal.nD Cert.FfnDwOutRefIdeal.τ).loc Cert.FfnDwOutRefIdeal.main_arg1))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2)
      ∧ r.2.mem ((c.tc : Thread Cert.AttFwd.nD Cert.AttFwd.τ).loc Cert.AttFwd.main_arg3) = m ((c.tc : Thread Cert.AttFwd.nD Cert.AttFwd.τ).loc Cert.AttFwd.main_arg3))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdIdeal_pre_att_finite [hAttFwdIdeal : Cert.AttFwdIdeal.Facts] [hPre_att_finite : Cert.Pre_att_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_att_finite m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_AttFwdRefIdeal_pre_att_finite [hAttFwdRefIdeal : Cert.AttFwdRefIdeal.Facts] [hPre_att_finite : Cert.Pre_att_finite.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_att_finite m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_MlaUvBwd [hMlaUvBwd : Cert.MlaUvBwd.Facts] : Prop :=
  ∀ (m : (ℓ : Loc Cert.MlaUvBwd.nD Cert.MlaUvBwd.τ Cert.MlaUvBwd.sig) → Buf (Elt Bits) ℓ) (g : Dev Cert.MlaUvBwd.nD → PrngReg), Pre_MlaUvBwd m →
    θ_run (Cert.MlaUvBwd.defs (F := Bits)) (onTc (τ := Cert.MlaUvBwd.τ) (Cert.MlaUvBwd.main (F := Bits))) ⟨m, fun _ => 0, g⟩ (fun r => (∀ c : Dev Cert.MlaUvBwd.nD,
      r.2.mem ((c.tc : Thread Cert.MlaUvBwd.nD Cert.MlaUvBwd.τ).loc Cert.MlaUvBwd.main_arg0) = m ((c.tc : Thread Cert.MlaUvBwd.nD Cert.MlaUvBwd.τ).loc Cert.MlaUvBwd.main_arg0)
      ∧ r.2.mem ((c.tc : Thread Cert.MlaUvBwd.nD Cert.MlaUvBwd.τ).loc Cert.MlaUvBwd.main_arg1) = m ((c.tc : Thread Cert.MlaUvBwd.nD Cert.MlaUvBwd.τ).loc Cert.MlaUvBwd.main_arg1)
      ∧ r.2.mem ((c.tc : Thread Cert.MlaUvBwd.nD Cert.MlaUvBwd.τ).loc Cert.MlaUvBwd.main_arg2) = m ((c.tc : Thread Cert.MlaUvBwd.nD Cert.MlaUvBwd.τ).loc Cert.MlaUvBwd.main_arg2))
      ∧ r.2.sem = fun _ => 0)

def quiescent_MlaUvBwdIdeal [hMlaUvBwdIdeal : Cert.MlaUvBwdIdeal.Facts] : Prop :=
  ∀ (m : (ℓ : Loc Cert.MlaUvBwdIdeal.nD Cert.MlaUvBwdIdeal.τ Cert.MlaUvBwdIdeal.sig) → Buf (Elt Ideal) ℓ) (g : Dev Cert.MlaUvBwdIdeal.nD → PrngReg), Pre_MlaUvBwdIdeal m →
    θ_run (Cert.MlaUvBwdIdeal.defs (F := Ideal)) (onTc (τ := Cert.MlaUvBwdIdeal.τ) (Cert.MlaUvBwdIdeal.main (F := Ideal))) ⟨m, fun _ => 0, g⟩ (fun r => (∀ c : Dev Cert.MlaUvBwdIdeal.nD,
      r.2.mem ((c.tc : Thread Cert.MlaUvBwdIdeal.nD Cert.MlaUvBwdIdeal.τ).loc Cert.MlaUvBwdIdeal.main_arg0) = m ((c.tc : Thread Cert.MlaUvBwdIdeal.nD Cert.MlaUvBwdIdeal.τ).loc Cert.MlaUvBwdIdeal.main_arg0)
      ∧ r.2.mem ((c.tc : Thread Cert.MlaUvBwdIdeal.nD Cert.MlaUvBwdIdeal.τ).loc Cert.MlaUvBwdIdeal.main_arg1) = m ((c.tc : Thread Cert.MlaUvBwdIdeal.nD Cert.MlaUvBwdIdeal.τ).loc Cert.MlaUvBwdIdeal.main_arg1)
      ∧ r.2.mem ((c.tc : Thread Cert.MlaUvBwdIdeal.nD Cert.MlaUvBwdIdeal.τ).loc Cert.MlaUvBwdIdeal.main_arg2) = m ((c.tc : Thread Cert.MlaUvBwdIdeal.nD Cert.MlaUvBwdIdeal.τ).loc Cert.MlaUvBwdIdeal.main_arg2))
      ∧ r.2.sem = fun _ => 0)

def quiescent_MlaUvBwdRefIdeal [hMlaUvBwdRefIdeal : Cert.MlaUvBwdRefIdeal.Facts] : Prop :=
  ∀ (m : (ℓ : Loc Cert.MlaUvBwdRefIdeal.nD Cert.MlaUvBwdRefIdeal.τ Cert.MlaUvBwdRefIdeal.sig) → Buf (Elt Ideal) ℓ) (g : Dev Cert.MlaUvBwdRefIdeal.nD → PrngReg), Pre_MlaUvBwdRefIdeal m →
    θ_run (Cert.MlaUvBwdRefIdeal.defs (F := Ideal)) (onTc (τ := Cert.MlaUvBwdRefIdeal.τ) (Cert.MlaUvBwdRefIdeal.main (F := Ideal))) ⟨m, fun _ => 0, g⟩ (fun r => (∀ c : Dev Cert.MlaUvBwdRefIdeal.nD,
      r.2.mem ((c.tc : Thread Cert.MlaUvBwdRefIdeal.nD Cert.MlaUvBwdRefIdeal.τ).loc Cert.MlaUvBwdRefIdeal.main_arg0) = m ((c.tc : Thread Cert.MlaUvBwdRefIdeal.nD Cert.MlaUvBwdRefIdeal.τ).loc Cert.MlaUvBwdRefIdeal.main_arg0)
      ∧ r.2.mem ((c.tc : Thread Cert.MlaUvBwdRefIdeal.nD Cert.MlaUvBwdRefIdeal.τ).loc Cert.MlaUvBwdRefIdeal.main_arg1) = m ((c.tc : Thread Cert.MlaUvBwdRefIdeal.nD Cert.MlaUvBwdRefIdeal.τ).loc Cert.MlaUvBwdRefIdeal.main_arg1)
      ∧ r.2.mem ((c.tc : Thread Cert.MlaUvBwdRefIdeal.nD Cert.MlaUvBwdRefIdeal.τ).loc Cert.MlaUvBwdRefIdeal.main_arg2) = m ((c.tc : Thread Cert.MlaUvBwdRefIdeal.nD Cert.MlaUvBwdRefIdeal.τ).loc Cert.MlaUvBwdRefIdeal.main_arg2))
      ∧ r.2.sem = fun _ => 0)

def quiescent_MlaDo [hMlaDo : Cert.MlaDo.Facts] : Prop :=
  ∀ (m : (ℓ : Loc Cert.MlaDo.nD Cert.MlaDo.τ Cert.MlaDo.sig) → Buf (Elt Bits) ℓ) (g : Dev Cert.MlaDo.nD → PrngReg), Pre_MlaDo m →
    θ_run (Cert.MlaDo.defs (F := Bits)) (onTc (τ := Cert.MlaDo.τ) (Cert.MlaDo.main (F := Bits))) ⟨m, fun _ => 0, g⟩ (fun r => (∀ c : Dev Cert.MlaDo.nD,
      r.2.mem ((c.tc : Thread Cert.MlaDo.nD Cert.MlaDo.τ).loc Cert.MlaDo.main_arg0) = m ((c.tc : Thread Cert.MlaDo.nD Cert.MlaDo.τ).loc Cert.MlaDo.main_arg0)
      ∧ r.2.mem ((c.tc : Thread Cert.MlaDo.nD Cert.MlaDo.τ).loc Cert.MlaDo.main_arg1) = m ((c.tc : Thread Cert.MlaDo.nD Cert.MlaDo.τ).loc Cert.MlaDo.main_arg1))
      ∧ r.2.sem = fun _ => 0)

def quiescent_MlaDoIdeal [hMlaDoIdeal : Cert.MlaDoIdeal.Facts] : Prop :=
  ∀ (m : (ℓ : Loc Cert.MlaDoIdeal.nD Cert.MlaDoIdeal.τ Cert.MlaDoIdeal.sig) → Buf (Elt Ideal) ℓ) (g : Dev Cert.MlaDoIdeal.nD → PrngReg), Pre_MlaDoIdeal m →
    θ_run (Cert.MlaDoIdeal.defs (F := Ideal)) (onTc (τ := Cert.MlaDoIdeal.τ) (Cert.MlaDoIdeal.main (F := Ideal))) ⟨m, fun _ => 0, g⟩ (fun r => (∀ c : Dev Cert.MlaDoIdeal.nD,
      r.2.mem ((c.tc : Thread Cert.MlaDoIdeal.nD Cert.MlaDoIdeal.τ).loc Cert.MlaDoIdeal.main_arg0) = m ((c.tc : Thread Cert.MlaDoIdeal.nD Cert.MlaDoIdeal.τ).loc Cert.MlaDoIdeal.main_arg0)
      ∧ r.2.mem ((c.tc : Thread Cert.MlaDoIdeal.nD Cert.MlaDoIdeal.τ).loc Cert.MlaDoIdeal.main_arg1) = m ((c.tc : Thread Cert.MlaDoIdeal.nD Cert.MlaDoIdeal.τ).loc Cert.MlaDoIdeal.main_arg1))
      ∧ r.2.sem = fun _ => 0)

def quiescent_MlaDoRefIdeal [hMlaDoRefIdeal : Cert.MlaDoRefIdeal.Facts] : Prop :=
  ∀ (m : (ℓ : Loc Cert.MlaDoRefIdeal.nD Cert.MlaDoRefIdeal.τ Cert.MlaDoRefIdeal.sig) → Buf (Elt Ideal) ℓ) (g : Dev Cert.MlaDoRefIdeal.nD → PrngReg), Pre_MlaDoRefIdeal m →
    θ_run (Cert.MlaDoRefIdeal.defs (F := Ideal)) (onTc (τ := Cert.MlaDoRefIdeal.τ) (Cert.MlaDoRefIdeal.main (F := Ideal))) ⟨m, fun _ => 0, g⟩ (fun r => (∀ c : Dev Cert.MlaDoRefIdeal.nD,
      r.2.mem ((c.tc : Thread Cert.MlaDoRefIdeal.nD Cert.MlaDoRefIdeal.τ).loc Cert.MlaDoRefIdeal.main_arg0) = m ((c.tc : Thread Cert.MlaDoRefIdeal.nD Cert.MlaDoRefIdeal.τ).loc Cert.MlaDoRefIdeal.main_arg0)
      ∧ r.2.mem ((c.tc : Thread Cert.MlaDoRefIdeal.nD Cert.MlaDoRefIdeal.τ).loc Cert.MlaDoRefIdeal.main_arg1) = m ((c.tc : Thread Cert.MlaDoRefIdeal.nD Cert.MlaDoRefIdeal.τ).loc Cert.MlaDoRefIdeal.main_arg1))
      ∧ r.2.sem = fun _ => 0)

def quiescent_MlaDwo [hMlaDwo : Cert.MlaDwo.Facts] : Prop :=
  ∀ (m : (ℓ : Loc Cert.MlaDwo.nD Cert.MlaDwo.τ Cert.MlaDwo.sig) → Buf (Elt Bits) ℓ) (g : Dev Cert.MlaDwo.nD → PrngReg), Pre_MlaDwo m →
    θ_run (Cert.MlaDwo.defs (F := Bits)) (onTc (τ := Cert.MlaDwo.τ) (Cert.MlaDwo.main (F := Bits))) ⟨m, fun _ => 0, g⟩ (fun r => (∀ c : Dev Cert.MlaDwo.nD,
      r.2.mem ((c.tc : Thread Cert.MlaDwo.nD Cert.MlaDwo.τ).loc Cert.MlaDwo.main_arg0) = m ((c.tc : Thread Cert.MlaDwo.nD Cert.MlaDwo.τ).loc Cert.MlaDwo.main_arg0)
      ∧ r.2.mem ((c.tc : Thread Cert.MlaDwo.nD Cert.MlaDwo.τ).loc Cert.MlaDwo.main_arg1) = m ((c.tc : Thread Cert.MlaDwo.nD Cert.MlaDwo.τ).loc Cert.MlaDwo.main_arg1))
      ∧ r.2.sem = fun _ => 0)

def quiescent_MlaDwoIdeal [hMlaDwoIdeal : Cert.MlaDwoIdeal.Facts] : Prop :=
  ∀ (m : (ℓ : Loc Cert.MlaDwoIdeal.nD Cert.MlaDwoIdeal.τ Cert.MlaDwoIdeal.sig) → Buf (Elt Ideal) ℓ) (g : Dev Cert.MlaDwoIdeal.nD → PrngReg), Pre_MlaDwoIdeal m →
    θ_run (Cert.MlaDwoIdeal.defs (F := Ideal)) (onTc (τ := Cert.MlaDwoIdeal.τ) (Cert.MlaDwoIdeal.main (F := Ideal))) ⟨m, fun _ => 0, g⟩ (fun r => (∀ c : Dev Cert.MlaDwoIdeal.nD,
      r.2.mem ((c.tc : Thread Cert.MlaDwoIdeal.nD Cert.MlaDwoIdeal.τ).loc Cert.MlaDwoIdeal.main_arg0) = m ((c.tc : Thread Cert.MlaDwoIdeal.nD Cert.MlaDwoIdeal.τ).loc Cert.MlaDwoIdeal.main_arg0)
      ∧ r.2.mem ((c.tc : Thread Cert.MlaDwoIdeal.nD Cert.MlaDwoIdeal.τ).loc Cert.MlaDwoIdeal.main_arg1) = m ((c.tc : Thread Cert.MlaDwoIdeal.nD Cert.MlaDwoIdeal.τ).loc Cert.MlaDwoIdeal.main_arg1))
      ∧ r.2.sem = fun _ => 0)

def quiescent_MlaDwoRefIdeal [hMlaDwoRefIdeal : Cert.MlaDwoRefIdeal.Facts] : Prop :=
  ∀ (m : (ℓ : Loc Cert.MlaDwoRefIdeal.nD Cert.MlaDwoRefIdeal.τ Cert.MlaDwoRefIdeal.sig) → Buf (Elt Ideal) ℓ) (g : Dev Cert.MlaDwoRefIdeal.nD → PrngReg), Pre_MlaDwoRefIdeal m →
    θ_run (Cert.MlaDwoRefIdeal.defs (F := Ideal)) (onTc (τ := Cert.MlaDwoRefIdeal.τ) (Cert.MlaDwoRefIdeal.main (F := Ideal))) ⟨m, fun _ => 0, g⟩ (fun r => (∀ c : Dev Cert.MlaDwoRefIdeal.nD,
      r.2.mem ((c.tc : Thread Cert.MlaDwoRefIdeal.nD Cert.MlaDwoRefIdeal.τ).loc Cert.MlaDwoRefIdeal.main_arg0) = m ((c.tc : Thread Cert.MlaDwoRefIdeal.nD Cert.MlaDwoRefIdeal.τ).loc Cert.MlaDwoRefIdeal.main_arg0)
      ∧ r.2.mem ((c.tc : Thread Cert.MlaDwoRefIdeal.nD Cert.MlaDwoRefIdeal.τ).loc Cert.MlaDwoRefIdeal.main_arg1) = m ((c.tc : Thread Cert.MlaDwoRefIdeal.nD Cert.MlaDwoRefIdeal.τ).loc Cert.MlaDwoRefIdeal.main_arg1))
      ∧ r.2.sem = fun _ => 0)

def quiescent_MlaDh [hMlaDh : Cert.MlaDh.Facts] : Prop :=
  ∀ (m : (ℓ : Loc Cert.MlaDh.nD Cert.MlaDh.τ Cert.MlaDh.sig) → Buf (Elt Bits) ℓ) (g : Dev Cert.MlaDh.nD → PrngReg), Pre_MlaDh m →
    θ_run (Cert.MlaDh.defs (F := Bits)) (onTc (τ := Cert.MlaDh.τ) (Cert.MlaDh.main (F := Bits))) ⟨m, fun _ => 0, g⟩ (fun r => (∀ c : Dev Cert.MlaDh.nD,
      r.2.mem ((c.tc : Thread Cert.MlaDh.nD Cert.MlaDh.τ).loc Cert.MlaDh.main_arg0) = m ((c.tc : Thread Cert.MlaDh.nD Cert.MlaDh.τ).loc Cert.MlaDh.main_arg0)
      ∧ r.2.mem ((c.tc : Thread Cert.MlaDh.nD Cert.MlaDh.τ).loc Cert.MlaDh.main_arg1) = m ((c.tc : Thread Cert.MlaDh.nD Cert.MlaDh.τ).loc Cert.MlaDh.main_arg1))
      ∧ r.2.sem = fun _ => 0)

def quiescent_MlaDhIdeal [hMlaDhIdeal : Cert.MlaDhIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg), Pre_MlaDhIdeal m →
    θ_run (Cert.MlaDhIdeal.defs (F := Ideal)) (onTc (τ := Cert.MlaDhIdeal.τ) (Cert.MlaDhIdeal.main (F := Ideal))) ⟨m, fun _ => 0, g⟩ (fun r => (∀ c : Dev Cert.MlaDhIdeal.nD,
      r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
      ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1))
      ∧ r.2.sem = fun _ => 0)

def quiescent_MlaDhRefIdeal [hMlaDhRefIdeal : Cert.MlaDhRefIdeal.Facts] : Prop :=
  ∀ (m : (ℓ : Loc Cert.MlaDhRefIdeal.nD Cert.MlaDhRefIdeal.τ Cert.MlaDhRefIdeal.sig) → Buf (Elt Ideal) ℓ) (g : Dev Cert.MlaDhRefIdeal.nD → PrngReg), Pre_MlaDhRefIdeal m →
    θ_run (Cert.MlaDhRefIdeal.defs (F := Ideal)) (onTc (τ := Cert.MlaDhRefIdeal.τ) (Cert.MlaDhRefIdeal.main (F := Ideal))) ⟨m, fun _ => 0, g⟩ (fun r => (∀ c : Dev Cert.MlaDhRefIdeal.nD,
      r.2.mem ((c.tc : Thread Cert.MlaDhRefIdeal.nD Cert.MlaDhRefIdeal.τ).loc Cert.MlaDhRefIdeal.main_arg0) = m ((c.tc : Thread Cert.MlaDhRefIdeal.nD Cert.MlaDhRefIdeal.τ).loc Cert.MlaDhRefIdeal.main_arg0)
      ∧ r.2.mem ((c.tc : Thread Cert.MlaDhRefIdeal.nD Cert.MlaDhRefIdeal.τ).loc Cert.MlaDhRefIdeal.main_arg1) = m ((c.tc : Thread Cert.MlaDhRefIdeal.nD Cert.MlaDhRefIdeal.τ).loc Cert.MlaDhRefIdeal.main_arg1))
      ∧ r.2.sem = fun _ => 0)

def quiescent_MlaDwin [hMlaDwin : Cert.MlaDwin.Facts] : Prop :=
  ∀ (m : (ℓ : Loc Cert.MlaDwin.nD Cert.MlaDwin.τ Cert.MlaDwin.sig) → Buf (Elt Bits) ℓ) (g : Dev Cert.MlaDwin.nD → PrngReg), Pre_MlaDwin m →
    θ_run (Cert.MlaDwin.defs (F := Bits)) (onTc (τ := Cert.MlaDwin.τ) (Cert.MlaDwin.main (F := Bits))) ⟨m, fun _ => 0, g⟩ (fun r => (∀ c : Dev Cert.MlaDwin.nD,
      r.2.mem ((c.tc : Thread Cert.MlaDwin.nD Cert.MlaDwin.τ).loc Cert.MlaDwin.main_arg0) = m ((c.tc : Thread Cert.MlaDwin.nD Cert.MlaDwin.τ).loc Cert.MlaDwin.main_arg0)
      ∧ r.2.mem ((c.tc : Thread Cert.MlaDwin.nD Cert.MlaDwin.τ).loc Cert.MlaDwin.main_arg1) = m ((c.tc : Thread Cert.MlaDwin.nD Cert.MlaDwin.τ).loc Cert.MlaDwin.main_arg1))
      ∧ r.2.sem = fun _ => 0)

def quiescent_MlaDwinIdeal [hMlaDwinIdeal : Cert.MlaDwinIdeal.Facts] : Prop :=
  ∀ (m : (ℓ : Loc Cert.MlaDwinIdeal.nD Cert.MlaDwinIdeal.τ Cert.MlaDwinIdeal.sig) → Buf (Elt Ideal) ℓ) (g : Dev Cert.MlaDwinIdeal.nD → PrngReg), Pre_MlaDwinIdeal m →
    θ_run (Cert.MlaDwinIdeal.defs (F := Ideal)) (onTc (τ := Cert.MlaDwinIdeal.τ) (Cert.MlaDwinIdeal.main (F := Ideal))) ⟨m, fun _ => 0, g⟩ (fun r => (∀ c : Dev Cert.MlaDwinIdeal.nD,
      r.2.mem ((c.tc : Thread Cert.MlaDwinIdeal.nD Cert.MlaDwinIdeal.τ).loc Cert.MlaDwinIdeal.main_arg0) = m ((c.tc : Thread Cert.MlaDwinIdeal.nD Cert.MlaDwinIdeal.τ).loc Cert.MlaDwinIdeal.main_arg0)
      ∧ r.2.mem ((c.tc : Thread Cert.MlaDwinIdeal.nD Cert.MlaDwinIdeal.τ).loc Cert.MlaDwinIdeal.main_arg1) = m ((c.tc : Thread Cert.MlaDwinIdeal.nD Cert.MlaDwinIdeal.τ).loc Cert.MlaDwinIdeal.main_arg1))
      ∧ r.2.sem = fun _ => 0)

def quiescent_MlaDwinRefIdeal [hMlaDwinRefIdeal : Cert.MlaDwinRefIdeal.Facts] : Prop :=
  ∀ (m : (ℓ : Loc Cert.MlaDwinRefIdeal.nD Cert.MlaDwinRefIdeal.τ Cert.MlaDwinRefIdeal.sig) → Buf (Elt Ideal) ℓ) (g : Dev Cert.MlaDwinRefIdeal.nD → PrngReg), Pre_MlaDwinRefIdeal m →
    θ_run (Cert.MlaDwinRefIdeal.defs (F := Ideal)) (onTc (τ := Cert.MlaDwinRefIdeal.τ) (Cert.MlaDwinRefIdeal.main (F := Ideal))) ⟨m, fun _ => 0, g⟩ (fun r => (∀ c : Dev Cert.MlaDwinRefIdeal.nD,
      r.2.mem ((c.tc : Thread Cert.MlaDwinRefIdeal.nD Cert.MlaDwinRefIdeal.τ).loc Cert.MlaDwinRefIdeal.main_arg0) = m ((c.tc : Thread Cert.MlaDwinRefIdeal.nD Cert.MlaDwinRefIdeal.τ).loc Cert.MlaDwinRefIdeal.main_arg0)
      ∧ r.2.mem ((c.tc : Thread Cert.MlaDwinRefIdeal.nD Cert.MlaDwinRefIdeal.τ).loc Cert.MlaDwinRefIdeal.main_arg1) = m ((c.tc : Thread Cert.MlaDwinRefIdeal.nD Cert.MlaDwinRefIdeal.τ).loc Cert.MlaDwinRefIdeal.main_arg1))
      ∧ r.2.sem = fun _ => 0)

def quiescent_MlaLat [hMlaLat : Cert.MlaLat.Facts] : Prop :=
  ∀ (m : (ℓ : Loc Cert.MlaLat.nD Cert.MlaLat.τ Cert.MlaLat.sig) → Buf (Elt Bits) ℓ) (g : Dev Cert.MlaLat.nD → PrngReg), Pre_MlaLat m →
    θ_run (Cert.MlaLat.defs (F := Bits)) (onTc (τ := Cert.MlaLat.τ) (Cert.MlaLat.main (F := Bits))) ⟨m, fun _ => 0, g⟩ (fun r => (∀ c : Dev Cert.MlaLat.nD,
      r.2.mem ((c.tc : Thread Cert.MlaLat.nD Cert.MlaLat.τ).loc Cert.MlaLat.main_arg0) = m ((c.tc : Thread Cert.MlaLat.nD Cert.MlaLat.τ).loc Cert.MlaLat.main_arg0)
      ∧ r.2.mem ((c.tc : Thread Cert.MlaLat.nD Cert.MlaLat.τ).loc Cert.MlaLat.main_arg1) = m ((c.tc : Thread Cert.MlaLat.nD Cert.MlaLat.τ).loc Cert.MlaLat.main_arg1))
      ∧ r.2.sem = fun _ => 0)

def quiescent_MlaLatIdeal [hMlaLatIdeal : Cert.MlaLatIdeal.Facts] : Prop :=
  ∀ (m : (ℓ : Loc Cert.MlaLatIdeal.nD Cert.MlaLatIdeal.τ Cert.MlaLatIdeal.sig) → Buf (Elt Ideal) ℓ) (g : Dev Cert.MlaLatIdeal.nD → PrngReg), Pre_MlaLatIdeal m →
    θ_run (Cert.MlaLatIdeal.defs (F := Ideal)) (onTc (τ := Cert.MlaLatIdeal.τ) (Cert.MlaLatIdeal.main (F := Ideal))) ⟨m, fun _ => 0, g⟩ (fun r => (∀ c : Dev Cert.MlaLatIdeal.nD,
      r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
      ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1))
      ∧ r.2.sem = fun _ => 0)

def quiescent_MlaLatRefIdeal [hMlaLatRefIdeal : Cert.MlaLatRefIdeal.Facts] : Prop :=
  ∀ (m : (ℓ : Loc Cert.MlaLatRefIdeal.nD Cert.MlaLatRefIdeal.τ Cert.MlaLatRefIdeal.sig) → Buf (Elt Ideal) ℓ) (g : Dev Cert.MlaLatRefIdeal.nD → PrngReg), Pre_MlaLatRefIdeal m →
    θ_run (Cert.MlaLatRefIdeal.defs (F := Ideal)) (onTc (τ := Cert.MlaLatRefIdeal.τ) (Cert.MlaLatRefIdeal.main (F := Ideal))) ⟨m, fun _ => 0, g⟩ (fun r => (∀ c : Dev Cert.MlaLatRefIdeal.nD,
      r.2.mem ((c.tc : Thread Cert.MlaLatRefIdeal.nD Cert.MlaLatRefIdeal.τ).loc Cert.MlaLatRefIdeal.main_arg0) = m ((c.tc : Thread Cert.MlaLatRefIdeal.nD Cert.MlaLatRefIdeal.τ).loc Cert.MlaLatRefIdeal.main_arg0)
      ∧ r.2.mem ((c.tc : Thread Cert.MlaLatRefIdeal.nD Cert.MlaLatRefIdeal.τ).loc Cert.MlaLatRefIdeal.main_arg1) = m ((c.tc : Thread Cert.MlaLatRefIdeal.nD Cert.MlaLatRefIdeal.τ).loc Cert.MlaLatRefIdeal.main_arg1))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1))
      ∧ r.2.sem = fun _ => 0)

def quiescent_MlaUv [hMlaUv : Cert.MlaUv.Facts] : Prop :=
  ∀ (m : (ℓ : Loc Cert.MlaUv.nD Cert.MlaUv.τ Cert.MlaUv.sig) → Buf (Elt Bits) ℓ) (g : Dev Cert.MlaUv.nD → PrngReg), Pre_MlaUv m →
    θ_run (Cert.MlaUv.defs (F := Bits)) (onTc (τ := Cert.MlaUv.τ) (Cert.MlaUv.main (F := Bits))) ⟨m, fun _ => 0, g⟩ (fun r => (∀ c : Dev Cert.MlaUv.nD,
      r.2.mem ((c.tc : Thread Cert.MlaUv.nD Cert.MlaUv.τ).loc Cert.MlaUv.main_arg0) = m ((c.tc : Thread Cert.MlaUv.nD Cert.MlaUv.τ).loc Cert.MlaUv.main_arg0)
      ∧ r.2.mem ((c.tc : Thread Cert.MlaUv.nD Cert.MlaUv.τ).loc Cert.MlaUv.main_arg1) = m ((c.tc : Thread Cert.MlaUv.nD Cert.MlaUv.τ).loc Cert.MlaUv.main_arg1))
      ∧ r.2.sem = fun _ => 0)

def quiescent_MlaUvIdeal [hMlaUvIdeal : Cert.MlaUvIdeal.Facts] : Prop :=
  ∀ (m : (ℓ : Loc Cert.MlaUvIdeal.nD Cert.MlaUvIdeal.τ Cert.MlaUvIdeal.sig) → Buf (Elt Ideal) ℓ) (g : Dev Cert.MlaUvIdeal.nD → PrngReg), Pre_MlaUvIdeal m →
    θ_run (Cert.MlaUvIdeal.defs (F := Ideal)) (onTc (τ := Cert.MlaUvIdeal.τ) (Cert.MlaUvIdeal.main (F := Ideal))) ⟨m, fun _ => 0, g⟩ (fun r => (∀ c : Dev Cert.MlaUvIdeal.nD,
      r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
      ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1))
      ∧ r.2.sem = fun _ => 0)

def quiescent_MlaUvRefIdeal [hMlaUvRefIdeal : Cert.MlaUvRefIdeal.Facts] : Prop :=
  ∀ (m : (ℓ : Loc Cert.MlaUvRefIdeal.nD Cert.MlaUvRefIdeal.τ Cert.MlaUvRefIdeal.sig) → Buf (Elt Ideal) ℓ) (g : Dev Cert.MlaUvRefIdeal.nD → PrngReg), Pre_MlaUvRefIdeal m →
    θ_run (Cert.MlaUvRefIdeal.defs (F := Ideal)) (onTc (τ := Cert.MlaUvRefIdeal.τ) (Cert.MlaUvRefIdeal.main (F := Ideal))) ⟨m, fun _ => 0, g⟩ (fun r => (∀ c : Dev Cert.MlaUvRefIdeal.nD,
      r.2.mem ((c.tc : Thread Cert.MlaUvRefIdeal.nD Cert.MlaUvRefIdeal.τ).loc Cert.MlaUvRefIdeal.main_arg0) = m ((c.tc : Thread Cert.MlaUvRefIdeal.nD Cert.MlaUvRefIdeal.τ).loc Cert.MlaUvRefIdeal.main_arg0)
      ∧ r.2.mem ((c.tc : Thread Cert.MlaUvRefIdeal.nD Cert.MlaUvRefIdeal.τ).loc Cert.MlaUvRefIdeal.main_arg1) = m ((c.tc : Thread Cert.MlaUvRefIdeal.nD Cert.MlaUvRefIdeal.τ).loc Cert.MlaUvRefIdeal.main_arg1))
      ∧ r.2.sem = fun _ => 0)

def quiescent_PoolProj [hPoolProj : Cert.PoolProj.Facts] : Prop :=
  ∀ (m : (ℓ : Loc Cert.PoolProj.nD Cert.PoolProj.τ Cert.PoolProj.sig) → Buf (Elt Bits) ℓ) (g : Dev Cert.PoolProj.nD → PrngReg), Pre_PoolProj m →
    θ_run (Cert.PoolProj.defs (F := Bits)) (onTc (τ := Cert.PoolProj.τ) (Cert.PoolProj.main (F := Bits))) ⟨m, fun _ => 0, g⟩ (fun r => (∀ c : Dev Cert.PoolProj.nD,
      r.2.mem ((c.tc : Thread Cert.PoolProj.nD Cert.PoolProj.τ).loc Cert.PoolProj.main_arg0) = m ((c.tc : Thread Cert.PoolProj.nD Cert.PoolProj.τ).loc Cert.PoolProj.main_arg0)
      ∧ r.2.mem ((c.tc : Thread Cert.PoolProj.nD Cert.PoolProj.τ).loc Cert.PoolProj.main_arg1) = m ((c.tc : Thread Cert.PoolProj.nD Cert.PoolProj.τ).loc Cert.PoolProj.main_arg1)
      ∧ r.2.mem ((c.tc : Thread Cert.PoolProj.nD Cert.PoolProj.τ).loc Cert.PoolProj.main_arg2) = m ((c.tc : Thread Cert.PoolProj.nD Cert.PoolProj.τ).loc Cert.PoolProj.main_arg2))
      ∧ r.2.sem = fun _ => 0)

def quiescent_PoolProjIdeal [hPoolProjIdeal : Cert.PoolProjIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg), Pre_PoolProjIdeal m →
    θ_run (Cert.PoolProjIdeal.defs (F := Ideal)) (onTc (τ := Cert.PoolProjIdeal.τ) (Cert.PoolProjIdeal.main (F := Ideal))) ⟨m, fun _ => 0, g⟩ (fun r => (∀ c : Dev Cert.PoolProjIdeal.nD,
      r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
      ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
      ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2))
      ∧ r.2.sem = fun _ => 0)

def quiescent_PoolProjRefIdeal [hPoolProjRefIdeal : Cert.PoolProjRefIdeal.Facts] : Prop :=
  ∀ (m : (ℓ : Loc Cert.PoolProjRefIdeal.nD Cert.PoolProjRefIdeal.τ Cert.PoolProjRefIdeal.sig) → Buf (Elt Ideal) ℓ) (g : Dev Cert.PoolProjRefIdeal.nD → PrngReg), Pre_PoolProjRefIdeal m →
    θ_run (Cert.PoolProjRefIdeal.defs (F := Ideal)) (onTc (τ := Cert.PoolProjRefIdeal.τ) (Cert.PoolProjRefIdeal.main (F := Ideal))) ⟨m, fun _ => 0, g⟩ (fun r => (∀ c : Dev Cert.PoolProjRefIdeal.nD,
      r.2.mem ((c.tc : Thread Cert.PoolProjRefIdeal.nD Cert.PoolProjRefIdeal.τ).loc Cert.PoolProjRefIdeal.main_arg0) = m ((c.tc : Thread Cert.PoolProjRefIdeal.nD Cert.PoolProjRefIdeal.τ).loc Cert.PoolProjRefIdeal.main_arg0)
      ∧ r.2.mem ((c.tc : Thread Cert.PoolProjRefIdeal.nD Cert.PoolProjRefIdeal.τ).loc Cert.PoolProjRefIdeal.main_arg1) = m ((c.tc : Thread Cert.PoolProjRefIdeal.nD Cert.PoolProjRefIdeal.τ).loc Cert.PoolProjRefIdeal.main_arg1)
      ∧ r.2.mem ((c.tc : Thread Cert.PoolProjRefIdeal.nD Cert.PoolProjRefIdeal.τ).loc Cert.PoolProjRefIdeal.main_arg2) = m ((c.tc : Thread Cert.PoolProjRefIdeal.nD Cert.PoolProjRefIdeal.τ).loc Cert.PoolProjRefIdeal.main_arg2))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def quiescent_PoolDz [hPoolDz : Cert.PoolDz.Facts] : Prop :=
  ∀ (m : (ℓ : Loc Cert.PoolDz.nD Cert.PoolDz.τ Cert.PoolDz.sig) → Buf (Elt Bits) ℓ) (g : Dev Cert.PoolDz.nD → PrngReg), Pre_PoolDz m →
    θ_run (Cert.PoolDz.defs (F := Bits)) (onTc (τ := Cert.PoolDz.τ) (Cert.PoolDz.main (F := Bits))) ⟨m, fun _ => 0, g⟩ (fun r => (∀ c : Dev Cert.PoolDz.nD,
      r.2.mem ((c.tc : Thread Cert.PoolDz.nD Cert.PoolDz.τ).loc Cert.PoolDz.main_arg0) = m ((c.tc : Thread Cert.PoolDz.nD Cert.PoolDz.τ).loc Cert.PoolDz.main_arg0)
      ∧ r.2.mem ((c.tc : Thread Cert.PoolDz.nD Cert.PoolDz.τ).loc Cert.PoolDz.main_arg1) = m ((c.tc : Thread Cert.PoolDz.nD Cert.PoolDz.τ).loc Cert.PoolDz.main_arg1))
      ∧ r.2.sem = fun _ => 0)

def quiescent_PoolDzIdeal [hPoolDzIdeal : Cert.PoolDzIdeal.Facts] : Prop :=
  ∀ (m : (ℓ : Loc Cert.PoolDzIdeal.nD Cert.PoolDzIdeal.τ Cert.PoolDzIdeal.sig) → Buf (Elt Ideal) ℓ) (g : Dev Cert.PoolDzIdeal.nD → PrngReg), Pre_PoolDzIdeal m →
    θ_run (Cert.PoolDzIdeal.defs (F := Ideal)) (onTc (τ := Cert.PoolDzIdeal.τ) (Cert.PoolDzIdeal.main (F := Ideal))) ⟨m, fun _ => 0, g⟩ (fun r => (∀ c : Dev Cert.PoolDzIdeal.nD,
      r.2.mem ((c.tc : Thread Cert.PoolDzIdeal.nD Cert.PoolDzIdeal.τ).loc Cert.PoolDzIdeal.main_arg0) = m ((c.tc : Thread Cert.PoolDzIdeal.nD Cert.PoolDzIdeal.τ).loc Cert.PoolDzIdeal.main_arg0)
      ∧ r.2.mem ((c.tc : Thread Cert.PoolDzIdeal.nD Cert.PoolDzIdeal.τ).loc Cert.PoolDzIdeal.main_arg1) = m ((c.tc : Thread Cert.PoolDzIdeal.nD Cert.PoolDzIdeal.τ).loc Cert.PoolDzIdeal.main_arg1))
      ∧ r.2.sem = fun _ => 0)

def quiescent_PoolDzRefIdeal [hPoolDzRefIdeal : Cert.PoolDzRefIdeal.Facts] : Prop :=
  ∀ (m : (ℓ : Loc Cert.PoolDzRefIdeal.nD Cert.PoolDzRefIdeal.τ Cert.PoolDzRefIdeal.sig) → Buf (Elt Ideal) ℓ) (g : Dev Cert.PoolDzRefIdeal.nD → PrngReg), Pre_PoolDzRefIdeal m →
    θ_run (Cert.PoolDzRefIdeal.defs (F := Ideal)) (onTc (τ := Cert.PoolDzRefIdeal.τ) (Cert.PoolDzRefIdeal.main (F := Ideal))) ⟨m, fun _ => 0, g⟩ (fun r => (∀ c : Dev Cert.PoolDzRefIdeal.nD,
      r.2.mem ((c.tc : Thread Cert.PoolDzRefIdeal.nD Cert.PoolDzRefIdeal.τ).loc Cert.PoolDzRefIdeal.main_arg0) = m ((c.tc : Thread Cert.PoolDzRefIdeal.nD Cert.PoolDzRefIdeal.τ).loc Cert.PoolDzRefIdeal.main_arg0)
      ∧ r.2.mem ((c.tc : Thread Cert.PoolDzRefIdeal.nD Cert.PoolDzRefIdeal.τ).loc Cert.PoolDzRefIdeal.main_arg1) = m ((c.tc : Thread Cert.PoolDzRefIdeal.nD Cert.PoolDzRefIdeal.τ).loc Cert.PoolDzRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2))
      ∧ r.2.sem = fun _ => 0)

def quiescent_NormLink [hNormLink : Cert.NormLink.Facts] : Prop :=
  ∀ (m : (ℓ : Loc Cert.NormLink.nD Cert.NormLink.τ Cert.NormLink.sig) → Buf (Elt Bits) ℓ) (g : Dev Cert.NormLink.nD → PrngReg), Pre_NormLink m →
    θ_run (Cert.NormLink.defs (F := Bits)) (onTc (τ := Cert.NormLink.τ) (Cert.NormLink.main (F := Bits))) ⟨m, fun _ => 0, g⟩ (fun r => (∀ c : Dev Cert.NormLink.nD,
      r.2.mem ((c.tc : Thread Cert.NormLink.nD Cert.NormLink.τ).loc Cert.NormLink.main_arg0) = m ((c.tc : Thread Cert.NormLink.nD Cert.NormLink.τ).loc Cert.NormLink.main_arg0)
      ∧ r.2.mem ((c.tc : Thread Cert.NormLink.nD Cert.NormLink.τ).loc Cert.NormLink.main_arg1) = m ((c.tc : Thread Cert.NormLink.nD Cert.NormLink.τ).loc Cert.NormLink.main_arg1)
      ∧ r.2.mem ((c.tc : Thread Cert.NormLink.nD Cert.NormLink.τ).loc Cert.NormLink.main_arg2) = m ((c.tc : Thread Cert.NormLink.nD Cert.NormLink.τ).loc Cert.NormLink.main_arg2)
      ∧ r.2.mem ((c.tc : Thread Cert.NormLink.nD Cert.NormLink.τ).loc Cert.NormLink.main_arg3) = m ((c.tc : Thread Cert.NormLink.nD Cert.NormLink.τ).loc Cert.NormLink.main_arg3))
      ∧ r.2.sem = fun _ => 0)

def quiescent_NormLinkIdeal [hNormLinkIdeal : Cert.NormLinkIdeal.Facts] : Prop :=
  ∀ (m : (ℓ : Loc Cert.NormLinkIdeal.nD Cert.NormLinkIdeal.τ Cert.NormLinkIdeal.sig) → Buf (Elt Ideal) ℓ) (g : Dev Cert.NormLinkIdeal.nD → PrngReg), Pre_NormLinkIdeal m →
    θ_run (Cert.NormLinkIdeal.defs (F := Ideal)) (onTc (τ := Cert.NormLinkIdeal.τ) (Cert.NormLinkIdeal.main (F := Ideal))) ⟨m, fun _ => 0, g⟩ (fun r => (∀ c : Dev Cert.NormLinkIdeal.nD,
      r.2.mem ((c.tc : Thread Cert.NormLinkIdeal.nD Cert.NormLinkIdeal.τ).loc Cert.NormLinkIdeal.main_arg0) = m ((c.tc : Thread Cert.NormLinkIdeal.nD Cert.NormLinkIdeal.τ).loc Cert.NormLinkIdeal.main_arg0)
      ∧ r.2.mem ((c.tc : Thread Cert.NormLinkIdeal.nD Cert.NormLinkIdeal.τ).loc Cert.NormLinkIdeal.main_arg1) = m ((c.tc : Thread Cert.NormLinkIdeal.nD Cert.NormLinkIdeal.τ).loc Cert.NormLinkIdeal.main_arg1)
      ∧ r.2.mem ((c.tc : Thread Cert.NormLinkIdeal.nD Cert.NormLinkIdeal.τ).loc Cert.NormLinkIdeal.main_arg2) = m ((c.tc : Thread Cert.NormLinkIdeal.nD Cert.NormLinkIdeal.τ).loc Cert.NormLinkIdeal.main_arg2)
      ∧ r.2.mem ((c.tc : Thread Cert.NormLinkIdeal.nD Cert.NormLinkIdeal.τ).loc Cert.NormLinkIdeal.main_arg3) = m ((c.tc : Thread Cert.NormLinkIdeal.nD Cert.NormLinkIdeal.τ).loc Cert.NormLinkIdeal.main_arg3))
      ∧ r.2.sem = fun _ => 0)

def quiescent_NormLinkRefIdeal [hNormLinkRefIdeal : Cert.NormLinkRefIdeal.Facts] : Prop :=
  ∀ (m : (ℓ : Loc Cert.NormLinkRefIdeal.nD Cert.NormLinkRefIdeal.τ Cert.NormLinkRefIdeal.sig) → Buf (Elt Ideal) ℓ) (g : Dev Cert.NormLinkRefIdeal.nD → PrngReg), Pre_NormLinkRefIdeal m →
    θ_run (Cert.NormLinkRefIdeal.defs (F := Ideal)) (onTc (τ := Cert.NormLinkRefIdeal.τ) (Cert.NormLinkRefIdeal.main (F := Ideal))) ⟨m, fun _ => 0, g⟩ (fun r => (∀ c : Dev Cert.NormLinkRefIdeal.nD,
      r.2.mem ((c.tc : Thread Cert.NormLinkRefIdeal.nD Cert.NormLinkRefIdeal.τ).loc Cert.NormLinkRefIdeal.main_arg0) = m ((c.tc : Thread Cert.NormLinkRefIdeal.nD Cert.NormLinkRefIdeal.τ).loc Cert.NormLinkRefIdeal.main_arg0)
      ∧ r.2.mem ((c.tc : Thread Cert.NormLinkRefIdeal.nD Cert.NormLinkRefIdeal.τ).loc Cert.NormLinkRefIdeal.main_arg1) = m ((c.tc : Thread Cert.NormLinkRefIdeal.nD Cert.NormLinkRefIdeal.τ).loc Cert.NormLinkRefIdeal.main_arg1)
      ∧ r.2.mem ((c.tc : Thread Cert.NormLinkRefIdeal.nD Cert.NormLinkRefIdeal.τ).loc Cert.NormLinkRefIdeal.main_arg2) = m ((c.tc : Thread Cert.NormLinkRefIdeal.nD Cert.NormLinkRefIdeal.τ).loc Cert.NormLinkRefIdeal.main_arg2)
      ∧ r.2.mem ((c.tc : Thread Cert.NormLinkRefIdeal.nD Cert.NormLinkRefIdeal.τ).loc Cert.NormLinkRefIdeal.main_arg3) = m ((c.tc : Thread Cert.NormLinkRefIdeal.nD Cert.NormLinkRefIdeal.τ).loc Cert.NormLinkRefIdeal.main_arg3))
      ∧ r.2.sem = fun _ => 0)

def quiescent_PreNormBwd [hPreNormBwd : Cert.PreNormBwd.Facts] : Prop :=
  ∀ (m : (ℓ : Loc Cert.PreNormBwd.nD Cert.PreNormBwd.τ Cert.PreNormBwd.sig) → Buf (Elt Bits) ℓ) (g : Dev Cert.PreNormBwd.nD → PrngReg), Pre_PreNormBwd m →
    θ_run (Cert.PreNormBwd.defs (F := Bits)) (onTc (τ := Cert.PreNormBwd.τ) (Cert.PreNormBwd.main (F := Bits))) ⟨m, fun _ => 0, g⟩ (fun r => (∀ c : Dev Cert.PreNormBwd.nD,
      r.2.mem ((c.tc : Thread Cert.PreNormBwd.nD Cert.PreNormBwd.τ).loc Cert.PreNormBwd.main_arg0) = m ((c.tc : Thread Cert.PreNormBwd.nD Cert.PreNormBwd.τ).loc Cert.PreNormBwd.main_arg0)
      ∧ r.2.mem ((c.tc : Thread Cert.PreNormBwd.nD Cert.PreNormBwd.τ).loc Cert.PreNormBwd.main_arg1) = m ((c.tc : Thread Cert.PreNormBwd.nD Cert.PreNormBwd.τ).loc Cert.PreNormBwd.main_arg1)
      ∧ r.2.mem ((c.tc : Thread Cert.PreNormBwd.nD Cert.PreNormBwd.τ).loc Cert.PreNormBwd.main_arg2) = m ((c.tc : Thread Cert.PreNormBwd.nD Cert.PreNormBwd.τ).loc Cert.PreNormBwd.main_arg2)
      ∧ r.2.mem ((c.tc : Thread Cert.PreNormBwd.nD Cert.PreNormBwd.τ).loc Cert.PreNormBwd.main_arg3) = m ((c.tc : Thread Cert.PreNormBwd.nD Cert.PreNormBwd.τ).loc Cert.PreNormBwd.main_arg3)
      ∧ r.2.mem ((c.tc : Thread Cert.PreNormBwd.nD Cert.PreNormBwd.τ).loc Cert.PreNormBwd.main_arg4) = m ((c.tc : Thread Cert.PreNormBwd.nD Cert.PreNormBwd.τ).loc Cert.PreNormBwd.main_arg4))
      ∧ r.2.sem = fun _ => 0)

def quiescent_PreNormBwdIdeal [hPreNormBwdIdeal : Cert.PreNormBwdIdeal.Facts] : Prop :=
  ∀ (m : (ℓ : Loc Cert.PreNormBwdIdeal.nD Cert.PreNormBwdIdeal.τ Cert.PreNormBwdIdeal.sig) → Buf (Elt Ideal) ℓ) (g : Dev Cert.PreNormBwdIdeal.nD → PrngReg), Pre_PreNormBwdIdeal m →
    θ_run (Cert.PreNormBwdIdeal.defs (F := Ideal)) (onTc (τ := Cert.PreNormBwdIdeal.τ) (Cert.PreNormBwdIdeal.main (F := Ideal))) ⟨m, fun _ => 0, g⟩ (fun r => (∀ c : Dev Cert.PreNormBwdIdeal.nD,
      r.2.mem ((c.tc : Thread Cert.PreNormBwdIdeal.nD Cert.PreNormBwdIdeal.τ).loc Cert.PreNormBwdIdeal.main_arg0) = m ((c.tc : Thread Cert.PreNormBwdIdeal.nD Cert.PreNormBwdIdeal.τ).loc Cert.PreNormBwdIdeal.main_arg0)
      ∧ r.2.mem ((c.tc : Thread Cert.PreNormBwdIdeal.nD Cert.PreNormBwdIdeal.τ).loc Cert.PreNormBwdIdeal.main_arg1) = m ((c.tc : Thread Cert.PreNormBwdIdeal.nD Cert.PreNormBwdIdeal.τ).loc Cert.PreNormBwdIdeal.main_arg1)
      ∧ r.2.mem ((c.tc : Thread Cert.PreNormBwdIdeal.nD Cert.PreNormBwdIdeal.τ).loc Cert.PreNormBwdIdeal.main_arg2) = m ((c.tc : Thread Cert.PreNormBwdIdeal.nD Cert.PreNormBwdIdeal.τ).loc Cert.PreNormBwdIdeal.main_arg2)
      ∧ r.2.mem ((c.tc : Thread Cert.PreNormBwdIdeal.nD Cert.PreNormBwdIdeal.τ).loc Cert.PreNormBwdIdeal.main_arg3) = m ((c.tc : Thread Cert.PreNormBwdIdeal.nD Cert.PreNormBwdIdeal.τ).loc Cert.PreNormBwdIdeal.main_arg3)
      ∧ r.2.mem ((c.tc : Thread Cert.PreNormBwdIdeal.nD Cert.PreNormBwdIdeal.τ).loc Cert.PreNormBwdIdeal.main_arg4) = m ((c.tc : Thread Cert.PreNormBwdIdeal.nD Cert.PreNormBwdIdeal.τ).loc Cert.PreNormBwdIdeal.main_arg4))
      ∧ r.2.sem = fun _ => 0)

def quiescent_PreNormBwdRefIdeal [hPreNormBwdRefIdeal : Cert.PreNormBwdRefIdeal.Facts] : Prop :=
  ∀ (m : (ℓ : Loc Cert.PreNormBwdRefIdeal.nD Cert.PreNormBwdRefIdeal.τ Cert.PreNormBwdRefIdeal.sig) → Buf (Elt Ideal) ℓ) (g : Dev Cert.PreNormBwdRefIdeal.nD → PrngReg), Pre_PreNormBwdRefIdeal m →
    θ_run (Cert.PreNormBwdRefIdeal.defs (F := Ideal)) (onTc (τ := Cert.PreNormBwdRefIdeal.τ) (Cert.PreNormBwdRefIdeal.main (F := Ideal))) ⟨m, fun _ => 0, g⟩ (fun r => (∀ c : Dev Cert.PreNormBwdRefIdeal.nD,
      r.2.mem ((c.tc : Thread Cert.PreNormBwdRefIdeal.nD Cert.PreNormBwdRefIdeal.τ).loc Cert.PreNormBwdRefIdeal.main_arg0) = m ((c.tc : Thread Cert.PreNormBwdRefIdeal.nD Cert.PreNormBwdRefIdeal.τ).loc Cert.PreNormBwdRefIdeal.main_arg0)
      ∧ r.2.mem ((c.tc : Thread Cert.PreNormBwdRefIdeal.nD Cert.PreNormBwdRefIdeal.τ).loc Cert.PreNormBwdRefIdeal.main_arg1) = m ((c.tc : Thread Cert.PreNormBwdRefIdeal.nD Cert.PreNormBwdRefIdeal.τ).loc Cert.PreNormBwdRefIdeal.main_arg1)
      ∧ r.2.mem ((c.tc : Thread Cert.PreNormBwdRefIdeal.nD Cert.PreNormBwdRefIdeal.τ).loc Cert.PreNormBwdRefIdeal.main_arg2) = m ((c.tc : Thread Cert.PreNormBwdRefIdeal.nD Cert.PreNormBwdRefIdeal.τ).loc Cert.PreNormBwdRefIdeal.main_arg2)
      ∧ r.2.mem ((c.tc : Thread Cert.PreNormBwdRefIdeal.nD Cert.PreNormBwdRefIdeal.τ).loc Cert.PreNormBwdRefIdeal.main_arg3) = m ((c.tc : Thread Cert.PreNormBwdRefIdeal.nD Cert.PreNormBwdRefIdeal.τ).loc Cert.PreNormBwdRefIdeal.main_arg3)
      ∧ r.2.mem ((c.tc : Thread Cert.PreNormBwdRefIdeal.nD Cert.PreNormBwdRefIdeal.τ).loc Cert.PreNormBwdRefIdeal.main_arg4) = m ((c.tc : Thread Cert.PreNormBwdRefIdeal.nD Cert.PreNormBwdRefIdeal.τ).loc Cert.PreNormBwdRefIdeal.main_arg4))
      ∧ r.2.sem = fun _ => 0)

def quiescent_NormLinkBwd [hNormLinkBwd : Cert.NormLinkBwd.Facts] : Prop :=
  ∀ (m : (ℓ : Loc Cert.NormLinkBwd.nD Cert.NormLinkBwd.τ Cert.NormLinkBwd.sig) → Buf (Elt Bits) ℓ) (g : Dev Cert.NormLinkBwd.nD → PrngReg), Pre_NormLinkBwd m →
    θ_run (Cert.NormLinkBwd.defs (F := Bits)) (onTc (τ := Cert.NormLinkBwd.τ) (Cert.NormLinkBwd.main (F := Bits))) ⟨m, fun _ => 0, g⟩ (fun r => (∀ c : Dev Cert.NormLinkBwd.nD,
      r.2.mem ((c.tc : Thread Cert.NormLinkBwd.nD Cert.NormLinkBwd.τ).loc Cert.NormLinkBwd.main_arg0) = m ((c.tc : Thread Cert.NormLinkBwd.nD Cert.NormLinkBwd.τ).loc Cert.NormLinkBwd.main_arg0)
      ∧ r.2.mem ((c.tc : Thread Cert.NormLinkBwd.nD Cert.NormLinkBwd.τ).loc Cert.NormLinkBwd.main_arg1) = m ((c.tc : Thread Cert.NormLinkBwd.nD Cert.NormLinkBwd.τ).loc Cert.NormLinkBwd.main_arg1)
      ∧ r.2.mem ((c.tc : Thread Cert.NormLinkBwd.nD Cert.NormLinkBwd.τ).loc Cert.NormLinkBwd.main_arg2) = m ((c.tc : Thread Cert.NormLinkBwd.nD Cert.NormLinkBwd.τ).loc Cert.NormLinkBwd.main_arg2)
      ∧ r.2.mem ((c.tc : Thread Cert.NormLinkBwd.nD Cert.NormLinkBwd.τ).loc Cert.NormLinkBwd.main_arg3) = m ((c.tc : Thread Cert.NormLinkBwd.nD Cert.NormLinkBwd.τ).loc Cert.NormLinkBwd.main_arg3)
      ∧ r.2.mem ((c.tc : Thread Cert.NormLinkBwd.nD Cert.NormLinkBwd.τ).loc Cert.NormLinkBwd.main_arg4) = m ((c.tc : Thread Cert.NormLinkBwd.nD Cert.NormLinkBwd.τ).loc Cert.NormLinkBwd.main_arg4)
      ∧ r.2.mem ((c.tc : Thread Cert.NormLinkBwd.nD Cert.NormLinkBwd.τ).loc Cert.NormLinkBwd.main_arg5) = m ((c.tc : Thread Cert.NormLinkBwd.nD Cert.NormLinkBwd.τ).loc Cert.NormLinkBwd.main_arg5))
      ∧ r.2.sem = fun _ => 0)

def quiescent_NormLinkBwdIdeal [hNormLinkBwdIdeal : Cert.NormLinkBwdIdeal.Facts] : Prop :=
  ∀ (m : (ℓ : Loc Cert.NormLinkBwdIdeal.nD Cert.NormLinkBwdIdeal.τ Cert.NormLinkBwdIdeal.sig) → Buf (Elt Ideal) ℓ) (g : Dev Cert.NormLinkBwdIdeal.nD → PrngReg), Pre_NormLinkBwdIdeal m →
    θ_run (Cert.NormLinkBwdIdeal.defs (F := Ideal)) (onTc (τ := Cert.NormLinkBwdIdeal.τ) (Cert.NormLinkBwdIdeal.main (F := Ideal))) ⟨m, fun _ => 0, g⟩ (fun r => (∀ c : Dev Cert.NormLinkBwdIdeal.nD,
      r.2.mem ((c.tc : Thread Cert.NormLinkBwdIdeal.nD Cert.NormLinkBwdIdeal.τ).loc Cert.NormLinkBwdIdeal.main_arg0) = m ((c.tc : Thread Cert.NormLinkBwdIdeal.nD Cert.NormLinkBwdIdeal.τ).loc Cert.NormLinkBwdIdeal.main_arg0)
      ∧ r.2.mem ((c.tc : Thread Cert.NormLinkBwdIdeal.nD Cert.NormLinkBwdIdeal.τ).loc Cert.NormLinkBwdIdeal.main_arg1) = m ((c.tc : Thread Cert.NormLinkBwdIdeal.nD Cert.NormLinkBwdIdeal.τ).loc Cert.NormLinkBwdIdeal.main_arg1)
      ∧ r.2.mem ((c.tc : Thread Cert.NormLinkBwdIdeal.nD Cert.NormLinkBwdIdeal.τ).loc Cert.NormLinkBwdIdeal.main_arg2) = m ((c.tc : Thread Cert.NormLinkBwdIdeal.nD Cert.NormLinkBwdIdeal.τ).loc Cert.NormLinkBwdIdeal.main_arg2)
      ∧ r.2.mem ((c.tc : Thread Cert.NormLinkBwdIdeal.nD Cert.NormLinkBwdIdeal.τ).loc Cert.NormLinkBwdIdeal.main_arg3) = m ((c.tc : Thread Cert.NormLinkBwdIdeal.nD Cert.NormLinkBwdIdeal.τ).loc Cert.NormLinkBwdIdeal.main_arg3)
      ∧ r.2.mem ((c.tc : Thread Cert.NormLinkBwdIdeal.nD Cert.NormLinkBwdIdeal.τ).loc Cert.NormLinkBwdIdeal.main_arg4) = m ((c.tc : Thread Cert.NormLinkBwdIdeal.nD Cert.NormLinkBwdIdeal.τ).loc Cert.NormLinkBwdIdeal.main_arg4)
      ∧ r.2.mem ((c.tc : Thread Cert.NormLinkBwdIdeal.nD Cert.NormLinkBwdIdeal.τ).loc Cert.NormLinkBwdIdeal.main_arg5) = m ((c.tc : Thread Cert.NormLinkBwdIdeal.nD Cert.NormLinkBwdIdeal.τ).loc Cert.NormLinkBwdIdeal.main_arg5))
      ∧ r.2.sem = fun _ => 0)

def quiescent_NormLinkBwdRefIdeal [hNormLinkBwdRefIdeal : Cert.NormLinkBwdRefIdeal.Facts] : Prop :=
  ∀ (m : (ℓ : Loc Cert.NormLinkBwdRefIdeal.nD Cert.NormLinkBwdRefIdeal.τ Cert.NormLinkBwdRefIdeal.sig) → Buf (Elt Ideal) ℓ) (g : Dev Cert.NormLinkBwdRefIdeal.nD → PrngReg), Pre_NormLinkBwdRefIdeal m →
    θ_run (Cert.NormLinkBwdRefIdeal.defs (F := Ideal)) (onTc (τ := Cert.NormLinkBwdRefIdeal.τ) (Cert.NormLinkBwdRefIdeal.main (F := Ideal))) ⟨m, fun _ => 0, g⟩ (fun r => (∀ c : Dev Cert.NormLinkBwdRefIdeal.nD,
      r.2.mem ((c.tc : Thread Cert.NormLinkBwdRefIdeal.nD Cert.NormLinkBwdRefIdeal.τ).loc Cert.NormLinkBwdRefIdeal.main_arg0) = m ((c.tc : Thread Cert.NormLinkBwdRefIdeal.nD Cert.NormLinkBwdRefIdeal.τ).loc Cert.NormLinkBwdRefIdeal.main_arg0)
      ∧ r.2.mem ((c.tc : Thread Cert.NormLinkBwdRefIdeal.nD Cert.NormLinkBwdRefIdeal.τ).loc Cert.NormLinkBwdRefIdeal.main_arg1) = m ((c.tc : Thread Cert.NormLinkBwdRefIdeal.nD Cert.NormLinkBwdRefIdeal.τ).loc Cert.NormLinkBwdRefIdeal.main_arg1)
      ∧ r.2.mem ((c.tc : Thread Cert.NormLinkBwdRefIdeal.nD Cert.NormLinkBwdRefIdeal.τ).loc Cert.NormLinkBwdRefIdeal.main_arg2) = m ((c.tc : Thread Cert.NormLinkBwdRefIdeal.nD Cert.NormLinkBwdRefIdeal.τ).loc Cert.NormLinkBwdRefIdeal.main_arg2)
      ∧ r.2.mem ((c.tc : Thread Cert.NormLinkBwdRefIdeal.nD Cert.NormLinkBwdRefIdeal.τ).loc Cert.NormLinkBwdRefIdeal.main_arg3) = m ((c.tc : Thread Cert.NormLinkBwdRefIdeal.nD Cert.NormLinkBwdRefIdeal.τ).loc Cert.NormLinkBwdRefIdeal.main_arg3)
      ∧ r.2.mem ((c.tc : Thread Cert.NormLinkBwdRefIdeal.nD Cert.NormLinkBwdRefIdeal.τ).loc Cert.NormLinkBwdRefIdeal.main_arg4) = m ((c.tc : Thread Cert.NormLinkBwdRefIdeal.nD Cert.NormLinkBwdRefIdeal.τ).loc Cert.NormLinkBwdRefIdeal.main_arg4)
      ∧ r.2.mem ((c.tc : Thread Cert.NormLinkBwdRefIdeal.nD Cert.NormLinkBwdRefIdeal.τ).loc Cert.NormLinkBwdRefIdeal.main_arg5) = m ((c.tc : Thread Cert.NormLinkBwdRefIdeal.nD Cert.NormLinkBwdRefIdeal.τ).loc Cert.NormLinkBwdRefIdeal.main_arg5))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_NormLoss [hNormLoss : Cert.NormLoss.Facts] : Prop :=
  ∀ (m : (ℓ : Loc Cert.NormLoss.nD Cert.NormLoss.τ Cert.NormLoss.sig) → Buf (Elt Bits) ℓ) (g : Dev Cert.NormLoss.nD → PrngReg), Pre_NormLoss m →
    θ_run (Cert.NormLoss.defs (F := Bits)) (onTc (τ := Cert.NormLoss.τ) (Cert.NormLoss.main (F := Bits))) ⟨m, fun _ => 0, g⟩ (fun r => (∀ c : Dev Cert.NormLoss.nD,
      r.2.mem ((c.tc : Thread Cert.NormLoss.nD Cert.NormLoss.τ).loc Cert.NormLoss.main_arg0) = m ((c.tc : Thread Cert.NormLoss.nD Cert.NormLoss.τ).loc Cert.NormLoss.main_arg0)
      ∧ r.2.mem ((c.tc : Thread Cert.NormLoss.nD Cert.NormLoss.τ).loc Cert.NormLoss.main_arg1) = m ((c.tc : Thread Cert.NormLoss.nD Cert.NormLoss.τ).loc Cert.NormLoss.main_arg1)
      ∧ r.2.mem ((c.tc : Thread Cert.NormLoss.nD Cert.NormLoss.τ).loc Cert.NormLoss.main_arg2) = m ((c.tc : Thread Cert.NormLoss.nD Cert.NormLoss.τ).loc Cert.NormLoss.main_arg2)
      ∧ r.2.mem ((c.tc : Thread Cert.NormLoss.nD Cert.NormLoss.τ).loc Cert.NormLoss.main_arg3) = m ((c.tc : Thread Cert.NormLoss.nD Cert.NormLoss.τ).loc Cert.NormLoss.main_arg3)
      ∧ r.2.mem ((c.tc : Thread Cert.NormLoss.nD Cert.NormLoss.τ).loc Cert.NormLoss.main_arg4) = m ((c.tc : Thread Cert.NormLoss.nD Cert.NormLoss.τ).loc Cert.NormLoss.main_arg4))
      ∧ r.2.sem = fun _ => 0)

def quiescent_NormLossIdeal [hNormLossIdeal : Cert.NormLossIdeal.Facts] : Prop :=
  ∀ (m : (ℓ : Loc Cert.NormLossIdeal.nD Cert.NormLossIdeal.τ Cert.NormLossIdeal.sig) → Buf (Elt Ideal) ℓ) (g : Dev Cert.NormLossIdeal.nD → PrngReg), Pre_NormLossIdeal m →
    θ_run (Cert.NormLossIdeal.defs (F := Ideal)) (onTc (τ := Cert.NormLossIdeal.τ) (Cert.NormLossIdeal.main (F := Ideal))) ⟨m, fun _ => 0, g⟩ (fun r => (∀ c : Dev Cert.NormLossIdeal.nD,
      r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
      ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
      ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
      ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3)
      ∧ r.2.mem ((c.tc : Thread Cert.NormLossIdeal.nD Cert.NormLossIdeal.τ).loc Cert.NormLossIdeal.main_arg4) = m ((c.tc : Thread Cert.NormLossIdeal.nD Cert.NormLossIdeal.τ).loc Cert.NormLossIdeal.main_arg4))
      ∧ r.2.sem = fun _ => 0)

def quiescent_NormLossRefIdeal [hNormLossRefIdeal : Cert.NormLossRefIdeal.Facts] : Prop :=
  ∀ (m : (ℓ : Loc Cert.NormLossRefIdeal.nD Cert.NormLossRefIdeal.τ Cert.NormLossRefIdeal.sig) → Buf (Elt Ideal) ℓ) (g : Dev Cert.NormLossRefIdeal.nD → PrngReg), Pre_NormLossRefIdeal m →
    θ_run (Cert.NormLossRefIdeal.defs (F := Ideal)) (onTc (τ := Cert.NormLossRefIdeal.τ) (Cert.NormLossRefIdeal.main (F := Ideal))) ⟨m, fun _ => 0, g⟩ (fun r => (∀ c : Dev Cert.NormLossRefIdeal.nD,
      r.2.mem ((c.tc : Thread Cert.NormLossRefIdeal.nD Cert.NormLossRefIdeal.τ).loc Cert.NormLossRefIdeal.main_arg0) = m ((c.tc : Thread Cert.NormLossRefIdeal.nD Cert.NormLossRefIdeal.τ).loc Cert.NormLossRefIdeal.main_arg0)
      ∧ r.2.mem ((c.tc : Thread Cert.NormLossRefIdeal.nD Cert.NormLossRefIdeal.τ).loc Cert.NormLossRefIdeal.main_arg1) = m ((c.tc : Thread Cert.NormLossRefIdeal.nD Cert.NormLossRefIdeal.τ).loc Cert.NormLossRefIdeal.main_arg1)
      ∧ r.2.mem ((c.tc : Thread Cert.NormLossRefIdeal.nD Cert.NormLossRefIdeal.τ).loc Cert.NormLossRefIdeal.main_arg2) = m ((c.tc : Thread Cert.NormLossRefIdeal.nD Cert.NormLossRefIdeal.τ).loc Cert.NormLossRefIdeal.main_arg2)
      ∧ r.2.mem ((c.tc : Thread Cert.NormLossRefIdeal.nD Cert.NormLossRefIdeal.τ).loc Cert.NormLossRefIdeal.main_arg3) = m ((c.tc : Thread Cert.NormLossRefIdeal.nD Cert.NormLossRefIdeal.τ).loc Cert.NormLossRefIdeal.main_arg3)
      ∧ r.2.mem ((c.tc : Thread Cert.NormLossRefIdeal.nD Cert.NormLossRefIdeal.τ).loc Cert.NormLossRefIdeal.main_arg4) = m ((c.tc : Thread Cert.NormLossRefIdeal.nD Cert.NormLossRefIdeal.τ).loc Cert.NormLossRefIdeal.main_arg4))
      ∧ r.2.sem = fun _ => 0)

def quiescent_NormLink1 [hNormLink1 : Cert.NormLink1.Facts] : Prop :=
  ∀ (m : (ℓ : Loc Cert.NormLink1.nD Cert.NormLink1.τ Cert.NormLink1.sig) → Buf (Elt Bits) ℓ) (g : Dev Cert.NormLink1.nD → PrngReg), Pre_NormLink1 m →
    θ_run (Cert.NormLink1.defs (F := Bits)) (onTc (τ := Cert.NormLink1.τ) (Cert.NormLink1.main (F := Bits))) ⟨m, fun _ => 0, g⟩ (fun r => (∀ c : Dev Cert.NormLink1.nD,
      r.2.mem ((c.tc : Thread Cert.NormLink1.nD Cert.NormLink1.τ).loc Cert.NormLink1.main_arg0) = m ((c.tc : Thread Cert.NormLink1.nD Cert.NormLink1.τ).loc Cert.NormLink1.main_arg0)
      ∧ r.2.mem ((c.tc : Thread Cert.NormLink1.nD Cert.NormLink1.τ).loc Cert.NormLink1.main_arg1) = m ((c.tc : Thread Cert.NormLink1.nD Cert.NormLink1.τ).loc Cert.NormLink1.main_arg1)
      ∧ r.2.mem ((c.tc : Thread Cert.NormLink1.nD Cert.NormLink1.τ).loc Cert.NormLink1.main_arg2) = m ((c.tc : Thread Cert.NormLink1.nD Cert.NormLink1.τ).loc Cert.NormLink1.main_arg2)
      ∧ r.2.mem ((c.tc : Thread Cert.NormLink1.nD Cert.NormLink1.τ).loc Cert.NormLink1.main_arg3) = m ((c.tc : Thread Cert.NormLink1.nD Cert.NormLink1.τ).loc Cert.NormLink1.main_arg3))
      ∧ r.2.sem = fun _ => 0)

def quiescent_NormLink1Ideal [hNormLink1Ideal : Cert.NormLink1Ideal.Facts] : Prop :=
  ∀ (m : (ℓ : Loc Cert.NormLink1Ideal.nD Cert.NormLink1Ideal.τ Cert.NormLink1Ideal.sig) → Buf (Elt Ideal) ℓ) (g : Dev Cert.NormLink1Ideal.nD → PrngReg), Pre_NormLink1Ideal m →
    θ_run (Cert.NormLink1Ideal.defs (F := Ideal)) (onTc (τ := Cert.NormLink1Ideal.τ) (Cert.NormLink1Ideal.main (F := Ideal))) ⟨m, fun _ => 0, g⟩ (fun r => (∀ c : Dev Cert.NormLink1Ideal.nD,
      r.2.mem ((c.tc : Thread Cert.NormLink1Ideal.nD Cert.NormLink1Ideal.τ).loc Cert.NormLink1Ideal.main_arg0) = m ((c.tc : Thread Cert.NormLink1Ideal.nD Cert.NormLink1Ideal.τ).loc Cert.NormLink1Ideal.main_arg0)
      ∧ r.2.mem ((c.tc : Thread Cert.NormLink1Ideal.nD Cert.NormLink1Ideal.τ).loc Cert.NormLink1Ideal.main_arg1) = m ((c.tc : Thread Cert.NormLink1Ideal.nD Cert.NormLink1Ideal.τ).loc Cert.NormLink1Ideal.main_arg1)
      ∧ r.2.mem ((c.tc : Thread Cert.NormLink1Ideal.nD Cert.NormLink1Ideal.τ).loc Cert.NormLink1Ideal.main_arg2) = m ((c.tc : Thread Cert.NormLink1Ideal.nD Cert.NormLink1Ideal.τ).loc Cert.NormLink1Ideal.main_arg2)
      ∧ r.2.mem ((c.tc : Thread Cert.NormLink1Ideal.nD Cert.NormLink1Ideal.τ).loc Cert.NormLink1Ideal.main_arg3) = m ((c.tc : Thread Cert.NormLink1Ideal.nD Cert.NormLink1Ideal.τ).loc Cert.NormLink1Ideal.main_arg3))
      ∧ r.2.sem = fun _ => 0)

def quiescent_NormLink1RefIdeal [hNormLink1RefIdeal : Cert.NormLink1RefIdeal.Facts] : Prop :=
  ∀ (m : (ℓ : Loc Cert.NormLink1RefIdeal.nD Cert.NormLink1RefIdeal.τ Cert.NormLink1RefIdeal.sig) → Buf (Elt Ideal) ℓ) (g : Dev Cert.NormLink1RefIdeal.nD → PrngReg), Pre_NormLink1RefIdeal m →
    θ_run (Cert.NormLink1RefIdeal.defs (F := Ideal)) (onTc (τ := Cert.NormLink1RefIdeal.τ) (Cert.NormLink1RefIdeal.main (F := Ideal))) ⟨m, fun _ => 0, g⟩ (fun r => (∀ c : Dev Cert.NormLink1RefIdeal.nD,
      r.2.mem ((c.tc : Thread Cert.NormLink1RefIdeal.nD Cert.NormLink1RefIdeal.τ).loc Cert.NormLink1RefIdeal.main_arg0) = m ((c.tc : Thread Cert.NormLink1RefIdeal.nD Cert.NormLink1RefIdeal.τ).loc Cert.NormLink1RefIdeal.main_arg0)
      ∧ r.2.mem ((c.tc : Thread Cert.NormLink1RefIdeal.nD Cert.NormLink1RefIdeal.τ).loc Cert.NormLink1RefIdeal.main_arg1) = m ((c.tc : Thread Cert.NormLink1RefIdeal.nD Cert.NormLink1RefIdeal.τ).loc Cert.NormLink1RefIdeal.main_arg1)
      ∧ r.2.mem ((c.tc : Thread Cert.NormLink1RefIdeal.nD Cert.NormLink1RefIdeal.τ).loc Cert.NormLink1RefIdeal.main_arg2) = m ((c.tc : Thread Cert.NormLink1RefIdeal.nD Cert.NormLink1RefIdeal.τ).loc Cert.NormLink1RefIdeal.main_arg2)
      ∧ r.2.mem ((c.tc : Thread Cert.NormLink1RefIdeal.nD Cert.NormLink1RefIdeal.τ).loc Cert.NormLink1RefIdeal.main_arg3) = m ((c.tc : Thread Cert.NormLink1RefIdeal.nD Cert.NormLink1RefIdeal.τ).loc Cert.NormLink1RefIdeal.main_arg3))
      ∧ r.2.sem = fun _ => 0)

def quiescent_NormLink3 [hNormLink3 : Cert.NormLink3.Facts] : Prop :=
  ∀ (m : (ℓ : Loc Cert.NormLink3.nD Cert.NormLink3.τ Cert.NormLink3.sig) → Buf (Elt Bits) ℓ) (g : Dev Cert.NormLink3.nD → PrngReg), Pre_NormLink3 m →
    θ_run (Cert.NormLink3.defs (F := Bits)) (onTc (τ := Cert.NormLink3.τ) (Cert.NormLink3.main (F := Bits))) ⟨m, fun _ => 0, g⟩ (fun r => (∀ c : Dev Cert.NormLink3.nD,
      r.2.mem ((c.tc : Thread Cert.NormLink3.nD Cert.NormLink3.τ).loc Cert.NormLink3.main_arg0) = m ((c.tc : Thread Cert.NormLink3.nD Cert.NormLink3.τ).loc Cert.NormLink3.main_arg0)
      ∧ r.2.mem ((c.tc : Thread Cert.NormLink3.nD Cert.NormLink3.τ).loc Cert.NormLink3.main_arg1) = m ((c.tc : Thread Cert.NormLink3.nD Cert.NormLink3.τ).loc Cert.NormLink3.main_arg1)
      ∧ r.2.mem ((c.tc : Thread Cert.NormLink3.nD Cert.NormLink3.τ).loc Cert.NormLink3.main_arg2) = m ((c.tc : Thread Cert.NormLink3.nD Cert.NormLink3.τ).loc Cert.NormLink3.main_arg2)
      ∧ r.2.mem ((c.tc : Thread Cert.NormLink3.nD Cert.NormLink3.τ).loc Cert.NormLink3.main_arg3) = m ((c.tc : Thread Cert.NormLink3.nD Cert.NormLink3.τ).loc Cert.NormLink3.main_arg3))
      ∧ r.2.sem = fun _ => 0)

def quiescent_NormLink3Ideal [hNormLink3Ideal : Cert.NormLink3Ideal.Facts] : Prop :=
  ∀ (m : (ℓ : Loc Cert.NormLink3Ideal.nD Cert.NormLink3Ideal.τ Cert.NormLink3Ideal.sig) → Buf (Elt Ideal) ℓ) (g : Dev Cert.NormLink3Ideal.nD → PrngReg), Pre_NormLink3Ideal m →
    θ_run (Cert.NormLink3Ideal.defs (F := Ideal)) (onTc (τ := Cert.NormLink3Ideal.τ) (Cert.NormLink3Ideal.main (F := Ideal))) ⟨m, fun _ => 0, g⟩ (fun r => (∀ c : Dev Cert.NormLink3Ideal.nD,
      r.2.mem ((c.tc : Thread Cert.NormLink3Ideal.nD Cert.NormLink3Ideal.τ).loc Cert.NormLink3Ideal.main_arg0) = m ((c.tc : Thread Cert.NormLink3Ideal.nD Cert.NormLink3Ideal.τ).loc Cert.NormLink3Ideal.main_arg0)
      ∧ r.2.mem ((c.tc : Thread Cert.NormLink3Ideal.nD Cert.NormLink3Ideal.τ).loc Cert.NormLink3Ideal.main_arg1) = m ((c.tc : Thread Cert.NormLink3Ideal.nD Cert.NormLink3Ideal.τ).loc Cert.NormLink3Ideal.main_arg1)
      ∧ r.2.mem ((c.tc : Thread Cert.NormLink3Ideal.nD Cert.NormLink3Ideal.τ).loc Cert.NormLink3Ideal.main_arg2) = m ((c.tc : Thread Cert.NormLink3Ideal.nD Cert.NormLink3Ideal.τ).loc Cert.NormLink3Ideal.main_arg2)
      ∧ r.2.mem ((c.tc : Thread Cert.NormLink3Ideal.nD Cert.NormLink3Ideal.τ).loc Cert.NormLink3Ideal.main_arg3) = m ((c.tc : Thread Cert.NormLink3Ideal.nD Cert.NormLink3Ideal.τ).loc Cert.NormLink3Ideal.main_arg3))
      ∧ r.2.sem = fun _ => 0)

def quiescent_NormLink3RefIdeal [hNormLink3RefIdeal : Cert.NormLink3RefIdeal.Facts] : Prop :=
  ∀ (m : (ℓ : Loc Cert.NormLink3RefIdeal.nD Cert.NormLink3RefIdeal.τ Cert.NormLink3RefIdeal.sig) → Buf (Elt Ideal) ℓ) (g : Dev Cert.NormLink3RefIdeal.nD → PrngReg), Pre_NormLink3RefIdeal m →
    θ_run (Cert.NormLink3RefIdeal.defs (F := Ideal)) (onTc (τ := Cert.NormLink3RefIdeal.τ) (Cert.NormLink3RefIdeal.main (F := Ideal))) ⟨m, fun _ => 0, g⟩ (fun r => (∀ c : Dev Cert.NormLink3RefIdeal.nD,
      r.2.mem ((c.tc : Thread Cert.NormLink3RefIdeal.nD Cert.NormLink3RefIdeal.τ).loc Cert.NormLink3RefIdeal.main_arg0) = m ((c.tc : Thread Cert.NormLink3RefIdeal.nD Cert.NormLink3RefIdeal.τ).loc Cert.NormLink3RefIdeal.main_arg0)
      ∧ r.2.mem ((c.tc : Thread Cert.NormLink3RefIdeal.nD Cert.NormLink3RefIdeal.τ).loc Cert.NormLink3RefIdeal.main_arg1) = m ((c.tc : Thread Cert.NormLink3RefIdeal.nD Cert.NormLink3RefIdeal.τ).loc Cert.NormLink3RefIdeal.main_arg1)
      ∧ r.2.mem ((c.tc : Thread Cert.NormLink3RefIdeal.nD Cert.NormLink3RefIdeal.τ).loc Cert.NormLink3RefIdeal.main_arg2) = m ((c.tc : Thread Cert.NormLink3RefIdeal.nD Cert.NormLink3RefIdeal.τ).loc Cert.NormLink3RefIdeal.main_arg2)
      ∧ r.2.mem ((c.tc : Thread Cert.NormLink3RefIdeal.nD Cert.NormLink3RefIdeal.τ).loc Cert.NormLink3RefIdeal.main_arg3) = m ((c.tc : Thread Cert.NormLink3RefIdeal.nD Cert.NormLink3RefIdeal.τ).loc Cert.NormLink3RefIdeal.main_arg3))
      ∧ r.2.sem = fun _ => 0)

def quiescent_NormLink5 [hNormLink5 : Cert.NormLink5.Facts] : Prop :=
  ∀ (m : (ℓ : Loc Cert.NormLink5.nD Cert.NormLink5.τ Cert.NormLink5.sig) → Buf (Elt Bits) ℓ) (g : Dev Cert.NormLink5.nD → PrngReg), Pre_NormLink5 m →
    θ_run (Cert.NormLink5.defs (F := Bits)) (onTc (τ := Cert.NormLink5.τ) (Cert.NormLink5.main (F := Bits))) ⟨m, fun _ => 0, g⟩ (fun r => (∀ c : Dev Cert.NormLink5.nD,
      r.2.mem ((c.tc : Thread Cert.NormLink5.nD Cert.NormLink5.τ).loc Cert.NormLink5.main_arg0) = m ((c.tc : Thread Cert.NormLink5.nD Cert.NormLink5.τ).loc Cert.NormLink5.main_arg0)
      ∧ r.2.mem ((c.tc : Thread Cert.NormLink5.nD Cert.NormLink5.τ).loc Cert.NormLink5.main_arg1) = m ((c.tc : Thread Cert.NormLink5.nD Cert.NormLink5.τ).loc Cert.NormLink5.main_arg1)
      ∧ r.2.mem ((c.tc : Thread Cert.NormLink5.nD Cert.NormLink5.τ).loc Cert.NormLink5.main_arg2) = m ((c.tc : Thread Cert.NormLink5.nD Cert.NormLink5.τ).loc Cert.NormLink5.main_arg2)
      ∧ r.2.mem ((c.tc : Thread Cert.NormLink5.nD Cert.NormLink5.τ).loc Cert.NormLink5.main_arg3) = m ((c.tc : Thread Cert.NormLink5.nD Cert.NormLink5.τ).loc Cert.NormLink5.main_arg3))
      ∧ r.2.sem = fun _ => 0)

def quiescent_NormLink5Ideal [hNormLink5Ideal : Cert.NormLink5Ideal.Facts] : Prop :=
  ∀ (m : (ℓ : Loc Cert.NormLink5Ideal.nD Cert.NormLink5Ideal.τ Cert.NormLink5Ideal.sig) → Buf (Elt Ideal) ℓ) (g : Dev Cert.NormLink5Ideal.nD → PrngReg), Pre_NormLink5Ideal m →
    θ_run (Cert.NormLink5Ideal.defs (F := Ideal)) (onTc (τ := Cert.NormLink5Ideal.τ) (Cert.NormLink5Ideal.main (F := Ideal))) ⟨m, fun _ => 0, g⟩ (fun r => (∀ c : Dev Cert.NormLink5Ideal.nD,
      r.2.mem ((c.tc : Thread Cert.NormLink5Ideal.nD Cert.NormLink5Ideal.τ).loc Cert.NormLink5Ideal.main_arg0) = m ((c.tc : Thread Cert.NormLink5Ideal.nD Cert.NormLink5Ideal.τ).loc Cert.NormLink5Ideal.main_arg0)
      ∧ r.2.mem ((c.tc : Thread Cert.NormLink5Ideal.nD Cert.NormLink5Ideal.τ).loc Cert.NormLink5Ideal.main_arg1) = m ((c.tc : Thread Cert.NormLink5Ideal.nD Cert.NormLink5Ideal.τ).loc Cert.NormLink5Ideal.main_arg1)
      ∧ r.2.mem ((c.tc : Thread Cert.NormLink5Ideal.nD Cert.NormLink5Ideal.τ).loc Cert.NormLink5Ideal.main_arg2) = m ((c.tc : Thread Cert.NormLink5Ideal.nD Cert.NormLink5Ideal.τ).loc Cert.NormLink5Ideal.main_arg2)
      ∧ r.2.mem ((c.tc : Thread Cert.NormLink5Ideal.nD Cert.NormLink5Ideal.τ).loc Cert.NormLink5Ideal.main_arg3) = m ((c.tc : Thread Cert.NormLink5Ideal.nD Cert.NormLink5Ideal.τ).loc Cert.NormLink5Ideal.main_arg3))
      ∧ r.2.sem = fun _ => 0)

def quiescent_NormLink5RefIdeal [hNormLink5RefIdeal : Cert.NormLink5RefIdeal.Facts] : Prop :=
  ∀ (m : (ℓ : Loc Cert.NormLink5RefIdeal.nD Cert.NormLink5RefIdeal.τ Cert.NormLink5RefIdeal.sig) → Buf (Elt Ideal) ℓ) (g : Dev Cert.NormLink5RefIdeal.nD → PrngReg), Pre_NormLink5RefIdeal m →
    θ_run (Cert.NormLink5RefIdeal.defs (F := Ideal)) (onTc (τ := Cert.NormLink5RefIdeal.τ) (Cert.NormLink5RefIdeal.main (F := Ideal))) ⟨m, fun _ => 0, g⟩ (fun r => (∀ c : Dev Cert.NormLink5RefIdeal.nD,
      r.2.mem ((c.tc : Thread Cert.NormLink5RefIdeal.nD Cert.NormLink5RefIdeal.τ).loc Cert.NormLink5RefIdeal.main_arg0) = m ((c.tc : Thread Cert.NormLink5RefIdeal.nD Cert.NormLink5RefIdeal.τ).loc Cert.NormLink5RefIdeal.main_arg0)
      ∧ r.2.mem ((c.tc : Thread Cert.NormLink5RefIdeal.nD Cert.NormLink5RefIdeal.τ).loc Cert.NormLink5RefIdeal.main_arg1) = m ((c.tc : Thread Cert.NormLink5RefIdeal.nD Cert.NormLink5RefIdeal.τ).loc Cert.NormLink5RefIdeal.main_arg1)
      ∧ r.2.mem ((c.tc : Thread Cert.NormLink5RefIdeal.nD Cert.NormLink5RefIdeal.τ).loc Cert.NormLink5RefIdeal.main_arg2) = m ((c.tc : Thread Cert.NormLink5RefIdeal.nD Cert.NormLink5RefIdeal.τ).loc Cert.NormLink5RefIdeal.main_arg2)
      ∧ r.2.mem ((c.tc : Thread Cert.NormLink5RefIdeal.nD Cert.NormLink5RefIdeal.τ).loc Cert.NormLink5RefIdeal.main_arg3) = m ((c.tc : Thread Cert.NormLink5RefIdeal.nD Cert.NormLink5RefIdeal.τ).loc Cert.NormLink5RefIdeal.main_arg3))
      ∧ r.2.sem = fun _ => 0)

def quiescent_NormLinkBwd5 [hNormLinkBwd5 : Cert.NormLinkBwd5.Facts] : Prop :=
  ∀ (m : (ℓ : Loc Cert.NormLinkBwd5.nD Cert.NormLinkBwd5.τ Cert.NormLinkBwd5.sig) → Buf (Elt Bits) ℓ) (g : Dev Cert.NormLinkBwd5.nD → PrngReg), Pre_NormLinkBwd5 m →
    θ_run (Cert.NormLinkBwd5.defs (F := Bits)) (onTc (τ := Cert.NormLinkBwd5.τ) (Cert.NormLinkBwd5.main (F := Bits))) ⟨m, fun _ => 0, g⟩ (fun r => (∀ c : Dev Cert.NormLinkBwd5.nD,
      r.2.mem ((c.tc : Thread Cert.NormLinkBwd5.nD Cert.NormLinkBwd5.τ).loc Cert.NormLinkBwd5.main_arg0) = m ((c.tc : Thread Cert.NormLinkBwd5.nD Cert.NormLinkBwd5.τ).loc Cert.NormLinkBwd5.main_arg0)
      ∧ r.2.mem ((c.tc : Thread Cert.NormLinkBwd5.nD Cert.NormLinkBwd5.τ).loc Cert.NormLinkBwd5.main_arg1) = m ((c.tc : Thread Cert.NormLinkBwd5.nD Cert.NormLinkBwd5.τ).loc Cert.NormLinkBwd5.main_arg1)
      ∧ r.2.mem ((c.tc : Thread Cert.NormLinkBwd5.nD Cert.NormLinkBwd5.τ).loc Cert.NormLinkBwd5.main_arg2) = m ((c.tc : Thread Cert.NormLinkBwd5.nD Cert.NormLinkBwd5.τ).loc Cert.NormLinkBwd5.main_arg2)
      ∧ r.2.mem ((c.tc : Thread Cert.NormLinkBwd5.nD Cert.NormLinkBwd5.τ).loc Cert.NormLinkBwd5.main_arg3) = m ((c.tc : Thread Cert.NormLinkBwd5.nD Cert.NormLinkBwd5.τ).loc Cert.NormLinkBwd5.main_arg3)
      ∧ r.2.mem ((c.tc : Thread Cert.NormLinkBwd5.nD Cert.NormLinkBwd5.τ).loc Cert.NormLinkBwd5.main_arg4) = m ((c.tc : Thread Cert.NormLinkBwd5.nD Cert.NormLinkBwd5.τ).loc Cert.NormLinkBwd5.main_arg4)
      ∧ r.2.mem ((c.tc : Thread Cert.NormLinkBwd5.nD Cert.NormLinkBwd5.τ).loc Cert.NormLinkBwd5.main_arg5) = m ((c.tc : Thread Cert.NormLinkBwd5.nD Cert.NormLinkBwd5.τ).loc Cert.NormLinkBwd5.main_arg5))
      ∧ r.2.sem = fun _ => 0)

def quiescent_NormLinkBwd5Ideal [hNormLinkBwd5Ideal : Cert.NormLinkBwd5Ideal.Facts] : Prop :=
  ∀ (m : (ℓ : Loc Cert.NormLinkBwd5Ideal.nD Cert.NormLinkBwd5Ideal.τ Cert.NormLinkBwd5Ideal.sig) → Buf (Elt Ideal) ℓ) (g : Dev Cert.NormLinkBwd5Ideal.nD → PrngReg), Pre_NormLinkBwd5Ideal m →
    θ_run (Cert.NormLinkBwd5Ideal.defs (F := Ideal)) (onTc (τ := Cert.NormLinkBwd5Ideal.τ) (Cert.NormLinkBwd5Ideal.main (F := Ideal))) ⟨m, fun _ => 0, g⟩ (fun r => (∀ c : Dev Cert.NormLinkBwd5Ideal.nD,
      r.2.mem ((c.tc : Thread Cert.NormLinkBwd5Ideal.nD Cert.NormLinkBwd5Ideal.τ).loc Cert.NormLinkBwd5Ideal.main_arg0) = m ((c.tc : Thread Cert.NormLinkBwd5Ideal.nD Cert.NormLinkBwd5Ideal.τ).loc Cert.NormLinkBwd5Ideal.main_arg0)
      ∧ r.2.mem ((c.tc : Thread Cert.NormLinkBwd5Ideal.nD Cert.NormLinkBwd5Ideal.τ).loc Cert.NormLinkBwd5Ideal.main_arg1) = m ((c.tc : Thread Cert.NormLinkBwd5Ideal.nD Cert.NormLinkBwd5Ideal.τ).loc Cert.NormLinkBwd5Ideal.main_arg1)
      ∧ r.2.mem ((c.tc : Thread Cert.NormLinkBwd5Ideal.nD Cert.NormLinkBwd5Ideal.τ).loc Cert.NormLinkBwd5Ideal.main_arg2) = m ((c.tc : Thread Cert.NormLinkBwd5Ideal.nD Cert.NormLinkBwd5Ideal.τ).loc Cert.NormLinkBwd5Ideal.main_arg2)
      ∧ r.2.mem ((c.tc : Thread Cert.NormLinkBwd5Ideal.nD Cert.NormLinkBwd5Ideal.τ).loc Cert.NormLinkBwd5Ideal.main_arg3) = m ((c.tc : Thread Cert.NormLinkBwd5Ideal.nD Cert.NormLinkBwd5Ideal.τ).loc Cert.NormLinkBwd5Ideal.main_arg3)
      ∧ r.2.mem ((c.tc : Thread Cert.NormLinkBwd5Ideal.nD Cert.NormLinkBwd5Ideal.τ).loc Cert.NormLinkBwd5Ideal.main_arg4) = m ((c.tc : Thread Cert.NormLinkBwd5Ideal.nD Cert.NormLinkBwd5Ideal.τ).loc Cert.NormLinkBwd5Ideal.main_arg4)
      ∧ r.2.mem ((c.tc : Thread Cert.NormLinkBwd5Ideal.nD Cert.NormLinkBwd5Ideal.τ).loc Cert.NormLinkBwd5Ideal.main_arg5) = m ((c.tc : Thread Cert.NormLinkBwd5Ideal.nD Cert.NormLinkBwd5Ideal.τ).loc Cert.NormLinkBwd5Ideal.main_arg5))
      ∧ r.2.sem = fun _ => 0)

def quiescent_NormLinkBwd5RefIdeal [hNormLinkBwd5RefIdeal : Cert.NormLinkBwd5RefIdeal.Facts] : Prop :=
  ∀ (m : (ℓ : Loc Cert.NormLinkBwd5RefIdeal.nD Cert.NormLinkBwd5RefIdeal.τ Cert.NormLinkBwd5RefIdeal.sig) → Buf (Elt Ideal) ℓ) (g : Dev Cert.NormLinkBwd5RefIdeal.nD → PrngReg), Pre_NormLinkBwd5RefIdeal m →
    θ_run (Cert.NormLinkBwd5RefIdeal.defs (F := Ideal)) (onTc (τ := Cert.NormLinkBwd5RefIdeal.τ) (Cert.NormLinkBwd5RefIdeal.main (F := Ideal))) ⟨m, fun _ => 0, g⟩ (fun r => (∀ c : Dev Cert.NormLinkBwd5RefIdeal.nD,
      r.2.mem ((c.tc : Thread Cert.NormLinkBwd5RefIdeal.nD Cert.NormLinkBwd5RefIdeal.τ).loc Cert.NormLinkBwd5RefIdeal.main_arg0) = m ((c.tc : Thread Cert.NormLinkBwd5RefIdeal.nD Cert.NormLinkBwd5RefIdeal.τ).loc Cert.NormLinkBwd5RefIdeal.main_arg0)
      ∧ r.2.mem ((c.tc : Thread Cert.NormLinkBwd5RefIdeal.nD Cert.NormLinkBwd5RefIdeal.τ).loc Cert.NormLinkBwd5RefIdeal.main_arg1) = m ((c.tc : Thread Cert.NormLinkBwd5RefIdeal.nD Cert.NormLinkBwd5RefIdeal.τ).loc Cert.NormLinkBwd5RefIdeal.main_arg1)
      ∧ r.2.mem ((c.tc : Thread Cert.NormLinkBwd5RefIdeal.nD Cert.NormLinkBwd5RefIdeal.τ).loc Cert.NormLinkBwd5RefIdeal.main_arg2) = m ((c.tc : Thread Cert.NormLinkBwd5RefIdeal.nD Cert.NormLinkBwd5RefIdeal.τ).loc Cert.NormLinkBwd5RefIdeal.main_arg2)
      ∧ r.2.mem ((c.tc : Thread Cert.NormLinkBwd5RefIdeal.nD Cert.NormLinkBwd5RefIdeal.τ).loc Cert.NormLinkBwd5RefIdeal.main_arg3) = m ((c.tc : Thread Cert.NormLinkBwd5RefIdeal.nD Cert.NormLinkBwd5RefIdeal.τ).loc Cert.NormLinkBwd5RefIdeal.main_arg3)
      ∧ r.2.mem ((c.tc : Thread Cert.NormLinkBwd5RefIdeal.nD Cert.NormLinkBwd5RefIdeal.τ).loc Cert.NormLinkBwd5RefIdeal.main_arg4) = m ((c.tc : Thread Cert.NormLinkBwd5RefIdeal.nD Cert.NormLinkBwd5RefIdeal.τ).loc Cert.NormLinkBwd5RefIdeal.main_arg4)
      ∧ r.2.mem ((c.tc : Thread Cert.NormLinkBwd5RefIdeal.nD Cert.NormLinkBwd5RefIdeal.τ).loc Cert.NormLinkBwd5RefIdeal.main_arg5) = m ((c.tc : Thread Cert.NormLinkBwd5RefIdeal.nD Cert.NormLinkBwd5RefIdeal.τ).loc Cert.NormLinkBwd5RefIdeal.main_arg5))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v10_0)) (v1 : (c : Dev Cert.FfnBwdIdeal.nD) → Buf (Elt Ideal) ((c.tc : Thread Cert.FfnBwdIdeal.nD Cert.FfnBwdIdeal.τ).loc Cert.FfnBwdIdeal.main_v10_1)) (v2 : (c : Dev Cert.FfnBwdIdeal.nD) → Buf (Elt Ideal) ((c.tc : Thread Cert.FfnBwdIdeal.nD Cert.FfnBwdIdeal.τ).loc Cert.FfnBwdIdeal.main_v10_2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v10_0) = v0 c
          ∧ r.2.mem ((c.tc : Thread Cert.FfnBwdIdeal.nD Cert.FfnBwdIdeal.τ).loc Cert.FfnBwdIdeal.main_v10_1) = v1 c
          ∧ r.2.mem ((c.tc : Thread Cert.FfnBwdIdeal.nD Cert.FfnBwdIdeal.τ).loc Cert.FfnBwdIdeal.main_v10_2) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v12) = v0 c
          ∧ r.2.mem ((c.tc : Thread Cert.FfnBwdRefIdeal.nD Cert.FfnBwdRefIdeal.τ).loc Cert.FfnBwdRefIdeal.main_v15) = v1 c
          ∧ r.2.mem ((c.tc : Thread Cert.FfnBwdRefIdeal.nD Cert.FfnBwdRefIdeal.τ).loc Cert.FfnBwdRefIdeal.main_v22) = v2 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v6) = v0 c
          ∧ r.2.mem ((c.tc : Thread Cert.FfnFwdRefIdeal.nD Cert.FfnFwdRefIdeal.τ).loc Cert.FfnFwdRefIdeal.main_v9) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v4)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v4) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v6) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1))

def preserves_FfnDwOut_FfnDwOutIdeal : Prop :=
  True

def algebraic_FfnDwOutIdeal_FfnDwOutRefIdeal [hFfnDwOutIdeal : Cert.FfnDwOutIdeal.Facts] [hFfnDwOutRefIdeal : Cert.FfnDwOutRefIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg)
    (m' : (ℓ : Loc Cert.FfnDwOutRefIdeal.nD Cert.FfnDwOutRefIdeal.τ Cert.FfnDwOutRefIdeal.sig) → Buf (Elt Ideal) ℓ) (g' : Dev Cert.FfnDwOutRefIdeal.nD → PrngReg), Pre_FfnDwOutIdeal m →
    (∀ c : Dev Cert.FfnDwOutIdeal.nD,
      m' ((c.tc : Thread Cert.FfnDwOutRefIdeal.nD Cert.FfnDwOutRefIdeal.τ).loc Cert.FfnDwOutRefIdeal.main_arg0) = m ((c.tc : Thread Cert.FfnDwOutIdeal.nD Cert.FfnDwOutIdeal.τ).loc Cert.FfnDwOutIdeal.main_arg0)
      ∧ m' ((c.tc : Thread Cert.FfnDwOutRefIdeal.nD Cert.FfnDwOutRefIdeal.τ).loc Cert.FfnDwOutRefIdeal.main_arg1) = m ((c.tc : Thread Cert.FfnDwOutIdeal.nD Cert.FfnDwOutIdeal.τ).loc Cert.FfnDwOutIdeal.main_arg1)) →
    ∃ (v0 : (c : Dev Cert.FfnDwOutIdeal.nD) → Buf (Elt Ideal) ((c.tc : Thread Cert.FfnDwOutIdeal.nD Cert.FfnDwOutIdeal.τ).loc Cert.FfnDwOutIdeal.main_v4)),
      θ_run (Cert.FfnDwOutIdeal.defs (F := Ideal)) (onTc (τ := Cert.FfnDwOutIdeal.τ) (Cert.FfnDwOutIdeal.main (F := Ideal))) ⟨m, fun _ => 0, g⟩ (fun r => ∀ c : Dev Cert.FfnDwOutIdeal.nD,
          r.2.mem ((c.tc : Thread Cert.FfnDwOutIdeal.nD Cert.FfnDwOutIdeal.τ).loc Cert.FfnDwOutIdeal.main_v4) = v0 c
          ∧ r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
          ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ θ_run (Cert.FfnDwOutRefIdeal.defs (F := Ideal)) (onTc (τ := Cert.FfnDwOutRefIdeal.τ) (Cert.FfnDwOutRefIdeal.main (F := Ideal))) ⟨m', fun _ => 0, g'⟩ (fun r => ∀ c : Dev Cert.FfnDwOutRefIdeal.nD,
          r.2.mem ((c.tc : Thread Cert.FfnDwOutRefIdeal.nD Cert.FfnDwOutRefIdeal.τ).loc Cert.FfnDwOutRefIdeal.main_v5) = v0 c
          ∧ r.2.mem ((c.tc : Thread Cert.FfnDwOutRefIdeal.nD Cert.FfnDwOutRefIdeal.τ).loc Cert.FfnDwOutRefIdeal.main_arg0) = m' ((c.tc : Thread Cert.FfnDwOutRefIdeal.nD Cert.FfnDwOutRefIdeal.τ).loc Cert.FfnDwOutRefIdeal.main_arg0)
          ∧ r.2.mem ((c.tc : Thread Cert.FfnDwOutRefIdeal.nD Cert.FfnDwOutRefIdeal.τ).loc Cert.FfnDwOutRefIdeal.main_arg1) = m' ((c.tc : Thread Cert.FfnDwOutRefIdeal.nD Cert.FfnDwOutRefIdeal.τ).loc Cert.FfnDwOutRefIdeal.main_arg1))

def preserves_AttFwd_AttFwdIdeal : Prop :=
  IdealRules.named_const.Statement Cert.AttFwdIdeal.κ "inv_ln2" .f32 0x3FB8AA3B#32 (((Real.log 2)⁻¹ : ℝ) : EReal)

def algebraic_AttFwdIdeal_AttFwdRefIdeal_pre_att_finite [hAttFwdIdeal : Cert.AttFwdIdeal.Facts] [hAttFwdRefIdeal : Cert.AttFwdRefIdeal.Facts] [hPre_att_finite : Cert.Pre_att_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_att_finite m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)
      ∧ m' ((c.tc : Thread Cert.AttFwdRefIdeal.nD Cert.AttFwdRefIdeal.τ).loc Cert.AttFwdRefIdeal.main_arg3) = m ((c.tc : Thread Cert.AttFwdIdeal.nD Cert.AttFwdIdeal.τ).loc Cert.AttFwdIdeal.main_arg3)) →
    ∃ (v0 : (c : Dev Cert.AttFwdIdeal.nD) → Buf (Elt Ideal) ((c.tc : Thread Cert.AttFwdIdeal.nD Cert.AttFwdIdeal.τ).loc Cert.AttFwdIdeal.main_v11_0)) (v1 : (c : Dev Cert.AttFwdIdeal.nD) → Buf (Elt Ideal) ((c.tc : Thread Cert.AttFwdIdeal.nD Cert.AttFwdIdeal.τ).loc Cert.AttFwdIdeal.main_v11_1)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v11_0) = v0 c
          ∧ r.2.mem ((c.tc : Thread Cert.AttFwdIdeal.nD Cert.AttFwdIdeal.τ).loc Cert.AttFwdIdeal.main_v11_1) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
          ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v36) = v0 c
          ∧ r.2.mem ((c.tc : Thread Cert.AttFwdRefIdeal.nD Cert.AttFwdRefIdeal.τ).loc Cert.AttFwdRefIdeal.main_v16) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2)
          ∧ r.2.mem ((c.tc : Thread Cert.AttFwdRefIdeal.nD Cert.AttFwdRefIdeal.τ).loc Cert.AttFwdRefIdeal.main_arg3) = m' ((c.tc : Thread Cert.AttFwdRefIdeal.nD Cert.AttFwdRefIdeal.τ).loc Cert.AttFwdRefIdeal.main_arg3))

def preserves_MlaUvBwd_MlaUvBwdIdeal : Prop :=
  True

def algebraic_MlaUvBwdIdeal_MlaUvBwdRefIdeal [hMlaUvBwdIdeal : Cert.MlaUvBwdIdeal.Facts] [hMlaUvBwdRefIdeal : Cert.MlaUvBwdRefIdeal.Facts] : Prop :=
  ∀ (m : (ℓ : Loc Cert.MlaUvBwdIdeal.nD Cert.MlaUvBwdIdeal.τ Cert.MlaUvBwdIdeal.sig) → Buf (Elt Ideal) ℓ) (g : Dev Cert.MlaUvBwdIdeal.nD → PrngReg)
    (m' : (ℓ : Loc Cert.MlaUvBwdRefIdeal.nD Cert.MlaUvBwdRefIdeal.τ Cert.MlaUvBwdRefIdeal.sig) → Buf (Elt Ideal) ℓ) (g' : Dev Cert.MlaUvBwdRefIdeal.nD → PrngReg), Pre_MlaUvBwdIdeal m →
    (∀ c : Dev Cert.MlaUvBwdIdeal.nD,
      m' ((c.tc : Thread Cert.MlaUvBwdRefIdeal.nD Cert.MlaUvBwdRefIdeal.τ).loc Cert.MlaUvBwdRefIdeal.main_arg0) = m ((c.tc : Thread Cert.MlaUvBwdIdeal.nD Cert.MlaUvBwdIdeal.τ).loc Cert.MlaUvBwdIdeal.main_arg0)
      ∧ m' ((c.tc : Thread Cert.MlaUvBwdRefIdeal.nD Cert.MlaUvBwdRefIdeal.τ).loc Cert.MlaUvBwdRefIdeal.main_arg1) = m ((c.tc : Thread Cert.MlaUvBwdIdeal.nD Cert.MlaUvBwdIdeal.τ).loc Cert.MlaUvBwdIdeal.main_arg1)
      ∧ m' ((c.tc : Thread Cert.MlaUvBwdRefIdeal.nD Cert.MlaUvBwdRefIdeal.τ).loc Cert.MlaUvBwdRefIdeal.main_arg2) = m ((c.tc : Thread Cert.MlaUvBwdIdeal.nD Cert.MlaUvBwdIdeal.τ).loc Cert.MlaUvBwdIdeal.main_arg2)) →
    ∃ (v0 : (c : Dev Cert.MlaUvBwdIdeal.nD) → Buf (Elt Ideal) ((c.tc : Thread Cert.MlaUvBwdIdeal.nD Cert.MlaUvBwdIdeal.τ).loc Cert.MlaUvBwdIdeal.main_v15_0)) (v1 : (c : Dev Cert.MlaUvBwdIdeal.nD) → Buf (Elt Ideal) ((c.tc : Thread Cert.MlaUvBwdIdeal.nD Cert.MlaUvBwdIdeal.τ).loc Cert.MlaUvBwdIdeal.main_v15_1)),
      θ_run (Cert.MlaUvBwdIdeal.defs (F := Ideal)) (onTc (τ := Cert.MlaUvBwdIdeal.τ) (Cert.MlaUvBwdIdeal.main (F := Ideal))) ⟨m, fun _ => 0, g⟩ (fun r => ∀ c : Dev Cert.MlaUvBwdIdeal.nD,
          r.2.mem ((c.tc : Thread Cert.MlaUvBwdIdeal.nD Cert.MlaUvBwdIdeal.τ).loc Cert.MlaUvBwdIdeal.main_v15_0) = v0 c
          ∧ r.2.mem ((c.tc : Thread Cert.MlaUvBwdIdeal.nD Cert.MlaUvBwdIdeal.τ).loc Cert.MlaUvBwdIdeal.main_v15_1) = v1 c
          ∧ r.2.mem ((c.tc : Thread Cert.MlaUvBwdIdeal.nD Cert.MlaUvBwdIdeal.τ).loc Cert.MlaUvBwdIdeal.main_arg0) = m ((c.tc : Thread Cert.MlaUvBwdIdeal.nD Cert.MlaUvBwdIdeal.τ).loc Cert.MlaUvBwdIdeal.main_arg0)
          ∧ r.2.mem ((c.tc : Thread Cert.MlaUvBwdIdeal.nD Cert.MlaUvBwdIdeal.τ).loc Cert.MlaUvBwdIdeal.main_arg1) = m ((c.tc : Thread Cert.MlaUvBwdIdeal.nD Cert.MlaUvBwdIdeal.τ).loc Cert.MlaUvBwdIdeal.main_arg1)
          ∧ r.2.mem ((c.tc : Thread Cert.MlaUvBwdIdeal.nD Cert.MlaUvBwdIdeal.τ).loc Cert.MlaUvBwdIdeal.main_arg2) = m ((c.tc : Thread Cert.MlaUvBwdIdeal.nD Cert.MlaUvBwdIdeal.τ).loc Cert.MlaUvBwdIdeal.main_arg2))
      ∧ θ_run (Cert.MlaUvBwdRefIdeal.defs (F := Ideal)) (onTc (τ := Cert.MlaUvBwdRefIdeal.τ) (Cert.MlaUvBwdRefIdeal.main (F := Ideal))) ⟨m', fun _ => 0, g'⟩ (fun r => ∀ c : Dev Cert.MlaUvBwdRefIdeal.nD,
          r.2.mem ((c.tc : Thread Cert.MlaUvBwdRefIdeal.nD Cert.MlaUvBwdRefIdeal.τ).loc Cert.MlaUvBwdRefIdeal.main_v19) = v0 c
          ∧ r.2.mem ((c.tc : Thread Cert.MlaUvBwdRefIdeal.nD Cert.MlaUvBwdRefIdeal.τ).loc Cert.MlaUvBwdRefIdeal.main_v17) = v1 c
          ∧ r.2.mem ((c.tc : Thread Cert.MlaUvBwdRefIdeal.nD Cert.MlaUvBwdRefIdeal.τ).loc Cert.MlaUvBwdRefIdeal.main_arg0) = m' ((c.tc : Thread Cert.MlaUvBwdRefIdeal.nD Cert.MlaUvBwdRefIdeal.τ).loc Cert.MlaUvBwdRefIdeal.main_arg0)
          ∧ r.2.mem ((c.tc : Thread Cert.MlaUvBwdRefIdeal.nD Cert.MlaUvBwdRefIdeal.τ).loc Cert.MlaUvBwdRefIdeal.main_arg1) = m' ((c.tc : Thread Cert.MlaUvBwdRefIdeal.nD Cert.MlaUvBwdRefIdeal.τ).loc Cert.MlaUvBwdRefIdeal.main_arg1)
          ∧ r.2.mem ((c.tc : Thread Cert.MlaUvBwdRefIdeal.nD Cert.MlaUvBwdRefIdeal.τ).loc Cert.MlaUvBwdRefIdeal.main_arg2) = m' ((c.tc : Thread Cert.MlaUvBwdRefIdeal.nD Cert.MlaUvBwdRefIdeal.τ).loc Cert.MlaUvBwdRefIdeal.main_arg2))

def preserves_MlaDo_MlaDoIdeal : Prop :=
  True

def algebraic_MlaDoIdeal_MlaDoRefIdeal [hMlaDoIdeal : Cert.MlaDoIdeal.Facts] [hMlaDoRefIdeal : Cert.MlaDoRefIdeal.Facts] : Prop :=
  ∀ (m : (ℓ : Loc Cert.MlaDoIdeal.nD Cert.MlaDoIdeal.τ Cert.MlaDoIdeal.sig) → Buf (Elt Ideal) ℓ) (g : Dev Cert.MlaDoIdeal.nD → PrngReg)
    (m' : (ℓ : Loc Cert.MlaDoRefIdeal.nD Cert.MlaDoRefIdeal.τ Cert.MlaDoRefIdeal.sig) → Buf (Elt Ideal) ℓ) (g' : Dev Cert.MlaDoRefIdeal.nD → PrngReg), Pre_MlaDoIdeal m →
    (∀ c : Dev Cert.MlaDoIdeal.nD,
      m' ((c.tc : Thread Cert.MlaDoRefIdeal.nD Cert.MlaDoRefIdeal.τ).loc Cert.MlaDoRefIdeal.main_arg0) = m ((c.tc : Thread Cert.MlaDoIdeal.nD Cert.MlaDoIdeal.τ).loc Cert.MlaDoIdeal.main_arg0)
      ∧ m' ((c.tc : Thread Cert.MlaDoRefIdeal.nD Cert.MlaDoRefIdeal.τ).loc Cert.MlaDoRefIdeal.main_arg1) = m ((c.tc : Thread Cert.MlaDoIdeal.nD Cert.MlaDoIdeal.τ).loc Cert.MlaDoIdeal.main_arg1)) →
    ∃ (v0 : (c : Dev Cert.MlaDoIdeal.nD) → Buf (Elt Ideal) ((c.tc : Thread Cert.MlaDoIdeal.nD Cert.MlaDoIdeal.τ).loc Cert.MlaDoIdeal.main_v2)),
      θ_run (Cert.MlaDoIdeal.defs (F := Ideal)) (onTc (τ := Cert.MlaDoIdeal.τ) (Cert.MlaDoIdeal.main (F := Ideal))) ⟨m, fun _ => 0, g⟩ (fun r => ∀ c : Dev Cert.MlaDoIdeal.nD,
          r.2.mem ((c.tc : Thread Cert.MlaDoIdeal.nD Cert.MlaDoIdeal.τ).loc Cert.MlaDoIdeal.main_v2) = v0 c
          ∧ r.2.mem ((c.tc : Thread Cert.MlaDoIdeal.nD Cert.MlaDoIdeal.τ).loc Cert.MlaDoIdeal.main_arg0) = m ((c.tc : Thread Cert.MlaDoIdeal.nD Cert.MlaDoIdeal.τ).loc Cert.MlaDoIdeal.main_arg0)
          ∧ r.2.mem ((c.tc : Thread Cert.MlaDoIdeal.nD Cert.MlaDoIdeal.τ).loc Cert.MlaDoIdeal.main_arg1) = m ((c.tc : Thread Cert.MlaDoIdeal.nD Cert.MlaDoIdeal.τ).loc Cert.MlaDoIdeal.main_arg1))
      ∧ θ_run (Cert.MlaDoRefIdeal.defs (F := Ideal)) (onTc (τ := Cert.MlaDoRefIdeal.τ) (Cert.MlaDoRefIdeal.main (F := Ideal))) ⟨m', fun _ => 0, g'⟩ (fun r => ∀ c : Dev Cert.MlaDoRefIdeal.nD,
          r.2.mem ((c.tc : Thread Cert.MlaDoRefIdeal.nD Cert.MlaDoRefIdeal.τ).loc Cert.MlaDoRefIdeal.main_v3) = v0 c
          ∧ r.2.mem ((c.tc : Thread Cert.MlaDoRefIdeal.nD Cert.MlaDoRefIdeal.τ).loc Cert.MlaDoRefIdeal.main_arg0) = m' ((c.tc : Thread Cert.MlaDoRefIdeal.nD Cert.MlaDoRefIdeal.τ).loc Cert.MlaDoRefIdeal.main_arg0)
          ∧ r.2.mem ((c.tc : Thread Cert.MlaDoRefIdeal.nD Cert.MlaDoRefIdeal.τ).loc Cert.MlaDoRefIdeal.main_arg1) = m' ((c.tc : Thread Cert.MlaDoRefIdeal.nD Cert.MlaDoRefIdeal.τ).loc Cert.MlaDoRefIdeal.main_arg1))

def preserves_MlaDwo_MlaDwoIdeal : Prop :=
  True

def algebraic_MlaDwoIdeal_MlaDwoRefIdeal [hMlaDwoIdeal : Cert.MlaDwoIdeal.Facts] [hMlaDwoRefIdeal : Cert.MlaDwoRefIdeal.Facts] : Prop :=
  ∀ (m : (ℓ : Loc Cert.MlaDwoIdeal.nD Cert.MlaDwoIdeal.τ Cert.MlaDwoIdeal.sig) → Buf (Elt Ideal) ℓ) (g : Dev Cert.MlaDwoIdeal.nD → PrngReg)
    (m' : (ℓ : Loc Cert.MlaDwoRefIdeal.nD Cert.MlaDwoRefIdeal.τ Cert.MlaDwoRefIdeal.sig) → Buf (Elt Ideal) ℓ) (g' : Dev Cert.MlaDwoRefIdeal.nD → PrngReg), Pre_MlaDwoIdeal m →
    (∀ c : Dev Cert.MlaDwoIdeal.nD,
      m' ((c.tc : Thread Cert.MlaDwoRefIdeal.nD Cert.MlaDwoRefIdeal.τ).loc Cert.MlaDwoRefIdeal.main_arg0) = m ((c.tc : Thread Cert.MlaDwoIdeal.nD Cert.MlaDwoIdeal.τ).loc Cert.MlaDwoIdeal.main_arg0)
      ∧ m' ((c.tc : Thread Cert.MlaDwoRefIdeal.nD Cert.MlaDwoRefIdeal.τ).loc Cert.MlaDwoRefIdeal.main_arg1) = m ((c.tc : Thread Cert.MlaDwoIdeal.nD Cert.MlaDwoIdeal.τ).loc Cert.MlaDwoIdeal.main_arg1)) →
    ∃ (v0 : (c : Dev Cert.MlaDwoIdeal.nD) → Buf (Elt Ideal) ((c.tc : Thread Cert.MlaDwoIdeal.nD Cert.MlaDwoIdeal.τ).loc Cert.MlaDwoIdeal.main_v2)),
      θ_run (Cert.MlaDwoIdeal.defs (F := Ideal)) (onTc (τ := Cert.MlaDwoIdeal.τ) (Cert.MlaDwoIdeal.main (F := Ideal))) ⟨m, fun _ => 0, g⟩ (fun r => ∀ c : Dev Cert.MlaDwoIdeal.nD,
          r.2.mem ((c.tc : Thread Cert.MlaDwoIdeal.nD Cert.MlaDwoIdeal.τ).loc Cert.MlaDwoIdeal.main_v2) = v0 c
          ∧ r.2.mem ((c.tc : Thread Cert.MlaDwoIdeal.nD Cert.MlaDwoIdeal.τ).loc Cert.MlaDwoIdeal.main_arg0) = m ((c.tc : Thread Cert.MlaDwoIdeal.nD Cert.MlaDwoIdeal.τ).loc Cert.MlaDwoIdeal.main_arg0)
          ∧ r.2.mem ((c.tc : Thread Cert.MlaDwoIdeal.nD Cert.MlaDwoIdeal.τ).loc Cert.MlaDwoIdeal.main_arg1) = m ((c.tc : Thread Cert.MlaDwoIdeal.nD Cert.MlaDwoIdeal.τ).loc Cert.MlaDwoIdeal.main_arg1))
      ∧ θ_run (Cert.MlaDwoRefIdeal.defs (F := Ideal)) (onTc (τ := Cert.MlaDwoRefIdeal.τ) (Cert.MlaDwoRefIdeal.main (F := Ideal))) ⟨m', fun _ => 0, g'⟩ (fun r => ∀ c : Dev Cert.MlaDwoRefIdeal.nD,
          r.2.mem ((c.tc : Thread Cert.MlaDwoRefIdeal.nD Cert.MlaDwoRefIdeal.τ).loc Cert.MlaDwoRefIdeal.main_v3) = v0 c
          ∧ r.2.mem ((c.tc : Thread Cert.MlaDwoRefIdeal.nD Cert.MlaDwoRefIdeal.τ).loc Cert.MlaDwoRefIdeal.main_arg0) = m' ((c.tc : Thread Cert.MlaDwoRefIdeal.nD Cert.MlaDwoRefIdeal.τ).loc Cert.MlaDwoRefIdeal.main_arg0)
          ∧ r.2.mem ((c.tc : Thread Cert.MlaDwoRefIdeal.nD Cert.MlaDwoRefIdeal.τ).loc Cert.MlaDwoRefIdeal.main_arg1) = m' ((c.tc : Thread Cert.MlaDwoRefIdeal.nD Cert.MlaDwoRefIdeal.τ).loc Cert.MlaDwoRefIdeal.main_arg1))

def preserves_MlaDh_MlaDhIdeal : Prop :=
  True

def algebraic_MlaDhIdeal_MlaDhRefIdeal [hMlaDhIdeal : Cert.MlaDhIdeal.Facts] [hMlaDhRefIdeal : Cert.MlaDhRefIdeal.Facts] : Prop :=
  ∀ (m : (ℓ : Loc Cert.MlaDhIdeal.nD Cert.MlaDhIdeal.τ Cert.MlaDhIdeal.sig) → Buf (Elt Ideal) ℓ) (g : Dev Cert.MlaDhIdeal.nD → PrngReg)
    (m' : (ℓ : Loc Cert.MlaDhRefIdeal.nD Cert.MlaDhRefIdeal.τ Cert.MlaDhRefIdeal.sig) → Buf (Elt Ideal) ℓ) (g' : Dev Cert.MlaDhRefIdeal.nD → PrngReg), Pre_MlaDhIdeal m →
    (∀ c : Dev Cert.MlaDhIdeal.nD,
      m' ((c.tc : Thread Cert.MlaDhRefIdeal.nD Cert.MlaDhRefIdeal.τ).loc Cert.MlaDhRefIdeal.main_arg0) = m ((c.tc : Thread Cert.MlaDhIdeal.nD Cert.MlaDhIdeal.τ).loc Cert.MlaDhIdeal.main_arg0)
      ∧ m' ((c.tc : Thread Cert.MlaDhRefIdeal.nD Cert.MlaDhRefIdeal.τ).loc Cert.MlaDhRefIdeal.main_arg1) = m ((c.tc : Thread Cert.MlaDhIdeal.nD Cert.MlaDhIdeal.τ).loc Cert.MlaDhIdeal.main_arg1)) →
    ∃ (v0 : (c : Dev Cert.MlaDhIdeal.nD) → Buf (Elt Ideal) ((c.tc : Thread Cert.MlaDhIdeal.nD Cert.MlaDhIdeal.τ).loc Cert.MlaDhIdeal.main_v4)),
      θ_run (Cert.MlaDhIdeal.defs (F := Ideal)) (onTc (τ := Cert.MlaDhIdeal.τ) (Cert.MlaDhIdeal.main (F := Ideal))) ⟨m, fun _ => 0, g⟩ (fun r => ∀ c : Dev Cert.MlaDhIdeal.nD,
          r.2.mem ((c.tc : Thread Cert.MlaDhIdeal.nD Cert.MlaDhIdeal.τ).loc Cert.MlaDhIdeal.main_v4) = v0 c
          ∧ r.2.mem ((c.tc : Thread Cert.MlaDhIdeal.nD Cert.MlaDhIdeal.τ).loc Cert.MlaDhIdeal.main_arg0) = m ((c.tc : Thread Cert.MlaDhIdeal.nD Cert.MlaDhIdeal.τ).loc Cert.MlaDhIdeal.main_arg0)
          ∧ r.2.mem ((c.tc : Thread Cert.MlaDhIdeal.nD Cert.MlaDhIdeal.τ).loc Cert.MlaDhIdeal.main_arg1) = m ((c.tc : Thread Cert.MlaDhIdeal.nD Cert.MlaDhIdeal.τ).loc Cert.MlaDhIdeal.main_arg1))
      ∧ θ_run (Cert.MlaDhRefIdeal.defs (F := Ideal)) (onTc (τ := Cert.MlaDhRefIdeal.τ) (Cert.MlaDhRefIdeal.main (F := Ideal))) ⟨m', fun _ => 0, g'⟩ (fun r => ∀ c : Dev Cert.MlaDhRefIdeal.nD,
          r.2.mem ((c.tc : Thread Cert.MlaDhRefIdeal.nD Cert.MlaDhRefIdeal.τ).loc Cert.MlaDhRefIdeal.main_v3) = v0 c
          ∧ r.2.mem ((c.tc : Thread Cert.MlaDhRefIdeal.nD Cert.MlaDhRefIdeal.τ).loc Cert.MlaDhRefIdeal.main_arg0) = m' ((c.tc : Thread Cert.MlaDhRefIdeal.nD Cert.MlaDhRefIdeal.τ).loc Cert.MlaDhRefIdeal.main_arg0)
          ∧ r.2.mem ((c.tc : Thread Cert.MlaDhRefIdeal.nD Cert.MlaDhRefIdeal.τ).loc Cert.MlaDhRefIdeal.main_arg1) = m' ((c.tc : Thread Cert.MlaDhRefIdeal.nD Cert.MlaDhRefIdeal.τ).loc Cert.MlaDhRefIdeal.main_arg1))

def preserves_MlaDwin_MlaDwinIdeal : Prop :=
  True

def algebraic_MlaDwinIdeal_MlaDwinRefIdeal [hMlaDwinIdeal : Cert.MlaDwinIdeal.Facts] [hMlaDwinRefIdeal : Cert.MlaDwinRefIdeal.Facts] : Prop :=
  ∀ (m : (ℓ : Loc Cert.MlaDwinIdeal.nD Cert.MlaDwinIdeal.τ Cert.MlaDwinIdeal.sig) → Buf (Elt Ideal) ℓ) (g : Dev Cert.MlaDwinIdeal.nD → PrngReg)
    (m' : (ℓ : Loc Cert.MlaDwinRefIdeal.nD Cert.MlaDwinRefIdeal.τ Cert.MlaDwinRefIdeal.sig) → Buf (Elt Ideal) ℓ) (g' : Dev Cert.MlaDwinRefIdeal.nD → PrngReg), Pre_MlaDwinIdeal m →
    (∀ c : Dev Cert.MlaDwinIdeal.nD,
      m' ((c.tc : Thread Cert.MlaDwinRefIdeal.nD Cert.MlaDwinRefIdeal.τ).loc Cert.MlaDwinRefIdeal.main_arg0) = m ((c.tc : Thread Cert.MlaDwinIdeal.nD Cert.MlaDwinIdeal.τ).loc Cert.MlaDwinIdeal.main_arg0)
      ∧ m' ((c.tc : Thread Cert.MlaDwinRefIdeal.nD Cert.MlaDwinRefIdeal.τ).loc Cert.MlaDwinRefIdeal.main_arg1) = m ((c.tc : Thread Cert.MlaDwinIdeal.nD Cert.MlaDwinIdeal.τ).loc Cert.MlaDwinIdeal.main_arg1)) →
    ∃ (v0 : (c : Dev Cert.MlaDwinIdeal.nD) → Buf (Elt Ideal) ((c.tc : Thread Cert.MlaDwinIdeal.nD Cert.MlaDwinIdeal.τ).loc Cert.MlaDwinIdeal.main_v3)),
      θ_run (Cert.MlaDwinIdeal.defs (F := Ideal)) (onTc (τ := Cert.MlaDwinIdeal.τ) (Cert.MlaDwinIdeal.main (F := Ideal))) ⟨m, fun _ => 0, g⟩ (fun r => ∀ c : Dev Cert.MlaDwinIdeal.nD,
          r.2.mem ((c.tc : Thread Cert.MlaDwinIdeal.nD Cert.MlaDwinIdeal.τ).loc Cert.MlaDwinIdeal.main_v3) = v0 c
          ∧ r.2.mem ((c.tc : Thread Cert.MlaDwinIdeal.nD Cert.MlaDwinIdeal.τ).loc Cert.MlaDwinIdeal.main_arg0) = m ((c.tc : Thread Cert.MlaDwinIdeal.nD Cert.MlaDwinIdeal.τ).loc Cert.MlaDwinIdeal.main_arg0)
          ∧ r.2.mem ((c.tc : Thread Cert.MlaDwinIdeal.nD Cert.MlaDwinIdeal.τ).loc Cert.MlaDwinIdeal.main_arg1) = m ((c.tc : Thread Cert.MlaDwinIdeal.nD Cert.MlaDwinIdeal.τ).loc Cert.MlaDwinIdeal.main_arg1))
      ∧ θ_run (Cert.MlaDwinRefIdeal.defs (F := Ideal)) (onTc (τ := Cert.MlaDwinRefIdeal.τ) (Cert.MlaDwinRefIdeal.main (F := Ideal))) ⟨m', fun _ => 0, g'⟩ (fun r => ∀ c : Dev Cert.MlaDwinRefIdeal.nD,
          r.2.mem ((c.tc : Thread Cert.MlaDwinRefIdeal.nD Cert.MlaDwinRefIdeal.τ).loc Cert.MlaDwinRefIdeal.main_v4) = v0 c
          ∧ r.2.mem ((c.tc : Thread Cert.MlaDwinRefIdeal.nD Cert.MlaDwinRefIdeal.τ).loc Cert.MlaDwinRefIdeal.main_arg0) = m' ((c.tc : Thread Cert.MlaDwinRefIdeal.nD Cert.MlaDwinRefIdeal.τ).loc Cert.MlaDwinRefIdeal.main_arg0)
          ∧ r.2.mem ((c.tc : Thread Cert.MlaDwinRefIdeal.nD Cert.MlaDwinRefIdeal.τ).loc Cert.MlaDwinRefIdeal.main_arg1) = m' ((c.tc : Thread Cert.MlaDwinRefIdeal.nD Cert.MlaDwinRefIdeal.τ).loc Cert.MlaDwinRefIdeal.main_arg1))

def preserves_MlaLat_MlaLatIdeal : Prop :=
  True

def algebraic_MlaLatIdeal_MlaLatRefIdeal [hMlaLatIdeal : Cert.MlaLatIdeal.Facts] [hMlaLatRefIdeal : Cert.MlaLatRefIdeal.Facts] : Prop :=
  ∀ (m : (ℓ : Loc Cert.MlaLatIdeal.nD Cert.MlaLatIdeal.τ Cert.MlaLatIdeal.sig) → Buf (Elt Ideal) ℓ) (g : Dev Cert.MlaLatIdeal.nD → PrngReg)
    (m' : (ℓ : Loc Cert.MlaLatRefIdeal.nD Cert.MlaLatRefIdeal.τ Cert.MlaLatRefIdeal.sig) → Buf (Elt Ideal) ℓ) (g' : Dev Cert.MlaLatRefIdeal.nD → PrngReg), Pre_MlaLatIdeal m →
    (∀ c : Dev Cert.MlaLatIdeal.nD,
      m' ((c.tc : Thread Cert.MlaLatRefIdeal.nD Cert.MlaLatRefIdeal.τ).loc Cert.MlaLatRefIdeal.main_arg0) = m ((c.tc : Thread Cert.MlaLatIdeal.nD Cert.MlaLatIdeal.τ).loc Cert.MlaLatIdeal.main_arg0)
      ∧ m' ((c.tc : Thread Cert.MlaLatRefIdeal.nD Cert.MlaLatRefIdeal.τ).loc Cert.MlaLatRefIdeal.main_arg1) = m ((c.tc : Thread Cert.MlaLatIdeal.nD Cert.MlaLatIdeal.τ).loc Cert.MlaLatIdeal.main_arg1)) →
    ∃ (v0 : (c : Dev Cert.MlaLatIdeal.nD) → Buf (Elt Ideal) ((c.tc : Thread Cert.MlaLatIdeal.nD Cert.MlaLatIdeal.τ).loc Cert.MlaLatIdeal.main_v3)),
      θ_run (Cert.MlaLatIdeal.defs (F := Ideal)) (onTc (τ := Cert.MlaLatIdeal.τ) (Cert.MlaLatIdeal.main (F := Ideal))) ⟨m, fun _ => 0, g⟩ (fun r => ∀ c : Dev Cert.MlaLatIdeal.nD,
          r.2.mem ((c.tc : Thread Cert.MlaLatIdeal.nD Cert.MlaLatIdeal.τ).loc Cert.MlaLatIdeal.main_v3) = v0 c
          ∧ r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
          ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1))
      ∧ θ_run (Cert.MlaLatRefIdeal.defs (F := Ideal)) (onTc (τ := Cert.MlaLatRefIdeal.τ) (Cert.MlaLatRefIdeal.main (F := Ideal))) ⟨m', fun _ => 0, g'⟩ (fun r => ∀ c : Dev Cert.MlaLatRefIdeal.nD,
          r.2.mem ((c.tc : Thread Cert.MlaLatRefIdeal.nD Cert.MlaLatRefIdeal.τ).loc Cert.MlaLatRefIdeal.main_v1) = v0 c
          ∧ r.2.mem ((c.tc : Thread Cert.MlaLatRefIdeal.nD Cert.MlaLatRefIdeal.τ).loc Cert.MlaLatRefIdeal.main_arg0) = m' ((c.tc : Thread Cert.MlaLatRefIdeal.nD Cert.MlaLatRefIdeal.τ).loc Cert.MlaLatRefIdeal.main_arg0)
          ∧ r.2.mem ((c.tc : Thread Cert.MlaLatRefIdeal.nD Cert.MlaLatRefIdeal.τ).loc Cert.MlaLatRefIdeal.main_arg1) = m' ((c.tc : Thread Cert.MlaLatRefIdeal.nD Cert.MlaLatRefIdeal.τ).loc Cert.MlaLatRefIdeal.main_arg1))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v2)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v2) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v1) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1))

def preserves_MlaUv_MlaUvIdeal : Prop :=
  True

def algebraic_MlaUvIdeal_MlaUvRefIdeal [hMlaUvIdeal : Cert.MlaUvIdeal.Facts] [hMlaUvRefIdeal : Cert.MlaUvRefIdeal.Facts] : Prop :=
  ∀ (m : (ℓ : Loc Cert.MlaUvIdeal.nD Cert.MlaUvIdeal.τ Cert.MlaUvIdeal.sig) → Buf (Elt Ideal) ℓ) (g : Dev Cert.MlaUvIdeal.nD → PrngReg)
    (m' : (ℓ : Loc Cert.MlaUvRefIdeal.nD Cert.MlaUvRefIdeal.τ Cert.MlaUvRefIdeal.sig) → Buf (Elt Ideal) ℓ) (g' : Dev Cert.MlaUvRefIdeal.nD → PrngReg), Pre_MlaUvIdeal m →
    (∀ c : Dev Cert.MlaUvIdeal.nD,
      m' ((c.tc : Thread Cert.MlaUvRefIdeal.nD Cert.MlaUvRefIdeal.τ).loc Cert.MlaUvRefIdeal.main_arg0) = m ((c.tc : Thread Cert.MlaUvIdeal.nD Cert.MlaUvIdeal.τ).loc Cert.MlaUvIdeal.main_arg0)
      ∧ m' ((c.tc : Thread Cert.MlaUvRefIdeal.nD Cert.MlaUvRefIdeal.τ).loc Cert.MlaUvRefIdeal.main_arg1) = m ((c.tc : Thread Cert.MlaUvIdeal.nD Cert.MlaUvIdeal.τ).loc Cert.MlaUvIdeal.main_arg1)) →
    ∃ (v0 : (c : Dev Cert.MlaUvIdeal.nD) → Buf (Elt Ideal) ((c.tc : Thread Cert.MlaUvIdeal.nD Cert.MlaUvIdeal.τ).loc Cert.MlaUvIdeal.main_v14)),
      θ_run (Cert.MlaUvIdeal.defs (F := Ideal)) (onTc (τ := Cert.MlaUvIdeal.τ) (Cert.MlaUvIdeal.main (F := Ideal))) ⟨m, fun _ => 0, g⟩ (fun r => ∀ c : Dev Cert.MlaUvIdeal.nD,
          r.2.mem ((c.tc : Thread Cert.MlaUvIdeal.nD Cert.MlaUvIdeal.τ).loc Cert.MlaUvIdeal.main_v14) = v0 c
          ∧ r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
          ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1))
      ∧ θ_run (Cert.MlaUvRefIdeal.defs (F := Ideal)) (onTc (τ := Cert.MlaUvRefIdeal.τ) (Cert.MlaUvRefIdeal.main (F := Ideal))) ⟨m', fun _ => 0, g'⟩ (fun r => ∀ c : Dev Cert.MlaUvRefIdeal.nD,
          r.2.mem ((c.tc : Thread Cert.MlaUvRefIdeal.nD Cert.MlaUvRefIdeal.τ).loc Cert.MlaUvRefIdeal.main_v3) = v0 c
          ∧ r.2.mem ((c.tc : Thread Cert.MlaUvRefIdeal.nD Cert.MlaUvRefIdeal.τ).loc Cert.MlaUvRefIdeal.main_arg0) = m' ((c.tc : Thread Cert.MlaUvRefIdeal.nD Cert.MlaUvRefIdeal.τ).loc Cert.MlaUvRefIdeal.main_arg0)
          ∧ r.2.mem ((c.tc : Thread Cert.MlaUvRefIdeal.nD Cert.MlaUvRefIdeal.τ).loc Cert.MlaUvRefIdeal.main_arg1) = m' ((c.tc : Thread Cert.MlaUvRefIdeal.nD Cert.MlaUvRefIdeal.τ).loc Cert.MlaUvRefIdeal.main_arg1))

def preserves_PoolProj_PoolProjIdeal : Prop :=
  True

def algebraic_PoolProjIdeal_PoolProjRefIdeal [hPoolProjIdeal : Cert.PoolProjIdeal.Facts] [hPoolProjRefIdeal : Cert.PoolProjRefIdeal.Facts] : Prop :=
  ∀ (m : (ℓ : Loc Cert.PoolProjIdeal.nD Cert.PoolProjIdeal.τ Cert.PoolProjIdeal.sig) → Buf (Elt Ideal) ℓ) (g : Dev Cert.PoolProjIdeal.nD → PrngReg)
    (m' : (ℓ : Loc Cert.PoolProjRefIdeal.nD Cert.PoolProjRefIdeal.τ Cert.PoolProjRefIdeal.sig) → Buf (Elt Ideal) ℓ) (g' : Dev Cert.PoolProjRefIdeal.nD → PrngReg), Pre_PoolProjIdeal m →
    (∀ c : Dev Cert.PoolProjIdeal.nD,
      m' ((c.tc : Thread Cert.PoolProjRefIdeal.nD Cert.PoolProjRefIdeal.τ).loc Cert.PoolProjRefIdeal.main_arg0) = m ((c.tc : Thread Cert.PoolProjIdeal.nD Cert.PoolProjIdeal.τ).loc Cert.PoolProjIdeal.main_arg0)
      ∧ m' ((c.tc : Thread Cert.PoolProjRefIdeal.nD Cert.PoolProjRefIdeal.τ).loc Cert.PoolProjRefIdeal.main_arg1) = m ((c.tc : Thread Cert.PoolProjIdeal.nD Cert.PoolProjIdeal.τ).loc Cert.PoolProjIdeal.main_arg1)
      ∧ m' ((c.tc : Thread Cert.PoolProjRefIdeal.nD Cert.PoolProjRefIdeal.τ).loc Cert.PoolProjRefIdeal.main_arg2) = m ((c.tc : Thread Cert.PoolProjIdeal.nD Cert.PoolProjIdeal.τ).loc Cert.PoolProjIdeal.main_arg2)) →
    ∃ (v0 : (c : Dev Cert.PoolProjIdeal.nD) → Buf (Elt Ideal) ((c.tc : Thread Cert.PoolProjIdeal.nD Cert.PoolProjIdeal.τ).loc Cert.PoolProjIdeal.main_v3)),
      θ_run (Cert.PoolProjIdeal.defs (F := Ideal)) (onTc (τ := Cert.PoolProjIdeal.τ) (Cert.PoolProjIdeal.main (F := Ideal))) ⟨m, fun _ => 0, g⟩ (fun r => ∀ c : Dev Cert.PoolProjIdeal.nD,
          r.2.mem ((c.tc : Thread Cert.PoolProjIdeal.nD Cert.PoolProjIdeal.τ).loc Cert.PoolProjIdeal.main_v3) = v0 c
          ∧ r.2.mem ((c.tc : Thread Cert.PoolProjIdeal.nD Cert.PoolProjIdeal.τ).loc Cert.PoolProjIdeal.main_arg0) = m ((c.tc : Thread Cert.PoolProjIdeal.nD Cert.PoolProjIdeal.τ).loc Cert.PoolProjIdeal.main_arg0)
          ∧ r.2.mem ((c.tc : Thread Cert.PoolProjIdeal.nD Cert.PoolProjIdeal.τ).loc Cert.PoolProjIdeal.main_arg1) = m ((c.tc : Thread Cert.PoolProjIdeal.nD Cert.PoolProjIdeal.τ).loc Cert.PoolProjIdeal.main_arg1)
          ∧ r.2.mem ((c.tc : Thread Cert.PoolProjIdeal.nD Cert.PoolProjIdeal.τ).loc Cert.PoolProjIdeal.main_arg2) = m ((c.tc : Thread Cert.PoolProjIdeal.nD Cert.PoolProjIdeal.τ).loc Cert.PoolProjIdeal.main_arg2))
      ∧ θ_run (Cert.PoolProjRefIdeal.defs (F := Ideal)) (onTc (τ := Cert.PoolProjRefIdeal.τ) (Cert.PoolProjRefIdeal.main (F := Ideal))) ⟨m', fun _ => 0, g'⟩ (fun r => ∀ c : Dev Cert.PoolProjRefIdeal.nD,
          r.2.mem ((c.tc : Thread Cert.PoolProjRefIdeal.nD Cert.PoolProjRefIdeal.τ).loc Cert.PoolProjRefIdeal.main_v6) = v0 c
          ∧ r.2.mem ((c.tc : Thread Cert.PoolProjRefIdeal.nD Cert.PoolProjRefIdeal.τ).loc Cert.PoolProjRefIdeal.main_arg0) = m' ((c.tc : Thread Cert.PoolProjRefIdeal.nD Cert.PoolProjRefIdeal.τ).loc Cert.PoolProjRefIdeal.main_arg0)
          ∧ r.2.mem ((c.tc : Thread Cert.PoolProjRefIdeal.nD Cert.PoolProjRefIdeal.τ).loc Cert.PoolProjRefIdeal.main_arg1) = m' ((c.tc : Thread Cert.PoolProjRefIdeal.nD Cert.PoolProjRefIdeal.τ).loc Cert.PoolProjRefIdeal.main_arg1)
          ∧ r.2.mem ((c.tc : Thread Cert.PoolProjRefIdeal.nD Cert.PoolProjRefIdeal.τ).loc Cert.PoolProjRefIdeal.main_arg2) = m' ((c.tc : Thread Cert.PoolProjRefIdeal.nD Cert.PoolProjRefIdeal.τ).loc Cert.PoolProjRefIdeal.main_arg2))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v2)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v2) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v12) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def preserves_PoolDz_PoolDzIdeal : Prop :=
  True

def algebraic_PoolDzIdeal_PoolDzRefIdeal [hPoolDzIdeal : Cert.PoolDzIdeal.Facts] [hPoolDzRefIdeal : Cert.PoolDzRefIdeal.Facts] : Prop :=
  ∀ (m : (ℓ : Loc Cert.PoolDzIdeal.nD Cert.PoolDzIdeal.τ Cert.PoolDzIdeal.sig) → Buf (Elt Ideal) ℓ) (g : Dev Cert.PoolDzIdeal.nD → PrngReg)
    (m' : (ℓ : Loc Cert.PoolDzRefIdeal.nD Cert.PoolDzRefIdeal.τ Cert.PoolDzRefIdeal.sig) → Buf (Elt Ideal) ℓ) (g' : Dev Cert.PoolDzRefIdeal.nD → PrngReg), Pre_PoolDzIdeal m →
    (∀ c : Dev Cert.PoolDzIdeal.nD,
      m' ((c.tc : Thread Cert.PoolDzRefIdeal.nD Cert.PoolDzRefIdeal.τ).loc Cert.PoolDzRefIdeal.main_arg0) = m ((c.tc : Thread Cert.PoolDzIdeal.nD Cert.PoolDzIdeal.τ).loc Cert.PoolDzIdeal.main_arg0)
      ∧ m' ((c.tc : Thread Cert.PoolDzRefIdeal.nD Cert.PoolDzRefIdeal.τ).loc Cert.PoolDzRefIdeal.main_arg1) = m ((c.tc : Thread Cert.PoolDzIdeal.nD Cert.PoolDzIdeal.τ).loc Cert.PoolDzIdeal.main_arg1)) →
    ∃ (v0 : (c : Dev Cert.PoolDzIdeal.nD) → Buf (Elt Ideal) ((c.tc : Thread Cert.PoolDzIdeal.nD Cert.PoolDzIdeal.τ).loc Cert.PoolDzIdeal.main_v2)),
      θ_run (Cert.PoolDzIdeal.defs (F := Ideal)) (onTc (τ := Cert.PoolDzIdeal.τ) (Cert.PoolDzIdeal.main (F := Ideal))) ⟨m, fun _ => 0, g⟩ (fun r => ∀ c : Dev Cert.PoolDzIdeal.nD,
          r.2.mem ((c.tc : Thread Cert.PoolDzIdeal.nD Cert.PoolDzIdeal.τ).loc Cert.PoolDzIdeal.main_v2) = v0 c
          ∧ r.2.mem ((c.tc : Thread Cert.PoolDzIdeal.nD Cert.PoolDzIdeal.τ).loc Cert.PoolDzIdeal.main_arg0) = m ((c.tc : Thread Cert.PoolDzIdeal.nD Cert.PoolDzIdeal.τ).loc Cert.PoolDzIdeal.main_arg0)
          ∧ r.2.mem ((c.tc : Thread Cert.PoolDzIdeal.nD Cert.PoolDzIdeal.τ).loc Cert.PoolDzIdeal.main_arg1) = m ((c.tc : Thread Cert.PoolDzIdeal.nD Cert.PoolDzIdeal.τ).loc Cert.PoolDzIdeal.main_arg1))
      ∧ θ_run (Cert.PoolDzRefIdeal.defs (F := Ideal)) (onTc (τ := Cert.PoolDzRefIdeal.τ) (Cert.PoolDzRefIdeal.main (F := Ideal))) ⟨m', fun _ => 0, g'⟩ (fun r => ∀ c : Dev Cert.PoolDzRefIdeal.nD,
          r.2.mem ((c.tc : Thread Cert.PoolDzRefIdeal.nD Cert.PoolDzRefIdeal.τ).loc Cert.PoolDzRefIdeal.main_v13) = v0 c
          ∧ r.2.mem ((c.tc : Thread Cert.PoolDzRefIdeal.nD Cert.PoolDzRefIdeal.τ).loc Cert.PoolDzRefIdeal.main_arg0) = m' ((c.tc : Thread Cert.PoolDzRefIdeal.nD Cert.PoolDzRefIdeal.τ).loc Cert.PoolDzRefIdeal.main_arg0)
          ∧ r.2.mem ((c.tc : Thread Cert.PoolDzRefIdeal.nD Cert.PoolDzRefIdeal.τ).loc Cert.PoolDzRefIdeal.main_arg1) = m' ((c.tc : Thread Cert.PoolDzRefIdeal.nD Cert.PoolDzRefIdeal.τ).loc Cert.PoolDzRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)) →
    ∃ (v0 : (c : Dev Cert.PreNormIdeal.nD) → Buf (Elt Ideal) ((c.tc : Thread Cert.PreNormIdeal.nD Cert.PreNormIdeal.τ).loc Cert.PreNormIdeal.main_v2)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v2) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v21) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2))

def preserves_NormLink_NormLinkIdeal : Prop :=
  True

def algebraic_NormLinkIdeal_NormLinkRefIdeal [hNormLinkIdeal : Cert.NormLinkIdeal.Facts] [hNormLinkRefIdeal : Cert.NormLinkRefIdeal.Facts] : Prop :=
  ∀ (m : (ℓ : Loc Cert.NormLinkIdeal.nD Cert.NormLinkIdeal.τ Cert.NormLinkIdeal.sig) → Buf (Elt Ideal) ℓ) (g : Dev Cert.NormLinkIdeal.nD → PrngReg)
    (m' : (ℓ : Loc Cert.NormLinkRefIdeal.nD Cert.NormLinkRefIdeal.τ Cert.NormLinkRefIdeal.sig) → Buf (Elt Ideal) ℓ) (g' : Dev Cert.NormLinkRefIdeal.nD → PrngReg), Pre_NormLinkIdeal m →
    (∀ c : Dev Cert.NormLinkIdeal.nD,
      m' ((c.tc : Thread Cert.NormLinkRefIdeal.nD Cert.NormLinkRefIdeal.τ).loc Cert.NormLinkRefIdeal.main_arg0) = m ((c.tc : Thread Cert.NormLinkIdeal.nD Cert.NormLinkIdeal.τ).loc Cert.NormLinkIdeal.main_arg0)
      ∧ m' ((c.tc : Thread Cert.NormLinkRefIdeal.nD Cert.NormLinkRefIdeal.τ).loc Cert.NormLinkRefIdeal.main_arg1) = m ((c.tc : Thread Cert.NormLinkIdeal.nD Cert.NormLinkIdeal.τ).loc Cert.NormLinkIdeal.main_arg1)
      ∧ m' ((c.tc : Thread Cert.NormLinkRefIdeal.nD Cert.NormLinkRefIdeal.τ).loc Cert.NormLinkRefIdeal.main_arg2) = m ((c.tc : Thread Cert.NormLinkIdeal.nD Cert.NormLinkIdeal.τ).loc Cert.NormLinkIdeal.main_arg2)
      ∧ m' ((c.tc : Thread Cert.NormLinkRefIdeal.nD Cert.NormLinkRefIdeal.τ).loc Cert.NormLinkRefIdeal.main_arg3) = m ((c.tc : Thread Cert.NormLinkIdeal.nD Cert.NormLinkIdeal.τ).loc Cert.NormLinkIdeal.main_arg3)) →
    ∃ (v0 : (c : Dev Cert.NormLinkIdeal.nD) → Buf (Elt Ideal) ((c.tc : Thread Cert.NormLinkIdeal.nD Cert.NormLinkIdeal.τ).loc Cert.NormLinkIdeal.main_v3_0)) (v1 : (c : Dev Cert.NormLinkIdeal.nD) → Buf (Elt Ideal) ((c.tc : Thread Cert.NormLinkIdeal.nD Cert.NormLinkIdeal.τ).loc Cert.NormLinkIdeal.main_v3_1)),
      θ_run (Cert.NormLinkIdeal.defs (F := Ideal)) (onTc (τ := Cert.NormLinkIdeal.τ) (Cert.NormLinkIdeal.main (F := Ideal))) ⟨m, fun _ => 0, g⟩ (fun r => ∀ c : Dev Cert.NormLinkIdeal.nD,
          r.2.mem ((c.tc : Thread Cert.NormLinkIdeal.nD Cert.NormLinkIdeal.τ).loc Cert.NormLinkIdeal.main_v3_0) = v0 c
          ∧ r.2.mem ((c.tc : Thread Cert.NormLinkIdeal.nD Cert.NormLinkIdeal.τ).loc Cert.NormLinkIdeal.main_v3_1) = v1 c
          ∧ r.2.mem ((c.tc : Thread Cert.NormLinkIdeal.nD Cert.NormLinkIdeal.τ).loc Cert.NormLinkIdeal.main_arg0) = m ((c.tc : Thread Cert.NormLinkIdeal.nD Cert.NormLinkIdeal.τ).loc Cert.NormLinkIdeal.main_arg0)
          ∧ r.2.mem ((c.tc : Thread Cert.NormLinkIdeal.nD Cert.NormLinkIdeal.τ).loc Cert.NormLinkIdeal.main_arg1) = m ((c.tc : Thread Cert.NormLinkIdeal.nD Cert.NormLinkIdeal.τ).loc Cert.NormLinkIdeal.main_arg1)
          ∧ r.2.mem ((c.tc : Thread Cert.NormLinkIdeal.nD Cert.NormLinkIdeal.τ).loc Cert.NormLinkIdeal.main_arg2) = m ((c.tc : Thread Cert.NormLinkIdeal.nD Cert.NormLinkIdeal.τ).loc Cert.NormLinkIdeal.main_arg2)
          ∧ r.2.mem ((c.tc : Thread Cert.NormLinkIdeal.nD Cert.NormLinkIdeal.τ).loc Cert.NormLinkIdeal.main_arg3) = m ((c.tc : Thread Cert.NormLinkIdeal.nD Cert.NormLinkIdeal.τ).loc Cert.NormLinkIdeal.main_arg3))
      ∧ θ_run (Cert.NormLinkRefIdeal.defs (F := Ideal)) (onTc (τ := Cert.NormLinkRefIdeal.τ) (Cert.NormLinkRefIdeal.main (F := Ideal))) ⟨m', fun _ => 0, g'⟩ (fun r => ∀ c : Dev Cert.NormLinkRefIdeal.nD,
          r.2.mem ((c.tc : Thread Cert.NormLinkRefIdeal.nD Cert.NormLinkRefIdeal.τ).loc Cert.NormLinkRefIdeal.main_v20) = v0 c
          ∧ r.2.mem ((c.tc : Thread Cert.NormLinkRefIdeal.nD Cert.NormLinkRefIdeal.τ).loc Cert.NormLinkRefIdeal.main_v42) = v1 c
          ∧ r.2.mem ((c.tc : Thread Cert.NormLinkRefIdeal.nD Cert.NormLinkRefIdeal.τ).loc Cert.NormLinkRefIdeal.main_arg0) = m' ((c.tc : Thread Cert.NormLinkRefIdeal.nD Cert.NormLinkRefIdeal.τ).loc Cert.NormLinkRefIdeal.main_arg0)
          ∧ r.2.mem ((c.tc : Thread Cert.NormLinkRefIdeal.nD Cert.NormLinkRefIdeal.τ).loc Cert.NormLinkRefIdeal.main_arg1) = m' ((c.tc : Thread Cert.NormLinkRefIdeal.nD Cert.NormLinkRefIdeal.τ).loc Cert.NormLinkRefIdeal.main_arg1)
          ∧ r.2.mem ((c.tc : Thread Cert.NormLinkRefIdeal.nD Cert.NormLinkRefIdeal.τ).loc Cert.NormLinkRefIdeal.main_arg2) = m' ((c.tc : Thread Cert.NormLinkRefIdeal.nD Cert.NormLinkRefIdeal.τ).loc Cert.NormLinkRefIdeal.main_arg2)
          ∧ r.2.mem ((c.tc : Thread Cert.NormLinkRefIdeal.nD Cert.NormLinkRefIdeal.τ).loc Cert.NormLinkRefIdeal.main_arg3) = m' ((c.tc : Thread Cert.NormLinkRefIdeal.nD Cert.NormLinkRefIdeal.τ).loc Cert.NormLinkRefIdeal.main_arg3))

def preserves_PreNormBwd_PreNormBwdIdeal : Prop :=
  True

def algebraic_PreNormBwdIdeal_PreNormBwdRefIdeal [hPreNormBwdIdeal : Cert.PreNormBwdIdeal.Facts] [hPreNormBwdRefIdeal : Cert.PreNormBwdRefIdeal.Facts] : Prop :=
  ∀ (m : (ℓ : Loc Cert.PreNormBwdIdeal.nD Cert.PreNormBwdIdeal.τ Cert.PreNormBwdIdeal.sig) → Buf (Elt Ideal) ℓ) (g : Dev Cert.PreNormBwdIdeal.nD → PrngReg)
    (m' : (ℓ : Loc Cert.PreNormBwdRefIdeal.nD Cert.PreNormBwdRefIdeal.τ Cert.PreNormBwdRefIdeal.sig) → Buf (Elt Ideal) ℓ) (g' : Dev Cert.PreNormBwdRefIdeal.nD → PrngReg), Pre_PreNormBwdIdeal m →
    (∀ c : Dev Cert.PreNormBwdIdeal.nD,
      m' ((c.tc : Thread Cert.PreNormBwdRefIdeal.nD Cert.PreNormBwdRefIdeal.τ).loc Cert.PreNormBwdRefIdeal.main_arg0) = m ((c.tc : Thread Cert.PreNormBwdIdeal.nD Cert.PreNormBwdIdeal.τ).loc Cert.PreNormBwdIdeal.main_arg0)
      ∧ m' ((c.tc : Thread Cert.PreNormBwdRefIdeal.nD Cert.PreNormBwdRefIdeal.τ).loc Cert.PreNormBwdRefIdeal.main_arg1) = m ((c.tc : Thread Cert.PreNormBwdIdeal.nD Cert.PreNormBwdIdeal.τ).loc Cert.PreNormBwdIdeal.main_arg1)
      ∧ m' ((c.tc : Thread Cert.PreNormBwdRefIdeal.nD Cert.PreNormBwdRefIdeal.τ).loc Cert.PreNormBwdRefIdeal.main_arg2) = m ((c.tc : Thread Cert.PreNormBwdIdeal.nD Cert.PreNormBwdIdeal.τ).loc Cert.PreNormBwdIdeal.main_arg2)
      ∧ m' ((c.tc : Thread Cert.PreNormBwdRefIdeal.nD Cert.PreNormBwdRefIdeal.τ).loc Cert.PreNormBwdRefIdeal.main_arg3) = m ((c.tc : Thread Cert.PreNormBwdIdeal.nD Cert.PreNormBwdIdeal.τ).loc Cert.PreNormBwdIdeal.main_arg3)
      ∧ m' ((c.tc : Thread Cert.PreNormBwdRefIdeal.nD Cert.PreNormBwdRefIdeal.τ).loc Cert.PreNormBwdRefIdeal.main_arg4) = m ((c.tc : Thread Cert.PreNormBwdIdeal.nD Cert.PreNormBwdIdeal.τ).loc Cert.PreNormBwdIdeal.main_arg4)) →
    ∃ (v0 : (c : Dev Cert.PreNormBwdIdeal.nD) → Buf (Elt Ideal) ((c.tc : Thread Cert.PreNormBwdIdeal.nD Cert.PreNormBwdIdeal.τ).loc Cert.PreNormBwdIdeal.main_v3_0)) (v1 : (c : Dev Cert.PreNormBwdIdeal.nD) → Buf (Elt Ideal) ((c.tc : Thread Cert.PreNormBwdIdeal.nD Cert.PreNormBwdIdeal.τ).loc Cert.PreNormBwdIdeal.main_v3_1)) (v2 : (c : Dev Cert.PreNormBwdIdeal.nD) → Buf (Elt Ideal) ((c.tc : Thread Cert.PreNormBwdIdeal.nD Cert.PreNormBwdIdeal.τ).loc Cert.PreNormBwdIdeal.main_v3_2)) (v3 : (c : Dev Cert.PreNormBwdIdeal.nD) → Buf (Elt Ideal) ((c.tc : Thread Cert.PreNormBwdIdeal.nD Cert.PreNormBwdIdeal.τ).loc Cert.PreNormBwdIdeal.main_v3_3)),
      θ_run (Cert.PreNormBwdIdeal.defs (F := Ideal)) (onTc (τ := Cert.PreNormBwdIdeal.τ) (Cert.PreNormBwdIdeal.main (F := Ideal))) ⟨m, fun _ => 0, g⟩ (fun r => ∀ c : Dev Cert.PreNormBwdIdeal.nD,
          r.2.mem ((c.tc : Thread Cert.PreNormBwdIdeal.nD Cert.PreNormBwdIdeal.τ).loc Cert.PreNormBwdIdeal.main_v3_0) = v0 c
          ∧ r.2.mem ((c.tc : Thread Cert.PreNormBwdIdeal.nD Cert.PreNormBwdIdeal.τ).loc Cert.PreNormBwdIdeal.main_v3_1) = v1 c
          ∧ r.2.mem ((c.tc : Thread Cert.PreNormBwdIdeal.nD Cert.PreNormBwdIdeal.τ).loc Cert.PreNormBwdIdeal.main_v3_2) = v2 c
          ∧ r.2.mem ((c.tc : Thread Cert.PreNormBwdIdeal.nD Cert.PreNormBwdIdeal.τ).loc Cert.PreNormBwdIdeal.main_v3_3) = v3 c
          ∧ r.2.mem ((c.tc : Thread Cert.PreNormBwdIdeal.nD Cert.PreNormBwdIdeal.τ).loc Cert.PreNormBwdIdeal.main_arg0) = m ((c.tc : Thread Cert.PreNormBwdIdeal.nD Cert.PreNormBwdIdeal.τ).loc Cert.PreNormBwdIdeal.main_arg0)
          ∧ r.2.mem ((c.tc : Thread Cert.PreNormBwdIdeal.nD Cert.PreNormBwdIdeal.τ).loc Cert.PreNormBwdIdeal.main_arg1) = m ((c.tc : Thread Cert.PreNormBwdIdeal.nD Cert.PreNormBwdIdeal.τ).loc Cert.PreNormBwdIdeal.main_arg1)
          ∧ r.2.mem ((c.tc : Thread Cert.PreNormBwdIdeal.nD Cert.PreNormBwdIdeal.τ).loc Cert.PreNormBwdIdeal.main_arg2) = m ((c.tc : Thread Cert.PreNormBwdIdeal.nD Cert.PreNormBwdIdeal.τ).loc Cert.PreNormBwdIdeal.main_arg2)
          ∧ r.2.mem ((c.tc : Thread Cert.PreNormBwdIdeal.nD Cert.PreNormBwdIdeal.τ).loc Cert.PreNormBwdIdeal.main_arg3) = m ((c.tc : Thread Cert.PreNormBwdIdeal.nD Cert.PreNormBwdIdeal.τ).loc Cert.PreNormBwdIdeal.main_arg3)
          ∧ r.2.mem ((c.tc : Thread Cert.PreNormBwdIdeal.nD Cert.PreNormBwdIdeal.τ).loc Cert.PreNormBwdIdeal.main_arg4) = m ((c.tc : Thread Cert.PreNormBwdIdeal.nD Cert.PreNormBwdIdeal.τ).loc Cert.PreNormBwdIdeal.main_arg4))
      ∧ θ_run (Cert.PreNormBwdRefIdeal.defs (F := Ideal)) (onTc (τ := Cert.PreNormBwdRefIdeal.τ) (Cert.PreNormBwdRefIdeal.main (F := Ideal))) ⟨m', fun _ => 0, g'⟩ (fun r => ∀ c : Dev Cert.PreNormBwdRefIdeal.nD,
          r.2.mem ((c.tc : Thread Cert.PreNormBwdRefIdeal.nD Cert.PreNormBwdRefIdeal.τ).loc Cert.PreNormBwdRefIdeal.main_v51) = v0 c
          ∧ r.2.mem ((c.tc : Thread Cert.PreNormBwdRefIdeal.nD Cert.PreNormBwdRefIdeal.τ).loc Cert.PreNormBwdRefIdeal.main_v26) = v1 c
          ∧ r.2.mem ((c.tc : Thread Cert.PreNormBwdRefIdeal.nD Cert.PreNormBwdRefIdeal.τ).loc Cert.PreNormBwdRefIdeal.main_v29) = v2 c
          ∧ r.2.mem ((c.tc : Thread Cert.PreNormBwdRefIdeal.nD Cert.PreNormBwdRefIdeal.τ).loc Cert.PreNormBwdRefIdeal.main_v34) = v3 c
          ∧ r.2.mem ((c.tc : Thread Cert.PreNormBwdRefIdeal.nD Cert.PreNormBwdRefIdeal.τ).loc Cert.PreNormBwdRefIdeal.main_arg0) = m' ((c.tc : Thread Cert.PreNormBwdRefIdeal.nD Cert.PreNormBwdRefIdeal.τ).loc Cert.PreNormBwdRefIdeal.main_arg0)
          ∧ r.2.mem ((c.tc : Thread Cert.PreNormBwdRefIdeal.nD Cert.PreNormBwdRefIdeal.τ).loc Cert.PreNormBwdRefIdeal.main_arg1) = m' ((c.tc : Thread Cert.PreNormBwdRefIdeal.nD Cert.PreNormBwdRefIdeal.τ).loc Cert.PreNormBwdRefIdeal.main_arg1)
          ∧ r.2.mem ((c.tc : Thread Cert.PreNormBwdRefIdeal.nD Cert.PreNormBwdRefIdeal.τ).loc Cert.PreNormBwdRefIdeal.main_arg2) = m' ((c.tc : Thread Cert.PreNormBwdRefIdeal.nD Cert.PreNormBwdRefIdeal.τ).loc Cert.PreNormBwdRefIdeal.main_arg2)
          ∧ r.2.mem ((c.tc : Thread Cert.PreNormBwdRefIdeal.nD Cert.PreNormBwdRefIdeal.τ).loc Cert.PreNormBwdRefIdeal.main_arg3) = m' ((c.tc : Thread Cert.PreNormBwdRefIdeal.nD Cert.PreNormBwdRefIdeal.τ).loc Cert.PreNormBwdRefIdeal.main_arg3)
          ∧ r.2.mem ((c.tc : Thread Cert.PreNormBwdRefIdeal.nD Cert.PreNormBwdRefIdeal.τ).loc Cert.PreNormBwdRefIdeal.main_arg4) = m' ((c.tc : Thread Cert.PreNormBwdRefIdeal.nD Cert.PreNormBwdRefIdeal.τ).loc Cert.PreNormBwdRefIdeal.main_arg4))

def preserves_NormLinkBwd_NormLinkBwdIdeal : Prop :=
  True

def algebraic_NormLinkBwdIdeal_NormLinkBwdRefIdeal [hNormLinkBwdIdeal : Cert.NormLinkBwdIdeal.Facts] [hNormLinkBwdRefIdeal : Cert.NormLinkBwdRefIdeal.Facts] : Prop :=
  ∀ (m : (ℓ : Loc Cert.NormLinkBwdIdeal.nD Cert.NormLinkBwdIdeal.τ Cert.NormLinkBwdIdeal.sig) → Buf (Elt Ideal) ℓ) (g : Dev Cert.NormLinkBwdIdeal.nD → PrngReg)
    (m' : (ℓ : Loc Cert.NormLinkBwdRefIdeal.nD Cert.NormLinkBwdRefIdeal.τ Cert.NormLinkBwdRefIdeal.sig) → Buf (Elt Ideal) ℓ) (g' : Dev Cert.NormLinkBwdRefIdeal.nD → PrngReg), Pre_NormLinkBwdIdeal m →
    (∀ c : Dev Cert.NormLinkBwdIdeal.nD,
      m' ((c.tc : Thread Cert.NormLinkBwdRefIdeal.nD Cert.NormLinkBwdRefIdeal.τ).loc Cert.NormLinkBwdRefIdeal.main_arg0) = m ((c.tc : Thread Cert.NormLinkBwdIdeal.nD Cert.NormLinkBwdIdeal.τ).loc Cert.NormLinkBwdIdeal.main_arg0)
      ∧ m' ((c.tc : Thread Cert.NormLinkBwdRefIdeal.nD Cert.NormLinkBwdRefIdeal.τ).loc Cert.NormLinkBwdRefIdeal.main_arg1) = m ((c.tc : Thread Cert.NormLinkBwdIdeal.nD Cert.NormLinkBwdIdeal.τ).loc Cert.NormLinkBwdIdeal.main_arg1)
      ∧ m' ((c.tc : Thread Cert.NormLinkBwdRefIdeal.nD Cert.NormLinkBwdRefIdeal.τ).loc Cert.NormLinkBwdRefIdeal.main_arg2) = m ((c.tc : Thread Cert.NormLinkBwdIdeal.nD Cert.NormLinkBwdIdeal.τ).loc Cert.NormLinkBwdIdeal.main_arg2)
      ∧ m' ((c.tc : Thread Cert.NormLinkBwdRefIdeal.nD Cert.NormLinkBwdRefIdeal.τ).loc Cert.NormLinkBwdRefIdeal.main_arg3) = m ((c.tc : Thread Cert.NormLinkBwdIdeal.nD Cert.NormLinkBwdIdeal.τ).loc Cert.NormLinkBwdIdeal.main_arg3)
      ∧ m' ((c.tc : Thread Cert.NormLinkBwdRefIdeal.nD Cert.NormLinkBwdRefIdeal.τ).loc Cert.NormLinkBwdRefIdeal.main_arg4) = m ((c.tc : Thread Cert.NormLinkBwdIdeal.nD Cert.NormLinkBwdIdeal.τ).loc Cert.NormLinkBwdIdeal.main_arg4)
      ∧ m' ((c.tc : Thread Cert.NormLinkBwdRefIdeal.nD Cert.NormLinkBwdRefIdeal.τ).loc Cert.NormLinkBwdRefIdeal.main_arg5) = m ((c.tc : Thread Cert.NormLinkBwdIdeal.nD Cert.NormLinkBwdIdeal.τ).loc Cert.NormLinkBwdIdeal.main_arg5)) →
    ∃ (v0 : (c : Dev Cert.NormLinkBwdIdeal.nD) → Buf (Elt Ideal) ((c.tc : Thread Cert.NormLinkBwdIdeal.nD Cert.NormLinkBwdIdeal.τ).loc Cert.NormLinkBwdIdeal.main_v4_0)) (v1 : (c : Dev Cert.NormLinkBwdIdeal.nD) → Buf (Elt Ideal) ((c.tc : Thread Cert.NormLinkBwdIdeal.nD Cert.NormLinkBwdIdeal.τ).loc Cert.NormLinkBwdIdeal.main_v4_1)) (v2 : (c : Dev Cert.NormLinkBwdIdeal.nD) → Buf (Elt Ideal) ((c.tc : Thread Cert.NormLinkBwdIdeal.nD Cert.NormLinkBwdIdeal.τ).loc Cert.NormLinkBwdIdeal.main_v4_2)) (v3 : (c : Dev Cert.NormLinkBwdIdeal.nD) → Buf (Elt Ideal) ((c.tc : Thread Cert.NormLinkBwdIdeal.nD Cert.NormLinkBwdIdeal.τ).loc Cert.NormLinkBwdIdeal.main_v4_3)) (v4 : (c : Dev Cert.NormLinkBwdIdeal.nD) → Buf (Elt Ideal) ((c.tc : Thread Cert.NormLinkBwdIdeal.nD Cert.NormLinkBwdIdeal.τ).loc Cert.NormLinkBwdIdeal.main_v4_4)) (v5 : (c : Dev Cert.NormLinkBwdIdeal.nD) → Buf (Elt Ideal) ((c.tc : Thread Cert.NormLinkBwdIdeal.nD Cert.NormLinkBwdIdeal.τ).loc Cert.NormLinkBwdIdeal.main_v4_5)) (v6 : (c : Dev Cert.NormLinkBwdIdeal.nD) → Buf (Elt Ideal) ((c.tc : Thread Cert.NormLinkBwdIdeal.nD Cert.NormLinkBwdIdeal.τ).loc Cert.NormLinkBwdIdeal.main_v4_6)),
      θ_run (Cert.NormLinkBwdIdeal.defs (F := Ideal)) (onTc (τ := Cert.NormLinkBwdIdeal.τ) (Cert.NormLinkBwdIdeal.main (F := Ideal))) ⟨m, fun _ => 0, g⟩ (fun r => ∀ c : Dev Cert.NormLinkBwdIdeal.nD,
          r.2.mem ((c.tc : Thread Cert.NormLinkBwdIdeal.nD Cert.NormLinkBwdIdeal.τ).loc Cert.NormLinkBwdIdeal.main_v4_0) = v0 c
          ∧ r.2.mem ((c.tc : Thread Cert.NormLinkBwdIdeal.nD Cert.NormLinkBwdIdeal.τ).loc Cert.NormLinkBwdIdeal.main_v4_1) = v1 c
          ∧ r.2.mem ((c.tc : Thread Cert.NormLinkBwdIdeal.nD Cert.NormLinkBwdIdeal.τ).loc Cert.NormLinkBwdIdeal.main_v4_2) = v2 c
          ∧ r.2.mem ((c.tc : Thread Cert.NormLinkBwdIdeal.nD Cert.NormLinkBwdIdeal.τ).loc Cert.NormLinkBwdIdeal.main_v4_3) = v3 c
          ∧ r.2.mem ((c.tc : Thread Cert.NormLinkBwdIdeal.nD Cert.NormLinkBwdIdeal.τ).loc Cert.NormLinkBwdIdeal.main_v4_4) = v4 c
          ∧ r.2.mem ((c.tc : Thread Cert.NormLinkBwdIdeal.nD Cert.NormLinkBwdIdeal.τ).loc Cert.NormLinkBwdIdeal.main_v4_5) = v5 c
          ∧ r.2.mem ((c.tc : Thread Cert.NormLinkBwdIdeal.nD Cert.NormLinkBwdIdeal.τ).loc Cert.NormLinkBwdIdeal.main_v4_6) = v6 c
          ∧ r.2.mem ((c.tc : Thread Cert.NormLinkBwdIdeal.nD Cert.NormLinkBwdIdeal.τ).loc Cert.NormLinkBwdIdeal.main_arg0) = m ((c.tc : Thread Cert.NormLinkBwdIdeal.nD Cert.NormLinkBwdIdeal.τ).loc Cert.NormLinkBwdIdeal.main_arg0)
          ∧ r.2.mem ((c.tc : Thread Cert.NormLinkBwdIdeal.nD Cert.NormLinkBwdIdeal.τ).loc Cert.NormLinkBwdIdeal.main_arg1) = m ((c.tc : Thread Cert.NormLinkBwdIdeal.nD Cert.NormLinkBwdIdeal.τ).loc Cert.NormLinkBwdIdeal.main_arg1)
          ∧ r.2.mem ((c.tc : Thread Cert.NormLinkBwdIdeal.nD Cert.NormLinkBwdIdeal.τ).loc Cert.NormLinkBwdIdeal.main_arg2) = m ((c.tc : Thread Cert.NormLinkBwdIdeal.nD Cert.NormLinkBwdIdeal.τ).loc Cert.NormLinkBwdIdeal.main_arg2)
          ∧ r.2.mem ((c.tc : Thread Cert.NormLinkBwdIdeal.nD Cert.NormLinkBwdIdeal.τ).loc Cert.NormLinkBwdIdeal.main_arg3) = m ((c.tc : Thread Cert.NormLinkBwdIdeal.nD Cert.NormLinkBwdIdeal.τ).loc Cert.NormLinkBwdIdeal.main_arg3)
          ∧ r.2.mem ((c.tc : Thread Cert.NormLinkBwdIdeal.nD Cert.NormLinkBwdIdeal.τ).loc Cert.NormLinkBwdIdeal.main_arg4) = m ((c.tc : Thread Cert.NormLinkBwdIdeal.nD Cert.NormLinkBwdIdeal.τ).loc Cert.NormLinkBwdIdeal.main_arg4)
          ∧ r.2.mem ((c.tc : Thread Cert.NormLinkBwdIdeal.nD Cert.NormLinkBwdIdeal.τ).loc Cert.NormLinkBwdIdeal.main_arg5) = m ((c.tc : Thread Cert.NormLinkBwdIdeal.nD Cert.NormLinkBwdIdeal.τ).loc Cert.NormLinkBwdIdeal.main_arg5))
      ∧ θ_run (Cert.NormLinkBwdRefIdeal.defs (F := Ideal)) (onTc (τ := Cert.NormLinkBwdRefIdeal.τ) (Cert.NormLinkBwdRefIdeal.main (F := Ideal))) ⟨m', fun _ => 0, g'⟩ (fun r => ∀ c : Dev Cert.NormLinkBwdRefIdeal.nD,
          r.2.mem ((c.tc : Thread Cert.NormLinkBwdRefIdeal.nD Cert.NormLinkBwdRefIdeal.τ).loc Cert.NormLinkBwdRefIdeal.main_v51) = v0 c
          ∧ r.2.mem ((c.tc : Thread Cert.NormLinkBwdRefIdeal.nD Cert.NormLinkBwdRefIdeal.τ).loc Cert.NormLinkBwdRefIdeal.main_v102) = v1 c
          ∧ r.2.mem ((c.tc : Thread Cert.NormLinkBwdRefIdeal.nD Cert.NormLinkBwdRefIdeal.τ).loc Cert.NormLinkBwdRefIdeal.main_v26) = v2 c
          ∧ r.2.mem ((c.tc : Thread Cert.NormLinkBwdRefIdeal.nD Cert.NormLinkBwdRefIdeal.τ).loc Cert.NormLinkBwdRefIdeal.main_v29) = v3 c
          ∧ r.2.mem ((c.tc : Thread Cert.NormLinkBwdRefIdeal.nD Cert.NormLinkBwdRefIdeal.τ).loc Cert.NormLinkBwdRefIdeal.main_v34) = v4 c
          ∧ r.2.mem ((c.tc : Thread Cert.NormLinkBwdRefIdeal.nD Cert.NormLinkBwdRefIdeal.τ).loc Cert.NormLinkBwdRefIdeal.main_v101) = v5 c
          ∧ r.2.mem ((c.tc : Thread Cert.NormLinkBwdRefIdeal.nD Cert.NormLinkBwdRefIdeal.τ).loc Cert.NormLinkBwdRefIdeal.main_v83) = v6 c
          ∧ r.2.mem ((c.tc : Thread Cert.NormLinkBwdRefIdeal.nD Cert.NormLinkBwdRefIdeal.τ).loc Cert.NormLinkBwdRefIdeal.main_arg0) = m' ((c.tc : Thread Cert.NormLinkBwdRefIdeal.nD Cert.NormLinkBwdRefIdeal.τ).loc Cert.NormLinkBwdRefIdeal.main_arg0)
          ∧ r.2.mem ((c.tc : Thread Cert.NormLinkBwdRefIdeal.nD Cert.NormLinkBwdRefIdeal.τ).loc Cert.NormLinkBwdRefIdeal.main_arg1) = m' ((c.tc : Thread Cert.NormLinkBwdRefIdeal.nD Cert.NormLinkBwdRefIdeal.τ).loc Cert.NormLinkBwdRefIdeal.main_arg1)
          ∧ r.2.mem ((c.tc : Thread Cert.NormLinkBwdRefIdeal.nD Cert.NormLinkBwdRefIdeal.τ).loc Cert.NormLinkBwdRefIdeal.main_arg2) = m' ((c.tc : Thread Cert.NormLinkBwdRefIdeal.nD Cert.NormLinkBwdRefIdeal.τ).loc Cert.NormLinkBwdRefIdeal.main_arg2)
          ∧ r.2.mem ((c.tc : Thread Cert.NormLinkBwdRefIdeal.nD Cert.NormLinkBwdRefIdeal.τ).loc Cert.NormLinkBwdRefIdeal.main_arg3) = m' ((c.tc : Thread Cert.NormLinkBwdRefIdeal.nD Cert.NormLinkBwdRefIdeal.τ).loc Cert.NormLinkBwdRefIdeal.main_arg3)
          ∧ r.2.mem ((c.tc : Thread Cert.NormLinkBwdRefIdeal.nD Cert.NormLinkBwdRefIdeal.τ).loc Cert.NormLinkBwdRefIdeal.main_arg4) = m' ((c.tc : Thread Cert.NormLinkBwdRefIdeal.nD Cert.NormLinkBwdRefIdeal.τ).loc Cert.NormLinkBwdRefIdeal.main_arg4)
          ∧ r.2.mem ((c.tc : Thread Cert.NormLinkBwdRefIdeal.nD Cert.NormLinkBwdRefIdeal.τ).loc Cert.NormLinkBwdRefIdeal.main_arg5) = m' ((c.tc : Thread Cert.NormLinkBwdRefIdeal.nD Cert.NormLinkBwdRefIdeal.τ).loc Cert.NormLinkBwdRefIdeal.main_arg5))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v0) = v0 c
          ∧ r.2.mem ((c.tc : Thread Cert.AdamORefIdeal.nD Cert.AdamORefIdeal.τ).loc Cert.AdamORefIdeal.main_v24) = v1 c
          ∧ r.2.mem ((c.tc : Thread Cert.AdamORefIdeal.nD Cert.AdamORefIdeal.τ).loc Cert.AdamORefIdeal.main_v5) = v2 c
          ∧ r.2.mem ((c.tc : Thread Cert.AdamORefIdeal.nD Cert.AdamORefIdeal.τ).loc Cert.AdamORefIdeal.main_v11) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)) (v3 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_v0_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v0) = v0 c
          ∧ r.2.mem ((c.tc : Thread Cert.AdamQRefIdeal.nD Cert.AdamQRefIdeal.τ).loc Cert.AdamQRefIdeal.main_v24) = v1 c
          ∧ r.2.mem ((c.tc : Thread Cert.AdamQRefIdeal.nD Cert.AdamQRefIdeal.τ).loc Cert.AdamQRefIdeal.main_v5) = v2 c
          ∧ r.2.mem ((c.tc : Thread Cert.AdamQRefIdeal.nD Cert.AdamQRefIdeal.τ).loc Cert.AdamQRefIdeal.main_v11) = v3 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v0) = v0 c
          ∧ r.2.mem ((c.tc : Thread Cert.AdamPoolRefIdeal.nD Cert.AdamPoolRefIdeal.τ).loc Cert.AdamPoolRefIdeal.main_v24) = v1 c
          ∧ r.2.mem ((c.tc : Thread Cert.AdamPoolRefIdeal.nD Cert.AdamPoolRefIdeal.τ).loc Cert.AdamPoolRefIdeal.main_v5) = v2 c
          ∧ r.2.mem ((c.tc : Thread Cert.AdamPoolRefIdeal.nD Cert.AdamPoolRefIdeal.τ).loc Cert.AdamPoolRefIdeal.main_v11) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_NormLoss_NormLossIdeal : Prop :=
  True

def algebraic_NormLossIdeal_NormLossRefIdeal [hNormLossIdeal : Cert.NormLossIdeal.Facts] [hNormLossRefIdeal : Cert.NormLossRefIdeal.Facts] : Prop :=
  ∀ (m : (ℓ : Loc Cert.NormLossIdeal.nD Cert.NormLossIdeal.τ Cert.NormLossIdeal.sig) → Buf (Elt Ideal) ℓ) (g : Dev Cert.NormLossIdeal.nD → PrngReg)
    (m' : (ℓ : Loc Cert.NormLossRefIdeal.nD Cert.NormLossRefIdeal.τ Cert.NormLossRefIdeal.sig) → Buf (Elt Ideal) ℓ) (g' : Dev Cert.NormLossRefIdeal.nD → PrngReg), Pre_NormLossIdeal m →
    (∀ c : Dev Cert.NormLossIdeal.nD,
      m' ((c.tc : Thread Cert.NormLossRefIdeal.nD Cert.NormLossRefIdeal.τ).loc Cert.NormLossRefIdeal.main_arg0) = m ((c.tc : Thread Cert.NormLossIdeal.nD Cert.NormLossIdeal.τ).loc Cert.NormLossIdeal.main_arg0)
      ∧ m' ((c.tc : Thread Cert.NormLossRefIdeal.nD Cert.NormLossRefIdeal.τ).loc Cert.NormLossRefIdeal.main_arg1) = m ((c.tc : Thread Cert.NormLossIdeal.nD Cert.NormLossIdeal.τ).loc Cert.NormLossIdeal.main_arg1)
      ∧ m' ((c.tc : Thread Cert.NormLossRefIdeal.nD Cert.NormLossRefIdeal.τ).loc Cert.NormLossRefIdeal.main_arg2) = m ((c.tc : Thread Cert.NormLossIdeal.nD Cert.NormLossIdeal.τ).loc Cert.NormLossIdeal.main_arg2)
      ∧ m' ((c.tc : Thread Cert.NormLossRefIdeal.nD Cert.NormLossRefIdeal.τ).loc Cert.NormLossRefIdeal.main_arg3) = m ((c.tc : Thread Cert.NormLossIdeal.nD Cert.NormLossIdeal.τ).loc Cert.NormLossIdeal.main_arg3)
      ∧ m' ((c.tc : Thread Cert.NormLossRefIdeal.nD Cert.NormLossRefIdeal.τ).loc Cert.NormLossRefIdeal.main_arg4) = m ((c.tc : Thread Cert.NormLossIdeal.nD Cert.NormLossIdeal.τ).loc Cert.NormLossIdeal.main_arg4)) →
    ∃ (v0 : (c : Dev Cert.NormLossIdeal.nD) → Buf (Elt Ideal) ((c.tc : Thread Cert.NormLossIdeal.nD Cert.NormLossIdeal.τ).loc Cert.NormLossIdeal.main_v3_0)) (v1 : (c : Dev Cert.NormLossIdeal.nD) → Buf (Elt Ideal) ((c.tc : Thread Cert.NormLossIdeal.nD Cert.NormLossIdeal.τ).loc Cert.NormLossIdeal.main_v3_1)) (v2 : (c : Dev Cert.NormLossIdeal.nD) → Buf (Elt Ideal) ((c.tc : Thread Cert.NormLossIdeal.nD Cert.NormLossIdeal.τ).loc Cert.NormLossIdeal.main_v3_2)) (v3 : (c : Dev Cert.NormLossIdeal.nD) → Buf (Elt Ideal) ((c.tc : Thread Cert.NormLossIdeal.nD Cert.NormLossIdeal.τ).loc Cert.NormLossIdeal.main_v3_3)) (v4 : (c : Dev Cert.NormLossIdeal.nD) → Buf (Elt Ideal) ((c.tc : Thread Cert.NormLossIdeal.nD Cert.NormLossIdeal.τ).loc Cert.NormLossIdeal.main_v3_4)),
      θ_run (Cert.NormLossIdeal.defs (F := Ideal)) (onTc (τ := Cert.NormLossIdeal.τ) (Cert.NormLossIdeal.main (F := Ideal))) ⟨m, fun _ => 0, g⟩ (fun r => ∀ c : Dev Cert.NormLossIdeal.nD,
          r.2.mem ((c.tc : Thread Cert.NormLossIdeal.nD Cert.NormLossIdeal.τ).loc Cert.NormLossIdeal.main_v3_0) = v0 c
          ∧ r.2.mem ((c.tc : Thread Cert.NormLossIdeal.nD Cert.NormLossIdeal.τ).loc Cert.NormLossIdeal.main_v3_1) = v1 c
          ∧ r.2.mem ((c.tc : Thread Cert.NormLossIdeal.nD Cert.NormLossIdeal.τ).loc Cert.NormLossIdeal.main_v3_2) = v2 c
          ∧ r.2.mem ((c.tc : Thread Cert.NormLossIdeal.nD Cert.NormLossIdeal.τ).loc Cert.NormLossIdeal.main_v3_3) = v3 c
          ∧ r.2.mem ((c.tc : Thread Cert.NormLossIdeal.nD Cert.NormLossIdeal.τ).loc Cert.NormLossIdeal.main_v3_4) = v4 c
          ∧ r.2.mem ((c.tc : Thread Cert.NormLossIdeal.nD Cert.NormLossIdeal.τ).loc Cert.NormLossIdeal.main_arg0) = m ((c.tc : Thread Cert.NormLossIdeal.nD Cert.NormLossIdeal.τ).loc Cert.NormLossIdeal.main_arg0)
          ∧ r.2.mem ((c.tc : Thread Cert.NormLossIdeal.nD Cert.NormLossIdeal.τ).loc Cert.NormLossIdeal.main_arg1) = m ((c.tc : Thread Cert.NormLossIdeal.nD Cert.NormLossIdeal.τ).loc Cert.NormLossIdeal.main_arg1)
          ∧ r.2.mem ((c.tc : Thread Cert.NormLossIdeal.nD Cert.NormLossIdeal.τ).loc Cert.NormLossIdeal.main_arg2) = m ((c.tc : Thread Cert.NormLossIdeal.nD Cert.NormLossIdeal.τ).loc Cert.NormLossIdeal.main_arg2)
          ∧ r.2.mem ((c.tc : Thread Cert.NormLossIdeal.nD Cert.NormLossIdeal.τ).loc Cert.NormLossIdeal.main_arg3) = m ((c.tc : Thread Cert.NormLossIdeal.nD Cert.NormLossIdeal.τ).loc Cert.NormLossIdeal.main_arg3)
          ∧ r.2.mem ((c.tc : Thread Cert.NormLossIdeal.nD Cert.NormLossIdeal.τ).loc Cert.NormLossIdeal.main_arg4) = m ((c.tc : Thread Cert.NormLossIdeal.nD Cert.NormLossIdeal.τ).loc Cert.NormLossIdeal.main_arg4))
      ∧ θ_run (Cert.NormLossRefIdeal.defs (F := Ideal)) (onTc (τ := Cert.NormLossRefIdeal.τ) (Cert.NormLossRefIdeal.main (F := Ideal))) ⟨m', fun _ => 0, g'⟩ (fun r => ∀ c : Dev Cert.NormLossRefIdeal.nD,
          r.2.mem ((c.tc : Thread Cert.NormLossRefIdeal.nD Cert.NormLossRefIdeal.τ).loc Cert.NormLossRefIdeal.main_v40) = v0 c
          ∧ r.2.mem ((c.tc : Thread Cert.NormLossRefIdeal.nD Cert.NormLossRefIdeal.τ).loc Cert.NormLossRefIdeal.main_v67) = v1 c
          ∧ r.2.mem ((c.tc : Thread Cert.NormLossRefIdeal.nD Cert.NormLossRefIdeal.τ).loc Cert.NormLossRefIdeal.main_v34) = v2 c
          ∧ r.2.mem ((c.tc : Thread Cert.NormLossRefIdeal.nD Cert.NormLossRefIdeal.τ).loc Cert.NormLossRefIdeal.main_v66) = v3 c
          ∧ r.2.mem ((c.tc : Thread Cert.NormLossRefIdeal.nD Cert.NormLossRefIdeal.τ).loc Cert.NormLossRefIdeal.main_v48) = v4 c
          ∧ r.2.mem ((c.tc : Thread Cert.NormLossRefIdeal.nD Cert.NormLossRefIdeal.τ).loc Cert.NormLossRefIdeal.main_arg0) = m' ((c.tc : Thread Cert.NormLossRefIdeal.nD Cert.NormLossRefIdeal.τ).loc Cert.NormLossRefIdeal.main_arg0)
          ∧ r.2.mem ((c.tc : Thread Cert.NormLossRefIdeal.nD Cert.NormLossRefIdeal.τ).loc Cert.NormLossRefIdeal.main_arg1) = m' ((c.tc : Thread Cert.NormLossRefIdeal.nD Cert.NormLossRefIdeal.τ).loc Cert.NormLossRefIdeal.main_arg1)
          ∧ r.2.mem ((c.tc : Thread Cert.NormLossRefIdeal.nD Cert.NormLossRefIdeal.τ).loc Cert.NormLossRefIdeal.main_arg2) = m' ((c.tc : Thread Cert.NormLossRefIdeal.nD Cert.NormLossRefIdeal.τ).loc Cert.NormLossRefIdeal.main_arg2)
          ∧ r.2.mem ((c.tc : Thread Cert.NormLossRefIdeal.nD Cert.NormLossRefIdeal.τ).loc Cert.NormLossRefIdeal.main_arg3) = m' ((c.tc : Thread Cert.NormLossRefIdeal.nD Cert.NormLossRefIdeal.τ).loc Cert.NormLossRefIdeal.main_arg3)
          ∧ r.2.mem ((c.tc : Thread Cert.NormLossRefIdeal.nD Cert.NormLossRefIdeal.τ).loc Cert.NormLossRefIdeal.main_arg4) = m' ((c.tc : Thread Cert.NormLossRefIdeal.nD Cert.NormLossRefIdeal.τ).loc Cert.NormLossRefIdeal.main_arg4))

def preserves_NormLink1_NormLink1Ideal : Prop :=
  True

def algebraic_NormLink1Ideal_NormLink1RefIdeal [hNormLink1Ideal : Cert.NormLink1Ideal.Facts] [hNormLink1RefIdeal : Cert.NormLink1RefIdeal.Facts] : Prop :=
  ∀ (m : (ℓ : Loc Cert.NormLink1Ideal.nD Cert.NormLink1Ideal.τ Cert.NormLink1Ideal.sig) → Buf (Elt Ideal) ℓ) (g : Dev Cert.NormLink1Ideal.nD → PrngReg)
    (m' : (ℓ : Loc Cert.NormLink1RefIdeal.nD Cert.NormLink1RefIdeal.τ Cert.NormLink1RefIdeal.sig) → Buf (Elt Ideal) ℓ) (g' : Dev Cert.NormLink1RefIdeal.nD → PrngReg), Pre_NormLink1Ideal m →
    (∀ c : Dev Cert.NormLink1Ideal.nD,
      m' ((c.tc : Thread Cert.NormLink1RefIdeal.nD Cert.NormLink1RefIdeal.τ).loc Cert.NormLink1RefIdeal.main_arg0) = m ((c.tc : Thread Cert.NormLink1Ideal.nD Cert.NormLink1Ideal.τ).loc Cert.NormLink1Ideal.main_arg0)
      ∧ m' ((c.tc : Thread Cert.NormLink1RefIdeal.nD Cert.NormLink1RefIdeal.τ).loc Cert.NormLink1RefIdeal.main_arg1) = m ((c.tc : Thread Cert.NormLink1Ideal.nD Cert.NormLink1Ideal.τ).loc Cert.NormLink1Ideal.main_arg1)
      ∧ m' ((c.tc : Thread Cert.NormLink1RefIdeal.nD Cert.NormLink1RefIdeal.τ).loc Cert.NormLink1RefIdeal.main_arg2) = m ((c.tc : Thread Cert.NormLink1Ideal.nD Cert.NormLink1Ideal.τ).loc Cert.NormLink1Ideal.main_arg2)
      ∧ m' ((c.tc : Thread Cert.NormLink1RefIdeal.nD Cert.NormLink1RefIdeal.τ).loc Cert.NormLink1RefIdeal.main_arg3) = m ((c.tc : Thread Cert.NormLink1Ideal.nD Cert.NormLink1Ideal.τ).loc Cert.NormLink1Ideal.main_arg3)) →
    ∃ (v0 : (c : Dev Cert.NormLink1Ideal.nD) → Buf (Elt Ideal) ((c.tc : Thread Cert.NormLink1Ideal.nD Cert.NormLink1Ideal.τ).loc Cert.NormLink1Ideal.main_v3_0)) (v1 : (c : Dev Cert.NormLink1Ideal.nD) → Buf (Elt Ideal) ((c.tc : Thread Cert.NormLink1Ideal.nD Cert.NormLink1Ideal.τ).loc Cert.NormLink1Ideal.main_v3_1)),
      θ_run (Cert.NormLink1Ideal.defs (F := Ideal)) (onTc (τ := Cert.NormLink1Ideal.τ) (Cert.NormLink1Ideal.main (F := Ideal))) ⟨m, fun _ => 0, g⟩ (fun r => ∀ c : Dev Cert.NormLink1Ideal.nD,
          r.2.mem ((c.tc : Thread Cert.NormLink1Ideal.nD Cert.NormLink1Ideal.τ).loc Cert.NormLink1Ideal.main_v3_0) = v0 c
          ∧ r.2.mem ((c.tc : Thread Cert.NormLink1Ideal.nD Cert.NormLink1Ideal.τ).loc Cert.NormLink1Ideal.main_v3_1) = v1 c
          ∧ r.2.mem ((c.tc : Thread Cert.NormLink1Ideal.nD Cert.NormLink1Ideal.τ).loc Cert.NormLink1Ideal.main_arg0) = m ((c.tc : Thread Cert.NormLink1Ideal.nD Cert.NormLink1Ideal.τ).loc Cert.NormLink1Ideal.main_arg0)
          ∧ r.2.mem ((c.tc : Thread Cert.NormLink1Ideal.nD Cert.NormLink1Ideal.τ).loc Cert.NormLink1Ideal.main_arg1) = m ((c.tc : Thread Cert.NormLink1Ideal.nD Cert.NormLink1Ideal.τ).loc Cert.NormLink1Ideal.main_arg1)
          ∧ r.2.mem ((c.tc : Thread Cert.NormLink1Ideal.nD Cert.NormLink1Ideal.τ).loc Cert.NormLink1Ideal.main_arg2) = m ((c.tc : Thread Cert.NormLink1Ideal.nD Cert.NormLink1Ideal.τ).loc Cert.NormLink1Ideal.main_arg2)
          ∧ r.2.mem ((c.tc : Thread Cert.NormLink1Ideal.nD Cert.NormLink1Ideal.τ).loc Cert.NormLink1Ideal.main_arg3) = m ((c.tc : Thread Cert.NormLink1Ideal.nD Cert.NormLink1Ideal.τ).loc Cert.NormLink1Ideal.main_arg3))
      ∧ θ_run (Cert.NormLink1RefIdeal.defs (F := Ideal)) (onTc (τ := Cert.NormLink1RefIdeal.τ) (Cert.NormLink1RefIdeal.main (F := Ideal))) ⟨m', fun _ => 0, g'⟩ (fun r => ∀ c : Dev Cert.NormLink1RefIdeal.nD,
          r.2.mem ((c.tc : Thread Cert.NormLink1RefIdeal.nD Cert.NormLink1RefIdeal.τ).loc Cert.NormLink1RefIdeal.main_v20) = v0 c
          ∧ r.2.mem ((c.tc : Thread Cert.NormLink1RefIdeal.nD Cert.NormLink1RefIdeal.τ).loc Cert.NormLink1RefIdeal.main_v41) = v1 c
          ∧ r.2.mem ((c.tc : Thread Cert.NormLink1RefIdeal.nD Cert.NormLink1RefIdeal.τ).loc Cert.NormLink1RefIdeal.main_arg0) = m' ((c.tc : Thread Cert.NormLink1RefIdeal.nD Cert.NormLink1RefIdeal.τ).loc Cert.NormLink1RefIdeal.main_arg0)
          ∧ r.2.mem ((c.tc : Thread Cert.NormLink1RefIdeal.nD Cert.NormLink1RefIdeal.τ).loc Cert.NormLink1RefIdeal.main_arg1) = m' ((c.tc : Thread Cert.NormLink1RefIdeal.nD Cert.NormLink1RefIdeal.τ).loc Cert.NormLink1RefIdeal.main_arg1)
          ∧ r.2.mem ((c.tc : Thread Cert.NormLink1RefIdeal.nD Cert.NormLink1RefIdeal.τ).loc Cert.NormLink1RefIdeal.main_arg2) = m' ((c.tc : Thread Cert.NormLink1RefIdeal.nD Cert.NormLink1RefIdeal.τ).loc Cert.NormLink1RefIdeal.main_arg2)
          ∧ r.2.mem ((c.tc : Thread Cert.NormLink1RefIdeal.nD Cert.NormLink1RefIdeal.τ).loc Cert.NormLink1RefIdeal.main_arg3) = m' ((c.tc : Thread Cert.NormLink1RefIdeal.nD Cert.NormLink1RefIdeal.τ).loc Cert.NormLink1RefIdeal.main_arg3))

def preserves_NormLink3_NormLink3Ideal : Prop :=
  True

def algebraic_NormLink3Ideal_NormLink3RefIdeal [hNormLink3Ideal : Cert.NormLink3Ideal.Facts] [hNormLink3RefIdeal : Cert.NormLink3RefIdeal.Facts] : Prop :=
  ∀ (m : (ℓ : Loc Cert.NormLink3Ideal.nD Cert.NormLink3Ideal.τ Cert.NormLink3Ideal.sig) → Buf (Elt Ideal) ℓ) (g : Dev Cert.NormLink3Ideal.nD → PrngReg)
    (m' : (ℓ : Loc Cert.NormLink3RefIdeal.nD Cert.NormLink3RefIdeal.τ Cert.NormLink3RefIdeal.sig) → Buf (Elt Ideal) ℓ) (g' : Dev Cert.NormLink3RefIdeal.nD → PrngReg), Pre_NormLink3Ideal m →
    (∀ c : Dev Cert.NormLink3Ideal.nD,
      m' ((c.tc : Thread Cert.NormLink3RefIdeal.nD Cert.NormLink3RefIdeal.τ).loc Cert.NormLink3RefIdeal.main_arg0) = m ((c.tc : Thread Cert.NormLink3Ideal.nD Cert.NormLink3Ideal.τ).loc Cert.NormLink3Ideal.main_arg0)
      ∧ m' ((c.tc : Thread Cert.NormLink3RefIdeal.nD Cert.NormLink3RefIdeal.τ).loc Cert.NormLink3RefIdeal.main_arg1) = m ((c.tc : Thread Cert.NormLink3Ideal.nD Cert.NormLink3Ideal.τ).loc Cert.NormLink3Ideal.main_arg1)
      ∧ m' ((c.tc : Thread Cert.NormLink3RefIdeal.nD Cert.NormLink3RefIdeal.τ).loc Cert.NormLink3RefIdeal.main_arg2) = m ((c.tc : Thread Cert.NormLink3Ideal.nD Cert.NormLink3Ideal.τ).loc Cert.NormLink3Ideal.main_arg2)
      ∧ m' ((c.tc : Thread Cert.NormLink3RefIdeal.nD Cert.NormLink3RefIdeal.τ).loc Cert.NormLink3RefIdeal.main_arg3) = m ((c.tc : Thread Cert.NormLink3Ideal.nD Cert.NormLink3Ideal.τ).loc Cert.NormLink3Ideal.main_arg3)) →
    ∃ (v0 : (c : Dev Cert.NormLink3Ideal.nD) → Buf (Elt Ideal) ((c.tc : Thread Cert.NormLink3Ideal.nD Cert.NormLink3Ideal.τ).loc Cert.NormLink3Ideal.main_v3_0)) (v1 : (c : Dev Cert.NormLink3Ideal.nD) → Buf (Elt Ideal) ((c.tc : Thread Cert.NormLink3Ideal.nD Cert.NormLink3Ideal.τ).loc Cert.NormLink3Ideal.main_v3_1)),
      θ_run (Cert.NormLink3Ideal.defs (F := Ideal)) (onTc (τ := Cert.NormLink3Ideal.τ) (Cert.NormLink3Ideal.main (F := Ideal))) ⟨m, fun _ => 0, g⟩ (fun r => ∀ c : Dev Cert.NormLink3Ideal.nD,
          r.2.mem ((c.tc : Thread Cert.NormLink3Ideal.nD Cert.NormLink3Ideal.τ).loc Cert.NormLink3Ideal.main_v3_0) = v0 c
          ∧ r.2.mem ((c.tc : Thread Cert.NormLink3Ideal.nD Cert.NormLink3Ideal.τ).loc Cert.NormLink3Ideal.main_v3_1) = v1 c
          ∧ r.2.mem ((c.tc : Thread Cert.NormLink3Ideal.nD Cert.NormLink3Ideal.τ).loc Cert.NormLink3Ideal.main_arg0) = m ((c.tc : Thread Cert.NormLink3Ideal.nD Cert.NormLink3Ideal.τ).loc Cert.NormLink3Ideal.main_arg0)
          ∧ r.2.mem ((c.tc : Thread Cert.NormLink3Ideal.nD Cert.NormLink3Ideal.τ).loc Cert.NormLink3Ideal.main_arg1) = m ((c.tc : Thread Cert.NormLink3Ideal.nD Cert.NormLink3Ideal.τ).loc Cert.NormLink3Ideal.main_arg1)
          ∧ r.2.mem ((c.tc : Thread Cert.NormLink3Ideal.nD Cert.NormLink3Ideal.τ).loc Cert.NormLink3Ideal.main_arg2) = m ((c.tc : Thread Cert.NormLink3Ideal.nD Cert.NormLink3Ideal.τ).loc Cert.NormLink3Ideal.main_arg2)
          ∧ r.2.mem ((c.tc : Thread Cert.NormLink3Ideal.nD Cert.NormLink3Ideal.τ).loc Cert.NormLink3Ideal.main_arg3) = m ((c.tc : Thread Cert.NormLink3Ideal.nD Cert.NormLink3Ideal.τ).loc Cert.NormLink3Ideal.main_arg3))
      ∧ θ_run (Cert.NormLink3RefIdeal.defs (F := Ideal)) (onTc (τ := Cert.NormLink3RefIdeal.τ) (Cert.NormLink3RefIdeal.main (F := Ideal))) ⟨m', fun _ => 0, g'⟩ (fun r => ∀ c : Dev Cert.NormLink3RefIdeal.nD,
          r.2.mem ((c.tc : Thread Cert.NormLink3RefIdeal.nD Cert.NormLink3RefIdeal.τ).loc Cert.NormLink3RefIdeal.main_v20) = v0 c
          ∧ r.2.mem ((c.tc : Thread Cert.NormLink3RefIdeal.nD Cert.NormLink3RefIdeal.τ).loc Cert.NormLink3RefIdeal.main_v42) = v1 c
          ∧ r.2.mem ((c.tc : Thread Cert.NormLink3RefIdeal.nD Cert.NormLink3RefIdeal.τ).loc Cert.NormLink3RefIdeal.main_arg0) = m' ((c.tc : Thread Cert.NormLink3RefIdeal.nD Cert.NormLink3RefIdeal.τ).loc Cert.NormLink3RefIdeal.main_arg0)
          ∧ r.2.mem ((c.tc : Thread Cert.NormLink3RefIdeal.nD Cert.NormLink3RefIdeal.τ).loc Cert.NormLink3RefIdeal.main_arg1) = m' ((c.tc : Thread Cert.NormLink3RefIdeal.nD Cert.NormLink3RefIdeal.τ).loc Cert.NormLink3RefIdeal.main_arg1)
          ∧ r.2.mem ((c.tc : Thread Cert.NormLink3RefIdeal.nD Cert.NormLink3RefIdeal.τ).loc Cert.NormLink3RefIdeal.main_arg2) = m' ((c.tc : Thread Cert.NormLink3RefIdeal.nD Cert.NormLink3RefIdeal.τ).loc Cert.NormLink3RefIdeal.main_arg2)
          ∧ r.2.mem ((c.tc : Thread Cert.NormLink3RefIdeal.nD Cert.NormLink3RefIdeal.τ).loc Cert.NormLink3RefIdeal.main_arg3) = m' ((c.tc : Thread Cert.NormLink3RefIdeal.nD Cert.NormLink3RefIdeal.τ).loc Cert.NormLink3RefIdeal.main_arg3))

def preserves_NormLink5_NormLink5Ideal : Prop :=
  True

def algebraic_NormLink5Ideal_NormLink5RefIdeal [hNormLink5Ideal : Cert.NormLink5Ideal.Facts] [hNormLink5RefIdeal : Cert.NormLink5RefIdeal.Facts] : Prop :=
  ∀ (m : (ℓ : Loc Cert.NormLink5Ideal.nD Cert.NormLink5Ideal.τ Cert.NormLink5Ideal.sig) → Buf (Elt Ideal) ℓ) (g : Dev Cert.NormLink5Ideal.nD → PrngReg)
    (m' : (ℓ : Loc Cert.NormLink5RefIdeal.nD Cert.NormLink5RefIdeal.τ Cert.NormLink5RefIdeal.sig) → Buf (Elt Ideal) ℓ) (g' : Dev Cert.NormLink5RefIdeal.nD → PrngReg), Pre_NormLink5Ideal m →
    (∀ c : Dev Cert.NormLink5Ideal.nD,
      m' ((c.tc : Thread Cert.NormLink5RefIdeal.nD Cert.NormLink5RefIdeal.τ).loc Cert.NormLink5RefIdeal.main_arg0) = m ((c.tc : Thread Cert.NormLink5Ideal.nD Cert.NormLink5Ideal.τ).loc Cert.NormLink5Ideal.main_arg0)
      ∧ m' ((c.tc : Thread Cert.NormLink5RefIdeal.nD Cert.NormLink5RefIdeal.τ).loc Cert.NormLink5RefIdeal.main_arg1) = m ((c.tc : Thread Cert.NormLink5Ideal.nD Cert.NormLink5Ideal.τ).loc Cert.NormLink5Ideal.main_arg1)
      ∧ m' ((c.tc : Thread Cert.NormLink5RefIdeal.nD Cert.NormLink5RefIdeal.τ).loc Cert.NormLink5RefIdeal.main_arg2) = m ((c.tc : Thread Cert.NormLink5Ideal.nD Cert.NormLink5Ideal.τ).loc Cert.NormLink5Ideal.main_arg2)
      ∧ m' ((c.tc : Thread Cert.NormLink5RefIdeal.nD Cert.NormLink5RefIdeal.τ).loc Cert.NormLink5RefIdeal.main_arg3) = m ((c.tc : Thread Cert.NormLink5Ideal.nD Cert.NormLink5Ideal.τ).loc Cert.NormLink5Ideal.main_arg3)) →
    ∃ (v0 : (c : Dev Cert.NormLink5Ideal.nD) → Buf (Elt Ideal) ((c.tc : Thread Cert.NormLink5Ideal.nD Cert.NormLink5Ideal.τ).loc Cert.NormLink5Ideal.main_v3_0)) (v1 : (c : Dev Cert.NormLink5Ideal.nD) → Buf (Elt Ideal) ((c.tc : Thread Cert.NormLink5Ideal.nD Cert.NormLink5Ideal.τ).loc Cert.NormLink5Ideal.main_v3_1)),
      θ_run (Cert.NormLink5Ideal.defs (F := Ideal)) (onTc (τ := Cert.NormLink5Ideal.τ) (Cert.NormLink5Ideal.main (F := Ideal))) ⟨m, fun _ => 0, g⟩ (fun r => ∀ c : Dev Cert.NormLink5Ideal.nD,
          r.2.mem ((c.tc : Thread Cert.NormLink5Ideal.nD Cert.NormLink5Ideal.τ).loc Cert.NormLink5Ideal.main_v3_0) = v0 c
          ∧ r.2.mem ((c.tc : Thread Cert.NormLink5Ideal.nD Cert.NormLink5Ideal.τ).loc Cert.NormLink5Ideal.main_v3_1) = v1 c
          ∧ r.2.mem ((c.tc : Thread Cert.NormLink5Ideal.nD Cert.NormLink5Ideal.τ).loc Cert.NormLink5Ideal.main_arg0) = m ((c.tc : Thread Cert.NormLink5Ideal.nD Cert.NormLink5Ideal.τ).loc Cert.NormLink5Ideal.main_arg0)
          ∧ r.2.mem ((c.tc : Thread Cert.NormLink5Ideal.nD Cert.NormLink5Ideal.τ).loc Cert.NormLink5Ideal.main_arg1) = m ((c.tc : Thread Cert.NormLink5Ideal.nD Cert.NormLink5Ideal.τ).loc Cert.NormLink5Ideal.main_arg1)
          ∧ r.2.mem ((c.tc : Thread Cert.NormLink5Ideal.nD Cert.NormLink5Ideal.τ).loc Cert.NormLink5Ideal.main_arg2) = m ((c.tc : Thread Cert.NormLink5Ideal.nD Cert.NormLink5Ideal.τ).loc Cert.NormLink5Ideal.main_arg2)
          ∧ r.2.mem ((c.tc : Thread Cert.NormLink5Ideal.nD Cert.NormLink5Ideal.τ).loc Cert.NormLink5Ideal.main_arg3) = m ((c.tc : Thread Cert.NormLink5Ideal.nD Cert.NormLink5Ideal.τ).loc Cert.NormLink5Ideal.main_arg3))
      ∧ θ_run (Cert.NormLink5RefIdeal.defs (F := Ideal)) (onTc (τ := Cert.NormLink5RefIdeal.τ) (Cert.NormLink5RefIdeal.main (F := Ideal))) ⟨m', fun _ => 0, g'⟩ (fun r => ∀ c : Dev Cert.NormLink5RefIdeal.nD,
          r.2.mem ((c.tc : Thread Cert.NormLink5RefIdeal.nD Cert.NormLink5RefIdeal.τ).loc Cert.NormLink5RefIdeal.main_v20) = v0 c
          ∧ r.2.mem ((c.tc : Thread Cert.NormLink5RefIdeal.nD Cert.NormLink5RefIdeal.τ).loc Cert.NormLink5RefIdeal.main_v42) = v1 c
          ∧ r.2.mem ((c.tc : Thread Cert.NormLink5RefIdeal.nD Cert.NormLink5RefIdeal.τ).loc Cert.NormLink5RefIdeal.main_arg0) = m' ((c.tc : Thread Cert.NormLink5RefIdeal.nD Cert.NormLink5RefIdeal.τ).loc Cert.NormLink5RefIdeal.main_arg0)
          ∧ r.2.mem ((c.tc : Thread Cert.NormLink5RefIdeal.nD Cert.NormLink5RefIdeal.τ).loc Cert.NormLink5RefIdeal.main_arg1) = m' ((c.tc : Thread Cert.NormLink5RefIdeal.nD Cert.NormLink5RefIdeal.τ).loc Cert.NormLink5RefIdeal.main_arg1)
          ∧ r.2.mem ((c.tc : Thread Cert.NormLink5RefIdeal.nD Cert.NormLink5RefIdeal.τ).loc Cert.NormLink5RefIdeal.main_arg2) = m' ((c.tc : Thread Cert.NormLink5RefIdeal.nD Cert.NormLink5RefIdeal.τ).loc Cert.NormLink5RefIdeal.main_arg2)
          ∧ r.2.mem ((c.tc : Thread Cert.NormLink5RefIdeal.nD Cert.NormLink5RefIdeal.τ).loc Cert.NormLink5RefIdeal.main_arg3) = m' ((c.tc : Thread Cert.NormLink5RefIdeal.nD Cert.NormLink5RefIdeal.τ).loc Cert.NormLink5RefIdeal.main_arg3))

def preserves_NormLinkBwd5_NormLinkBwd5Ideal : Prop :=
  True

def algebraic_NormLinkBwd5Ideal_NormLinkBwd5RefIdeal [hNormLinkBwd5Ideal : Cert.NormLinkBwd5Ideal.Facts] [hNormLinkBwd5RefIdeal : Cert.NormLinkBwd5RefIdeal.Facts] : Prop :=
  ∀ (m : (ℓ : Loc Cert.NormLinkBwd5Ideal.nD Cert.NormLinkBwd5Ideal.τ Cert.NormLinkBwd5Ideal.sig) → Buf (Elt Ideal) ℓ) (g : Dev Cert.NormLinkBwd5Ideal.nD → PrngReg)
    (m' : (ℓ : Loc Cert.NormLinkBwd5RefIdeal.nD Cert.NormLinkBwd5RefIdeal.τ Cert.NormLinkBwd5RefIdeal.sig) → Buf (Elt Ideal) ℓ) (g' : Dev Cert.NormLinkBwd5RefIdeal.nD → PrngReg), Pre_NormLinkBwd5Ideal m →
    (∀ c : Dev Cert.NormLinkBwd5Ideal.nD,
      m' ((c.tc : Thread Cert.NormLinkBwd5RefIdeal.nD Cert.NormLinkBwd5RefIdeal.τ).loc Cert.NormLinkBwd5RefIdeal.main_arg0) = m ((c.tc : Thread Cert.NormLinkBwd5Ideal.nD Cert.NormLinkBwd5Ideal.τ).loc Cert.NormLinkBwd5Ideal.main_arg0)
      ∧ m' ((c.tc : Thread Cert.NormLinkBwd5RefIdeal.nD Cert.NormLinkBwd5RefIdeal.τ).loc Cert.NormLinkBwd5RefIdeal.main_arg1) = m ((c.tc : Thread Cert.NormLinkBwd5Ideal.nD Cert.NormLinkBwd5Ideal.τ).loc Cert.NormLinkBwd5Ideal.main_arg1)
      ∧ m' ((c.tc : Thread Cert.NormLinkBwd5RefIdeal.nD Cert.NormLinkBwd5RefIdeal.τ).loc Cert.NormLinkBwd5RefIdeal.main_arg2) = m ((c.tc : Thread Cert.NormLinkBwd5Ideal.nD Cert.NormLinkBwd5Ideal.τ).loc Cert.NormLinkBwd5Ideal.main_arg2)
      ∧ m' ((c.tc : Thread Cert.NormLinkBwd5RefIdeal.nD Cert.NormLinkBwd5RefIdeal.τ).loc Cert.NormLinkBwd5RefIdeal.main_arg3) = m ((c.tc : Thread Cert.NormLinkBwd5Ideal.nD Cert.NormLinkBwd5Ideal.τ).loc Cert.NormLinkBwd5Ideal.main_arg3)
      ∧ m' ((c.tc : Thread Cert.NormLinkBwd5RefIdeal.nD Cert.NormLinkBwd5RefIdeal.τ).loc Cert.NormLinkBwd5RefIdeal.main_arg4) = m ((c.tc : Thread Cert.NormLinkBwd5Ideal.nD Cert.NormLinkBwd5Ideal.τ).loc Cert.NormLinkBwd5Ideal.main_arg4)
      ∧ m' ((c.tc : Thread Cert.NormLinkBwd5RefIdeal.nD Cert.NormLinkBwd5RefIdeal.τ).loc Cert.NormLinkBwd5RefIdeal.main_arg5) = m ((c.tc : Thread Cert.NormLinkBwd5Ideal.nD Cert.NormLinkBwd5Ideal.τ).loc Cert.NormLinkBwd5Ideal.main_arg5)) →
    ∃ (v0 : (c : Dev Cert.NormLinkBwd5Ideal.nD) → Buf (Elt Ideal) ((c.tc : Thread Cert.NormLinkBwd5Ideal.nD Cert.NormLinkBwd5Ideal.τ).loc Cert.NormLinkBwd5Ideal.main_v4_0)) (v1 : (c : Dev Cert.NormLinkBwd5Ideal.nD) → Buf (Elt Ideal) ((c.tc : Thread Cert.NormLinkBwd5Ideal.nD Cert.NormLinkBwd5Ideal.τ).loc Cert.NormLinkBwd5Ideal.main_v4_1)) (v2 : (c : Dev Cert.NormLinkBwd5Ideal.nD) → Buf (Elt Ideal) ((c.tc : Thread Cert.NormLinkBwd5Ideal.nD Cert.NormLinkBwd5Ideal.τ).loc Cert.NormLinkBwd5Ideal.main_v4_2)) (v3 : (c : Dev Cert.NormLinkBwd5Ideal.nD) → Buf (Elt Ideal) ((c.tc : Thread Cert.NormLinkBwd5Ideal.nD Cert.NormLinkBwd5Ideal.τ).loc Cert.NormLinkBwd5Ideal.main_v4_3)) (v4 : (c : Dev Cert.NormLinkBwd5Ideal.nD) → Buf (Elt Ideal) ((c.tc : Thread Cert.NormLinkBwd5Ideal.nD Cert.NormLinkBwd5Ideal.τ).loc Cert.NormLinkBwd5Ideal.main_v4_4)) (v5 : (c : Dev Cert.NormLinkBwd5Ideal.nD) → Buf (Elt Ideal) ((c.tc : Thread Cert.NormLinkBwd5Ideal.nD Cert.NormLinkBwd5Ideal.τ).loc Cert.NormLinkBwd5Ideal.main_v4_5)) (v6 : (c : Dev Cert.NormLinkBwd5Ideal.nD) → Buf (Elt Ideal) ((c.tc : Thread Cert.NormLinkBwd5Ideal.nD Cert.NormLinkBwd5Ideal.τ).loc Cert.NormLinkBwd5Ideal.main_v4_6)),
      θ_run (Cert.NormLinkBwd5Ideal.defs (F := Ideal)) (onTc (τ := Cert.NormLinkBwd5Ideal.τ) (Cert.NormLinkBwd5Ideal.main (F := Ideal))) ⟨m, fun _ => 0, g⟩ (fun r => ∀ c : Dev Cert.NormLinkBwd5Ideal.nD,
          r.2.mem ((c.tc : Thread Cert.NormLinkBwd5Ideal.nD Cert.NormLinkBwd5Ideal.τ).loc Cert.NormLinkBwd5Ideal.main_v4_0) = v0 c
          ∧ r.2.mem ((c.tc : Thread Cert.NormLinkBwd5Ideal.nD Cert.NormLinkBwd5Ideal.τ).loc Cert.NormLinkBwd5Ideal.main_v4_1) = v1 c
          ∧ r.2.mem ((c.tc : Thread Cert.NormLinkBwd5Ideal.nD Cert.NormLinkBwd5Ideal.τ).loc Cert.NormLinkBwd5Ideal.main_v4_2) = v2 c
          ∧ r.2.mem ((c.tc : Thread Cert.NormLinkBwd5Ideal.nD Cert.NormLinkBwd5Ideal.τ).loc Cert.NormLinkBwd5Ideal.main_v4_3) = v3 c
          ∧ r.2.mem ((c.tc : Thread Cert.NormLinkBwd5Ideal.nD Cert.NormLinkBwd5Ideal.τ).loc Cert.NormLinkBwd5Ideal.main_v4_4) = v4 c
          ∧ r.2.mem ((c.tc : Thread Cert.NormLinkBwd5Ideal.nD Cert.NormLinkBwd5Ideal.τ).loc Cert.NormLinkBwd5Ideal.main_v4_5) = v5 c
          ∧ r.2.mem ((c.tc : Thread Cert.NormLinkBwd5Ideal.nD Cert.NormLinkBwd5Ideal.τ).loc Cert.NormLinkBwd5Ideal.main_v4_6) = v6 c
          ∧ r.2.mem ((c.tc : Thread Cert.NormLinkBwd5Ideal.nD Cert.NormLinkBwd5Ideal.τ).loc Cert.NormLinkBwd5Ideal.main_arg0) = m ((c.tc : Thread Cert.NormLinkBwd5Ideal.nD Cert.NormLinkBwd5Ideal.τ).loc Cert.NormLinkBwd5Ideal.main_arg0)
          ∧ r.2.mem ((c.tc : Thread Cert.NormLinkBwd5Ideal.nD Cert.NormLinkBwd5Ideal.τ).loc Cert.NormLinkBwd5Ideal.main_arg1) = m ((c.tc : Thread Cert.NormLinkBwd5Ideal.nD Cert.NormLinkBwd5Ideal.τ).loc Cert.NormLinkBwd5Ideal.main_arg1)
          ∧ r.2.mem ((c.tc : Thread Cert.NormLinkBwd5Ideal.nD Cert.NormLinkBwd5Ideal.τ).loc Cert.NormLinkBwd5Ideal.main_arg2) = m ((c.tc : Thread Cert.NormLinkBwd5Ideal.nD Cert.NormLinkBwd5Ideal.τ).loc Cert.NormLinkBwd5Ideal.main_arg2)
          ∧ r.2.mem ((c.tc : Thread Cert.NormLinkBwd5Ideal.nD Cert.NormLinkBwd5Ideal.τ).loc Cert.NormLinkBwd5Ideal.main_arg3) = m ((c.tc : Thread Cert.NormLinkBwd5Ideal.nD Cert.NormLinkBwd5Ideal.τ).loc Cert.NormLinkBwd5Ideal.main_arg3)
          ∧ r.2.mem ((c.tc : Thread Cert.NormLinkBwd5Ideal.nD Cert.NormLinkBwd5Ideal.τ).loc Cert.NormLinkBwd5Ideal.main_arg4) = m ((c.tc : Thread Cert.NormLinkBwd5Ideal.nD Cert.NormLinkBwd5Ideal.τ).loc Cert.NormLinkBwd5Ideal.main_arg4)
          ∧ r.2.mem ((c.tc : Thread Cert.NormLinkBwd5Ideal.nD Cert.NormLinkBwd5Ideal.τ).loc Cert.NormLinkBwd5Ideal.main_arg5) = m ((c.tc : Thread Cert.NormLinkBwd5Ideal.nD Cert.NormLinkBwd5Ideal.τ).loc Cert.NormLinkBwd5Ideal.main_arg5))
      ∧ θ_run (Cert.NormLinkBwd5RefIdeal.defs (F := Ideal)) (onTc (τ := Cert.NormLinkBwd5RefIdeal.τ) (Cert.NormLinkBwd5RefIdeal.main (F := Ideal))) ⟨m', fun _ => 0, g'⟩ (fun r => ∀ c : Dev Cert.NormLinkBwd5RefIdeal.nD,
          r.2.mem ((c.tc : Thread Cert.NormLinkBwd5RefIdeal.nD Cert.NormLinkBwd5RefIdeal.τ).loc Cert.NormLinkBwd5RefIdeal.main_v51) = v0 c
          ∧ r.2.mem ((c.tc : Thread Cert.NormLinkBwd5RefIdeal.nD Cert.NormLinkBwd5RefIdeal.τ).loc Cert.NormLinkBwd5RefIdeal.main_v102) = v1 c
          ∧ r.2.mem ((c.tc : Thread Cert.NormLinkBwd5RefIdeal.nD Cert.NormLinkBwd5RefIdeal.τ).loc Cert.NormLinkBwd5RefIdeal.main_v26) = v2 c
          ∧ r.2.mem ((c.tc : Thread Cert.NormLinkBwd5RefIdeal.nD Cert.NormLinkBwd5RefIdeal.τ).loc Cert.NormLinkBwd5RefIdeal.main_v29) = v3 c
          ∧ r.2.mem ((c.tc : Thread Cert.NormLinkBwd5RefIdeal.nD Cert.NormLinkBwd5RefIdeal.τ).loc Cert.NormLinkBwd5RefIdeal.main_v34) = v4 c
          ∧ r.2.mem ((c.tc : Thread Cert.NormLinkBwd5RefIdeal.nD Cert.NormLinkBwd5RefIdeal.τ).loc Cert.NormLinkBwd5RefIdeal.main_v101) = v5 c
          ∧ r.2.mem ((c.tc : Thread Cert.NormLinkBwd5RefIdeal.nD Cert.NormLinkBwd5RefIdeal.τ).loc Cert.NormLinkBwd5RefIdeal.main_v83) = v6 c
          ∧ r.2.mem ((c.tc : Thread Cert.NormLinkBwd5RefIdeal.nD Cert.NormLinkBwd5RefIdeal.τ).loc Cert.NormLinkBwd5RefIdeal.main_arg0) = m' ((c.tc : Thread Cert.NormLinkBwd5RefIdeal.nD Cert.NormLinkBwd5RefIdeal.τ).loc Cert.NormLinkBwd5RefIdeal.main_arg0)
          ∧ r.2.mem ((c.tc : Thread Cert.NormLinkBwd5RefIdeal.nD Cert.NormLinkBwd5RefIdeal.τ).loc Cert.NormLinkBwd5RefIdeal.main_arg1) = m' ((c.tc : Thread Cert.NormLinkBwd5RefIdeal.nD Cert.NormLinkBwd5RefIdeal.τ).loc Cert.NormLinkBwd5RefIdeal.main_arg1)
          ∧ r.2.mem ((c.tc : Thread Cert.NormLinkBwd5RefIdeal.nD Cert.NormLinkBwd5RefIdeal.τ).loc Cert.NormLinkBwd5RefIdeal.main_arg2) = m' ((c.tc : Thread Cert.NormLinkBwd5RefIdeal.nD Cert.NormLinkBwd5RefIdeal.τ).loc Cert.NormLinkBwd5RefIdeal.main_arg2)
          ∧ r.2.mem ((c.tc : Thread Cert.NormLinkBwd5RefIdeal.nD Cert.NormLinkBwd5RefIdeal.τ).loc Cert.NormLinkBwd5RefIdeal.main_arg3) = m' ((c.tc : Thread Cert.NormLinkBwd5RefIdeal.nD Cert.NormLinkBwd5RefIdeal.τ).loc Cert.NormLinkBwd5RefIdeal.main_arg3)
          ∧ r.2.mem ((c.tc : Thread Cert.NormLinkBwd5RefIdeal.nD Cert.NormLinkBwd5RefIdeal.τ).loc Cert.NormLinkBwd5RefIdeal.main_arg4) = m' ((c.tc : Thread Cert.NormLinkBwd5RefIdeal.nD Cert.NormLinkBwd5RefIdeal.τ).loc Cert.NormLinkBwd5RefIdeal.main_arg4)
          ∧ r.2.mem ((c.tc : Thread Cert.NormLinkBwd5RefIdeal.nD Cert.NormLinkBwd5RefIdeal.τ).loc Cert.NormLinkBwd5RefIdeal.main_arg5) = m' ((c.tc : Thread Cert.NormLinkBwd5RefIdeal.nD Cert.NormLinkBwd5RefIdeal.τ).loc Cert.NormLinkBwd5RefIdeal.main_arg5))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v0) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamScale_AdamScaleIdeal : Prop :=
  True

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)) (v3 : (c : Dev Cert.AdamScaleIdeal.nD) → Buf (Elt Ideal) ((c.tc : Thread Cert.AdamScaleIdeal.nD Cert.AdamScaleIdeal.τ).loc Cert.AdamScaleIdeal.main_v0_3)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_v0_3) = v3 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_v0) = v0 c
          ∧ r.2.mem ((c.tc : Thread Cert.AdamScaleRefIdeal.nD Cert.AdamScaleRefIdeal.τ).loc Cert.AdamScaleRefIdeal.main_v24) = v1 c
          ∧ r.2.mem ((c.tc : Thread Cert.AdamScaleRefIdeal.nD Cert.AdamScaleRefIdeal.τ).loc Cert.AdamScaleRefIdeal.main_v5) = v2 c
          ∧ r.2.mem ((c.tc : Thread Cert.AdamScaleRefIdeal.nD Cert.AdamScaleRefIdeal.τ).loc Cert.AdamScaleRefIdeal.main_v11) = v3 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hFfnDwIn : Cert.FfnDwIn.Facts) (hFfnDwInIdeal : Cert.FfnDwInIdeal.Facts) (hFfnDwInRefIdeal : Cert.FfnDwInRefIdeal.Facts) (hFfnDwOut : Cert.FfnDwOut.Facts) (hFfnDwOutIdeal : Cert.FfnDwOutIdeal.Facts) (hFfnDwOutRefIdeal : Cert.FfnDwOutRefIdeal.Facts) (hAttFwd : Cert.AttFwd.Facts) (hAttFwdIdeal : Cert.AttFwdIdeal.Facts) (hAttFwdRefIdeal : Cert.AttFwdRefIdeal.Facts) (hMlaUvBwd : Cert.MlaUvBwd.Facts) (hMlaUvBwdIdeal : Cert.MlaUvBwdIdeal.Facts) (hMlaUvBwdRefIdeal : Cert.MlaUvBwdRefIdeal.Facts) (hMlaDo : Cert.MlaDo.Facts) (hMlaDoIdeal : Cert.MlaDoIdeal.Facts) (hMlaDoRefIdeal : Cert.MlaDoRefIdeal.Facts) (hMlaDwo : Cert.MlaDwo.Facts) (hMlaDwoIdeal : Cert.MlaDwoIdeal.Facts) (hMlaDwoRefIdeal : Cert.MlaDwoRefIdeal.Facts) (hMlaDh : Cert.MlaDh.Facts) (hMlaDhIdeal : Cert.MlaDhIdeal.Facts) (hMlaDhRefIdeal : Cert.MlaDhRefIdeal.Facts) (hMlaDwin : Cert.MlaDwin.Facts) (hMlaDwinIdeal : Cert.MlaDwinIdeal.Facts) (hMlaDwinRefIdeal : Cert.MlaDwinRefIdeal.Facts) (hMlaLat : Cert.MlaLat.Facts) (hMlaLatIdeal : Cert.MlaLatIdeal.Facts) (hMlaLatRefIdeal : Cert.MlaLatRefIdeal.Facts) (hMlaOut : Cert.MlaOut.Facts) (hMlaOutIdeal : Cert.MlaOutIdeal.Facts) (hMlaOutRefIdeal : Cert.MlaOutRefIdeal.Facts) (hMlaUv : Cert.MlaUv.Facts) (hMlaUvIdeal : Cert.MlaUvIdeal.Facts) (hMlaUvRefIdeal : Cert.MlaUvRefIdeal.Facts) (hPoolProj : Cert.PoolProj.Facts) (hPoolProjIdeal : Cert.PoolProjIdeal.Facts) (hPoolProjRefIdeal : Cert.PoolProjRefIdeal.Facts) (hPoolDw : Cert.PoolDw.Facts) (hPoolDwIdeal : Cert.PoolDwIdeal.Facts) (hPoolDwRefIdeal : Cert.PoolDwRefIdeal.Facts) (hPoolDz : Cert.PoolDz.Facts) (hPoolDzIdeal : Cert.PoolDzIdeal.Facts) (hPoolDzRefIdeal : Cert.PoolDzRefIdeal.Facts) (hPreNorm : Cert.PreNorm.Facts) (hPreNormIdeal : Cert.PreNormIdeal.Facts) (hPreNormRefIdeal : Cert.PreNormRefIdeal.Facts) (hNormLink : Cert.NormLink.Facts) (hNormLinkIdeal : Cert.NormLinkIdeal.Facts) (hNormLinkRefIdeal : Cert.NormLinkRefIdeal.Facts) (hPreNormBwd : Cert.PreNormBwd.Facts) (hPreNormBwdIdeal : Cert.PreNormBwdIdeal.Facts) (hPreNormBwdRefIdeal : Cert.PreNormBwdRefIdeal.Facts) (hNormLinkBwd : Cert.NormLinkBwd.Facts) (hNormLinkBwdIdeal : Cert.NormLinkBwdIdeal.Facts) (hNormLinkBwdRefIdeal : Cert.NormLinkBwdRefIdeal.Facts) (hAdamO : Cert.AdamO.Facts) (hAdamOIdeal : Cert.AdamOIdeal.Facts) (hAdamORefIdeal : Cert.AdamORefIdeal.Facts) (hAdamIn : Cert.AdamIn.Facts) (hAdamInIdeal : Cert.AdamInIdeal.Facts) (hAdamInRefIdeal : Cert.AdamInRefIdeal.Facts) (hAdamQ : Cert.AdamQ.Facts) (hAdamQIdeal : Cert.AdamQIdeal.Facts) (hAdamQRefIdeal : Cert.AdamQRefIdeal.Facts) (hAdamPool : Cert.AdamPool.Facts) (hAdamPoolIdeal : Cert.AdamPoolIdeal.Facts) (hAdamPoolRefIdeal : Cert.AdamPoolRefIdeal.Facts) (hNormLoss : Cert.NormLoss.Facts) (hNormLossIdeal : Cert.NormLossIdeal.Facts) (hNormLossRefIdeal : Cert.NormLossRefIdeal.Facts) (hNormLink1 : Cert.NormLink1.Facts) (hNormLink1Ideal : Cert.NormLink1Ideal.Facts) (hNormLink1RefIdeal : Cert.NormLink1RefIdeal.Facts) (hNormLink3 : Cert.NormLink3.Facts) (hNormLink3Ideal : Cert.NormLink3Ideal.Facts) (hNormLink3RefIdeal : Cert.NormLink3RefIdeal.Facts) (hNormLink5 : Cert.NormLink5.Facts) (hNormLink5Ideal : Cert.NormLink5Ideal.Facts) (hNormLink5RefIdeal : Cert.NormLink5RefIdeal.Facts) (hNormLinkBwd5 : Cert.NormLinkBwd5.Facts) (hNormLinkBwd5Ideal : Cert.NormLinkBwd5Ideal.Facts) (hNormLinkBwd5RefIdeal : Cert.NormLinkBwd5RefIdeal.Facts) (hAdamNorm : Cert.AdamNorm.Facts) (hAdamNormIdeal : Cert.AdamNormIdeal.Facts) (hAdamNormRefIdeal : Cert.AdamNormRefIdeal.Facts) (hAdamScale : Cert.AdamScale.Facts) (hAdamScaleIdeal : Cert.AdamScaleIdeal.Facts) (hAdamScaleRefIdeal : Cert.AdamScaleRefIdeal.Facts) (hPre_all_finite : Cert.Pre_all_finite.Facts) (hPre_ffn_finite : Cert.Pre_ffn_finite.Facts) (hPre_att_finite : Cert.Pre_att_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_FfnDwOut (hFfnDwOut := hFfnDwOut)
    ∧ quiescent_FfnDwOutIdeal (hFfnDwOutIdeal := hFfnDwOutIdeal)
    ∧ quiescent_FfnDwOutRefIdeal (hFfnDwOutRefIdeal := hFfnDwOutRefIdeal)
    ∧ quiescent_AttFwd (hAttFwd := hAttFwd)
    ∧ quiescent_AttFwdIdeal (hAttFwdIdeal := hAttFwdIdeal)
    ∧ quiescent_AttFwdIdeal_pre_att_finite (hAttFwdIdeal := hAttFwdIdeal) (hPre_att_finite := hPre_att_finite)
    ∧ quiescent_AttFwdRefIdeal (hAttFwdRefIdeal := hAttFwdRefIdeal)
    ∧ quiescent_AttFwdRefIdeal_pre_att_finite (hAttFwdRefIdeal := hAttFwdRefIdeal) (hPre_att_finite := hPre_att_finite)
    ∧ quiescent_MlaUvBwd (hMlaUvBwd := hMlaUvBwd)
    ∧ quiescent_MlaUvBwdIdeal (hMlaUvBwdIdeal := hMlaUvBwdIdeal)
    ∧ quiescent_MlaUvBwdRefIdeal (hMlaUvBwdRefIdeal := hMlaUvBwdRefIdeal)
    ∧ quiescent_MlaDo (hMlaDo := hMlaDo)
    ∧ quiescent_MlaDoIdeal (hMlaDoIdeal := hMlaDoIdeal)
    ∧ quiescent_MlaDoRefIdeal (hMlaDoRefIdeal := hMlaDoRefIdeal)
    ∧ quiescent_MlaDwo (hMlaDwo := hMlaDwo)
    ∧ quiescent_MlaDwoIdeal (hMlaDwoIdeal := hMlaDwoIdeal)
    ∧ quiescent_MlaDwoRefIdeal (hMlaDwoRefIdeal := hMlaDwoRefIdeal)
    ∧ quiescent_MlaDh (hMlaDh := hMlaDh)
    ∧ quiescent_MlaDhIdeal (hMlaDhIdeal := hMlaDhIdeal)
    ∧ quiescent_MlaDhRefIdeal (hMlaDhRefIdeal := hMlaDhRefIdeal)
    ∧ quiescent_MlaDwin (hMlaDwin := hMlaDwin)
    ∧ quiescent_MlaDwinIdeal (hMlaDwinIdeal := hMlaDwinIdeal)
    ∧ quiescent_MlaDwinRefIdeal (hMlaDwinRefIdeal := hMlaDwinRefIdeal)
    ∧ quiescent_MlaLat (hMlaLat := hMlaLat)
    ∧ quiescent_MlaLatIdeal (hMlaLatIdeal := hMlaLatIdeal)
    ∧ quiescent_MlaLatRefIdeal (hMlaLatRefIdeal := hMlaLatRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_MlaUv (hMlaUv := hMlaUv)
    ∧ quiescent_MlaUvIdeal (hMlaUvIdeal := hMlaUvIdeal)
    ∧ quiescent_MlaUvRefIdeal (hMlaUvRefIdeal := hMlaUvRefIdeal)
    ∧ quiescent_PoolProj (hPoolProj := hPoolProj)
    ∧ quiescent_PoolProjIdeal (hPoolProjIdeal := hPoolProjIdeal)
    ∧ quiescent_PoolProjRefIdeal (hPoolProjRefIdeal := hPoolProjRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_PoolDz (hPoolDz := hPoolDz)
    ∧ quiescent_PoolDzIdeal (hPoolDzIdeal := hPoolDzIdeal)
    ∧ quiescent_PoolDzRefIdeal (hPoolDzRefIdeal := hPoolDzRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_NormLink (hNormLink := hNormLink)
    ∧ quiescent_NormLinkIdeal (hNormLinkIdeal := hNormLinkIdeal)
    ∧ quiescent_NormLinkRefIdeal (hNormLinkRefIdeal := hNormLinkRefIdeal)
    ∧ quiescent_PreNormBwd (hPreNormBwd := hPreNormBwd)
    ∧ quiescent_PreNormBwdIdeal (hPreNormBwdIdeal := hPreNormBwdIdeal)
    ∧ quiescent_PreNormBwdRefIdeal (hPreNormBwdRefIdeal := hPreNormBwdRefIdeal)
    ∧ quiescent_NormLinkBwd (hNormLinkBwd := hNormLinkBwd)
    ∧ quiescent_NormLinkBwdIdeal (hNormLinkBwdIdeal := hNormLinkBwdIdeal)
    ∧ quiescent_NormLinkBwdRefIdeal (hNormLinkBwdRefIdeal := hNormLinkBwdRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_NormLoss (hNormLoss := hNormLoss)
    ∧ quiescent_NormLossIdeal (hNormLossIdeal := hNormLossIdeal)
    ∧ quiescent_NormLossRefIdeal (hNormLossRefIdeal := hNormLossRefIdeal)
    ∧ quiescent_NormLink1 (hNormLink1 := hNormLink1)
    ∧ quiescent_NormLink1Ideal (hNormLink1Ideal := hNormLink1Ideal)
    ∧ quiescent_NormLink1RefIdeal (hNormLink1RefIdeal := hNormLink1RefIdeal)
    ∧ quiescent_NormLink3 (hNormLink3 := hNormLink3)
    ∧ quiescent_NormLink3Ideal (hNormLink3Ideal := hNormLink3Ideal)
    ∧ quiescent_NormLink3RefIdeal (hNormLink3RefIdeal := hNormLink3RefIdeal)
    ∧ quiescent_NormLink5 (hNormLink5 := hNormLink5)
    ∧ quiescent_NormLink5Ideal (hNormLink5Ideal := hNormLink5Ideal)
    ∧ quiescent_NormLink5RefIdeal (hNormLink5RefIdeal := hNormLink5RefIdeal)
    ∧ quiescent_NormLinkBwd5 (hNormLinkBwd5 := hNormLinkBwd5)
    ∧ quiescent_NormLinkBwd5Ideal (hNormLinkBwd5Ideal := hNormLinkBwd5Ideal)
    ∧ quiescent_NormLinkBwd5RefIdeal (hNormLinkBwd5RefIdeal := hNormLinkBwd5RefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_FfnDwOut_FfnDwOutIdeal
    ∧ algebraic_FfnDwOutIdeal_FfnDwOutRefIdeal (hFfnDwOutIdeal := hFfnDwOutIdeal) (hFfnDwOutRefIdeal := hFfnDwOutRefIdeal)
    ∧ preserves_AttFwd_AttFwdIdeal
    ∧ algebraic_AttFwdIdeal_AttFwdRefIdeal_pre_att_finite (hAttFwdIdeal := hAttFwdIdeal) (hAttFwdRefIdeal := hAttFwdRefIdeal) (hPre_att_finite := hPre_att_finite)
    ∧ preserves_MlaUvBwd_MlaUvBwdIdeal
    ∧ algebraic_MlaUvBwdIdeal_MlaUvBwdRefIdeal (hMlaUvBwdIdeal := hMlaUvBwdIdeal) (hMlaUvBwdRefIdeal := hMlaUvBwdRefIdeal)
    ∧ preserves_MlaDo_MlaDoIdeal
    ∧ algebraic_MlaDoIdeal_MlaDoRefIdeal (hMlaDoIdeal := hMlaDoIdeal) (hMlaDoRefIdeal := hMlaDoRefIdeal)
    ∧ preserves_MlaDwo_MlaDwoIdeal
    ∧ algebraic_MlaDwoIdeal_MlaDwoRefIdeal (hMlaDwoIdeal := hMlaDwoIdeal) (hMlaDwoRefIdeal := hMlaDwoRefIdeal)
    ∧ preserves_MlaDh_MlaDhIdeal
    ∧ algebraic_MlaDhIdeal_MlaDhRefIdeal (hMlaDhIdeal := hMlaDhIdeal) (hMlaDhRefIdeal := hMlaDhRefIdeal)
    ∧ preserves_MlaDwin_MlaDwinIdeal
    ∧ algebraic_MlaDwinIdeal_MlaDwinRefIdeal (hMlaDwinIdeal := hMlaDwinIdeal) (hMlaDwinRefIdeal := hMlaDwinRefIdeal)
    ∧ preserves_MlaLat_MlaLatIdeal
    ∧ algebraic_MlaLatIdeal_MlaLatRefIdeal (hMlaLatIdeal := hMlaLatIdeal) (hMlaLatRefIdeal := hMlaLatRefIdeal)
    ∧ preserves_MlaOut_MlaOutIdeal
    ∧ algebraic_MlaOutIdeal_MlaOutRefIdeal (hMlaOutIdeal := hMlaOutIdeal) (hMlaOutRefIdeal := hMlaOutRefIdeal)
    ∧ preserves_MlaUv_MlaUvIdeal
    ∧ algebraic_MlaUvIdeal_MlaUvRefIdeal (hMlaUvIdeal := hMlaUvIdeal) (hMlaUvRefIdeal := hMlaUvRefIdeal)
    ∧ preserves_PoolProj_PoolProjIdeal
    ∧ algebraic_PoolProjIdeal_PoolProjRefIdeal (hPoolProjIdeal := hPoolProjIdeal) (hPoolProjRefIdeal := hPoolProjRefIdeal)
    ∧ preserves_PoolDw_PoolDwIdeal
    ∧ algebraic_PoolDwIdeal_PoolDwRefIdeal (hPoolDwIdeal := hPoolDwIdeal) (hPoolDwRefIdeal := hPoolDwRefIdeal)
    ∧ preserves_PoolDz_PoolDzIdeal
    ∧ algebraic_PoolDzIdeal_PoolDzRefIdeal (hPoolDzIdeal := hPoolDzIdeal) (hPoolDzRefIdeal := hPoolDzRefIdeal)
    ∧ preserves_PreNorm_PreNormIdeal
    ∧ algebraic_PreNormIdeal_PreNormRefIdeal (hPreNormIdeal := hPreNormIdeal) (hPreNormRefIdeal := hPreNormRefIdeal)
    ∧ preserves_NormLink_NormLinkIdeal
    ∧ algebraic_NormLinkIdeal_NormLinkRefIdeal (hNormLinkIdeal := hNormLinkIdeal) (hNormLinkRefIdeal := hNormLinkRefIdeal)
    ∧ preserves_PreNormBwd_PreNormBwdIdeal
    ∧ algebraic_PreNormBwdIdeal_PreNormBwdRefIdeal (hPreNormBwdIdeal := hPreNormBwdIdeal) (hPreNormBwdRefIdeal := hPreNormBwdRefIdeal)
    ∧ preserves_NormLinkBwd_NormLinkBwdIdeal
    ∧ algebraic_NormLinkBwdIdeal_NormLinkBwdRefIdeal (hNormLinkBwdIdeal := hNormLinkBwdIdeal) (hNormLinkBwdRefIdeal := hNormLinkBwdRefIdeal)
    ∧ preserves_AdamO_AdamOIdeal
    ∧ algebraic_AdamOIdeal_AdamORefIdeal (hAdamOIdeal := hAdamOIdeal) (hAdamORefIdeal := hAdamORefIdeal)
    ∧ preserves_AdamIn_AdamInIdeal
    ∧ algebraic_AdamInIdeal_AdamInRefIdeal (hAdamInIdeal := hAdamInIdeal) (hAdamInRefIdeal := hAdamInRefIdeal)
    ∧ preserves_AdamQ_AdamQIdeal
    ∧ algebraic_AdamQIdeal_AdamQRefIdeal (hAdamQIdeal := hAdamQIdeal) (hAdamQRefIdeal := hAdamQRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_NormLoss_NormLossIdeal
    ∧ algebraic_NormLossIdeal_NormLossRefIdeal (hNormLossIdeal := hNormLossIdeal) (hNormLossRefIdeal := hNormLossRefIdeal)
    ∧ preserves_NormLink1_NormLink1Ideal
    ∧ algebraic_NormLink1Ideal_NormLink1RefIdeal (hNormLink1Ideal := hNormLink1Ideal) (hNormLink1RefIdeal := hNormLink1RefIdeal)
    ∧ preserves_NormLink3_NormLink3Ideal
    ∧ algebraic_NormLink3Ideal_NormLink3RefIdeal (hNormLink3Ideal := hNormLink3Ideal) (hNormLink3RefIdeal := hNormLink3RefIdeal)
    ∧ preserves_NormLink5_NormLink5Ideal
    ∧ algebraic_NormLink5Ideal_NormLink5RefIdeal (hNormLink5Ideal := hNormLink5Ideal) (hNormLink5RefIdeal := hNormLink5RefIdeal)
    ∧ preserves_NormLinkBwd5_NormLinkBwd5Ideal
    ∧ algebraic_NormLinkBwd5Ideal_NormLinkBwd5RefIdeal (hNormLinkBwd5Ideal := hNormLinkBwd5Ideal) (hNormLinkBwd5RefIdeal := hNormLinkBwd5RefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamScale_AdamScaleIdeal
    ∧ algebraic_AdamScaleIdeal_AdamScaleRefIdeal (hAdamScaleIdeal := hAdamScaleIdeal) (hAdamScaleRefIdeal := hAdamScaleRefIdeal)
-- ==== Pre_all_finite.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x16x128 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x16x128 .f32 := Host.absf main_arg4
  let main_cst_6 : FVec F S_ .f32 := constant S_ .f32 0x7F800000#32
  let main_v20 : FVec F S4096x16x128 .f32 := broadcastInDim S4096x16x128 ![] bcast_S_S4096x16x128 main_cst_6
  let main_v21 : IVec S4096x16x128 1 := cmpf .olt main_v19 main_v20
  let main_c_7 : IVec S_ 1 := constantI S_ 1 1#1
  let main_v22 : IVec S_ 1 := (fun x v => Host.reduce IntOp.andi x v reducesTo_S4096x16x128_S_d0_1_2 h_S_) main_v21 main_c_7
  let main_v23 : IVec S_ 1 := andi main_v18 main_v22
  main_v23

def fn {F : FTy → Type} [FloatOps F] (main_arg0 : FVec F S4096x16x128 .f32) (main_arg1 : FVec F S4096x16x32 .f32) (main_arg2 : FVec F S4096x128 .f32) (main_arg3 : FVec F S4096x32 .f32) (main_arg4 : FVec F S4096x16x128 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Pre_att_finite.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S4096x16x128 .f32) (main_arg1 : FVec F S4096x16x32 .f32) (main_arg2 : FVec F S4096x128 .f32) (main_arg3 : FVec F S4096x32 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Pre_ffn_finite.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S1024x5632 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S4096x4096x16 : Shape := ⟨3, ![4096, 4096, 16]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x4096x128 : Shape := ⟨3, ![16, 4096, 128]⟩
abbrev S4096x16x96 : Shape := ⟨3, ![4096, 16, 96]⟩
abbrev S4096x16x256 : Shape := ⟨3, ![4096, 16, 256]⟩
abbrev S16x4096x256 : Shape := ⟨3, ![16, 4096, 256]⟩
abbrev S4096x1 : Shape := ⟨2, ![4096, 1]⟩
abbrev S4096x95 : Shape := ⟨2, ![4096, 95]⟩
abbrev S4096x256 : Shape := ⟨2, ![4096, 256]⟩
abbrev S256x4096 : Shape := ⟨2, ![256, 4096]⟩
abbrev S128x4096 : Shape := ⟨2, ![128, 4096]⟩
abbrev S1x1024x256 : Shape := ⟨3, ![1, 1024, 256]⟩
abbrev S1x1024x128 : Shape := ⟨3, ![1, 1024, 128]⟩
abbrev S1x1024x1 : Shape := ⟨3, ![1, 1024, 1]⟩
abbrev S1024x256 : Shape := ⟨2, ![1024, 256]⟩
abbrev S1024x128 : Shape := ⟨2, ![1024, 128]⟩
abbrev S128x1024 : Shape := ⟨2, ![128, 1024]⟩
abbrev S256x1024 : Shape := ⟨2, ![256, 1024]⟩
abbrev S1024x1 : Shape := ⟨2, ![1024, 1]⟩
abbrev S1024 : Shape := ⟨1, ![1024]⟩
abbrev S512x256 : Shape := ⟨2, ![512, 256]⟩
abbrev S1024x512 : Shape := ⟨2, ![1024, 512]⟩
abbrev S512x128 : Shape := ⟨2, ![512, 128]⟩
abbrev S128x512 : Shape := ⟨2, ![128, 512]⟩
abbrev S256x512 : Shape := ⟨2, ![256, 512]⟩

abbrev nBuf : Space → Nat
  | .hbm => 49
  | .vmem => 15
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S4096x4096x16, .f32⟩
  | .hbm, ⟨6, _⟩ => ⟨S16x4096x4096, .f32⟩
  | .hbm, ⟨7, _⟩ => ⟨S4096x4096x16, .f32⟩
  | .hbm, ⟨8, _⟩ => ⟨S16x4096x4096, .f32⟩
  | .hbm, ⟨9, _⟩ => ⟨S16x4096x4096, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x128, .f32⟩
  | .hbm, ⟨22, _⟩ => ⟨S16x4096x1, .f32⟩
  | .hbm, ⟨23, _⟩ => ⟨S16x4096x1, .f32⟩
  | .hbm, ⟨24, _⟩ => ⟨S_, .f32⟩
  | .hbm, ⟨25, _⟩ => ⟨S_, .f32⟩
  | .hbm, ⟨26, _⟩ => ⟨S16x4096x1, .f32⟩
  | .hbm, ⟨27, _⟩ => ⟨S16x4096x1, .f32⟩
  | .hbm, ⟨28, _⟩ => ⟨S_, .f32⟩
  | .hbm, ⟨29, _⟩ => ⟨S4096x16x96, .f32⟩
  | .hbm, ⟨30, _⟩ => ⟨S4096x16x256, .f32⟩
  | .hbm, ⟨31, _⟩ => ⟨S_, .f32⟩
  | .hbm, ⟨32, _⟩ => ⟨S_, .f32⟩
  | .hbm, ⟨33, _⟩ => ⟨S4096x16x256, .f32⟩
  | .hbm, ⟨34, _⟩ => ⟨S4096x16x256, .f32⟩
  | .hbm, ⟨35, _⟩ => ⟨S16x4096x256, .f32⟩
  | .hbm, ⟨36, _⟩ => ⟨S16x4096x256, .bf16⟩
  | .hbm, ⟨37, _⟩ => ⟨S_, .f32⟩
  | .hbm, ⟨38, _⟩ => ⟨S4096x1, .f32⟩
  | .hbm, ⟨39, _⟩ => ⟨S_, .f32⟩
  | .hbm, ⟨40, _⟩ => ⟨S4096x95, .f32⟩
  | .hbm, ⟨41, _⟩ => ⟨S4096x256, .f32⟩
  | .hbm, ⟨42, _⟩ => ⟨S4096x256, .bf16⟩
  | .hbm, ⟨43, _⟩ => ⟨S16x4096x128, .bf16⟩
  | .hbm, ⟨44, _⟩ => ⟨S16x4096x128, .f32⟩
  | .hbm, ⟨45, _⟩ => ⟨S16x4096x128, .bf16⟩
  | .hbm, ⟨46, _⟩ => ⟨S16x4096x256, .bf16⟩
  | .hbm, ⟨47, _⟩ => ⟨S256x4096, .f32⟩
  | .hbm, ⟨48, _⟩ => ⟨S128x4096, .f32⟩
  | .local _ .vmem, ⟨0, _⟩ => ⟨S1x1024x256, .bf16⟩
  | .local _ .vmem, ⟨1, _⟩ => ⟨S1x1024x256, .bf16⟩
  | .local _ .vmem, ⟨2, _⟩ => ⟨S4096x256, .bf16⟩
  | .local _ .vmem, ⟨3, _⟩ => ⟨S4096x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1x1024x256, .bf16⟩
  | .local _ .vmem, ⟨11, _⟩ => ⟨S1x1024x256, .bf16⟩
  | .local _ .vmem, ⟨12, _⟩ => ⟨S256x4096, .f32⟩
  | .local _ .vmem, ⟨13, _⟩ => ⟨S128x4096, .f32⟩
  | .local _ .vmem, ⟨14, _⟩ => ⟨S1024x256, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S4096x4096x16 : Shape := ⟨3, ![4096, 4096, 16]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S128x16x4096 : Shape := ⟨3, ![128, 16, 4096]⟩
abbrev S128x4096 : Shape := ⟨2, ![128, 4096]⟩
abbrev S4096x16x96 : Shape := ⟨3, ![4096, 16, 96]⟩
abbrev S4096x16x256 : Shape := ⟨3, ![4096, 16, 256]⟩
abbrev S4096x96 : Shape := ⟨2, ![4096, 96]⟩
abbrev S4096x256 : Shape := ⟨2, ![4096, 256]⟩
abbrev S16x4096x256 : Shape := ⟨3, ![16, 4096, 256]⟩
abbrev S256x4096 : Shape := ⟨2, ![256, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S4096x4096x16, .f32⟩
  | .hbm, ⟨6, _⟩ => ⟨S16x4096x4096, .f32⟩
  | .hbm, ⟨7, _⟩ => ⟨S4096x4096x16, .f32⟩
  | .hbm, ⟨8, _⟩ => ⟨S16x4096x4096, .f32⟩
  | .hbm, ⟨9, _⟩ => ⟨S16x4096x4096, .f32⟩
  | .hbm, ⟨10, _⟩ => ⟨S_, .f32⟩
  | .hbm, ⟨11, _⟩ => ⟨S16x4096, .f32⟩
  | .hbm, ⟨12, _⟩ => ⟨S16x4096x1, .f32⟩
  | .hbm, ⟨13, _⟩ => ⟨S16x4096x4096, .f32⟩
  | .hbm, ⟨14, _⟩ => ⟨S16x4096x4096, .i1⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S_, .f32⟩
  | .hbm, ⟨19, _⟩ => ⟨S16x4096, .f32⟩
  | .hbm, ⟨20, _⟩ => ⟨S16x4096, .f32⟩
  | .hbm, ⟨21, _⟩ => ⟨S_, .f32⟩
  | .hbm, ⟨22, _⟩ => ⟨S16x4096, .f32⟩
  | .hbm, ⟨23, _⟩ => ⟨S16x4096, .i1⟩
  | .hbm, ⟨24, _⟩ => ⟨S_, .f32⟩
  | .hbm, ⟨25, _⟩ => ⟨S16x4096, .f32⟩
  | .hbm, ⟨26, _⟩ => ⟨S16x4096, .i1⟩
  | .hbm, ⟨27, _⟩ => ⟨S_, .f32⟩
  | .hbm, ⟨28, _⟩ => ⟨S16x4096, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S128x16x4096, .f32⟩
  | .hbm, ⟨49, _⟩ => ⟨S4096x16x128, .f32⟩
  | .hbm, ⟨50, _⟩ => ⟨S128x16x4096, .f32⟩
  | .hbm, ⟨51, _⟩ => ⟨S16x4096x4096, .f32⟩
  | .hbm, ⟨52, _⟩ => ⟨S128x4096, .f32⟩
  | .hbm, ⟨53, _⟩ => ⟨S4096x128, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S4096x4096x16, .f32⟩
  | .hbm, ⟨69, _⟩ => ⟨S4096x16x32, .f32⟩
  | .hbm, ⟨70, _⟩ => ⟨S4096x32, .f32⟩
  | .hbm, ⟨71, _⟩ => ⟨S4096x4096x16, .f32⟩
  | .hbm, ⟨72, _⟩ => ⟨S4096x16x128, .f32⟩
  | .hbm, ⟨73, _⟩ => ⟨S4096x128, .f32⟩
  | .hbm, ⟨74, _⟩ => ⟨S_, .f32⟩
  | .hbm, ⟨75, _⟩ => ⟨S4096x16x96, .f32⟩
  | .hbm, ⟨76, _⟩ => ⟨S4096x16x256, .f32⟩
  | .hbm, ⟨77, _⟩ => ⟨S_, .f32⟩
  | .hbm, ⟨78, _⟩ => ⟨S4096x96, .f32⟩
  | .hbm, ⟨79, _⟩ => ⟨S4096x256, .f32⟩
  | .hbm, ⟨80, _⟩ => ⟨S_, .f32⟩
  | .hbm, ⟨81, _⟩ => ⟨S_, .f32⟩
  | .hbm, ⟨82, _⟩ => ⟨S4096x256, .f32⟩
  | .hbm, ⟨83, _⟩ => ⟨S4096x256, .f32⟩
  | .hbm, ⟨84, _⟩ => ⟨S16x4096x256, .f32⟩
  | .hbm, ⟨85, _⟩ => ⟨S16x4096x256, .bf16⟩
  | .hbm, ⟨86, _⟩ => ⟨S256x4096, .f32⟩
  | .hbm, ⟨87, _⟩ => ⟨S128x4096, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== FfnBwd.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S8x704x1024 : Shape := ⟨3, ![8, 704, 1024]⟩
abbrev S4x704x1024 : Shape := ⟨3, ![4, 704, 1024]⟩
abbrev S2x4x704x4096 : Shape := ⟨4, ![2, 4, 704, 4096]⟩
abbrev S4x704x4096 : Shape := ⟨3, ![4, 704, 4096]⟩
abbrev S1024x1024 : Shape := ⟨2, ![1024, 1024]⟩
abbrev S2x1x1024x704 : Shape := ⟨4, ![2, 1, 1024, 704]⟩
abbrev S1x704x1024 : Shape := ⟨3, ![1, 704, 1024]⟩
abbrev S2x1x704x1024 : Shape := ⟨4, ![2, 1, 704, 1024]⟩
abbrev S256x1024 : Shape := ⟨2, ![256, 1024]⟩
abbrev S704x1024 : Shape := ⟨2, ![704, 1024]⟩
abbrev S256x704 : Shape := ⟨2, ![256, 704]⟩
abbrev S1x1x256x704 : Shape := ⟨4, ![1, 1, 256, 704]⟩
abbrev S704x256 : Shape := ⟨2, ![704, 256]⟩
abbrev S1x1x704x256 : Shape := ⟨4, ![1, 1, 704, 256]⟩
abbrev S1x704x256 : Shape := ⟨3, ![1, 704, 256]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2x4x704, .f32⟩
  | .hbm, ⟨6, _⟩ => ⟨S2x4x4096x704, .f32⟩
  | .hbm, ⟨7, _⟩ => ⟨S2x4x4096x704, .bf16⟩
  | .hbm, ⟨8, _⟩ => ⟨S4096x1024, .bf16⟩
  | .hbm, ⟨9, _⟩ => ⟨S5632x1024, .f32⟩
  | .hbm, ⟨10, _⟩ => ⟨S8x704x1024, .f32⟩
  | .hbm, ⟨11, _⟩ => ⟨S8x704x1024, .bf16⟩
  | .hbm, ⟨12, _⟩ => ⟨S4x704x1024, .f32⟩
  | .hbm, ⟨13, _⟩ => ⟨S4x704x1024, .bf16⟩
  | .hbm, ⟨14, _⟩ => ⟨S4096x1024, .bf16⟩
  | .hbm, ⟨15, _⟩ => ⟨S2x4x704x4096, .bf16⟩
  | .hbm, ⟨16, _⟩ => ⟨S4x704x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2x1x704x1024, .bf16⟩
  | .local _ .vmem, ⟨13, _⟩ => ⟨S2x1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v211 : BitVec 1 := Scalar.cmpi .eq arg1 c3_i32
  let v212 : BitVec 32 := Scalar.extui v211
  let c0_i32_151 : BitVec 32 := 0#32
  let v213 : BitVec 1 := Scalar.cmpi .ne v212 c0_i32_151
  v213

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnBwdRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S5632x4096 : Shape := ⟨2, ![5632, 4096]⟩
abbrev S2x4x704x4096 : Shape := ⟨4, ![2, 4, 704, 4096]⟩
abbrev S2816x4096 : Shape := ⟨2, ![2816, 4096]⟩
abbrev S4x704x4096 : Shape := ⟨3, ![4, 704, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x1024, .f32⟩
  | .hbm, ⟨31, _⟩ => ⟨S4096x1024, .bf16⟩
  | .hbm, ⟨32, _⟩ => ⟨S5632x4096, .f32⟩
  | .hbm, ⟨33, _⟩ => ⟨S2x4x704x4096, .f32⟩
  | .hbm, ⟨34, _⟩ => ⟨S2x4x704x4096, .bf16⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S2816x4096, .f32⟩
  | .hbm, ⟨48, _⟩ => ⟨S4x704x4096, .f32⟩
  | .hbm, ⟨49, _⟩ => ⟨S4x704x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩

abbrev nD : Nat := 1
abbrev τ : Topo := Topo.v7x

variable {F : FTy → Type} [FloatOps F]
-- ==== FfnFwd.lean ====
abbrev S4096x1024 : Shape := ⟨2, ![4096, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S2x4x4096x704 : Shape := ⟨4, ![2, 4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S512x1024 : Shape := ⟨2, ![512, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .bf16⟩
  | .hbm, ⟨4, _⟩ => ⟨S5632x1024, .f32⟩
  | .hbm, ⟨5, _⟩ => ⟨S8x704x1024, .f32⟩
  | .hbm, ⟨6, _⟩ => ⟨S8x704x1024, .bf16⟩
  | .hbm, ⟨7, _⟩ => ⟨S4x704x1024, .f32⟩
  | .hbm, ⟨8, _⟩ => ⟨S4x704x1024, .bf16⟩
  | .hbm, ⟨9, _⟩ => ⟨S4096x1024, .bf16⟩
  | .hbm, ⟨10, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2x1x1024x704, .bf16⟩
  | .local _ .vmem, ⟨11, _⟩ => ⟨S2x1x1024x704, .bf16⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_49 : BitVec 32 := 0#32
  let v61 : BitVec 1 := Scalar.cmpi .ne v60 c0_i32_49
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S4096x1024, .bf16⟩
  | .hbm, ⟨18, _⟩ => ⟨S4096x2x4x704, .f32⟩
  | .hbm, ⟨19, _⟩ => ⟨S2x4x4096x704, .f32⟩
  | .hbm, ⟨20, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDwIn.lean ====
abbrev S4096x5632 : Shape := ⟨2, ![4096, 5632]⟩
abbrev S4096x1024 : Shape := ⟨2, ![4096, 1024]⟩
abbrev S5632x4096 : Shape := ⟨2, ![5632, 4096]⟩
abbrev S8x704x4096 : Shape := ⟨3, ![8, 704, 4096]⟩
abbrev S8x704x1024 : Shape := ⟨3, ![8, 704, 1024]⟩
abbrev S1x704x4096 : Shape := ⟨3, ![1, 704, 4096]⟩
abbrev S1x704x1024 : Shape := ⟨3, ![1, 704, 1024]⟩
abbrev S704x4096 : Shape := ⟨2, ![704, 4096]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S5632x4096, .f32⟩
  | .hbm, ⟨3, _⟩ => ⟨S8x704x4096, .f32⟩
  | .hbm, ⟨4, _⟩ => ⟨S8x704x4096, .bf16⟩
  | .hbm, ⟨5, _⟩ => ⟨S4096x1024, .bf16⟩
  | .hbm, ⟨6, _⟩ => ⟨S8x704x1024, .bf16⟩
  | .local _ .vmem, ⟨0, _⟩ => ⟨S1x704x4096, .bf16⟩
  | .local _ .vmem, ⟨1, _⟩ => ⟨S1x704x4096, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwInRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x704x1024, .f32⟩
  | .hbm, ⟨9, _⟩ => ⟨S8x704x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDwOut.lean ====
abbrev S4096x2816 : Shape := ⟨2, ![4096, 2816]⟩
abbrev S4096x1024 : Shape := ⟨2, ![4096, 1024]⟩
abbrev S2816x4096 : Shape := ⟨2, ![2816, 4096]⟩
abbrev S4x704x4096 : Shape := ⟨3, ![4, 704, 4096]⟩
abbrev S4x704x1024 : Shape := ⟨3, ![4, 704, 1024]⟩
abbrev S1x704x4096 : Shape := ⟨3, ![1, 704, 4096]⟩
abbrev S1x704x1024 : Shape := ⟨3, ![1, 704, 1024]⟩
abbrev S704x4096 : Shape := ⟨2, ![704, 4096]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S4x704x4096, .f32⟩
  | .hbm, ⟨4, _⟩ => ⟨S4x704x4096, .bf16⟩
  | .hbm, ⟨5, _⟩ => ⟨S4096x1024, .bf16⟩
  | .hbm, ⟨6, _⟩ => ⟨S4x704x1024, .bf16⟩
  | .local _ .vmem, ⟨0, _⟩ => ⟨S1x704x4096, .bf16⟩
  | .local _ .vmem, ⟨1, _⟩ => ⟨S1x704x4096, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttFwd.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x16x96 : Shape := ⟨3, ![4096, 16, 96]⟩
abbrev S4096x16x256 : Shape := ⟨3, ![4096, 16, 256]⟩
abbrev S16x4096x256 : Shape := ⟨3, ![16, 4096, 256]⟩
abbrev S4096x1 : Shape := ⟨2, ![4096, 1]⟩
abbrev S4096x95 : Shape := ⟨2, ![4096, 95]⟩
abbrev S4096x256 : Shape := ⟨2, ![4096, 256]⟩
abbrev S16x4096x128 : Shape := ⟨3, ![16, 4096, 128]⟩
abbrev S16x4096x1 : Shape := ⟨3, ![16, 4096, 1]⟩
abbrev S1x2048x256 : Shape := ⟨3, ![1, 2048, 256]⟩
abbrev S1x2048x128 : Shape := ⟨3, ![1, 2048, 128]⟩
abbrev S1x2048x1 : Shape := ⟨3, ![1, 2048, 1]⟩
abbrev S2048x256 : Shape := ⟨2, ![2048, 256]⟩
abbrev S2048x1 : Shape := ⟨2, ![2048, 1]⟩
abbrev S256x256 : Shape := ⟨2, ![256, 256]⟩
abbrev S2048 : Shape := ⟨1, ![2048]⟩
abbrev S2048x128 : Shape := ⟨2, ![2048, 128]⟩

abbrev nBuf : Space → Nat
  | .hbm => 21
  | .vmem => 7
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S_, .f32⟩
  | .hbm, ⟨5, _⟩ => ⟨S4096x16x96, .f32⟩
  | .hbm, ⟨6, _⟩ => ⟨S4096x16x256, .f32⟩
  | .hbm, ⟨7, _⟩ => ⟨S_, .f32⟩
  | .hbm, ⟨8, _⟩ => ⟨S_, .f32⟩
  | .hbm, ⟨9, _⟩ => ⟨S4096x16x256, .f32⟩
  | .hbm, ⟨10, _⟩ => ⟨S4096x16x256, .f32⟩
  | .hbm, ⟨11, _⟩ => ⟨S16x4096x256, .f32⟩
  | .hbm, ⟨12, _⟩ => ⟨S16x4096x256, .bf16⟩
  | .hbm, ⟨13, _⟩ => ⟨S_, .f32⟩
  | .hbm, ⟨14, _⟩ => ⟨S4096x1, .f32⟩
  | .hbm, ⟨15, _⟩ => ⟨S_, .f32⟩
  | .hbm, ⟨16, _⟩ => ⟨S4096x95, .f32⟩
  | .hbm, ⟨17, _⟩ => ⟨S4096x256, .f32⟩
  | .hbm, ⟨18, _⟩ => ⟨S4096x256, .bf16⟩
  | .hbm, ⟨19, _⟩ => ⟨S16x4096x128, .bf16⟩
  | .hbm, ⟨20, _⟩ => ⟨S16x4096x1, .f32⟩
  | .local _ .vmem, ⟨0, _⟩ => ⟨S1x2048x256, .bf16⟩
  | .local _ .vmem, ⟨1, _⟩ => ⟨S1x2048x256, .bf16⟩
  | .local _ .vmem, ⟨2, _⟩ => ⟨S4096x256, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x1, .f32⟩
  | .local _ .vmem, ⟨6, _⟩ => ⟨S1x2048x1, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttFwdIdeal.lean ====
variable {F : FTy → Type} [FloatOps F] [Named F]
def κ : String → Option EReal := fun
  | "inv_ln2" => some (((Real.log 2)⁻¹ : ℝ) : EReal)
  | _ => none
-- ==== AttFwdRefIdeal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S4096x4096x16 : Shape := ⟨3, ![4096, 4096, 16]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S128x16x4096 : Shape := ⟨3, ![128, 16, 4096]⟩
abbrev S16x4096x128 : Shape := ⟨3, ![16, 4096, 128]⟩

abbrev nBuf : Space → Nat
  | .hbm => 47
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x4096x16, .f32⟩
  | .hbm, ⟨5, _⟩ => ⟨S16x4096x4096, .f32⟩
  | .hbm, ⟨6, _⟩ => ⟨S4096x4096x16, .f32⟩
  | .hbm, ⟨7, _⟩ => ⟨S16x4096x4096, .f32⟩
  | .hbm, ⟨8, _⟩ => ⟨S16x4096x4096, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S16x4096x4096, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S4096x4096x16, .f32⟩
  | .hbm, ⟨25, _⟩ => ⟨S16x4096x4096, .f32⟩
  | .hbm, ⟨26, _⟩ => ⟨S4096x4096x16, .f32⟩
  | .hbm, ⟨27, _⟩ => ⟨S16x4096x4096, .f32⟩
  | .hbm, ⟨28, _⟩ => ⟨S16x4096x4096, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16x4096, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S128x16x4096, .f32⟩
  | .hbm, ⟨44, _⟩ => ⟨S4096x16x128, .f32⟩
  | .hbm, ⟨45, _⟩ => ⟨S16x4096x128, .f32⟩
  | .hbm, ⟨46, _⟩ => ⟨S16x4096x128, .bf16⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== MlaUvBwd.lean ====
abbrev S4096x16x128 : Shape := ⟨3, ![4096, 16, 128]⟩
abbrev S128x16x64 : Shape := ⟨3, ![128, 16, 64]⟩
abbrev S4096x1024 : Shape := ⟨2, ![4096, 1024]⟩
abbrev S16x4096x128 : Shape := ⟨3, ![16, 4096, 128]⟩
abbrev S16 : Shape := ⟨1, ![16]⟩
abbrev S_ : Shape := ⟨0, ![]⟩
abbrev S16x1x1 : Shape := ⟨3, ![16, 1, 1]⟩
abbrev S16x128x64 : Shape := ⟨3, ![16, 128, 64]⟩
abbrev S16x128x128 : Shape := ⟨3, ![16, 128, 128]⟩
abbrev S16x512x128 : Shape := ⟨3, ![16, 512, 128]⟩
abbrev S512x1024 : Shape := ⟨2, ![512, 1024]⟩
abbrev S512x128 : Shape := ⟨2, ![512, 128]⟩
abbrev S1x128x128 : Shape := ⟨3, ![1, 128, 128]⟩
abbrev S128x128 : Shape := ⟨2, ![128, 128]⟩
abbrev S1x512x128 : Shape := ⟨3, ![1, 512, 128]⟩

abbrev nBuf : Space → Nat
  | .hbm => 45
  | .vmem => 8
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S4096x1024, .f32⟩
  | .hbm, ⟨3, _⟩ => ⟨S16x4096x128, .f32⟩
  | .hbm, ⟨4, _⟩ => ⟨S16x4096x128, .bf16⟩
  | .hbm, ⟨5, _⟩ => ⟨S16, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S_, .i1⟩
  | .hbm, ⟨22, _⟩ => ⟨S16, .i1⟩
  | .hbm, ⟨23, _⟩ => ⟨S16, .i1⟩
  | .hbm, ⟨24, _⟩ => ⟨S16, .i1⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S16x1x1, .i1⟩
  | .hbm, ⟨32, _⟩ => ⟨S16x128x64, .f32⟩
  | .hbm, ⟨33, _⟩ => ⟨S16x128x64, .bf16⟩
  | .hbm, ⟨34, _⟩ => ⟨S_, .bf16⟩
  | .hbm, ⟨35, _⟩ => ⟨S16x128x64, .bf16⟩
  | .hbm, ⟨36, _⟩ => ⟨S16x128x128, .bf16⟩
  | .hbm, ⟨37, _⟩ => ⟨S_, .bf16⟩
  | .hbm, ⟨38, _⟩ => ⟨S16x128x64, .bf16⟩
  | .hbm, ⟨39, _⟩ => ⟨S16x128x128, .bf16⟩
  | .hbm, ⟨40, _⟩ => ⟨S16x128x128, .i1⟩
  | .hbm, ⟨41, _⟩ => ⟨S16x128x128, .bf16⟩
  | .hbm, ⟨42, _⟩ => ⟨S4096x1024, .bf16⟩
  | .hbm, ⟨43, _⟩ => ⟨S16x4096x128, .bf16⟩
  | .hbm, ⟨44, _⟩ => ⟨S16x128x128, .f32⟩
  | .local _ .vmem, ⟨0, _⟩ => ⟨S16x512x128, .bf16⟩
  | .local _ .vmem, ⟨1, _⟩ => ⟨S16x512x128, .bf16⟩
  | .local _ .vmem, ⟨2, _⟩ => ⟨S16x128x128, .bf16⟩
  | .local _ .vmem, ⟨3, _⟩ => ⟨S512x1024, .bf16⟩
  | .local _ .vmem, ⟨4, _⟩ => ⟨S512x1024, .bf16⟩
  | .local _ .vmem, ⟨5, _⟩ => ⟨S16x512x128, .bf16⟩
  | .local _ .vmem, ⟨6, _⟩ => ⟨S16x512x128, .bf16⟩
  | .local _ .vmem, ⟨7, _⟩ => ⟨S16x128x128, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_call1_v0 : Ref sig .tc := ⟨.hbm, 40, rfl⟩
abbrev main_v13 : Ref sig .tc := ⟨.hbm, 41, rfl⟩
abbrev main_v14 : Ref sig .tc := ⟨.hbm, 42, rfl⟩
abbrev main_v15_0 : Ref sig .tc := ⟨.hbm, 43, rfl⟩
abbrev main_v15_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MlaUvBwdRefIdeal.lean ====
abbrev S4096x16x128 : Shape := ⟨3, ![4096, 16, 128]⟩
abbrev S128x16x64 : Shape := ⟨3, ![128, 16, 64]⟩
abbrev S4096x1024 : Shape := ⟨2, ![4096, 1024]⟩
abbrev S16x64x4096 : Shape := ⟨3, ![16, 64, 4096]⟩
abbrev S4096x16x64 : Shape := ⟨3, ![4096, 16, 64]⟩
abbrev S16x4096x128 : Shape := ⟨3, ![16, 4096, 128]⟩
abbrev S_ : Shape := ⟨0, ![]⟩
abbrev S16x128x128 : Shape := ⟨3, ![16, 128, 128]⟩
abbrev S4096x8x2x128 : Shape := ⟨4, ![4096, 8, 2, 128]⟩
abbrev S8x2x128x128 : Shape := ⟨4, ![8, 2, 128, 128]⟩
abbrev S8x128x4096 : Shape := ⟨3, ![8, 128, 4096]⟩
abbrev S4096x8x128 : Shape := ⟨3, ![4096, 8, 128]⟩
abbrev S8x128x2x128 : Shape := ⟨4, ![8, 128, 2, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S4096x1024, .f32⟩
  | .hbm, ⟨3, _⟩ => ⟨S16x64x4096, .f32⟩
  | .hbm, ⟨4, _⟩ => ⟨S4096x16x64, .f32⟩
  | .hbm, ⟨5, _⟩ => ⟨S4096x1024, .f32⟩
  | .hbm, ⟨6, _⟩ => ⟨S4096x16x64, .f32⟩
  | .hbm, ⟨7, _⟩ => ⟨S16x64x4096, .f32⟩
  | .hbm, ⟨8, _⟩ => ⟨S16x4096x128, .f32⟩
  | .hbm, ⟨9, _⟩ => ⟨S4096x16x128, .f32⟩
  | .hbm, ⟨10, _⟩ => ⟨S_, .f32⟩
  | .hbm, ⟨11, _⟩ => ⟨S16x128x128, .f32⟩
  | .hbm, ⟨12, _⟩ => ⟨S4096x8x2x128, .f32⟩
  | .hbm, ⟨13, _⟩ => ⟨S8x2x128x128, .f32⟩
  | .hbm, ⟨14, _⟩ => ⟨S8x128x4096, .f32⟩
  | .hbm, ⟨15, _⟩ => ⟨S4096x8x128, .f32⟩
  | .hbm, ⟨16, _⟩ => ⟨S4096x1024, .f32⟩
  | .hbm, ⟨17, _⟩ => ⟨S4096x8x128, .f32⟩
  | .hbm, ⟨18, _⟩ => ⟨S8x128x4096, .f32⟩
  | .hbm, ⟨19, _⟩ => ⟨S8x128x2x128, .f32⟩
  | .hbm, ⟨20, _⟩ => ⟨S8x2x128x128, .f32⟩
  | .hbm, ⟨21, _⟩ => ⟨S16x128x128, .f32⟩
  | .hbm, ⟨22, _⟩ => ⟨S16x4096x128, .f32⟩
  | .hbm, ⟨23, _⟩ => ⟨S16x4096x128, .bf16⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== MlaDo.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MlaDoRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaDwo.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MlaDwoRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaDh.lean ====
abbrev S4096x416 : Shape := ⟨2, ![4096, 416]⟩
abbrev S1024x416 : Shape := ⟨2, ![1024, 416]⟩
abbrev S_ : Shape := ⟨0, ![]⟩
abbrev S4096x512 : Shape := ⟨2, ![4096, 512]⟩
abbrev S1024x512 : Shape := ⟨2, ![1024, 512]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4096x416, .f32⟩
  | .hbm, ⟨1, _⟩ => ⟨S1024x416, .f32⟩
  | .hbm, ⟨2, _⟩ => ⟨S_, .i32⟩
  | .hbm, ⟨3, _⟩ => ⟨S_, .f32⟩
  | .hbm, ⟨4, _⟩ => ⟨S4096x512, .f32⟩
  | .hbm, ⟨5, _⟩ => ⟨S4096x512, .bf16⟩
  | .hbm, ⟨6, _⟩ => ⟨S1024x416, .bf16⟩
  | .hbm, ⟨7, _⟩ => ⟨S_, .i32⟩
  | .hbm, ⟨8, _⟩ => ⟨S_, .bf16⟩
  | .hbm, ⟨9, _⟩ => ⟨S1024x512, .bf16⟩
  | .hbm, ⟨10, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .bf16⟩
  | .local _ .vmem, ⟨4, _⟩ => ⟨S512x1024, .bf16⟩
  | _, _ => ⟨S4096x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MlaDhRefIdeal.lean ====
abbrev S4096x416 : Shape := ⟨2, ![4096, 416]⟩
abbrev S1024x416 : Shape := ⟨2, ![1024, 416]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x416, .f32⟩
  | .hbm, ⟨1, _⟩ => ⟨S1024x416, .f32⟩
  | .hbm, ⟨2, _⟩ => ⟨S_, .f32⟩
  | .hbm, ⟨3, _⟩ => ⟨S4096x1024, .f32⟩
  | .hbm, ⟨4, _⟩ => ⟨S4096x416, .f32⟩
  | .hbm, ⟨5, _⟩ => ⟨S4096x1024, .f32⟩
  | .hbm, ⟨6, _⟩ => ⟨S4096x1024, .bf16⟩
  | _, _ => ⟨S4096x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaDwin.lean ====
abbrev S4096x1024 : Shape := ⟨2, ![4096, 1024]⟩
abbrev S4096x416 : Shape := ⟨2, ![4096, 416]⟩
abbrev S_ : Shape := ⟨0, ![]⟩
abbrev S4096x512 : Shape := ⟨2, ![4096, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x416, .f32⟩
  | .hbm, ⟨2, _⟩ => ⟨S4096x1024, .bf16⟩
  | .hbm, ⟨3, _⟩ => ⟨S_, .i32⟩
  | .hbm, ⟨4, _⟩ => ⟨S_, .f32⟩
  | .hbm, ⟨5, _⟩ => ⟨S4096x512, .f32⟩
  | .hbm, ⟨6, _⟩ => ⟨S4096x512, .bf16⟩
  | .hbm, ⟨7, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MlaDwinRefIdeal.lean ====
abbrev S4096x1024 : Shape := ⟨2, ![4096, 1024]⟩
abbrev S4096x416 : Shape := ⟨2, ![4096, 416]⟩
abbrev S_ : Shape := ⟨0, ![]⟩
abbrev S1024x416 : Shape := ⟨2, ![1024, 416]⟩
abbrev S416x1024 : Shape := ⟨2, ![416, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x416, .f32⟩
  | .hbm, ⟨2, _⟩ => ⟨S_, .f32⟩
  | .hbm, ⟨3, _⟩ => ⟨S1024x416, .f32⟩
  | .hbm, ⟨4, _⟩ => ⟨S4096x416, .f32⟩
  | .hbm, ⟨5, _⟩ => ⟨S416x1024, .f32⟩
  | .hbm, ⟨6, _⟩ => ⟨S1024x416, .f32⟩
  | .hbm, ⟨7, _⟩ => ⟨S_, .i32⟩
  | .hbm, ⟨8, _⟩ => ⟨S_, .f32⟩
  | .hbm, ⟨9, _⟩ => ⟨S1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== MlaLat.lean ====
abbrev S4096x1024 : Shape := ⟨2, ![4096, 1024]⟩
abbrev S1024x416 : Shape := ⟨2, ![1024, 416]⟩
abbrev S_ : Shape := ⟨0, ![]⟩
abbrev S1024x512 : Shape := ⟨2, ![1024, 512]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x416, .f32⟩
  | .hbm, ⟨2, _⟩ => ⟨S4096x1024, .bf16⟩
  | .hbm, ⟨3, _⟩ => ⟨S1024x416, .bf16⟩
  | .hbm, ⟨4, _⟩ => ⟨S_, .i32⟩
  | .hbm, ⟨5, _⟩ => ⟨S_, .bf16⟩
  | .hbm, ⟨6, _⟩ => ⟨S1024x512, .bf16⟩
  | .hbm, ⟨7, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MlaLatRefIdeal.lean ====
abbrev S4096x1024 : Shape := ⟨2, ![4096, 1024]⟩
abbrev S1024x416 : Shape := ⟨2, ![1024, 416]⟩
abbrev S4096x416 : Shape := ⟨2, ![4096, 416]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x416, .f32⟩
  | .hbm, ⟨2, _⟩ => ⟨S4096x416, .f32⟩
  | .hbm, ⟨3, _⟩ => ⟨S_, .i32⟩
  | .hbm, ⟨4, _⟩ => ⟨S_, .f32⟩
  | .hbm, ⟨5, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== MlaOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MlaOutRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaUv.lean ====
abbrev S4096x16x128 : Shape := ⟨3, ![4096, 16, 128]⟩
abbrev S128x16x64 : Shape := ⟨3, ![128, 16, 64]⟩
abbrev S16x4096x128 : Shape := ⟨3, ![16, 4096, 128]⟩
abbrev S16 : Shape := ⟨1, ![16]⟩
abbrev S_ : Shape := ⟨0, ![]⟩
abbrev S16x1x1 : Shape := ⟨3, ![16, 1, 1]⟩
abbrev S16x128x64 : Shape := ⟨3, ![16, 128, 64]⟩
abbrev S16x128x128 : Shape := ⟨3, ![16, 128, 128]⟩
abbrev S4096x1024 : Shape := ⟨2, ![4096, 1024]⟩
abbrev S16x512x128 : Shape := ⟨3, ![16, 512, 128]⟩
abbrev S512x1024 : Shape := ⟨2, ![512, 1024]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 42
  | .vmem => 5
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S16x4096x128, .f32⟩
  | .hbm, ⟨3, _⟩ => ⟨S16x4096x128, .bf16⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S_, .i1⟩
  | .hbm, ⟨21, _⟩ => ⟨S16, .i1⟩
  | .hbm, ⟨22, _⟩ => ⟨S16, .i1⟩
  | .hbm, ⟨23, _⟩ => ⟨S16, .i1⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S16x1x1, .i1⟩
  | .hbm, ⟨31, _⟩ => ⟨S16x128x64, .f32⟩
  | .hbm, ⟨32, _⟩ => ⟨S16x128x64, .bf16⟩
  | .hbm, ⟨33, _⟩ => ⟨S_, .bf16⟩
  | .hbm, ⟨34, _⟩ => ⟨S16x128x64, .bf16⟩
  | .hbm, ⟨35, _⟩ => ⟨S16x128x128, .bf16⟩
  | .hbm, ⟨36, _⟩ => ⟨S_, .bf16⟩
  | .hbm, ⟨37, _⟩ => ⟨S16x128x64, .bf16⟩
  | .hbm, ⟨38, _⟩ => ⟨S16x128x128, .bf16⟩
  | .hbm, ⟨39, _⟩ => ⟨S16x128x128, .i1⟩
  | .hbm, ⟨40, _⟩ => ⟨S16x128x128, .bf16⟩
  | .hbm, ⟨41, _⟩ => ⟨S4096x1024, .bf16⟩
  | .local _ .vmem, ⟨0, _⟩ => ⟨S16x512x128, .bf16⟩
  | .local _ .vmem, ⟨1, _⟩ => ⟨S16x512x128, .bf16⟩
  | .local _ .vmem, ⟨2, _⟩ => ⟨S16x128x128, .bf16⟩
  | .local _ .vmem, ⟨3, _⟩ => ⟨S512x1024, .bf16⟩
  | .local _ .vmem, ⟨4, _⟩ => ⟨S512x1024, .bf16⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_call1_v0 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MlaUvRefIdeal.lean ====
abbrev S4096x16x128 : Shape := ⟨3, ![4096, 16, 128]⟩
abbrev S128x16x64 : Shape := ⟨3, ![128, 16, 64]⟩
abbrev S16x64x4096 : Shape := ⟨3, ![16, 64, 4096]⟩
abbrev S4096x16x64 : Shape := ⟨3, ![4096, 16, 64]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S16x64x4096, .f32⟩
  | .hbm, ⟨3, _⟩ => ⟨S4096x16x64, .f32⟩
  | .hbm, ⟨4, _⟩ => ⟨S4096x1024, .f32⟩
  | .hbm, ⟨5, _⟩ => ⟨S4096x1024, .bf16⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PoolProj.lean ====
abbrev S4096x1024 : Shape := ⟨2, ![4096, 1024]⟩
abbrev S4x256x256 : Shape := ⟨3, ![4, 256, 256]⟩
abbrev S4x256 : Shape := ⟨2, ![4, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4x256, .f32⟩
  | .hbm, ⟨3, _⟩ => ⟨S4096x1024, .bf16⟩
  | .hbm, ⟨4, _⟩ => ⟨S4x256x256, .bf16⟩
  | .hbm, ⟨5, _⟩ => ⟨S1x1024, .f32⟩
  | .hbm, ⟨6, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PoolProjRefIdeal.lean ====
abbrev S4096x1024 : Shape := ⟨2, ![4096, 1024]⟩
abbrev S4x256x256 : Shape := ⟨3, ![4, 256, 256]⟩
abbrev S4x256 : Shape := ⟨2, ![4, 256]⟩
abbrev S4096x4x256 : Shape := ⟨3, ![4096, 4, 256]⟩
abbrev S4x256x4096 : Shape := ⟨3, ![4, 256, 4096]⟩
abbrev S1x4x256 : Shape := ⟨3, ![1, 4, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4x256, .f32⟩
  | .hbm, ⟨3, _⟩ => ⟨S4096x4x256, .f32⟩
  | .hbm, ⟨4, _⟩ => ⟨S4x256x4096, .f32⟩
  | .hbm, ⟨5, _⟩ => ⟨S4096x4x256, .f32⟩
  | .hbm, ⟨6, _⟩ => ⟨S1x4x256, .f32⟩
  | .hbm, ⟨7, _⟩ => ⟨S4096x4x256, .f32⟩
  | .hbm, ⟨8, _⟩ => ⟨S4096x4x256, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PoolDw.lean ====
abbrev S4096x1024 : Shape := ⟨2, ![4096, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolDwRefIdeal.lean ====
abbrev S4096x1024 : Shape := ⟨2, ![4096, 1024]⟩
abbrev S_ : Shape := ⟨0, ![]⟩
abbrev S4x256x256 : Shape := ⟨3, ![4, 256, 256]⟩
abbrev S4x256 : Shape := ⟨2, ![4, 256]⟩
abbrev S4096x4x256 : Shape := ⟨3, ![4096, 4, 256]⟩
abbrev S4x256x4096 : Shape := ⟨3, ![4, 256, 4096]⟩
abbrev S1x4x256 : Shape := ⟨3, ![1, 4, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4x256x256, .f32⟩
  | .hbm, ⟨4, _⟩ => ⟨S_, .f32⟩
  | .hbm, ⟨5, _⟩ => ⟨S4x256, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S1x4x256, .f32⟩
  | .hbm, ⟨10, _⟩ => ⟨S4096x4x256, .f32⟩
  | .hbm, ⟨11, _⟩ => ⟨S4096x4x256, .f32⟩
  | .hbm, ⟨12, _⟩ => ⟨S4096x1024, .f32⟩
  | .hbm, ⟨13, _⟩ => ⟨S4096x4x256, .f32⟩
  | .hbm, ⟨14, _⟩ => ⟨S4x256x4096, .f32⟩
  | .hbm, ⟨15, _⟩ => ⟨S4x256x256, .f32⟩
  | .hbm, ⟨16, _⟩ => ⟨S4x256x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== PoolDz.lean ====
abbrev S4096x1024 : Shape := ⟨2, ![4096, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4096x1024, .bf16⟩
  | .hbm, ⟨3, _⟩ => ⟨S4x256x256, .bf16⟩
  | .hbm, ⟨4, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S2048x256, .f32⟩
  | .local _ .vmem, ⟨5, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDzRefIdeal.lean ====
abbrev S4096x1024 : Shape := ⟨2, ![4096, 1024]⟩
abbrev S4x256x256 : Shape := ⟨3, ![4, 256, 256]⟩
abbrev S_ : Shape := ⟨0, ![]⟩
abbrev S4x256 : Shape := ⟨2, ![4, 256]⟩
abbrev S4096x4x256 : Shape := ⟨3, ![4096, 4, 256]⟩
abbrev S4x256x4096 : Shape := ⟨3, ![4, 256, 4096]⟩
abbrev S1x4x256 : Shape := ⟨3, ![1, 4, 256]⟩
abbrev S4x4096x256 : Shape := ⟨3, ![4, 4096, 256]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4x256, .f32⟩
  | .hbm, ⟨6, _⟩ => ⟨S4096x4x256, .f32⟩
  | .hbm, ⟨7, _⟩ => ⟨S4x256x4096, .f32⟩
  | .hbm, ⟨8, _⟩ => ⟨S4096x4x256, .f32⟩
  | .hbm, ⟨9, _⟩ => ⟨S1x4x256, .f32⟩
  | .hbm, ⟨10, _⟩ => ⟨S4096x4x256, .f32⟩
  | .hbm, ⟨11, _⟩ => ⟨S4096x4x256, .f32⟩
  | .hbm, ⟨12, _⟩ => ⟨S4096x1024, .f32⟩
  | .hbm, ⟨13, _⟩ => ⟨S4096x4x256, .f32⟩
  | .hbm, ⟨14, _⟩ => ⟨S4x256x4096, .f32⟩
  | .hbm, ⟨15, _⟩ => ⟨S4x4096x256, .f32⟩
  | .hbm, ⟨16, _⟩ => ⟨S4096x4x256, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== PreNorm.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S12x1024, .f32⟩
  | .hbm, ⟨2, _⟩ => ⟨S18x1024, .f32⟩
  | .hbm, ⟨3, _⟩ => ⟨S12x1x1024, .f32⟩
  | .hbm, ⟨4, _⟩ => ⟨S18x1x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S12x1024, .f32⟩
  | .hbm, ⟨2, _⟩ => ⟨S18x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== NormLink.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_3 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_6 (i : grid0.Coords) : Fin 3 → Nat :=
  let arg0 : BitVec 32 := BitVec.ofNat 32 (i 0).val
  let c12_i32 : BitVec 32 := 12#32
  let c0_i32 : BitVec 32 := 0#32
  let c0_i32_0 : BitVec 32 := 0#32
  let c0_i32_1 : BitVec 32 := 0#32
  ![c12_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLinkIdeal.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_3 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_6 (i : grid0.Coords) : Fin 3 → Nat :=
  let arg0 : BitVec 32 := BitVec.ofNat 32 (i 0).val
  let c12_i32 : BitVec 32 := 12#32
  let c0_i32 : BitVec 32 := 0#32
  let c0_i32_0 : BitVec 32 := 0#32
  let c0_i32_1 : BitVec 32 := 0#32
  ![c12_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLinkRefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== PreNormBwd.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S12x1024, .f32⟩
  | .hbm, ⟨4, _⟩ => ⟨S18x1024, .f32⟩
  | .hbm, ⟨5, _⟩ => ⟨S12x1x1024, .f32⟩
  | .hbm, ⟨6, _⟩ => ⟨S18x1x1024, .f32⟩
  | .hbm, ⟨7, _⟩ => ⟨S4096x1024, .bf16⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PreNormBwdRefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S12x1024, .f32⟩
  | .hbm, ⟨4, _⟩ => ⟨S18x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== NormLinkBwd.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S12x1024, .f32⟩
  | .hbm, ⟨5, _⟩ => ⟨S18x1024, .f32⟩
  | .hbm, ⟨6, _⟩ => ⟨S12x1x1024, .f32⟩
  | .hbm, ⟨7, _⟩ => ⟨S18x1x1024, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_6 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_7 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormLinkBwdIdeal.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S12x1024, .f32⟩
  | .hbm, ⟨5, _⟩ => ⟨S18x1024, .f32⟩
  | .hbm, ⟨6, _⟩ => ⟨S12x1x1024, .f32⟩
  | .hbm, ⟨7, _⟩ => ⟨S18x1x1024, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_6 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_7 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormLinkBwdRefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S12x1024, .f32⟩
  | 5 => ⟨S18x1024, .f32⟩
  | 6 => ⟨S1x1024, .f32⟩
  | 7 => ⟨S1x1024, .f32⟩
  | 8 => ⟨S1x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S1x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S4096x1024, .f32⟩
  | 56 => ⟨S4096x1024, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S1x1024, .f32⟩
  | 2 => ⟨S1x1024, .f32⟩
  | 3 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_cst_20 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== AdamO.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOIdeal.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamORefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S8x128x416 : Shape := ⟨3, ![8, 128, 416]⟩
abbrev S128x416 : Shape := ⟨2, ![128, 416]⟩
abbrev S8x64x416 : Shape := ⟨3, ![8, 64, 416]⟩
abbrev S64x416 : Shape := ⟨2, ![64, 416]⟩
abbrev S1x64x416 : Shape := ⟨3, ![1, 64, 416]⟩

abbrev nBuf : Space → Nat
  | .hbm => 8
  | .vmem => 16
  | .smem => 0
  | _ => 0

abbrev bufTy : (tb : Table) → Fin (tcTables nBuf tb) → BufTy
  | .hbm, ⟨0, _⟩ => ⟨S8x128x416, .f32⟩
  | .hbm, ⟨1, _⟩ => ⟨S128x416, .f32⟩
  | .hbm, ⟨2, _⟩ => ⟨S128x416, .f32⟩
  | .hbm, ⟨3, _⟩ => ⟨S128x416, .f32⟩
  | .hbm, ⟨4, _⟩ => ⟨S128x416, .f32⟩
  | .hbm, ⟨5, _⟩ => ⟨S128x416, .f32⟩
  | .hbm, ⟨6, _⟩ => ⟨S128x416, .f32⟩
  | .hbm, ⟨7, _⟩ => ⟨S128x416, .f32⟩
  | .local _ .vmem, ⟨0, _⟩ => ⟨S8x64x416, .f32⟩
  | .local _ .vmem, ⟨1, _⟩ => ⟨S8x64x416, .f32⟩
  | .local _ .vmem, ⟨2, _⟩ => ⟨S64x416, .f32⟩
  | .local _ .vmem, ⟨3, _⟩ => ⟨S64x416, .f32⟩
  | .local _ .vmem, ⟨4, _⟩ => ⟨S64x416, .f32⟩
  | .local _ .vmem, ⟨5, _⟩ => ⟨S64x416, .f32⟩
  | .local _ .vmem, ⟨6, _⟩ => ⟨S64x416, .f32⟩
  | .local _ .vmem, ⟨7, _⟩ => ⟨S64x416, .f32⟩
  | .local _ .vmem, ⟨8, _⟩ => ⟨S64x416, .f32⟩
  | .local _ .vmem, ⟨9, _⟩ => ⟨S64x416, .f32⟩
  | .local _ .vmem, ⟨10, _⟩ => ⟨S64x416, .f32⟩
  | .local _ .vmem, ⟨11, _⟩ => ⟨S64x416, .f32⟩
  | .local _ .vmem, ⟨12, _⟩ => ⟨S64x416, .f32⟩
  | .local _ .vmem, ⟨13, _⟩ => ⟨S64x416, .f32⟩
  | .local _ .vmem, ⟨14, _⟩ => ⟨S64x416, .f32⟩
  | .local _ .vmem, ⟨15, _⟩ => ⟨S64x416, .f32⟩
  | _, _ => ⟨S8x128x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x416 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x416 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x416 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x416 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x128x416 : Shape := ⟨3, ![8, 128, 416]⟩
abbrev S128x416 : Shape := ⟨2, ![128, 416]⟩
abbrev S8x64x416 : Shape := ⟨3, ![8, 64, 416]⟩
abbrev S64x416 : Shape := ⟨2, ![64, 416]⟩
abbrev S1x64x416 : Shape := ⟨3, ![1, 64, 416]⟩

abbrev nBuf : Space → Nat
  | .hbm => 8
  | .vmem => 16
  | .smem => 0
  | _ => 0

abbrev bufTy : (tb : Table) → Fin (tcTables nBuf tb) → BufTy
  | .hbm, ⟨0, _⟩ => ⟨S8x128x416, .f32⟩
  | .hbm, ⟨1, _⟩ => ⟨S128x416, .f32⟩
  | .hbm, ⟨2, _⟩ => ⟨S128x416, .f32⟩
  | .hbm, ⟨3, _⟩ => ⟨S128x416, .f32⟩
  | .hbm, ⟨4, _⟩ => ⟨S128x416, .f32⟩
  | .hbm, ⟨5, _⟩ => ⟨S128x416, .f32⟩
  | .hbm, ⟨6, _⟩ => ⟨S128x416, .f32⟩
  | .hbm, ⟨7, _⟩ => ⟨S128x416, .f32⟩
  | .local _ .vmem, ⟨0, _⟩ => ⟨S8x64x416, .f32⟩
  | .local _ .vmem, ⟨1, _⟩ => ⟨S8x64x416, .f32⟩
  | .local _ .vmem, ⟨2, _⟩ => ⟨S64x416, .f32⟩
  | .local _ .vmem, ⟨3, _⟩ => ⟨S64x416, .f32⟩
  | .local _ .vmem, ⟨4, _⟩ => ⟨S64x416, .f32⟩
  | .local _ .vmem, ⟨5, _⟩ => ⟨S64x416, .f32⟩
  | .local _ .vmem, ⟨6, _⟩ => ⟨S64x416, .f32⟩
  | .local _ .vmem, ⟨7, _⟩ => ⟨S64x416, .f32⟩
  | .local _ .vmem, ⟨8, _⟩ => ⟨S64x416, .f32⟩
  | .local _ .vmem, ⟨9, _⟩ => ⟨S64x416, .f32⟩
  | .local _ .vmem, ⟨10, _⟩ => ⟨S64x416, .f32⟩
  | .local _ .vmem, ⟨11, _⟩ => ⟨S64x416, .f32⟩
  | .local _ .vmem, ⟨12, _⟩ => ⟨S64x416, .f32⟩
  | .local _ .vmem, ⟨13, _⟩ => ⟨S64x416, .f32⟩
  | .local _ .vmem, ⟨14, _⟩ => ⟨S64x416, .f32⟩
  | .local _ .vmem, ⟨15, _⟩ => ⟨S64x416, .f32⟩
  | _, _ => ⟨S8x128x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x416 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x416 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x416 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x416 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x416 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x416 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x128x416 : Shape := ⟨3, ![8, 128, 416]⟩
abbrev S128x416 : Shape := ⟨2, ![128, 416]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x416, .f32⟩
  | .hbm, ⟨1, _⟩ => ⟨S128x416, .f32⟩
  | .hbm, ⟨2, _⟩ => ⟨S128x416, .f32⟩
  | .hbm, ⟨3, _⟩ => ⟨S128x416, .f32⟩
  | .hbm, ⟨4, _⟩ => ⟨S_, .f32⟩
  | .hbm, ⟨5, _⟩ => ⟨S128x416, .f32⟩
  | .hbm, ⟨6, _⟩ => ⟨S_, .f32⟩
  | .hbm, ⟨7, _⟩ => ⟨S128x416, .f32⟩
  | .hbm, ⟨8, _⟩ => ⟨S128x416, .f32⟩
  | .hbm, ⟨9, _⟩ => ⟨S_, .f32⟩
  | .hbm, ⟨10, _⟩ => ⟨S128x416, .f32⟩
  | .hbm, ⟨11, _⟩ => ⟨S128x416, .f32⟩
  | .hbm, ⟨12, _⟩ => ⟨S128x416, .f32⟩
  | .hbm, ⟨13, _⟩ => ⟨S_, .f32⟩
  | .hbm, ⟨14, _⟩ => ⟨S128x416, .f32⟩
  | .hbm, ⟨15, _⟩ => ⟨S128x416, .f32⟩
  | .hbm, ⟨16, _⟩ => ⟨S128x416, .f32⟩
  | .hbm, ⟨17, _⟩ => ⟨S_, .f32⟩
  | .hbm, ⟨18, _⟩ => ⟨S128x416, .f32⟩
  | .hbm, ⟨19, _⟩ => ⟨S128x416, .f32⟩
  | .hbm, ⟨20, _⟩ => ⟨S128x416, .f32⟩
  | .hbm, ⟨21, _⟩ => ⟨S_, .f32⟩
  | .hbm, ⟨22, _⟩ => ⟨S128x416, .f32⟩
  | .hbm, ⟨23, _⟩ => ⟨S128x416, .f32⟩
  | .hbm, ⟨24, _⟩ => ⟨S_, .f32⟩
  | .hbm, ⟨25, _⟩ => ⟨S128x416, .f32⟩
  | .hbm, ⟨26, _⟩ => ⟨S128x416, .f32⟩
  | .hbm, ⟨27, _⟩ => ⟨S128x416, .f32⟩
  | .hbm, ⟨28, _⟩ => ⟨S_, .f32⟩
  | .hbm, ⟨29, _⟩ => ⟨S128x416, .f32⟩
  | .hbm, ⟨30, _⟩ => ⟨S128x416, .f32⟩
  | .hbm, ⟨31, _⟩ => ⟨S128x416, .f32⟩
  | .hbm, ⟨32, _⟩ => ⟨S_, .f32⟩
  | .hbm, ⟨33, _⟩ => ⟨S128x416, .f32⟩
  | .hbm, ⟨34, _⟩ => ⟨S128x416, .f32⟩
  | .hbm, ⟨35, _⟩ => ⟨S128x416, .f32⟩
  | .hbm, ⟨36, _⟩ => ⟨S_, .f32⟩
  | .hbm, ⟨37, _⟩ => ⟨S128x416, .f32⟩
  | .hbm, ⟨38, _⟩ => ⟨S128x416, .f32⟩
  | _, _ => ⟨S8x128x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamQ.lean ====
abbrev S8x32x1536 : Shape := ⟨3, ![8, 32, 1536]⟩
abbrev S32x1536 : Shape := ⟨2, ![32, 1536]⟩
abbrev S8x16x1536 : Shape := ⟨3, ![8, 16, 1536]⟩
abbrev S16x1536 : Shape := ⟨2, ![16, 1536]⟩
abbrev S1x16x1536 : Shape := ⟨3, ![1, 16, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8x32x1536, .f32⟩
  | .hbm, ⟨1, _⟩ => ⟨S32x1536, .f32⟩
  | .hbm, ⟨2, _⟩ => ⟨S32x1536, .f32⟩
  | .hbm, ⟨3, _⟩ => ⟨S32x1536, .f32⟩
  | .hbm, ⟨4, _⟩ => ⟨S32x1536, .f32⟩
  | .hbm, ⟨5, _⟩ => ⟨S32x1536, .f32⟩
  | .hbm, ⟨6, _⟩ => ⟨S32x1536, .f32⟩
  | .hbm, ⟨7, _⟩ => ⟨S32x1536, .f32⟩
  | .local _ .vmem, ⟨0, _⟩ => ⟨S8x16x1536, .f32⟩
  | .local _ .vmem, ⟨1, _⟩ => ⟨S8x16x1536, .f32⟩
  | .local _ .vmem, ⟨2, _⟩ => ⟨S16x1536, .f32⟩
  | .local _ .vmem, ⟨3, _⟩ => ⟨S16x1536, .f32⟩
  | .local _ .vmem, ⟨4, _⟩ => ⟨S16x1536, .f32⟩
  | .local _ .vmem, ⟨5, _⟩ => ⟨S16x1536, .f32⟩
  | .local _ .vmem, ⟨6, _⟩ => ⟨S16x1536, .f32⟩
  | .local _ .vmem, ⟨7, _⟩ => ⟨S16x1536, .f32⟩
  | .local _ .vmem, ⟨8, _⟩ => ⟨S16x1536, .f32⟩
  | .local _ .vmem, ⟨9, _⟩ => ⟨S16x1536, .f32⟩
  | .local _ .vmem, ⟨10, _⟩ => ⟨S16x1536, .f32⟩
  | .local _ .vmem, ⟨11, _⟩ => ⟨S16x1536, .f32⟩
  | .local _ .vmem, ⟨12, _⟩ => ⟨S16x1536, .f32⟩
  | .local _ .vmem, ⟨13, _⟩ => ⟨S16x1536, .f32⟩
  | .local _ .vmem, ⟨14, _⟩ => ⟨S16x1536, .f32⟩
  | .local _ .vmem, ⟨15, _⟩ => ⟨S16x1536, .f32⟩
  | _, _ => ⟨S8x32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQIdeal.lean ====
abbrev S8x32x1536 : Shape := ⟨3, ![8, 32, 1536]⟩
abbrev S32x1536 : Shape := ⟨2, ![32, 1536]⟩
abbrev S8x16x1536 : Shape := ⟨3, ![8, 16, 1536]⟩
abbrev S16x1536 : Shape := ⟨2, ![16, 1536]⟩
abbrev S1x16x1536 : Shape := ⟨3, ![1, 16, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8x32x1536, .f32⟩
  | .hbm, ⟨1, _⟩ => ⟨S32x1536, .f32⟩
  | .hbm, ⟨2, _⟩ => ⟨S32x1536, .f32⟩
  | .hbm, ⟨3, _⟩ => ⟨S32x1536, .f32⟩
  | .hbm, ⟨4, _⟩ => ⟨S32x1536, .f32⟩
  | .hbm, ⟨5, _⟩ => ⟨S32x1536, .f32⟩
  | .hbm, ⟨6, _⟩ => ⟨S32x1536, .f32⟩
  | .hbm, ⟨7, _⟩ => ⟨S32x1536, .f32⟩
  | .local _ .vmem, ⟨0, _⟩ => ⟨S8x16x1536, .f32⟩
  | .local _ .vmem, ⟨1, _⟩ => ⟨S8x16x1536, .f32⟩
  | .local _ .vmem, ⟨2, _⟩ => ⟨S16x1536, .f32⟩
  | .local _ .vmem, ⟨3, _⟩ => ⟨S16x1536, .f32⟩
  | .local _ .vmem, ⟨4, _⟩ => ⟨S16x1536, .f32⟩
  | .local _ .vmem, ⟨5, _⟩ => ⟨S16x1536, .f32⟩
  | .local _ .vmem, ⟨6, _⟩ => ⟨S16x1536, .f32⟩
  | .local _ .vmem, ⟨7, _⟩ => ⟨S16x1536, .f32⟩
  | .local _ .vmem, ⟨8, _⟩ => ⟨S16x1536, .f32⟩
  | .local _ .vmem, ⟨9, _⟩ => ⟨S16x1536, .f32⟩
  | .local _ .vmem, ⟨10, _⟩ => ⟨S16x1536, .f32⟩
  | .local _ .vmem, ⟨11, _⟩ => ⟨S16x1536, .f32⟩
  | .local _ .vmem, ⟨12, _⟩ => ⟨S16x1536, .f32⟩
  | .local _ .vmem, ⟨13, _⟩ => ⟨S16x1536, .f32⟩
  | .local _ .vmem, ⟨14, _⟩ => ⟨S16x1536, .f32⟩
  | .local _ .vmem, ⟨15, _⟩ => ⟨S16x1536, .f32⟩
  | _, _ => ⟨S8x32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQRefIdeal.lean ====
abbrev S8x32x1536 : Shape := ⟨3, ![8, 32, 1536]⟩
abbrev S32x1536 : Shape := ⟨2, ![32, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x1536, .f32⟩
  | .hbm, ⟨1, _⟩ => ⟨S32x1536, .f32⟩
  | .hbm, ⟨2, _⟩ => ⟨S32x1536, .f32⟩
  | .hbm, ⟨3, _⟩ => ⟨S32x1536, .f32⟩
  | .hbm, ⟨4, _⟩ => ⟨S_, .f32⟩
  | .hbm, ⟨5, _⟩ => ⟨S32x1536, .f32⟩
  | .hbm, ⟨6, _⟩ => ⟨S_, .f32⟩
  | .hbm, ⟨7, _⟩ => ⟨S32x1536, .f32⟩
  | .hbm, ⟨8, _⟩ => ⟨S32x1536, .f32⟩
  | .hbm, ⟨9, _⟩ => ⟨S_, .f32⟩
  | .hbm, ⟨10, _⟩ => ⟨S32x1536, .f32⟩
  | .hbm, ⟨11, _⟩ => ⟨S32x1536, .f32⟩
  | .hbm, ⟨12, _⟩ => ⟨S32x1536, .f32⟩
  | .hbm, ⟨13, _⟩ => ⟨S_, .f32⟩
  | .hbm, ⟨14, _⟩ => ⟨S32x1536, .f32⟩
  | .hbm, ⟨15, _⟩ => ⟨S32x1536, .f32⟩
  | .hbm, ⟨16, _⟩ => ⟨S32x1536, .f32⟩
  | .hbm, ⟨17, _⟩ => ⟨S_, .f32⟩
  | .hbm, ⟨18, _⟩ => ⟨S32x1536, .f32⟩
  | .hbm, ⟨19, _⟩ => ⟨S32x1536, .f32⟩
  | .hbm, ⟨20, _⟩ => ⟨S32x1536, .f32⟩
  | .hbm, ⟨21, _⟩ => ⟨S_, .f32⟩
  | .hbm, ⟨22, _⟩ => ⟨S32x1536, .f32⟩
  | .hbm, ⟨23, _⟩ => ⟨S32x1536, .f32⟩
  | .hbm, ⟨24, _⟩ => ⟨S_, .f32⟩
  | .hbm, ⟨25, _⟩ => ⟨S32x1536, .f32⟩
  | .hbm, ⟨26, _⟩ => ⟨S32x1536, .f32⟩
  | .hbm, ⟨27, _⟩ => ⟨S32x1536, .f32⟩
  | .hbm, ⟨28, _⟩ => ⟨S_, .f32⟩
  | .hbm, ⟨29, _⟩ => ⟨S32x1536, .f32⟩
  | .hbm, ⟨30, _⟩ => ⟨S32x1536, .f32⟩
  | .hbm, ⟨31, _⟩ => ⟨S32x1536, .f32⟩
  | .hbm, ⟨32, _⟩ => ⟨S_, .f32⟩
  | .hbm, ⟨33, _⟩ => ⟨S32x1536, .f32⟩
  | .hbm, ⟨34, _⟩ => ⟨S32x1536, .f32⟩
  | .hbm, ⟨35, _⟩ => ⟨S32x1536, .f32⟩
  | .hbm, ⟨36, _⟩ => ⟨S_, .f32⟩
  | .hbm, ⟨37, _⟩ => ⟨S32x1536, .f32⟩
  | .hbm, ⟨38, _⟩ => ⟨S32x1536, .f32⟩
  | _, _ => ⟨S8x32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPool.lean ====
abbrev S8x128x256 : Shape := ⟨3, ![8, 128, 256]⟩
abbrev S128x256 : Shape := ⟨2, ![128, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x64x256, .f32⟩
  | .local _ .vmem, ⟨1, _⟩ => ⟨S8x64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPoolIdeal.lean ====
abbrev S8x128x256 : Shape := ⟨3, ![8, 128, 256]⟩
abbrev S128x256 : Shape := ⟨2, ![128, 256]⟩
abbrev S8x64x256 : Shape := ⟨3, ![8, 64, 256]⟩
abbrev S64x256 : Shape := ⟨2, ![64, 256]⟩
abbrev S1x64x256 : Shape := ⟨3, ![1, 64, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x64x256, .f32⟩
  | .local _ .vmem, ⟨1, _⟩ => ⟨S8x64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPoolRefIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S_, .f32⟩
  | .hbm, ⟨10, _⟩ => ⟨S128x256, .f32⟩
  | .hbm, ⟨11, _⟩ => ⟨S128x256, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== NormLoss.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S12x1024, .f32⟩
  | .hbm, ⟨4, _⟩ => ⟨S18x1024, .f32⟩
  | .hbm, ⟨5, _⟩ => ⟨S12x1x1024, .f32⟩
  | .hbm, ⟨6, _⟩ => ⟨S18x1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_4 (i : grid0.Coords) : Fin 3 → Nat :=
  let arg0 : BitVec 32 := BitVec.ofNat 32 (i 0).val
  let c17_i32 : BitVec 32 := 17#32
  let c0_i32 : BitVec 32 := 0#32
  let c0_i32_0 : BitVec 32 := 0#32
  let c0_i32_1 : BitVec 32 := 0#32
  ![c17_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormLossRefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S12x1024, .f32⟩
  | .hbm, ⟨4, _⟩ => ⟨S18x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== NormLink1.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLink1Ideal.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLink1RefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== NormLink3.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_5 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  let c0_i32_1 : BitVec 32 := 0#32
  ![c10_i32.toNat, c0_i32.toNat, c0_i32_0.toNat]

def cc0_transform_6 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLink3Ideal.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_5 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  let c0_i32_1 : BitVec 32 := 0#32
  ![c10_i32.toNat, c0_i32.toNat, c0_i32_0.toNat]

def cc0_transform_6 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLink3RefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== NormLink5.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S12x1x1024, .f32⟩
  | .hbm, ⟨5, _⟩ => ⟨S18x1x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_3 (i : grid0.Coords) : Fin 3 → Nat :=
  let arg0 : BitVec 32 := BitVec.ofNat 32 (i 0).val
  let c14_i32 : BitVec 32 := 14#32
  let c0_i32 : BitVec 32 := 0#32
  let c0_i32_0 : BitVec 32 := 0#32
  let c0_i32_1 : BitVec 32 := 0#32
  ![c14_i32.toNat, c0_i32.toNat, c0_i32_0.toNat]

def cc0_transform_4 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  let c0_i32_1 : BitVec 32 := 0#32
  ![c10_i32.toNat, c0_i32.toNat, c0_i32_0.toNat]

def cc0_transform_5 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_6 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormLink5RefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S12x1024, .f32⟩
  | .hbm, ⟨3, _⟩ => ⟨S18x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== NormLinkBwd5.lean ====
abbrev S4096x1024 : Shape := ⟨2, ![4096, 1024]⟩
abbrev S12x1024 : Shape := ⟨2, ![12, 1024]⟩
abbrev S18x1024 : Shape := ⟨2, ![18, 1024]⟩
abbrev S12x1x1024 : Shape := ⟨3, ![12, 1, 1024]⟩
abbrev S18x1x1024 : Shape := ⟨3, ![18, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S12x1024, .f32⟩
  | .hbm, ⟨5, _⟩ => ⟨S18x1024, .f32⟩
  | .hbm, ⟨6, _⟩ => ⟨S12x1x1024, .f32⟩
  | .hbm, ⟨7, _⟩ => ⟨S18x1x1024, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  let c0_i32_1 : BitVec 32 := 0#32
  ![c10_i32.toNat, c0_i32.toNat, c0_i32_0.toNat]

def cc0_transform_5 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_6 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_7 (i : grid0.Coords) : Fin 3 → Nat :=
  let arg0 : BitVec 32 := BitVec.ofNat 32 (i 0).val
  let c14_i32 : BitVec 32 := 14#32
  let c0_i32 : BitVec 32 := 0#32
  let c0_i32_0 : BitVec 32 := 0#32
  let c0_i32_1 : BitVec 32 := 0#32
  ![c14_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== NormLinkBwd5RefIdeal.lean ====
abbrev S4096x1024 : Shape := ⟨2, ![4096, 1024]⟩
abbrev S12x1024 : Shape := ⟨2, ![12, 1024]⟩
abbrev S18x1024 : Shape := ⟨2, ![18, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S12x1024, .f32⟩
  | 5 => ⟨S18x1024, .f32⟩
  | 6 => ⟨S1x1024, .f32⟩
  | 7 => ⟨S1x1024, .f32⟩
  | 8 => ⟨S1x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S1x1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S4096x1024, .f32⟩
  | 56 => ⟨S4096x1024, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S1x1024, .f32⟩
  | 2 => ⟨S1x1024, .f32⟩
  | 3 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_cst_20 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== AdamNorm.lean ====
abbrev S8x12x128 : Shape := ⟨3, ![8, 12, 128]⟩
abbrev S12x128 : Shape := ⟨2, ![12, 128]⟩
abbrev S1x12x128 : Shape := ⟨3, ![1, 12, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .local _ .vmem, ⟨0, _⟩ => ⟨S8x12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S8x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S8x12x128 : Shape := ⟨3, ![8, 12, 128]⟩
abbrev S12x128 : Shape := ⟨2, ![12, 128]⟩
abbrev S1x12x128 : Shape := ⟨3, ![1, 12, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .local _ .vmem, ⟨0, _⟩ => ⟨S8x12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S8x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S8x12x128 : Shape := ⟨3, ![8, 12, 128]⟩
abbrev S12x128 : Shape := ⟨2, ![12, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S_, .f32⟩
  | .hbm, ⟨7, _⟩ => ⟨S12x128, .f32⟩
  | .hbm, ⟨8, _⟩ => ⟨S12x128, .f32⟩
  | .hbm, ⟨9, _⟩ => ⟨S_, .f32⟩
  | .hbm, ⟨10, _⟩ => ⟨S12x128, .f32⟩
  | .hbm, ⟨11, _⟩ => ⟨S12x128, .f32⟩
  | .hbm, ⟨12, _⟩ => ⟨S12x128, .f32⟩
  | .hbm, ⟨13, _⟩ => ⟨S_, .f32⟩
  | .hbm, ⟨14, _⟩ => ⟨S12x128, .f32⟩
  | .hbm, ⟨15, _⟩ => ⟨S12x128, .f32⟩
  | .hbm, ⟨16, _⟩ => ⟨S12x128, .f32⟩
  | .hbm, ⟨17, _⟩ => ⟨S_, .f32⟩
  | .hbm, ⟨18, _⟩ => ⟨S12x128, .f32⟩
  | .hbm, ⟨19, _⟩ => ⟨S12x128, .f32⟩
  | .hbm, ⟨20, _⟩ => ⟨S12x128, .f32⟩
  | .hbm, ⟨21, _⟩ => ⟨S_, .f32⟩
  | .hbm, ⟨22, _⟩ => ⟨S12x128, .f32⟩
  | .hbm, ⟨23, _⟩ => ⟨S12x128, .f32⟩
  | .hbm, ⟨24, _⟩ => ⟨S_, .f32⟩
  | .hbm, ⟨25, _⟩ => ⟨S12x128, .f32⟩
  | .hbm, ⟨26, _⟩ => ⟨S12x128, .f32⟩
  | .hbm, ⟨27, _⟩ => ⟨S12x128, .f32⟩
  | .hbm, ⟨28, _⟩ => ⟨S_, .f32⟩
  | .hbm, ⟨29, _⟩ => ⟨S12x128, .f32⟩
  | .hbm, ⟨30, _⟩ => ⟨S12x128, .f32⟩
  | .hbm, ⟨31, _⟩ => ⟨S12x128, .f32⟩
  | .hbm, ⟨32, _⟩ => ⟨S_, .f32⟩
  | .hbm, ⟨33, _⟩ => ⟨S12x128, .f32⟩
  | .hbm, ⟨34, _⟩ => ⟨S12x128, .f32⟩
  | .hbm, ⟨35, _⟩ => ⟨S12x128, .f32⟩
  | .hbm, ⟨36, _⟩ => ⟨S_, .f32⟩
  | .hbm, ⟨37, _⟩ => ⟨S12x128, .f32⟩
  | .hbm, ⟨38, _⟩ => ⟨S12x128, .f32⟩
  | _, _ => ⟨S8x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamScale.lean ====
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScaleRefIdeal.lean ====
abbrev S8x1x1024 : Shape := ⟨3, ![8, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Block.lean ====
/-
  What one grid point of the attention's backward kernel stores: the block of the query gradient, and the
  running key and value gradients, each at an index. Along the keys the body works through eight tiles of 512;
  here each result is read as one formula over all 4096 keys.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Att

open Cert.KernelIdeal Cert.KernelIdeal.Gen Idealize.ShloMosaic Idealize.ShloMosaic.TcCoe Idealize.SL.Sem

/-- Earlier stores under later ones that cover the index are not seen. -/
theorem canon_over {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], hc => by obtain ⟨p, hp, _⟩ := hc; simp at hp
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' y L ?_
      obtain ⟨q, hq, hyq⟩ := hc
      rcases List.mem_cons.mp hq with rfl | hq'
      · exact absurd hyq hm
      · exact ⟨q, hq', hyq⟩

/-- The softmax weight of key `j` at the block's query row `q`: two to the score less the saved log-sum-exp. -/
def wt (x0 : FVec Ideal S1x1024x256 .bf16) (x1 : FVec Ideal S4096x256 .bf16) (x5 : FVec Ideal S1x1024x1 .f32)
    (q : Fin 1024) (j : Fin 4096) : EReal :=
  FloatOps.exp2 (F := Ideal) (φ := .f32) ((∑ l : Fin 256, x0 (ix3 0 q l) * x1 (ix2 j l)) - x5 (ix3 0 q 0))

/-- The gradient of the score of key `j` at the block's query row `q`. -/
def dsc (x0 : FVec Ideal S1x1024x256 .bf16) (x1 : FVec Ideal S4096x256 .bf16) (x2 : FVec Ideal S4096x128 .bf16)
    (x3 x4 : FVec Ideal S1x1024x128 .bf16) (x5 : FVec Ideal S1x1024x1 .f32) (q : Fin 1024) (j : Fin 4096) : EReal :=
  wt x0 x1 x5 q j *
    ((∑ c : Fin 128, x4 (ix3 0 q c) * x2 (ix2 j c)) - ∑ c : Fin 128, x4 (ix3 0 q c) * x3 (ix3 0 q c))

set_option maxHeartbeats 1000000 in
/-- The block of the query gradient that the first grid point stores. -/
theorem outA6 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : t.val % 64 = 0) (y) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5  y
      = (∑ j : Fin 4096, dsc x0 x1 x2 x3 x4 x5 (y 1) j * x1 (ix2 j (y 2)) : EReal) := by
  frame_out
  open_payloads
  rw [Fin.sum_univ_tiles 8 512 rfl, Fin.sum_univ_eight]
  pointwise [wt, dsc, ix3, ix2]

set_option maxHeartbeats 1000000 in
/-- The key gradient after the first grid point. -/
theorem outA7 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : t.val % 64 = 0) (y) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5  y
      = (∑ q : Fin 1024, x0 (ix3 0 q (y 0)) * dsc x0 x1 x2 x3 x4 x5 q (y 1) : EReal) := by
  frame_open
  simp (disch := decide) only [↓ View.readCov_skip, ↓ View.readCov_cons_toLoadRect, ↓ View.readCov_fill]
  frame_out
  refine (canon_over [_] y [_, _, _, _, _, _, _, _] (View.cover_of_tiledL _ ![256, 512] (by rfl) y)).trans ?_
  canon_tiles x h
  all_goals
    open_payloads
    pointwise [wt, dsc, ix3, ix2]
    reads_congr <;> blk_ext

set_option maxHeartbeats 1000000 in
/-- The value gradient after the first grid point. -/
theorem outA8 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : t.val % 64 = 0) (y) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) x0 x1 x2 x3 x4 x5  y
      = (∑ q : Fin 1024, x4 (ix3 0 q (y 0)) * wt x0 x1 x5 q (y 1) : EReal) := by
  frame_open
  simp (disch := decide) only [↓ View.readCov_skip, ↓ View.readCov_cons_toLoadRect, ↓ View.readCov_fill]
  frame_out
  refine (canon_over [_] y [_, _, _, _, _, _, _, _] (View.cover_of_tiledL _ ![128, 512] (by rfl) y)).trans ?_
  canon_tiles x h
  all_goals
    open_payloads
    pointwise [wt, dsc, ix3, ix2]
    reads_congr <;> blk_ext

set_option maxHeartbeats 1000000 in
/-- The block of the query gradient that a later grid point stores. -/
theorem outB6 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : ¬ t.val % 64 = 0) (xo7 : FVec Ideal S256x4096 .f32) (xo8 : FVec Ideal S128x4096 .f32) (y) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 xo7 xo8 y
      = (∑ j : Fin 4096, dsc x0 x1 x2 x3 x4 x5 (y 1) j * x1 (ix2 j (y 2)) : EReal) := by
  frame_out
  open_payloads
  rw [Fin.sum_univ_tiles 8 512 rfl, Fin.sum_univ_eight]
  pointwise [wt, dsc, ix3, ix2]

set_option maxHeartbeats 1000000 in
/-- The key gradient after a later grid point: what stood there and its own share. -/
theorem outB7 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : ¬ t.val % 64 = 0) (xo7 : FVec Ideal S256x4096 .f32) (xo8 : FVec Ideal S128x4096 .f32) (y) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 xo7 xo8 y
      = (xo7 y + ∑ q : Fin 1024, x0 (ix3 0 q (y 0)) * dsc x0 x1 x2 x3 x4 x5 q (y 1) : EReal) := by
  frame_out
  canon_tiles x h
  all_goals
    open_payloads
    pointwise [wt, dsc, ix3, ix2]
    reads_congr <;> blk_ext

set_option maxHeartbeats 1000000 in
/-- The value gradient after a later grid point: what stood there and its own share. -/
theorem outB8 (c : Dev nD) (t : Fin cfg0.N) (x0 : FVec Ideal S1x1024x256 .bf16) (x1 : FVec Ideal S4096x256 .bf16) (x2 : FVec Ideal S4096x128 .bf16) (x3 x4 : FVec Ideal S1x1024x128 .bf16) (x5 : FVec Ideal S1x1024x1 .f32) (h0 : ¬ t.val % 64 = 0) (xo7 : FVec Ideal S256x4096 .f32) (xo8 : FVec Ideal S128x4096 .f32) (y) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) x0 x1 x2 x3 x4 x5 xo7 xo8 y
      = (xo8 y + ∑ q : Fin 1024, x4 (ix3 0 q (y 0)) * wt x0 x1 x5 q (y 1) : EReal) := by
  frame_out
  canon_tiles x h
  all_goals
    open_payloads
    pointwise [wt, dsc, ix3, ix2]
    reads_congr <;> blk_ext

end Cert.Att
end
-- ==== Proof.Arrays.lean ====
/-
  The three arrays the attention's backward kernel leaves, at an index: the query gradient row by row, the key and
  value gradients as sums over the grid points and the query rows of each.
-/
module

public import proofs.«01_k».proof.Proof.Block
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The block indices of the input windows at a grid point. -/
theorem idx : ∀ t : Fin cfg0.N, win0_0.index t = ![t.val / 4, t.val % 4, 0] ∧ win0_1.index t = ![0, 0] ∧ win0_2.index t = ![0, 0]
    ∧ win0_3.index t = ![t.val / 4, t.val % 4, 0] ∧ win0_4.index t = ![t.val / 4, t.val % 4, 0] ∧ win0_5.index t = ![t.val / 4, t.val % 4, 0]
    ∧ win0_6.index t = ![t.val / 4, t.val % 4, 0] ∧ win0_7.index t = ![0, 0] ∧ win0_8.index t = ![0, 0] :=
  (by decide +kernel : ∀ t : Fin grid0.N, _)

theorem lt_64 (t : Fin cfg0.N) : t.val < 64 := lt_of_lt_of_eq t.isLt (show cfg0.N = 64 from N_0)

/-- The head of a grid point. -/
def hd (t : Fin cfg0.N) : Fin 16 := ⟨t.val / 4, by have := lt_64 t; omega⟩

/-- The query that is row `q` of a grid point's block. -/
def row (t : Fin cfg0.N) (q : Fin 1024) : Fin 4096 := ⟨t.val % 4 * 1024 + q.val, by have := q.isLt; omega⟩

theorem iblk0 (t : Fin cfg0.N) (q : Fin 1024) (l : Fin 256) : iblk m c 0 t (ix3 0 q l) = V m c main_v26 (ix3 (hd t) (row t q) l) := by
  blk_ext [iblk, idx t, hd, row]

theorem iblk1 (t : Fin cfg0.N) (k : Fin 4096) (l : Fin 256) : iblk m c 1 t (ix2 k l) = V m c main_v30 (ix2 k l) := by
  blk_ext [iblk, idx t]

theorem iblk2 (t : Fin cfg0.N) (k : Fin 4096) (l : Fin 128) : iblk m c 2 t (ix2 k l) = V m c main_v30 (ix2 k ⟨l.val, by omega⟩) := by
  blk_ext [iblk, idx t]

theorem iblk3 (t : Fin cfg0.N) (q : Fin 1024) (l : Fin 128) : iblk m c 3 t (ix3 0 q l) = V m c main_v31 (ix3 (hd t) (row t q) l) := by
  blk_ext [iblk, idx t, hd, row]

theorem iblk4 (t : Fin cfg0.N) (q : Fin 1024) (l : Fin 128) : iblk m c 4 t (ix3 0 q l) = V m c main_v33 (ix3 (hd t) (row t q) l) := by
  blk_ext [iblk, idx t, hd, row]

theorem iblk5 (t : Fin cfg0.N) (q : Fin 1024) : iblk m c 5 t (ix3 0 q 0) = V m c main_v19 (ix3 (hd t) (row t q) 0) := by
  blk_ext [iblk, idx t, hd, row]

/-- A weight of the softmax, from the arrays the kernel is given. -/
def wtA (Q : FVec Ideal S16x4096x256 .bf16) (K : FVec Ideal S4096x256 .bf16) (L : FVec Ideal S16x4096x1 .f32) (h : Fin 16) (q j : Fin 4096) : EReal :=
  FloatOps.exp2 (F := Ideal) (φ := .f32) ((∑ l : Fin 256, Q (ix3 h q l) * K (ix2 j l)) - L (ix3 h q 0))

/-- The gradient of a score, from the same arrays. -/
def dsA (Q : FVec Ideal S16x4096x256 .bf16) (K : FVec Ideal S4096x256 .bf16) (O D : FVec Ideal S16x4096x128 .bf16) (L : FVec Ideal S16x4096x1 .f32)
    (h : Fin 16) (q j : Fin 4096) : EReal :=
  wtA Q K L h q j * ((∑ l : Fin 128, D (ix3 h q l) * K (ix2 j ⟨l.val, by omega⟩)) - ∑ l : Fin 128, D (ix3 h q l) * O (ix3 h q l))

/-- The query the kernel is given. -/
abbrev Qv : FVec Ideal S16x4096x256 .bf16 := V m c main_v26
/-- The key. -/
abbrev Kv : FVec Ideal S4096x256 .bf16 := V m c main_v30
/-- The saved output. -/
abbrev Ov : FVec Ideal S16x4096x128 .bf16 := V m c main_v31
/-- The incoming gradient. -/
abbrev Dv : FVec Ideal S16x4096x128 .bf16 := V m c main_v33
/-- The log-sum-exp. -/
abbrev Lv : FVec Ideal S16x4096x1 .f32 := V m c main_v19

theorem wt_eq (t : Fin cfg0.N) (q : Fin 1024) (j : Fin 4096) :
    wt (iblk m c 0 t) (iblk m c 1 t) (iblk m c 5 t) q j = wtA (Qv m c) (Kv m c) (Lv m c) (hd t) (row t q) j := by
  unfold wt wtA
  simp only [iblk0, iblk1, iblk5]

theorem dsc_eq (t : Fin cfg0.N) (q : Fin 1024) (j : Fin 4096) :
    dsc (iblk m c 0 t) (iblk m c 1 t) (iblk m c 2 t) (iblk m c 3 t) (iblk m c 4 t) (iblk m c 5 t) q j
      = dsA (Qv m c) (Kv m c) (Ov m c) (Dv m c) (Lv m c) (hd t) (row t q) j := by
  unfold dsc dsA
  simp only [wt_eq, iblk2, iblk3, iblk4]

/-! ## The arrays after the run -/

/-- The query gradient's array. -/
def G6 : S16x4096x256.Idx → EReal := fun i => ∑ j : Fin 4096, dsA (Qv m c) (Kv m c) (Ov m c) (Dv m c) (Lv m c) (i 0) (i 1) j * Kv m c (ix2 j (i 2))

/-- The key gradient's. -/
def G7 : S256x4096.Idx → EReal := fun i => ∑ h : Fin 16, ∑ q : Fin 4096, Qv m c (ix3 h q (i 0)) * dsA (Qv m c) (Kv m c) (Ov m c) (Dv m c) (Lv m c) h q (i 1)

/-- The value gradient's. -/
def G8 : S128x4096.Idx → EReal := fun i => ∑ h : Fin 16, ∑ q : Fin 4096, Dv m c (ix3 h q (i 0)) * wtA (Qv m c) (Kv m c) (Lv m c) h q (i 1)

theorem point6 (t : Fin cfg0.N) (y : S1x1024x256.Idx) : (outsAt0 m c t.val t.isLt).1 y = G6 m c (ix3 (hd t) (row t (y 1)) (y 2)) := by
  by_cases h0 : t.val % 64 = 0
  · rw [outsAt0_A m c t h0]
    dsimp only
    rw [outA6 (h0 := h0)]
    exact Finset.sum_congr rfl fun j _ => congrArg₂ (· * ·) (dsc_eq m c t (y 1) j) (iblk1 m c t j (y 2))
  · rw [outsAt0_B m c t h0]
    dsimp only
    rw [outB6]
    exact Finset.sum_congr rfl fun j _ => congrArg₂ (· * ·) (dsc_eq m c t (y 1) j) (iblk1 m c t j (y 2))

/-- The query gradient. -/
theorem arr6 : (dats m 0 c).arrAt 6 cfg0.N = G6 m c := by
  refine (dats m 0 c).arrAt_eq_of_covers 6 _ (by decide +kernel) fun t hf y => ?_
  blk_simp
  rw [after0_6]
  refine (point6 m c t y).trans (congrArg (G6 m c) ?_)
  blk_ext [idx t, hd, row]

/-- The share of a grid point in the key gradient. -/
def part7 (t : Fin cfg0.N) (i : S256x4096.Idx) : EReal :=
  ∑ q : Fin 1024, Qv m c (ix3 (hd t) (row t q) (i 0)) * dsA (Qv m c) (Kv m c) (Ov m c) (Dv m c) (Lv m c) (hd t) (row t q) (i 1)

/-- The share of a grid point in the value gradient. -/
def part8 (t : Fin cfg0.N) (i : S128x4096.Idx) : EReal :=
  ∑ q : Fin 1024, Dv m c (ix3 (hd t) (row t q) (i 0)) * wtA (Qv m c) (Kv m c) (Lv m c) (hd t) (row t q) (i 1)

theorem acc7 (t : Fin cfg0.N) (hr : t.val % 64 = 63) (i : S256x4096.Idx) :
    (outsAt0 m c t.val t.isLt).2.1 i = (0 + ∑ s : Fin 64, part7 m c ⟨64 * (t.val / 64) + s.val, Pipeline.run_point_lt_of_flush t hr s⟩ i : EReal) :=
  Pipeline.eq_sum_fin_of_reset_step_apply_of_flush (M := EReal) (fun n h => (outsAt0 m c n h).2.1) 64 (fun _ => 0) (part7 m c)
    (fun t h i => by
      show (outsAt0 m c t.val t.isLt).2.1 i = (0 + part7 m c t i : EReal)
      rw [outsAt0_A m c t h, zero_add]
      dsimp only
      rw [outA7 (h0 := h)]
      exact Finset.sum_congr rfl fun q _ => congrArg₂ (· * ·) (iblk0 m c t q (i 0)) (dsc_eq m c t q (i 1)))
    (fun t h i => by
      rw [outsAt0_B m c t h]
      dsimp only
      rw [outB7]
      exact congrArg _ (Finset.sum_congr rfl fun q _ => congrArg₂ (· * ·) (iblk0 m c t q (i 0)) (dsc_eq m c t q (i 1)))) t hr i

theorem acc8 (t : Fin cfg0.N) (hr : t.val % 64 = 63) (i : S128x4096.Idx) :
    (outsAt0 m c t.val t.isLt).2.2 i = (0 + ∑ s : Fin 64, part8 m c ⟨64 * (t.val / 64) + s.val, Pipeline.run_point_lt_of_flush t hr s⟩ i : EReal) :=
  Pipeline.eq_sum_fin_of_reset_step_apply_of_flush (M := EReal) (fun n h => (outsAt0 m c n h).2.2) 64 (fun _ => 0) (part8 m c)
    (fun t h i => by
      show (outsAt0 m c t.val t.isLt).2.2 i = (0 + part8 m c t i : EReal)
      rw [outsAt0_A m c t h, zero_add]
      dsimp only
      rw [outA8 (h0 := h)]
      exact Finset.sum_congr rfl fun q _ => congrArg₂ (· * ·) (iblk4 m c t q (i 0)) (wt_eq m c t q (i 1)))
    (fun t h i => by
      rw [outsAt0_B m c t h]
      dsimp only
      rw [outB8]
      exact congrArg _ (Finset.sum_congr rfl fun q _ => congrArg₂ (· * ·) (iblk4 m c t q (i 0)) (wt_eq m c t q (i 1)))) t hr i

/-- The sixty-four grid points are the heads by the four blocks of queries. -/
theorem sum_points (g : Fin 16 → Fin 4096 → EReal) (t0 : Fin cfg0.N) (hr : t0.val % 64 = 63) :
    (∑ s : Fin 64, ∑ q : Fin 1024, g (hd ⟨64 * (t0.val / 64) + s.val, Pipeline.run_point_lt_of_flush t0 hr s⟩) (row ⟨64 * (t0.val / 64) + s.val, Pipeline.run_point_lt_of_flush t0 hr s⟩ q))
      = ∑ h : Fin 16, ∑ q : Fin 4096, g h q := by
  have hz : t0.val / 64 = 0 := by have := lt_64 t0; omega
  rw [Fin.sum_univ_tiles 16 4 rfl]
  refine Finset.sum_congr rfl fun h _ => ?_
  rw [Fin.sum_univ_tiles 4 1024 rfl (f := fun q => g h q)]
  refine Finset.sum_congr rfl fun i _ => Finset.sum_congr rfl fun q _ => ?_
  congr 1
  · apply Fin.ext
    simp only [hd, hz]
    have := i.isLt
    omega
  · apply Fin.ext
    simp only [row, hz]
    have := i.isLt
    omega

/-- The key gradient. -/
theorem arr7 : (dats m 0 c).arrAt 7 cfg0.N = G7 m c := by
  refine (dats m 0 c).arrAt_eq_of_covers 7 _ (by decide +kernel) fun t hf y => ?_
  blk_simp
  rw [after0_7]
  refine ((acc7 m c t ((flush0_7 t).mp hf) y).trans (zero_add _)).trans (Eq.trans ?_ (congrArg (G7 m c) (?_ : y = _)))
  · exact sum_points (fun h q => Qv m c (ix3 h q (y 0)) * dsA (Qv m c) (Kv m c) (Ov m c) (Dv m c) (Lv m c) h q (y 1)) t ((flush0_7 t).mp hf)
  · blk_ext [idx t]

/-- The value gradient. -/
theorem arr8 : (dats m 0 c).arrAt 8 cfg0.N = G8 m c := by
  refine (dats m 0 c).arrAt_eq_of_covers 8 _ (by decide +kernel) fun t hf y => ?_
  blk_simp
  rw [after0_8]
  refine ((acc8 m c t ((flush0_8 t).mp hf) y).trans (zero_add _)).trans (Eq.trans ?_ (congrArg (G8 m c) (?_ : y = _)))
  · exact sum_points (fun h q => Dv m c (ix3 h q (y 0)) * wtA (Qv m c) (Kv m c) (Lv m c) h q (y 1)) t ((flush0_8 t).mp hf)
  · blk_ext [idx t]

end Cert.Att

end
-- ==== Proof.Finite.lean ====
/-
  What the precondition says of the arguments: every entry is a real number.
-/
module

public import proofs.«01_k».proof.Proof.Gen.Pre_all_finite
public import Idealize.ShloMosaic.Lib.ReduceAll
public import Idealize.ShloMosaic.Lib.Pointwise

@[expose] public section

noncomputable section

namespace Cert.Att

open Cert.Pre_all_finite Cert.Pre_all_finite.Gen Idealize.ShloMosaic

theorem ofBits_inf : Ideal.ofBits .f32 0x7F800000#32 = (⊤ : EReal) := by
  simp [Ideal.ofBits, Ideal.ieee]

theorem ofBits_neg_inf : Ideal.ofBits .f32 0xFF800000#32 = (⊥ : EReal) := by
  simp [Ideal.ofBits, Ideal.ieee]

/-- An extended real whose absolute value is below infinity is a real number. -/
theorem real_of_abs_lt (x : Ideal .f32) (h : FloatOps.cmpf (F := Ideal) .olt (FloatOps.absf x) (Ideal.ofBits .f32 0x7F800000#32 : Ideal .f32) = 1#1) : ∃ r : ℝ, x = (r : EReal) := by
  rw [ofBits_inf] at h
  induction x using EReal.rec with
  | bot => simp [FloatOps.cmpf, FloatOps.absf, Ideal.cmp, BitVec.ofBool] at h
  | top => simp [FloatOps.cmpf, FloatOps.absf, Ideal.cmp, BitVec.ofBool] at h
  | coe r => exact ⟨r, rfl⟩

/-- One argument's test: when it comes out true, every entry is a real number. -/
theorem real_of_all {s : Shape} (x : FVec Ideal s .f32) (b : S_.BroadcastsInDim s (![] : Fin 0 → Fin s.rank)) {axes} (h : s.ReducesTo axes S_)
    (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : ∃ r : ℝ, x i = (r : EReal) :=
  haveI : Subsingleton S_.Idx := ⟨fun a b => funext fun k => k.elim0⟩
  real_of_abs_lt (x i) (Host.reduce_andi_all _ _ h hu j e i)

theorem and_one {a b : BitVec 1} (h : IntOp.andi a b = 1#1) : a = 1#1 ∧ b = 1#1 := by
  revert h
  revert a b
  decide

/-- The precondition: every entry of every argument is a real number. -/
theorem real_args (x0 : FVec Ideal S4096x16x128 .f32) (x1 : FVec Ideal S4096x16x32 .f32) (x2 : FVec Ideal S4096x128 .f32) (x3 : FVec Ideal S4096x32 .f32)
    (x4 : FVec Ideal S4096x16x128 .f32) (e : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) := by
  have h := congrFun e ix0
  obtain ⟨h, h4⟩ := and_one h
  obtain ⟨h, h3⟩ := and_one h
  obtain ⟨h, h2⟩ := and_one h
  obtain ⟨h0, h1⟩ := and_one h
  exact ⟨real_of_all x0 _ _ _ _ h0, real_of_all x1 _ _ _ _ h1, real_of_all x2 _ _ _ _ h2, real_of_all x3 _ _ _ _ h3, real_of_all x4 _ _ _ _ h4⟩

end Cert.Att

end
-- ==== Proof.Real.lean ====
/-
  The attention's forward and backward pass over the real numbers, and the identities that make the kernel's form and
  the reference's the same: the softmax taken in base two, the saved output in place of the sum the gradient of the
  softmax subtracts, and the lane of ones, which carries the sum of a row's score gradients, zero.
-/
module

public import Idealize.ShloMosaic.PureOps.Ideal
public import Mathlib.Analysis.SpecialFunctions.Pow.Real

@[expose] public section

noncomputable section

namespace Cert.Att

open Idealize.ShloMosaic

/-- A finite sum of real numbers is the same number as an extended real. -/
theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-! ## One row of the softmax -/

/-- The greatest score of a row. -/
def mx (s : Fin 4096 → ℝ) : ℝ := Finset.univ.sup' ⟨0, Finset.mem_univ _⟩ s

theorem fold_max (s : Fin 4096 → ℝ) : Finset.fold max (⊥ : EReal) (fun k => (s k : EReal)) Finset.univ = (mx s : EReal) := by
  apply le_antisymm
  · rw [Finset.fold_max_le]
    exact ⟨bot_le, fun k _ => EReal.coe_le_coe_iff.mpr (Finset.le_sup' s (Finset.mem_univ k))⟩
  · obtain ⟨k, hk, e⟩ := Finset.exists_mem_eq_sup' (⟨0, Finset.mem_univ _⟩ : (Finset.univ : Finset (Fin 4096)).Nonempty) s
    rw [mx, e, Finset.le_fold_max]
    exact Or.inr ⟨k, hk, le_refl _⟩

/-- The exponential of a score less the greatest. -/
def ex (s : Fin 4096 → ℝ) (k : Fin 4096) : ℝ := Real.exp (s k - mx s)

/-- The sum of a row's exponentials. -/
def zz (s : Fin 4096 → ℝ) : ℝ := ∑ k, ex s k

theorem zz_pos (s : Fin 4096 → ℝ) : 0 < zz s :=
  Finset.sum_pos (fun _ _ => Real.exp_pos _) ⟨0, Finset.mem_univ _⟩

/-- A weight of the softmax. -/
def pr (s : Fin 4096 → ℝ) (k : Fin 4096) : ℝ := ex s k / zz s

theorem sum_pr (s : Fin 4096 → ℝ) : ∑ k, pr s k = 1 := by
  simp only [pr]
  rw [← Finset.sum_div]
  exact div_self (zz_pos s).ne'

theorem log_two_pos : 0 < Real.log 2 := Real.log_pos (by norm_num)

/-- The weight as the kernel takes it: a power of two whose exponent is the score less the log-sum-exp, both in base two. -/
theorem pr_base_two (s : Fin 4096 → ℝ) (k : Fin 4096) :
    Real.rpow 2 (s k / Real.log 2 - (mx s + Real.log (zz s)) / Real.log 2) = pr s k := by
  refine (Real.rpow_def_of_pos (by norm_num) _).trans ?_
  rw [← sub_div, mul_div_cancel₀ _ log_two_pos.ne', pr, ex, ← sub_sub, Real.exp_sub, Real.exp_log (zz_pos s)]

/-- The gradient of a score, from the gradients of the weights. -/
def dsr (s d : Fin 4096 → ℝ) (k : Fin 4096) : ℝ := pr s k * (d k - ∑ j, pr s j * d j)

/-- The score gradients of a row sum to zero. -/
theorem sum_dsr (s d : Fin 4096 → ℝ) : ∑ k, dsr s d k = 0 := by
  simp only [dsr, mul_sub, Finset.sum_sub_distrib]
  rw [← Finset.sum_mul, sum_pr, one_mul, sub_self]

/-- The gradient of a score as the reference takes it. -/
theorem dsr_eq (s d : Fin 4096 → ℝ) (k : Fin 4096) :
    (d k / zz s + -(∑ j, d j * (1 / (zz s * zz s)) * ex s j)) * ex s k = dsr s d k := by
  have hz := (zz_pos s).ne'
  have e : (∑ j, d j * (1 / (zz s * zz s)) * ex s j) = (∑ j, pr s j * d j) / zz s := by
    rw [Finset.sum_div]
    refine Finset.sum_congr rfl fun j _ => ?_
    simp only [pr]
    field_simp
  rw [e, dsr, pr]
  field_simp
  ring

/-! ## The padded lanes -/

/-- A row of 128 entries, one of 32 and 96 times the same function of the lane, side by side. -/
def lanes (f : Fin 128 → ℝ) (g : Fin 32 → ℝ) (z : ℕ → ℝ) (l : Fin 256) : ℝ :=
  if h0 : l.val < 128 then f ⟨l.val, h0⟩ else if h1 : l.val - 128 < 32 then g ⟨l.val - 128, h1⟩ else z l.val

/-- A product of two padded rows, one of them padded with zeros. -/
theorem sum_lanes (f f' : Fin 128 → ℝ) (g g' : Fin 32 → ℝ) (z : ℕ → ℝ) :
    ∑ l, lanes f g (fun _ => 0) l * lanes f' g' z l = (∑ l, f l * f' l) + ∑ l, g l * g' l := by
  have e1 : ∀ F : Fin 256 → ℝ, ∑ l, F l = (∑ l : Fin 128, F ⟨l.val, by omega⟩) + ∑ l : Fin 128, F ⟨128 + l.val, by omega⟩ := fun F =>
    Fin.sum_univ_add (a := 128) (b := 128) F
  have e2 : ∀ F : Fin 128 → ℝ, ∑ l, F l = (∑ l : Fin 32, F ⟨l.val, by omega⟩) + ∑ l : Fin 96, F ⟨32 + l.val, by omega⟩ := fun F =>
    Fin.sum_univ_add (a := 32) (b := 96) F
  rw [e1, e2 (fun l => lanes f g (fun _ => 0) ⟨128 + l.val, by omega⟩ * lanes f' g' z ⟨128 + l.val, by omega⟩)]
  have a1 : ∀ l : Fin 128, lanes f g (fun _ => 0) ⟨l.val, by omega⟩ * lanes f' g' z ⟨l.val, by omega⟩ = f l * f' l := fun l => by
    simp only [lanes, l.isLt, dite_true]
  have a2 : ∀ l : Fin 32, lanes f g (fun _ => 0) ⟨128 + l.val, by omega⟩ * lanes f' g' z ⟨128 + l.val, by omega⟩ = g l * g' l := fun l => by
    have h0 : ¬ 128 + l.val < 128 := by omega
    have h1 : 128 + l.val - 128 < 32 := by omega
    simp [lanes]
  have a3 : ∀ l : Fin 96, lanes f g (fun _ => 0) ⟨128 + (32 + l.val), by omega⟩ * lanes f' g' z ⟨128 + (32 + l.val), by omega⟩ = 0 := fun l => by
    have h0 : ¬ 128 + (32 + l.val) < 128 := by omega
    have h1 : ¬ 128 + (32 + l.val) - 128 < 32 := by omega
    simp only [lanes, h0, h1, dite_false, zero_mul]
  simp only [a1, a2, a3, Finset.sum_const_zero, add_zero]

/-- A row of score gradients against the padded keys: the lane of ones gives their sum, zero, as the zeros after it do. -/
theorem sum_dsr_lanes (s d : Fin 4096 → ℝ) (f : Fin 4096 → Fin 128 → ℝ) (g : Fin 4096 → Fin 32 → ℝ) (l : Fin 256) :
    ∑ j, dsr s d j * lanes (f j) (g j) (fun n => if n = 160 then 1 else 0) l
      = lanes (fun i => ∑ j, dsr s d j * f j i) (fun i => ∑ j, dsr s d j * g j i) (fun _ => 0) l := by
  unfold lanes
  by_cases h0 : l.val < 128
  · simp only [h0, dite_true]
  · by_cases h1 : l.val - 128 < 32
    · simp only [h0, h1, dite_true, dite_false]
    · by_cases h2 : l.val = 160
      · simp only [h0, h1, dite_false, if_pos h2, mul_one]
        exact sum_dsr s d
      · simp only [h0, h1, h2, dite_false, if_false, mul_zero, Finset.sum_const_zero]

/-- Sums over heads and queries against the padded queries, in base two. -/
theorem sum_lanes_dsr (D : Fin 16 → Fin 4096 → ℝ) (f : Fin 4096 → Fin 16 → Fin 128 → ℝ) (g : Fin 4096 → Fin 16 → Fin 32 → ℝ) (l : Fin 256) :
    ∑ h, ∑ q, lanes (f q h) (g q h) (fun _ => 0) l / Real.log 2 * D h q
      = lanes (fun i => ∑ q, ∑ h, D h q * f q h i) (fun i => ∑ q, ∑ h, D h q * g q h i) (fun _ => 0) l / Real.log 2 := by
  have e : ∀ F : Fin 4096 → Fin 16 → ℝ, (∑ h, ∑ q, F q h / Real.log 2 * D h q) = (∑ q, ∑ h, D h q * F q h) / Real.log 2 := fun F => by
    rw [Finset.sum_comm, Finset.sum_div]
    refine Finset.sum_congr rfl fun q _ => ?_
    rw [Finset.sum_div]
    refine Finset.sum_congr rfl fun h _ => ?_
    ring
  rw [e]
  unfold lanes
  by_cases h0 : l.val < 128
  · simp only [h0, dite_true]
  · by_cases h1 : l.val - 128 < 32
    · simp only [h0, h1, dite_true, dite_false]
    · simp only [h0, h1, dite_false, mul_zero, Finset.sum_const_zero]

/-- The saved output against the incoming gradient is the sum the softmax's gradient subtracts. -/
theorem sum_out (p : Fin 4096 → ℝ) (a : Fin 128 → ℝ) (v : Fin 4096 → Fin 128 → ℝ) :
    ∑ l, a l * ∑ k, p k * v k l = ∑ k, p k * ∑ l, a l * v k l := by
  simp only [Finset.mul_sum]
  rw [Finset.sum_comm]
  refine Finset.sum_congr rfl fun k _ => Finset.sum_congr rfl fun l _ => ?_
  ring

end Cert.Att

end
-- ==== Proof.RealGrads.lean ====
/-
  The gradients of the attention over real arguments, and small facts on real numbers among the extended reals.
-/
module

public import proofs.«01_k».proof.Proof.Real
public import proofs.«01_k».proof.Proof.Finite

@[expose] public section

noncomputable section

namespace Cert.Att

open Idealize.ShloMosaic

theorem log_two : Ideal.log (Ideal.ofBits .f32 0x40000000#32) = (Real.log 2 : EReal) := by
  have e : Ideal.ofBits .f32 0x40000000#32 = ((2 : ℝ) : EReal) := by
    simp [Ideal.ofBits, Ideal.ieee, -EReal.coe_mul]; norm_num
  rw [e, Ideal.log_coe, if_neg (by norm_num)]

theorem one_bits : Ideal.ofBits .f32 0x3F800000#32 = ((1 : ℝ) : EReal) := by
  simp [Ideal.ofBits, Ideal.ieee, -EReal.coe_mul]; norm_num

theorem div_real (a b : ℝ) (h : b ≠ 0) : Ideal.div (a : EReal) (b : EReal) = ((a / b : ℝ) : EReal) := by
  rw [Ideal.div_coe h, ← EReal.coe_mul, mul_one_div]

variable (A0 : Fin 4096 → Fin 16 → Fin 128 → ℝ) (A1 : Fin 4096 → Fin 16 → Fin 32 → ℝ) (A2 : Fin 4096 → Fin 128 → ℝ)
  (A3 : Fin 4096 → Fin 32 → ℝ) (A4 : Fin 4096 → Fin 16 → Fin 128 → ℝ)

/-- The scores of a query. -/
def scr (h : Fin 16) (q k : Fin 4096) : ℝ := (∑ l, A2 k l * A0 q h l) + ∑ l, A3 k l * A1 q h l

/-- The gradients of its weights. -/
def dpr (h : Fin 16) (q k : Fin 4096) : ℝ := ∑ l, A4 q h l * A2 k l

/-- The gradients of its scores. -/
def dscr (h : Fin 16) (q k : Fin 4096) : ℝ := dsr (scr A0 A1 A2 A3 h q) (dpr A2 A4 h q) k

/-- The query's gradient. -/
def dqr (h : Fin 16) (q : Fin 4096) (l : Fin 256) : ℝ :=
  lanes (fun i => ∑ k, dscr A0 A1 A2 A3 A4 h q k * A2 k i) (fun i => ∑ k, dscr A0 A1 A2 A3 A4 h q k * A3 k i) (fun _ => 0) l

/-- The key's, in base two. -/
def dkr (l : Fin 256) (k : Fin 4096) : ℝ :=
  lanes (fun i => ∑ q, ∑ h, dscr A0 A1 A2 A3 A4 h q k * A0 q h i) (fun i => ∑ q, ∑ h, dscr A0 A1 A2 A3 A4 h q k * A1 q h i) (fun _ => 0) l / Real.log 2

/-- The value's. -/
def dvr (l : Fin 128) (k : Fin 4096) : ℝ := ∑ h, ∑ q, A4 q h l * pr (scr A0 A1 A2 A3 h q) k

end Cert.Att

end
-- ==== Proof.Host.lean ====
/-
  What the lines before the attention's backward kernel hand to it: the padded query and key, the saved output and
  log-sum-exp of the forward pass, and the incoming gradient, each as a function of the arguments and then read at
  an index.
-/
module

public import proofs.«01_k».proof.Proof.Gen.KernelIdeal.Value
public import Idealize.ShloMosaic.Lib.Pipeline.ValueKit
public import Idealize.ShloMosaic.Lib.StableHlo.RunRead
public import Idealize.ShloMosaic.Lib.Pointwise

@[expose] public section

set_option maxRecDepth 16384

noncomputable section

namespace Cert.Att

open Cert.KernelIdeal Cert.KernelIdeal.Gen Idealize.ShloMosaic Idealize.ShloMosaic.TcCoe Idealize.SL.Sem

variable (m : (ℓ : Loc nD τ sig) → Buf (Elt Ideal) ℓ) (c : Dev nD)

/-- The scores of every head: latent part and rotary part. -/
def scoreH (a0 : FVec Ideal S4096x16x128 .f32) (a1 : FVec Ideal S4096x16x32 .f32) (a2 : FVec Ideal S4096x128 .f32)
    (a3 : FVec Ideal S4096x32 .f32) : FVec Ideal S16x4096x4096 .f32 :=
  addf (transpose S16x4096x4096 [2, 1, 0] (Host.dotGeneral dot_S4096x128_S4096x16x128_S4096x4096x16_1_2_0_01_n_n none a2 a0) transposes_S4096x4096x16_S16x4096x4096_2_1_0)
    (transpose S16x4096x4096 [2, 1, 0] (Host.dotGeneral dot_S4096x32_S4096x16x32_S4096x4096x16_1_2_0_01_n_n none a3 a1) transposes_S4096x4096x16_S16x4096x4096_2_1_0)

/-- The greatest score of each query. -/
def maxH (s : FVec Ideal S16x4096x4096 .f32) : FVec Ideal S16x4096x1 .f32 :=
  broadcastInDim S16x4096x1 ![0, 1] bcast_S16x4096_S16x4096x1_0_1
    (Host.reduce FloatOps.maximumf s (constant S_ .f32 0xFF800000#32) reducesTo_S16x4096x4096_S16x4096_d2 h_S_)

/-- The exponentials of the scores less the greatest. -/
def expH (s : FVec Ideal S16x4096x4096 .f32) : FVec Ideal S16x4096x4096 .f32 :=
  Host.exp (subf s (broadcastInDim S16x4096x4096 ![0, 1, 2] bcast_S16x4096x1_S16x4096x4096_0_1_2 (maxH s)))

/-- Their sum along the keys. -/
def sumH (e : FVec Ideal S16x4096x4096 .f32) : FVec Ideal S16x4096x1 .f32 :=
  broadcastInDim S16x4096x1 ![0, 1] bcast_S16x4096_S16x4096x1_0_1
    (Host.reduceAdd e (constant S_ .f32 0x00000000#32) reducesTo_S16x4096x4096_S16x4096_d2 h_S_)

/-- The attention's output before rounding. -/
def outH (e : FVec Ideal S16x4096x4096 .f32) (a2 : FVec Ideal S4096x128 .f32) : FVec Ideal S16x4096x128 .f32 :=
  Host.dotGeneral dot_S16x4096x4096_S4096x128_S16x4096x128_2_0_01_1_n_n none
    (Host.divf e (broadcastInDim S16x4096x4096 ![0, 1, 2] bcast_S16x4096x1_S16x4096x4096_0_1_2 (sumH e))) a2

/-- The log-sum-exp in base two. -/
def lseH (s : FVec Ideal S16x4096x4096 .f32) : FVec Ideal S16x4096x1 .f32 :=
  Host.divf (addf (maxH s) (Host.log (sumH (expH s)))) (broadcastInDim S16x4096x1 ![] bcast_S_S16x4096x1 (Host.log (constant S_ .f32 0x40000000#32)))

/-- The padded query in base two. -/
def queryH (a0 : FVec Ideal S4096x16x128 .f32) (a1 : FVec Ideal S4096x16x32 .f32) : FVec Ideal S16x4096x256 .f32 :=
  transpose S16x4096x256 [1, 0, 2] (Host.divf
    (concatenate S4096x16x256 2 [⟨S4096x16x128, a0⟩, ⟨S4096x16x32, a1⟩, ⟨S4096x16x96, broadcastInDim S4096x16x96 ![] bcast_S_S4096x16x96 (constant S_ .f32 0x00000000#32 : FVec Ideal S_ .f32)⟩]
      concatenates_S4096x16x128_S4096x16x32_S4096x16x96_S4096x16x256_d2)
    (broadcastInDim S4096x16x256 ![] bcast_S_S4096x16x256 (Host.log (constant S_ .f32 0x40000000#32)))) transposes_S4096x16x256_S16x4096x256_1_0_2

/-- The padded key. -/
def keyH (a2 : FVec Ideal S4096x128 .f32) (a3 : FVec Ideal S4096x32 .f32) : FVec Ideal S4096x256 .f32 :=
  concatenate S4096x256 1 [⟨S4096x128, a2⟩, ⟨S4096x32, a3⟩, ⟨S4096x1, broadcastInDim S4096x1 ![] bcast_S_S4096x1 (constant S_ .f32 0x3F800000#32 : FVec Ideal S_ .f32)⟩,
    ⟨S4096x95, broadcastInDim S4096x95 ![] bcast_S_S4096x95 (constant S_ .f32 0x00000000#32 : FVec Ideal S_ .f32)⟩] concatenates_S4096x128_S4096x32_S4096x1_S4096x95_S4096x256_d1

/-! ## The buffers the kernel's windows read -/

/-- The log-sum-exp the kernel is given. -/
theorem V_main_v19 : (V m c main_v19 : FVec Ideal S16x4096x1 .f32)
    = lseH (scoreH (m ((c.tc : Thread nD τ).loc main_arg0)) (m ((c.tc : Thread nD τ).loc main_arg1)) (m ((c.tc : Thread nD τ).loc main_arg2)) (m ((c.tc : Thread nD τ).loc main_arg3))) := by
  unfold_abbrev_sides
  after_reads_simp
  rfl

/-- The saved output it is given. -/
theorem V_main_v31 : (V m c main_v31 : FVec Ideal S16x4096x128 .bf16)
    = truncf .bf16 (outH (expH (scoreH (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg2))) bitsLt_bf16_f32 := by
  unfold_abbrev_sides
  after_reads_simp
  rfl

/-- The query it is given. -/
theorem V_main_v26 : (V m c main_v26 : FVec Ideal S16x4096x256 .bf16)
    = truncf .bf16 (queryH (m ((c.tc : Thread nD τ).loc main_arg0)) (m ((c.tc : Thread nD τ).loc main_arg1))) bitsLt_bf16_f32 := by
  unfold_abbrev_sides
  after_reads_simp
  rfl

/-- The key it is given. -/
theorem V_main_v30 : (V m c main_v30 : FVec Ideal S4096x256 .bf16)
    = truncf .bf16 (keyH (m ((c.tc : Thread nD τ).loc main_arg2)) (m ((c.tc : Thread nD τ).loc main_arg3))) bitsLt_bf16_f32 := by
  unfold_abbrev_sides
  after_reads_simp
  rfl

/-- The incoming gradient it is given. -/
theorem V_main_v33 : (V m c main_v33 : FVec Ideal S16x4096x128 .bf16)
    = truncf (F := Ideal) .bf16 (transpose S16x4096x128 [1, 0, 2] (m ((c.tc : Thread nD τ).loc main_arg4)) transposes_S4096x16x128_S16x4096x128_1_0_2) bitsLt_bf16_f32 := by
  unfold_abbrev_sides
  after_reads_simp

/-! ## The same at an index -/

theorem scoreH_apply (a0 : FVec Ideal S4096x16x128 .f32) (a1 : FVec Ideal S4096x16x32 .f32) (a2 : FVec Ideal S4096x128 .f32)
    (a3 : FVec Ideal S4096x32 .f32) (h : Fin 16) (q k : Fin 4096) :
    scoreH a0 a1 a2 a3 (ix3 h q k) = (((∑ l : Fin 128, a2 (ix2 k l) * a0 (ix3 q h l)) + ∑ l : Fin 32, a3 (ix2 k l) * a1 (ix3 q h l) : EReal)) := by
  pointwise [scoreH]

theorem maxH_apply (s : FVec Ideal S16x4096x4096 .f32) (h : Fin 16) (q : Fin 4096) :
    maxH s (ix3 h q 0) = Finset.fold max (Ideal.ofBits .f32 0xFF800000#32) (fun k : Fin 4096 => s (ix3 h q k)) Finset.univ := by
  pointwise [maxH]

theorem expH_apply (s : FVec Ideal S16x4096x4096 .f32) (h : Fin 16) (q k : Fin 4096) :
    expH s (ix3 h q k) = Ideal.exp (s (ix3 h q k) - maxH s (ix3 h q 0) : EReal) := by
  pointwise [expH]

theorem sumH_apply (e : FVec Ideal S16x4096x4096 .f32) (h : Fin 16) (q : Fin 4096) :
    sumH e (ix3 h q 0) = (∑ k : Fin 4096, e (ix3 h q k) : EReal) := by
  pointwise [sumH]

theorem outH_apply (e : FVec Ideal S16x4096x4096 .f32) (a2 : FVec Ideal S4096x128 .f32) (h : Fin 16) (q : Fin 4096) (l : Fin 128) :
    outH e a2 (ix3 h q l) = (∑ k : Fin 4096, Ideal.div (e (ix3 h q k)) (sumH e (ix3 h q 0)) * a2 (ix2 k l) : EReal) := by
  pointwise [outH]

theorem div_scalar (A : FVec Ideal S16x4096x1 .f32) (z : FVec Ideal S_ .f32) (h : Fin 16) (q : Fin 4096) :
    Host.divf A (broadcastInDim S16x4096x1 ![] bcast_S_S16x4096x1 z) (ix3 h q 0) = Ideal.div (A (ix3 h q 0)) (z ix0) := by
  pointwise

theorem log_const : (Host.log (constant S_ .f32 0x40000000#32 : FVec Ideal S_ .f32) : FVec Ideal S_ .f32) = fun _ => Ideal.log (Ideal.ofBits .f32 0x40000000#32) := rfl

theorem add_log (A B : FVec Ideal S16x4096x1 .f32) (i : S16x4096x1.Idx) : addf A (Host.log B) i = (A i + Ideal.log (B i) : EReal) := rfl

theorem lseH_apply (s : FVec Ideal S16x4096x4096 .f32) (h : Fin 16) (q : Fin 4096) :
    lseH s (ix3 h q 0) = Ideal.div (maxH s (ix3 h q 0) + Ideal.log (sumH (expH s) (ix3 h q 0)) : EReal) (Ideal.log (Ideal.ofBits .f32 0x40000000#32)) := by
  rw [lseH, div_scalar, log_const, add_log]

theorem queryH_apply (a0 : FVec Ideal S4096x16x128 .f32) (a1 : FVec Ideal S4096x16x32 .f32) (h : Fin 16) (q : Fin 4096) (l : Fin 256) :
    queryH a0 a1 (ix3 h q l) = Ideal.div (if h0 : l.val < 128 then a0 (ix3 q h ⟨l, h0⟩) else if h1 : l.val - 128 < 32 then a1 (ix3 q h ⟨l.val - 128, h1⟩) else (0 : EReal))
      (Ideal.log (Ideal.ofBits .f32 0x40000000#32)) := by
  pointwise [queryH]

theorem keyH_apply (a2 : FVec Ideal S4096x128 .f32) (a3 : FVec Ideal S4096x32 .f32) (k : Fin 4096) (l : Fin 256) :
    keyH a2 a3 (ix2 k l) = (if h0 : l.val < 128 then a2 (ix2 k ⟨l, h0⟩) else if h1 : l.val - 128 < 32 then a3 (ix2 k ⟨l.val - 128, h1⟩)
      else if l.val = 160 then (1 : EReal) else (0 : EReal)) := by
  pointwise [keyH]
  by_cases h0 : l.val < 128
  · simp only [h0, dite_true]
  · by_cases h1 : l.val - 128 < 32
    · simp only [h0, h1, dite_true, dite_false]
    · by_cases h2 : l.val = 160
      · simp [h0, h1, h2]
      · have h3 : ¬ (l.val - 128 - 32 < 1) := by omega
        simp only [h0, h1, h2, h3, dite_false, if_false]

end Cert.Att

end
-- ==== Proof.KernelReal.lean ====
/-
  The kernel's results over real arguments.
-/
module

public import proofs.«01_k».proof.Proof.RealGrads
public import proofs.«01_k».proof.Proof.Host
public import proofs.«01_k».proof.Proof.Arrays

@[expose] public section

noncomputable section

namespace Cert.Att

open Cert.KernelIdeal Cert.KernelIdeal.Gen Idealize.ShloMosaic

section rows

variable (x0 : FVec Ideal S4096x16x128 .f32) (x1 : FVec Ideal S4096x16x32 .f32) (x2 : FVec Ideal S4096x128 .f32)
  (x3 : FVec Ideal S4096x32 .f32) (x4 : FVec Ideal S4096x16x128 .f32)
variable (A0 : Fin 4096 → Fin 16 → Fin 128 → ℝ) (A1 : Fin 4096 → Fin 16 → Fin 32 → ℝ) (A2 : Fin 4096 → Fin 128 → ℝ)
  (A3 : Fin 4096 → Fin 32 → ℝ) (A4 : Fin 4096 → Fin 16 → Fin 128 → ℝ)
variable (e0 : ∀ q h l, x0 (ix3 q h l) = (A0 q h l : EReal)) (e1 : ∀ q h l, x1 (ix3 q h l) = (A1 q h l : EReal))
  (e2 : ∀ k l, x2 (ix2 k l) = (A2 k l : EReal)) (e3 : ∀ k l, x3 (ix2 k l) = (A3 k l : EReal)) (e4 : ∀ q h l, x4 (ix3 q h l) = (A4 q h l : EReal))

include e0 e1 e2 e3

theorem scoreH_real (h : Fin 16) (q k : Fin 4096) : scoreH x0 x1 x2 x3 (ix3 h q k) = (scr A0 A1 A2 A3 h q k : EReal) := by
  rw [scoreH_apply]
  simp only [e0, e1, e2, e3, ← EReal.coe_mul, coe_sum, ← EReal.coe_add]
  rfl

theorem maxH_real (h : Fin 16) (q : Fin 4096) : maxH (scoreH x0 x1 x2 x3) (ix3 h q 0) = (mx (scr A0 A1 A2 A3 h q) : EReal) := by
  rw [maxH_apply, ofBits_neg_inf]
  simp only [scoreH_real x0 x1 x2 x3 A0 A1 A2 A3 e0 e1 e2 e3]
  exact fold_max _

theorem expH_real (h : Fin 16) (q k : Fin 4096) : expH (scoreH x0 x1 x2 x3) (ix3 h q k) = (ex (scr A0 A1 A2 A3 h q) k : EReal) := by
  rw [expH_apply, scoreH_real x0 x1 x2 x3 A0 A1 A2 A3 e0 e1 e2 e3, maxH_real x0 x1 x2 x3 A0 A1 A2 A3 e0 e1 e2 e3, ← EReal.coe_sub, Ideal.exp_coe]
  rfl

theorem sumH_real (h : Fin 16) (q : Fin 4096) : sumH (expH (scoreH x0 x1 x2 x3)) (ix3 h q 0) = (zz (scr A0 A1 A2 A3 h q) : EReal) := by
  rw [sumH_apply]
  simp only [expH_real x0 x1 x2 x3 A0 A1 A2 A3 e0 e1 e2 e3]
  exact coe_sum _ _

theorem outH_real (h : Fin 16) (q : Fin 4096) (l : Fin 128) :
    outH (expH (scoreH x0 x1 x2 x3)) x2 (ix3 h q l) = ((∑ k, pr (scr A0 A1 A2 A3 h q) k * A2 k l : ℝ) : EReal) := by
  rw [outH_apply]
  simp only [expH_real x0 x1 x2 x3 A0 A1 A2 A3 e0 e1 e2 e3, sumH_real x0 x1 x2 x3 A0 A1 A2 A3 e0 e1 e2 e3, div_real _ _ (zz_pos _).ne', e2, ← EReal.coe_mul]
  exact coe_sum _ _

theorem lseH_real (h : Fin 16) (q : Fin 4096) :
    lseH (scoreH x0 x1 x2 x3) (ix3 h q 0) = (((mx (scr A0 A1 A2 A3 h q) + Real.log (zz (scr A0 A1 A2 A3 h q))) / Real.log 2 : ℝ) : EReal) := by
  rw [lseH_apply, maxH_real x0 x1 x2 x3 A0 A1 A2 A3 e0 e1 e2 e3, sumH_real x0 x1 x2 x3 A0 A1 A2 A3 e0 e1 e2 e3, log_two, Ideal.log_coe, if_neg (not_le.mpr (zz_pos _)), ← EReal.coe_add, div_real _ _ log_two_pos.ne']

omit e2 e3 in
theorem queryH_real (h : Fin 16) (q : Fin 4096) (l : Fin 256) :
    queryH x0 x1 (ix3 h q l) = ((lanes (A0 q h) (A1 q h) (fun _ => 0) l / Real.log 2 : ℝ) : EReal) := by
  rw [queryH_apply, log_two, ← div_real _ _ log_two_pos.ne']
  congr 1
  simp only [e0, e1]
  unfold lanes
  by_cases h0 : l.val < 128
  · simp only [h0, dite_true]
  · by_cases h1 : l.val - 128 < 32
    · simp only [h0, h1, dite_true, dite_false]
    · simp only [h0, h1, dite_false, EReal.coe_zero]

omit e0 e1 in
theorem keyH_real (k : Fin 4096) (l : Fin 256) :
    keyH x2 x3 (ix2 k l) = (lanes (A2 k) (A3 k) (fun n => if n = 160 then 1 else 0) l : EReal) := by
  rw [keyH_apply]
  simp only [e2, e3]
  unfold lanes
  by_cases h0 : l.val < 128
  · simp only [h0, dite_true]
  · by_cases h1 : l.val - 128 < 32
    · simp only [h0, h1, dite_true, dite_false]
    · by_cases h2 : l.val = 160
      · simp only [h0, h1, dite_false, if_pos h2, EReal.coe_one]
      · simp only [h0, h1, dite_false, if_neg h2, EReal.coe_zero]

end rows

/-! ## The kernel's sums -/

section sums

variable (A0 : Fin 4096 → Fin 16 → Fin 128 → ℝ) (A1 : Fin 4096 → Fin 16 → Fin 32 → ℝ) (A2 : Fin 4096 → Fin 128 → ℝ)
  (A3 : Fin 4096 → Fin 32 → ℝ) (A4 : Fin 4096 → Fin 16 → Fin 128 → ℝ)
variable (Q : FVec Ideal S16x4096x256 .bf16) (K : FVec Ideal S4096x256 .bf16) (O D : FVec Ideal S16x4096x128 .bf16) (L : FVec Ideal S16x4096x1 .f32)
variable (eQ : ∀ h q l, Q (ix3 h q l) = ((lanes (A0 q h) (A1 q h) (fun _ => 0) l / Real.log 2 : ℝ) : EReal))
  (eK : ∀ k l, K (ix2 k l) = (lanes (A2 k) (A3 k) (fun n => if n = 160 then 1 else 0) l : EReal))
  (eO : ∀ h q l, O (ix3 h q l) = ((∑ k, pr (scr A0 A1 A2 A3 h q) k * A2 k l : ℝ) : EReal))
  (eD : ∀ h q l, D (ix3 h q l) = (A4 q h l : EReal))
  (eL : ∀ h q, L (ix3 h q 0) = (((mx (scr A0 A1 A2 A3 h q) + Real.log (zz (scr A0 A1 A2 A3 h q))) / Real.log 2 : ℝ) : EReal))
include eQ eK eL

theorem wtA_real (h : Fin 16) (q k : Fin 4096) : wtA Q K L h q k = (pr (scr A0 A1 A2 A3 h q) k : EReal) := by
  unfold wtA
  simp only [eQ, eK, eL, ← EReal.coe_mul, coe_sum, ← EReal.coe_sub]
  refine (Ideal.exp2_coe _).trans (congrArg _ ?_)
  rw [← pr_base_two]
  congr 2
  rw [scr, ← Finset.sum_congr rfl (fun l _ => mul_comm (A0 q h l) (A2 k l)), ← Finset.sum_congr rfl (fun l _ => mul_comm (A1 q h l) (A3 k l)),
    ← sum_lanes _ _ _ _ (fun n => if n = 160 then 1 else 0), Finset.sum_div]
  exact Finset.sum_congr rfl fun l _ => div_mul_eq_mul_div _ _ _

include eO eD

theorem dsA_real (h : Fin 16) (q k : Fin 4096) : dsA Q K O D L h q k = (dscr A0 A1 A2 A3 A4 h q k : EReal) := by
  unfold dsA
  rw [wtA_real A0 A1 A2 A3 Q K L eQ eK eL]
  simp only [eD, eO, eK, ← EReal.coe_mul, coe_sum, ← EReal.coe_sub]
  refine congrArg _ ?_
  rw [dscr, dsr, sum_out]
  congr 2

theorem sum6_real (h : Fin 16) (q : Fin 4096) (l : Fin 256) :
    (∑ j : Fin 4096, dsA Q K O D L h q j * K (ix2 j l) : EReal) = (dqr A0 A1 A2 A3 A4 h q l : EReal) := by
  simp only [dsA_real A0 A1 A2 A3 A4 Q K O D L eQ eK eO eD eL, eK, ← EReal.coe_mul, coe_sum]
  exact congrArg _ (sum_dsr_lanes _ _ _ _ _)

theorem sum7_real (l : Fin 256) (k : Fin 4096) :
    (∑ h : Fin 16, ∑ q : Fin 4096, Q (ix3 h q l) * dsA Q K O D L h q k : EReal) = (dkr A0 A1 A2 A3 A4 l k : EReal) := by
  simp only [dsA_real A0 A1 A2 A3 A4 Q K O D L eQ eK eO eD eL, eQ, ← EReal.coe_mul, coe_sum]
  exact congrArg _ (sum_lanes_dsr (fun h q => dscr A0 A1 A2 A3 A4 h q k) _ _ _)

omit eO in
theorem sum8_real (l : Fin 128) (k : Fin 4096) :
    (∑ h : Fin 16, ∑ q : Fin 4096, D (ix3 h q l) * wtA Q K L h q k : EReal) = (dvr A0 A1 A2 A3 A4 l k : EReal) := by
  simp only [wtA_real A0 A1 A2 A3 Q K L eQ eK eL, eD, ← EReal.coe_mul, coe_sum]
  rfl

end sums

end Cert.Att

end
-- ==== Proof.Ref.lean ====
/-
  The gradients of the attention as the reference computes them, read at an index: the scores and their softmax, the
  gradient of the scores, and the three results as sums over keys, or over heads and queries.
-/
module

public import proofs.«01_k».proof.Proof.Gen.ReferenceIdeal.Read
public import Idealize.ShloMosaic.Lib.Pointwise

@[expose] public section

set_option maxRecDepth 16384

noncomputable section

namespace Cert.AttRef

open Cert.ReferenceIdeal Cert.ReferenceIdeal.Gen Cert.ReferenceIdeal.Read Idealize.ShloMosaic Idealize.ShloMosaic.TcCoe Idealize.SL.Sem

/-- A score: latent part and rotary part. -/
theorem score_apply (x0 : FVec Ideal S4096x16x128 .f32) (x1 : FVec Ideal S4096x16x32 .f32) (x2 : FVec Ideal S4096x128 .f32) (x3 : FVec Ideal S4096x32 .f32) (h : Fin 16) (q k : Fin 4096) :
    val_main_v4 (F := Ideal) x0 x1 x2 x3 (ix3 h q k) = ((∑ l : Fin 128, x2 (ix2 k l) * x0 (ix3 q h l)) + ∑ l : Fin 32, x3 (ix2 k l) * x1 (ix3 q h l) : EReal) := by
  pointwise [val_main_v4, val_main_v3, val_main_v2, val_main_v1, val_main_v0]

theorem reduce_max (s : FVec Ideal S16x4096x4096 .f32) (h : Fin 16) (q : Fin 4096) :
    Host.reduce FloatOps.maximumf s (constant S_ .f32 0xFF800000#32) reducesTo_S16x4096x4096_S16x4096_d2 h_S_ (ix2 h q)
      = Finset.fold max (Ideal.ofBits .f32 0xFF800000#32) (fun k : Fin 4096 => s (ix3 h q k)) Finset.univ := by
  pointwise

theorem max_const (y : FVec Ideal S16x4096 .f32) (i : S16x4096.Idx) :
    maximumf (broadcastInDim S16x4096 ![] bcast_S_S16x4096 (constant S_ .f32 0xFF800000#32)) y i = (max (Ideal.ofBits .f32 0xFF800000#32) (y i) : EReal) := rfl

/-- The greatest score of a query. -/
theorem max_apply (x0 : FVec Ideal S4096x16x128 .f32) (x1 : FVec Ideal S4096x16x32 .f32) (x2 : FVec Ideal S4096x128 .f32) (x3 : FVec Ideal S4096x32 .f32) (h : Fin 16) (q : Fin 4096) :
    val_main_v12 (F := Ideal) x0 x1 x2 x3 (ix2 h q) = (max (Ideal.ofBits .f32 0xFF800000#32) (Finset.fold max (Ideal.ofBits .f32 0xFF800000#32) (fun k : Fin 4096 => val_main_v4 (F := Ideal) x0 x1 x2 x3 (ix3 h q k)) Finset.univ) : EReal) := by
  unfold val_main_v12 val_main_v11 val_main_cst_1 val_main_v5 val_main_cst
  generalize val_main_v4 (F := Ideal) x0 x1 x2 x3 = y0
  rw [max_const, reduce_max]

/-- A score's exponential. -/
theorem exp_apply (x0 : FVec Ideal S4096x16x128 .f32) (x1 : FVec Ideal S4096x16x32 .f32) (x2 : FVec Ideal S4096x128 .f32) (x3 : FVec Ideal S4096x32 .f32) (h : Fin 16) (q k : Fin 4096) :
    val_main_v25 (F := Ideal) x0 x1 x2 x3 (ix3 h q k) = (Ideal.exp (val_main_v4 (F := Ideal) x0 x1 x2 x3 (ix3 h q k) - val_main_v12 (F := Ideal) x0 x1 x2 x3 (ix2 h q)) : EReal) := by
  unfold val_main_v25 val_main_v24 val_main_v23 val_main_v22
  generalize val_main_v4 (F := Ideal) x0 x1 x2 x3 = y0
  generalize val_main_v12 (F := Ideal) x0 x1 x2 x3 = y1
  pointwise

/-- Their sum along the keys. -/
theorem sum_apply (x0 : FVec Ideal S4096x16x128 .f32) (x1 : FVec Ideal S4096x16x32 .f32) (x2 : FVec Ideal S4096x128 .f32) (x3 : FVec Ideal S4096x32 .f32) (h : Fin 16) (q : Fin 4096) :
    val_main_v26 (F := Ideal) x0 x1 x2 x3 (ix2 h q) = (∑ k : Fin 4096, val_main_v25 (F := Ideal) x0 x1 x2 x3 (ix3 h q k) : EReal) := by
  unfold val_main_v26 val_main_cst_7
  generalize val_main_v25 (F := Ideal) x0 x1 x2 x3 = y0
  pointwise

/-- A weight of the softmax. -/
theorem wt_apply (x0 : FVec Ideal S4096x16x128 .f32) (x1 : FVec Ideal S4096x16x32 .f32) (x2 : FVec Ideal S4096x128 .f32) (x3 : FVec Ideal S4096x32 .f32) (h : Fin 16) (q k : Fin 4096) :
    val_main_v29 (F := Ideal) x0 x1 x2 x3 (ix3 h q k) = (Ideal.div (val_main_v25 (F := Ideal) x0 x1 x2 x3 (ix3 h q k)) (val_main_v26 (F := Ideal) x0 x1 x2 x3 (ix2 h q)) : EReal) := by
  unfold val_main_v29 val_main_v28 val_main_v27
  generalize val_main_v25 (F := Ideal) x0 x1 x2 x3 = y0
  generalize val_main_v26 (F := Ideal) x0 x1 x2 x3 = y1
  pointwise

/-- The gradient of a weight. -/
theorem dwt_apply (x2 : FVec Ideal S4096x128 .f32) (x4 : FVec Ideal S4096x16x128 .f32) (h : Fin 16) (q k : Fin 4096) :
    val_main_v36 (F := Ideal) x2 x4 (ix3 h q k) = (∑ l : Fin 128, x4 (ix3 q h l) * x2 (ix2 k l) : EReal) := by
  pointwise [val_main_v36, val_main_v35]

/-- The sum the softmax's gradient subtracts. -/
theorem red_apply (x0 : FVec Ideal S4096x16x128 .f32) (x1 : FVec Ideal S4096x16x32 .f32) (x2 : FVec Ideal S4096x128 .f32) (x3 : FVec Ideal S4096x32 .f32) (x4 : FVec Ideal S4096x16x128 .f32) (h : Fin 16) (q : Fin 4096) :
    val_main_v42 (F := Ideal) x0 x1 x2 x3 x4 (ix2 h q) = (∑ k : Fin 4096, val_main_v36 (F := Ideal) x2 x4 (ix3 h q k) * Ideal.div (Ideal.ofBits .f32 0x3F800000#32) (val_main_v26 (F := Ideal) x0 x1 x2 x3 (ix2 h q) * val_main_v26 (F := Ideal) x0 x1 x2 x3 (ix2 h q)) * val_main_v25 (F := Ideal) x0 x1 x2 x3 (ix3 h q k) : EReal) := by
  unfold val_main_v42 val_main_cst_9 val_main_v41 val_main_v40 val_main_v39 val_main_v32 val_main_v31 val_main_cst_8 val_main_v30 val_main_v27
  generalize val_main_v36 (F := Ideal) x2 x4 = y0
  generalize val_main_v26 (F := Ideal) x0 x1 x2 x3 = y1
  generalize val_main_v25 (F := Ideal) x0 x1 x2 x3 = y2
  pointwise

/-- The same, negated. -/
theorem neg_apply (x0 : FVec Ideal S4096x16x128 .f32) (x1 : FVec Ideal S4096x16x32 .f32) (x2 : FVec Ideal S4096x128 .f32) (x3 : FVec Ideal S4096x32 .f32) (x4 : FVec Ideal S4096x16x128 .f32) (h : Fin 16) (q : Fin 4096) :
    val_main_v47 (F := Ideal) x0 x1 x2 x3 x4 (ix2 h q) = (-val_main_v42 (F := Ideal) x0 x1 x2 x3 x4 (ix2 h q) : EReal) := by
  unfold val_main_v47 val_main_cst_10 val_main_v44 val_main_v43
  generalize val_main_v42 (F := Ideal) x0 x1 x2 x3 x4 = y0
  pointwise
  simp

/-- The gradient of a score. -/
theorem ds_apply (x0 : FVec Ideal S4096x16x128 .f32) (x1 : FVec Ideal S4096x16x32 .f32) (x2 : FVec Ideal S4096x128 .f32) (x3 : FVec Ideal S4096x32 .f32) (x4 : FVec Ideal S4096x16x128 .f32) (h : Fin 16) (q k : Fin 4096) :
    val_main_v50 (F := Ideal) x0 x1 x2 x3 x4 (ix3 h q k) = ((Ideal.div (val_main_v36 (F := Ideal) x2 x4 (ix3 h q k)) (val_main_v26 (F := Ideal) x0 x1 x2 x3 (ix2 h q)) + val_main_v47 (F := Ideal) x0 x1 x2 x3 x4 (ix2 h q)) * val_main_v25 (F := Ideal) x0 x1 x2 x3 (ix3 h q k) : EReal) := by
  unfold val_main_v50 val_main_v49 val_main_v48 val_main_v46 val_main_v45 val_main_v27
  generalize val_main_v36 (F := Ideal) x2 x4 = y0
  generalize val_main_v26 (F := Ideal) x0 x1 x2 x3 = y1
  generalize val_main_v47 (F := Ideal) x0 x1 x2 x3 x4 = y2
  generalize val_main_v25 (F := Ideal) x0 x1 x2 x3 = y3
  pointwise

/-- The gradient of the query, padded with zeros. -/
theorem dq_apply (x0 : FVec Ideal S4096x16x128 .f32) (x1 : FVec Ideal S4096x16x32 .f32) (x2 : FVec Ideal S4096x128 .f32) (x3 : FVec Ideal S4096x32 .f32) (x4 : FVec Ideal S4096x16x128 .f32) (h : Fin 16) (q : Fin 4096) (l : Fin 256) :
    val_main_v65 (F := Ideal) x0 x1 x2 x3 x4 (ix3 h q l) = (if h0 : l.val < 128 then ∑ k : Fin 4096, val_main_v50 (F := Ideal) x0 x1 x2 x3 x4 (ix3 h q k) * x2 (ix2 k ⟨l.val, h0⟩) else if h1 : l.val - 128 < 32 then ∑ k : Fin 4096, val_main_v50 (F := Ideal) x0 x1 x2 x3 x4 (ix3 h q k) * x3 (ix2 k ⟨l.val - 128, h1⟩) else 0 : EReal) := by
  unfold val_main_v65 val_main_v64 val_main_v58 val_main_v57 val_main_cst_11 val_main_v55 val_main_v54 val_main_v52 val_main_v51
  generalize val_main_v50 (F := Ideal) x0 x1 x2 x3 x4 = y0
  pointwise

/-- The gradient of the key, in base two, transposed. -/
theorem dk_apply (x0 : FVec Ideal S4096x16x128 .f32) (x1 : FVec Ideal S4096x16x32 .f32) (x2 : FVec Ideal S4096x128 .f32) (x3 : FVec Ideal S4096x32 .f32) (x4 : FVec Ideal S4096x16x128 .f32) (l : Fin 256) (k : Fin 4096) :
    val_main_v66 (F := Ideal) x0 x1 x2 x3 x4 (ix2 l k) = (Ideal.div (if h0 : l.val < 128 then ∑ q : Fin 4096, ∑ h : Fin 16, val_main_v50 (F := Ideal) x0 x1 x2 x3 x4 (ix3 h q k) * x0 (ix3 q h ⟨l.val, h0⟩) else if h1 : l.val - 128 < 32 then ∑ q : Fin 4096, ∑ h : Fin 16, val_main_v50 (F := Ideal) x0 x1 x2 x3 x4 (ix3 h q k) * x1 (ix3 q h ⟨l.val - 128, h1⟩) else 0) (Ideal.log (Ideal.ofBits .f32 0x40000000#32)) : EReal) := by
  unfold val_main_v66 val_main_v63 val_main_v62 val_main_v61 val_main_cst_13 val_main_v60 val_main_v59 val_main_cst_12 val_main_v56 val_main_v54 val_main_v53 val_main_v51
  generalize val_main_v50 (F := Ideal) x0 x1 x2 x3 x4 = y0
  pointwise

/-- The gradient of the value, transposed. -/
theorem dv_apply (x0 : FVec Ideal S4096x16x128 .f32) (x1 : FVec Ideal S4096x16x32 .f32) (x2 : FVec Ideal S4096x128 .f32) (x3 : FVec Ideal S4096x32 .f32) (x4 : FVec Ideal S4096x16x128 .f32) (l : Fin 128) (k : Fin 4096) :
    val_main_v67 (F := Ideal) x0 x1 x2 x3 x4 (ix2 l k) = (∑ h : Fin 16, ∑ q : Fin 4096, x4 (ix3 q h l) * val_main_v29 (F := Ideal) x0 x1 x2 x3 (ix3 h q k) : EReal) := by
  unfold val_main_v67 val_main_v38 val_main_v37 val_main_v35
  generalize val_main_v29 (F := Ideal) x0 x1 x2 x3 = y0
  pointwise

end Cert.AttRef

end
-- ==== Proof.RefReal.lean ====
/-
  The reference's results over real arguments.
-/
module

public import proofs.«01_k».proof.Proof.RealGrads
public import proofs.«01_k».proof.Proof.Ref

@[expose] public section

noncomputable section

namespace Cert.AttRef

open Cert.ReferenceIdeal Cert.ReferenceIdeal.Gen Cert.ReferenceIdeal.Read Cert.Att Idealize.ShloMosaic

variable (x0 : FVec Ideal S4096x16x128 .f32) (x1 : FVec Ideal S4096x16x32 .f32) (x2 : FVec Ideal S4096x128 .f32)
  (x3 : FVec Ideal S4096x32 .f32) (x4 : FVec Ideal S4096x16x128 .f32)
variable (A0 : Fin 4096 → Fin 16 → Fin 128 → ℝ) (A1 : Fin 4096 → Fin 16 → Fin 32 → ℝ) (A2 : Fin 4096 → Fin 128 → ℝ)
  (A3 : Fin 4096 → Fin 32 → ℝ) (A4 : Fin 4096 → Fin 16 → Fin 128 → ℝ)
variable (e0 : ∀ q h l, x0 (ix3 q h l) = (A0 q h l : EReal)) (e1 : ∀ q h l, x1 (ix3 q h l) = (A1 q h l : EReal))
  (e2 : ∀ k l, x2 (ix2 k l) = (A2 k l : EReal)) (e3 : ∀ k l, x3 (ix2 k l) = (A3 k l : EReal)) (e4 : ∀ q h l, x4 (ix3 q h l) = (A4 q h l : EReal))

include e0 e1 e2 e3

theorem score_real (h : Fin 16) (q k : Fin 4096) : val_main_v4 (F := Ideal) x0 x1 x2 x3 (ix3 h q k) = (scr A0 A1 A2 A3 h q k : EReal) := by
  rw [score_apply]
  simp only [e0, e1, e2, e3, ← EReal.coe_mul, coe_sum, ← EReal.coe_add]
  rfl

theorem max_real (h : Fin 16) (q : Fin 4096) : val_main_v12 (F := Ideal) x0 x1 x2 x3 (ix2 h q) = (mx (scr A0 A1 A2 A3 h q) : EReal) := by
  rw [max_apply, ofBits_neg_inf, max_eq_right bot_le]
  simp only [score_real x0 x1 x2 x3 A0 A1 A2 A3 e0 e1 e2 e3]
  exact fold_max _

theorem exp_real (h : Fin 16) (q k : Fin 4096) : val_main_v25 (F := Ideal) x0 x1 x2 x3 (ix3 h q k) = (ex (scr A0 A1 A2 A3 h q) k : EReal) := by
  rw [exp_apply, score_real x0 x1 x2 x3 A0 A1 A2 A3 e0 e1 e2 e3, max_real x0 x1 x2 x3 A0 A1 A2 A3 e0 e1 e2 e3, ← EReal.coe_sub, Ideal.exp_coe]
  rfl

theorem sum_real (h : Fin 16) (q : Fin 4096) : val_main_v26 (F := Ideal) x0 x1 x2 x3 (ix2 h q) = (zz (scr A0 A1 A2 A3 h q) : EReal) := by
  rw [sum_apply]
  simp only [exp_real x0 x1 x2 x3 A0 A1 A2 A3 e0 e1 e2 e3]
  exact coe_sum _ _

theorem wt_real (h : Fin 16) (q k : Fin 4096) : val_main_v29 (F := Ideal) x0 x1 x2 x3 (ix3 h q k) = (pr (scr A0 A1 A2 A3 h q) k : EReal) := by
  rw [wt_apply, exp_real x0 x1 x2 x3 A0 A1 A2 A3 e0 e1 e2 e3, sum_real x0 x1 x2 x3 A0 A1 A2 A3 e0 e1 e2 e3, div_real _ _ (zz_pos _).ne']
  rfl

include e4

omit e0 e1 e3 in
theorem dwt_real (h : Fin 16) (q k : Fin 4096) : val_main_v36 (F := Ideal) x2 x4 (ix3 h q k) = (dpr A2 A4 h q k : EReal) := by
  rw [dwt_apply]
  simp only [e2, e4, ← EReal.coe_mul]
  exact coe_sum _ _

theorem ds_real (h : Fin 16) (q k : Fin 4096) : val_main_v50 (F := Ideal) x0 x1 x2 x3 x4 (ix3 h q k) = (dscr A0 A1 A2 A3 A4 h q k : EReal) := by
  have hz := (zz_pos (scr A0 A1 A2 A3 h q)).ne'
  rw [ds_apply, neg_apply, red_apply, sum_real x0 x1 x2 x3 A0 A1 A2 A3 e0 e1 e2 e3, exp_real x0 x1 x2 x3 A0 A1 A2 A3 e0 e1 e2 e3, dwt_real x2 x4 A2 A4 e2 e4, one_bits, ← EReal.coe_mul,
    div_real _ _ (mul_ne_zero hz hz), div_real _ _ hz]
  simp only [dwt_real x2 x4 A2 A4 e2 e4, exp_real x0 x1 x2 x3 A0 A1 A2 A3 e0 e1 e2 e3, ← EReal.coe_mul, coe_sum, ← EReal.coe_neg, ← EReal.coe_add]
  exact congrArg _ (dsr_eq _ _ _)

theorem dq_real (h : Fin 16) (q : Fin 4096) (l : Fin 256) : val_main_v65 (F := Ideal) x0 x1 x2 x3 x4 (ix3 h q l) = (dqr A0 A1 A2 A3 A4 h q l : EReal) := by
  rw [dq_apply]
  simp only [ds_real x0 x1 x2 x3 x4 A0 A1 A2 A3 A4 e0 e1 e2 e3 e4, e2, e3, ← EReal.coe_mul, coe_sum]
  unfold dqr lanes
  by_cases h0 : l.val < 128
  · simp only [h0, dite_true]
  · by_cases h1 : l.val - 128 < 32
    · simp only [h0, h1, dite_true, dite_false]
    · simp only [h0, h1, dite_false, EReal.coe_zero]

theorem dk_real (l : Fin 256) (k : Fin 4096) : val_main_v66 (F := Ideal) x0 x1 x2 x3 x4 (ix2 l k) = (dkr A0 A1 A2 A3 A4 l k : EReal) := by
  rw [dk_apply, log_two]
  simp only [ds_real x0 x1 x2 x3 x4 A0 A1 A2 A3 A4 e0 e1 e2 e3 e4, e0, e1, ← EReal.coe_mul, coe_sum]
  unfold dkr
  rw [← div_real _ _ log_two_pos.ne']
  congr 1
  unfold lanes
  by_cases h0 : l.val < 128
  · simp only [h0, dite_true]
  · by_cases h1 : l.val - 128 < 32
    · simp only [h0, h1, dite_true, dite_false]
    · simp only [h0, h1, dite_false, EReal.coe_zero]

theorem dv_real (l : Fin 128) (k : Fin 4096) : val_main_v67 (F := Ideal) x0 x1 x2 x3 x4 (ix2 l k) = (dvr A0 A1 A2 A3 A4 l k : EReal) := by
  rw [dv_apply]
  simp only [wt_real x0 x1 x2 x3 A0 A1 A2 A3 e0 e1 e2 e3, e4, ← EReal.coe_mul, coe_sum]
  rfl

end Cert.AttRef

end
-- ==== Proof.Attention.lean ====
/-
  The attention's backward kernel against the reference: each array it leaves is the reference's gradient, for finite
  arguments.
-/
module

public import proofs.«01_k».proof.Defs
public import proofs.«01_k».proof.Proof.Arrays
public import proofs.«01_k».proof.Proof.Finite
public import proofs.«01_k».proof.Proof.KernelReal
public import proofs.«01_k».proof.Proof.RefReal
public import proofs.«01_k».proof.Proof.Gen.KernelIdeal.Frame
public import proofs.«01_k».proof.Proof.Gen.ReferenceIdeal.Run

@[expose] public section

set_option maxRecDepth 16384

noncomputable section

namespace Cert.Att

open Cert.KernelIdeal Cert.KernelIdeal.Gen Idealize.ShloMosaic Idealize.ShloMosaic.TcCoe Idealize.SL.Sem Cert.ReferenceIdeal.Read

section values

variable (m : (ℓ : Loc nD τ sig) → Buf (Elt Ideal) ℓ) (c : Dev nD)

/-- The arguments of the program on a device. -/
abbrev a0 : FVec Ideal S4096x16x128 .f32 := m ((c.tc : Thread nD τ).loc main_arg0)
abbrev a1 : FVec Ideal S4096x16x32 .f32 := m ((c.tc : Thread nD τ).loc main_arg1)
abbrev a2 : FVec Ideal S4096x128 .f32 := m ((c.tc : Thread nD τ).loc main_arg2)
abbrev a3 : FVec Ideal S4096x32 .f32 := m ((c.tc : Thread nD τ).loc main_arg3)
abbrev a4 : FVec Ideal S4096x16x128 .f32 := m ((c.tc : Thread nD τ).loc main_arg4)

theorem grad_apply (x : FVec Ideal S4096x16x128 .f32) (h : Fin 16) (q : Fin 4096) (l : Fin 128) :
    (truncf (F := Ideal) .bf16 (transpose S16x4096x128 [1, 0, 2] x transposes_S4096x16x128_S16x4096x128_1_0_2) bitsLt_bf16_f32) (ix3 h q l) = x (ix3 q h l) := by
  pointwise

variable (A0 : Fin 4096 → Fin 16 → Fin 128 → ℝ) (A1 : Fin 4096 → Fin 16 → Fin 32 → ℝ) (A2 : Fin 4096 → Fin 128 → ℝ)
  (A3 : Fin 4096 → Fin 32 → ℝ) (A4 : Fin 4096 → Fin 16 → Fin 128 → ℝ)
variable (e0 : ∀ q h l, a0 m c (ix3 q h l) = (A0 q h l : EReal)) (e1 : ∀ q h l, a1 m c (ix3 q h l) = (A1 q h l : EReal))
  (e2 : ∀ k l, a2 m c (ix2 k l) = (A2 k l : EReal)) (e3 : ∀ k l, a3 m c (ix2 k l) = (A3 k l : EReal)) (e4 : ∀ q h l, a4 m c (ix3 q h l) = (A4 q h l : EReal))

include e0 e1 in
theorem Qv_real (h : Fin 16) (q : Fin 4096) (l : Fin 256) : Qv m c (ix3 h q l) = ((lanes (A0 q h) (A1 q h) (fun _ => 0) l / Real.log 2 : ℝ) : EReal) :=
  (congrFun (V_main_v26 m c) _).trans (queryH_real _ _ A0 A1 e0 e1 h q l)

include e2 e3 in
theorem Kv_real (k : Fin 4096) (l : Fin 256) : Kv m c (ix2 k l) = (lanes (A2 k) (A3 k) (fun n => if n = 160 then 1 else 0) l : EReal) :=
  (congrFun (V_main_v30 m c) _).trans (keyH_real _ _ A2 A3 e2 e3 k l)

include e4 in
theorem Dv_real (h : Fin 16) (q : Fin 4096) (l : Fin 128) : Dv m c (ix3 h q l) = (A4 q h l : EReal) :=
  (congrFun (V_main_v33 m c) _).trans ((grad_apply _ h q l).trans (e4 q h l))

include e0 e1 e2 e3

theorem Ov_real (h : Fin 16) (q : Fin 4096) (l : Fin 128) : Ov m c (ix3 h q l) = ((∑ k, pr (scr A0 A1 A2 A3 h q) k * A2 k l : ℝ) : EReal) :=
  (congrFun (V_main_v31 m c) _).trans (outH_real _ _ _ _ A0 A1 A2 A3 e0 e1 e2 e3 h q l)

theorem Lv_real (h : Fin 16) (q : Fin 4096) :
    Lv m c (ix3 h q 0) = (((mx (scr A0 A1 A2 A3 h q) + Real.log (zz (scr A0 A1 A2 A3 h q))) / Real.log 2 : ℝ) : EReal) :=
  (congrFun (V_main_v19 m c) _).trans (lseH_real _ _ _ _ A0 A1 A2 A3 e0 e1 e2 e3 h q)

include e4

theorem G6_real (i : S16x4096x256.Idx) : G6 m c i = val_main_v65 (F := Ideal) (a0 m c) (a1 m c) (a2 m c) (a3 m c) (a4 m c) i := by
  rw [eq_ix3 i]
  exact (sum6_real A0 A1 A2 A3 A4 _ _ _ _ _ (Qv_real m c A0 A1 e0 e1) (Kv_real m c A2 A3 e2 e3) (Ov_real m c A0 A1 A2 A3 e0 e1 e2 e3)
    (Dv_real m c A4 e4) (Lv_real m c A0 A1 A2 A3 e0 e1 e2 e3) (i 0) (i 1) (i 2)).trans
    (AttRef.dq_real _ _ _ _ _ A0 A1 A2 A3 A4 e0 e1 e2 e3 e4 (i 0) (i 1) (i 2)).symm

theorem G7_real (i : S256x4096.Idx) : G7 m c i = val_main_v66 (F := Ideal) (a0 m c) (a1 m c) (a2 m c) (a3 m c) (a4 m c) i := by
  rw [eq_ix2 i]
  exact (sum7_real A0 A1 A2 A3 A4 _ _ _ _ _ (Qv_real m c A0 A1 e0 e1) (Kv_real m c A2 A3 e2 e3) (Ov_real m c A0 A1 A2 A3 e0 e1 e2 e3)
    (Dv_real m c A4 e4) (Lv_real m c A0 A1 A2 A3 e0 e1 e2 e3) (i 0) (i 1)).trans
    (AttRef.dk_real _ _ _ _ _ A0 A1 A2 A3 A4 e0 e1 e2 e3 e4 (i 0) (i 1)).symm

theorem G8_real (i : S128x4096.Idx) : G8 m c i = val_main_v67 (F := Ideal) (a0 m c) (a1 m c) (a2 m c) (a3 m c) (a4 m c) i := by
  rw [eq_ix2 i]
  exact (sum8_real A0 A1 A2 A3 A4 _ _ _ _ (Qv_real m c A0 A1 e0 e1) (Kv_real m c A2 A3 e2 e3)
    (Dv_real m c A4 e4) (Lv_real m c A0 A1 A2 A3 e0 e1 e2 e3) (i 0) (i 1)).trans
    (AttRef.dv_real _ _ _ _ _ A0 A1 A2 A3 A4 e0 e1 e2 e3 e4 (i 0) (i 1)).symm

end values

/-- For finite arguments the three arrays are the reference's gradients. -/
theorem arrays_eq (m : (ℓ : Loc nD τ sig) → Buf (Elt Ideal) ℓ) (c : Dev nD)
    (e : Cert.Pre_all_finite.fn (F := Ideal) (a0 m c) (a1 m c) (a2 m c) (a3 m c) (a4 m c) = fun _ => 1#1) :
    (dats m 0 c).arrAt 6 cfg0.N = val_main_v65 (F := Ideal) (a0 m c) (a1 m c) (a2 m c) (a3 m c) (a4 m c)
      ∧ (dats m 0 c).arrAt 7 cfg0.N = val_main_v66 (F := Ideal) (a0 m c) (a1 m c) (a2 m c) (a3 m c) (a4 m c)
      ∧ (dats m 0 c).arrAt 8 cfg0.N = val_main_v67 (F := Ideal) (a0 m c) (a1 m c) (a2 m c) (a3 m c) (a4 m c) := by
  obtain ⟨r0, r1, r2, r3, r4⟩ := real_args _ _ _ _ _ e
  choose A0 e0 using r0
  choose A1 e1 using r1
  choose A2 e2 using r2
  choose A3 e3 using r3
  choose A4 e4 using r4
  exact ⟨(arr6 m c).trans (funext fun i => G6_real m c (fun q h l => A0 (ix3 q h l)) (fun q h l => A1 (ix3 q h l)) (fun k l => A2 (ix2 k l))
      (fun k l => A3 (ix2 k l)) (fun q h l => A4 (ix3 q h l)) (fun _ _ _ => e0 _) (fun _ _ _ => e1 _) (fun _ _ => e2 _) (fun _ _ => e3 _) (fun _ _ _ => e4 _) i),
    (arr7 m c).trans (funext fun i => G7_real m c (fun q h l => A0 (ix3 q h l)) (fun q h l => A1 (ix3 q h l)) (fun k l => A2 (ix2 k l))
      (fun k l => A3 (ix2 k l)) (fun q h l => A4 (ix3 q h l)) (fun _ _ _ => e0 _) (fun _ _ _ => e1 _) (fun _ _ => e2 _) (fun _ _ => e3 _) (fun _ _ _ => e4 _) i),
    (arr8 m c).trans (funext fun i => G8_real m c (fun q h l => A0 (ix3 q h l)) (fun q h l => A1 (ix3 q h l)) (fun k l => A2 (ix2 k l))
      (fun k l => A3 (ix2 k l)) (fun q h l => A4 (ix3 q h l)) (fun _ _ _ => e0 _) (fun _ _ _ => e1 _) (fun _ _ => e2 _) (fun _ _ => e3 _) (fun _ _ _ => e4 _) i)⟩

/-- The reference's run keeps its arguments, and it has no semaphores. -/
theorem frame_ref : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run m ρ)

theorem algebraic : Cert.algebraic_KernelIdeal_ReferenceIdeal_pre_all_finite := by
  intro m g m' g' hpre hagree
  refine ⟨_, _, _, Cert.KernelIdeal.Value.run_blocks m g, ?_⟩
  refine (θ_run Cert.ReferenceIdeal.defs _ _).mono (fun r h c => ?_) (Cert.ReferenceIdeal.Value.run m' g')
  obtain ⟨h0, h1, h2, hk⟩ := h c
  obtain ⟨g0, g1, g2, g3, g4⟩ := hagree c
  obtain ⟨k6, k7, k8⟩ := arrays_eq m c (hpre c)
  refine ⟨h0.trans ((val_main_v65_eq m' c).trans ?_), h1.trans ((val_main_v66_eq m' c).trans ?_), h2.trans ((val_main_v67_eq _ _ _ _ _).trans ?_), hk⟩
  · rw [g0, g1, g2, g3, g4]; exact k6.symm
  · rw [g0, g1, g2, g3, g4]; exact k7.symm
  · rw [g0, g1, g2, g3, g4]; exact k8.symm

end Cert.Att

end
-- ==== Proof.FfnBwdPoint.lean ====
/-
  The feed-forward, backward in its activations: what one grid point of the kernel leaves, at an index. A point takes
  a tile of 1024 rows through one block of 704 hidden features, in four chunks of 256 rows.
-/
module

public import proofs.«01_k».proof.Proof.Block
public import proofs.«01_k».proof.Proof.Gen.FfnBwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Bwd

open Cert.FfnBwdIdeal Cert.FfnBwdIdeal.Gen Idealize.ShloMosaic Idealize.ShloMosaic.TcCoe Idealize.SL.Sem

/-- The gated activation. -/
def swi (g u : EReal) : EReal := g * Ideal.logistic g * u

/-- The number one, as the kernel writes it. -/
abbrev one : EReal := Ideal.ofBits .f32 0x3F800000#32

/-- The gradient of the gate, from that of the activation. -/
def dgate (a g u : EReal) : EReal := a * u * (Ideal.logistic g * (one + g * (one - Ideal.logistic g)))

/-- The gradient of the value. -/
def dval (a g : EReal) : EReal := a * (g * Ideal.logistic g)

/-- The gradient of the activation: a row of the tile against feature `f` of the second weight's block. -/
def dact (x0 : FVec Ideal S1024x1024 .bf16) (x4 : FVec Ideal S1x704x1024 .bf16) (r : Fin 1024) (f : Fin 704) : EReal :=
  ∑ d : Fin 1024, x0 (ix2 r d) * x4 (ix3 0 f d)

/-- What a grid point adds to row `r`, column `d` of the running sum. -/
def add (x0 : FVec Ideal S1024x1024 .bf16) (x1 : FVec Ideal S2x1x1024x704 .bf16) (x2 x3 x4 : FVec Ideal S1x704x1024 .bf16) (r d : Fin 1024) : EReal :=
  (∑ f : Fin 704, dgate (dact x0 x4 r f) (x1 (ix4 0 0 r f)) (x1 (ix4 1 0 r f)) * x2 (ix3 0 f d))
    + ∑ f : Fin 704, dval (dact x0 x4 r f) (x1 (ix4 0 0 r f)) * x3 (ix3 0 f d)

set_option maxHeartbeats 2000000 in
/-- The running sum after the first feature block. -/
theorem soutA (c : Dev nD) (t : Fin cfg0.N) (x0 : FVec Ideal S1024x1024 .bf16) (x1 : FVec Ideal S2x1x1024x704 .bf16) (x2 x3 x4 : FVec Ideal S1x704x1024 .bf16) (h0 : t.val % 4 = 0) (h1 : ¬t.val % 4 = 3) (y) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) x0 x1 x2 x3 x4 y
      = (add x0 x1 x2 x3 x4 (y 0) (y 1) : EReal) := by
  frame_open
  simp (disch := decide) only [↓ View.readCov_skip, ↓ View.readCov_cons_toLoadRect, ↓ View.readCov_fill]
  frame_out
  refine (Cert.Att.canon_over [_] y [_, _, _, _] (View.cover_of_tiledL _ ![256, 1024] (by rfl) y)).trans ?_
  canon_tiles x h
  all_goals
    open_payloads
    pointwise [add, dgate, dval, dact, ix4, ix3, ix2]
    reads_congr <;> blk_ext

set_option maxHeartbeats 2000000 in
/-- The running sum after a middle feature block. -/
theorem soutB (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : ¬t.val % 4 = 3) (y) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) x0 x1 x2 x3 x4 xs y
      = (xs y + add x0 x1 x2 x3 x4 (y 0) (y 1) : EReal) := by
  frame_out
  canon_tiles x h
  all_goals
    simp only [read_unread_whole]
    open_payloads
    pointwise [add, dgate, dval, dact, ix4, ix3, ix2]
    reads_congr <;> blk_ext

set_option maxHeartbeats 2000000 in
/-- The running sum after the last feature block. -/
theorem soutC (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : t.val % 4 = 3) (y) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) x0 x1 x2 x3 x4 xs y
      = (xs y + add x0 x1 x2 x3 x4 (y 0) (y 1) : EReal) := by
  frame_out
  canon_tiles x h
  all_goals
    simp only [read_unread_whole]
    open_payloads
    pointwise [add, dgate, dval, dact, ix4, ix3, ix2]
    reads_congr <;> blk_ext

set_option maxHeartbeats 2000000 in
/-- The tile of the input gradient, stored at the last feature block. -/
theorem outC5 (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : t.val % 4 = 3) (y) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) x0 x1 x2 x3 x4 xs y
      = (xs y + add x0 x1 x2 x3 x4 (y 0) (y 1) : EReal) := by
  refine Eq.trans ?_ (soutC c t x0 x1 x2 x3 x4 xs h0 h1 y)
  frame_out
  rw [View.readCov_eq_canon']
  have hz : (![0, 0] : Fin S1024x1024.rank → ℕ) = fun _ => 0 := funext fun a => by fin_cases a <;> rfl
  exact congrFun (View.ld_unit_zero (S := S1024x1024) hz inb_S1024x1024_S1024x1024_0_0 (View.canon _)) y

set_option maxHeartbeats 2000000 in
/-- The gradients of the gate and of the value, transposed. -/
theorem outA6 (c : Dev nD) (t : Fin cfg0.N) (x0 : FVec Ideal S1024x1024 .bf16) (x1 : FVec Ideal S2x1x1024x704 .bf16) (x2 x3 x4 : FVec Ideal S1x704x1024 .bf16) (h0 : t.val % 4 = 0) (h1 : ¬t.val % 4 = 3) (y) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) x0 x1 x2 x3 x4 y
      = (if (y 0).val = 0 then dgate (dact x0 x4 (y 3) (y 2)) (x1 (ix4 0 0 (y 3) (y 2))) (x1 (ix4 1 0 (y 3) (y 2))) else dval (dact x0 x4 (y 3) (y 2)) (x1 (ix4 0 0 (y 3) (y 2))) : EReal) := by
  frame_out
  canon_tiles x h
  all_goals
    first | rw [if_pos (by omega)] | rw [if_neg (by omega)]
    open_payloads
    pointwise [dgate, dval, dact, ix4, ix3, ix2]
    reads_congr <;> blk_ext

set_option maxHeartbeats 2000000 in
/-- The gradients of the gate and of the value, transposed. -/
theorem outB6 (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : ¬t.val % 4 = 3) (y) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) x0 x1 x2 x3 x4 xs y
      = (if (y 0).val = 0 then dgate (dact x0 x4 (y 3) (y 2)) (x1 (ix4 0 0 (y 3) (y 2))) (x1 (ix4 1 0 (y 3) (y 2))) else dval (dact x0 x4 (y 3) (y 2)) (x1 (ix4 0 0 (y 3) (y 2))) : EReal) := by
  frame_out
  canon_tiles x h
  all_goals
    first | rw [if_pos (by omega)] | rw [if_neg (by omega)]
    open_payloads
    pointwise [dgate, dval, dact, ix4, ix3, ix2]
    reads_congr <;> blk_ext

set_option maxHeartbeats 2000000 in
/-- The gradients of the gate and of the value, transposed. -/
theorem outC6 (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : t.val % 4 = 3) (y) :
    out0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) x0 x1 x2 x3 x4 xs y
      = (if (y 0).val = 0 then dgate (dact x0 x4 (y 3) (y 2)) (x1 (ix4 0 0 (y 3) (y 2))) (x1 (ix4 1 0 (y 3) (y 2))) else dval (dact x0 x4 (y 3) (y 2)) (x1 (ix4 0 0 (y 3) (y 2))) : EReal) := by
  frame_out
  canon_tiles x h
  all_goals
    first | rw [if_pos (by omega)] | rw [if_neg (by omega)]
    open_payloads
    pointwise [dgate, dval, dact, ix4, ix3, ix2]
    reads_congr <;> blk_ext

set_option maxHeartbeats 2000000 in
/-- The activation, transposed. -/
theorem outA7 (c : Dev nD) (t : Fin cfg0.N) (x0 : FVec Ideal S1024x1024 .bf16) (x1 : FVec Ideal S2x1x1024x704 .bf16) (x2 x3 x4 : FVec Ideal S1x704x1024 .bf16) (h0 : t.val % 4 = 0) (h1 : ¬t.val % 4 = 3) (y) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) x0 x1 x2 x3 x4 y
      = (swi (x1 (ix4 0 0 (y 2) (y 1))) (x1 (ix4 1 0 (y 2) (y 1))) : EReal) := by
  frame_out
  canon_tiles x h
  all_goals
    open_payloads
    pointwise [swi, ix4, ix3, ix2]
    reads_congr <;> blk_ext

set_option maxHeartbeats 2000000 in
/-- The activation, transposed. -/
theorem outB7 (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : ¬t.val % 4 = 3) (y) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) x0 x1 x2 x3 x4 xs y
      = (swi (x1 (ix4 0 0 (y 2) (y 1))) (x1 (ix4 1 0 (y 2) (y 1))) : EReal) := by
  frame_out
  canon_tiles x h
  all_goals
    open_payloads
    pointwise [swi, ix4, ix3, ix2]
    reads_congr <;> blk_ext

set_option maxHeartbeats 2000000 in
/-- The activation, transposed. -/
theorem outC7 (c : Dev nD) (t : Fin cfg0.N) (x0 : FVec Ideal S1024x1024 .bf16) (x1 : FVec Ideal S2x1x1024x704 .bf16) (x2 x3 x4 : FVec Ideal S1x704x1024 .bf16) (xs : FVec Ideal S1024x1024 .f32) (h0 : ¬t.val % 4 = 0) (h1 : t.val % 4 = 3) (y) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) x0 x1 x2 x3 x4 xs y
      = (swi (x1 (ix4 0 0 (y 2) (y 1))) (x1 (ix4 1 0 (y 2) (y 1))) : EReal) := by
  frame_out
  canon_tiles x h
  all_goals
    open_payloads
    pointwise [swi, ix4, ix3, ix2]
    reads_congr <;> blk_ext

end Cert.Bwd

end
-- ==== Proof.FfnBwd.lean ====
/-
  The feed-forward, backward in its activations: the three arrays the kernel leaves and their equality with the
  reference, for arguments whose entries are real numbers. The kernel takes the hidden features in four blocks of 704
  and the rows in tiles of 1024, and reads the saved gate and value; the reference differentiates the feed-forward.
-/
module

public import proofs.«01_k».proof.Defs
public import proofs.«01_k».proof.Proof.FfnBwdPoint
public import proofs.«01_k».proof.Proof.Real
public import proofs.«01_k».proof.Proof.RealGrads
public import proofs.«01_k».proof.Proof.Finite
public import proofs.«01_k».proof.Proof.Gen.Pre_ffn_finite
public import proofs.«01_k».proof.Proof.Gen.FfnBwdIdeal.Value
public import proofs.«01_k».proof.Proof.Gen.FfnBwdRefIdeal.Run
public import proofs.«01_k».proof.Proof.Gen.FfnBwdRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.Bwd

open Cert.FfnBwdIdeal Cert.FfnBwdIdeal.Gen Idealize.ShloMosaic Idealize.ShloMosaic.TcCoe Idealize.SL.Sem

variable (m : (ℓ : Loc nD τ sig) → Buf (Elt Ideal) ℓ) (c : Dev nD)

/-- The arguments of the program on a device: the incoming gradient, the input, the two weights. -/
abbrev a0 : FVec Ideal S4096x1024 .f32 := m ((c.tc : Thread nD τ).loc main_arg0)
abbrev a1 : FVec Ideal S4096x1024 .f32 := m ((c.tc : Thread nD τ).loc main_arg1)
abbrev a2 : FVec Ideal S1024x5632 .f32 := m ((c.tc : Thread nD τ).loc main_arg2)
abbrev a3 : FVec Ideal S2816x1024 .f32 := m ((c.tc : Thread nD τ).loc main_arg3)

/-! ## The arrays the kernel is given -/

/-- Column `f` of block `b` of the first weight. -/
def col (b : Fin 8) (f : Fin 704) : Fin 5632 := ⟨b.val * 704 + f.val, by have := b.isLt; have := f.isLt; omega⟩

/-- Feature `f` of block `b`. -/
def ft (b : Fin 4) (f : Fin 704) : Fin 2816 := ⟨b.val * 704 + f.val, by have := b.isLt; have := f.isLt; omega⟩

/-- The gate's column of a feature, and the value's. -/
def gc (k : Fin 2816) : Fin 5632 := ⟨k.val, by have := k.isLt; omega⟩
def uc (k : Fin 2816) : Fin 5632 := ⟨2816 + k.val, by have := k.isLt; omega⟩

/-- A row of the input against a column of the first weight. -/
def lin (x1 : FVec Ideal S4096x1024 .f32) (x2 : FVec Ideal S1024x5632 .f32) (s : Fin 4096) (k : Fin 5632) : EReal :=
  ∑ d : Fin 1024, x1 (ix2 s d) * x2 (ix2 d k)

/-- The gradient of the activation. -/
def da (x0 : FVec Ideal S4096x1024 .f32) (x3 : FVec Ideal S2816x1024 .f32) (s : Fin 4096) (k : Fin 2816) : EReal :=
  ∑ d : Fin 1024, x0 (ix2 s d) * x3 (ix2 k d)

theorem V_main_v3 : (V m c main_v3 : FVec Ideal S2x4x4096x704 .bf16)
    = truncf .bf16 (transpose S2x4x4096x704 [1, 2, 0, 3] (shapeCast S4096x2x4x704
        (Host.dotGeneral dot_S4096x1024_S1024x5632_S4096x5632_1_0_0_1_n_n none (a1 m c) (a2 m c) : FVec Ideal S4096x5632 .f32)
        shapeCasts_S4096x5632_S4096x2x4x704 : FVec Ideal S4096x2x4x704 .f32) transposes_S4096x2x4x704_S2x4x4096x704_1_2_0_3 : FVec Ideal S2x4x4096x704 .f32) bitsLt_bf16_f32 := by
  unfold_abbrev_sides
  after_reads_simp
  rfl

theorem V_main_v4 : (V m c main_v4 : FVec Ideal S4096x1024 .bf16) = truncf .bf16 (a0 m c) bitsLt_bf16_f32 := by
  unfold_abbrev_sides
  after_reads_simp

theorem V_main_v7 : (V m c main_v7 : FVec Ideal S8x704x1024 .bf16)
    = truncf .bf16 (shapeCast S8x704x1024 (transpose S5632x1024 [1, 0] (a2 m c) transposes_S1024x5632_S5632x1024_1_0) shapeCasts_S5632x1024_S8x704x1024 : FVec Ideal S8x704x1024 .f32) bitsLt_bf16_f32 := by
  unfold_abbrev_sides
  after_reads_simp
  rfl

theorem V_main_v9 : (V m c main_v9 : FVec Ideal S4x704x1024 .bf16)
    = truncf .bf16 (shapeCast S4x704x1024 (a3 m c) shapeCasts_S2816x1024_S4x704x1024 : FVec Ideal S4x704x1024 .f32) bitsLt_bf16_f32 := by
  unfold_abbrev_sides
  after_reads_simp
  rfl

theorem blocked_in (x : FVec Ideal S1024x5632 .f32) (b : Fin 8) (f : Fin 704) (d : Fin 1024) :
    truncf (F := Ideal) .bf16 (shapeCast S8x704x1024 (transpose S5632x1024 [1, 0] x transposes_S1024x5632_S5632x1024_1_0) shapeCasts_S5632x1024_S8x704x1024 : FVec Ideal S8x704x1024 .f32) bitsLt_bf16_f32 (ix3 b f d)
      = x (ix2 d (col b f)) := by
  pointwise [col]

theorem blocked_out (x : FVec Ideal S2816x1024 .f32) (b : Fin 4) (f : Fin 704) (d : Fin 1024) :
    truncf (F := Ideal) .bf16 (shapeCast S4x704x1024 x shapeCasts_S2816x1024_S4x704x1024 : FVec Ideal S4x704x1024 .f32) bitsLt_bf16_f32 (ix3 b f d)
      = x (ix2 (ft b f) d) := by
  pointwise [ft]

theorem host_lin (x1 : FVec Ideal S4096x1024 .f32) (x2 : FVec Ideal S1024x5632 .f32) (s : Fin 4096) (k : Fin 5632) :
    (Host.dotGeneral dot_S4096x1024_S1024x5632_S4096x5632_1_0_0_1_n_n none x1 x2 : FVec Ideal S4096x5632 .f32) (ix2 s k) = lin x1 x2 s k := by
  pointwise [lin]

/-- A column of the first weight by half, block and feature within the block. -/
def hc (h : Fin 2) (b : Fin 4) (f : Fin 704) : Fin 5632 := ⟨h.val * 2816 + b.val * 704 + f.val, by have := h.isLt; have := b.isLt; have := f.isLt; omega⟩

theorem saved (x : FVec Ideal S4096x5632 .f32) (h : Fin 2) (b : Fin 4) (s : Fin 4096) (f : Fin 704) :
    truncf (F := Ideal) .bf16 (transpose S2x4x4096x704 [1, 2, 0, 3] (shapeCast S4096x2x4x704 x
        shapeCasts_S4096x5632_S4096x2x4x704 : FVec Ideal S4096x2x4x704 .f32) transposes_S4096x2x4x704_S2x4x4096x704_1_2_0_3 : FVec Ideal S2x4x4096x704 .f32) bitsLt_bf16_f32 (ix4 h b s f)
      = x (ix2 s (hc h b f)) := by
  pointwise [hc]

/-- The block indices of the windows at a grid point. -/
theorem idx : ∀ t : Fin cfg0.N, win0_0.index t = ![t.val / 4, 0] ∧ win0_1.index t = ![0, t.val % 4, t.val / 4, 0]
    ∧ win0_2.index t = ![t.val % 4, 0, 0] ∧ win0_3.index t = ![t.val % 4 + 4, 0, 0] ∧ win0_4.index t = ![t.val % 4, 0, 0]
    ∧ win0_5.index t = ![t.val / 4, 0] ∧ win0_6.index t = ![0, t.val % 4, 0, t.val / 4] ∧ win0_7.index t = ![t.val % 4, 0, t.val / 4] :=
  (by decide +kernel : ∀ t : Fin grid0.N, _)

theorem lt_16 (t : Fin cfg0.N) : t.val < 16 := lt_of_lt_of_eq t.isLt (show cfg0.N = 16 from N_0)

/-- Row `r` of a grid point's tile. -/
def row (t : Fin cfg0.N) (r : Fin 1024) : Fin 4096 := ⟨t.val / 4 * 1024 + r.val, by have := lt_16 t; have := r.isLt; omega⟩

/-- The feature block of a grid point, and its two blocks of the first weight. -/
def fb (t : Fin cfg0.N) : Fin 4 := ⟨t.val % 4, by omega⟩
def gb (t : Fin cfg0.N) : Fin 8 := ⟨t.val % 4, by omega⟩
def ub (t : Fin cfg0.N) : Fin 8 := ⟨t.val % 4 + 4, by omega⟩

theorem iblk0 (t : Fin cfg0.N) (r d : Fin 1024) : iblk m c 0 t (ix2 r d) = V m c main_v4 (ix2 (row t r) d) := by
  blk_ext [iblk, idx t, row]

theorem iblk1 (t : Fin cfg0.N) (h : Fin 2) (r : Fin 1024) (f : Fin 704) : iblk m c 1 t (ix4 h 0 r f) = V m c main_v3 (ix4 h (fb t) (row t r) f) := by
  blk_ext [iblk, idx t, row, fb]

theorem iblk2 (t : Fin cfg0.N) (f : Fin 704) (d : Fin 1024) : iblk m c 2 t (ix3 0 f d) = V m c main_v7 (ix3 (gb t) f d) := by
  blk_ext [iblk, idx t, gb]

theorem iblk3 (t : Fin cfg0.N) (f : Fin 704) (d : Fin 1024) : iblk m c 3 t (ix3 0 f d) = V m c main_v7 (ix3 (ub t) f d) := by
  blk_ext [iblk, idx t, ub]

theorem iblk4 (t : Fin cfg0.N) (f : Fin 704) (d : Fin 1024) : iblk m c 4 t (ix3 0 f d) = V m c main_v9 (ix3 (fb t) f d) := by
  blk_ext [iblk, idx t, fb]

theorem gate_eq (t : Fin cfg0.N) (r : Fin 1024) (f : Fin 704) :
    iblk m c 1 t (ix4 0 0 r f) = lin (a1 m c) (a2 m c) (row t r) (gc (ft (fb t) f)) := by
  refine (iblk1 m c t 0 r f).trans ((congrFun (V_main_v3 m c) _).trans ((saved _ _ _ _ _).trans ((host_lin _ _ _ _).trans ?_)))
  exact congrArg (lin (a1 m c) (a2 m c) (row t r)) (Fin.ext (by simp [hc, gc, ft]))

theorem val_eq (t : Fin cfg0.N) (r : Fin 1024) (f : Fin 704) :
    iblk m c 1 t (ix4 1 0 r f) = lin (a1 m c) (a2 m c) (row t r) (uc (ft (fb t) f)) := by
  refine (iblk1 m c t 1 r f).trans ((congrFun (V_main_v3 m c) _).trans ((saved _ _ _ _ _).trans ((host_lin _ _ _ _).trans ?_)))
  exact congrArg (lin (a1 m c) (a2 m c) (row t r)) (Fin.ext (by simp [hc, uc, ft]; omega))

theorem dact_eq (t : Fin cfg0.N) (r : Fin 1024) (f : Fin 704) :
    dact (iblk m c 0 t) (iblk m c 4 t) r f = da (a0 m c) (a3 m c) (row t r) (ft (fb t) f) :=
  Finset.sum_congr rfl fun d _ => congrArg₂ (· * ·)
    ((iblk0 m c t r d).trans (congrFun (V_main_v4 m c) _)) ((iblk4 m c t f d).trans ((congrFun (V_main_v9 m c) _).trans (blocked_out _ _ _ _)))

theorem wg_eq (t : Fin cfg0.N) (f : Fin 704) (d : Fin 1024) : iblk m c 2 t (ix3 0 f d) = a2 m c (ix2 d (gc (ft (fb t) f))) :=
  (iblk2 m c t f d).trans ((congrFun (V_main_v7 m c) _).trans (blocked_in _ _ _ _))

theorem wu_eq (t : Fin cfg0.N) (f : Fin 704) (d : Fin 1024) : iblk m c 3 t (ix3 0 f d) = a2 m c (ix2 d (uc (ft (fb t) f))) := by
  have hc : col (ub t) f = uc (ft (fb t) f) := Fin.ext (by simp only [col, ub, uc, ft, fb]; omega)
  rw [← hc]
  exact (iblk3 m c t f d).trans ((congrFun (V_main_v7 m c) _).trans (blocked_in _ _ _ _))

/-! ## The arrays after the run -/

section
variable (x0 x1 : FVec Ideal S4096x1024 .f32) (x2 : FVec Ideal S1024x5632 .f32) (x3 : FVec Ideal S2816x1024 .f32)

/-- The gradient of the gate of feature `k`. -/
def dg (s : Fin 4096) (k : Fin 2816) : EReal := dgate (da x0 x3 s k) (lin x1 x2 s (gc k)) (lin x1 x2 s (uc k))

/-- The gradient of the value of feature `k`. -/
def dv (s : Fin 4096) (k : Fin 2816) : EReal := dval (da x0 x3 s k) (lin x1 x2 s (gc k))

/-- The gradient of the input. -/
def G5 : S4096x1024.Idx → EReal := fun i =>
  (∑ k : Fin 2816, dg x0 x1 x2 x3 (i 0) k * x2 (ix2 (i 1) (gc k))) + ∑ k : Fin 2816, dv x0 x1 x2 x3 (i 0) k * x2 (ix2 (i 1) (uc k))

/-- The gradients of gate and value, the rows last. -/
def G6 : S2x4x704x4096.Idx → EReal := fun i =>
  if (i 0).val = 0 then dg x0 x1 x2 x3 (i 3) (ft (i 1) (i 2)) else dv x0 x1 x2 x3 (i 3) (ft (i 1) (i 2))

/-- The activation, the rows last. -/
def G7 : S4x704x4096.Idx → EReal := fun i => swi (lin x1 x2 (i 2) (gc (ft (i 0) (i 1)))) (lin x1 x2 (i 2) (uc (ft (i 0) (i 1))))

end

/-- The share of a grid point in the gradient of the input. -/
def part (t : Fin cfg0.N) (i : S1024x1024.Idx) : EReal :=
  (∑ f : Fin 704, dg (a0 m c) (a1 m c) (a2 m c) (a3 m c) (row t (i 0)) (ft (fb t) f) * a2 m c (ix2 (i 1) (gc (ft (fb t) f))))
    + ∑ f : Fin 704, dv (a0 m c) (a1 m c) (a2 m c) (a3 m c) (row t (i 0)) (ft (fb t) f) * a2 m c (ix2 (i 1) (uc (ft (fb t) f)))

theorem dgate_eq (t : Fin cfg0.N) (r : Fin 1024) (f : Fin 704) :
    dgate (dact (iblk m c 0 t) (iblk m c 4 t) r f) (iblk m c 1 t (ix4 0 0 r f)) (iblk m c 1 t (ix4 1 0 r f))
      = dg (a0 m c) (a1 m c) (a2 m c) (a3 m c) (row t r) (ft (fb t) f) := by
  rw [dact_eq, gate_eq, val_eq]
  rfl

theorem dval_eq (t : Fin cfg0.N) (r : Fin 1024) (f : Fin 704) :
    dval (dact (iblk m c 0 t) (iblk m c 4 t) r f) (iblk m c 1 t (ix4 0 0 r f))
      = dv (a0 m c) (a1 m c) (a2 m c) (a3 m c) (row t r) (ft (fb t) f) := by
  rw [dact_eq, gate_eq]
  rfl

theorem add_eq (t : Fin cfg0.N) (i : S1024x1024.Idx) :
    add (iblk m c 0 t) (iblk m c 1 t) (iblk m c 2 t) (iblk m c 3 t) (iblk m c 4 t) (i 0) (i 1) = part m c t i :=
  congrArg₂ (· + ·)
    (Finset.sum_congr rfl fun f _ => congrArg₂ (· * ·) (dgate_eq m c t (i 0) f) (wg_eq m c t f (i 1)))
    (Finset.sum_congr rfl fun f _ => congrArg₂ (· * ·) (dval_eq m c t (i 0) f) (wu_eq m c t f (i 1)))

theorem step (t : Fin cfg0.N) (h : ¬t.val % 4 = 0) (i : S1024x1024.Idx) :
    (outsAt0 m c t.val t.isLt).2.2.2 i
      = ((outsAt0 m c (t.val - 1) (Nat.lt_of_le_of_lt (Nat.sub_le _ _) t.isLt)).2.2.2 i + part m c t i : EReal) := by
  by_cases h1 : t.val % 4 = 3
  · rw [outsAt0_C m c t h h1]
    dsimp only
    rw [soutC (h0 := h) (h1 := h1), add_eq]
  · rw [outsAt0_B m c t h h1]
    dsimp only
    rw [soutB (h0 := h) (h1 := h1), add_eq]

theorem acc (t : Fin cfg0.N) (hr : t.val % 4 = 3) (i : S1024x1024.Idx) :
    (outsAt0 m c t.val t.isLt).2.2.2 i = (0 + ∑ s : Fin 4, part m c ⟨4 * (t.val / 4) + s.val, Pipeline.run_point_lt_of_flush t hr s⟩ i : EReal) :=
  Pipeline.eq_sum_fin_of_reset_step_apply_of_flush (M := EReal) (fun n h => (outsAt0 m c n h).2.2.2) 4 (fun _ => 0) (part m c)
    (fun t h i => by
      show (outsAt0 m c t.val t.isLt).2.2.2 i = (0 + part m c t i : EReal)
      have h1 : ¬t.val % 4 = 3 := by omega
      rw [outsAt0_A m c t h h1, zero_add]
      dsimp only
      rw [soutA (h0 := h) (h1 := h1), add_eq])
    (fun t h i => step m c t h i) t hr i

theorem point5 (t : Fin cfg0.N) (hr : t.val % 4 = 3) (y : S1024x1024.Idx) :
    (outsAt0 m c t.val t.isLt).1 y = (outsAt0 m c t.val t.isLt).2.2.2 y := by
  have h0 : ¬t.val % 4 = 0 := by omega
  rw [outsAt0_C m c t h0 hr]
  dsimp only
  rw [outC5 (h0 := h0) (h1 := hr), soutC (h0 := h0) (h1 := hr)]

theorem parts (t : Fin cfg0.N) (hr : t.val % 4 = 3) (i : S1024x1024.Idx) :
    (∑ s : Fin 4, part m c ⟨4 * (t.val / 4) + s.val, Pipeline.run_point_lt_of_flush t hr s⟩ i : EReal)
      = G5 (a0 m c) (a1 m c) (a2 m c) (a3 m c) (ix2 (row t (i 0)) (i 1)) := by
  unfold G5
  rw [Fin.sum_univ_tiles 4 704 rfl, Fin.sum_univ_tiles 4 704 rfl, ← Finset.sum_add_distrib]
  refine Finset.sum_congr rfl fun s _ => ?_
  have hs := s.isLt
  have hrow : row ⟨4 * (t.val / 4) + s.val, Pipeline.run_point_lt_of_flush t hr s⟩ (i 0) = row t (i 0) := Fin.ext (by simp only [row]; omega)
  have hfb : fb ⟨4 * (t.val / 4) + s.val, Pipeline.run_point_lt_of_flush t hr s⟩ = s := Fin.ext (by simp only [fb]; omega)
  unfold part
  rw [hrow, hfb]
  rfl

theorem arr5 : (dats m 0 c).arrAt 5 cfg0.N = G5 (a0 m c) (a1 m c) (a2 m c) (a3 m c) := by
  refine (dats m 0 c).arrAt_eq_of_covers 5 _ (by decide +kernel) fun t hf y => ?_
  have hr := (flush0_5 t).mp hf
  blk_simp
  rw [after0_5]
  refine (point5 m c t hr y).trans ((acc m c t hr y).trans ((zero_add _).trans ((parts m c t hr y).trans (congrArg (G5 (a0 m c) (a1 m c) (a2 m c) (a3 m c)) ?_))))
  blk_ext [idx t, row]

theorem point6 (t : Fin cfg0.N) (y : S2x1x704x1024.Idx) :
    (outsAt0 m c t.val t.isLt).2.1 y = G6 (a0 m c) (a1 m c) (a2 m c) (a3 m c) (ix4 (y 0) (fb t) (y 2) (row t (y 3))) := by
  by_cases h0 : t.val % 4 = 0
  · have h1 : ¬t.val % 4 = 3 := by omega
    rw [outsAt0_A m c t h0 h1]
    dsimp only
    rw [outA6 (h0 := h0) (h1 := h1)]
    exact congrArg₂ (fun p q : EReal => if (y 0).val = 0 then p else q) (dgate_eq m c t (y 3) (y 2)) (dval_eq m c t (y 3) (y 2))
  · by_cases h1 : t.val % 4 = 3
    · rw [outsAt0_C m c t h0 h1]
      dsimp only
      rw [outC6 (h0 := h0) (h1 := h1)]
      exact congrArg₂ (fun p q : EReal => if (y 0).val = 0 then p else q) (dgate_eq m c t (y 3) (y 2)) (dval_eq m c t (y 3) (y 2))
    · rw [outsAt0_B m c t h0 h1]
      dsimp only
      rw [outB6 (h0 := h0) (h1 := h1)]
      exact congrArg₂ (fun p q : EReal => if (y 0).val = 0 then p else q) (dgate_eq m c t (y 3) (y 2)) (dval_eq m c t (y 3) (y 2))

theorem arr6 : (dats m 0 c).arrAt 6 cfg0.N = G6 (a0 m c) (a1 m c) (a2 m c) (a3 m c) := by
  refine (dats m 0 c).arrAt_eq_of_covers 6 _ (by decide +kernel) fun t hf y => ?_
  blk_simp
  rw [after0_6]
  refine (point6 m c t y).trans (congrArg (G6 (a0 m c) (a1 m c) (a2 m c) (a3 m c)) ?_)
  blk_ext [idx t, fb, row]

theorem point7 (t : Fin cfg0.N) (y : S1x704x1024.Idx) :
    (outsAt0 m c t.val t.isLt).2.2.1 y = G7 (a1 m c) (a2 m c) (ix3 (fb t) (y 1) (row t (y 2))) := by
  by_cases h0 : t.val % 4 = 0
  · have h1 : ¬t.val % 4 = 3 := by omega
    rw [outsAt0_A m c t h0 h1]
    dsimp only
    rw [outA7 (h0 := h0) (h1 := h1)]
    exact congrArg₂ swi (gate_eq m c t (y 2) (y 1)) (val_eq m c t (y 2) (y 1))
  · by_cases h1 : t.val % 4 = 3
    · rw [outsAt0_C m c t h0 h1]
      dsimp only
      rw [outC7 (h0 := h0) (h1 := h1)]
      exact congrArg₂ swi (gate_eq m c t (y 2) (y 1)) (val_eq m c t (y 2) (y 1))
    · rw [outsAt0_B m c t h0 h1]
      dsimp only
      rw [outB7 (h0 := h0) (h1 := h1)]
      exact congrArg₂ swi (gate_eq m c t (y 2) (y 1)) (val_eq m c t (y 2) (y 1))

theorem arr7 : (dats m 0 c).arrAt 7 cfg0.N = G7 (a1 m c) (a2 m c) := by
  refine (dats m 0 c).arrAt_eq_of_covers 7 _ (by decide +kernel) fun t hf y => ?_
  blk_simp
  rw [after0_7]
  refine (point7 m c t y).trans (congrArg (G7 (a1 m c) (a2 m c)) ?_)
  blk_ext [idx t, fb, row]

/-! ## The reference -/

section
variable (x0 x1 : FVec Ideal S4096x1024 .f32) (x2 : FVec Ideal S1024x5632 .f32) (x3 : FVec Ideal S2816x1024 .f32)

open Cert.FfnBwdRefIdeal.Read

theorem ref_lin (s : Fin 4096) (k : Fin 5632) : val_main_v0 (F := Ideal) x1 x2 (ix2 s k) = lin x1 x2 s k := by
  unfold val_main_v0
  pointwise [lin]

theorem ref_da (s : Fin 4096) (k : Fin 2816) : val_main_v6 (F := Ideal) x0 x3 (ix2 s k) = da x0 x3 s k := by
  unfold val_main_v6
  pointwise [da]

theorem ref_gate (s : Fin 4096) (k : Fin 2816) : val_main_v1 (F := Ideal) x1 x2 (ix2 s k) = lin x1 x2 s (gc k) := by
  rw [val_main_v1_apply, ← ref_lin]
  exact congrArg _ (by blk_ext [gc])

theorem ref_val (s : Fin 4096) (k : Fin 2816) : val_main_v2 (F := Ideal) x1 x2 (ix2 s k) = lin x1 x2 s (uc k) := by
  rw [val_main_v2_apply, ← ref_lin]
  exact congrArg _ (by blk_ext [uc])

/-- The logistic function, as the reference spells it. -/
theorem ref_log (g : EReal) : Ideal.div (Ideal.ofBits .f32 0x3F800000#32) (Ideal.ofBits .f32 0x3F800000#32 + Ideal.exp (-g)) = Ideal.logistic g := by
  rw [Cert.Att.one_bits]
  rfl

theorem ref_sg (s : Fin 4096) (k : Fin 2816) : val_main_v3_2 (F := Ideal) x1 x2 (ix2 s k) = Ideal.logistic (lin x1 x2 s (gc k)) := by
  rw [← ref_log, ← ref_gate]
  rfl

theorem ref_dv (s : Fin 4096) (k : Fin 2816) : val_main_v7 (F := Ideal) x0 x1 x2 x3 (ix2 s k) = dv x0 x1 x2 x3 s k := by
  have h : val_main_v7 (F := Ideal) x0 x1 x2 x3 (ix2 s k) = (val_main_v1 (F := Ideal) x1 x2 (ix2 s k)
      * val_main_v3_2 (F := Ideal) x1 x2 (ix2 s k) * val_main_v6 (F := Ideal) x0 x3 (ix2 s k) : EReal) := rfl
  rw [h, ref_gate, ref_sg, ref_da]
  exact mul_comm _ _

/-- The two forms of the gate's gradient agree on real numbers. -/
theorem dgate_real (a g u : ℝ) :
    (((a : EReal) * u) * Ideal.logistic g + (g : EReal) * ((a : EReal) * u) * (Ideal.logistic g * (one - Ideal.logistic g)) : EReal) = dgate a g u := by
  unfold dgate one
  rw [Cert.Att.one_bits, Ideal.logistic_coe]
  generalize (1 + Real.exp (-g))⁻¹ = z
  norm_cast
  ring

theorem ref_dg (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (s : Fin 4096) (k : Fin 2816) :
    val_main_v9 (F := Ideal) x0 x1 x2 x3 (ix2 s k) = dg x0 x1 x2 x3 s k := by
  have h : val_main_v9 (F := Ideal) x0 x1 x2 x3 (ix2 s k)
      = (val_main_v6 (F := Ideal) x0 x3 (ix2 s k) * val_main_v2 (F := Ideal) x1 x2 (ix2 s k) * val_main_v3_2 (F := Ideal) x1 x2 (ix2 s k)
        + val_main_v1 (F := Ideal) x1 x2 (ix2 s k) * (val_main_v6 (F := Ideal) x0 x3 (ix2 s k) * val_main_v2 (F := Ideal) x1 x2 (ix2 s k))
          * (val_main_v3_2 (F := Ideal) x1 x2 (ix2 s k) * (one - val_main_v3_2 (F := Ideal) x1 x2 (ix2 s k))) : EReal) := rfl
  rw [h, ref_gate, ref_val, ref_sg, ref_da]
  unfold dg
  have hl : ∀ k, ∃ r : ℝ, lin x1 x2 s k = (r : EReal) := fun k => by
    choose r1 e1 using h1
    choose r2 e2 using h2
    refine ⟨∑ d : Fin 1024, r1 (ix2 s d) * r2 (ix2 d k), ?_⟩
    unfold lin
    simp only [e1, e2, ← EReal.coe_mul, Cert.Att.coe_sum]
  have hd : ∃ r : ℝ, da x0 x3 s k = (r : EReal) := by
    choose r0 e0 using h0
    choose r3 e3 using h3
    refine ⟨∑ d : Fin 1024, r0 (ix2 s d) * r3 (ix2 k d), ?_⟩
    unfold da
    simp only [e0, e3, ← EReal.coe_mul, Cert.Att.coe_sum]
  obtain ⟨a, ha⟩ := hd
  obtain ⟨g, hg⟩ := hl (gc k)
  obtain ⟨u, hu⟩ := hl (uc k)
  rw [ha, hg, hu]
  exact dgate_real a g u

theorem ref_v10 (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (s : Fin 4096) (k : Fin 2816) :
    val_main_v10 (F := Ideal) x0 x1 x2 x3 (ix2 s (gc k)) = dg x0 x1 x2 x3 s k
      ∧ val_main_v10 (F := Ideal) x0 x1 x2 x3 (ix2 s (uc k)) = dv x0 x1 x2 x3 s k := by
  rw [← ref_dg x0 x1 x2 x3 h0 h1 h2 h3, ← ref_dv]
  unfold val_main_v10
  generalize val_main_v9 (F := Ideal) x0 x1 x2 x3 = p
  generalize val_main_v7 (F := Ideal) x0 x1 x2 x3 = q
  constructor
  · pointwise [gc]
  · pointwise [uc]

theorem ref5 (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (i) : val_main_v12 (F := Ideal) x0 x1 x2 x3 i = G5 x0 x1 x2 x3 i := by
  have hv := ref_v10 x0 x1 x2 x3 h0 h1 h2 h3
  have hd : val_main_v12 (F := Ideal) x0 x1 x2 x3 i = (∑ k : Fin 5632, val_main_v10 (F := Ideal) x0 x1 x2 x3 (ix2 (i 0) k) * x2 (ix2 (i 1) k) : EReal) := by
    unfold val_main_v12 val_main_v11
    generalize val_main_v10 (F := Ideal) x0 x1 x2 x3 = p
    pointwise []
  rw [hd, Fin.sum_univ_tiles 2 2816 rfl, Fin.sum_univ_two]
  refine congrArg₂ (· + ·) (Finset.sum_congr rfl fun k _ => ?_) (Finset.sum_congr rfl fun k _ => ?_)
  · refine (congrArg (fun j => (val_main_v10 (F := Ideal) x0 x1 x2 x3 (ix2 (i 0) j) * x2 (ix2 (i 1) j) : EReal)) (?_ : _ = gc k)).trans ?_
    · exact Fin.ext (by simp [gc])
    · exact congrArg (· * x2 (ix2 (i 1) (gc k))) (hv (i 0) k).1
  · refine (congrArg (fun j => (val_main_v10 (F := Ideal) x0 x1 x2 x3 (ix2 (i 0) j) * x2 (ix2 (i 1) j) : EReal)) (?_ : _ = uc k)).trans ?_
    · exact Fin.ext (by simp [uc])
    · exact congrArg (· * x2 (ix2 (i 1) (uc k))) (hv (i 0) k).2

theorem ref6 (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (i) : val_main_v15 (F := Ideal) x0 x1 x2 x3 i = G6 x0 x1 x2 x3 i := by
  have hv := ref_v10 x0 x1 x2 x3 h0 h1 h2 h3 (i 3) (ft (i 1) (i 2))
  have hi : val_main_v15 (F := Ideal) x0 x1 x2 x3 i = val_main_v10 (F := Ideal) x0 x1 x2 x3 (idx_main_v13 (idx_main_v14 i)) := by
    rw [val_main_v15_apply, val_main_v14_apply, val_main_v13_apply]
    rfl
  have b0 : (i 0).val < 2 := (i 0).isLt
  have b1 : (i 1).val < 4 := (i 1).isLt
  have b2 : (i 2).val < 704 := (i 2).isLt
  have b3 : (i 3).val < 4096 := (i 3).isLt
  by_cases hz : (i 0).val = 0
  · refine hi.trans (Eq.trans (congrArg (val_main_v10 (F := Ideal) x0 x1 x2 x3) (funext fun a => ?_)) (hv.1.trans (if_pos hz).symm))
    match a with
    | ⟨0, _⟩ =>
      refine Fin.ext ?_
      show ((((i 0).val * 4 + (i 1).val) * 704 + (i 2).val) * 4096 + (i 3).val) % 4096 = (i 3).val
      omega
    | ⟨1, _⟩ =>
      refine Fin.ext ?_
      show ((((i 0).val * 4 + (i 1).val) * 704 + (i 2).val) * 4096 + (i 3).val) / 4096 = (i 1).val * 704 + (i 2).val
      omega
  · refine hi.trans (Eq.trans (congrArg (val_main_v10 (F := Ideal) x0 x1 x2 x3) (funext fun a => ?_)) (hv.2.trans (if_neg hz).symm))
    match a with
    | ⟨0, _⟩ =>
      refine Fin.ext ?_
      show ((((i 0).val * 4 + (i 1).val) * 704 + (i 2).val) * 4096 + (i 3).val) % 4096 = (i 3).val
      omega
    | ⟨1, _⟩ =>
      refine Fin.ext ?_
      show ((((i 0).val * 4 + (i 1).val) * 704 + (i 2).val) * 4096 + (i 3).val) / 4096 = 2816 + ((i 1).val * 704 + (i 2).val)
      omega

theorem ref_act (s : Fin 4096) (k : Fin 2816) : val_main_v19 (F := Ideal) x1 x2 (ix2 s k) = swi (lin x1 x2 s (gc k)) (lin x1 x2 s (uc k)) := by
  have h : val_main_v19 (F := Ideal) x1 x2 (ix2 s k) = (val_main_v1 (F := Ideal) x1 x2 (ix2 s k)
      * Ideal.div (Ideal.ofBits .f32 0x3F800000#32) (Ideal.ofBits .f32 0x3F800000#32 + Ideal.exp (-(val_main_v1 (F := Ideal) x1 x2 (ix2 s k) : EReal)))
      * val_main_v2 (F := Ideal) x1 x2 (ix2 s k) : EReal) := rfl
  rw [h, ref_log, ref_gate, ref_val]
  rfl

theorem ref7 (i) : val_main_v22 (F := Ideal) x1 x2 i = G7 x1 x2 i := by
  have hi : val_main_v22 (F := Ideal) x1 x2 i = val_main_v19 (F := Ideal) x1 x2 (idx_main_v20 (idx_main_v21 i)) := by
    rw [val_main_v22_apply, val_main_v21_apply, val_main_v20_apply]
    rfl
  have b0 : (i 0).val < 4 := (i 0).isLt
  have b1 : (i 1).val < 704 := (i 1).isLt
  have b2 : (i 2).val < 4096 := (i 2).isLt
  refine hi.trans (Eq.trans (congrArg (val_main_v19 (F := Ideal) x1 x2) (funext fun a => ?_)) (ref_act x1 x2 (i 2) (ft (i 0) (i 1))))
  match a with
  | ⟨0, _⟩ =>
    refine Fin.ext ?_
    show (((i 0).val * 704 + (i 1).val) * 4096 + (i 2).val) % 4096 = (i 2).val
    omega
  | ⟨1, _⟩ =>
    refine Fin.ext ?_
    show (((i 0).val * 704 + (i 1).val) * 4096 + (i 2).val) / 4096 = (i 0).val * 704 + (i 1).val
    omega

end

/-- The precondition: every entry of every argument is a real number. -/
theorem real_args (x0 x1 : FVec Ideal S4096x1024 .f32) (x2 : FVec Ideal S1024x5632 .f32) (x3 : FVec Ideal S2816x1024 .f32)
    (e : Cert.Pre_ffn_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h := congrFun e ix0
  obtain ⟨h, h3⟩ := Cert.Att.and_one h
  obtain ⟨h, h2⟩ := Cert.Att.and_one h
  obtain ⟨h0, h1⟩ := Cert.Att.and_one h
  exact ⟨Cert.Att.real_of_all x0 _ _ _ _ h0, Cert.Att.real_of_all x1 _ _ _ _ h1, Cert.Att.real_of_all x2 _ _ _ _ h2, Cert.Att.real_of_all x3 _ _ _ _ h3⟩

theorem frame_ref : Cert.quiescent_FfnBwdRefIdeal := by
  intro m ρ _
  exact (θ_run Cert.FfnBwdRefIdeal.defs _ _).mono (fun r h => ⟨fun c => (h c).2.2.2, sem_eq_zero_of_no_sems (by decide) r.2⟩)
    (Cert.FfnBwdRefIdeal.Value.run m ρ)

theorem algebraic : Cert.algebraic_FfnBwdIdeal_FfnBwdRefIdeal_pre_ffn_finite := by
  intro m g m' g' hp hagree
  refine ⟨_, _, _, Cert.FfnBwdIdeal.Value.run_blocks m g, ?_⟩
  refine (θ_run Cert.FfnBwdRefIdeal.defs _ _).mono (fun r h c => ?_) (Cert.FfnBwdRefIdeal.Value.run m' g')
  obtain ⟨h0, h1, h2, hk⟩ := h c
  obtain ⟨g0, g1, g2, g3⟩ := hagree c
  obtain ⟨p0, p1, p2, p3⟩ := real_args _ _ _ _ (hp c)
  refine ⟨h0.trans ((Cert.FfnBwdRefIdeal.Read.val_main_v12_eq _ _ _ _).trans ?_), h1.trans ((Cert.FfnBwdRefIdeal.Read.val_main_v15_eq _ _ _ _).trans ?_),
    h2.trans ((Cert.FfnBwdRefIdeal.Read.val_main_v22_eq _ _).trans ?_), hk⟩
  · rw [g0, g1, g2, g3, arr5]
    funext i
    exact ref5 _ _ _ _ p0 p1 p2 p3 i
  · rw [g0, g1, g2, g3, arr6]
    funext i
    exact ref6 _ _ _ _ p0 p1 p2 p3 i
  · rw [g1, g2, arr7]
    funext i
    exact ref7 _ _ i

end Cert.Bwd

end
-- ==== Proof.FfnFwdPoint.lean ====
/-
  The feed-forward, forward: what one grid point of the kernel leaves, at an index. A point takes a tile of 1024 rows
  through one block of 704 hidden features, in two chunks of 512 rows.
-/
module

public import proofs.«01_k».proof.Proof.Block
public import proofs.«01_k».proof.Proof.Gen.FfnFwdIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Fwd

open Cert.FfnFwdIdeal Cert.FfnFwdIdeal.Gen Idealize.ShloMosaic Idealize.ShloMosaic.TcCoe Idealize.SL.Sem

/-- A row of the tile against feature `f` of a weight block. -/
def pre (x0 : FVec Ideal S1024x1024 .bf16) (w : FVec Ideal S1x704x1024 .bf16) (r : Fin 1024) (f : Fin 704) : EReal :=
  ∑ d : Fin 1024, x0 (ix2 r d) * w (ix3 0 f d)

/-- The gated activation. -/
def swi (g u : EReal) : EReal := g * Ideal.logistic g * u

/-- What a grid point adds to row `r`, column `d` of the running sum. -/
def add (x0 : FVec Ideal S1024x1024 .bf16) (x1 x2 x3 : FVec Ideal S1x704x1024 .bf16) (r d : Fin 1024) : EReal :=
  ∑ f : Fin 704, swi (pre x0 x1 r f) (pre x0 x2 r f) * x3 (ix3 0 f d)

set_option maxHeartbeats 1000000 in
/-- The running sum after the first feature block. -/
theorem soutA (c : Dev nD) (t : Fin cfg0.N) (x0 : FVec Ideal S1024x1024 .bf16) (x1 x2 x3 : FVec Ideal S1x704x1024 .bf16) (h0 : t.val % 4 = 0) (h1 : ¬t.val % 4 = 3) (y) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) x0 x1 x2 x3 y
      = (add x0 x1 x2 x3 (y 0) (y 1) : EReal) := by
  frame_open
  simp (disch := decide) only [↓ View.readCov_skip, ↓ View.readCov_cons_toLoadRect, ↓ View.readCov_fill]
  frame_out
  refine (Cert.Att.canon_over [_] y [_, _] (View.cover_of_tiledL _ ![512, 1024] (by rfl) y)).trans ?_
  canon_tiles x h
  all_goals
    open_payloads
    pointwise [add, swi, pre, ix3, ix2]
    reads_congr <;> blk_ext

set_option maxHeartbeats 1000000 in
/-- The running sum after a middle feature block. -/
theorem soutB (c : Dev nD) (t : Fin cfg0.N) (x0 : FVec Ideal S1024x1024 .bf16) (x1 x2 x3 : FVec Ideal S1x704x1024 .bf16) (xs : FVec Ideal S1024x1024 .f32) (h0 : ¬t.val % 4 = 0) (h1 : ¬t.val % 4 = 3) (y) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) x0 x1 x2 x3 xs y
      = (xs y + add x0 x1 x2 x3 (y 0) (y 1) : EReal) := by
  frame_out
  canon_tiles x h
  all_goals
    simp only [read_unread_whole]
    open_payloads
    pointwise [add, swi, pre, ix3, ix2]
    reads_congr <;> blk_ext

set_option maxHeartbeats 1000000 in
/-- The running sum after the last feature block. -/
theorem soutC (c : Dev nD) (t : Fin cfg0.N) (x0 : FVec Ideal S1024x1024 .bf16) (x1 x2 x3 : FVec Ideal S1x704x1024 .bf16) (xs : FVec Ideal S1024x1024 .f32) (h0 : ¬t.val % 4 = 0) (h1 : t.val % 4 = 3) (y) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) x0 x1 x2 x3 xs y
      = (xs y + add x0 x1 x2 x3 (y 0) (y 1) : EReal) := by
  frame_out
  canon_tiles x h
  all_goals
    simp only [read_unread_whole]
    open_payloads
    pointwise [add, swi, pre, ix3, ix2]
    reads_congr <;> blk_ext

set_option maxHeartbeats 1000000 in
/-- The tile of the result, stored at the last feature block. -/
theorem outC4 (c : Dev nD) (t : Fin cfg0.N) (x0 : FVec Ideal S1024x1024 .bf16) (x1 x2 x3 : FVec Ideal S1x704x1024 .bf16) (xs : FVec Ideal S1024x1024 .f32) (h0 : ¬t.val % 4 = 0) (h1 : t.val % 4 = 3) (y) :
    out0_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) x0 x1 x2 x3 xs y
      = (xs y + add x0 x1 x2 x3 (y 0) (y 1) : EReal) := by
  refine Eq.trans ?_ (soutC c t x0 x1 x2 x3 xs h0 h1 y)
  frame_out
  rw [View.readCov_eq_canon']
  have hz : (![0, 0] : Fin S1024x1024.rank → ℕ) = fun _ => 0 := funext fun a => by fin_cases a <;> rfl
  exact congrFun (View.ld_unit_zero (S := S1024x1024) hz inb_S1024x1024_S1024x1024_0_0 (View.canon _)) y

set_option maxHeartbeats 1000000 in
/-- The gate and the value, as saved for the backward pass. -/
theorem outA5 (c : Dev nD) (t : Fin cfg0.N) (x0 : FVec Ideal S1024x1024 .bf16) (x1 x2 x3 : FVec Ideal S1x704x1024 .bf16) (h0 : t.val % 4 = 0) (h1 : ¬t.val % 4 = 3) (y) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) x0 x1 x2 x3 y
      = (pre x0 (if (y 0).val = 0 then x1 else x2) (y 2) (y 3) : EReal) := by
  frame_out
  canon_tiles x h
  all_goals
    first | rw [if_pos (by omega)] | rw [if_neg (by omega)]
    open_payloads
    pointwise [pre, ix3, ix2]
    reads_congr <;> blk_ext

set_option maxHeartbeats 1000000 in
/-- The gate and the value, as saved for the backward pass. -/
theorem outB5 (c : Dev nD) (t : Fin cfg0.N) (x0 : FVec Ideal S1024x1024 .bf16) (x1 x2 x3 : FVec Ideal S1x704x1024 .bf16) (xs : FVec Ideal S1024x1024 .f32) (h0 : ¬t.val % 4 = 0) (h1 : ¬t.val % 4 = 3) (y) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) x0 x1 x2 x3 xs y
      = (pre x0 (if (y 0).val = 0 then x1 else x2) (y 2) (y 3) : EReal) := by
  frame_out
  canon_tiles x h
  all_goals
    first | rw [if_pos (by omega)] | rw [if_neg (by omega)]
    open_payloads
    pointwise [pre, ix3, ix2]
    reads_congr <;> blk_ext

set_option maxHeartbeats 1000000 in
/-- The gate and the value, as saved for the backward pass. -/
theorem outC5 (c : Dev nD) (t : Fin cfg0.N) (x0 : FVec Ideal S1024x1024 .bf16) (x1 x2 x3 : FVec Ideal S1x704x1024 .bf16) (xs : FVec Ideal S1024x1024 .f32) (h0 : ¬t.val % 4 = 0) (h1 : t.val % 4 = 3) (y) :
    out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) x0 x1 x2 x3 xs y
      = (pre x0 (if (y 0).val = 0 then x1 else x2) (y 2) (y 3) : EReal) := by
  frame_out
  canon_tiles x h
  all_goals
    first | rw [if_pos (by omega)] | rw [if_neg (by omega)]
    open_payloads
    pointwise [pre, ix3, ix2]
    reads_congr <;> blk_ext

end Cert.Fwd

end
-- ==== Proof.FfnFwd.lean ====
/-
  The feed-forward, forward: the two arrays the kernel leaves and their equality with the reference, for any
  arguments. The kernel takes the hidden features in four blocks of 704 and the rows in tiles of 1024; the reference
  takes all 2816 features at once.
-/
module

public import proofs.«01_k».proof.Defs
public import proofs.«01_k».proof.Proof.FfnFwdPoint
public import proofs.«01_k».proof.Proof.RealGrads
public import proofs.«01_k».proof.Proof.Gen.FfnFwdIdeal.Value
public import proofs.«01_k».proof.Proof.Gen.FfnFwdRefIdeal.Run
public import proofs.«01_k».proof.Proof.Gen.FfnFwdRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.Fwd

open Cert.FfnFwdIdeal Cert.FfnFwdIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S1024x5632 .f32 := m ((c.tc : Thread nD τ).loc main_arg1)
abbrev a2 : FVec Ideal S2816x1024 .f32 := m ((c.tc : Thread nD τ).loc main_arg2)

/-! ## The arrays the kernel is given -/

/-- Column `f` of block `b` of the first weight. -/
def col (b : Fin 8) (f : Fin 704) : Fin 5632 := ⟨b.val * 704 + f.val, by have := b.isLt; have := f.isLt; omega⟩

/-- Feature `f` of block `b`. -/
def ft (b : Fin 4) (f : Fin 704) : Fin 2816 := ⟨b.val * 704 + f.val, by have := b.isLt; have := f.isLt; omega⟩

/-- The gate's column of a feature, and the value's. -/
def gc (k : Fin 2816) : Fin 5632 := ⟨k.val, by have := k.isLt; omega⟩
def uc (k : Fin 2816) : Fin 5632 := ⟨2816 + k.val, by have := k.isLt; omega⟩

theorem V_main_v0 : (V m c main_v0 : FVec Ideal S4096x1024 .bf16) = truncf .bf16 (a0 m c) bitsLt_bf16_f32 := by
  unfold_abbrev_sides
  after_reads_simp

theorem V_main_v3 : (V m c main_v3 : FVec Ideal S8x704x1024 .bf16)
    = truncf .bf16 (shapeCast S8x704x1024 (transpose S5632x1024 [1, 0] (a1 m c) transposes_S1024x5632_S5632x1024_1_0) shapeCasts_S5632x1024_S8x704x1024 : FVec Ideal S8x704x1024 .f32) bitsLt_bf16_f32 := by
  unfold_abbrev_sides
  after_reads_simp
  rfl

theorem V_main_v5 : (V m c main_v5 : FVec Ideal S4x704x1024 .bf16)
    = truncf .bf16 (shapeCast S4x704x1024 (a2 m c) shapeCasts_S2816x1024_S4x704x1024 : FVec Ideal S4x704x1024 .f32) bitsLt_bf16_f32 := by
  unfold_abbrev_sides
  after_reads_simp
  rfl

theorem blocked_in (x : FVec Ideal S1024x5632 .f32) (b : Fin 8) (f : Fin 704) (d : Fin 1024) :
    truncf (F := Ideal) .bf16 (shapeCast S8x704x1024 (transpose S5632x1024 [1, 0] x transposes_S1024x5632_S5632x1024_1_0) shapeCasts_S5632x1024_S8x704x1024 : FVec Ideal S8x704x1024 .f32) bitsLt_bf16_f32 (ix3 b f d)
      = x (ix2 d (col b f)) := by
  pointwise [col]

theorem blocked_out (x : FVec Ideal S2816x1024 .f32) (b : Fin 4) (f : Fin 704) (d : Fin 1024) :
    truncf (F := Ideal) .bf16 (shapeCast S4x704x1024 x shapeCasts_S2816x1024_S4x704x1024 : FVec Ideal S4x704x1024 .f32) bitsLt_bf16_f32 (ix3 b f d)
      = x (ix2 (ft b f) d) := by
  pointwise [ft]

/-- The block indices of the windows at a grid point. -/
theorem idx : ∀ t : Fin cfg0.N, win0_0.index t = ![t.val / 4, 0] ∧ win0_1.index t = ![t.val % 4, 0, 0] ∧ win0_2.index t = ![t.val % 4 + 4, 0, 0]
    ∧ win0_3.index t = ![t.val % 4, 0, 0] ∧ win0_4.index t = ![t.val / 4, 0] ∧ win0_5.index t = ![0, t.val % 4, t.val / 4, 0] :=
  (by decide +kernel : ∀ t : Fin grid0.N, _)

theorem lt_16 (t : Fin cfg0.N) : t.val < 16 := lt_of_lt_of_eq t.isLt (show cfg0.N = 16 from N_0)

/-- Row `r` of a grid point's tile. -/
def row (t : Fin cfg0.N) (r : Fin 1024) : Fin 4096 := ⟨t.val / 4 * 1024 + r.val, by have := lt_16 t; have := r.isLt; omega⟩

/-- The feature block of a grid point, and its two blocks of the first weight. -/
def fb (t : Fin cfg0.N) : Fin 4 := ⟨t.val % 4, by omega⟩
def gb (t : Fin cfg0.N) : Fin 8 := ⟨t.val % 4, by omega⟩
def ub (t : Fin cfg0.N) : Fin 8 := ⟨t.val % 4 + 4, by omega⟩

theorem iblk0 (t : Fin cfg0.N) (r d : Fin 1024) : iblk m c 0 t (ix2 r d) = V m c main_v0 (ix2 (row t r) d) := by
  blk_ext [iblk, idx t, row]

theorem iblk1 (t : Fin cfg0.N) (f : Fin 704) (d : Fin 1024) : iblk m c 1 t (ix3 0 f d) = V m c main_v3 (ix3 (gb t) f d) := by
  blk_ext [iblk, idx t, gb]

theorem iblk2 (t : Fin cfg0.N) (f : Fin 704) (d : Fin 1024) : iblk m c 2 t (ix3 0 f d) = V m c main_v3 (ix3 (ub t) f d) := by
  blk_ext [iblk, idx t, ub]

theorem iblk3 (t : Fin cfg0.N) (f : Fin 704) (d : Fin 1024) : iblk m c 3 t (ix3 0 f d) = V m c main_v5 (ix3 (fb t) f d) := by
  blk_ext [iblk, idx t, fb]

/-- A row of the input against a column of the first weight. -/
def lin (x0 : FVec Ideal S4096x1024 .f32) (x1 : FVec Ideal S1024x5632 .f32) (s : Fin 4096) (k : Fin 5632) : EReal :=
  ∑ d : Fin 1024, x0 (ix2 s d) * x1 (ix2 d k)

theorem pre_gate (t : Fin cfg0.N) (r : Fin 1024) (f : Fin 704) :
    pre (iblk m c 0 t) (iblk m c 1 t) r f = lin (a0 m c) (a1 m c) (row t r) (gc (ft (fb t) f)) :=
  Finset.sum_congr rfl fun d _ => congrArg₂ (· * ·)
    ((iblk0 m c t r d).trans (congrFun (V_main_v0 m c) _)) ((iblk1 m c t f d).trans ((congrFun (V_main_v3 m c) _).trans (blocked_in _ _ _ _)))

theorem pre_val (t : Fin cfg0.N) (r : Fin 1024) (f : Fin 704) :
    pre (iblk m c 0 t) (iblk m c 2 t) r f = lin (a0 m c) (a1 m c) (row t r) (uc (ft (fb t) f)) := by
  have hc : col (ub t) f = uc (ft (fb t) f) := Fin.ext (by simp only [col, ub, uc, ft, fb]; omega)
  rw [← hc]
  exact Finset.sum_congr rfl fun d _ => congrArg₂ (· * ·)
    ((iblk0 m c t r d).trans (congrFun (V_main_v0 m c) _)) ((iblk2 m c t f d).trans ((congrFun (V_main_v3 m c) _).trans (blocked_in _ _ _ _)))

/-! ## The arrays after the run -/

/-- What feature `k` adds to the result. -/
def term (x0 : FVec Ideal S4096x1024 .f32) (x1 : FVec Ideal S1024x5632 .f32) (x2 : FVec Ideal S2816x1024 .f32) (s : Fin 4096) (d : Fin 1024) (k : Fin 2816) : EReal :=
  swi (lin x0 x1 s (gc k)) (lin x0 x1 s (uc k)) * x2 (ix2 k d)

/-- The result. -/
def G4 (x0 : FVec Ideal S4096x1024 .f32) (x1 : FVec Ideal S1024x5632 .f32) (x2 : FVec Ideal S2816x1024 .f32) : S4096x1024.Idx → EReal :=
  fun i => ∑ k : Fin 2816, term x0 x1 x2 (i 0) (i 1) k

/-- The saved gate and value. -/
def G5 (x0 : FVec Ideal S4096x1024 .f32) (x1 : FVec Ideal S1024x5632 .f32) : S2x4x4096x704.Idx → EReal :=
  fun i => lin x0 x1 (i 2) (if (i 0).val = 0 then gc (ft (i 1) (i 3)) else uc (ft (i 1) (i 3)))

/-- The share of a grid point. -/
def part (t : Fin cfg0.N) (i : S1024x1024.Idx) : EReal :=
  ∑ f : Fin 704, term (a0 m c) (a1 m c) (a2 m c) (row t (i 0)) (i 1) (ft (fb t) f)

theorem add_eq (t : Fin cfg0.N) (i : S1024x1024.Idx) :
    add (iblk m c 0 t) (iblk m c 1 t) (iblk m c 2 t) (iblk m c 3 t) (i 0) (i 1) = part m c t i :=
  Finset.sum_congr rfl fun f _ => congrArg₂ (· * ·) (congrArg₂ swi (pre_gate m c t (i 0) f) (pre_val m c t (i 0) f))
    ((iblk3 m c t f (i 1)).trans ((congrFun (V_main_v5 m c) _).trans (blocked_out _ _ _ _)))

theorem step (t : Fin cfg0.N) (h : ¬t.val % 4 = 0) (i : S1024x1024.Idx) :
    (outsAt0 m c t.val t.isLt).2.2 i
      = ((outsAt0 m c (t.val - 1) (Nat.lt_of_le_of_lt (Nat.sub_le _ _) t.isLt)).2.2 i + part m c t i : EReal) := by
  by_cases h1 : t.val % 4 = 3
  · rw [outsAt0_C m c t h h1]
    dsimp only
    rw [soutC (h0 := h) (h1 := h1), add_eq]
  · rw [outsAt0_B m c t h h1]
    dsimp only
    rw [soutB (h0 := h) (h1 := h1), add_eq]

theorem acc (t : Fin cfg0.N) (hr : t.val % 4 = 3) (i : S1024x1024.Idx) :
    (outsAt0 m c t.val t.isLt).2.2 i = (0 + ∑ s : Fin 4, part m c ⟨4 * (t.val / 4) + s.val, Pipeline.run_point_lt_of_flush t hr s⟩ i : EReal) :=
  Pipeline.eq_sum_fin_of_reset_step_apply_of_flush (M := EReal) (fun n h => (outsAt0 m c n h).2.2) 4 (fun _ => 0) (part m c)
    (fun t h i => by
      show (outsAt0 m c t.val t.isLt).2.2 i = (0 + part m c t i : EReal)
      have h1 : ¬t.val % 4 = 3 := by omega
      rw [outsAt0_A m c t h h1, zero_add]
      dsimp only
      rw [soutA (h0 := h) (h1 := h1), add_eq])
    (fun t h i => step m c t h i) t hr i

theorem point4 (t : Fin cfg0.N) (hr : t.val % 4 = 3) (y : S1024x1024.Idx) :
    (outsAt0 m c t.val t.isLt).1 y = (outsAt0 m c t.val t.isLt).2.2 y := by
  have h0 : ¬t.val % 4 = 0 := by omega
  rw [outsAt0_C m c t h0 hr]
  dsimp only
  rw [outC4 (h0 := h0) (h1 := hr), soutC (h0 := h0) (h1 := hr)]

theorem parts (t : Fin cfg0.N) (hr : t.val % 4 = 3) (i : S1024x1024.Idx) :
    (∑ s : Fin 4, part m c ⟨4 * (t.val / 4) + s.val, Pipeline.run_point_lt_of_flush t hr s⟩ i : EReal)
      = G4 (a0 m c) (a1 m c) (a2 m c) (ix2 (row t (i 0)) (i 1)) := by
  unfold G4
  rw [Fin.sum_univ_tiles 4 704 rfl]
  refine Finset.sum_congr rfl fun s _ => Finset.sum_congr rfl fun f _ => ?_
  have hs := s.isLt
  have hrow : row ⟨4 * (t.val / 4) + s.val, Pipeline.run_point_lt_of_flush t hr s⟩ (i 0) = row t (i 0) := Fin.ext (by simp only [row]; omega)
  have hfb : fb ⟨4 * (t.val / 4) + s.val, Pipeline.run_point_lt_of_flush t hr s⟩ = s := Fin.ext (by simp only [fb]; omega)
  rw [hrow, hfb]
  rfl

theorem arr4 : (dats m 0 c).arrAt 4 cfg0.N = G4 (a0 m c) (a1 m c) (a2 m c) := by
  refine (dats m 0 c).arrAt_eq_of_covers 4 _ (by decide +kernel) fun t hf y => ?_
  have hr := (flush0_4 t).mp hf
  blk_simp
  rw [after0_4]
  refine (point4 m c t hr y).trans ((acc m c t hr y).trans ((zero_add _).trans ((parts m c t hr y).trans (congrArg (G4 (a0 m c) (a1 m c) (a2 m c)) ?_))))
  blk_ext [idx t, row]

theorem point5 (t : Fin cfg0.N) (y : S2x1x1024x704.Idx) :
    (outsAt0 m c t.val t.isLt).2.1 y = G5 (a0 m c) (a1 m c) (ix4 (y 0) (fb t) (row t (y 2)) (y 3)) := by
  have key : pre (iblk m c 0 t) (if (y 0).val = 0 then iblk m c 1 t else iblk m c 2 t) (y 2) (y 3)
      = G5 (a0 m c) (a1 m c) (ix4 (y 0) (fb t) (row t (y 2)) (y 3)) := by
    by_cases hy : (y 0).val = 0
    · rw [if_pos hy]
      exact (pre_gate m c t (y 2) (y 3)).trans (congrArg (lin (a0 m c) (a1 m c) (row t (y 2))) (if_pos hy).symm)
    · rw [if_neg hy]
      exact (pre_val m c t (y 2) (y 3)).trans (congrArg (lin (a0 m c) (a1 m c) (row t (y 2))) (if_neg hy).symm)
  by_cases h0 : t.val % 4 = 0
  · have h1 : ¬t.val % 4 = 3 := by omega
    rw [outsAt0_A m c t h0 h1]
    dsimp only
    rw [outA5 (h0 := h0) (h1 := h1), key]
  · by_cases h1 : t.val % 4 = 3
    · rw [outsAt0_C m c t h0 h1]
      dsimp only
      rw [outC5 (h0 := h0) (h1 := h1), key]
    · rw [outsAt0_B m c t h0 h1]
      dsimp only
      rw [outB5 (h0 := h0) (h1 := h1), key]

theorem arr5 : (dats m 0 c).arrAt 5 cfg0.N = G5 (a0 m c) (a1 m c) := by
  refine (dats m 0 c).arrAt_eq_of_covers 5 _ (by decide +kernel) fun t hf y => ?_
  blk_simp
  rw [after0_5]
  refine (point5 m c t y).trans (congrArg (G5 (a0 m c) (a1 m c)) ?_)
  blk_ext [idx t, fb, row]

/-! ## The reference -/

open Cert.FfnFwdRefIdeal.Read in
theorem ref_lin (x0 : FVec Ideal S4096x1024 .f32) (x1 : FVec Ideal S1024x5632 .f32) (s : Fin 4096) (k : Fin 5632) :
    val_main_v0 (F := Ideal) x0 x1 (ix2 s k) = lin x0 x1 s k := by
  unfold val_main_v0
  pointwise [lin]

open Cert.FfnFwdRefIdeal.Read in
theorem ref_gate (x0 : FVec Ideal S4096x1024 .f32) (x1 : FVec Ideal S1024x5632 .f32) (s : Fin 4096) (k : Fin 2816) :
    val_main_v1 (F := Ideal) x0 x1 (ix2 s k) = lin x0 x1 s (gc k) := by
  rw [val_main_v1_apply, ← ref_lin]
  exact congrArg _ (by blk_ext [gc])

open Cert.FfnFwdRefIdeal.Read in
theorem ref_val (x0 : FVec Ideal S4096x1024 .f32) (x1 : FVec Ideal S1024x5632 .f32) (s : Fin 4096) (k : Fin 2816) :
    val_main_v2 (F := Ideal) x0 x1 (ix2 s k) = lin x0 x1 s (uc k) := by
  rw [val_main_v2_apply, ← ref_lin]
  exact congrArg _ (by blk_ext [uc])

open Cert.FfnFwdRefIdeal.Read in
theorem ref_act (x0 : FVec Ideal S4096x1024 .f32) (x1 : FVec Ideal S1024x5632 .f32) (s : Fin 4096) (k : Fin 2816) :
    val_main_v4 (F := Ideal) x0 x1 (ix2 s k) = swi (lin x0 x1 s (gc k)) (lin x0 x1 s (uc k)) := by
  have h : val_main_v4 (F := Ideal) x0 x1 (ix2 s k) = (val_main_v1 (F := Ideal) x0 x1 (ix2 s k)
      * Ideal.div (Ideal.ofBits .f32 0x3F800000#32) (Ideal.ofBits .f32 0x3F800000#32 + Ideal.exp (-(val_main_v1 (F := Ideal) x0 x1 (ix2 s k) : EReal)))
      * val_main_v2 (F := Ideal) x0 x1 (ix2 s k) : EReal) := rfl
  rw [h, ref_gate, ref_val, Cert.Att.one_bits]
  rfl

open Cert.FfnFwdRefIdeal.Read in
theorem ref4 (x0 : FVec Ideal S4096x1024 .f32) (x1 : FVec Ideal S1024x5632 .f32) (x2 : FVec Ideal S2816x1024 .f32) (i) :
    val_main_v6 (F := Ideal) x0 x1 x2 i = G4 x0 x1 x2 i := by
  rw [eq_ix2 i]
  unfold val_main_v6 val_main_v5 G4 term
  generalize hv : val_main_v4 (F := Ideal) x0 x1 = v
  have hv' : ∀ s k, v (ix2 s k) = swi (lin x0 x1 s (gc k)) (lin x0 x1 s (uc k)) := fun s k => hv ▸ ref_act x0 x1 s k
  pointwise [hv']

open Cert.FfnFwdRefIdeal.Read in
theorem ref5 (x0 : FVec Ideal S4096x1024 .f32) (x1 : FVec Ideal S1024x5632 .f32) (i) :
    val_main_v9 (F := Ideal) x0 x1 i = G5 x0 x1 i := by
  rw [val_main_v9_apply, val_main_v8_apply, val_main_v7_apply]
  refine Eq.trans (congrArg (val_main_v0 (F := Ideal) x0 x1) ?_) (ref_lin x0 x1 (i 2) _)
  have h0 : (i 0).val < 2 := (i 0).isLt
  have h1 : (i 1).val < 4 := (i 1).isLt
  have h2 : (i 2).val < 4096 := (i 2).isLt
  have h3 : (i 3).val < 704 := (i 3).isLt
  funext a
  match a with
  | ⟨0, _⟩ =>
    refine Fin.ext ?_
    show ((((i 2).val * 2 + (i 0).val) * 4 + (i 1).val) * 704 + (i 3).val) / 5632 = (i 2).val
    omega
  | ⟨1, _⟩ =>
    refine Fin.ext ?_
    show ((((i 2).val * 2 + (i 0).val) * 4 + (i 1).val) * 704 + (i 3).val) % 5632
      = (if (i 0).val = 0 then gc (ft (i 1) (i 3)) else uc (ft (i 1) (i 3))).val
    split
    · show _ = (i 1).val * 704 + (i 3).val
      omega
    · show _ = 2816 + ((i 1).val * 704 + (i 3).val)
      omega

theorem frame_ref : Cert.quiescent_FfnFwdRefIdeal := by
  intro m ρ _
  exact (θ_run Cert.FfnFwdRefIdeal.defs _ _).mono (fun r h => ⟨fun c => (h c).2.2, sem_eq_zero_of_no_sems (by decide) r.2⟩)
    (Cert.FfnFwdRefIdeal.Value.run m ρ)

theorem algebraic : Cert.algebraic_FfnFwdIdeal_FfnFwdRefIdeal := by
  intro m g m' g' _ hagree
  refine ⟨_, _, Cert.FfnFwdIdeal.Value.run_blocks m g, ?_⟩
  refine (θ_run Cert.FfnFwdRefIdeal.defs _ _).mono (fun r h c => ?_) (Cert.FfnFwdRefIdeal.Value.run m' g')
  obtain ⟨h0, h1, hk⟩ := h c
  obtain ⟨g0, g1, g2⟩ := hagree c
  refine ⟨h0.trans ((Cert.FfnFwdRefIdeal.Read.val_main_v6_eq _ _ _).trans ?_), h1.trans ((Cert.FfnFwdRefIdeal.Read.val_main_v9_eq _ _).trans ?_), hk⟩
  · rw [g0, g1, g2, arr4]
    funext i
    exact ref4 _ _ _ i
  · rw [g0, g1, arr5]
    funext i
    exact ref5 _ _ i

end Cert.Fwd

end
-- ==== Proof.FfnDwIn.lean ====
/-
  The gradient of the feed-forward's first weight: the kernel multiplies each block of the transposed gradient by the
  activations; the array it leaves is the reference's gradient, for any arguments.
-/
module

public import proofs.«01_k».proof.Defs
public import proofs.«01_k».proof.Proof.Gen.FfnDwInIdeal.Value
public import proofs.«01_k».proof.Proof.Gen.FfnDwInRefIdeal.Run
public import proofs.«01_k».proof.Proof.Gen.FfnDwInRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.DwIn

open Cert.FfnDwInIdeal Cert.FfnDwInIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x5632 .f32 := m ((c.tc : Thread nD τ).loc main_arg0)
abbrev a1 : FVec Ideal S4096x1024 .f32 := m ((c.tc : Thread nD τ).loc main_arg1)

/-- Row `f` of block `b`. -/
def col (b : Fin 8) (f : Fin 704) : Fin 5632 := ⟨b.val * 704 + f.val, by have := b.isLt; have := f.isLt; omega⟩

theorem V_main_v2 : (V m c main_v2 : FVec Ideal S8x704x4096 .bf16)
    = truncf .bf16 (shapeCast S8x704x4096 (transpose S5632x4096 [1, 0] (a0 m c) transposes_S4096x5632_S5632x4096_1_0) shapeCasts_S5632x4096_S8x704x4096 : FVec Ideal S8x704x4096 .f32) bitsLt_bf16_f32 := by
  unfold_abbrev_sides
  after_reads_simp
  rfl

theorem V_main_v3 : (V m c main_v3 : FVec Ideal S4096x1024 .bf16) = truncf .bf16 (a1 m c) bitsLt_bf16_f32 := by
  unfold_abbrev_sides
  after_reads_simp

theorem blocked (x : FVec Ideal S4096x5632 .f32) (b : Fin 8) (f : Fin 704) (s : Fin 4096) :
    truncf (F := Ideal) .bf16 (shapeCast S8x704x4096 (transpose S5632x4096 [1, 0] x transposes_S4096x5632_S5632x4096_1_0) shapeCasts_S5632x4096_S8x704x4096 : FVec Ideal S8x704x4096 .f32) bitsLt_bf16_f32 (ix3 b f s)
      = x (ix2 s (col b f)) := by
  pointwise [col]

theorem idx : ∀ t : Fin cfg0.N, win0_0.index t = ![t.val, 0, 0] ∧ win0_1.index t = ![0, 0] ∧ win0_2.index t = ![t.val, 0, 0] :=
  (by decide +kernel : ∀ t : Fin grid0.N, _)

theorem lt_8 (t : Fin cfg0.N) : t.val < 8 := lt_of_lt_of_eq t.isLt (show cfg0.N = 8 from N_0)

/-- The weight block of a grid point. -/
def blk (t : Fin cfg0.N) : Fin 8 := ⟨t.val, lt_8 t⟩

theorem iblk0 (t : Fin cfg0.N) (f : Fin 704) (s : Fin 4096) : iblk m c 0 t (ix3 0 f s) = V m c main_v2 (ix3 (blk t) f s) := by
  blk_ext [iblk, idx t, blk]

theorem iblk1 (t : Fin cfg0.N) (s : Fin 4096) (d : Fin 1024) : iblk m c 1 t (ix2 s d) = V m c main_v3 (ix2 s d) := by
  blk_ext [iblk, idx t]

theorem out_apply (x0 : FVec Ideal S1x704x4096 .bf16) (x1 : FVec Ideal S4096x1024 .bf16) (y : S1x704x1024.Idx) :
    out0_2 (F := Ideal) x0 x1 y = (∑ s : Fin 4096, x0 (ix3 0 (y 1) s) * x1 (ix2 s (y 2)) : EReal) := by
  frame_out
  open_payloads
  pointwise [ix3, ix2]

/-- The array the kernel leaves. -/
def G (x0 : FVec Ideal S4096x5632 .f32) (x1 : FVec Ideal S4096x1024 .f32) : S8x704x1024.Idx → EReal :=
  fun i => ∑ s : Fin 4096, x0 (ix2 s (col (i 0) (i 1))) * x1 (ix2 s (i 2))

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix3 (blk t) (y 1) (y 2))) ?_ (congrArg (G (a0 m c) (a1 m c)) ?_)
  · exact Finset.sum_congr rfl fun s _ => congrArg₂ (· * ·)
      ((iblk0 m c t (y 1) s).trans ((congrFun (V_main_v2 m c) _).trans (blocked _ _ _ _))) ((iblk1 m c t s (y 2)).trans (congrFun (V_main_v3 m c) _))
  · blk_ext [idx t, blk]

open Cert.FfnDwInRefIdeal.Read in
theorem ref_apply (x0 : FVec Ideal S4096x5632 .f32) (x1 : FVec Ideal S4096x1024 .f32) (b : Fin 8) (f : Fin 704) (d : Fin 1024) :
    val_main_v6 (F := Ideal) x0 x1 (ix3 b f d) = (∑ s : Fin 4096, x0 (ix2 s (col b f)) * x1 (ix2 s d) : EReal) := by
  unfold val_main_v6 val_main_v5 val_main_v4 val_main_v3 val_main_v2
  pointwise [col]

theorem frame_ref : Cert.quiescent_FfnDwInRefIdeal := by
  intro m ρ _
  exact (θ_run Cert.FfnDwInRefIdeal.defs _ _).mono (fun r h => ⟨fun c => (h c).2, sem_eq_zero_of_no_sems (by decide) r.2⟩)
    (Cert.FfnDwInRefIdeal.Value.run m ρ)

theorem algebraic : Cert.algebraic_FfnDwInIdeal_FfnDwInRefIdeal := by
  intro m g m' g' _ hagree
  refine ⟨_, Cert.FfnDwInIdeal.Value.run_blocks m g, ?_⟩
  refine (θ_run Cert.FfnDwInRefIdeal.defs _ _).mono (fun r h c => ?_) (Cert.FfnDwInRefIdeal.Value.run m' g')
  obtain ⟨h0, hk⟩ := h c
  obtain ⟨g0, g1⟩ := hagree c
  refine ⟨h0.trans ((Cert.FfnDwInRefIdeal.Read.val_main_v6_eq _ _).trans ?_), hk⟩
  rw [g0, g1, arr2]
  funext i
  rw [eq_ix3 i]
  exact ref_apply _ _ _ _ _

end Cert.DwIn

end
-- ==== Proof.FfnDwOut.lean ====
/-
  The gradient of the feed-forward's second weight: the kernel multiplies each block of the transposed activations by the
  incoming gradient; the array it leaves is the reference's gradient, for any arguments.
-/
module

public import proofs.«01_k».proof.Defs
public import proofs.«01_k».proof.Proof.Gen.FfnDwOutIdeal.Value
public import proofs.«01_k».proof.Proof.Gen.FfnDwOutRefIdeal.Run
public import proofs.«01_k».proof.Proof.Gen.FfnDwOutRefIdeal.Read
public import Idealize.ShloMosaic.Lib.Pipeline.ValueKit
public import Idealize.ShloMosaic.Lib.StableHlo.RunRead
public import Idealize.ShloMosaic.Lib.Pointwise

@[expose] public section

set_option maxRecDepth 16384

noncomputable section

namespace Cert.DwOut

open Cert.FfnDwOutIdeal Cert.FfnDwOutIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x2816 .f32 := m ((c.tc : Thread nD τ).loc main_arg0)
abbrev a1 : FVec Ideal S4096x1024 .f32 := m ((c.tc : Thread nD τ).loc main_arg1)

/-- Row `f` of block `b`. -/
def col (b : Fin 4) (f : Fin 704) : Fin 2816 := ⟨b.val * 704 + f.val, by have := b.isLt; have := f.isLt; omega⟩

theorem V_main_v2 : (V m c main_v2 : FVec Ideal S4x704x4096 .bf16)
    = truncf .bf16 (shapeCast S4x704x4096 (transpose S2816x4096 [1, 0] (a0 m c) transposes_S4096x2816_S2816x4096_1_0) shapeCasts_S2816x4096_S4x704x4096 : FVec Ideal S4x704x4096 .f32) bitsLt_bf16_f32 := by
  unfold_abbrev_sides
  after_reads_simp
  rfl

theorem V_main_v3 : (V m c main_v3 : FVec Ideal S4096x1024 .bf16) = truncf .bf16 (a1 m c) bitsLt_bf16_f32 := by
  unfold_abbrev_sides
  after_reads_simp

theorem blocked (x : FVec Ideal S4096x2816 .f32) (b : Fin 4) (f : Fin 704) (s : Fin 4096) :
    truncf (F := Ideal) .bf16 (shapeCast S4x704x4096 (transpose S2816x4096 [1, 0] x transposes_S4096x2816_S2816x4096_1_0) shapeCasts_S2816x4096_S4x704x4096 : FVec Ideal S4x704x4096 .f32) bitsLt_bf16_f32 (ix3 b f s)
      = x (ix2 s (col b f)) := by
  pointwise [col]

theorem idx : ∀ t : Fin cfg0.N, win0_0.index t = ![t.val, 0, 0] ∧ win0_1.index t = ![0, 0] ∧ win0_2.index t = ![t.val, 0, 0] :=
  (by decide +kernel : ∀ t : Fin grid0.N, _)

theorem lt_4 (t : Fin cfg0.N) : t.val < 4 := lt_of_lt_of_eq t.isLt (show cfg0.N = 4 from N_0)

/-- The weight block of a grid point. -/
def blk (t : Fin cfg0.N) : Fin 4 := ⟨t.val, lt_4 t⟩

theorem iblk0 (t : Fin cfg0.N) (f : Fin 704) (s : Fin 4096) : iblk m c 0 t (ix3 0 f s) = V m c main_v2 (ix3 (blk t) f s) := by
  blk_ext [iblk, idx t, blk]

theorem iblk1 (t : Fin cfg0.N) (s : Fin 4096) (d : Fin 1024) : iblk m c 1 t (ix2 s d) = V m c main_v3 (ix2 s d) := by
  blk_ext [iblk, idx t]

theorem out_apply (x0 : FVec Ideal S1x704x4096 .bf16) (x1 : FVec Ideal S4096x1024 .bf16) (y : S1x704x1024.Idx) :
    out0_2 (F := Ideal) x0 x1 y = (∑ s : Fin 4096, x0 (ix3 0 (y 1) s) * x1 (ix2 s (y 2)) : EReal) := by
  frame_out
  open_payloads
  pointwise [ix3, ix2]

/-- The array the kernel leaves. -/
def G (x0 : FVec Ideal S4096x2816 .f32) (x1 : FVec Ideal S4096x1024 .f32) : S4x704x1024.Idx → EReal :=
  fun i => ∑ s : Fin 4096, x0 (ix2 s (col (i 0) (i 1))) * x1 (ix2 s (i 2))

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix3 (blk t) (y 1) (y 2))) ?_ (congrArg (G (a0 m c) (a1 m c)) ?_)
  · exact Finset.sum_congr rfl fun s _ => congrArg₂ (· * ·)
      ((iblk0 m c t (y 1) s).trans ((congrFun (V_main_v2 m c) _).trans (blocked _ _ _ _))) ((iblk1 m c t s (y 2)).trans (congrFun (V_main_v3 m c) _))
  · blk_ext [idx t, blk]

open Cert.FfnDwOutRefIdeal.Read in
theorem ref_apply (x0 : FVec Ideal S4096x2816 .f32) (x1 : FVec Ideal S4096x1024 .f32) (b : Fin 4) (f : Fin 704) (d : Fin 1024) :
    val_main_v5 (F := Ideal) x0 x1 (ix3 b f d) = (∑ s : Fin 4096, x0 (ix2 s (col b f)) * x1 (ix2 s d) : EReal) := by
  unfold val_main_v5 val_main_v4 val_main_v3 val_main_v2
  pointwise [col]
  exact Finset.sum_congr rfl fun _ _ => mul_comm _ _

theorem frame_ref : Cert.quiescent_FfnDwOutRefIdeal := by
  intro m ρ _
  exact (θ_run Cert.FfnDwOutRefIdeal.defs _ _).mono (fun r h => ⟨fun c => (h c).2, sem_eq_zero_of_no_sems (by decide) r.2⟩)
    (Cert.FfnDwOutRefIdeal.Value.run m ρ)

theorem algebraic : Cert.algebraic_FfnDwOutIdeal_FfnDwOutRefIdeal := by
  intro m g m' g' _ hagree
  refine ⟨_, Cert.FfnDwOutIdeal.Value.run_blocks m g, ?_⟩
  refine (θ_run Cert.FfnDwOutRefIdeal.defs _ _).mono (fun r h c => ?_) (Cert.FfnDwOutRefIdeal.Value.run m' g')
  obtain ⟨h0, hk⟩ := h c
  obtain ⟨g0, g1⟩ := hagree c
  refine ⟨h0.trans ((Cert.FfnDwOutRefIdeal.Read.val_main_v5_eq _ _).trans ?_), hk⟩
  rw [g0, g1, arr2]
  funext i
  rw [eq_ix3 i]
  exact ref_apply _ _ _ _ _

end Cert.DwOut

end
-- ==== Proof.AttFwdTile.lean ====
/-
  What one grid point of the attention's forward kernel stores. The body works through sixteen tiles of 256 keys and
  carries a running maximum and a running sum of weighted keys, rescaled whenever the maximum grows. Here both are
  functions of the number of tiles read, the stored blocks are read off them after the sixteenth, and over real
  numbers they are what they are meant to be: some number for the maximum, and for the sum that over all keys read
  so far of two to the score less that number, times the key.
-/
module

public import proofs.«01_k».proof.Proof.Gen.AttFwdIdeal.Value
public import proofs.«01_k».proof.Proof.RealGrads
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AF

open Cert.AttFwdIdeal Cert.AttFwdIdeal.Gen Cert.Att Idealize.ShloMosaic Idealize.ShloMosaic.TcCoe Idealize.SL.Sem

/-! ## One tile -/

/-- The scores of a tile of keys. -/
def scS (q : FVec Ideal S2048x256 .bf16) (k : FVec Ideal S256x256 .bf16) : FVec Ideal S2048x256 .f32 :=
  matmul dot_S2048x256_S256x256_S2048x256_1_1_0_0_n_n none q (shapeCast S256x256 k shapeCasts_S256x256_S256x256) (constant S2048x256 .f32 0x00000000#32)

/-- The maximum after a tile. -/
def mS (m : FVec Ideal S2048x1 .f32) (s : FVec Ideal S2048x256 .f32) : FVec Ideal S2048x1 .f32 :=
  maximumf m (shapeCast S2048x1 (multiReduction .maximumf [1] S2048 s 0xFF800000#32 reduces_S2048x256_S2048 (.inl rfl) rfl) shapeCasts_S2048_S2048x1)

/-- The weights of a tile. -/
def pS (m' : FVec Ideal S2048x1 .f32) (s : FVec Ideal S2048x256 .f32) : FVec Ideal S2048x256 .bf16 :=
  truncf .bf16 (exp2 (subf s (broadcastTo S2048x256 m' broadcasts_S2048x1_S2048x256))) bitsLt_bf16_f32

/-- The sum after a tile, from the maximum before it and after it. -/
def aS (m m' : FVec Ideal S2048x1 .f32) (s : FVec Ideal S2048x256 .f32) (k : FVec Ideal S256x256 .bf16) (a : FVec Ideal S2048x256 .f32) : FVec Ideal S2048x256 .f32 :=
  addf (mulf (broadcastTo S2048x256 (exp2 (subf m m')) broadcasts_S2048x1_S2048x256) a)
    (matmul dot_S2048x256_S256x256_S2048x256_1_0_0_1_n_n none (pS m' s) (shapeCast S256x256 k shapeCasts_S256x256_S256x256) (constant S2048x256 .f32 0x00000000#32))

theorem scS_apply (q : FVec Ideal S2048x256 .bf16) (k : FVec Ideal S256x256 .bf16) (i : Fin 2048) (j : Fin 256) :
    scS q k (ix2 i j) = (∑ l : Fin 256, q (ix2 i l) * k (ix2 j l) : EReal) := by
  pointwise [scS]

theorem mS_apply (m : FVec Ideal S2048x1 .f32) (s : FVec Ideal S2048x256 .f32) (i : Fin 2048) :
    mS m s (ix2 i 0) = (max (m (ix2 i 0)) (Finset.fold max (Ideal.ofBits .f32 0xFF800000#32) (fun j : Fin 256 => s (ix2 i j)) Finset.univ) : EReal) := by
  pointwise [mS]

theorem aS_apply (m m' : FVec Ideal S2048x1 .f32) (s : FVec Ideal S2048x256 .f32) (k : FVec Ideal S256x256 .bf16) (a : FVec Ideal S2048x256 .f32) (i : Fin 2048) (l : Fin 256) :
    aS m m' s k a (ix2 i l) = (Ideal.exp2 (m (ix2 i 0) - m' (ix2 i 0) : EReal) * a (ix2 i l)
      + ∑ j : Fin 256, Ideal.exp2 (s (ix2 i j) - m' (ix2 i 0) : EReal) * k (ix2 j l) : EReal) := by
  pointwise [aS, pS]
  rfl

/-! ## All tiles -/

section chain

variable (q : FVec Ideal S2048x256 .bf16) (K : ℕ → FVec Ideal S256x256 .bf16)

/-- The running maximum after `n` tiles. -/
def mC : ℕ → FVec Ideal S2048x1 .f32
  | 0 => broadcast S2048x1 (Scalar.ofBits .f32 0xF149F2CA#32 : Ideal .f32)
  | n + 1 => mS (mC n) (scS q (K n))

/-- The running sum after `n` tiles. -/
def aC : ℕ → FVec Ideal S2048x256 .f32
  | 0 => broadcast S2048x256 (Scalar.ofBits .f32 0x00000000#32 : Ideal .f32)
  | n + 1 => aS (mC q K n) (mC q K (n + 1)) (scS q (K n)) (K n) (aC n)

theorem start_real : ∃ r : ℝ, Ideal.ofBits .f32 0xF149F2CA#32 = (r : EReal) := by
  refine ⟨-(13234890 * 2 ^ 76 : ℝ), ?_⟩
  simp [Ideal.ofBits, Ideal.ieee, -EReal.coe_mul]

theorem fold_real (s : Fin 256 → ℝ) : ∃ r : ℝ, Finset.fold max (⊥ : EReal) (fun k => (s k : EReal)) Finset.univ = (r : EReal) := by
  refine ⟨Finset.univ.sup' ⟨0, Finset.mem_univ _⟩ s, le_antisymm ?_ ?_⟩
  · rw [Finset.fold_max_le]
    exact ⟨bot_le, fun k _ => EReal.coe_le_coe_iff.mpr (Finset.le_sup' s (Finset.mem_univ k))⟩
  · obtain ⟨k, hk, e⟩ := Finset.exists_mem_eq_sup' (⟨0, Finset.mem_univ _⟩ : (Finset.univ : Finset (Fin 256)).Nonempty) s
    rw [e, Finset.le_fold_max]
    exact Or.inr ⟨k, hk, le_refl _⟩

/-- Over real queries and keys: after `n` tiles the maximum is a real number, and the sum the one over the keys of those tiles. -/
theorem chain_real (i : Fin 2048) (Q : Fin 256 → ℝ) (Kr : ℕ → Fin 256 → ℝ) (hq : ∀ l, q (ix2 i l) = (Q l : EReal))
    (hk : ∀ n < 16, ∀ j l : Fin 256, K n (ix2 j l) = (Kr (256 * n + j.val) l : EReal)) :
    ∀ n ≤ 16, ∃ μ : ℝ, mC q K n (ix2 i 0) = (μ : EReal) ∧ ∀ l, aC q K n (ix2 i l)
      = ((∑ t ∈ Finset.range n, ∑ j : Fin 256, Real.rpow 2 ((∑ c, Q c * Kr (256 * t + j.val) c) - μ) * Kr (256 * t + j.val) l : ℝ) : EReal)
  | 0, _ => by
    obtain ⟨r, hr⟩ := start_real
    refine ⟨r, hr, fun l => ?_⟩
    rw [Finset.sum_range_zero, EReal.coe_zero]
    exact Ideal.ofBits_zero .f32
  | n + 1, hn => by
    obtain ⟨μ, hm, ha⟩ := chain_real i Q Kr hq hk n (by omega)
    have hs : ∀ j : Fin 256, scS q (K n) (ix2 i j) = ((∑ c, Q c * Kr (256 * n + j.val) c : ℝ) : EReal) := fun j => by
      rw [scS_apply]
      simp only [hq, hk n (by omega), ← EReal.coe_mul]
      exact coe_sum _ _
    obtain ⟨r, hr⟩ := fold_real fun j => ∑ c, Q c * Kr (256 * n + j.val) c
    have hm' : mC q K (n + 1) (ix2 i 0) = ((max μ r : ℝ) : EReal) := by
      show mS (mC q K n) (scS q (K n)) (ix2 i 0) = _
      rw [mS_apply, hm, ofBits_neg_inf]
      simp only [hs, hr]
      exact (EReal.coe_strictMono.monotone.map_max (a := μ) (b := r)).symm
    refine ⟨max μ r, hm', fun l => ?_⟩
    show aS (mC q K n) (mC q K (n + 1)) (scS q (K n)) (K n) (aC q K n) (ix2 i l) = _
    rw [aS_apply, hm, hm', ha]
    simp only [hs, hk n (by omega), ← EReal.coe_sub, Ideal.exp2_coe, ← EReal.coe_mul, coe_sum, ← EReal.coe_add]
    refine congrArg _ ?_
    rw [Finset.sum_range_succ, Finset.mul_sum]
    refine congrArg₂ (· + ·) (Finset.sum_congr rfl fun t _ => ?_) rfl
    rw [Finset.mul_sum]
    refine Finset.sum_congr rfl fun j _ => ?_
    rw [← mul_assoc]
    refine congrArg₂ (· * ·) ?_ rfl
    refine (Real.rpow_add (by norm_num) _ _).symm.trans ?_
    exact congrArg _ (by ring)

end chain

end Cert.AF

end
-- ==== Proof.AttFwdPoint.lean ====
/-
  What one grid point of the attention's forward kernel stores. The body works through sixteen tiles of 256 keys and
  carries a running maximum and a running sum of weighted keys, rescaled whenever the maximum grows. Here both are
  functions of the number of tiles read, the stored blocks are read off them after the sixteenth, and over real
  numbers they are what they are meant to be: some number for the maximum, and for the sum that over all keys read
  so far of two to the score less that number, times the key.
-/
module

public import proofs.«01_k».proof.Proof.AttFwdTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AF

open Cert.AttFwdIdeal Cert.AttFwdIdeal.Gen Cert.Att Idealize.ShloMosaic Idealize.ShloMosaic.TcCoe Idealize.SL.Sem

/-! ## The stored blocks -/

/-- The tiles of the key. -/
def tile (x1 : Vec Ideal S4096x256 .bf16) : ℕ → FVec Ideal S256x256 .bf16
  | 0 => View.ld x1 r0_1
  | 1 => View.ld x1 r0_2
  | 2 => View.ld x1 r0_3
  | 3 => View.ld x1 r0_4
  | 4 => View.ld x1 r0_5
  | 5 => View.ld x1 r0_6
  | 6 => View.ld x1 r0_7
  | 7 => View.ld x1 r0_8
  | 8 => View.ld x1 r0_9
  | 9 => View.ld x1 r0_10
  | 10 => View.ld x1 r0_11
  | 11 => View.ld x1 r0_12
  | 12 => View.ld x1 r0_13
  | 13 => View.ld x1 r0_14
  | 14 => View.ld x1 r0_15
  | _ => View.ld x1 r0_16

theorem tile_apply (x1 : Vec Ideal S4096x256 .bf16) (n : ℕ) (hn : n < 16) (j l : Fin 256) :
    tile x1 n (ix2 j l) = x1 (ix2 ⟨256 * n + j.val, by omega⟩ l) := by
  interval_cases n <;> (unfold tile; pointwise)

section stored

variable (x0 : Vec Ideal S1x2048x256 .bf16) (x1 : Vec Ideal S4096x256 .bf16)

/-- The block of queries. -/
abbrev qv : FVec Ideal S2048x256 .bf16 := shapeCast S2048x256 (View.ld x0 r0_0) shapeCasts_S1x2048x256_S2048x256

theorem qv_apply (i : Fin 2048) (l : Fin 256) : qv x0 (ix2 i l) = x0 (ix3 0 i l) := by
  pointwise

theorem pay64_eq : k0_pay64 (F := Ideal) x0 x1 = qv x0 := rfl

theorem pay65_eq : k0_pay65 (F := Ideal) x0 x1 = mC (qv x0) (tile x1) 2 := rfl

theorem pay66_eq : k0_pay66 (F := Ideal) x0 x1 = scS (qv x0) (tile x1 2) := rfl

theorem pay67_eq : k0_pay67 (F := Ideal) x0 x1 = mC (qv x0) (tile x1) 5 := by
  unfold k0_pay67
  rw [pay64_eq, pay65_eq, pay66_eq]
  rfl

theorem pay69_eq : k0_pay69 (F := Ideal) x0 x1 = mC (qv x0) (tile x1) 8 := by
  unfold k0_pay69
  rw [pay64_eq, pay67_eq]
  rfl

theorem pay70_eq : k0_pay70 (F := Ideal) x0 x1 = mC (qv x0) (tile x1) 11 := by
  unfold k0_pay70
  rw [pay64_eq, pay69_eq]
  rfl

theorem pay73_eq : k0_pay73 (F := Ideal) x0 x1 = mC (qv x0) (tile x1) 14 := by
  unfold k0_pay73
  rw [pay64_eq, pay70_eq]
  rfl

theorem pay60_eq : k0_pay60 (F := Ideal) (k0_pay64 x0 x1) (k0_pay73 x0 x1) (View.ld x1 r0_15) (View.ld x1 r0_16) = mC (qv x0) (tile x1) 16 := by
  rw [pay64_eq, pay73_eq]
  rfl

theorem pay11_eq : k0_pay11 (F := Ideal) (View.ld x0 r0_0) (View.ld x1 r0_1) (View.ld x1 r0_2) = aC (qv x0) (tile x1) 2 := rfl

theorem pay21_eq : k0_pay21 (F := Ideal) (qv x0) (mC (qv x0) (tile x1) 2) (aC (qv x0) (tile x1) 2) (k0_pay12 (View.ld x1 r0_3)) (scS (qv x0) (tile x1 2)) (View.ld x1 r0_4) (View.ld x1 r0_5)
    = aC (qv x0) (tile x1) 5 := rfl

theorem pay31_eq : k0_pay31 (F := Ideal) (qv x0) (mC (qv x0) (tile x1) 5) (aC (qv x0) (tile x1) 5) (k0_pay68 x0 x1) (View.ld x1 r0_7) (View.ld x1 r0_8)
    = aC (qv x0) (tile x1) 8 := rfl

theorem pay71_eq : k0_pay71 (F := Ideal) x0 x1 = aC (qv x0) (tile x1) 13 := by
  unfold k0_pay71
  rw [pay64_eq, pay65_eq, pay66_eq, pay67_eq, pay69_eq, pay70_eq, pay11_eq, pay21_eq, pay31_eq]
  rfl

theorem pay61_eq : k0_pay61 (F := Ideal) (k0_pay64 x0 x1) (k0_pay71 x0 x1) (k0_pay72 x0 x1) (k0_pay73 x0 x1) (k0_pay74 x0 x1) (k0_pay75 x0 x1) (View.ld x1 r0_15) (View.ld x1 r0_16)
    = aC (qv x0) (tile x1) 16 := by
  unfold k0_pay74 k0_pay75
  rw [pay64_eq, pay71_eq, pay73_eq, pay70_eq]
  rfl

/-- The column of the sums' lane of ones. -/
def oneLane (a : FVec Ideal S2048x256 .f32) : FVec Ideal S2048x1 .f32 :=
  shapeCast S2048x1 (multiReduction .add [1] S2048 (select (cmpi .eq (iota .tc S2048x256 32 [1] iota_S2048x256_d1_w32) (broadcast S2048x256 160#32)) a
    (broadcast S2048x256 (Scalar.ofBits .f32 0x00000000#32 : Ideal .f32))) 0x00000000#32 reduces_S2048x256_S2048 (.inl rfl) rfl) shapeCasts_S2048_S2048x1

/-- The lane of ones carries the sum of the weights. -/
theorem oneLane_apply (a : FVec Ideal S2048x256 .f32) (i : Fin 2048) : oneLane a (ix2 i 0) = a (ix2 i 160) := by
  have e : oneLane a (ix2 i 0) = (∑ j : Fin 256, Scalar.select (IntOp.cmpi CmpIPredicate.eq (BitVec.ofNat 32 j.val) 160#32) (a (ix2 i j)) (0 : EReal) : EReal) := by
    pointwise [oneLane]
  rw [e, Finset.sum_eq_single (160 : Fin 256)]
  · rfl
  · intro j _ hj
    have hb : ¬ (BitVec.ofNat 32 j.val = 160#32) := fun h => hj (Fin.ext (by
      have h2 := congrArg BitVec.toNat h
      simp only [BitVec.toNat_ofNat] at h2
      have := j.isLt
      show j.val = 160
      omega))
    have hc : IntOp.cmpi CmpIPredicate.eq (BitVec.ofNat 32 j.val) 160#32 = 0#1 := by
      show BitVec.ofBool (BitVec.ofNat 32 j.val == 160#32) = 0#1
      rw [beq_eq_false_iff_ne.mpr hb]
      rfl
    rw [hc]
    rfl
  · exact fun h => absurd (Finset.mem_univ _) h

/-- The stored output before rounding. -/
def ratio (a : FVec Ideal S2048x256 .f32) : FVec Ideal S2048x128 .f32 :=
  divf (extractStridedSlice S2048x128 ![0, 0] a slices_S2048x256_o0_0_S2048x128) (broadcastTo S2048x128 (oneLane a) broadcasts_S2048x1_S2048x128)

theorem ratio_apply (a : FVec Ideal S2048x256 .f32) (i : Fin 2048) (l : Fin 128) :
    ratio a (ix2 i l) = Ideal.div (a (ix2 i ⟨l.val, by omega⟩)) (a (ix2 i 160)) := by
  rw [← oneLane_apply a i]
  unfold ratio
  generalize oneLane a = b
  pointwise

theorem pay62_eq : k0_pay62 (F := Ideal) (k0_pay64 x0 x1) (k0_pay71 x0 x1) (k0_pay72 x0 x1) (k0_pay73 x0 x1) (k0_pay74 x0 x1) (k0_pay75 x0 x1) (View.ld x1 r0_15) (View.ld x1 r0_16)
    = oneLane (aC (qv x0) (tile x1) 16) := by
  unfold k0_pay62
  rw [pay61_eq]
  rfl

theorem pay63_eq : k0_pay63 (F := Ideal) (k0_pay64 x0 x1) (k0_pay71 x0 x1) (k0_pay72 x0 x1) (k0_pay73 x0 x1) (k0_pay74 x0 x1) (k0_pay75 x0 x1) (View.ld x1 r0_15) (View.ld x1 r0_16)
    = ratio (aC (qv x0) (tile x1) 16) := by
  unfold k0_pay63
  rw [pay61_eq, pay62_eq]
  rfl

theorem round_apply (v : FVec Ideal S2048x128 .f32) (i : Fin 2048) (l : Fin 128) : k0_pay1 v (ix3 0 i l) = v (ix2 i l) := by
  pointwise [k0_pay1]

theorem inv_log_two : (Named.named (F := Ideal) κ "inv_ln2" (φ := .f32) 0x3FB8AA3B#32 : EReal) = (((Real.log 2)⁻¹ : ℝ) : EReal) :=
  IdealRules.named_const.ideal_named_scalar _ _ _ _ rfl

theorem lse_apply (v w : FVec Ideal S2048x1 .f32) (i : Fin 2048) :
    k0_pay2 v w (ix3 0 i 0) = (v (ix2 i 0) + Ideal.log (w (ix2 i 0)) * (((Real.log 2)⁻¹ : ℝ) : EReal) : EReal) := by
  have e : k0_pay2 v w (ix3 0 i 0) = (v (ix2 i 0) + Ideal.log (w (ix2 i 0)) * Named.named (F := Ideal) κ "inv_ln2" (φ := .f32) 0x3FB8AA3B#32 : EReal) := by
    pointwise [k0_pay2]
  rw [e, inv_log_two]

/-- The block of the output. -/
theorem out2 (i : Fin 2048) (l : Fin 128) :
    out0_2 (F := Ideal) x0 x1 (ix3 0 i l) = Ideal.div (aC (qv x0) (tile x1) 16 (ix2 i ⟨l.val, by omega⟩)) (aC (qv x0) (tile x1) 16 (ix2 i 160)) := by
  unfold out0_2
  rw [pay63_eq, ← ratio_apply, ← round_apply (ratio _) i l]
  generalize k0_pay1 (F := Ideal) (ratio (aC (qv x0) (tile x1) 16)) = v
  generalize hy : (ix3 0 i l : S1x2048x128.Idx) = y
  canon_tiles x h
  refine congrArg v ?_
  blk_ext

/-- The block of the log-sum-exp. -/
theorem out3 (i : Fin 2048) :
    out0_3 (F := Ideal) x0 x1 (ix3 0 i 0)
      = (mC (qv x0) (tile x1) 16 (ix2 i 0) + Ideal.log (aC (qv x0) (tile x1) 16 (ix2 i 160)) * (((Real.log 2)⁻¹ : ℝ) : EReal) : EReal) := by
  unfold out0_3
  rw [pay60_eq, pay62_eq, ← oneLane_apply (aC _ _ 16) i, ← lse_apply]
  generalize k0_pay2 (F := Ideal) (mC (qv x0) (tile x1) 16) (oneLane (aC (qv x0) (tile x1) 16)) = v
  generalize hy : (ix3 0 i 0 : S1x2048x1.Idx) = y
  canon_tiles x h
  refine congrArg v ?_
  blk_ext

end stored

end Cert.AF

end
-- ==== Proof.AttFwd.lean ====
/-
  The attention's forward kernel against the reference: the output and the log-sum-exp it leaves are the reference's,
  for finite arguments.
-/
module

public import proofs.«01_k».proof.Defs
public import proofs.«01_k».proof.Proof.AttFwdPoint
public import proofs.«01_k».proof.Proof.KernelReal
public import proofs.«01_k».proof.Proof.RefReal
public import proofs.«01_k».proof.Proof.Gen.AttFwdIdeal.Frame
public import proofs.«01_k».proof.Proof.Gen.AttFwdRefIdeal.Run
public import proofs.«01_k».proof.Proof.Gen.AttFwdRefIdeal.Read
public import proofs.«01_k».proof.Proof.Gen.Pre_att_finite
public import Idealize.ShloMosaic.Lib.StableHlo.RunRead

@[expose] public section

set_option maxRecDepth 16384

noncomputable section

namespace Cert.AF

open Cert.AttFwdIdeal Cert.AttFwdIdeal.Gen Cert.Att Idealize.ShloMosaic Idealize.ShloMosaic.TcCoe Idealize.SL.Sem

/-! ## A row of the kernel over real numbers -/

section row

variable (f : Fin 128 → ℝ) (g : Fin 32 → ℝ) (A2 : Fin 4096 → Fin 128 → ℝ) (A3 : Fin 4096 → Fin 32 → ℝ)

/-- The lanes of a key by its number. -/
def keyR (n : ℕ) (l : Fin 256) : ℝ := if h : n < 4096 then lanes (A2 ⟨n, h⟩) (A3 ⟨n, h⟩) (fun n => if n = 160 then 1 else 0) l else 0

theorem keyR_of (k : Fin 4096) (l : Fin 256) : keyR A2 A3 k.val l = lanes (A2 k) (A3 k) (fun n => if n = 160 then 1 else 0) l :=
  dif_pos k.isLt

/-- The score of a query with a key. -/
def scoreR (k : Fin 4096) : ℝ := (∑ l, A2 k l * f l) + ∑ l, A3 k l * g l

/-- In base two. -/
theorem score_two (k : Fin 4096) : ∑ c, lanes f g (fun _ => 0) c / Real.log 2 * keyR A2 A3 k.val c = scoreR f g A2 A3 k / Real.log 2 := by
  simp only [keyR_of]
  rw [scoreR, ← Finset.sum_congr rfl (fun l _ => mul_comm (f l) (A2 k l)), ← Finset.sum_congr rfl (fun l _ => mul_comm (g l) (A3 k l)),
    ← sum_lanes _ _ _ _ (fun n => if n = 160 then 1 else 0), Finset.sum_div]
  exact Finset.sum_congr rfl fun l _ => div_mul_eq_mul_div _ _ _

/-- The factor between the kernel's weights and the exponentials. -/
def fac (s : Fin 4096 → ℝ) (μ : ℝ) : ℝ := Real.exp (mx s - μ * Real.log 2)

theorem weight_two (s : Fin 4096 → ℝ) (μ : ℝ) (k : Fin 4096) : Real.rpow 2 (s k / Real.log 2 - μ) = fac s μ * ex s k := by
  refine (Real.rpow_def_of_pos (by norm_num) _).trans ?_
  rw [fac, ex, ← Real.exp_add]
  congr 1
  have := log_two_pos.ne'
  field_simp
  ring

/-- The running sum after all tiles. -/
theorem sum_row (μ : ℝ) (l : Fin 256) :
    (∑ t ∈ Finset.range 16, ∑ j : Fin 256, Real.rpow 2 ((∑ c, lanes f g (fun _ => 0) c / Real.log 2 * keyR A2 A3 (256 * t + j.val) c) - μ) * keyR A2 A3 (256 * t + j.val) l)
      = fac (scoreR f g A2 A3) μ * ∑ k, ex (scoreR f g A2 A3) k * lanes (A2 k) (A3 k) (fun n => if n = 160 then 1 else 0) l := by
  rw [Finset.sum_range, Finset.mul_sum, Fin.sum_univ_tiles 16 256 rfl]
  refine Finset.sum_congr rfl fun t _ => Finset.sum_congr rfl fun j _ => ?_
  have hk : 256 * t.val + j.val < 4096 := by omega
  have e : (⟨t.val * 256 + j.val, by omega⟩ : Fin 4096) = ⟨256 * t.val + j.val, hk⟩ := Fin.ext (by show t.val * 256 + j.val = 256 * t.val + j.val; omega)
  rw [e, score_two f g A2 A3 ⟨256 * t.val + j.val, hk⟩, weight_two, keyR_of A2 A3 ⟨256 * t.val + j.val, hk⟩, mul_assoc]

theorem fac_pos (s : Fin 4096 → ℝ) (μ : ℝ) : 0 < fac s μ := Real.exp_pos _

theorem one_row (s : Fin 4096 → ℝ) : ∑ k, ex s k * lanes (A2 k) (A3 k) (fun n => if n = 160 then 1 else 0) 160 = zz s :=
  Finset.sum_congr rfl fun k _ => by
    have : lanes (A2 k) (A3 k) (fun n => if n = 160 then 1 else 0) 160 = 1 := by
      unfold lanes
      rw [dif_neg (by decide), dif_neg (by decide)]
      rfl
    rw [this, mul_one]

theorem out_row (s : Fin 4096 → ℝ) (μ : ℝ) (l : Fin 128) :
    (fac s μ * ∑ k, ex s k * lanes (A2 k) (A3 k) (fun n => if n = 160 then 1 else 0) ⟨l.val, by omega⟩) / (fac s μ * zz s) = ∑ k, pr s k * A2 k l := by
  rw [mul_div_mul_left _ _ (fac_pos s μ).ne', Finset.sum_div]
  refine Finset.sum_congr rfl fun k _ => ?_
  have : lanes (A2 k) (A3 k) (fun n => if n = 160 then 1 else 0) ⟨l.val, by omega⟩ = A2 k l := by
    unfold lanes
    exact dif_pos l.isLt
  rw [this, pr, div_mul_eq_mul_div]

theorem lse_row (s : Fin 4096 → ℝ) (μ : ℝ) : μ + Real.log (fac s μ * zz s) * (Real.log 2)⁻¹ = (mx s + Real.log (zz s)) / Real.log 2 := by
  rw [Real.log_mul (fac_pos s μ).ne' (zz_pos s).ne', fac, Real.log_exp]
  have := log_two_pos.ne'
  field_simp
  ring

variable (x0 : Vec Ideal S1x2048x256 .bf16) (x1 : Vec Ideal S4096x256 .bf16) (i : Fin 2048)
variable (h0 : ∀ l, x0 (ix3 0 i l) = ((lanes f g (fun _ => 0) l / Real.log 2 : ℝ) : EReal))
  (h1 : ∀ k l, x1 (ix2 k l) = (lanes (A2 k) (A3 k) (fun n => if n = 160 then 1 else 0) l : EReal))
include h0 h1

theorem chain_row : ∃ μ : ℝ, mC (qv x0) (tile x1) 16 (ix2 i 0) = (μ : EReal) ∧ ∀ l, aC (qv x0) (tile x1) 16 (ix2 i l)
    = ((fac (scoreR f g A2 A3) μ * ∑ k, ex (scoreR f g A2 A3) k * lanes (A2 k) (A3 k) (fun n => if n = 160 then 1 else 0) l : ℝ) : EReal) := by
  obtain ⟨μ, hm, ha⟩ := chain_real (qv x0) (tile x1) i (fun l => lanes f g (fun _ => 0) l / Real.log 2) (keyR A2 A3)
    (fun l => (qv_apply x0 i l).trans (h0 l))
    (fun n hn j l => (tile_apply x1 n hn j l).trans ((h1 _ _).trans (congrArg _ (keyR_of A2 A3 ⟨256 * n + j.val, by omega⟩ l).symm))) 16 le_rfl
  exact ⟨μ, hm, fun l => (ha l).trans (congrArg _ (sum_row f g A2 A3 μ l))⟩

theorem out2_real (l : Fin 128) : out0_2 (F := Ideal) x0 x1 (ix3 0 i l) = ((∑ k, pr (scoreR f g A2 A3) k * A2 k l : ℝ) : EReal) := by
  obtain ⟨μ, -, ha⟩ := chain_row f g A2 A3 x0 x1 i h0 h1
  rw [out2, ha, ha, one_row, div_real _ _ (mul_pos (fac_pos _ _) (zz_pos _)).ne', out_row]

theorem out3_real : out0_3 (F := Ideal) x0 x1 (ix3 0 i 0)
    = (((mx (scoreR f g A2 A3) + Real.log (zz (scoreR f g A2 A3))) / Real.log 2 : ℝ) : EReal) := by
  obtain ⟨μ, hm, ha⟩ := chain_row f g A2 A3 x0 x1 i h0 h1
  rw [out3, hm, ha, one_row, Ideal.log_coe, if_neg (not_le.mpr (mul_pos (fac_pos _ _) (zz_pos _))), ← EReal.coe_mul, ← EReal.coe_add, lse_row]

end row

/-! ## The arrays -/

section values

variable (m : (ℓ : Loc nD τ sig) → Buf (Elt Ideal) ℓ) (c : Dev nD)

/-- The arguments of the program on a device. -/
abbrev a0 : FVec Ideal S4096x16x128 .f32 := m ((c.tc : Thread nD τ).loc main_arg0)
abbrev a1 : FVec Ideal S4096x16x32 .f32 := m ((c.tc : Thread nD τ).loc main_arg1)
abbrev a2 : FVec Ideal S4096x128 .f32 := m ((c.tc : Thread nD τ).loc main_arg2)
abbrev a3 : FVec Ideal S4096x32 .f32 := m ((c.tc : Thread nD τ).loc main_arg3)

/-- The query the kernel is given. -/
theorem V_main_v6 : (V m c main_v6 : FVec Ideal S16x4096x256 .bf16) = truncf .bf16 (queryH (a0 m c) (a1 m c)) bitsLt_bf16_f32 := by
  unfold_abbrev_sides
  after_reads_simp
  rfl

/-- The key it is given. -/
theorem V_main_v10 : (V m c main_v10 : FVec Ideal S4096x256 .bf16) = truncf .bf16 (keyH (a2 m c) (a3 m c)) bitsLt_bf16_f32 := by
  unfold_abbrev_sides
  after_reads_simp
  rfl

/-- The block indices of the windows at a grid point. -/
theorem idx : ∀ t : Fin cfg0.N, win0_0.index t = ![t.val / 2, t.val % 2, 0] ∧ win0_1.index t = ![0, 0]
    ∧ win0_2.index t = ![t.val / 2, t.val % 2, 0] ∧ win0_3.index t = ![t.val / 2, t.val % 2, 0] :=
  (by decide +kernel : ∀ t : Fin grid0.N, _)

theorem lt_32 (t : Fin cfg0.N) : t.val < 32 := lt_of_lt_of_eq t.isLt (show cfg0.N = 32 from N_0)

/-- The head of a grid point. -/
def hd (t : Fin cfg0.N) : Fin 16 := ⟨t.val / 2, by have := lt_32 t; omega⟩

/-- The query that is row `q` of a grid point's block. -/
def row (t : Fin cfg0.N) (q : Fin 2048) : Fin 4096 := ⟨t.val % 2 * 2048 + q.val, by have := q.isLt; omega⟩

theorem iblk0 (t : Fin cfg0.N) (q : Fin 2048) (l : Fin 256) : iblk m c 0 t (ix3 0 q l) = V m c main_v6 (ix3 (hd t) (row t q) l) := by
  blk_ext [iblk, idx t, hd, row]

theorem iblk1 (t : Fin cfg0.N) (k : Fin 4096) (l : Fin 256) : iblk m c 1 t (ix2 k l) = V m c main_v10 (ix2 k l) := by
  blk_ext [iblk, idx t]

variable (A0 : Fin 4096 → Fin 16 → Fin 128 → ℝ) (A1 : Fin 4096 → Fin 16 → Fin 32 → ℝ) (A2 : Fin 4096 → Fin 128 → ℝ)
  (A3 : Fin 4096 → Fin 32 → ℝ)
variable (e0 : ∀ q h l, a0 m c (ix3 q h l) = (A0 q h l : EReal)) (e1 : ∀ q h l, a1 m c (ix3 q h l) = (A1 q h l : EReal))
  (e2 : ∀ k l, a2 m c (ix2 k l) = (A2 k l : EReal)) (e3 : ∀ k l, a3 m c (ix2 k l) = (A3 k l : EReal))

include e0 e1 in
theorem query_real (t : Fin cfg0.N) (q : Fin 2048) (l : Fin 256) :
    iblk m c 0 t (ix3 0 q l) = ((lanes (A0 (row t q) (hd t)) (A1 (row t q) (hd t)) (fun _ => 0) l / Real.log 2 : ℝ) : EReal) :=
  (iblk0 m c t q l).trans ((congrFun (V_main_v6 m c) _).trans (queryH_real _ _ A0 A1 e0 e1 _ _ l))

include e2 e3 in
theorem key_real (t : Fin cfg0.N) (k : Fin 4096) (l : Fin 256) :
    iblk m c 1 t (ix2 k l) = (lanes (A2 k) (A3 k) (fun n => if n = 160 then 1 else 0) l : EReal) :=
  (iblk1 m c t k l).trans ((congrFun (V_main_v10 m c) _).trans (keyH_real _ _ A2 A3 e2 e3 k l))

/-- The output over real arguments. -/
def G2 : S16x4096x128.Idx → EReal := fun i => ((∑ k, pr (scr A0 A1 A2 A3 (i 0) (i 1)) k * A2 k (i 2) : ℝ) : EReal)

/-- The log-sum-exp over real arguments. -/
def G3 : S16x4096x1.Idx → EReal := fun i => (((mx (scr A0 A1 A2 A3 (i 0) (i 1)) + Real.log (zz (scr A0 A1 A2 A3 (i 0) (i 1)))) / Real.log 2 : ℝ) : EReal)

include e0 e1 e2 e3

theorem point2 (t : Fin cfg0.N) (y : S1x2048x128.Idx) :
    out0_2 (F := Ideal) (iblk m c 0 t) (iblk m c 1 t) y = G2 A0 A1 A2 A3 (ix3 (hd t) (row t (y 1)) (y 2)) := by
  have hy : y = ix3 0 (y 1) (y 2) := (eq_ix3 y).trans (congrArg (fun a => ix3 a (y 1) (y 2)) (Fin.ext (by have h : (y 0).val < 1 := (y 0).isLt; show (y 0).val = 0; omega)))
  refine (congrArg (out0_2 (F := Ideal) (iblk m c 0 t) (iblk m c 1 t)) hy).trans ?_
  exact out2_real (A0 (row t (y 1)) (hd t)) (A1 (row t (y 1)) (hd t)) A2 A3 _ _ (y 1) (query_real m c A0 A1 e0 e1 t (y 1)) (key_real m c A2 A3 e2 e3 t) (y 2)

theorem point3 (t : Fin cfg0.N) (y : S1x2048x1.Idx) :
    out0_3 (F := Ideal) (iblk m c 0 t) (iblk m c 1 t) y = G3 A0 A1 A2 A3 (ix3 (hd t) (row t (y 1)) (y 2)) := by
  have hy : y = ix3 0 (y 1) 0 := (eq_ix3 y).trans (congrArg₂ (fun a b => ix3 a (y 1) b) (Fin.ext (by have h : (y 0).val < 1 := (y 0).isLt; show (y 0).val = 0; omega))
    (Fin.ext (by have h : (y 2).val < 1 := (y 2).isLt; show (y 2).val = 0; omega)))
  refine (congrArg (out0_3 (F := Ideal) (iblk m c 0 t) (iblk m c 1 t)) hy).trans ?_
  exact out3_real (A0 (row t (y 1)) (hd t)) (A1 (row t (y 1)) (hd t)) A2 A3 _ _ (y 1) (query_real m c A0 A1 e0 e1 t (y 1)) (key_real m c A2 A3 e2 e3 t)

theorem arr2 : (dats m 0 c).arrAt 2 cfg0.N = G2 A0 A1 A2 A3 := by
  refine (dats m 0 c).arrAt_eq_of_covers 2 _ (by decide +kernel) fun t hf y => ?_
  blk_simp
  rw [after0_2]
  refine (point2 m c A0 A1 A2 A3 e0 e1 e2 e3 t y).trans (congrArg (G2 A0 A1 A2 A3) ?_)
  blk_ext [idx t, hd, row]

theorem arr3 : (dats m 0 c).arrAt 3 cfg0.N = G3 A0 A1 A2 A3 := by
  refine (dats m 0 c).arrAt_eq_of_covers 3 _ (by decide +kernel) fun t hf y => ?_
  blk_simp
  rw [after0_3]
  refine (point3 m c A0 A1 A2 A3 e0 e1 e2 e3 t y).trans (congrArg (G3 A0 A1 A2 A3) ?_)
  blk_ext [idx t, hd, row]

end values

/-! ## The reference -/

section reference

open Cert.AttFwdRefIdeal.Read

variable (x0 : FVec Ideal S4096x16x128 .f32) (x1 : FVec Ideal S4096x16x32 .f32) (x2 : FVec Ideal S4096x128 .f32) (x3 : FVec Ideal S4096x32 .f32)

theorem ref_lse : (val_main_v16 (F := Ideal) x0 x1 x2 x3 : FVec Ideal S16x4096x1 .f32) = lseH (scoreH x0 x1 x2 x3) := rfl

theorem ref_weight : (val_main_v32 (F := Ideal) x0 x1 x2 x3 : FVec Ideal Cert.AttFwdRefIdeal.S16x4096x4096 .f32) = Cert.ReferenceIdeal.Read.val_main_v29 (F := Ideal) x0 x1 x2 x3 := rfl

theorem ref_out (h : Fin 16) (q : Fin 4096) (l : Fin 128) :
    val_main_v36 (F := Ideal) x0 x1 x2 x3 (ix3 h q l) = (∑ k : Fin 4096, x2 (ix2 k l) * Cert.ReferenceIdeal.Read.val_main_v29 (F := Ideal) x0 x1 x2 x3 (ix3 h q k) : EReal) := by
  rw [← ref_weight]
  unfold val_main_v36 val_main_v35 val_main_v34 val_main_v33
  generalize val_main_v32 (F := Ideal) x0 x1 x2 x3 = y0
  pointwise

variable (A0 : Fin 4096 → Fin 16 → Fin 128 → ℝ) (A1 : Fin 4096 → Fin 16 → Fin 32 → ℝ) (A2 : Fin 4096 → Fin 128 → ℝ)
  (A3 : Fin 4096 → Fin 32 → ℝ)
variable (e0 : ∀ q h l, x0 (ix3 q h l) = (A0 q h l : EReal)) (e1 : ∀ q h l, x1 (ix3 q h l) = (A1 q h l : EReal))
  (e2 : ∀ k l, x2 (ix2 k l) = (A2 k l : EReal)) (e3 : ∀ k l, x3 (ix2 k l) = (A3 k l : EReal))
include e0 e1 e2 e3

theorem ref_out_real (h : Fin 16) (q : Fin 4096) (l : Fin 128) :
    val_main_v36 (F := Ideal) x0 x1 x2 x3 (ix3 h q l) = ((∑ k, pr (scr A0 A1 A2 A3 h q) k * A2 k l : ℝ) : EReal) := by
  rw [ref_out]
  simp only [AttRef.wt_real x0 x1 x2 x3 A0 A1 A2 A3 e0 e1 e2 e3, e2, ← EReal.coe_mul, coe_sum]
  exact congrArg _ (Finset.sum_congr rfl fun k _ => mul_comm (A2 k l) (pr (scr A0 A1 A2 A3 h q) k))

theorem ref2 : val_main_v36 (F := Ideal) x0 x1 x2 x3 = G2 A0 A1 A2 A3 := by
  funext i
  rw [eq_ix3 i]
  exact ref_out_real x0 x1 x2 x3 A0 A1 A2 A3 e0 e1 e2 e3 (i 0) (i 1) (i 2)

theorem ref3 : val_main_v16 (F := Ideal) x0 x1 x2 x3 = G3 A0 A1 A2 A3 := by
  funext i
  have hi : i = ix3 (i 0) (i 1) 0 := (eq_ix3 i).trans (congrArg (fun b => ix3 (i 0) (i 1) b) (Fin.ext (by have h : (i 2).val < 1 := (i 2).isLt; show (i 2).val = 0; omega)))
  refine (congrArg (val_main_v16 (F := Ideal) x0 x1 x2 x3) hi).trans ?_
  exact (congrFun (ref_lse x0 x1 x2 x3) _).trans (lseH_real x0 x1 x2 x3 A0 A1 A2 A3 e0 e1 e2 e3 (i 0) (i 1))

end reference

/-! ## The claims -/

/-- The precondition: every entry of every argument is a real number. -/
theorem real_args (x0 : FVec Ideal S4096x16x128 .f32) (x1 : FVec Ideal S4096x16x32 .f32) (x2 : FVec Ideal S4096x128 .f32) (x3 : FVec Ideal S4096x32 .f32)
    (e : Cert.Pre_att_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h := congrFun e ix0
  obtain ⟨h, h3⟩ := and_one h
  obtain ⟨h, h2⟩ := and_one h
  obtain ⟨h0, h1⟩ := and_one h
  exact ⟨real_of_all x0 _ _ _ _ h0, real_of_all x1 _ _ _ _ h1, real_of_all x2 _ _ _ _ h2, real_of_all x3 _ _ _ _ h3⟩

/-- For finite arguments the two arrays are the reference's output and log-sum-exp. -/
theorem arrays_eq (m : (ℓ : Loc nD τ sig) → Buf (Elt Ideal) ℓ) (c : Dev nD)
    (e : Cert.Pre_att_finite.fn (F := Ideal) (a0 m c) (a1 m c) (a2 m c) (a3 m c) = fun _ => 1#1) :
    (dats m 0 c).arrAt 2 cfg0.N = Cert.AttFwdRefIdeal.Read.val_main_v36 (F := Ideal) (a0 m c) (a1 m c) (a2 m c) (a3 m c)
      ∧ (dats m 0 c).arrAt 3 cfg0.N = Cert.AttFwdRefIdeal.Read.val_main_v16 (F := Ideal) (a0 m c) (a1 m c) (a2 m c) (a3 m c) := by
  obtain ⟨r0, r1, r2, r3⟩ := real_args _ _ _ _ e
  choose A0 e0 using r0
  choose A1 e1 using r1
  choose A2 e2 using r2
  choose A3 e3 using r3
  exact ⟨(arr2 m c (fun q h l => A0 (ix3 q h l)) (fun q h l => A1 (ix3 q h l)) (fun k l => A2 (ix2 k l)) (fun k l => A3 (ix2 k l))
      (fun _ _ _ => e0 _) (fun _ _ _ => e1 _) (fun _ _ => e2 _) (fun _ _ => e3 _)).trans
      (ref2 _ _ _ _ _ _ _ _ (fun _ _ _ => e0 _) (fun _ _ _ => e1 _) (fun _ _ => e2 _) (fun _ _ => e3 _)).symm,
    (arr3 m c (fun q h l => A0 (ix3 q h l)) (fun q h l => A1 (ix3 q h l)) (fun k l => A2 (ix2 k l)) (fun k l => A3 (ix2 k l))
      (fun _ _ _ => e0 _) (fun _ _ _ => e1 _) (fun _ _ => e2 _) (fun _ _ => e3 _)).trans
      (ref3 _ _ _ _ _ _ _ _ (fun _ _ _ => e0 _) (fun _ _ _ => e1 _) (fun _ _ => e2 _) (fun _ _ => e3 _)).symm⟩

/-- The reference's run keeps its arguments, and it has no semaphores. -/
theorem frame_ref : Cert.quiescent_AttFwdRefIdeal := by
  intro m ρ _
  exact (θ_run Cert.AttFwdRefIdeal.defs _ _).mono (fun r h => ⟨fun c => (h c).2.2, sem_eq_zero_of_no_sems (by decide) r.2⟩)
    (Cert.AttFwdRefIdeal.Value.run m ρ)

/-- The inverse of the logarithm of two is the constant's exact value, and its rounding the one printed. -/
theorem preserves : Cert.preserves_AttFwd_AttFwdIdeal :=
  IdealRules.named_const.statement Cert.AttFwdIdeal.κ "inv_ln2" .f32 0x3FB8AA3B#32 (((Real.log 2)⁻¹ : ℝ) : EReal) rfl

theorem algebraic : Cert.algebraic_AttFwdIdeal_AttFwdRefIdeal_pre_att_finite := by
  intro m g m' g' hpre hagree
  refine ⟨_, _, Cert.AttFwdIdeal.Value.run_blocks m g, ?_⟩
  refine (θ_run Cert.AttFwdRefIdeal.defs _ _).mono (fun r h c => ?_) (Cert.AttFwdRefIdeal.Value.run m' g')
  obtain ⟨h0, h1, hk⟩ := h c
  obtain ⟨g0, g1, g2, g3⟩ := hagree c
  obtain ⟨k2, k3⟩ := arrays_eq m c (hpre c)
  refine ⟨h0.trans ((Cert.AttFwdRefIdeal.Read.val_main_v36_eq _ _ _ _).trans ?_), h1.trans ((Cert.AttFwdRefIdeal.Read.val_main_v16_eq _ _ _ _).trans ?_), hk⟩
  · rw [g0, g1, g2, g3]; exact k2.symm
  · rw [g0, g1, g2, g3]; exact k3.symm

end Cert.AF

end
-- ==== Proof.MlaUvBwd.lean ====
/-
  The gradient of the value projection. The kernel lays two heads side by side on 128 lanes, a head's weight having
  zeros in the lanes of the other, and takes the rows in eight tiles of 512. The arrays it leaves are the reference's
  gradient by the projected values and its gradient by the weight on the shared lanes, for any arguments.
-/
module

public import proofs.«01_k».proof.Defs
public import proofs.«01_k».proof.Proof.Gen.MlaUvBwdIdeal.Value
public import proofs.«01_k».proof.Proof.Gen.MlaUvBwdRefIdeal.Run
public import proofs.«01_k».proof.Proof.Gen.MlaUvBwdRefIdeal.Read
public import proofs.«01_k».proof.Proof.Block
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.ValBack

open Cert.MlaUvBwdIdeal Cert.MlaUvBwdIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x16x128 .f32 := m ((c.tc : Thread nD τ).loc main_arg0)
abbrev a1 : FVec Ideal S128x16x64 .f32 := m ((c.tc : Thread nD τ).loc main_arg1)
abbrev a2 : FVec Ideal S4096x1024 .f32 := m ((c.tc : Thread nD τ).loc main_arg2)

/-- Lane `v` of the 128 lanes a head shares. -/
def lane (h : Fin 16) (v : Fin 128) : Fin 1024 := ⟨h.val / 2 * 128 + v.val, by have := h.isLt; have := v.isLt; omega⟩

/-- A head's weight on the shared lanes. -/
def onLanes (x : FVec Ideal S128x16x64 .f32) (h : Fin 16) (d v : Fin 128) : EReal :=
  if h.val % 2 = 0 then (if e : v.val < 64 then x (ix3 d h ⟨v.val, e⟩) else 0)
  else (if e : v.val < 64 then 0 else x (ix3 d h ⟨v.val - 64, by have := v.isLt; omega⟩))

theorem V_main_v1 : (V m c main_v1 : FVec Ideal S16x4096x128 .bf16) = truncf .bf16 (transpose S16x4096x128 [1, 0, 2] (a0 m c) transposes_S4096x16x128_S16x4096x128_1_0_2) bitsLt_bf16_f32 := by
  unfold_abbrev_sides
  after_reads_simp

theorem V_main_v14 : (V m c main_v14 : FVec Ideal S4096x1024 .bf16) = truncf .bf16 (a2 m c) bitsLt_bf16_f32 := by
  unfold_abbrev_sides
  after_reads_simp

theorem V_main_v10 : (V m c main_v10 : FVec Ideal S16x128x128 .bf16) =
    concatenate S16x128x128 2 [⟨S16x128x64, truncf .bf16 (transpose S16x128x64 [1, 0, 2] (a1 m c) transposes_S128x16x64_S16x128x64_1_0_2) bitsLt_bf16_f32⟩,
      ⟨S16x128x64, broadcastInDim S16x128x64 ![] bcast_S_S16x128x64 (constant S_ .bf16 0x0000#16 : FVec Ideal S_ .bf16)⟩] concatenates_S16x128x64_S16x128x64_S16x128x128_d2 := by
  unfold_abbrev_sides
  after_reads_simp
  rfl

theorem V_main_v12 : (V m c main_v12 : FVec Ideal S16x128x128 .bf16) =
    concatenate S16x128x128 2 [⟨S16x128x64, broadcastInDim S16x128x64 ![] bcast_S_S16x128x64 (constant S_ .bf16 0x0000#16 : FVec Ideal S_ .bf16)⟩,
      ⟨S16x128x64, truncf .bf16 (transpose S16x128x64 [1, 0, 2] (a1 m c) transposes_S128x16x64_S16x128x64_1_0_2) bitsLt_bf16_f32⟩] concatenates_S16x128x64_S16x128x64_S16x128x128_d2 := by
  unfold_abbrev_sides
  after_reads_simp
  rfl

/-- The divisor of the remainder. -/
def two : IVec S_ 32 := select (cmpi .eq (constantI S_ 32 2#32) (constantI S_ 32 0#32)) (constantI S_ 32 1#32) (constantI S_ 32 2#32)

/-- The head's remainder by two, in the sign of the dividend. -/
def rem : IVec S16 32 := Host.remsi (iotaInDim S16 32 0) (broadcastInDim S16 ![] bcast_S_S16 two)

/-- The mark of the even heads. -/
def even : IVec S16 1 :=
  cmpi .eq (select (andi (cmpi .ne (cmpi .slt rem (broadcastInDim S16 ![] bcast_S_S16 (constantI S_ 32 0#32)))
      (broadcastInDim S16 ![] bcast_S_S16 (cmpi .slt two (constantI S_ 32 0#32))))
      (cmpi .ne rem (broadcastInDim S16 ![] bcast_S_S16 (constantI S_ 32 0#32))))
    (addi rem (broadcastInDim S16 ![] bcast_S_S16 two)) rem) (broadcastInDim S16 ![] bcast_S_S16 (constantI S_ 32 0#32))

theorem even_apply : ∀ h : Fin 16, even (ix1 h) = if h.val % 2 = 0 then 1#1 else 0#1 := by decide +kernel

theorem V_main_v5_eq : (V m c main_v5 : IVec S16 1) = even := by
  unfold_abbrev_sides
  after_reads_simp
  rfl

theorem V_main_v5 (h : Fin 16) : (V m c main_v5 : IVec S16 1) (ix1 h) = if h.val % 2 = 0 then 1#1 else 0#1 :=
  (congrFun (V_main_v5_eq m c) _).trans (even_apply h)

set_option maxHeartbeats 2000000 in
theorem V_main_v13_eq : (V m c main_v13 : FVec Ideal S16x128x128 .bf16) =
    select (broadcastInDim S16x128x128 ![0, 1, 2] bcast_S16x1x1_S16x128x128_0_1_2 (broadcastInDim S16x1x1 ![0] bcast_S16_S16x1x1_0 (V m c main_v5)))
      (V m c main_v10) (V m c main_v12) := by
  unfold_abbrev_sides
  after_reads_simp
  rfl

/-- A head's weight on the lanes. -/
theorem V_main_v13 (h : Fin 16) (d v : Fin 128) : V m c main_v13 (ix3 h d v) = onLanes (a1 m c) h d v := by
  rw [V_main_v13_eq, V_main_v10, V_main_v12]
  pointwise [onLanes]
  have e := V_main_v5 m c h
  by_cases p : h.val % 2 = 0
  · rw [if_pos p] at e
    rw [if_pos p]
    simp only [Scalar.select]
    exact if_pos e
  · rw [if_neg p] at e
    rw [if_neg p]
    simp only [Scalar.select]
    exact if_neg (by rw [e]; decide)

theorem idx : ∀ t : Fin cfg0.N, win0_0.index t = ![0, t.val, 0] ∧ win0_1.index t = ![0, 0, 0] ∧ win0_2.index t = ![t.val, 0] ∧ win0_3.index t = ![0, t.val, 0] ∧ win0_4.index t = ![0, 0, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (h : Fin 16) (r : Fin 512) (d : Fin 128) : iblk m c 0 t (ix3 h r d) = a0 m c (ix3 (row t r) h d) := by
  refine Eq.trans (b := V m c main_v1 (ix3 h (row t r) d)) (by blk_ext [iblk, idx t, row]) ?_
  rw [V_main_v1]
  pointwise []

theorem iblk1 (t : Fin cfg0.N) (h : Fin 16) (d v : Fin 128) : iblk m c 1 t (ix3 h d v) = onLanes (a1 m c) h d v := by
  refine Eq.trans ?_ (V_main_v13 m c h d v)
  blk_ext [iblk, idx t]

theorem iblk2 (t : Fin cfg0.N) (r : Fin 512) (v : Fin 1024) : iblk m c 2 t (ix2 r v) = a2 m c (ix2 (row t r) v) := by
  refine Eq.trans ?_ (congrFun (V_main_v14 m c) (ix2 (row t r) v))
  blk_ext [iblk, idx t, row]

/-- The block of the input's gradient. -/
def back (x1 : FVec Ideal S16x128x128 .bf16) (x2 : FVec Ideal S512x1024 .bf16) (y : S16x512x128.Idx) : EReal :=
  ∑ v : Fin 128, x2 (ix2 (y 1) (lane (y 0) v)) * x1 (ix3 (y 0) (y 2) v)

/-- What a grid point adds to the weight's gradient. -/
def add (x0 : FVec Ideal S16x512x128 .bf16) (x2 : FVec Ideal S512x1024 .bf16) (y : S16x128x128.Idx) : EReal :=
  ∑ r : Fin 512, x0 (ix3 (y 0) r (y 1)) * x2 (ix2 r (lane (y 0) (y 2)))

set_option maxHeartbeats 1000000 in
theorem outA3 (c : Dev nD) (t : Fin cfg0.N) (x0 : FVec Ideal S16x512x128 .bf16) (x1 : FVec Ideal S16x128x128 .bf16) (x2 : FVec Ideal S512x1024 .bf16) (h0 : t.val % 8 = 0) (y) :
    out0_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) x0 x1 x2 y = back x1 x2 y := by
  frame_out
  canon_tiles x h
  all_goals
    open_payloads
    pointwise [back, lane, ix3, ix2]
    reads_congr <;> blk_ext

set_option maxHeartbeats 1000000 in
theorem outB3 (c : Dev nD) (t : Fin cfg0.N) (x0 : FVec Ideal S16x512x128 .bf16) (x1 : FVec Ideal S16x128x128 .bf16) (x2 : FVec Ideal S512x1024 .bf16) (xo : FVec Ideal S16x128x128 .f32) (h0 : ¬t.val % 8 = 0) (y) :
    out0_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) x0 x1 x2 xo y = back x1 x2 y := by
  frame_out
  canon_tiles x h
  all_goals
    open_payloads
    pointwise [back, lane, ix3, ix2]
    reads_congr <;> blk_ext

set_option maxHeartbeats 1000000 in
theorem outA4 (c : Dev nD) (t : Fin cfg0.N) (x0 : FVec Ideal S16x512x128 .bf16) (x1 : FVec Ideal S16x128x128 .bf16) (x2 : FVec Ideal S512x1024 .bf16) (h0 : t.val % 8 = 0) (y) :
    out0_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) x0 x1 x2 y = add x0 x2 y := by
  frame_open
  simp (disch := decide) only [↓ View.readCov_skip, ↓ View.readCov_cons_toLoadRect, ↓ View.readCov_fill]
  frame_out
  refine (Cert.Att.canon_over [_] y [_, _, _, _, _, _, _, _, _, _, _, _, _, _, _, _] (View.cover_of_tiledL _ ![1, 128, 128] (by rfl) y)).trans ?_
  canon_tiles x h
  all_goals
    open_payloads
    pointwise [add, lane, ix3, ix2]
    reads_congr <;> blk_ext

set_option maxHeartbeats 1000000 in
theorem outB4 (c : Dev nD) (t : Fin cfg0.N) (x0 : FVec Ideal S16x512x128 .bf16) (x1 : FVec Ideal S16x128x128 .bf16) (x2 : FVec Ideal S512x1024 .bf16) (xo : FVec Ideal S16x128x128 .f32) (h0 : ¬t.val % 8 = 0) (y) :
    out0_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) x0 x1 x2 xo y = (xo y + add x0 x2 y : EReal) := by
  frame_out
  canon_tiles x h
  all_goals
    open_payloads
    pointwise [add, lane, ix3, ix2]
    reads_congr <;> blk_ext

/-- The gradient by the projected values, heads first. -/
def G3 (x1 : FVec Ideal S128x16x64 .f32) (x2 : FVec Ideal S4096x1024 .f32) : S16x4096x128.Idx → EReal :=
  fun i => ∑ v : Fin 128, x2 (ix2 (i 1) (lane (i 0) v)) * onLanes x1 (i 0) (i 2) v

/-- The gradient by the weight on the shared lanes. -/
def G4 (x0 : FVec Ideal S4096x16x128 .f32) (x2 : FVec Ideal S4096x1024 .f32) : S16x128x128.Idx → EReal :=
  fun i => ∑ s : Fin 4096, x0 (ix3 s (i 0) (i 1)) * x2 (ix2 s (lane (i 0) (i 2)))

theorem point3 (t : Fin cfg0.N) (y : S16x512x128.Idx) : (outsAt0 m c t.val t.isLt).1 y = back (iblk m c 1 t) (iblk m c 2 t) y := by
  by_cases h0 : t.val % 8 = 0
  · rw [outsAt0_A m c t h0]
    dsimp only
    rw [outA3 (h0 := h0)]
  · rw [outsAt0_B m c t h0]
    dsimp only
    rw [outB3 (h0 := h0)]

theorem back_eq (t : Fin cfg0.N) (h : Fin 16) (r : Fin 512) (d : Fin 128) :
    back (iblk m c 1 t) (iblk m c 2 t) (ix3 h r d) = G3 (a1 m c) (a2 m c) (ix3 h (row t r) d) :=
  Finset.sum_congr rfl fun v _ => congrArg₂ (· * ·) (iblk2 m c t r (lane h v)) (iblk1 m c t h d v)

theorem arr3 : (dats m 0 c).arrAt 3 cfg0.N = G3 (a1 m c) (a2 m c) := by
  refine (dats m 0 c).arrAt_eq_of_covers 3 _ (by decide +kernel) fun t hf y => ?_
  blk_simp
  rw [after0_3]
  refine (point3 m c t y).trans (((congrArg (back (iblk m c 1 t) (iblk m c 2 t)) (eq_ix3 y)).trans (back_eq m c t (y 0) (y 1) (y 2))).trans (congrArg (G3 (a1 m c) (a2 m c)) ?_))
  blk_ext [idx t, row]

/-- The share of a grid point. -/
def part (t : Fin cfg0.N) (i : S16x128x128.Idx) : EReal := add (iblk m c 0 t) (iblk m c 2 t) i

theorem acc (t : Fin cfg0.N) (hr : t.val % 8 = 7) (i : S16x128x128.Idx) :
    (outsAt0 m c t.val t.isLt).2 i = (0 + ∑ s : Fin 8, part m c ⟨8 * (t.val / 8) + s.val, Pipeline.run_point_lt_of_flush t hr s⟩ i : EReal) :=
  Pipeline.eq_sum_fin_of_reset_step_apply_of_flush (M := EReal) (fun n h => (outsAt0 m c n h).2) 8 (fun _ => 0) (part m c)
    (fun t h i => by
      show (outsAt0 m c t.val t.isLt).2 i = (0 + part m c t i : EReal)
      rw [outsAt0_A m c t h, zero_add]
      dsimp only
      rw [outA4 (h0 := h)]
      rfl)
    (fun t h i => by
      rw [outsAt0_B m c t h]
      dsimp only
      rw [outB4 (h0 := h)]
      rfl) t hr i

theorem parts (t : Fin cfg0.N) (hr : t.val % 8 = 7) (i : S16x128x128.Idx) :
    (∑ s : Fin 8, part m c ⟨8 * (t.val / 8) + s.val, Pipeline.run_point_lt_of_flush t hr s⟩ i : EReal) = G4 (a0 m c) (a2 m c) i := by
  unfold G4
  rw [Fin.sum_univ_tiles 8 512 rfl]
  refine Finset.sum_congr rfl fun s _ => ?_
  unfold part add
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact congrArg₂ (· * ·) ((iblk0 m c _ (i 0) r (i 1)).trans (congrArg (fun q => a0 m c (ix3 q (i 0) (i 1))) e))
    ((iblk2 m c _ r (lane (i 0) (i 2))).trans (congrArg (fun q => a2 m c (ix2 q (lane (i 0) (i 2)))) e))

theorem arr4 : (dats m 0 c).arrAt 4 cfg0.N = G4 (a0 m c) (a2 m c) := by
  refine (dats m 0 c).arrAt_eq_of_covers 4 _ (by decide +kernel) fun t hf y => ?_
  have hr := (flush0_4 t).mp hf
  blk_simp
  rw [after0_4]
  refine (acc m c t hr y).trans ((zero_add _).trans ((parts m c t hr y).trans (congrArg (G4 (a0 m c) (a2 m c)) ?_)))
  blk_ext [idx t]

/-- A head's 64 columns of a row. -/
def col (h : Fin 16) (v : Fin 64) : Fin 1024 := ⟨h.val * 64 + v.val, by have := h.isLt; have := v.isLt; omega⟩

/-- The lanes of the other head add nothing. -/
theorem sum_lanes (x1 : FVec Ideal S128x16x64 .f32) (x2 : FVec Ideal S4096x1024 .f32) (h : Fin 16) (s : Fin 4096) (d : Fin 128) :
    (∑ v : Fin 128, x2 (ix2 s (lane h v)) * onLanes x1 h d v : EReal) = ∑ v : Fin 64, x2 (ix2 s (col h v)) * x1 (ix3 d h v) := by
  rw [Fin.sum_univ_add (a := 64) (b := 64) (fun v : Fin (64 + 64) => x2 (ix2 s (lane h v)) * onLanes x1 h d v)]
  by_cases p : h.val % 2 = 0
  · have h0 : (∑ v : Fin 64, x2 (ix2 s (lane h (Fin.natAdd 64 v))) * onLanes x1 h d (Fin.natAdd 64 v) : EReal) = 0 :=
      Finset.sum_eq_zero fun v _ => by
        have e : ¬ (Fin.natAdd 64 v : Fin (64 + 64)).val < 64 := by simp
        rw [show onLanes x1 h d (Fin.natAdd 64 v) = 0 from (if_pos p).trans (dif_neg e), mul_zero]
    rw [h0, add_zero]
    refine Finset.sum_congr rfl fun v _ => congrArg₂ (· * ·) (congrArg (fun q => x2 (ix2 s q)) (Fin.ext ?_)) ((if_pos p).trans (dif_pos v.isLt))
    show h.val / 2 * 128 + v.val = h.val * 64 + v.val
    omega
  · have h0 : (∑ v : Fin 64, x2 (ix2 s (lane h (Fin.castAdd 64 v))) * onLanes x1 h d (Fin.castAdd 64 v) : EReal) = 0 :=
      Finset.sum_eq_zero fun v _ => by
        rw [show onLanes x1 h d (Fin.castAdd 64 v) = 0 from (if_neg p).trans (dif_pos v.isLt), mul_zero]
    rw [h0, zero_add]
    refine Finset.sum_congr rfl fun v _ => congrArg₂ (· * ·) (congrArg (fun q => x2 (ix2 s q)) (Fin.ext ?_))
      (((if_neg p).trans (dif_neg (by simp))).trans (congrArg (fun q => x1 (ix3 d h q)) (Fin.ext ?_)))
    · show h.val / 2 * 128 + (64 + v.val) = h.val * 64 + v.val
      omega
    · show 64 + v.val - 64 = v.val
      omega

open Cert.MlaUvBwdRefIdeal.Read in
theorem ref3 (x1 : FVec Ideal S128x16x64 .f32) (x2 : FVec Ideal S4096x1024 .f32) (h : Fin 16) (s : Fin 4096) (d : Fin 128) :
    val_main_v19 (F := Ideal) x1 x2 (ix3 h s d) = (∑ v : Fin 64, x2 (ix2 s (col h v)) * x1 (ix3 d h v) : EReal) := by
  unfold val_main_v19 val_main_v18 val_main_v6 val_main_v5 val_main_v4 val_main_v3
  pointwise [col]

open Cert.MlaUvBwdRefIdeal.Read in
theorem ref4 (x0 : FVec Ideal S4096x16x128 .f32) (x2 : FVec Ideal S4096x1024 .f32) (h : Fin 16) (d v : Fin 128) :
    val_main_v17 (F := Ideal) x0 x2 (ix3 h d v) = (∑ s : Fin 4096, x0 (ix3 s h d) * x2 (ix2 s (lane h v)) : EReal) := by
  unfold val_main_v17 val_main_v16 val_main_v15 val_main_v14 val_main_v13 val_main_v8
  pointwise [lane]
  exact Finset.sum_congr rfl fun _ _ => mul_comm _ _

theorem frame_ref : Cert.quiescent_MlaUvBwdRefIdeal := by
  intro m ρ _
  exact (θ_run Cert.MlaUvBwdRefIdeal.defs _ _).mono (fun r h => ⟨fun c => (h c).2.2, sem_eq_zero_of_no_sems (by decide) r.2⟩)
    (Cert.MlaUvBwdRefIdeal.Value.run m ρ)

theorem algebraic : Cert.algebraic_MlaUvBwdIdeal_MlaUvBwdRefIdeal := by
  intro m g m' g' _ hagree
  refine ⟨_, _, Cert.MlaUvBwdIdeal.Value.run_blocks m g, ?_⟩
  refine (θ_run Cert.MlaUvBwdRefIdeal.defs _ _).mono (fun r h c => ?_) (Cert.MlaUvBwdRefIdeal.Value.run m' g')
  obtain ⟨h3, h4, hk⟩ := h c
  obtain ⟨g0, g1, g2⟩ := hagree c
  refine ⟨h3.trans ((Cert.MlaUvBwdRefIdeal.Read.val_main_v19_eq _ _).trans ?_), h4.trans ((Cert.MlaUvBwdRefIdeal.Read.val_main_v17_eq _ _).trans ?_), hk⟩
  · rw [g1, g2, arr3]
    funext i
    rw [eq_ix3 i]
    exact (ref3 _ _ _ _ _).trans (sum_lanes _ _ _ _ _).symm
  · rw [g0, g2, arr4]
    funext i
    rw [eq_ix3 i]
    exact ref4 _ _ _ _ _

end Cert.ValBack

end
-- ==== Proof.MlaDo.lean ====
/-
  The gradient of the attention's output by what the output projection multiplies: the kernel takes the rows in eight
  tiles of 512; the array it leaves is the reference's gradient, for any arguments.
-/
module

public import proofs.«01_k».proof.Defs
public import proofs.«01_k».proof.Proof.Gen.MlaDoIdeal.Value
public import proofs.«01_k».proof.Proof.Gen.MlaDoRefIdeal.Run
public import proofs.«01_k».proof.Proof.Gen.MlaDoRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.OutBack

open Cert.MlaDoIdeal Cert.MlaDoIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S1024x1024 .f32 := m ((c.tc : Thread nD τ).loc main_arg1)

theorem V_main_v0 : (V m c main_v0 : FVec Ideal S4096x1024 .bf16) = truncf .bf16 (a0 m c) bitsLt_bf16_f32 := by
  unfold_abbrev_sides
  after_reads_simp

theorem V_main_v1 : (V m c main_v1 : FVec Ideal S1024x1024 .bf16) = truncf .bf16 (a1 m c) bitsLt_bf16_f32 := by
  unfold_abbrev_sides
  after_reads_simp

theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r : Fin 512) (d : Fin 1024) : iblk m c 0 t (ix2 r d) = V m c main_v0 (ix2 (row t r) d) := by
  blk_ext [iblk, idx t, row]

theorem iblk1 (t : Fin cfg0.N) (a d : Fin 1024) : iblk m c 1 t (ix2 a d) = V m c main_v1 (ix2 a d) := by
  blk_ext [iblk, idx t]

theorem out_apply (x0 : FVec Ideal S512x1024 .bf16) (x1 : FVec Ideal S1024x1024 .bf16) (y : S512x1024.Idx) :
    out0_2 (F := Ideal) x0 x1 y = (∑ d : Fin 1024, x0 (ix2 (y 0) d) * x1 (ix2 (y 1) d) : EReal) := by
  frame_out
  open_payloads
  pointwise [ix2]

/-- The array the kernel leaves. -/
def G (x0 : FVec Ideal S4096x1024 .f32) (x1 : FVec Ideal S1024x1024 .f32) : S4096x1024.Idx → EReal :=
  fun i => ∑ d : Fin 1024, x0 (ix2 (i 0) d) * x1 (ix2 (i 1) d)

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix2 (row t (y 0)) (y 1))) ?_ (congrArg (G (a0 m c) (a1 m c)) ?_)
  · exact Finset.sum_congr rfl fun d _ => congrArg₂ (· * ·)
      ((iblk0 m c t (y 0) d).trans (congrFun (V_main_v0 m c) _)) ((iblk1 m c t (y 1) d).trans (congrFun (V_main_v1 m c) _))
  · blk_ext [idx t, row]

open Cert.MlaDoRefIdeal.Read in
theorem ref_apply (x0 : FVec Ideal S4096x1024 .f32) (x1 : FVec Ideal S1024x1024 .f32) (s : Fin 4096) (a : Fin 1024) :
    val_main_v3 (F := Ideal) x0 x1 (ix2 s a) = (∑ d : Fin 1024, x0 (ix2 s d) * x1 (ix2 a d) : EReal) := by
  unfold val_main_v3 val_main_v2
  pointwise []

theorem frame_ref : Cert.quiescent_MlaDoRefIdeal := by
  intro m ρ _
  exact (θ_run Cert.MlaDoRefIdeal.defs _ _).mono (fun r h => ⟨fun c => (h c).2, sem_eq_zero_of_no_sems (by decide) r.2⟩)
    (Cert.MlaDoRefIdeal.Value.run m ρ)

theorem algebraic : Cert.algebraic_MlaDoIdeal_MlaDoRefIdeal := by
  intro m g m' g' _ hagree
  refine ⟨_, Cert.MlaDoIdeal.Value.run_blocks m g, ?_⟩
  refine (θ_run Cert.MlaDoRefIdeal.defs _ _).mono (fun r h c => ?_) (Cert.MlaDoRefIdeal.Value.run m' g')
  obtain ⟨h0, hk⟩ := h c
  obtain ⟨g0, g1⟩ := hagree c
  refine ⟨h0.trans ((Cert.MlaDoRefIdeal.Read.val_main_v3_eq _ _).trans ?_), hk⟩
  rw [g0, g1, arr2]
  funext i
  rw [eq_ix2 i]
  exact ref_apply _ _ _ _

end Cert.OutBack

end
-- ==== Proof.MlaDwo.lean ====
/-
  The gradient of the output projection's weight: the kernel adds up the products of eight tiles of 512 rows; the array
  it leaves is the reference's gradient, for any arguments.
-/
module

public import proofs.«01_k».proof.Defs
public import proofs.«01_k».proof.Proof.Gen.MlaDwoIdeal.Value
public import proofs.«01_k».proof.Proof.Gen.MlaDwoRefIdeal.Run
public import proofs.«01_k».proof.Proof.Gen.MlaDwoRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.OutWeight

open Cert.MlaDwoIdeal Cert.MlaDwoIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S4096x1024 .f32 := m ((c.tc : Thread nD τ).loc main_arg1)

theorem V_main_v0 : (V m c main_v0 : FVec Ideal S4096x1024 .bf16) = truncf .bf16 (a0 m c) bitsLt_bf16_f32 := by
  unfold_abbrev_sides
  after_reads_simp

theorem V_main_v1 : (V m c main_v1 : FVec Ideal S4096x1024 .bf16) = truncf .bf16 (a1 m c) bitsLt_bf16_f32 := by
  unfold_abbrev_sides
  after_reads_simp

theorem V_right (s : Fin 4096) (d : Fin 1024) : V m c main_v1 (ix2 s d) = a1 m c (ix2 s d) := congrFun (V_main_v1 m c) _

theorem idx : ∀ t : Fin cfg0.N, win0_0.index t = ![t.val, 0] ∧ win0_1.index t = ![t.val, 0] ∧ win0_2.index t = ![0, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r : Fin 512) (d : Fin 1024) : iblk m c 0 t (ix2 r d) = a0 m c (ix2 (row t r) d) := by
  refine Eq.trans ?_ (congrFun (V_main_v0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (V_right m c (row t r) d)
  blk_ext [iblk, idx t, row]

/-- What a grid point adds to entry `y`: the products over its 512 rows. -/
def add (x0 : FVec Ideal S512x1024 .bf16) (x1 : FVec Ideal S512x1024 .bf16) (y : S1024x1024.Idx) : EReal :=
  ∑ r : Fin 512, x0 (ix2 r (y 0)) * x1 (ix2 r (y 1))

/-- The running sum after the first tile. -/
theorem soutA (c : Dev nD) (t : Fin cfg0.N) (x0 : FVec Ideal S512x1024 .bf16) (x1 : FVec Ideal S512x1024 .bf16) (h0 : t.val % 8 = 0) (h1 : ¬t.val % 8 = 7) (y) :
    sout0_A_0 (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) x0 x1 y = add x0 x1 y := by
  frame_out
  open_payloads
  pointwise [add, ix2]

/-- The running sum after a middle tile. -/
theorem soutB (c : Dev nD) (t : Fin cfg0.N) (x0 : FVec Ideal S512x1024 .bf16) (x1 : FVec Ideal S512x1024 .bf16) (xs : FVec Ideal S1024x1024 .f32) (h0 : ¬t.val % 8 = 0) (h1 : ¬t.val % 8 = 7) (y) :
    sout0_B_0 (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) x0 x1 xs y
      = (xs y + add x0 x1 y : EReal) := by
  frame_out
  simp only [read_unread_whole]
  open_payloads
  pointwise [add, ix2]

/-- The running sum after the last tile. -/
theorem soutC (c : Dev nD) (t : Fin cfg0.N) (x0 : FVec Ideal S512x1024 .bf16) (x1 : FVec Ideal S512x1024 .bf16) (xs : FVec Ideal S1024x1024 .f32) (h0 : ¬t.val % 8 = 0) (h1 : t.val % 8 = 7) (y) :
    sout0_C_0 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs y + add x0 x1 y : EReal) := by
  frame_out
  simp only [read_unread_whole]
  open_payloads
  pointwise [add, ix2]

/-- The result, stored at the last tile. -/
theorem outC (c : Dev nD) (t : Fin cfg0.N) (x0 : FVec Ideal S512x1024 .bf16) (x1 : FVec Ideal S512x1024 .bf16) (xs : FVec Ideal S1024x1024 .f32) (h0 : ¬t.val % 8 = 0) (h1 : t.val % 8 = 7) (y) :
    out0_C_2 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs y + add x0 x1 y : EReal) := by
  frame_out
  simp only [read_unread_whole]
  open_payloads
  pointwise [add, ix2]

/-- The array the kernel leaves. -/
def G (x0 x1 : FVec Ideal S4096x1024 .f32) : S1024x1024.Idx → EReal :=
  fun i => ∑ s : Fin 4096, x0 (ix2 s (i 0)) * x1 (ix2 s (i 1))

/-- The share of a grid point. -/
def part (t : Fin cfg0.N) (i : S1024x1024.Idx) : EReal := add (iblk m c 0 t) (iblk m c 1 t) i

theorem acc (t : Fin cfg0.N) (hr : t.val % 8 = 7) (i : S1024x1024.Idx) :
    (outsAt0 m c t.val t.isLt).2 i = (0 + ∑ s : Fin 8, part m c ⟨8 * (t.val / 8) + s.val, Pipeline.run_point_lt_of_flush t hr s⟩ i : EReal) :=
  Pipeline.eq_sum_fin_of_reset_step_apply_of_flush (M := EReal) (fun n h => (outsAt0 m c n h).2) 8 (fun _ => 0) (part m c)
    (fun t h i => by
      show (outsAt0 m c t.val t.isLt).2 i = (0 + part m c t i : EReal)
      have h1 : ¬t.val % 8 = 7 := by omega
      rw [outsAt0_A m c t h h1, zero_add]
      dsimp only
      rw [soutA (h0 := h) (h1 := h1)]
      rfl)
    (fun t h i => by
      by_cases h1 : t.val % 8 = 7
      · rw [outsAt0_C m c t h h1]
        dsimp only
        rw [soutC (h0 := h) (h1 := h1)]
        rfl
      · rw [outsAt0_B m c t h h1]
        dsimp only
        rw [soutB (h0 := h) (h1 := h1)]
        rfl) t hr i

theorem point (t : Fin cfg0.N) (hr : t.val % 8 = 7) (y : S1024x1024.Idx) : (outsAt0 m c t.val t.isLt).1 y = (outsAt0 m c t.val t.isLt).2 y := by
  have h0 : ¬t.val % 8 = 0 := by omega
  rw [outsAt0_C m c t h0 hr]
  dsimp only
  rw [outC (h0 := h0) (h1 := hr), soutC (h0 := h0) (h1 := hr)]

theorem parts (t : Fin cfg0.N) (hr : t.val % 8 = 7) (i : S1024x1024.Idx) :
    (∑ s : Fin 8, part m c ⟨8 * (t.val / 8) + s.val, Pipeline.run_point_lt_of_flush t hr s⟩ i : EReal) = G (a0 m c) (a1 m c) i := by
  unfold G
  rw [Fin.sum_univ_tiles 8 512 rfl]
  refine Finset.sum_congr rfl fun s _ => ?_
  unfold part add
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact congrArg₂ (· * ·) ((iblk0 m c _ r (i 0)).trans (congrArg (fun q => a0 m c (ix2 q (i 0))) e))
    ((iblk1 m c _ r (i 1)).trans (congrArg (fun q => a1 m c (ix2 q (i 1))) e))

theorem arr2 : (dats m 0 c).arrAt 2 cfg0.N = G (a0 m c) (a1 m c) := by
  refine (dats m 0 c).arrAt_eq_of_covers 2 _ (by decide +kernel) fun t hf y => ?_
  have hr := (flush0_2 t).mp hf
  blk_simp
  rw [after0_2]
  refine (point m c t hr y).trans ((acc m c t hr y).trans ((zero_add _).trans ((parts m c t hr y).trans (congrArg (G (a0 m c) (a1 m c)) ?_))))
  blk_ext [idx t]

open Cert.MlaDwoRefIdeal.Read in
theorem ref_apply (x0 x1 : FVec Ideal S4096x1024 .f32) (a d : Fin 1024) :
    val_main_v3 (F := Ideal) x0 x1 (ix2 a d) = (∑ s : Fin 4096, x0 (ix2 s a) * x1 (ix2 s d) : EReal) := by
  unfold val_main_v3 val_main_v2
  pointwise []
  exact Finset.sum_congr rfl fun _ _ => mul_comm _ _

theorem frame_ref : Cert.quiescent_MlaDwoRefIdeal := by
  intro m ρ _
  exact (θ_run Cert.MlaDwoRefIdeal.defs _ _).mono (fun r h => ⟨fun c => (h c).2, sem_eq_zero_of_no_sems (by decide) r.2⟩)
    (Cert.MlaDwoRefIdeal.Value.run m ρ)

theorem algebraic : Cert.algebraic_MlaDwoIdeal_MlaDwoRefIdeal := by
  intro m g m' g' _ hagree
  refine ⟨_, Cert.MlaDwoIdeal.Value.run_blocks m g, ?_⟩
  refine (θ_run Cert.MlaDwoRefIdeal.defs _ _).mono (fun r h c => ?_) (Cert.MlaDwoRefIdeal.Value.run m' g')
  obtain ⟨h0, hk⟩ := h c
  obtain ⟨g0, g1⟩ := hagree c
  refine ⟨h0.trans ((Cert.MlaDwoRefIdeal.Read.val_main_v3_eq _ _).trans ?_), hk⟩
  rw [g0, g1, arr2]
  funext i
  rw [eq_ix2 i]
  exact ref_apply _ _ _ _

end Cert.OutWeight

end
-- ==== Proof.MlaDh.lean ====
/-
  The gradient of the latent projection by its input. The kernel pads the 416 latent columns with zeros to 512, which
  adds nothing, and takes the rows in eight tiles of 512; the array it leaves is the reference's gradient, for any
  arguments.
-/
module

public import proofs.«01_k».proof.Defs
public import proofs.«01_k».proof.Proof.Gen.MlaDhIdeal.Value
public import proofs.«01_k».proof.Proof.Gen.MlaDhRefIdeal.Run
public import proofs.«01_k».proof.Proof.Gen.MlaDhRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LatBack

open Cert.MlaDhIdeal Cert.MlaDhIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x416 .f32 := m ((c.tc : Thread nD τ).loc main_arg0)
abbrev a1 : FVec Ideal S1024x416 .f32 := m ((c.tc : Thread nD τ).loc main_arg1)

/-- The padding value is zero. -/
theorem sitofp_zero (f : FTy) : (FloatOps.sitofp (F := Ideal) f 0#32 : EReal) = 0 := by
  show (((0#32 : BitVec 32).toInt : ℝ) : EReal) = 0
  simp

/-- Column `l` of the rows padded with zeros. -/
def wide {n : ℕ} (x : Fin n → Fin 416 → EReal) (s : Fin n) (l : Fin 512) : EReal := if h : l.val < 416 then x s ⟨l.val, h⟩ else 0

theorem V_main_v1 (s : Fin 4096) (l : Fin 512) : V m c main_v1 (ix2 s l) = wide (fun s l => a0 m c (ix2 s l)) s l := by
  have h : (V m c main_v1 : FVec Ideal S4096x512 .bf16) = truncf .bf16 (pad S4096x512 ![0, 0] ![0, 96] ![0, 0] (a0 m c) (sitofp .f32 (constantI S_ 32 0#32)) pads_S4096x416_S4096x512_000_0960 h_S_) bitsLt_bf16_f32 := by
    unfold_abbrev_sides
    after_reads_simp
    rfl
  rw [h]
  pointwise [wide, sitofp_zero]

theorem V_main_v3 (s : Fin 1024) (l : Fin 512) : V m c main_v3 (ix2 s l) = wide (fun s l => a1 m c (ix2 s l)) s l := by
  have h : (V m c main_v3 : FVec Ideal S1024x512 .bf16) = pad S1024x512 ![0, 0] ![0, 96] ![0, 0] (truncf .bf16 (a1 m c) bitsLt_bf16_f32) (sitofp .bf16 (constantI S_ 32 0#32)) pads_S1024x416_S1024x512_000_0960 h_S_ := by
    unfold_abbrev_sides
    after_reads_simp
    rfl
  rw [h]
  pointwise [wide, sitofp_zero]

theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r l : Fin 512) : iblk m c 0 t (ix2 r l) = V m c main_v1 (ix2 (row t r) l) := by
  blk_ext [iblk, idx t, row]

theorem iblk1 (t : Fin cfg0.N) (a : Fin 1024) (l : Fin 512) : iblk m c 1 t (ix2 a l) = V m c main_v3 (ix2 a l) := by
  blk_ext [iblk, idx t]

theorem out_apply (x0 : FVec Ideal S512x512 .bf16) (x1 : FVec Ideal S1024x512 .bf16) (y : S512x1024.Idx) :
    out0_2 (F := Ideal) x0 x1 y = (∑ l : Fin 512, x0 (ix2 (y 0) l) * x1 (ix2 (y 1) l) : EReal) := by
  frame_out
  open_payloads
  pointwise [ix2]

/-- The array the kernel leaves. -/
def G (x0 : FVec Ideal S4096x416 .f32) (x1 : FVec Ideal S1024x416 .f32) : S4096x1024.Idx → EReal :=
  fun i => ∑ l : Fin 416, x0 (ix2 (i 0) l) * x1 (ix2 (i 1) l)

/-- The padding adds nothing to a product of rows. -/
theorem sum_wide {n k : ℕ} (x : Fin n → Fin 416 → EReal) (y : Fin k → Fin 416 → EReal) (s : Fin n) (a : Fin k) :
    (∑ l : Fin 512, wide x s l * wide y a l : EReal) = ∑ l : Fin 416, x s l * y a l := by
  rw [Fin.sum_univ_add (a := 416) (b := 96) (fun l : Fin (416 + 96) => wide x s l * wide y a l)]
  have h0 : (∑ l : Fin 96, wide x s (Fin.natAdd 416 l) * wide y a (Fin.natAdd 416 l) : EReal) = 0 :=
    Finset.sum_eq_zero fun l _ => by
      have h : ¬ (Fin.natAdd 416 l : Fin (416 + 96)).val < 416 := by simp
      rw [show wide x s (Fin.natAdd 416 l) = 0 from dif_neg h, zero_mul]
  rw [h0, add_zero]
  exact Finset.sum_congr rfl fun l _ => congrArg₂ (· * ·) (dif_pos l.isLt) (dif_pos l.isLt)

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix2 (row t (y 0)) (y 1))) ?_ (congrArg (G (a0 m c) (a1 m c)) ?_)
  · refine Eq.trans (Finset.sum_congr rfl fun l _ => congrArg₂ (· * ·)
      ((iblk0 m c t (y 0) l).trans (V_main_v1 m c _ l)) ((iblk1 m c t (y 1) l).trans (V_main_v3 m c _ l))) (sum_wide _ _ _ _)
  · blk_ext [idx t, row]

open Cert.MlaDhRefIdeal.Read in
theorem ref_apply (x0 : FVec Ideal S4096x416 .f32) (x1 : FVec Ideal S1024x416 .f32) (s : Fin 4096) (a : Fin 1024) :
    val_main_v3 (F := Ideal) x0 x1 (ix2 s a) = (∑ l : Fin 416, x0 (ix2 s l) * x1 (ix2 a l) : EReal) := by
  unfold val_main_v3 val_main_v2
  pointwise []

theorem frame_ref : Cert.quiescent_MlaDhRefIdeal := by
  intro m ρ _
  exact (θ_run Cert.MlaDhRefIdeal.defs _ _).mono (fun r h => ⟨fun c => (h c).2, sem_eq_zero_of_no_sems (by decide) r.2⟩)
    (Cert.MlaDhRefIdeal.Value.run m ρ)

theorem algebraic : Cert.algebraic_MlaDhIdeal_MlaDhRefIdeal := by
  intro m g m' g' _ hagree
  refine ⟨_, Cert.MlaDhIdeal.Value.run_blocks m g, ?_⟩
  refine (θ_run Cert.MlaDhRefIdeal.defs _ _).mono (fun r h c => ?_) (Cert.MlaDhRefIdeal.Value.run m' g')
  obtain ⟨h0, hk⟩ := h c
  obtain ⟨g0, g1⟩ := hagree c
  refine ⟨h0.trans ((Cert.MlaDhRefIdeal.Read.val_main_v3_eq _ _).trans ?_), hk⟩
  rw [g0, g1, arr2]
  funext i
  rw [eq_ix2 i]
  exact ref_apply _ _ _ _

end Cert.LatBack

end
-- ==== Proof.MlaDwin.lean ====
/-
  The gradient of the latent projection's weight: the kernel pads the 416 latent columns with zeros to 512 and adds up
  the products of eight tiles of 512 rows; the array it leaves is the reference's gradient, padded likewise, for any
  arguments.
-/
module

public import proofs.«01_k».proof.Defs
public import proofs.«01_k».proof.Proof.Gen.MlaDwinIdeal.Value
public import proofs.«01_k».proof.Proof.Gen.MlaDwinRefIdeal.Run
public import proofs.«01_k».proof.Proof.Gen.MlaDwinRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LatWeight

open Cert.MlaDwinIdeal Cert.MlaDwinIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S4096x416 .f32 := m ((c.tc : Thread nD τ).loc main_arg1)

/-- The padding value is zero. -/
theorem sitofp_zero (f : FTy) : (FloatOps.sitofp (F := Ideal) f 0#32 : EReal) = 0 := by
  show (((0#32 : BitVec 32).toInt : ℝ) : EReal) = 0
  simp

/-- Column `l` of the rows padded with zeros. -/
def wide (x : FVec Ideal S4096x416 .f32) (s : Fin 4096) (l : Fin 512) : EReal := if h : l.val < 416 then x (ix2 s ⟨l.val, h⟩) else 0

theorem V_main_v0 : (V m c main_v0 : FVec Ideal S4096x1024 .bf16) = truncf .bf16 (a0 m c) bitsLt_bf16_f32 := by
  unfold_abbrev_sides
  after_reads_simp

theorem V_right (s : Fin 4096) (l : Fin 512) : V m c main_v2 (ix2 s l) = wide (a1 m c) s l := by
  have h : (V m c main_v2 : FVec Ideal S4096x512 .bf16) = truncf .bf16 (pad S4096x512 ![0, 0] ![0, 96] ![0, 0] (a1 m c) (sitofp .f32 (constantI S_ 32 0#32)) pads_S4096x416_S4096x512_000_0960 h_S_) bitsLt_bf16_f32 := by
    unfold_abbrev_sides
    after_reads_simp
    rfl
  rw [h]
  pointwise [wide, sitofp_zero]

theorem idx : ∀ t : Fin cfg0.N, win0_0.index t = ![t.val, 0] ∧ win0_1.index t = ![t.val, 0] ∧ win0_2.index t = ![0, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r : Fin 512) (d : Fin 1024) : iblk m c 0 t (ix2 r d) = a0 m c (ix2 (row t r) d) := by
  refine Eq.trans ?_ (congrFun (V_main_v0 m c) (ix2 (row t r) d))
  blk_ext [iblk, idx t, row]

theorem iblk1 (t : Fin cfg0.N) (r : Fin 512) (d : Fin 512) : iblk m c 1 t (ix2 r d) = wide (a1 m c) (row t r) d := by
  refine Eq.trans ?_ (V_right m c (row t r) d)
  blk_ext [iblk, idx t, row]

/-- What a grid point adds to entry `y`: the products over its 512 rows. -/
def add (x0 : FVec Ideal S512x1024 .bf16) (x1 : FVec Ideal S512x512 .bf16) (y : S1024x512.Idx) : EReal :=
  ∑ r : Fin 512, x0 (ix2 r (y 0)) * x1 (ix2 r (y 1))

/-- The running sum after the first tile. -/
theorem soutA (c : Dev nD) (t : Fin cfg0.N) (x0 : FVec Ideal S512x1024 .bf16) (x1 : FVec Ideal S512x512 .bf16) (h0 : t.val % 8 = 0) (h1 : ¬t.val % 8 = 7) (y) :
    sout0_A_0 (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) x0 x1 y = add x0 x1 y := by
  frame_out
  open_payloads
  pointwise [add, ix2]

/-- The running sum after a middle tile. -/
theorem soutB (c : Dev nD) (t : Fin cfg0.N) (x0 : FVec Ideal S512x1024 .bf16) (x1 : FVec Ideal S512x512 .bf16) (xs : FVec Ideal S1024x512 .f32) (h0 : ¬t.val % 8 = 0) (h1 : ¬t.val % 8 = 7) (y) :
    sout0_B_0 (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) x0 x1 xs y
      = (xs y + add x0 x1 y : EReal) := by
  frame_out
  simp only [read_unread_whole]
  open_payloads
  pointwise [add, ix2]

/-- The running sum after the last tile. -/
theorem soutC (c : Dev nD) (t : Fin cfg0.N) (x0 : FVec Ideal S512x1024 .bf16) (x1 : FVec Ideal S512x512 .bf16) (xs : FVec Ideal S1024x512 .f32) (h0 : ¬t.val % 8 = 0) (h1 : t.val % 8 = 7) (y) :
    sout0_C_0 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs y + add x0 x1 y : EReal) := by
  frame_out
  simp only [read_unread_whole]
  open_payloads
  pointwise [add, ix2]

/-- The result, stored at the last tile. -/
theorem outC (c : Dev nD) (t : Fin cfg0.N) (x0 : FVec Ideal S512x1024 .bf16) (x1 : FVec Ideal S512x512 .bf16) (xs : FVec Ideal S1024x512 .f32) (h0 : ¬t.val % 8 = 0) (h1 : t.val % 8 = 7) (y) :
    out0_C_2 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs y + add x0 x1 y : EReal) := by
  frame_out
  simp only [read_unread_whole]
  open_payloads
  pointwise [add, ix2]

/-- The array the kernel leaves. -/
def G (x0 : FVec Ideal S4096x1024 .f32) (x1 : FVec Ideal S4096x416 .f32) : S1024x512.Idx → EReal :=
  fun i => ∑ s : Fin 4096, x0 (ix2 s (i 0)) * wide x1 s (i 1)

/-- The share of a grid point. -/
def part (t : Fin cfg0.N) (i : S1024x512.Idx) : EReal := add (iblk m c 0 t) (iblk m c 1 t) i

theorem acc (t : Fin cfg0.N) (hr : t.val % 8 = 7) (i : S1024x512.Idx) :
    (outsAt0 m c t.val t.isLt).2 i = (0 + ∑ s : Fin 8, part m c ⟨8 * (t.val / 8) + s.val, Pipeline.run_point_lt_of_flush t hr s⟩ i : EReal) :=
  Pipeline.eq_sum_fin_of_reset_step_apply_of_flush (M := EReal) (fun n h => (outsAt0 m c n h).2) 8 (fun _ => 0) (part m c)
    (fun t h i => by
      show (outsAt0 m c t.val t.isLt).2 i = (0 + part m c t i : EReal)
      have h1 : ¬t.val % 8 = 7 := by omega
      rw [outsAt0_A m c t h h1, zero_add]
      dsimp only
      rw [soutA (h0 := h) (h1 := h1)]
      rfl)
    (fun t h i => by
      by_cases h1 : t.val % 8 = 7
      · rw [outsAt0_C m c t h h1]
        dsimp only
        rw [soutC (h0 := h) (h1 := h1)]
        rfl
      · rw [outsAt0_B m c t h h1]
        dsimp only
        rw [soutB (h0 := h) (h1 := h1)]
        rfl) t hr i

theorem point (t : Fin cfg0.N) (hr : t.val % 8 = 7) (y : S1024x512.Idx) : (outsAt0 m c t.val t.isLt).1 y = (outsAt0 m c t.val t.isLt).2 y := by
  have h0 : ¬t.val % 8 = 0 := by omega
  rw [outsAt0_C m c t h0 hr]
  dsimp only
  rw [outC (h0 := h0) (h1 := hr), soutC (h0 := h0) (h1 := hr)]

theorem parts (t : Fin cfg0.N) (hr : t.val % 8 = 7) (i : S1024x512.Idx) :
    (∑ s : Fin 8, part m c ⟨8 * (t.val / 8) + s.val, Pipeline.run_point_lt_of_flush t hr s⟩ i : EReal) = G (a0 m c) (a1 m c) i := by
  unfold G
  rw [Fin.sum_univ_tiles 8 512 rfl]
  refine Finset.sum_congr rfl fun s _ => ?_
  unfold part add
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact congrArg₂ (· * ·) ((iblk0 m c _ r (i 0)).trans (congrArg (fun q => a0 m c (ix2 q (i 0))) e))
    ((iblk1 m c _ r (i 1)).trans (congrArg (fun q => wide (a1 m c) q (i 1)) e))

theorem arr2 : (dats m 0 c).arrAt 2 cfg0.N = G (a0 m c) (a1 m c) := by
  refine (dats m 0 c).arrAt_eq_of_covers 2 _ (by decide +kernel) fun t hf y => ?_
  have hr := (flush0_2 t).mp hf
  blk_simp
  rw [after0_2]
  refine (point m c t hr y).trans ((acc m c t hr y).trans ((zero_add _).trans ((parts m c t hr y).trans (congrArg (G (a0 m c) (a1 m c)) ?_))))
  blk_ext [idx t]

open Cert.MlaDwinRefIdeal.Read in
theorem ref_apply (x0 : FVec Ideal S4096x1024 .f32) (x1 : FVec Ideal S4096x416 .f32) (a : Fin 1024) (l : Fin 512) :
    val_main_v4 (F := Ideal) x0 x1 (ix2 a l) = (∑ s : Fin 4096, x0 (ix2 s a) * wide x1 s l : EReal) := by
  unfold val_main_v4 val_main_v3 val_main_v2 val_main_call0_v0 val_main_c
  pointwise [wide, sitofp_zero]
  split
  · exact Finset.sum_congr rfl fun _ _ => mul_comm _ _
  · simp only [mul_zero, Finset.sum_const_zero]

theorem frame_ref : Cert.quiescent_MlaDwinRefIdeal := by
  intro m ρ _
  exact (θ_run Cert.MlaDwinRefIdeal.defs _ _).mono (fun r h => ⟨fun c => (h c).2, sem_eq_zero_of_no_sems (by decide) r.2⟩)
    (Cert.MlaDwinRefIdeal.Value.run m ρ)

theorem algebraic : Cert.algebraic_MlaDwinIdeal_MlaDwinRefIdeal := by
  intro m g m' g' _ hagree
  refine ⟨_, Cert.MlaDwinIdeal.Value.run_blocks m g, ?_⟩
  refine (θ_run Cert.MlaDwinRefIdeal.defs _ _).mono (fun r h c => ?_) (Cert.MlaDwinRefIdeal.Value.run m' g')
  obtain ⟨h0, hk⟩ := h c
  obtain ⟨g0, g1⟩ := hagree c
  refine ⟨h0.trans ((Cert.MlaDwinRefIdeal.Read.val_main_v4_eq _ _).trans ?_), hk⟩
  rw [g0, g1, arr2]
  funext i
  rw [eq_ix2 i]
  exact ref_apply _ _ _ _

end Cert.LatWeight

end
-- ==== Proof.MlaLat.lean ====
/-
  The projection into the latent space. The kernel pads the weight's 416 columns with zeros to 512 and takes the rows in
  eight tiles of 512; the array it leaves is the reference's product, padded likewise, for any arguments.
-/
module

public import proofs.«01_k».proof.Defs
public import proofs.«01_k».proof.Proof.Gen.MlaLatIdeal.Value
public import proofs.«01_k».proof.Proof.Gen.MlaLatRefIdeal.Run
public import proofs.«01_k».proof.Proof.Gen.MlaLatRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LatProj

open Cert.MlaLatIdeal Cert.MlaLatIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S1024x416 .f32 := m ((c.tc : Thread nD τ).loc main_arg1)

/-- The padding value is zero. -/
theorem sitofp_zero (f : FTy) : (FloatOps.sitofp (F := Ideal) f 0#32 : EReal) = 0 := by
  show (((0#32 : BitVec 32).toInt : ℝ) : EReal) = 0
  simp

/-- Column `l` of the weight padded with zeros. -/
def wide (x : FVec Ideal S1024x416 .f32) (d : Fin 1024) (l : Fin 512) : EReal := if h : l.val < 416 then x (ix2 d ⟨l.val, h⟩) else 0

theorem V_main_v0 : (V m c main_v0 : FVec Ideal S4096x1024 .bf16) = truncf .bf16 (a0 m c) bitsLt_bf16_f32 := by
  unfold_abbrev_sides
  after_reads_simp

theorem V_main_v2 (d : Fin 1024) (l : Fin 512) : V m c main_v2 (ix2 d l) = wide (a1 m c) d l := by
  have h : (V m c main_v2 : FVec Ideal S1024x512 .bf16) = pad S1024x512 ![0, 0] ![0, 96] ![0, 0] (truncf .bf16 (a1 m c) bitsLt_bf16_f32) (sitofp .bf16 (constantI S_ 32 0#32)) pads_S1024x416_S1024x512_000_0960 h_S_ := by
    unfold_abbrev_sides
    after_reads_simp
    rfl
  rw [h]
  pointwise [wide, sitofp_zero]

theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r : Fin 512) (d : Fin 1024) : iblk m c 0 t (ix2 r d) = V m c main_v0 (ix2 (row t r) d) := by
  blk_ext [iblk, idx t, row]

theorem iblk1 (t : Fin cfg0.N) (d : Fin 1024) (l : Fin 512) : iblk m c 1 t (ix2 d l) = V m c main_v2 (ix2 d l) := by
  blk_ext [iblk, idx t]

theorem out_apply (x0 : FVec Ideal S512x1024 .bf16) (x1 : FVec Ideal S1024x512 .bf16) (y : S512x512.Idx) :
    out0_2 (F := Ideal) x0 x1 y = (∑ d : Fin 1024, x0 (ix2 (y 0) d) * x1 (ix2 d (y 1)) : EReal) := by
  frame_out
  open_payloads
  pointwise [ix2]

/-- The array the kernel leaves. -/
def G (x0 : FVec Ideal S4096x1024 .f32) (x1 : FVec Ideal S1024x416 .f32) : S4096x512.Idx → EReal :=
  fun i => ∑ d : Fin 1024, x0 (ix2 (i 0) d) * wide x1 d (i 1)

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix2 (row t (y 0)) (y 1))) ?_ (congrArg (G (a0 m c) (a1 m c)) ?_)
  · exact Finset.sum_congr rfl fun d _ => congrArg₂ (· * ·)
      ((iblk0 m c t (y 0) d).trans (congrFun (V_main_v0 m c) _)) ((iblk1 m c t d (y 1)).trans (V_main_v2 m c d (y 1)))
  · blk_ext [idx t, row]

open Cert.MlaLatRefIdeal.Read in
theorem ref_apply (x0 : FVec Ideal S4096x1024 .f32) (x1 : FVec Ideal S1024x416 .f32) (s : Fin 4096) (l : Fin 512) :
    val_main_v1 (F := Ideal) x0 x1 (ix2 s l) = (∑ d : Fin 1024, x0 (ix2 s d) * wide x1 d l : EReal) := by
  unfold val_main_v1 val_main_v0 val_main_call0_v0 val_main_c
  pointwise [wide, sitofp_zero]
  split
  · rfl
  · simp only [mul_zero, Finset.sum_const_zero]

theorem frame_ref : Cert.quiescent_MlaLatRefIdeal := by
  intro m ρ _
  exact (θ_run Cert.MlaLatRefIdeal.defs _ _).mono (fun r h => ⟨fun c => (h c).2, sem_eq_zero_of_no_sems (by decide) r.2⟩)
    (Cert.MlaLatRefIdeal.Value.run m ρ)

theorem algebraic : Cert.algebraic_MlaLatIdeal_MlaLatRefIdeal := by
  intro m g m' g' _ hagree
  refine ⟨_, Cert.MlaLatIdeal.Value.run_blocks m g, ?_⟩
  refine (θ_run Cert.MlaLatRefIdeal.defs _ _).mono (fun r h c => ?_) (Cert.MlaLatRefIdeal.Value.run m' g')
  obtain ⟨h0, hk⟩ := h c
  obtain ⟨g0, g1⟩ := hagree c
  refine ⟨h0.trans ((Cert.MlaLatRefIdeal.Read.val_main_v1_eq _ _).trans ?_), hk⟩
  rw [g0, g1, arr2]
  funext i
  rw [eq_ix2 i]
  exact ref_apply _ _ _ _

end Cert.LatProj

end
-- ==== Proof.MlaOut.lean ====
/-
  The attention's output projection: the kernel takes the rows in eight tiles of 512; the array it leaves is the
  reference's product, for any arguments.
-/
module

public import proofs.«01_k».proof.Defs
public import proofs.«01_k».proof.Proof.Gen.MlaOutIdeal.Value
public import proofs.«01_k».proof.Proof.Gen.MlaOutRefIdeal.Run
public import proofs.«01_k».proof.Proof.Gen.MlaOutRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.OutProj

open Cert.MlaOutIdeal Cert.MlaOutIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S1024x1024 .f32 := m ((c.tc : Thread nD τ).loc main_arg1)

theorem V_main_v0 : (V m c main_v0 : FVec Ideal S4096x1024 .bf16) = truncf .bf16 (a0 m c) bitsLt_bf16_f32 := by
  unfold_abbrev_sides
  after_reads_simp

theorem V_main_v1 : (V m c main_v1 : FVec Ideal S1024x1024 .bf16) = truncf .bf16 (a1 m c) bitsLt_bf16_f32 := by
  unfold_abbrev_sides
  after_reads_simp

theorem idx : ∀ t : Fin cfg0.N, win0_0.index t = ![t.val, 0] ∧ win0_1.index t = ![0, 0] ∧ win0_2.index t = ![t.val, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (r : Fin 512) (d : Fin 1024) : iblk m c 0 t (ix2 r d) = V m c main_v0 (ix2 (row t r) d) := by
  blk_ext [iblk, idx t, row]

theorem iblk1 (t : Fin cfg0.N) (d a : Fin 1024) : iblk m c 1 t (ix2 d a) = V m c main_v1 (ix2 d a) := by
  blk_ext [iblk, idx t]

theorem out_apply (x0 : FVec Ideal S512x1024 .bf16) (x1 : FVec Ideal S1024x1024 .bf16) (y : S512x1024.Idx) :
    out0_2 (F := Ideal) x0 x1 y = (∑ d : Fin 1024, x0 (ix2 (y 0) d) * x1 (ix2 d (y 1)) : EReal) := by
  frame_out
  open_payloads
  pointwise [ix2]

/-- The array the kernel leaves. -/
def G (x0 : FVec Ideal S4096x1024 .f32) (x1 : FVec Ideal S1024x1024 .f32) : S4096x1024.Idx → EReal :=
  fun i => ∑ d : Fin 1024, x0 (ix2 (i 0) d) * x1 (ix2 d (i 1))

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix2 (row t (y 0)) (y 1))) ?_ (congrArg (G (a0 m c) (a1 m c)) ?_)
  · exact Finset.sum_congr rfl fun d _ => congrArg₂ (· * ·)
      ((iblk0 m c t (y 0) d).trans (congrFun (V_main_v0 m c) _)) ((iblk1 m c t d (y 1)).trans (congrFun (V_main_v1 m c) _))
  · blk_ext [idx t, row]

open Cert.MlaOutRefIdeal.Read in
theorem ref_apply (x0 : FVec Ideal S4096x1024 .f32) (x1 : FVec Ideal S1024x1024 .f32) (s : Fin 4096) (a : Fin 1024) :
    val_main_v1 (F := Ideal) x0 x1 (ix2 s a) = (∑ d : Fin 1024, x0 (ix2 s d) * x1 (ix2 d a) : EReal) := by
  unfold val_main_v1 val_main_v0
  pointwise []

theorem frame_ref : Cert.quiescent_MlaOutRefIdeal := by
  intro m ρ _
  exact (θ_run Cert.MlaOutRefIdeal.defs _ _).mono (fun r h => ⟨fun c => (h c).2, sem_eq_zero_of_no_sems (by decide) r.2⟩)
    (Cert.MlaOutRefIdeal.Value.run m ρ)

theorem algebraic : Cert.algebraic_MlaOutIdeal_MlaOutRefIdeal := by
  intro m g m' g' _ hagree
  refine ⟨_, Cert.MlaOutIdeal.Value.run_blocks m g, ?_⟩
  refine (θ_run Cert.MlaOutRefIdeal.defs _ _).mono (fun r h c => ?_) (Cert.MlaOutRefIdeal.Value.run m' g')
  obtain ⟨h0, hk⟩ := h c
  obtain ⟨g0, g1⟩ := hagree c
  refine ⟨h0.trans ((Cert.MlaOutRefIdeal.Read.val_main_v1_eq _ _).trans ?_), hk⟩
  rw [g0, g1, arr2]
  funext i
  rw [eq_ix2 i]
  exact ref_apply _ _ _ _

end Cert.OutProj

end
-- ==== Proof.MlaUv.lean ====
/-
  The value projection. The kernel lays two heads side by side on 128 lanes, a head's weight having zeros in the lanes
  of the other, and takes the rows in eight tiles of 512; the array it leaves is the reference's projection, for any
  arguments.
-/
module

public import proofs.«01_k».proof.Defs
public import proofs.«01_k».proof.Proof.Gen.MlaUvIdeal.Value
public import proofs.«01_k».proof.Proof.Gen.MlaUvRefIdeal.Run
public import proofs.«01_k».proof.Proof.Gen.MlaUvRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.ValProj

open Cert.MlaUvIdeal Cert.MlaUvIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x16x128 .f32 := m ((c.tc : Thread nD τ).loc main_arg0)
abbrev a1 : FVec Ideal S128x16x64 .f32 := m ((c.tc : Thread nD τ).loc main_arg1)

/-- A head's weight on the shared lanes. -/
def onLanes (x : FVec Ideal S128x16x64 .f32) (h : Fin 16) (d v : Fin 128) : EReal :=
  if h.val % 2 = 0 then (if e : v.val < 64 then x (ix3 d h ⟨v.val, e⟩) else 0)
  else (if e : v.val < 64 then 0 else x (ix3 d h ⟨v.val - 64, by have := v.isLt; omega⟩))

theorem V_main_v1 : (V m c main_v1 : FVec Ideal S16x4096x128 .bf16) = truncf .bf16 (transpose S16x4096x128 [1, 0, 2] (a0 m c) transposes_S4096x16x128_S16x4096x128_1_0_2) bitsLt_bf16_f32 := by
  unfold_abbrev_sides
  after_reads_simp

theorem V_main_v10 : (V m c main_v10 : FVec Ideal S16x128x128 .bf16) =
    concatenate S16x128x128 2 [⟨S16x128x64, truncf .bf16 (transpose S16x128x64 [1, 0, 2] (a1 m c) transposes_S128x16x64_S16x128x64_1_0_2) bitsLt_bf16_f32⟩,
      ⟨S16x128x64, broadcastInDim S16x128x64 ![] bcast_S_S16x128x64 (constant S_ .bf16 0x0000#16 : FVec Ideal S_ .bf16)⟩] concatenates_S16x128x64_S16x128x64_S16x128x128_d2 := by
  unfold_abbrev_sides
  after_reads_simp
  rfl

theorem V_main_v12 : (V m c main_v12 : FVec Ideal S16x128x128 .bf16) =
    concatenate S16x128x128 2 [⟨S16x128x64, broadcastInDim S16x128x64 ![] bcast_S_S16x128x64 (constant S_ .bf16 0x0000#16 : FVec Ideal S_ .bf16)⟩,
      ⟨S16x128x64, truncf .bf16 (transpose S16x128x64 [1, 0, 2] (a1 m c) transposes_S128x16x64_S16x128x64_1_0_2) bitsLt_bf16_f32⟩] concatenates_S16x128x64_S16x128x64_S16x128x128_d2 := by
  unfold_abbrev_sides
  after_reads_simp
  rfl

/-- The divisor of the remainder. -/
def two : IVec S_ 32 := select (cmpi .eq (constantI S_ 32 2#32) (constantI S_ 32 0#32)) (constantI S_ 32 1#32) (constantI S_ 32 2#32)

/-- The head's remainder by two, in the sign of the dividend. -/
def rem : IVec S16 32 := Host.remsi (iotaInDim S16 32 0) (broadcastInDim S16 ![] bcast_S_S16 two)

/-- The mark of the even heads. -/
def even : IVec S16 1 :=
  cmpi .eq (select (andi (cmpi .ne (cmpi .slt rem (broadcastInDim S16 ![] bcast_S_S16 (constantI S_ 32 0#32)))
      (broadcastInDim S16 ![] bcast_S_S16 (cmpi .slt two (constantI S_ 32 0#32))))
      (cmpi .ne rem (broadcastInDim S16 ![] bcast_S_S16 (constantI S_ 32 0#32))))
    (addi rem (broadcastInDim S16 ![] bcast_S_S16 two)) rem) (broadcastInDim S16 ![] bcast_S_S16 (constantI S_ 32 0#32))

theorem even_apply : ∀ h : Fin 16, even (ix1 h) = if h.val % 2 = 0 then 1#1 else 0#1 := by decide +kernel

theorem V_main_v5_eq : (V m c main_v5 : IVec S16 1) = even := by
  unfold_abbrev_sides
  after_reads_simp
  rfl

theorem V_main_v5 (h : Fin 16) : (V m c main_v5 : IVec S16 1) (ix1 h) = if h.val % 2 = 0 then 1#1 else 0#1 :=
  (congrFun (V_main_v5_eq m c) _).trans (even_apply h)

set_option maxHeartbeats 2000000 in
theorem V_main_v13_eq : (V m c main_v13 : FVec Ideal S16x128x128 .bf16) =
    select (broadcastInDim S16x128x128 ![0, 1, 2] bcast_S16x1x1_S16x128x128_0_1_2 (broadcastInDim S16x1x1 ![0] bcast_S16_S16x1x1_0 (V m c main_v5)))
      (V m c main_v10) (V m c main_v12) := by
  unfold_abbrev_sides
  after_reads_simp
  rfl

/-- A head's weight on the lanes. -/
theorem V_main_v13 (h : Fin 16) (d v : Fin 128) : V m c main_v13 (ix3 h d v) = onLanes (a1 m c) h d v := by
  rw [V_main_v13_eq, V_main_v10, V_main_v12]
  pointwise [onLanes]
  have e := V_main_v5 m c h
  by_cases p : h.val % 2 = 0
  · rw [if_pos p] at e
    rw [if_pos p]
    simp only [Scalar.select]
    exact if_pos e
  · rw [if_neg p] at e
    rw [if_neg p]
    simp only [Scalar.select]
    exact if_neg (by rw [e]; decide)

theorem idx : ∀ t : Fin cfg0.N, win0_0.index t = ![0, t.val, 0] ∧ win0_1.index t = ![0, 0, 0] ∧ win0_2.index t = ![t.val, 0] :=
  (by decide +kernel : ∀ t : Fin grid0.N, _)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

theorem iblk0 (t : Fin cfg0.N) (h : Fin 16) (r : Fin 512) (d : Fin 128) : iblk m c 0 t (ix3 h r d) = a0 m c (ix3 (row t r) h d) := by
  refine Eq.trans (b := V m c main_v1 (ix3 h (row t r) d)) (by blk_ext [iblk, idx t, row]) ?_
  rw [V_main_v1]
  pointwise []

theorem iblk1 (t : Fin cfg0.N) (h : Fin 16) (d v : Fin 128) : iblk m c 1 t (ix3 h d v) = onLanes (a1 m c) h d v := by
  refine Eq.trans ?_ (V_main_v13 m c h d v)
  blk_ext [iblk, idx t]

/-- The two heads on the lanes of column `j`, and its lane. -/
def left (j : Fin 1024) : Fin 16 := ⟨2 * (j.val / 128), by have := j.isLt; omega⟩
def right (j : Fin 1024) : Fin 16 := ⟨2 * (j.val / 128) + 1, by have := j.isLt; omega⟩
def lane (j : Fin 1024) : Fin 128 := ⟨j.val % 128, by omega⟩

/-- The block of the output: the products of two heads. -/
def both (x0 : FVec Ideal S16x512x128 .bf16) (x1 : FVec Ideal S16x128x128 .bf16) (r : Fin 512) (j : Fin 1024) : EReal :=
  (∑ d : Fin 128, x0 (ix3 (left j) r d) * x1 (ix3 (left j) d (lane j))) + ∑ d : Fin 128, x0 (ix3 (right j) r d) * x1 (ix3 (right j) d (lane j))

set_option maxHeartbeats 1000000 in
theorem out_apply (x0 : FVec Ideal S16x512x128 .bf16) (x1 : FVec Ideal S16x128x128 .bf16) (y : S512x1024.Idx) :
    out0_2 (F := Ideal) x0 x1 y = both x0 x1 (y 0) (y 1) := by
  frame_out
  canon_tiles x h
  all_goals
    open_payloads
    pointwise [both, left, right, lane, ix3, ix2]
    reads_congr <;> blk_ext

/-- The head of column `j`, and its lane among that head's 64. -/
def head (j : Fin 1024) : Fin 16 := ⟨j.val / 64, by have := j.isLt; omega⟩
def own (j : Fin 1024) : Fin 64 := ⟨j.val % 64, by omega⟩

/-- The array the kernel leaves. -/
def G (x0 : FVec Ideal S4096x16x128 .f32) (x1 : FVec Ideal S128x16x64 .f32) : S4096x1024.Idx → EReal :=
  fun i => ∑ d : Fin 128, x0 (ix3 (i 0) (head (i 1)) d) * x1 (ix3 d (head (i 1)) (own (i 1)))

/-- One of the two heads adds nothing. -/
theorem two_heads (x0 : FVec Ideal S4096x16x128 .f32) (x1 : FVec Ideal S128x16x64 .f32) (s : Fin 4096) (j : Fin 1024) :
    ((∑ d : Fin 128, x0 (ix3 s (left j) d) * onLanes x1 (left j) d (lane j)) + ∑ d : Fin 128, x0 (ix3 s (right j) d) * onLanes x1 (right j) d (lane j) : EReal)
      = ∑ d : Fin 128, x0 (ix3 s (head j) d) * x1 (ix3 d (head j) (own j)) := by
  have pl : (left j).val % 2 = 0 := by show 2 * (j.val / 128) % 2 = 0; omega
  have pr : ¬ (right j).val % 2 = 0 := by show ¬ (2 * (j.val / 128) + 1) % 2 = 0; omega
  by_cases q : j.val % 128 < 64
  · have h0 : (∑ d : Fin 128, x0 (ix3 s (right j) d) * onLanes x1 (right j) d (lane j) : EReal) = 0 :=
      Finset.sum_eq_zero fun d _ => by
        rw [show onLanes x1 (right j) d (lane j) = 0 from (if_neg pr).trans (dif_pos q), mul_zero]
    have hh : left j = head j := Fin.ext (by show 2 * (j.val / 128) = j.val / 64; omega)
    rw [h0, add_zero]
    refine Finset.sum_congr rfl fun d _ => congrArg₂ (· * ·) (by rw [hh]) (((if_pos pl).trans (dif_pos q)).trans ?_)
    exact congrArg₂ (fun h v => x1 (ix3 d h v)) hh (Fin.ext (by show j.val % 128 = j.val % 64; omega))
  · have h0 : (∑ d : Fin 128, x0 (ix3 s (left j) d) * onLanes x1 (left j) d (lane j) : EReal) = 0 :=
      Finset.sum_eq_zero fun d _ => by
        rw [show onLanes x1 (left j) d (lane j) = 0 from (if_pos pl).trans (dif_neg q), mul_zero]
    have hh : right j = head j := Fin.ext (by show 2 * (j.val / 128) + 1 = j.val / 64; omega)
    rw [h0, zero_add]
    refine Finset.sum_congr rfl fun d _ => congrArg₂ (· * ·) (by rw [hh]) (((if_neg pr).trans (dif_neg q)).trans ?_)
    exact congrArg₂ (fun h v => x1 (ix3 d h v)) hh (Fin.ext (by show j.val % 128 - 64 = j.val % 64; omega))

theorem both_eq (t : Fin cfg0.N) (r : Fin 512) (j : Fin 1024) :
    both (iblk m c 0 t) (iblk m c 1 t) r j = G (a0 m c) (a1 m c) (ix2 (row t r) j) :=
  (congrArg₂ (· + ·) (Finset.sum_congr rfl fun d _ => congrArg₂ (fun a b : EReal => a * b) (iblk0 m c t (left j) r d) (iblk1 m c t (left j) d (lane j)))
    (Finset.sum_congr rfl fun d _ => congrArg₂ (fun a b : EReal => a * b) (iblk0 m c t (right j) r d) (iblk1 m c t (right j) d (lane j)))).trans
    (two_heads (a0 m c) (a1 m c) (row t r) j)

theorem arr2 : (dats m 0 c).arrAt 2 cfg0.N = G (a0 m c) (a1 m c) := by
  refine (dats m 0 c).arrAt_eq_of_covers 2 _ (by decide +kernel) fun t hf y => ?_
  blk_simp
  rw [after0_2, out_apply]
  refine (both_eq m c t (y 0) (y 1)).trans (congrArg (G (a0 m c) (a1 m c)) ?_)
  blk_ext [idx t, row]

open Cert.MlaUvRefIdeal.Read in
theorem ref_apply (x0 : FVec Ideal S4096x16x128 .f32) (x1 : FVec Ideal S128x16x64 .f32) (s : Fin 4096) (j : Fin 1024) :
    val_main_v3 (F := Ideal) x0 x1 (ix2 s j) = (∑ d : Fin 128, x0 (ix3 s (head j) d) * x1 (ix3 d (head j) (own j)) : EReal) := by
  unfold val_main_v3 val_main_v2 val_main_v1 val_main_v0
  pointwise [head, own]
  exact Finset.sum_congr rfl fun _ _ => mul_comm _ _

theorem frame_ref : Cert.quiescent_MlaUvRefIdeal := by
  intro m ρ _
  exact (θ_run Cert.MlaUvRefIdeal.defs _ _).mono (fun r h => ⟨fun c => (h c).2, sem_eq_zero_of_no_sems (by decide) r.2⟩)
    (Cert.MlaUvRefIdeal.Value.run m ρ)

theorem algebraic : Cert.algebraic_MlaUvIdeal_MlaUvRefIdeal := by
  intro m g m' g' _ hagree
  refine ⟨_, Cert.MlaUvIdeal.Value.run_blocks m g, ?_⟩
  refine (θ_run Cert.MlaUvRefIdeal.defs _ _).mono (fun r h c => ?_) (Cert.MlaUvRefIdeal.Value.run m' g')
  obtain ⟨h0, hk⟩ := h c
  obtain ⟨g0, g1⟩ := hagree c
  refine ⟨h0.trans ((Cert.MlaUvRefIdeal.Read.val_main_v3_eq _ _).trans ?_), hk⟩
  rw [g0, g1, arr2]
  funext i
  rw [eq_ix2 i]
  exact ref_apply _ _ _ _

end Cert.ValProj

end
-- ==== Proof.PoolProj.lean ====
/-
  The projection of the pool mixer, four groups of 256 features: the kernel takes the rows in two tiles of 2048; the
  array it leaves is the reference's projection, for any arguments.
-/
module

public import proofs.«01_k».proof.Defs
public import proofs.«01_k».proof.Proof.Gen.PoolProjIdeal.Value
public import proofs.«01_k».proof.Proof.Gen.PoolProjRefIdeal.Run
public import proofs.«01_k».proof.Proof.Gen.PoolProjRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Pool

open Cert.PoolProjIdeal Cert.PoolProjIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S4x256x256 .f32 := m ((c.tc : Thread nD τ).loc main_arg1)
abbrev a2 : FVec Ideal S4x256 .f32 := m ((c.tc : Thread nD τ).loc main_arg2)

/-- Feature `d` of group `g`; the group of a column, and its feature there. -/
def col (g : Fin 4) (d : Fin 256) : Fin 1024 := ⟨g.val * 256 + d.val, by have := g.isLt; have := d.isLt; omega⟩
def grp (j : Fin 1024) : Fin 4 := ⟨j.val / 256, by have := j.isLt; omega⟩
def own (j : Fin 1024) : Fin 256 := ⟨j.val % 256, by omega⟩

theorem grp_col (g : Fin 4) (d : Fin 256) : grp (col g d) = g := Fin.ext (by have := d.isLt; show (g.val * 256 + d.val) / 256 = g.val; omega)
theorem own_col (g : Fin 4) (d : Fin 256) : own (col g d) = d := Fin.ext (by have := d.isLt; show (g.val * 256 + d.val) % 256 = d.val; omega)

theorem V_main_v0 : (V m c main_v0 : FVec Ideal S4096x1024 .bf16) = truncf .bf16 (a0 m c) bitsLt_bf16_f32 := by
  unfold_abbrev_sides
  after_reads_simp

theorem V_main_v1 : (V m c main_v1 : FVec Ideal S4x256x256 .bf16) = truncf .bf16 (a1 m c) bitsLt_bf16_f32 := by
  unfold_abbrev_sides
  after_reads_simp

theorem V_main_v2 (g : Fin 4) (e : Fin 256) : V m c main_v2 (ix2 0 (col g e)) = a2 m c (ix2 g e) := by
  have h : (V m c main_v2 : FVec Ideal S1x1024 .f32) = shapeCast _ (a2 m c) shapeCasts_S4x256_S1x1024 := by
    unfold_abbrev_sides
    after_reads_simp
    rfl
  rw [h]
  pointwise [col]

theorem idx : ∀ t : Fin cfg0.N, win0_0.index t = ![t.val / 4, t.val % 4] ∧ win0_1.index t = ![t.val % 4, 0, 0] ∧ win0_2.index t = ![0, t.val % 4] ∧ win0_3.index t = ![t.val / 4, t.val % 4] :=
  (by decide +kernel : ∀ t : Fin grid0.N, _)

theorem lt_8 (t : Fin cfg0.N) : t.val < 8 := lt_of_lt_of_eq t.isLt (show cfg0.N = 8 from N_0)

/-- The group of a grid point, and row `r` of its tile. -/
def at_ (t : Fin cfg0.N) : Fin 4 := ⟨t.val % 4, by omega⟩
def row (t : Fin cfg0.N) (r : Fin 2048) : Fin 4096 := ⟨t.val / 4 * 2048 + r.val, by have := lt_8 t; have := r.isLt; omega⟩

theorem iblk0 (t : Fin cfg0.N) (r : Fin 2048) (d : Fin 256) : iblk m c 0 t (ix2 r d) = a0 m c (ix2 (row t r) (col (at_ t) d)) := by
  refine Eq.trans ?_ (congrFun (V_main_v0 m c) (ix2 (row t r) (col (at_ t) d)))
  blk_ext [iblk, idx t, row, col, at_]

theorem iblk1 (t : Fin cfg0.N) (d e : Fin 256) : iblk m c 1 t (ix3 0 d e) = a1 m c (ix3 (at_ t) d e) := by
  refine Eq.trans ?_ (congrFun (V_main_v1 m c) (ix3 (at_ t) d e))
  blk_ext [iblk, idx t, at_]

theorem iblk2 (t : Fin cfg0.N) (e : Fin 256) : iblk m c 2 t (ix2 0 e) = a2 m c (ix2 (at_ t) e) := by
  refine Eq.trans ?_ (V_main_v2 m c (at_ t) e)
  blk_ext [iblk, idx t, at_, col]

theorem out_apply (x0 : FVec Ideal S2048x256 .bf16) (x1 : FVec Ideal S1x256x256 .bf16) (x2 : FVec Ideal S1x256 .f32) (y : S2048x256.Idx) :
    out0_3 (F := Ideal) x0 x1 x2 y = ((∑ d : Fin 256, x0 (ix2 (y 0) d) * x1 (ix3 0 d (y 1))) + x2 (ix2 0 (y 1)) : EReal) := by
  frame_out
  open_payloads
  pointwise [ix2, ix3]

/-- An entry of the projection. -/
def proj (x0 : FVec Ideal S4096x1024 .f32) (x1 : FVec Ideal S4x256x256 .f32) (x2 : FVec Ideal S4x256 .f32) (s : Fin 4096) (g : Fin 4) (e : Fin 256) : EReal :=
  (∑ d : Fin 256, x0 (ix2 s (col g d)) * x1 (ix3 g d e)) + x2 (ix2 g e)

/-- The array the kernel leaves. -/
def G (x0 : FVec Ideal S4096x1024 .f32) (x1 : FVec Ideal S4x256x256 .f32) (x2 : FVec Ideal S4x256 .f32) : S4096x1024.Idx → EReal :=
  fun i => proj x0 x1 x2 (i 0) (grp (i 1)) (own (i 1))

theorem G_col (x0 : FVec Ideal S4096x1024 .f32) (x1 : FVec Ideal S4x256x256 .f32) (x2 : FVec Ideal S4x256 .f32) (s : Fin 4096) (g : Fin 4) (e : Fin 256) :
    G x0 x1 x2 (ix2 s (col g e)) = proj x0 x1 x2 s g e :=
  congrArg₂ (proj x0 x1 x2 s) (grp_col g e) (own_col g e)

theorem arr3 : (dats m 0 c).arrAt 3 cfg0.N = G (a0 m c) (a1 m c) (a2 m c) := by
  refine (dats m 0 c).arrAt_eq_of_covers 3 _ (by decide +kernel) fun t hf y => ?_
  blk_simp
  rw [after0_3, out_apply]
  refine Eq.trans (b := G (a0 m c) (a1 m c) (a2 m c) (ix2 (row t (y 0)) (col (at_ t) (y 1)))) ?_ (congrArg (G (a0 m c) (a1 m c) (a2 m c)) ?_)
  · refine Eq.trans ?_ (G_col _ _ _ (row t (y 0)) (at_ t) (y 1)).symm
    exact congrArg₂ (· + ·) (Finset.sum_congr rfl fun d _ => congrArg₂ (· * ·) (iblk0 m c t (y 0) d) (iblk1 m c t d (y 1))) (iblk2 m c t (y 1))
  · blk_ext [idx t, row, col, at_]

open Cert.PoolProjRefIdeal.Read in
theorem ref_apply (x0 : FVec Ideal S4096x1024 .f32) (x1 : FVec Ideal S4x256x256 .f32) (x2 : FVec Ideal S4x256 .f32) (s : Fin 4096) (j : Fin 1024) :
    val_main_v6 (F := Ideal) x0 x1 x2 (ix2 s j) = proj x0 x1 x2 s (grp j) (own j) := by
  unfold val_main_v6 val_main_v5 val_main_v4 val_main_v3 val_main_v2 val_main_v1 val_main_v0
  pointwise [proj, grp, own, col]
  exact congrArg (· + _) (Finset.sum_congr rfl fun _ _ => mul_comm _ _)

theorem frame_ref : Cert.quiescent_PoolProjRefIdeal := by
  intro m ρ _
  exact (θ_run Cert.PoolProjRefIdeal.defs _ _).mono (fun r h => ⟨fun c => (h c).2, sem_eq_zero_of_no_sems (by decide) r.2⟩)
    (Cert.PoolProjRefIdeal.Value.run m ρ)

theorem algebraic : Cert.algebraic_PoolProjIdeal_PoolProjRefIdeal := by
  intro m g m' g' _ hagree
  refine ⟨_, Cert.PoolProjIdeal.Value.run_blocks m g, ?_⟩
  refine (θ_run Cert.PoolProjRefIdeal.defs _ _).mono (fun r h c => ?_) (Cert.PoolProjRefIdeal.Value.run m' g')
  obtain ⟨h0, hk⟩ := h c
  obtain ⟨g0, g1, g2⟩ := hagree c
  refine ⟨h0.trans ((Cert.PoolProjRefIdeal.Read.val_main_v6_eq _ _ _).trans ?_), hk⟩
  rw [g0, g1, g2, arr3]
  funext i
  rw [eq_ix2 i]
  exact ref_apply _ _ _ _ _

end Cert.Pool

end
-- ==== Proof.PoolDw.lean ====
/-
  The gradient of the pool mixer's projection by its weight, four groups of 256 features: the kernel adds up the products
  of two tiles of 2048 rows; the array it leaves is the reference's gradient, for any arguments.
-/
module

public import proofs.«01_k».proof.Defs
public import proofs.«01_k».proof.Proof.Gen.PoolDwIdeal.Value
public import proofs.«01_k».proof.Proof.Gen.PoolDwRefIdeal.Run
public import proofs.«01_k».proof.Proof.Gen.PoolDwRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.PoolWeight

open Cert.PoolDwIdeal Cert.PoolDwIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S4096x1024 .f32 := m ((c.tc : Thread nD τ).loc main_arg1)

/-- Feature `d` of group `g`. -/
def col (g : Fin 4) (d : Fin 256) : Fin 1024 := ⟨g.val * 256 + d.val, by have := g.isLt; have := d.isLt; omega⟩

theorem V_main_v0 : (V m c main_v0 : FVec Ideal S4096x1024 .bf16) = truncf .bf16 (a0 m c) bitsLt_bf16_f32 := by
  unfold_abbrev_sides
  after_reads_simp

theorem V_main_v1 : (V m c main_v1 : FVec Ideal S4096x1024 .bf16) = truncf .bf16 (a1 m c) bitsLt_bf16_f32 := by
  unfold_abbrev_sides
  after_reads_simp

theorem idx : ∀ t : Fin cfg0.N, win0_0.index t = ![t.val % 2, t.val / 2] ∧ win0_1.index t = ![t.val % 2, t.val / 2] ∧ win0_2.index t = ![t.val / 2, 0, 0] :=
  (by decide +kernel : ∀ t : Fin grid0.N, _)

theorem lt_8 (t : Fin cfg0.N) : t.val < 8 := lt_of_lt_of_eq t.isLt (show cfg0.N = 8 from N_0)

/-- The group of a grid point, and row `r` of its tile. -/
def at_ (t : Fin cfg0.N) : Fin 4 := ⟨t.val / 2, by have := lt_8 t; omega⟩
def row (t : Fin cfg0.N) (r : Fin 2048) : Fin 4096 := ⟨t.val % 2 * 2048 + r.val, by have := r.isLt; omega⟩

theorem iblk0 (t : Fin cfg0.N) (r : Fin 2048) (d : Fin 256) : iblk m c 0 t (ix2 r d) = a0 m c (ix2 (row t r) (col (at_ t) d)) := by
  refine Eq.trans ?_ (congrFun (V_main_v0 m c) (ix2 (row t r) (col (at_ t) d)))
  blk_ext [iblk, idx t, row, col, at_]

theorem iblk1 (t : Fin cfg0.N) (r : Fin 2048) (d : Fin 256) : iblk m c 1 t (ix2 r d) = a1 m c (ix2 (row t r) (col (at_ t) d)) := by
  refine Eq.trans ?_ (congrFun (V_main_v1 m c) (ix2 (row t r) (col (at_ t) d)))
  blk_ext [iblk, idx t, row, col, at_]

/-- What a grid point adds to an entry of its group: the products over its 2048 rows. -/
def add (x0 x1 : FVec Ideal S2048x256 .bf16) (d e : Fin 256) : EReal := ∑ r : Fin 2048, x0 (ix2 r d) * x1 (ix2 r e)

/-- The running sum after the first tile. -/
theorem soutA (c : Dev nD) (t : Fin cfg0.N) (x0 x1 : FVec Ideal S2048x256 .bf16) (h0 : t.val % 2 = 0) (h1 : ¬t.val % 2 = 1) (y) :
    sout0_A_0 (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) x0 x1 y = add x0 x1 (y 0) (y 1) := by
  frame_out
  open_payloads
  pointwise [add, ix2]

/-- The running sum after the last tile. -/
theorem soutB (c : Dev nD) (t : Fin cfg0.N) (x0 x1 : FVec Ideal S2048x256 .bf16) (xs : FVec Ideal S256x256 .f32) (h0 : ¬t.val % 2 = 0) (h1 : t.val % 2 = 1) (y) :
    sout0_B_0 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs y + add x0 x1 (y 0) (y 1) : EReal) := by
  frame_out
  simp only [read_unread_whole]
  open_payloads
  pointwise [add, ix2]

/-- The result, stored at the last tile. -/
theorem outB (c : Dev nD) (t : Fin cfg0.N) (x0 x1 : FVec Ideal S2048x256 .bf16) (xs : FVec Ideal S256x256 .f32) (h0 : ¬t.val % 2 = 0) (h1 : t.val % 2 = 1) (y) :
    out0_B_2 (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) x0 x1 xs y
      = (xs (ix2 (y 1) (y 2)) + add x0 x1 (y 1) (y 2) : EReal) := by
  frame_out
  simp only [read_unread_whole]
  open_payloads
  pointwise [add, ix2, ix3]

/-- The array the kernel leaves. -/
def G (x0 x1 : FVec Ideal S4096x1024 .f32) : S4x256x256.Idx → EReal :=
  fun i => ∑ s : Fin 4096, x0 (ix2 s (col (i 0) (i 1))) * x1 (ix2 s (col (i 0) (i 2)))

/-- The share of a grid point. -/
def part (t : Fin cfg0.N) (i : S256x256.Idx) : EReal := add (iblk m c 0 t) (iblk m c 1 t) (i 0) (i 1)

theorem acc (t : Fin cfg0.N) (hr : t.val % 2 = 1) (i : S256x256.Idx) :
    (outsAt0 m c t.val t.isLt).2 i = (0 + ∑ s : Fin 2, part m c ⟨2 * (t.val / 2) + s.val, Pipeline.run_point_lt_of_flush t hr s⟩ i : EReal) :=
  Pipeline.eq_sum_fin_of_reset_step_apply_of_flush (M := EReal) (fun n h => (outsAt0 m c n h).2) 2 (fun _ => 0) (part m c)
    (fun t h i => by
      show (outsAt0 m c t.val t.isLt).2 i = (0 + part m c t i : EReal)
      have h1 : ¬t.val % 2 = 1 := by omega
      rw [outsAt0_A m c t h h1, zero_add]
      dsimp only
      rw [soutA (h0 := h) (h1 := h1)]
      rfl)
    (fun t h i => by
      have h1 : t.val % 2 = 1 := by omega
      rw [outsAt0_B m c t h h1]
      dsimp only
      rw [soutB (h0 := h) (h1 := h1)]
      rfl) t hr i

theorem point (t : Fin cfg0.N) (hr : t.val % 2 = 1) (y : S1x256x256.Idx) : (outsAt0 m c t.val t.isLt).1 y = (outsAt0 m c t.val t.isLt).2 (ix2 (y 1) (y 2)) := by
  have h0 : ¬t.val % 2 = 0 := by omega
  rw [outsAt0_B m c t h0 hr]
  dsimp only
  rw [outB (h0 := h0) (h1 := hr), soutB (h0 := h0) (h1 := hr)]
  rfl

theorem parts (t : Fin cfg0.N) (hr : t.val % 2 = 1) (d e : Fin 256) :
    (∑ s : Fin 2, part m c ⟨2 * (t.val / 2) + s.val, Pipeline.run_point_lt_of_flush t hr s⟩ (ix2 d e) : EReal) = G (a0 m c) (a1 m c) (ix3 (at_ t) d e) := by
  unfold G
  rw [Fin.sum_univ_tiles 2 2048 rfl]
  refine Finset.sum_congr rfl fun s _ => ?_
  unfold part add
  refine Finset.sum_congr rfl fun r _ => ?_
  have e1 : row ⟨2 * (t.val / 2) + s.val, Pipeline.run_point_lt_of_flush t hr s⟩ r = ⟨s.val * 2048 + r.val, by have := s.isLt; have := r.isLt; omega⟩ :=
    Fin.ext (by have := s.isLt; simp only [row]; omega)
  have e2 : at_ ⟨2 * (t.val / 2) + s.val, Pipeline.run_point_lt_of_flush t hr s⟩ = at_ t :=
    Fin.ext (by have := s.isLt; simp only [at_]; omega)
  exact congrArg₂ (· * ·) ((iblk0 m c _ r d).trans (congrArg₂ (fun q g => a0 m c (ix2 q (col g d))) e1 e2))
    ((iblk1 m c _ r e).trans (congrArg₂ (fun q g => a1 m c (ix2 q (col g e))) e1 e2))

theorem arr2 : (dats m 0 c).arrAt 2 cfg0.N = G (a0 m c) (a1 m c) := by
  refine (dats m 0 c).arrAt_eq_of_covers 2 _ (by decide +kernel) fun t hf y => ?_
  have hr := (flush0_2 t).mp hf
  blk_simp
  rw [after0_2]
  refine (point m c t hr y).trans ((acc m c t hr (ix2 (y 1) (y 2))).trans ((zero_add _).trans ((parts m c t hr (y 1) (y 2)).trans (congrArg (G (a0 m c) (a1 m c)) ?_))))
  blk_ext [idx t, at_]

open Cert.PoolDwRefIdeal.Read in
theorem ref_apply (x0 x1 : FVec Ideal S4096x1024 .f32) (g : Fin 4) (d e : Fin 256) :
    val_main_v12 (F := Ideal) x0 x1 (ix3 g d e) = (∑ s : Fin 4096, x0 (ix2 s (col g d)) * x1 (ix2 s (col g e)) : EReal) := by
  unfold val_main_v12 val_main_v11 val_main_v10 val_main_v9 val_main_v2
  pointwise [col]
  exact Finset.sum_congr rfl fun _ _ => mul_comm _ _

theorem frame_ref : Cert.quiescent_PoolDwRefIdeal := by
  intro m ρ _
  exact (θ_run Cert.PoolDwRefIdeal.defs _ _).mono (fun r h => ⟨fun c => (h c).2, sem_eq_zero_of_no_sems (by decide) r.2⟩)
    (Cert.PoolDwRefIdeal.Value.run m ρ)

theorem algebraic : Cert.algebraic_PoolDwIdeal_PoolDwRefIdeal := by
  intro m g m' g' _ hagree
  refine ⟨_, Cert.PoolDwIdeal.Value.run_blocks m g, ?_⟩
  refine (θ_run Cert.PoolDwRefIdeal.defs _ _).mono (fun r h c => ?_) (Cert.PoolDwRefIdeal.Value.run m' g')
  obtain ⟨h0, hk⟩ := h c
  obtain ⟨g0, g1⟩ := hagree c
  refine ⟨h0.trans ((Cert.PoolDwRefIdeal.Read.val_main_v12_eq _ _).trans ?_), hk⟩
  rw [g0, g1, arr2]
  funext i
  rw [eq_ix3 i]
  exact ref_apply _ _ _ _ _

end Cert.PoolWeight

end
-- ==== Proof.PoolDz.lean ====
/-
  The gradient of the pool mixer's projection by its input, four groups of 256 features: the kernel takes the rows in
  two tiles of 2048; the array it leaves is the reference's gradient, for any arguments.
-/
module

public import proofs.«01_k».proof.Defs
public import proofs.«01_k».proof.Proof.Gen.PoolDzIdeal.Value
public import proofs.«01_k».proof.Proof.Gen.PoolDzRefIdeal.Run
public import proofs.«01_k».proof.Proof.Gen.PoolDzRefIdeal.Read
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.PoolBack

open Cert.PoolDzIdeal Cert.PoolDzIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S4096x1024 .f32 := m ((c.tc : Thread nD τ).loc main_arg0)
abbrev a1 : FVec Ideal S4x256x256 .f32 := m ((c.tc : Thread nD τ).loc main_arg1)

/-- Feature `d` of group `g`; the group of a column, and its feature there. -/
def col (g : Fin 4) (d : Fin 256) : Fin 1024 := ⟨g.val * 256 + d.val, by have := g.isLt; have := d.isLt; omega⟩
def grp (j : Fin 1024) : Fin 4 := ⟨j.val / 256, by have := j.isLt; omega⟩
def own (j : Fin 1024) : Fin 256 := ⟨j.val % 256, by omega⟩

theorem grp_col (g : Fin 4) (d : Fin 256) : grp (col g d) = g := Fin.ext (by have := d.isLt; show (g.val * 256 + d.val) / 256 = g.val; omega)
theorem own_col (g : Fin 4) (d : Fin 256) : own (col g d) = d := Fin.ext (by have := d.isLt; show (g.val * 256 + d.val) % 256 = d.val; omega)

theorem V_main_v0 : (V m c main_v0 : FVec Ideal S4096x1024 .bf16) = truncf .bf16 (a0 m c) bitsLt_bf16_f32 := by
  unfold_abbrev_sides
  after_reads_simp

theorem V_main_v1 : (V m c main_v1 : FVec Ideal S4x256x256 .bf16) = truncf .bf16 (a1 m c) bitsLt_bf16_f32 := by
  unfold_abbrev_sides
  after_reads_simp

theorem idx : ∀ t : Fin cfg0.N, win0_0.index t = ![t.val / 4, t.val % 4] ∧ win0_1.index t = ![t.val % 4, 0, 0] ∧ win0_2.index t = ![t.val / 4, t.val % 4] :=
  (by decide +kernel : ∀ t : Fin grid0.N, _)

theorem lt_8 (t : Fin cfg0.N) : t.val < 8 := lt_of_lt_of_eq t.isLt (show cfg0.N = 8 from N_0)

/-- The group of a grid point, and row `r` of its tile. -/
def at_ (t : Fin cfg0.N) : Fin 4 := ⟨t.val % 4, by omega⟩
def row (t : Fin cfg0.N) (r : Fin 2048) : Fin 4096 := ⟨t.val / 4 * 2048 + r.val, by have := lt_8 t; have := r.isLt; omega⟩

theorem iblk0 (t : Fin cfg0.N) (r : Fin 2048) (d : Fin 256) : iblk m c 0 t (ix2 r d) = a0 m c (ix2 (row t r) (col (at_ t) d)) := by
  refine Eq.trans ?_ (congrFun (V_main_v0 m c) (ix2 (row t r) (col (at_ t) d)))
  blk_ext [iblk, idx t, row, col, at_]

theorem iblk1 (t : Fin cfg0.N) (d e : Fin 256) : iblk m c 1 t (ix3 0 d e) = a1 m c (ix3 (at_ t) d e) := by
  refine Eq.trans ?_ (congrFun (V_main_v1 m c) (ix3 (at_ t) d e))
  blk_ext [iblk, idx t, at_]

theorem out_apply (x0 : FVec Ideal S2048x256 .bf16) (x1 : FVec Ideal S1x256x256 .bf16) (y : S2048x256.Idx) :
    out0_2 (F := Ideal) x0 x1 y = (∑ e : Fin 256, x0 (ix2 (y 0) e) * x1 (ix3 0 (y 1) e) : EReal) := by
  frame_out
  open_payloads
  pointwise [ix2, ix3]

/-- An entry of the gradient. -/
def back (x0 : FVec Ideal S4096x1024 .f32) (x1 : FVec Ideal S4x256x256 .f32) (s : Fin 4096) (g : Fin 4) (d : Fin 256) : EReal :=
  ∑ e : Fin 256, x0 (ix2 s (col g e)) * x1 (ix3 g d e)

/-- The array the kernel leaves. -/
def G (x0 : FVec Ideal S4096x1024 .f32) (x1 : FVec Ideal S4x256x256 .f32) : S4096x1024.Idx → EReal :=
  fun i => back x0 x1 (i 0) (grp (i 1)) (own (i 1))

theorem G_col (x0 : FVec Ideal S4096x1024 .f32) (x1 : FVec Ideal S4x256x256 .f32) (s : Fin 4096) (g : Fin 4) (e : Fin 256) :
    G x0 x1 (ix2 s (col g e)) = back x0 x1 s g e :=
  congrArg₂ (back x0 x1 s) (grp_col g e) (own_col g e)

theorem arr2 : (dats m 0 c).arrAt 2 cfg0.N = G (a0 m c) (a1 m c) := by
  refine (dats m 0 c).arrAt_eq_of_covers 2 _ (by decide +kernel) fun t hf y => ?_
  blk_simp
  rw [after0_2, out_apply]
  refine Eq.trans (b := G (a0 m c) (a1 m c) (ix2 (row t (y 0)) (col (at_ t) (y 1)))) ?_ (congrArg (G (a0 m c) (a1 m c)) ?_)
  · refine Eq.trans ?_ (G_col _ _ (row t (y 0)) (at_ t) (y 1)).symm
    exact Finset.sum_congr rfl fun e _ => congrArg₂ (· * ·) (iblk0 m c t (y 0) e) (iblk1 m c t (y 1) e)
  · blk_ext [idx t, row, col, at_]

open Cert.PoolDzRefIdeal.Read in
theorem ref_apply (x0 : FVec Ideal S4096x1024 .f32) (x1 : FVec Ideal S4x256x256 .f32) (s : Fin 4096) (j : Fin 1024) :
    val_main_v13 (F := Ideal) x0 x1 (ix2 s j) = back x0 x1 s (grp j) (own j) := by
  unfold val_main_v13 val_main_v12 val_main_v11 val_main_v10 val_main_v9
  pointwise [back, grp, own, col]

theorem frame_ref : Cert.quiescent_PoolDzRefIdeal := by
  intro m ρ _
  exact (θ_run Cert.PoolDzRefIdeal.defs _ _).mono (fun r h => ⟨fun c => (h c).2, sem_eq_zero_of_no_sems (by decide) r.2⟩)
    (Cert.PoolDzRefIdeal.Value.run m ρ)

theorem algebraic : Cert.algebraic_PoolDzIdeal_PoolDzRefIdeal := by
  intro m g m' g' _ hagree
  refine ⟨_, Cert.PoolDzIdeal.Value.run_blocks m g, ?_⟩
  refine (θ_run Cert.PoolDzRefIdeal.defs _ _).mono (fun r h c => ?_) (Cert.PoolDzRefIdeal.Value.run m' g')
  obtain ⟨h0, hk⟩ := h c
  obtain ⟨g0, g1⟩ := hagree c
  refine ⟨h0.trans ((Cert.PoolDzRefIdeal.Read.val_main_v13_eq _ _).trans ?_), hk⟩
  rw [g0, g1, arr2]
  funext i
  rw [eq_ix2 i]
  exact ref_apply _ _ _ _

end Cert.PoolBack

end
-- ==== Proof.Norm.lean ====
/-
  The norm of one row of 1024 features, with gain, scale and shift.
-/
module

public import Idealize.ShloMosaic.PureOps
public import Idealize.ShloMosaic.Lib.Pointwise

@[expose] public section

noncomputable section

namespace Cert.Norm

open Idealize.ShloMosaic

/-- The mean square of a row, and a small constant. -/
def square (f : Fin 1024 → EReal) : EReal := Ideal.div (∑ d, f d * f d) (Ideal.ofBits .f32 0x44800000#32) + Ideal.ofBits .f32 0x358637BD#32

/-- The inverse of its root. -/
def rstd (f : Fin 1024 → EReal) : EReal := Ideal.rsqrt (square f)

/-- One. -/
def one : EReal := Ideal.ofBits .f32 0x3F800000#32

/-- A half. -/
def half : EReal := Ideal.ofBits .f32 0x3F000000#32

/-- The row normed, with gain, scale and shift. -/
def pre (f g sc sh : Fin 1024 → EReal) (d : Fin 1024) : EReal := f d * rstd f * g d * (one + sc d) + sh d

/-- The row `f` with the gated norm of `u` added, by the weight `w`. -/
def post (w : EReal) (f u g gt : Fin 1024 → EReal) (d : Fin 1024) : EReal := f d + w * (one + gt d) * (u d * rstd u * g d)

theorem pre_congr {f f' g g' sc sc' sh sh' : Fin 1024 → EReal} (h0 : ∀ d, f d = f' d) (h1 : ∀ d, g d = g' d) (h2 : ∀ d, sc d = sc' d)
    (h3 : ∀ d, sh d = sh' d) (d : Fin 1024) : pre f g sc sh d = pre f' g' sc' sh' d := by
  rw [funext h0, funext h1, funext h2, funext h3]

theorem post_congr {w : EReal} {f f' u u' g g' gt gt' : Fin 1024 → EReal} (h0 : ∀ d, f d = f' d) (h1 : ∀ d, u d = u' d) (h2 : ∀ d, g d = g' d)
    (h3 : ∀ d, gt d = gt' d) (d : Fin 1024) : post w f u g gt d = post w f' u' g' gt' d := by
  rw [funext h0, funext h1, funext h2, funext h3]

end Cert.Norm

end
-- ==== Proof.PreNorm.lean ====
/-
  The first norm, with gain, scale and shift: the kernel takes the rows in eight tiles of 512; the array it leaves is the
  reference's, for any arguments.
-/
module

public import proofs.«01_k».proof.Defs
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.FirstNorm

open Cert.PreNormIdeal Cert.PreNormIdeal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S12x1024 .f32 := m ((c.tc : Thread nD τ).loc main_arg1)
abbrev a2 : FVec Ideal S18x1024 .f32 := m ((c.tc : Thread nD τ).loc main_arg2)

theorem V_main_v0 : (V m c main_v0 : FVec Ideal S12x1x1024 .f32) = broadcastInDim S12x1x1024 ![0, 2] bcast_S12x1024_S12x1x1024_0_2 (a1 m c) := by
  unfold_abbrev_sides
  after_reads_simp

theorem V_main_v1 : (V m c main_v1 : FVec Ideal S18x1x1024 .f32) = broadcastInDim S18x1x1024 ![0, 2] bcast_S18x1024_S18x1x1024_0_2 (a2 m c) := by
  unfold_abbrev_sides
  after_reads_simp

theorem idx : ∀ t : Fin cfg0.N, win0_0.index t = ![t.val, 0] ∧ win0_1.index t = ![0, 0, 0] ∧ win0_2.index t = ![1, 0, 0] ∧ win0_3.index t = ![0, 0, 0]
    ∧ win0_4.index t = ![t.val, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (d : Fin 1024) : iblk m c 1 t (ix3 0 0 d) = a1 m c (ix2 0 d) := by
  refine Eq.trans (b := V m c main_v0 (ix3 0 0 d)) (by blk_ext [iblk, idx t]) ?_
  rw [V_main_v0]
  pointwise []

theorem iblk2 (t : Fin cfg0.N) (d : Fin 1024) : iblk m c 2 t (ix3 0 0 d) = a2 m c (ix2 1 d) := by
  refine Eq.trans (b := V m c main_v1 (ix3 1 0 d)) (by blk_ext [iblk, idx t]) ?_
  rw [V_main_v1]
  pointwise []

theorem iblk3 (t : Fin cfg0.N) (d : Fin 1024) : iblk m c 3 t (ix3 0 0 d) = a2 m c (ix2 0 d) := by
  refine Eq.trans (b := V m c main_v1 (ix3 0 0 d)) (by blk_ext [iblk, idx t]) ?_
  rw [V_main_v1]
  pointwise []

theorem out_apply (x0 : FVec Ideal S512x1024 .f32) (x1 x2 x3 : FVec Ideal S1x1x1024 .f32) (y : S512x1024.Idx) :
    out0_4 (F := Ideal) x0 x1 x2 x3 y = Norm.pre (fun d => x0 (ix2 (y 0) d)) (fun d => x1 (ix3 0 0 d)) (fun d => x2 (ix3 0 0 d)) (fun d => x3 (ix3 0 0 d)) (y 1) := by
  frame_out
  open_payloads
  pointwise [Norm.pre, Norm.rstd, Norm.square, Norm.one, ix2]

/-- The array the kernel leaves. -/
def G (x0 : FVec Ideal S4096x1024 .f32) (x1 : FVec Ideal S12x1024 .f32) (x2 : FVec Ideal S18x1024 .f32) : S4096x1024.Idx → EReal :=
  fun i => Norm.pre (fun d => x0 (ix2 (i 0) d)) (fun d => x1 (ix2 0 d)) (fun d => x2 (ix2 1 d)) (fun d => x2 (ix2 0 d)) (i 1)

theorem arr4 : (dats m 0 c).arrAt 4 cfg0.N = G (a0 m c) (a1 m c) (a2 m c) := by
  refine (dats m 0 c).arrAt_eq_of_covers 4 _ (by decide +kernel) fun t hf y => ?_
  blk_simp
  rw [after0_4, out_apply]
  refine Eq.trans (b := G (a0 m c) (a1 m c) (a2 m c) (ix2 (row t (y 0)) (y 1))) ?_ (congrArg (G (a0 m c) (a1 m c) (a2 m c)) ?_)
  · exact Norm.pre_congr (fun d => iblk0 m c t (y 0) d) (iblk1 m c t) (iblk2 m c t) (iblk3 m c t) (y 1)
  · blk_ext [idx t, row]

open Cert.PreNormRefIdeal.Read in
theorem ref_apply (x0 : FVec Ideal S4096x1024 .f32) (x1 : FVec Ideal S12x1024 .f32) (x2 : FVec Ideal S18x1024 .f32) (s : Fin 4096) (a : Fin 1024) :
    val_main_v21 (F := Ideal) x0 x1 x2 (ix2 s a) = G x0 x1 x2 (ix2 s a) := by
  unfold val_main_v21 val_main_v20 val_main_v18 val_main_v19 val_main_v14 val_main_v17 val_main_v2 val_main_v12
    val_main_v13 val_main_v16 val_main_v11 val_main_v0 val_main_v15 val_main_v1 val_main_v10 val_main_cst_2
    val_main_v9 val_main_v7 val_main_v8 val_main_v5 val_main_v6 val_main_cst_1 val_main_v4 val_main_cst_0
    val_main_v3 val_main_cst
  pointwise [G, Norm.pre, Norm.rstd, Norm.square, Norm.one]

theorem frame_ref : Cert.quiescent_PreNormRefIdeal := by
  intro m ρ _
  exact (θ_run Cert.PreNormRefIdeal.defs _ _).mono (fun r h => ⟨fun c => (h c).2, sem_eq_zero_of_no_sems (by decide) r.2⟩)
    (Cert.PreNormRefIdeal.Value.run m ρ)

theorem algebraic : Cert.algebraic_PreNormIdeal_PreNormRefIdeal := by
  intro m g m' g' _ hagree
  refine ⟨_, Cert.PreNormIdeal.Value.run_blocks m g, ?_⟩
  refine (θ_run Cert.PreNormRefIdeal.defs _ _).mono (fun r h c => ?_) (Cert.PreNormRefIdeal.Value.run m' g')
  obtain ⟨h0, hk⟩ := h c
  obtain ⟨g0, g1, g2⟩ := hagree c
  refine ⟨h0.trans ((Cert.PreNormRefIdeal.Read.val_main_v21_eq _ _ _).trans ?_), hk⟩
  rw [g0, g1, g2, arr4]
  funext i
  rw [eq_ix2 i]
  exact ref_apply _ _ _ _ _

end Cert.FirstNorm

end
-- ==== Proof.NormLink.lean ====
/-
  A sub-layer's output, normed and gated, added to the stream by half, and the norm in front of the next sub-layer. The kernel
  takes the rows in eight tiles of 512; the arrays it leaves are the reference's, for any arguments.
-/
module

public import proofs.«01_k».proof.Defs
public import proofs.«01_k».proof.Proof.Gen.NormLinkIdeal.Value
public import proofs.«01_k».proof.Proof.Gen.NormLinkRefIdeal.Run
public import proofs.«01_k».proof.Proof.Gen.NormLinkRefIdeal.Read
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkNorm

open Cert.NormLinkIdeal Cert.NormLinkIdeal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S12x1024 .f32 := m ((c.tc : Thread nD τ).loc main_arg2)
abbrev a3 : FVec Ideal S18x1024 .f32 := m ((c.tc : Thread nD τ).loc main_arg3)

theorem V_main_v0 : (V m c main_v0 : FVec Ideal S12x1x1024 .f32) = broadcastInDim S12x1x1024 ![0, 2] bcast_S12x1024_S12x1x1024_0_2 (a2 m c) := by
  unfold_abbrev_sides
  after_reads_simp

theorem V_main_v1 : (V m c main_v1 : FVec Ideal S18x1x1024 .f32) = broadcastInDim S18x1x1024 ![0, 2] bcast_S18x1024_S18x1x1024_0_2 (a3 m c) := by
  unfold_abbrev_sides
  after_reads_simp

theorem V_main_v2 : (V m c main_v2 : FVec Ideal S4096x1024 .bf16) = truncf .bf16 (a1 m c) bitsLt_bf16_f32 := by
  unfold_abbrev_sides
  after_reads_simp

theorem idx : ∀ t : Fin cfg0.N, win0_0.index t = ![t.val, 0] ∧ win0_1.index t = ![t.val, 0] ∧ win0_2.index t = ![7, 0, 0] ∧ win0_3.index t = ![11, 0, 0]
    ∧ win0_4.index t = ![8, 0, 0] ∧ win0_5.index t = ![13, 0, 0] ∧ win0_6.index t = ![12, 0, 0] ∧ win0_7.index t = ![t.val, 0] ∧ win0_8.index t = ![t.val, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_v2 m c) (ix2 (row t r) d))
  blk_ext [iblk, idx t, row]

theorem iblk2 (t : Fin cfg0.N) (d : Fin 1024) : iblk m c 2 t (ix3 0 0 d) = a2 m c (ix2 7 d) := by
  refine Eq.trans (b := V m c main_v0 (ix3 7 0 d)) (by blk_ext [iblk, idx t]) ?_
  rw [V_main_v0]
  pointwise []

theorem iblk3 (t : Fin cfg0.N) (d : Fin 1024) : iblk m c 3 t (ix3 0 0 d) = a3 m c (ix2 11 d) := by
  refine Eq.trans (b := V m c main_v1 (ix3 11 0 d)) (by blk_ext [iblk, idx t]) ?_
  rw [V_main_v1]
  pointwise []

theorem iblk4 (t : Fin cfg0.N) (d : Fin 1024) : iblk m c 4 t (ix3 0 0 d) = a2 m c (ix2 8 d) := by
  refine Eq.trans (b := V m c main_v0 (ix3 8 0 d)) (by blk_ext [iblk, idx t]) ?_
  rw [V_main_v0]
  pointwise []

theorem iblk5 (t : Fin cfg0.N) (d : Fin 1024) : iblk m c 5 t (ix3 0 0 d) = a3 m c (ix2 13 d) := by
  refine Eq.trans (b := V m c main_v1 (ix3 13 0 d)) (by blk_ext [iblk, idx t]) ?_
  rw [V_main_v1]
  pointwise []

theorem iblk6 (t : Fin cfg0.N) (d : Fin 1024) : iblk m c 6 t (ix3 0 0 d) = a3 m c (ix2 12 d) := by
  refine Eq.trans (b := V m c main_v1 (ix3 12 0 d)) (by blk_ext [iblk, idx t]) ?_
  rw [V_main_v1]
  pointwise []

/-- The stream after the sub-layer, in a tile. -/
def link (x0 : FVec Ideal S512x1024 .f32) (x1 : FVec Ideal S512x1024 .bf16) (x2 x3 : FVec Ideal S1x1x1024 .f32) (r : Fin 512) : Fin 1024 → EReal :=
  Norm.post Norm.half (fun d => x0 (ix2 r d)) (fun d => x1 (ix2 r d)) (fun d => x2 (ix3 0 0 d)) (fun d => x3 (ix3 0 0 d))

theorem out7_apply (x0 : FVec Ideal S512x1024 .f32) (x1 : FVec Ideal S512x1024 .bf16) (x2 x3 x4 x5 x6 : FVec Ideal S1x1x1024 .f32) (y : S512x1024.Idx) :
    out0_7 (F := Ideal) x0 x1 x2 x3 x4 x5 x6 y = link x0 x1 x2 x3 (y 0) (y 1) := by
  frame_out
  open_payloads
  pointwise [link, Norm.post, Norm.rstd, Norm.square, Norm.one, Norm.half, ix2]

theorem out8_apply (x0 : FVec Ideal S512x1024 .f32) (x1 : FVec Ideal S512x1024 .bf16) (x2 x3 x4 x5 x6 : FVec Ideal S1x1x1024 .f32) (y : S512x1024.Idx) :
    out0_8 (F := Ideal) x0 x1 x2 x3 x4 x5 x6 y
      = Norm.pre (link x0 x1 x2 x3 (y 0)) (fun d => x4 (ix3 0 0 d)) (fun d => x5 (ix3 0 0 d)) (fun d => x6 (ix3 0 0 d)) (y 1) := by
  frame_out
  open_payloads
  pointwise [link, Norm.pre, Norm.post, Norm.rstd, Norm.square, Norm.one, Norm.half, ix2]

/-- The arrays the kernel leaves. -/
def G7 (x0 x1 : FVec Ideal S4096x1024 .f32) (x2 : FVec Ideal S12x1024 .f32) (x3 : FVec Ideal S18x1024 .f32) : S4096x1024.Idx → EReal :=
  fun i => Norm.post Norm.half (fun d => x0 (ix2 (i 0) d)) (fun d => x1 (ix2 (i 0) d)) (fun d => x2 (ix2 7 d)) (fun d => x3 (ix2 11 d)) (i 1)
def G8 (x0 x1 : FVec Ideal S4096x1024 .f32) (x2 : FVec Ideal S12x1024 .f32) (x3 : FVec Ideal S18x1024 .f32) : S4096x1024.Idx → EReal :=
  fun i => Norm.pre (fun d => G7 x0 x1 x2 x3 (ix2 (i 0) d)) (fun d => x2 (ix2 8 d)) (fun d => x3 (ix2 13 d)) (fun d => x3 (ix2 12 d)) (i 1)

theorem link_eq (t : Fin cfg0.N) (r : Fin 512) (d : Fin 1024) :
    link (iblk m c 0 t) (iblk m c 1 t) (iblk m c 2 t) (iblk m c 3 t) r d = G7 (a0 m c) (a1 m c) (a2 m c) (a3 m c) (ix2 (row t r) d) :=
  Norm.post_congr (fun d => iblk0 m c t r d) (fun d => iblk1 m c t r d) (iblk2 m c t) (iblk3 m c t) d

theorem arr7 : (dats m 0 c).arrAt 7 cfg0.N = G7 (a0 m c) (a1 m c) (a2 m c) (a3 m c) := by
  refine (dats m 0 c).arrAt_eq_of_covers 7 _ (by decide +kernel) fun t hf y => ?_
  blk_simp
  rw [after0_7, out7_apply]
  refine (link_eq m c t (y 0) (y 1)).trans (congrArg (G7 (a0 m c) (a1 m c) (a2 m c) (a3 m c)) ?_)
  blk_ext [idx t, row]

theorem arr8 : (dats m 0 c).arrAt 8 cfg0.N = G8 (a0 m c) (a1 m c) (a2 m c) (a3 m c) := by
  refine (dats m 0 c).arrAt_eq_of_covers 8 _ (by decide +kernel) fun t hf y => ?_
  blk_simp
  rw [after0_8, out8_apply]
  refine Eq.trans (b := G8 (a0 m c) (a1 m c) (a2 m c) (a3 m c) (ix2 (row t (y 0)) (y 1))) ?_ (congrArg (G8 (a0 m c) (a1 m c) (a2 m c) (a3 m c)) ?_)
  · exact Norm.pre_congr (fun d => link_eq m c t (y 0) d) (iblk4 m c t) (iblk5 m c t) (iblk6 m c t) (y 1)
  · blk_ext [idx t, row]

open Cert.NormLinkRefIdeal.Read in
theorem ref7 (x0 x1 : FVec Ideal S4096x1024 .f32) (x2 : FVec Ideal S12x1024 .f32) (x3 : FVec Ideal S18x1024 .f32) (s : Fin 4096) (a : Fin 1024) :
    val_main_v20 (F := Ideal) x0 x1 x2 x3 (ix2 s a) = G7 x0 x1 x2 x3 (ix2 s a) := by
  unfold val_main_v20 val_main_v19 val_main_v18 val_main_v17 val_main_v5 val_main_v15 val_main_v16 val_main_v4
    val_main_v3 val_main_v14 val_main_v0 val_main_cst_0 val_main_v2 val_main_v1 val_main_v13 val_main_cst
    val_main_v12 val_main_v10 val_main_v11 val_main_v8 val_main_v9 val_main_cst_3 val_main_v7 val_main_cst_2
    val_main_v6 val_main_cst_1
  pointwise [G7, Norm.post, Norm.rstd, Norm.square, Norm.one, Norm.half]

open Cert.NormLinkRefIdeal.Read in
theorem ref8 (x0 x1 : FVec Ideal S4096x1024 .f32) (x2 : FVec Ideal S12x1024 .f32) (x3 : FVec Ideal S18x1024 .f32) (s : Fin 4096) (a : Fin 1024) :
    val_main_v42 (F := Ideal) x0 x1 x2 x3 (ix2 s a) = G8 x0 x1 x2 x3 (ix2 s a) := by
  refine Eq.trans ?_ (Norm.pre_congr (fun d => ref7 x0 x1 x2 x3 s d) (fun _ => rfl) (fun _ => rfl) (fun _ => rfl) a)
  unfold val_main_v42 val_main_v41 val_main_v39 val_main_v40 val_main_v35 val_main_v38 val_main_v23 val_main_v33
    val_main_v34 val_main_v37 val_main_v32 val_main_v21 val_main_v36 val_main_v22 val_main_v31 val_main_cst_7
    val_main_v30 val_main_v28 val_main_v29 val_main_v26 val_main_v27 val_main_cst_6 val_main_v25 val_main_cst_5
    val_main_v24 val_main_cst_4
  pointwise [Norm.pre, Norm.rstd, Norm.square, Norm.one]

theorem frame_ref : Cert.quiescent_NormLinkRefIdeal := by
  intro m ρ _
  exact (θ_run Cert.NormLinkRefIdeal.defs _ _).mono (fun r h => ⟨fun c => (h c).2.2, sem_eq_zero_of_no_sems (by decide) r.2⟩)
    (Cert.NormLinkRefIdeal.Value.run m ρ)

theorem algebraic : Cert.algebraic_NormLinkIdeal_NormLinkRefIdeal := by
  intro m g m' g' _ hagree
  refine ⟨_, _, Cert.NormLinkIdeal.Value.run_blocks m g, ?_⟩
  refine (θ_run Cert.NormLinkRefIdeal.defs _ _).mono (fun r h c => ?_) (Cert.NormLinkRefIdeal.Value.run m' g')
  obtain ⟨h7, h8, hk⟩ := h c
  obtain ⟨g0, g1, g2, g3⟩ := hagree c
  refine ⟨h7.trans ((Cert.NormLinkRefIdeal.Read.val_main_v20_eq _ _ _ _).trans ?_), h8.trans ((Cert.NormLinkRefIdeal.Read.val_main_v42_eq _ _).trans ?_), hk⟩
  · rw [g0, g1, g2, g3, arr7]
    funext i
    rw [eq_ix2 i]
    exact ref7 _ _ _ _ _ _
  · rw [g0, g1, g2, g3, arr8]
    funext i
    rw [eq_ix2 i]
    exact ref8 _ _ _ _ _ _

end Cert.LinkNorm

end
-- ==== Proof.NormBack.lean ====
/-
  The gradient of the norm of one row by the row, in the kernel's form and in the form that comes of differentiating line by
  line. The two agree.
-/
module

public import proofs.«01_k».proof.Proof.Norm
public import proofs.«01_k».proof.Proof.Real

@[expose] public section

noncomputable section

namespace Cert.Norm

open Idealize.ShloMosaic

/-- The number of features. -/
def width : EReal := Ideal.ofBits .f32 0x44800000#32

/-- Minus a half. -/
def mhalf : EReal := Ideal.ofBits .f32 0xBF000000#32

/-- The kernel's form: `b` is the gradient by the normed row. -/
def back (f b : Fin 1024 → EReal) (d : Fin 1024) : EReal :=
  rstd f * (b d - f d * rstd f * Ideal.div (∑ e, b e * (f e * rstd f)) width)

/-- The gradient by the mean square, over the number of features. -/
def share (f b : Fin 1024 → EReal) : EReal := Ideal.div ((∑ e, f e * b e) * (mhalf * Ideal.div (rstd f) (square f))) width

/-- The form that comes of differentiating line by line. -/
def lines (f b : Fin 1024 → EReal) (d : Fin 1024) : EReal := b d * rstd f + f d * share f b + share f b * f d

/-- The gradient by the stream, of which `dv` is the part that passes by. -/
def dpre (dh x dv g sc : Fin 1024 → EReal) (d : Fin 1024) : EReal := dv d + back x (fun e => dh e * (g e * (one + sc e))) d

/-- A row's share in the gradient by the scale. -/
def dscale (dh x g : Fin 1024 → EReal) (d : Fin 1024) : EReal := dh d * (x d * rstd x * g d)

/-- A row's share in the gradient by the gain. -/
def dgain (dh x sc : Fin 1024 → EReal) (d : Fin 1024) : EReal := dh d * ((one + sc d) * (x d * rstd x))

/-- The gradient by a sub-layer's output, normed and gated. -/
def dpost (w : EReal) (dv u g gt : Fin 1024 → EReal) (d : Fin 1024) : EReal := back u (fun e => dv e * (w * (one + gt e)) * g e) d

/-- A row's share in the gradient by the gate. -/
def dgate (w : EReal) (dv u g : Fin 1024 → EReal) (d : Fin 1024) : EReal := dv d * (w * (u d * rstd u * g d))

/-- A row's share in the gradient by the gain behind the gate. -/
def dgain' (w : EReal) (dv u gt : Fin 1024 → EReal) (d : Fin 1024) : EReal := dv d * (w * (one + gt d)) * (u d * rstd u)

/-- What the loss squares: the stream after the last sub-layer, less the target. -/
def err (x u t g gt : Fin 1024 → EReal) (d : Fin 1024) : EReal := post half x u g gt d - t d

/-- The gradient of the loss by that stream. -/
def dloss (x u t g gt : Fin 1024 → EReal) (d : Fin 1024) : EReal := err x u t g gt d * Ideal.ofBits .f32 0x3A800000#32

theorem width_eq : width = ((1024 : ℝ) : EReal) := by
  unfold width
  simp [Ideal.ofBits, Ideal.ieee, -EReal.coe_mul]
  norm_num

theorem mhalf_eq : mhalf = ((-1 / 2 : ℝ) : EReal) := by
  unfold mhalf
  simp [Ideal.ofBits, Ideal.ieee, -EReal.coe_mul]
  norm_num

theorem half_eq : half = ((1 / 2 : ℝ) : EReal) := by
  unfold half
  simp [Ideal.ofBits, Ideal.ieee, -EReal.coe_mul]
  norm_num

theorem small_eq : ∃ e : ℝ, 0 < e ∧ Ideal.ofBits .f32 0x358637BD#32 = (e : EReal) := by
  refine ⟨8796093 * (2 ^ 43 : ℝ)⁻¹, by positivity, ?_⟩
  simp [Ideal.ofBits, Ideal.ieee, -EReal.coe_mul]

/-- The mean square, with the small constant, is a positive real or infinite. -/
theorem square_cases (f : Fin 1024 → EReal) : square f = ⊤ ∨ ∃ q : ℝ, 0 < q ∧ square f = (q : EReal) := by
  obtain ⟨e, he, h⟩ := small_eq
  have h0 : (0 : EReal) ≤ ∑ d, f d * f d := Finset.sum_nonneg fun d _ => by
    rcases le_total 0 (f d) with h | h
    · exact mul_nonneg h h
    · have := mul_nonneg (EReal.neg_nonneg.mpr h) (EReal.neg_nonneg.mpr h)
      rwa [neg_mul_neg] at this
  unfold square
  rw [h, show Ideal.ofBits .f32 0x44800000#32 = ((1024 : ℝ) : EReal) from width_eq, Ideal.div_coe (by norm_num)]
  generalize (∑ d, f d * f d : EReal) = z at h0
  induction z with
  | bot => exact absurd h0 (by simp)
  | top => exact Or.inl (by rw [EReal.top_mul_coe_of_pos (by norm_num), EReal.top_add_coe])
  | coe z =>
    have hz : 0 ≤ z := EReal.coe_nonneg.mp h0
    exact Or.inr ⟨z * (1 / 1024) + e, by positivity, by simp only [← EReal.coe_mul, ← EReal.coe_add]⟩

/-- A real factor that is not negative goes into a sum. -/
theorem mul_sum {ι : Type} (S : Finset ι) (f : ι → EReal) {r : ℝ} (hr : 0 ≤ r) : (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (EReal.coe_nonneg.mpr hr) (EReal.coe_ne_top _), ih]

theorem one_eq : one = ((1 : ℝ) : EReal) := by
  unfold one
  simp [Ideal.ofBits, Ideal.ieee, -EReal.coe_mul]
  norm_num

/-- The factor of that gradient: a half over the number of features, and two from the square. -/
theorem dloss_eq (z : EReal) : Ideal.div (half * one) width * (Ideal.ofBits .f32 0x40000000#32 * z) = z * Ideal.ofBits .f32 0x3A800000#32 := by
  have e2 : Ideal.ofBits .f32 0x40000000#32 = ((2 : ℝ) : EReal) := by
    simp [Ideal.ofBits, Ideal.ieee, -EReal.coe_mul]
    norm_num
  have ei : Ideal.ofBits .f32 0x3A800000#32 = ((1 / 1024 : ℝ) : EReal) := by
    simp [Ideal.ofBits, Ideal.ieee, -EReal.coe_mul]
    norm_num
  rw [half_eq, one_eq, width_eq, e2, ei, Ideal.div_coe (by norm_num), ← mul_assoc, mul_comm]
  refine congrArg (z * ·) ?_
  simp only [← EReal.coe_mul]
  norm_num

/-- A half goes into a sum of products, and so does one. -/
theorem half_sum {ι : Type} [Fintype ι] (f g : ι → EReal) : half * ∑ r, f r * g r = ∑ r, f r * (half * g r) := by
  rw [half_eq, mul_sum _ _ (by norm_num)]
  exact Finset.sum_congr rfl fun _ _ => mul_left_comm _ _ _

theorem one_sum {ι : Type} [Fintype ι] (f g : ι → EReal) : one * ∑ r, f r * g r = ∑ r, f r * (one * g r) := by
  rw [one_eq, mul_sum _ _ (by norm_num)]
  exact Finset.sum_congr rfl fun _ _ => mul_left_comm _ _ _

theorem double (z : EReal) : z + z = ((2 : ℝ) : EReal) * z := by
  rw [show ((2 : ℝ) : EReal) = 1 + 1 by rw [← EReal.coe_one, ← EReal.coe_add]; norm_num, EReal.right_distrib_of_nonneg zero_le_one zero_le_one, one_mul]

/-- The two forms agree, whatever the entries: where the mean square is infinite both are zero. -/
theorem back_eq (f b : Fin 1024 → EReal) (d : Fin 1024) : lines f b d = back f b d := by
  unfold lines back share
  rcases square_cases f with h | ⟨q, hq, h⟩
  · have hr : rstd f = 0 := by unfold rstd; rw [h]; rfl
    rw [hr, h, width_eq, mhalf_eq, Ideal.div_coe (by norm_num)]
    simp [Ideal.div]
  · obtain ⟨r, hr, hrr, e⟩ : ∃ r : ℝ, 0 ≤ r ∧ r * r = 1 / q ∧ rstd f = (r : EReal) := by
      refine ⟨(Real.sqrt q)⁻¹, by positivity, by rw [← mul_inv, Real.mul_self_sqrt hq.le, one_div], ?_⟩
      unfold rstd
      rw [h, Ideal.rsqrt_coe, if_neg (not_lt.2 hq.le), if_neg hq.ne']
    have hs : (∑ e, b e * (f e * (r : EReal))) = (r : EReal) * ∑ e, f e * b e := by
      rw [mul_sum _ _ hr]
      exact Finset.sum_congr rfl fun _ _ => by ac_rfl
    rw [e, h, hs, width_eq, mhalf_eq, Ideal.div_coe (y := 1024) (by norm_num), Ideal.div_coe (y := 1024) (by norm_num), Ideal.div_coe hq.ne', ← hrr, sub_eq_add_neg,
      EReal.left_distrib_of_nonneg_of_ne_top (EReal.coe_nonneg.mpr hr) (EReal.coe_ne_top _), add_assoc]
    generalize (∑ e, f e * b e : EReal) = S
    refine congrArg₂ (· + ·) (mul_comm _ _) ?_
    rw [mul_comm (S * _ * _) (f d), double]
    have e1 : ((2 : ℝ) : EReal) * (f d * (S * (((-1 / 2 : ℝ) : EReal) * ((r : EReal) * ((r * r : ℝ) : EReal))) * ((1 / 1024 : ℝ) : EReal)))
        = f d * S * ((-(r * r * r * (1 / 1024)) : ℝ) : EReal) := by
      rw [show (-(r * r * r * (1 / 1024)) : ℝ) = 2 * (-1 / 2) * (r * (r * r)) * (1 / 1024) by ring]
      simp only [EReal.coe_mul]
      ac_rfl
    have e2 : (r : EReal) * -(f d * (r : EReal) * ((r : EReal) * S * ((1 / 1024 : ℝ) : EReal))) = f d * S * ((-(r * r * r * (1 / 1024)) : ℝ) : EReal) := by
      rw [EReal.coe_neg, mul_neg, mul_neg]
      congr 1
      simp only [EReal.coe_mul]
      ac_rfl
    exact e1.trans e2.symm

theorem back_congr {f f' b b' : Fin 1024 → EReal} (h0 : ∀ d, f d = f' d) (h1 : ∀ d, b d = b' d) (d : Fin 1024) : back f b d = back f' b' d := by
  rw [funext h0, funext h1]

theorem lines_congr {f f' b b' : Fin 1024 → EReal} (h0 : ∀ d, f d = f' d) (h1 : ∀ d, b d = b' d) (d : Fin 1024) : lines f b d = lines f' b' d := by
  rw [funext h0, funext h1]

end Cert.Norm

end
-- ==== Proof.PreNormBwd.lean ====
/-
  The backward pass of the first norm. The kernel takes the rows in eight tiles of 512; the gradients by shift, scale and gain
  are sums over all rows, accumulated in the result blocks.
-/
module

public import proofs.«01_k».proof.Defs
public import proofs.«01_k».proof.Proof.Gen.PreNormBwdIdeal.Value
public import proofs.«01_k».proof.Proof.Gen.PreNormBwdRefIdeal.Run
public import proofs.«01_k».proof.Proof.Gen.PreNormBwdRefIdeal.Read
public import proofs.«01_k».proof.Proof.NormBack
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.FirstBack

open Cert.PreNormBwdIdeal Cert.PreNormBwdIdeal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S4096x1024 .f32 := m ((c.tc : Thread nD τ).loc main_arg2)
abbrev a3 : FVec Ideal S12x1024 .f32 := m ((c.tc : Thread nD τ).loc main_arg3)
abbrev a4 : FVec Ideal S18x1024 .f32 := m ((c.tc : Thread nD τ).loc main_arg4)

theorem V_main_v0 : (V m c main_v0 : FVec Ideal S12x1x1024 .f32) = broadcastInDim S12x1x1024 ![0, 2] bcast_S12x1024_S12x1x1024_0_2 (a3 m c) := by
  unfold_abbrev_sides
  after_reads_simp

theorem V_main_v1 : (V m c main_v1 : FVec Ideal S18x1x1024 .f32) = broadcastInDim S18x1x1024 ![0, 2] bcast_S18x1024_S18x1x1024_0_2 (a4 m c) := by
  unfold_abbrev_sides
  after_reads_simp

theorem V_main_v2 : (V m c main_v2 : FVec Ideal S4096x1024 .bf16) = truncf .bf16 (a0 m c) bitsLt_bf16_f32 := by
  unfold_abbrev_sides
  after_reads_simp

theorem idx : ∀ t : Fin cfg0.N, win0_0.index t = ![t.val, 0] ∧ win0_1.index t = ![t.val, 0] ∧ win0_2.index t = ![t.val, 0] ∧ win0_3.index t = ![0, 0, 0]
    ∧ win0_4.index t = ![1, 0, 0] ∧ win0_5.index t = ![t.val, 0] ∧ win0_6.index t = ![0, 0] ∧ win0_7.index t = ![0, 0]
    ∧ win0_8.index t = ![0, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_v2 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_arg1 m c) (ix2 (row t r) d))
  blk_ext [iblk, idx t, row]

theorem iblk2 (t : Fin cfg0.N) (r : Fin 512) (d : Fin 1024) : iblk m c 2 t (ix2 r d) = a2 m c (ix2 (row t r) d) := by
  refine Eq.trans ?_ (congrFun (V_main_arg2 m c) (ix2 (row t r) d))
  blk_ext [iblk, idx t, row]

theorem iblk3 (t : Fin cfg0.N) (d : Fin 1024) : iblk m c 3 t (ix3 0 0 d) = a3 m c (ix2 0 d) := by
  refine Eq.trans (b := V m c main_v0 (ix3 0 0 d)) (by blk_ext [iblk, idx t]) ?_
  rw [V_main_v0]
  pointwise []

theorem iblk4 (t : Fin cfg0.N) (d : Fin 1024) : iblk m c 4 t (ix3 0 0 d) = a4 m c (ix2 1 d) := by
  refine Eq.trans (b := V m c main_v1 (ix3 1 0 d)) (by blk_ext [iblk, idx t]) ?_
  rw [V_main_v1]
  pointwise []

/-! ## One row -/

/-- The gradient by the stream, from a tile and from the arguments. -/
def tile5 (x0 : FVec Ideal S512x1024 .bf16) (x1 : FVec Ideal S512x1024 .f32) (x2 : FVec Ideal S512x1024 .f32) (x3 x4 : FVec Ideal S1x1x1024 .f32) (r : Fin 512) : Fin 1024 → EReal := Norm.dpre (fun e => x0 (ix2 r e)) (fun e => x1 (ix2 r e)) (fun e => x2 (ix2 r e)) (fun e => x3 (ix3 0 0 e)) (fun e => x4 (ix3 0 0 e))
def all5 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dpre (fun e => g0 (ix2 r e)) (fun e => g1 (ix2 r e)) (fun e => g2 (ix2 r e)) (fun e => g3 (ix2 0 e)) (fun e => g4 (ix2 1 e))

theorem row5 (t : Fin cfg0.N) (r : Fin 512) (d : Fin 1024) : tile5 (iblk m c 0 t) (iblk m c 1 t) (iblk m c 2 t) (iblk m c 3 t) (iblk m c 4 t) r d = all5 (a0 m c) (a1 m c) (a2 m c) (a3 m c) (a4 m c) (row t r) d := by
  unfold tile5 all5
  simp only [iblk0, iblk1, iblk2, iblk3, iblk4]

/-- The gradient by the shift, from a tile and from the arguments. -/
def tile6 (x0 : FVec Ideal S512x1024 .bf16) (x1 : FVec Ideal S512x1024 .f32) (x2 : FVec Ideal S512x1024 .f32) (x3 x4 : FVec Ideal S1x1x1024 .f32) (r : Fin 512) : Fin 1024 → EReal := (fun e => x0 (ix2 r e))
def all6 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := (fun e => g0 (ix2 r e))

theorem row6 (t : Fin cfg0.N) (r : Fin 512) (d : Fin 1024) : tile6 (iblk m c 0 t) (iblk m c 1 t) (iblk m c 2 t) (iblk m c 3 t) (iblk m c 4 t) r d = all6 (a0 m c) (a1 m c) (a2 m c) (a3 m c) (a4 m c) (row t r) d := by
  unfold tile6 all6
  simp only [iblk0, iblk1, iblk2, iblk3, iblk4]

/-- The gradient by the scale, from a tile and from the arguments. -/
def tile7 (x0 : FVec Ideal S512x1024 .bf16) (x1 : FVec Ideal S512x1024 .f32) (x2 : FVec Ideal S512x1024 .f32) (x3 x4 : FVec Ideal S1x1x1024 .f32) (r : Fin 512) : Fin 1024 → EReal := Norm.dscale (fun e => x0 (ix2 r e)) (fun e => x1 (ix2 r e)) (fun e => x3 (ix3 0 0 e))
def all7 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dscale (fun e => g0 (ix2 r e)) (fun e => g1 (ix2 r e)) (fun e => g3 (ix2 0 e))

theorem row7 (t : Fin cfg0.N) (r : Fin 512) (d : Fin 1024) : tile7 (iblk m c 0 t) (iblk m c 1 t) (iblk m c 2 t) (iblk m c 3 t) (iblk m c 4 t) r d = all7 (a0 m c) (a1 m c) (a2 m c) (a3 m c) (a4 m c) (row t r) d := by
  unfold tile7 all7
  simp only [iblk0, iblk1, iblk2, iblk3, iblk4]

/-- The gradient by the gain, from a tile and from the arguments. -/
def tile8 (x0 : FVec Ideal S512x1024 .bf16) (x1 : FVec Ideal S512x1024 .f32) (x2 : FVec Ideal S512x1024 .f32) (x3 x4 : FVec Ideal S1x1x1024 .f32) (r : Fin 512) : Fin 1024 → EReal := Norm.dgain (fun e => x0 (ix2 r e)) (fun e => x1 (ix2 r e)) (fun e => x4 (ix3 0 0 e))
def all8 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dgain (fun e => g0 (ix2 r e)) (fun e => g1 (ix2 r e)) (fun e => g4 (ix2 1 e))

theorem row8 (t : Fin cfg0.N) (r : Fin 512) (d : Fin 1024) : tile8 (iblk m c 0 t) (iblk m c 1 t) (iblk m c 2 t) (iblk m c 3 t) (iblk m c 4 t) r d = all8 (a0 m c) (a1 m c) (a2 m c) (a3 m c) (a4 m c) (row t r) d := by
  unfold tile8 all8
  simp only [iblk0, iblk1, iblk2, iblk3, iblk4]

/-! ## One grid point -/

set_option maxHeartbeats 1000000 in
theorem outA5 (c : Dev nD) (t : Fin cfg0.N) (x0 : FVec Ideal S512x1024 .bf16) (x1 : FVec Ideal S512x1024 .f32) (x2 : FVec Ideal S512x1024 .f32) (x3 x4 : FVec Ideal S1x1x1024 .f32)  (h0 : t.val % 8 = 0) (y : S512x1024.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) x0 x1 x2 x3 x4  y = tile5 x0 x1 x2 x3 x4 (y 0) (y 1) := by
  frame_out
  open_payloads
  pointwise [tile5, Norm.dpre, Norm.dscale, Norm.dgain, Norm.dpost, Norm.dgate, Norm.dgain', Norm.back, Norm.width, Norm.rstd, Norm.square, Norm.one, Norm.half, ix3, ix2]

set_option maxHeartbeats 1000000 in
theorem outB5 (c : Dev nD) (t : Fin cfg0.N) (x0 : FVec Ideal S512x1024 .bf16) (x1 : FVec Ideal S512x1024 .f32) (x2 : FVec Ideal S512x1024 .f32) (x3 x4 : FVec Ideal S1x1x1024 .f32) (xo6 xo7 xo8 : FVec Ideal S1x1024 .f32) (h0 : ¬t.val % 8 = 0) (y : S512x1024.Idx) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) x0 x1 x2 x3 x4 xo6 xo7 xo8 y = tile5 x0 x1 x2 x3 x4 (y 0) (y 1) := by
  frame_out
  open_payloads
  pointwise [tile5, Norm.dpre, Norm.dscale, Norm.dgain, Norm.dpost, Norm.dgate, Norm.dgain', Norm.back, Norm.width, Norm.rstd, Norm.square, Norm.one, Norm.half, ix3, ix2]

set_option maxHeartbeats 1000000 in
theorem outA6 (c : Dev nD) (t : Fin cfg0.N) (x0 : FVec Ideal S512x1024 .bf16) (x1 : FVec Ideal S512x1024 .f32) (x2 : FVec Ideal S512x1024 .f32) (x3 x4 : FVec Ideal S1x1x1024 .f32)  (h0 : t.val % 8 = 0) (y : S1x1024.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) x0 x1 x2 x3 x4  y = (∑ r : Fin 512, tile6 x0 x1 x2 x3 x4 r (y 1) : EReal) := by
  frame_out
  open_payloads
  pointwise [tile6, Norm.dpre, Norm.dscale, Norm.dgain, Norm.dpost, Norm.dgate, Norm.dgain', Norm.back, Norm.width, Norm.rstd, Norm.square, Norm.one, Norm.half, ix3, ix2]

set_option maxHeartbeats 1000000 in
theorem outB6 (c : Dev nD) (t : Fin cfg0.N) (x0 : FVec Ideal S512x1024 .bf16) (x1 : FVec Ideal S512x1024 .f32) (x2 : FVec Ideal S512x1024 .f32) (x3 x4 : FVec Ideal S1x1x1024 .f32) (xo6 xo7 xo8 : FVec Ideal S1x1024 .f32) (h0 : ¬t.val % 8 = 0) (y : S1x1024.Idx) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) x0 x1 x2 x3 x4 xo6 xo7 xo8 y = (xo6 y + ∑ r : Fin 512, tile6 x0 x1 x2 x3 x4 r (y 1) : EReal) := by
  frame_out
  open_payloads
  pointwise [tile6, Norm.dpre, Norm.dscale, Norm.dgain, Norm.dpost, Norm.dgate, Norm.dgain', Norm.back, Norm.width, Norm.rstd, Norm.square, Norm.one, Norm.half, ix3, ix2]

set_option maxHeartbeats 1000000 in
theorem outA7 (c : Dev nD) (t : Fin cfg0.N) (x0 : FVec Ideal S512x1024 .bf16) (x1 : FVec Ideal S512x1024 .f32) (x2 : FVec Ideal S512x1024 .f32) (x3 x4 : FVec Ideal S1x1x1024 .f32)  (h0 : t.val % 8 = 0) (y : S1x1024.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) x0 x1 x2 x3 x4  y = (∑ r : Fin 512, tile7 x0 x1 x2 x3 x4 r (y 1) : EReal) := by
  frame_out
  open_payloads
  pointwise [tile7, Norm.dpre, Norm.dscale, Norm.dgain, Norm.dpost, Norm.dgate, Norm.dgain', Norm.back, Norm.width, Norm.rstd, Norm.square, Norm.one, Norm.half, ix3, ix2]

set_option maxHeartbeats 1000000 in
theorem outB7 (c : Dev nD) (t : Fin cfg0.N) (x0 : FVec Ideal S512x1024 .bf16) (x1 : FVec Ideal S512x1024 .f32) (x2 : FVec Ideal S512x1024 .f32) (x3 x4 : FVec Ideal S1x1x1024 .f32) (xo6 xo7 xo8 : FVec Ideal S1x1024 .f32) (h0 : ¬t.val % 8 = 0) (y : S1x1024.Idx) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) x0 x1 x2 x3 x4 xo6 xo7 xo8 y = (xo7 y + ∑ r : Fin 512, tile7 x0 x1 x2 x3 x4 r (y 1) : EReal) := by
  frame_out
  open_payloads
  pointwise [tile7, Norm.dpre, Norm.dscale, Norm.dgain, Norm.dpost, Norm.dgate, Norm.dgain', Norm.back, Norm.width, Norm.rstd, Norm.square, Norm.one, Norm.half, ix3, ix2]

set_option maxHeartbeats 1000000 in
theorem outA8 (c : Dev nD) (t : Fin cfg0.N) (x0 : FVec Ideal S512x1024 .bf16) (x1 : FVec Ideal S512x1024 .f32) (x2 : FVec Ideal S512x1024 .f32) (x3 x4 : FVec Ideal S1x1x1024 .f32)  (h0 : t.val % 8 = 0) (y : S1x1024.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) x0 x1 x2 x3 x4  y = (∑ r : Fin 512, tile8 x0 x1 x2 x3 x4 r (y 1) : EReal) := by
  frame_out
  open_payloads
  pointwise [tile8, Norm.dpre, Norm.dscale, Norm.dgain, Norm.dpost, Norm.dgate, Norm.dgain', Norm.back, Norm.width, Norm.rstd, Norm.square, Norm.one, Norm.half, ix3, ix2]

set_option maxHeartbeats 1000000 in
theorem outB8 (c : Dev nD) (t : Fin cfg0.N) (x0 : FVec Ideal S512x1024 .bf16) (x1 : FVec Ideal S512x1024 .f32) (x2 : FVec Ideal S512x1024 .f32) (x3 x4 : FVec Ideal S1x1x1024 .f32) (xo6 xo7 xo8 : FVec Ideal S1x1024 .f32) (h0 : ¬t.val % 8 = 0) (y : S1x1024.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) x0 x1 x2 x3 x4 xo6 xo7 xo8 y = (xo8 y + ∑ r : Fin 512, tile8 x0 x1 x2 x3 x4 r (y 1) : EReal) := by
  frame_out
  open_payloads
  pointwise [tile8, Norm.dpre, Norm.dscale, Norm.dgain, Norm.dpost, Norm.dgate, Norm.dgain', Norm.back, Norm.width, Norm.rstd, Norm.square, Norm.one, Norm.half, ix3, ix2]

/-- The array: the gradient by the stream. -/
def G5 (g0 : FVec Ideal S4096x1024 .f32) (g1 : FVec Ideal S4096x1024 .f32) (g2 : FVec Ideal S4096x1024 .f32) (g3 : FVec Ideal S12x1024 .f32) (g4 : FVec Ideal S18x1024 .f32) : S4096x1024.Idx → EReal := fun i => all5 g0 g1 g2 g3 g4 (i 0) (i 1)

theorem point5 (t : Fin cfg0.N) (y : S512x1024.Idx) : (outsAt0 m c t.val t.isLt).1 y = tile5 (iblk m c 0 t) (iblk m c 1 t) (iblk m c 2 t) (iblk m c 3 t) (iblk m c 4 t) (y 0) (y 1) := by
  by_cases h0 : t.val % 8 = 0
  · rw [outsAt0_A m c t h0]
    dsimp only
    rw [outA5 (h0 := h0)]
  · rw [outsAt0_B m c t h0]
    dsimp only
    rw [outB5 (h0 := h0)]

theorem arr5 : (dats m 0 c).arrAt 5 cfg0.N = G5 (a0 m c) (a1 m c) (a2 m c) (a3 m c) (a4 m c) := by
  refine (dats m 0 c).arrAt_eq_of_covers 5 _ (by decide +kernel) fun t hf y => ?_
  blk_simp
  rw [after0_5]
  refine (point5 m c t y).trans ((row5 m c t (y 0) (y 1)).trans (congrArg (G5 (a0 m c) (a1 m c) (a2 m c) (a3 m c) (a4 m c)) (a₁ := ix2 (row t (y 0)) (y 1)) ?_))
  blk_ext [idx t, row]

/-- The sum over all rows: the gradient by the shift. -/
def G6 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all6 g0 g1 g2 g3 g4 r (i 1)

/-- A grid point's share. -/
def part6 (t : Fin cfg0.N) (i : S1x1024.Idx) : EReal := ∑ r : Fin 512, tile6 (iblk m c 0 t) (iblk m c 1 t) (iblk m c 2 t) (iblk m c 3 t) (iblk m c 4 t) r (i 1)

theorem acc6 (t : Fin cfg0.N) (hr : t.val % 8 = 7) (i : S1x1024.Idx) :
    (outsAt0 m c t.val t.isLt).2.1 i = (0 + ∑ s : Fin 8, part6 m c ⟨8 * (t.val / 8) + s.val, Pipeline.run_point_lt_of_flush t hr s⟩ i : EReal) :=
  Pipeline.eq_sum_fin_of_reset_step_apply_of_flush (M := EReal) (fun n h => (outsAt0 m c n h).2.1) 8 (fun _ => 0) (part6 m c)
    (fun t h i => by
      show (outsAt0 m c t.val t.isLt).2.1 i = (0 + part6 m c t i : EReal)
      rw [outsAt0_A m c t h, zero_add]
      dsimp only
      rw [outA6 (h0 := h)]
      rfl)
    (fun t h i => by
      rw [outsAt0_B m c t h]
      dsimp only
      rw [outB6 (h0 := h)]
      rfl) t hr i

theorem parts6 (t : Fin cfg0.N) (hr : t.val % 8 = 7) (i : S1x1024.Idx) :
    (∑ s : Fin 8, part6 m c ⟨8 * (t.val / 8) + s.val, Pipeline.run_point_lt_of_flush t hr s⟩ i : EReal) = G6 (a0 m c) (a1 m c) (a2 m c) (a3 m c) (a4 m c) i := by
  unfold G6
  rw [Fin.sum_univ_tiles 8 512 rfl]
  refine Finset.sum_congr rfl fun s _ => ?_
  unfold part6
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row6 m c _ r (i 1)).trans (congrArg (fun q => all6 (a0 m c) (a1 m c) (a2 m c) (a3 m c) (a4 m c) q (i 1)) e)

theorem arr6 : (dats m 0 c).arrAt 6 cfg0.N = G6 (a0 m c) (a1 m c) (a2 m c) (a3 m c) (a4 m c) := by
  refine (dats m 0 c).arrAt_eq_of_covers 6 _ (by decide +kernel) fun t hf y => ?_
  have hr := (flush0_6 t).mp hf
  blk_simp
  rw [after0_6]
  refine (acc6 m c t hr y).trans ((zero_add _).trans ((parts6 m c t hr y).trans (congrArg (G6 (a0 m c) (a1 m c) (a2 m c) (a3 m c) (a4 m c)) ?_)))
  blk_ext [idx t]

/-- The sum over all rows: the gradient by the scale. -/
def G7 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all7 g0 g1 g2 g3 g4 r (i 1)

/-- A grid point's share. -/
def part7 (t : Fin cfg0.N) (i : S1x1024.Idx) : EReal := ∑ r : Fin 512, tile7 (iblk m c 0 t) (iblk m c 1 t) (iblk m c 2 t) (iblk m c 3 t) (iblk m c 4 t) r (i 1)

theorem acc7 (t : Fin cfg0.N) (hr : t.val % 8 = 7) (i : S1x1024.Idx) :
    (outsAt0 m c t.val t.isLt).2.2.1 i = (0 + ∑ s : Fin 8, part7 m c ⟨8 * (t.val / 8) + s.val, Pipeline.run_point_lt_of_flush t hr s⟩ i : EReal) :=
  Pipeline.eq_sum_fin_of_reset_step_apply_of_flush (M := EReal) (fun n h => (outsAt0 m c n h).2.2.1) 8 (fun _ => 0) (part7 m c)
    (fun t h i => by
      show (outsAt0 m c t.val t.isLt).2.2.1 i = (0 + part7 m c t i : EReal)
      rw [outsAt0_A m c t h, zero_add]
      dsimp only
      rw [outA7 (h0 := h)]
      rfl)
    (fun t h i => by
      rw [outsAt0_B m c t h]
      dsimp only
      rw [outB7 (h0 := h)]
      rfl) t hr i

theorem parts7 (t : Fin cfg0.N) (hr : t.val % 8 = 7) (i : S1x1024.Idx) :
    (∑ s : Fin 8, part7 m c ⟨8 * (t.val / 8) + s.val, Pipeline.run_point_lt_of_flush t hr s⟩ i : EReal) = G7 (a0 m c) (a1 m c) (a2 m c) (a3 m c) (a4 m c) i := by
  unfold G7
  rw [Fin.sum_univ_tiles 8 512 rfl]
  refine Finset.sum_congr rfl fun s _ => ?_
  unfold part7
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row7 m c _ r (i 1)).trans (congrArg (fun q => all7 (a0 m c) (a1 m c) (a2 m c) (a3 m c) (a4 m c) q (i 1)) e)

theorem arr7 : (dats m 0 c).arrAt 7 cfg0.N = G7 (a0 m c) (a1 m c) (a2 m c) (a3 m c) (a4 m c) := by
  refine (dats m 0 c).arrAt_eq_of_covers 7 _ (by decide +kernel) fun t hf y => ?_
  have hr := (flush0_7 t).mp hf
  blk_simp
  rw [after0_7]
  refine (acc7 m c t hr y).trans ((zero_add _).trans ((parts7 m c t hr y).trans (congrArg (G7 (a0 m c) (a1 m c) (a2 m c) (a3 m c) (a4 m c)) ?_)))
  blk_ext [idx t]

/-- The sum over all rows: the gradient by the gain. -/
def G8 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all8 g0 g1 g2 g3 g4 r (i 1)

/-- A grid point's share. -/
def part8 (t : Fin cfg0.N) (i : S1x1024.Idx) : EReal := ∑ r : Fin 512, tile8 (iblk m c 0 t) (iblk m c 1 t) (iblk m c 2 t) (iblk m c 3 t) (iblk m c 4 t) r (i 1)

theorem acc8 (t : Fin cfg0.N) (hr : t.val % 8 = 7) (i : S1x1024.Idx) :
    (outsAt0 m c t.val t.isLt).2.2.2 i = (0 + ∑ s : Fin 8, part8 m c ⟨8 * (t.val / 8) + s.val, Pipeline.run_point_lt_of_flush t hr s⟩ i : EReal) :=
  Pipeline.eq_sum_fin_of_reset_step_apply_of_flush (M := EReal) (fun n h => (outsAt0 m c n h).2.2.2) 8 (fun _ => 0) (part8 m c)
    (fun t h i => by
      show (outsAt0 m c t.val t.isLt).2.2.2 i = (0 + part8 m c t i : EReal)
      rw [outsAt0_A m c t h, zero_add]
      dsimp only
      rw [outA8 (h0 := h)]
      rfl)
    (fun t h i => by
      rw [outsAt0_B m c t h]
      dsimp only
      rw [outB8 (h0 := h)]
      rfl) t hr i

theorem parts8 (t : Fin cfg0.N) (hr : t.val % 8 = 7) (i : S1x1024.Idx) :
    (∑ s : Fin 8, part8 m c ⟨8 * (t.val / 8) + s.val, Pipeline.run_point_lt_of_flush t hr s⟩ i : EReal) = G8 (a0 m c) (a1 m c) (a2 m c) (a3 m c) (a4 m c) i := by
  unfold G8
  rw [Fin.sum_univ_tiles 8 512 rfl]
  refine Finset.sum_congr rfl fun s _ => ?_
  unfold part8
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row8 m c _ r (i 1)).trans (congrArg (fun q => all8 (a0 m c) (a1 m c) (a2 m c) (a3 m c) (a4 m c) q (i 1)) e)

theorem arr8 : (dats m 0 c).arrAt 8 cfg0.N = G8 (a0 m c) (a1 m c) (a2 m c) (a3 m c) (a4 m c) := by
  refine (dats m 0 c).arrAt_eq_of_covers 8 _ (by decide +kernel) fun t hf y => ?_
  have hr := (flush0_8 t).mp hf
  blk_simp
  rw [after0_8]
  refine (acc8 m c t hr y).trans ((zero_add _).trans ((parts8 m c t hr y).trans (congrArg (G8 (a0 m c) (a1 m c) (a2 m c) (a3 m c) (a4 m c)) ?_)))
  blk_ext [idx t]

/-! ## The reference -/

/-- The gradient by the normed row, in the reference's order. -/
def grad (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := fun e => g0 (ix2 r e) * (Norm.one + g4 (ix2 1 e)) * g3 (ix2 0 e)

open Cert.PreNormBwdRefIdeal.Read in
theorem ref_lines (g0 : FVec Ideal S4096x1024 .f32) (g1 : FVec Ideal S4096x1024 .f32) (g2 : FVec Ideal S4096x1024 .f32) (g3 : FVec Ideal S12x1024 .f32) (g4 : FVec Ideal S18x1024 .f32) (s : Fin 4096) (a : Fin 1024) :
    val_main_v51 (F := Ideal) g0 g1 g2 g3 g4 (ix2 s a) = (g2 (ix2 s a) + Norm.lines (fun e => g1 (ix2 s e)) (grad g0 g1 g2 g3 g4 s) a : EReal) := by
  unfold val_main_v51 val_main_v50 val_main_v48 val_main_v49 val_main_v41 val_main_v47 val_main_v40 val_main_v46
    val_main_v45 val_main_v44 val_main_cst_9 val_main_v42 val_main_v43 val_main_v39 val_main_v13 val_main_cst_8
    val_main_v38 val_main_v12 val_main_v11 val_main_v10 val_main_v37 val_main_cst_7 val_main_cst_2 val_main_v36
    val_main_v9 val_main_v31 val_main_v35 val_main_v7 val_main_v8 val_main_v24 val_main_v30 val_main_v0
    val_main_v5 val_main_v6 val_main_cst_1 val_main_v19 val_main_v4 val_main_cst_0 val_main_v18 val_main_v1
    val_main_v3 val_main_cst val_main_cst_3
  pointwise [grad, Norm.lines, Norm.share, Norm.mhalf, Norm.width, Norm.rstd, Norm.square, Norm.one]
  simp only [Finset.univ_unique, Finset.sum_const, Finset.card_singleton, one_smul]

theorem grad_eq (g0 : FVec Ideal S4096x1024 .f32) (g1 : FVec Ideal S4096x1024 .f32) (g2 : FVec Ideal S4096x1024 .f32) (g3 : FVec Ideal S12x1024 .f32) (g4 : FVec Ideal S18x1024 .f32) (r : Fin 4096) : grad g0 g1 g2 g3 g4 r = fun e => g0 (ix2 r e) * (g3 (ix2 0 e) * (Norm.one + g4 (ix2 1 e))) :=
  funext fun e => (mul_assoc _ _ _).trans (congrArg (fun z : EReal => g0 (ix2 r e) * z) (mul_comm _ _))

open Cert.PreNormBwdRefIdeal.Read in
theorem ref5 (g0 : FVec Ideal S4096x1024 .f32) (g1 : FVec Ideal S4096x1024 .f32) (g2 : FVec Ideal S4096x1024 .f32) (g3 : FVec Ideal S12x1024 .f32) (g4 : FVec Ideal S18x1024 .f32) (s : Fin 4096) (a : Fin 1024) : val_main_v51 (F := Ideal) g0 g1 g2 g3 g4 (ix2 s a) = G5 g0 g1 g2 g3 g4 (ix2 s a) := by
  rw [ref_lines, Norm.back_eq, grad_eq]
  rfl

open Cert.PreNormBwdRefIdeal.Read in
theorem ref6 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v26 (F := Ideal) g0 (ix2 z a) = G6 g0 g1 g2 g3 g4 (ix2 z a) := by
  obtain rfl : z = 0 := Subsingleton.elim _ _
  unfold val_main_v26 val_main_v25 val_main_cst_4
  pointwise [G6, all6]

open Cert.PreNormBwdRefIdeal.Read in
theorem ref7 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v29 (F := Ideal) g0 g1 g3 (ix2 z a) = G7 g0 g1 g2 g3 g4 (ix2 z a) := by
  obtain rfl : z = 0 := Subsingleton.elim _ _
  unfold val_main_v29 val_main_v28 val_main_v27 val_main_cst_5 val_main_v17 val_main_v24 val_main_v15 val_main_v16
    val_main_v14 val_main_v0 val_main_v10 val_main_v9 val_main_v7 val_main_v8 val_main_v5 val_main_v6
    val_main_cst_1 val_main_v4 val_main_cst_0 val_main_v3 val_main_cst
  pointwise [G7, all7, Norm.dscale, Norm.rstd, Norm.square]
  exact Finset.sum_congr rfl fun _ _ => mul_comm _ _

open Cert.PreNormBwdRefIdeal.Read in
theorem ref8 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v34 (F := Ideal) g0 g1 g4 (ix2 z a) = G8 g0 g1 g2 g3 g4 (ix2 z a) := by
  obtain rfl : z = 0 := Subsingleton.elim _ _
  unfold val_main_v34 val_main_v33 val_main_v32 val_main_cst_6 val_main_v15 val_main_v31 val_main_v14 val_main_v24
    val_main_v30 val_main_v10 val_main_v19 val_main_v9 val_main_v18 val_main_v1 val_main_v7 val_main_v8
    val_main_cst_3 val_main_v5 val_main_v6 val_main_cst_1 val_main_v4 val_main_cst_0 val_main_v3 val_main_cst
  pointwise [G8, all8, Norm.dgain, Norm.rstd, Norm.square, Norm.one]
  refine Finset.sum_congr rfl fun _ _ => ?_
  rw [mul_comm, mul_assoc]

theorem frame_ref : Cert.quiescent_PreNormBwdRefIdeal := by
  intro m ρ _
  exact (θ_run Cert.PreNormBwdRefIdeal.defs _ _).mono (fun r h => ⟨fun c => (h c).2.2.2.2, sem_eq_zero_of_no_sems (by decide) r.2⟩)
    (Cert.PreNormBwdRefIdeal.Value.run m ρ)

theorem algebraic : Cert.algebraic_PreNormBwdIdeal_PreNormBwdRefIdeal := by
  intro m g m' g' _ hagree
  refine ⟨_, _, _, _, Cert.PreNormBwdIdeal.Value.run_blocks m g, ?_⟩
  refine (θ_run Cert.PreNormBwdRefIdeal.defs _ _).mono (fun r h c => ?_) (Cert.PreNormBwdRefIdeal.Value.run m' g')
  obtain ⟨h5, h6, h7, h8, hk⟩ := h c
  obtain ⟨g0, g1, g2, g3, g4⟩ := hagree c
  refine ⟨?_, ?_, ?_, ?_, hk⟩
  · refine h5.trans ((Cert.PreNormBwdRefIdeal.Read.val_main_v51_eq _ _).trans ?_)
    rw [g0, g1, g2, g3, g4, arr5]
    funext i
    rw [eq_ix2 i]
    exact ref5 _ _ _ _ _ _ _
  · refine h6.trans ((Cert.PreNormBwdRefIdeal.Read.val_main_v26_eq (F := Ideal) _).trans ?_)
    rw [g0, arr6]
    funext i
    rw [eq_ix2 i]
    exact ref6 _ _ _ _ _ _ _
  · refine h7.trans ((Cert.PreNormBwdRefIdeal.Read.val_main_v29_eq (F := Ideal) _ _ _).trans ?_)
    rw [g0, g1, g3, arr7]
    funext i
    rw [eq_ix2 i]
    exact ref7 _ _ _ _ _ _ _
  · refine h8.trans ((Cert.PreNormBwdRefIdeal.Read.val_main_v34_eq (F := Ideal) _ _ _).trans ?_)
    rw [g0, g1, g4, arr8]
    funext i
    rw [eq_ix2 i]
    exact ref8 _ _ _ _ _ _ _

end Cert.FirstBack

end
-- ==== Proof.NormLinkBwd.lean ====
/-
  The backward pass of the norms between the fourth and the fifth sub-layer. The kernel takes the rows in eight tiles of 512; the
  gradients by the modulation and the gains are sums over all rows, accumulated in the result blocks.
-/
module

public import proofs.«01_k».proof.Defs
public import proofs.«01_k».proof.Proof.Gen.NormLinkBwdIdeal.Value
public import proofs.«01_k».proof.Proof.Gen.NormLinkBwdRefIdeal.Run
public import proofs.«01_k».proof.Proof.Gen.NormLinkBwdRefIdeal.Read
public import proofs.«01_k».proof.Proof.NormBack
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkBack

open Cert.NormLinkBwdIdeal Cert.NormLinkBwdIdeal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S4096x1024 .f32 := m ((c.tc : Thread nD τ).loc main_arg2)
abbrev a3 : FVec Ideal S4096x1024 .f32 := m ((c.tc : Thread nD τ).loc main_arg3)
abbrev a4 : FVec Ideal S12x1024 .f32 := m ((c.tc : Thread nD τ).loc main_arg4)
abbrev a5 : FVec Ideal S18x1024 .f32 := m ((c.tc : Thread nD τ).loc main_arg5)

theorem V_main_v0 : (V m c main_v0 : FVec Ideal S12x1x1024 .f32) = broadcastInDim S12x1x1024 ![0, 2] bcast_S12x1024_S12x1x1024_0_2 (a4 m c) := by
  unfold_abbrev_sides
  after_reads_simp

theorem V_main_v1 : (V m c main_v1 : FVec Ideal S18x1x1024 .f32) = broadcastInDim S18x1x1024 ![0, 2] bcast_S18x1024_S18x1x1024_0_2 (a5 m c) := by
  unfold_abbrev_sides
  after_reads_simp

theorem V_main_v2 : (V m c main_v2 : FVec Ideal S4096x1024 .bf16) = truncf .bf16 (a0 m c) bitsLt_bf16_f32 := by
  unfold_abbrev_sides
  after_reads_simp

theorem V_main_v3 : (V m c main_v3 : FVec Ideal S4096x1024 .bf16) = truncf .bf16 (a3 m c) bitsLt_bf16_f32 := by
  unfold_abbrev_sides
  after_reads_simp

theorem idx : ∀ t : Fin cfg0.N, win0_0.index t = ![t.val, 0] ∧ win0_1.index t = ![t.val, 0] ∧ win0_2.index t = ![t.val, 0] ∧ win0_3.index t = ![t.val, 0]
    ∧ win0_4.index t = ![8, 0, 0] ∧ win0_5.index t = ![13, 0, 0] ∧ win0_6.index t = ![7, 0, 0] ∧ win0_7.index t = ![11, 0, 0]
    ∧ win0_8.index t = ![t.val, 0] ∧ win0_9.index t = ![t.val, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_v2 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_arg1 m c) (ix2 (row t r) d))
  blk_ext [iblk, idx t, row]

theorem iblk2 (t : Fin cfg0.N) (r : Fin 512) (d : Fin 1024) : iblk m c 2 t (ix2 r d) = a2 m c (ix2 (row t r) d) := by
  refine Eq.trans ?_ (congrFun (V_main_arg2 m c) (ix2 (row t r) d))
  blk_ext [iblk, idx t, row]

theorem iblk3 (t : Fin cfg0.N) (r : Fin 512) (d : Fin 1024) : iblk m c 3 t (ix2 r d) = a3 m c (ix2 (row t r) d) := by
  refine Eq.trans ?_ (congrFun (V_main_v3 m c) (ix2 (row t r) d))
  blk_ext [iblk, idx t, row]

theorem iblk4 (t : Fin cfg0.N) (d : Fin 1024) : iblk m c 4 t (ix3 0 0 d) = a4 m c (ix2 8 d) := by
  refine Eq.trans (b := V m c main_v0 (ix3 8 0 d)) (by blk_ext [iblk, idx t]) ?_
  rw [V_main_v0]
  pointwise []

theorem iblk5 (t : Fin cfg0.N) (d : Fin 1024) : iblk m c 5 t (ix3 0 0 d) = a5 m c (ix2 13 d) := by
  refine Eq.trans (b := V m c main_v1 (ix3 13 0 d)) (by blk_ext [iblk, idx t]) ?_
  rw [V_main_v1]
  pointwise []

theorem iblk6 (t : Fin cfg0.N) (d : Fin 1024) : iblk m c 6 t (ix3 0 0 d) = a4 m c (ix2 7 d) := by
  refine Eq.trans (b := V m c main_v0 (ix3 7 0 d)) (by blk_ext [iblk, idx t]) ?_
  rw [V_main_v0]
  pointwise []

theorem iblk7 (t : Fin cfg0.N) (d : Fin 1024) : iblk m c 7 t (ix3 0 0 d) = a5 m c (ix2 11 d) := by
  refine Eq.trans (b := V m c main_v1 (ix3 11 0 d)) (by blk_ext [iblk, idx t]) ?_
  rw [V_main_v1]
  pointwise []

/-! ## One row -/

/-- The gradient by the stream, from a tile and from the arguments. -/
def tile8 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dpre (fun e => x0 (ix2 r e)) (fun e => x1 (ix2 r e)) (fun e => x2 (ix2 r e)) (fun e => x4 (ix3 0 0 e)) (fun e => x5 (ix3 0 0 e))
def all8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dpre (fun e => g0 (ix2 r e)) (fun e => g1 (ix2 r e)) (fun e => g2 (ix2 r e)) (fun e => g4 (ix2 8 e)) (fun e => g5 (ix2 13 e))

theorem row8 (t : Fin cfg0.N) (r : Fin 512) (d : Fin 1024) : tile8 (iblk m c 0 t) (iblk m c 1 t) (iblk m c 2 t) (iblk m c 3 t) (iblk m c 4 t) (iblk m c 5 t) (iblk m c 6 t) (iblk m c 7 t) r d = all8 (a0 m c) (a1 m c) (a2 m c) (a3 m c) (a4 m c) (a5 m c) (row t r) d := by
  unfold tile8 all8
  simp only [iblk0, iblk1, iblk2, iblk3, iblk4, iblk5, iblk6, iblk7]

/-- The gradient by the sub-layer's output, from a tile and from the arguments. -/
def tile9 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dpost Norm.half (Norm.dpre (fun e => x0 (ix2 r e)) (fun e => x1 (ix2 r e)) (fun e => x2 (ix2 r e)) (fun e => x4 (ix3 0 0 e)) (fun e => x5 (ix3 0 0 e))) (fun e => x3 (ix2 r e)) (fun e => x6 (ix3 0 0 e)) (fun e => x7 (ix3 0 0 e))
def all9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dpost Norm.half (Norm.dpre (fun e => g0 (ix2 r e)) (fun e => g1 (ix2 r e)) (fun e => g2 (ix2 r e)) (fun e => g4 (ix2 8 e)) (fun e => g5 (ix2 13 e))) (fun e => g3 (ix2 r e)) (fun e => g4 (ix2 7 e)) (fun e => g5 (ix2 11 e))

theorem row9 (t : Fin cfg0.N) (r : Fin 512) (d : Fin 1024) : tile9 (iblk m c 0 t) (iblk m c 1 t) (iblk m c 2 t) (iblk m c 3 t) (iblk m c 4 t) (iblk m c 5 t) (iblk m c 6 t) (iblk m c 7 t) r d = all9 (a0 m c) (a1 m c) (a2 m c) (a3 m c) (a4 m c) (a5 m c) (row t r) d := by
  unfold tile9 all9
  simp only [iblk0, iblk1, iblk2, iblk3, iblk4, iblk5, iblk6, iblk7]

/-- The gradient by the shift, from a tile and from the arguments. -/
def tile10 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := (fun e => x0 (ix2 r e))
def all10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := (fun e => g0 (ix2 r e))

theorem row10 (t : Fin cfg0.N) (r : Fin 512) (d : Fin 1024) : tile10 (iblk m c 0 t) (iblk m c 1 t) (iblk m c 2 t) (iblk m c 3 t) (iblk m c 4 t) (iblk m c 5 t) (iblk m c 6 t) (iblk m c 7 t) r d = all10 (a0 m c) (a1 m c) (a2 m c) (a3 m c) (a4 m c) (a5 m c) (row t r) d := by
  unfold tile10 all10
  simp only [iblk0, iblk1, iblk2, iblk3, iblk4, iblk5, iblk6, iblk7]

/-- The gradient by the scale, from a tile and from the arguments. -/
def tile11 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dscale (fun e => x0 (ix2 r e)) (fun e => x1 (ix2 r e)) (fun e => x4 (ix3 0 0 e))
def all11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dscale (fun e => g0 (ix2 r e)) (fun e => g1 (ix2 r e)) (fun e => g4 (ix2 8 e))

theorem row11 (t : Fin cfg0.N) (r : Fin 512) (d : Fin 1024) : tile11 (iblk m c 0 t) (iblk m c 1 t) (iblk m c 2 t) (iblk m c 3 t) (iblk m c 4 t) (iblk m c 5 t) (iblk m c 6 t) (iblk m c 7 t) r d = all11 (a0 m c) (a1 m c) (a2 m c) (a3 m c) (a4 m c) (a5 m c) (row t r) d := by
  unfold tile11 all11
  simp only [iblk0, iblk1, iblk2, iblk3, iblk4, iblk5, iblk6, iblk7]

/-- The gradient by the next norm's gain, from a tile and from the arguments. -/
def tile12 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgain (fun e => x0 (ix2 r e)) (fun e => x1 (ix2 r e)) (fun e => x5 (ix3 0 0 e))
def all12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgain (fun e => g0 (ix2 r e)) (fun e => g1 (ix2 r e)) (fun e => g5 (ix2 13 e))

theorem row12 (t : Fin cfg0.N) (r : Fin 512) (d : Fin 1024) : tile12 (iblk m c 0 t) (iblk m c 1 t) (iblk m c 2 t) (iblk m c 3 t) (iblk m c 4 t) (iblk m c 5 t) (iblk m c 6 t) (iblk m c 7 t) r d = all12 (a0 m c) (a1 m c) (a2 m c) (a3 m c) (a4 m c) (a5 m c) (row t r) d := by
  unfold tile12 all12
  simp only [iblk0, iblk1, iblk2, iblk3, iblk4, iblk5, iblk6, iblk7]

/-- The gradient by the gate, from a tile and from the arguments. -/
def tile13 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgate Norm.half (Norm.dpre (fun e => x0 (ix2 r e)) (fun e => x1 (ix2 r e)) (fun e => x2 (ix2 r e)) (fun e => x4 (ix3 0 0 e)) (fun e => x5 (ix3 0 0 e))) (fun e => x3 (ix2 r e)) (fun e => x6 (ix3 0 0 e))
def all13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgate Norm.half (Norm.dpre (fun e => g0 (ix2 r e)) (fun e => g1 (ix2 r e)) (fun e => g2 (ix2 r e)) (fun e => g4 (ix2 8 e)) (fun e => g5 (ix2 13 e))) (fun e => g3 (ix2 r e)) (fun e => g4 (ix2 7 e))

theorem row13 (t : Fin cfg0.N) (r : Fin 512) (d : Fin 1024) : tile13 (iblk m c 0 t) (iblk m c 1 t) (iblk m c 2 t) (iblk m c 3 t) (iblk m c 4 t) (iblk m c 5 t) (iblk m c 6 t) (iblk m c 7 t) r d = all13 (a0 m c) (a1 m c) (a2 m c) (a3 m c) (a4 m c) (a5 m c) (row t r) d := by
  unfold tile13 all13
  simp only [iblk0, iblk1, iblk2, iblk3, iblk4, iblk5, iblk6, iblk7]

/-- The gradient by the norm's gain, from a tile and from the arguments. -/
def tile14 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgain' Norm.half (Norm.dpre (fun e => x0 (ix2 r e)) (fun e => x1 (ix2 r e)) (fun e => x2 (ix2 r e)) (fun e => x4 (ix3 0 0 e)) (fun e => x5 (ix3 0 0 e))) (fun e => x3 (ix2 r e)) (fun e => x7 (ix3 0 0 e))
def all14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgain' Norm.half (Norm.dpre (fun e => g0 (ix2 r e)) (fun e => g1 (ix2 r e)) (fun e => g2 (ix2 r e)) (fun e => g4 (ix2 8 e)) (fun e => g5 (ix2 13 e))) (fun e => g3 (ix2 r e)) (fun e => g5 (ix2 11 e))

theorem row14 (t : Fin cfg0.N) (r : Fin 512) (d : Fin 1024) : tile14 (iblk m c 0 t) (iblk m c 1 t) (iblk m c 2 t) (iblk m c 3 t) (iblk m c 4 t) (iblk m c 5 t) (iblk m c 6 t) (iblk m c 7 t) r d = all14 (a0 m c) (a1 m c) (a2 m c) (a3 m c) (a4 m c) (a5 m c) (row t r) d := by
  unfold tile14 all14
  simp only [iblk0, iblk1, iblk2, iblk3, iblk4, iblk5, iblk6, iblk7]

/-! ## One grid point -/

set_option maxHeartbeats 1000000 in
theorem outA8 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S512x1024.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = tile8 x0 x1 x2 x3 x4 x5 x6 x7 (y 0) (y 1) := by
  frame_out
  open_payloads
  pointwise [tile8, Norm.dpre, Norm.dscale, Norm.dgain, Norm.dpost, Norm.dgate, Norm.dgain', Norm.back, Norm.width, Norm.rstd, Norm.square, Norm.one, Norm.half, ix3, ix2]

set_option maxHeartbeats 1000000 in
theorem outB8 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S512x1024.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = tile8 x0 x1 x2 x3 x4 x5 x6 x7 (y 0) (y 1) := by
  frame_out
  open_payloads
  pointwise [tile8, Norm.dpre, Norm.dscale, Norm.dgain, Norm.dpost, Norm.dgate, Norm.dgain', Norm.back, Norm.width, Norm.rstd, Norm.square, Norm.one, Norm.half, ix3, ix2]

set_option maxHeartbeats 1000000 in
theorem outA9 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S512x1024.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = tile9 x0 x1 x2 x3 x4 x5 x6 x7 (y 0) (y 1) := by
  frame_out
  open_payloads
  pointwise [tile9, Norm.dpre, Norm.dscale, Norm.dgain, Norm.dpost, Norm.dgate, Norm.dgain', Norm.back, Norm.width, Norm.rstd, Norm.square, Norm.one, Norm.half, ix3, ix2]

set_option maxHeartbeats 1000000 in
theorem outB9 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S512x1024.Idx) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = tile9 x0 x1 x2 x3 x4 x5 x6 x7 (y 0) (y 1) := by
  frame_out
  open_payloads
  pointwise [tile9, Norm.dpre, Norm.dscale, Norm.dgain, Norm.dpost, Norm.dgate, Norm.dgain', Norm.back, Norm.width, Norm.rstd, Norm.square, Norm.one, Norm.half, ix3, ix2]

set_option maxHeartbeats 1000000 in
theorem outA10 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile10 x0 x1 x2 x3 x4 x5 x6 x7 r (y 1) : EReal) := by
  frame_out
  open_payloads
  pointwise [tile10, Norm.dpre, Norm.dscale, Norm.dgain, Norm.dpost, Norm.dgate, Norm.dgain', Norm.back, Norm.width, Norm.rstd, Norm.square, Norm.one, Norm.half, ix3, ix2]

set_option maxHeartbeats 1000000 in
theorem outB10 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo10 y + ∑ r : Fin 512, tile10 x0 x1 x2 x3 x4 x5 x6 x7 r (y 1) : EReal) := by
  frame_out
  open_payloads
  pointwise [tile10, Norm.dpre, Norm.dscale, Norm.dgain, Norm.dpost, Norm.dgate, Norm.dgain', Norm.back, Norm.width, Norm.rstd, Norm.square, Norm.one, Norm.half, ix3, ix2]

set_option maxHeartbeats 1000000 in
theorem outA11 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile11 x0 x1 x2 x3 x4 x5 x6 x7 r (y 1) : EReal) := by
  frame_out
  open_payloads
  pointwise [tile11, Norm.dpre, Norm.dscale, Norm.dgain, Norm.dpost, Norm.dgate, Norm.dgain', Norm.back, Norm.width, Norm.rstd, Norm.square, Norm.one, Norm.half, ix3, ix2]

set_option maxHeartbeats 1000000 in
theorem outB11 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo11 y + ∑ r : Fin 512, tile11 x0 x1 x2 x3 x4 x5 x6 x7 r (y 1) : EReal) := by
  frame_out
  open_payloads
  pointwise [tile11, Norm.dpre, Norm.dscale, Norm.dgain, Norm.dpost, Norm.dgate, Norm.dgain', Norm.back, Norm.width, Norm.rstd, Norm.square, Norm.one, Norm.half, ix3, ix2]

set_option maxHeartbeats 1000000 in
theorem outA12 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile12 x0 x1 x2 x3 x4 x5 x6 x7 r (y 1) : EReal) := by
  frame_out
  open_payloads
  pointwise [tile12, Norm.dpre, Norm.dscale, Norm.dgain, Norm.dpost, Norm.dgate, Norm.dgain', Norm.back, Norm.width, Norm.rstd, Norm.square, Norm.one, Norm.half, ix3, ix2]

set_option maxHeartbeats 1000000 in
theorem outB12 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo12 y + ∑ r : Fin 512, tile12 x0 x1 x2 x3 x4 x5 x6 x7 r (y 1) : EReal) := by
  frame_out
  open_payloads
  pointwise [tile12, Norm.dpre, Norm.dscale, Norm.dgain, Norm.dpost, Norm.dgate, Norm.dgain', Norm.back, Norm.width, Norm.rstd, Norm.square, Norm.one, Norm.half, ix3, ix2]

set_option maxHeartbeats 1000000 in
theorem outA13 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile13 x0 x1 x2 x3 x4 x5 x6 x7 r (y 1) : EReal) := by
  frame_out
  open_payloads
  pointwise [tile13, Norm.dpre, Norm.dscale, Norm.dgain, Norm.dpost, Norm.dgate, Norm.dgain', Norm.back, Norm.width, Norm.rstd, Norm.square, Norm.one, Norm.half, ix3, ix2]

set_option maxHeartbeats 1000000 in
theorem outB13 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo13 y + ∑ r : Fin 512, tile13 x0 x1 x2 x3 x4 x5 x6 x7 r (y 1) : EReal) := by
  frame_out
  open_payloads
  pointwise [tile13, Norm.dpre, Norm.dscale, Norm.dgain, Norm.dpost, Norm.dgate, Norm.dgain', Norm.back, Norm.width, Norm.rstd, Norm.square, Norm.one, Norm.half, ix3, ix2]

set_option maxHeartbeats 1000000 in
theorem outA14 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile14 x0 x1 x2 x3 x4 x5 x6 x7 r (y 1) : EReal) := by
  frame_out
  open_payloads
  pointwise [tile14, Norm.dpre, Norm.dscale, Norm.dgain, Norm.dpost, Norm.dgate, Norm.dgain', Norm.back, Norm.width, Norm.rstd, Norm.square, Norm.one, Norm.half, ix3, ix2]

set_option maxHeartbeats 1000000 in
theorem outB14 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo14 y + ∑ r : Fin 512, tile14 x0 x1 x2 x3 x4 x5 x6 x7 r (y 1) : EReal) := by
  frame_out
  open_payloads
  pointwise [tile14, Norm.dpre, Norm.dscale, Norm.dgain, Norm.dpost, Norm.dgate, Norm.dgain', Norm.back, Norm.width, Norm.rstd, Norm.square, Norm.one, Norm.half, ix3, ix2]

/-- The array: the gradient by the stream. -/
def G8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S4096x1024.Idx → EReal := fun i => all8 g0 g1 g2 g3 g4 g5 (i 0) (i 1)

theorem point8 (t : Fin cfg0.N) (y : S512x1024.Idx) : (outsAt0 m c t.val t.isLt).1 y = tile8 (iblk m c 0 t) (iblk m c 1 t) (iblk m c 2 t) (iblk m c 3 t) (iblk m c 4 t) (iblk m c 5 t) (iblk m c 6 t) (iblk m c 7 t) (y 0) (y 1) := by
  by_cases h0 : t.val % 8 = 0
  · rw [outsAt0_A m c t h0]
    dsimp only
    rw [outA8 (h0 := h0)]
  · rw [outsAt0_B m c t h0]
    dsimp only
    rw [outB8 (h0 := h0)]

theorem arr8 : (dats m 0 c).arrAt 8 cfg0.N = G8 (a0 m c) (a1 m c) (a2 m c) (a3 m c) (a4 m c) (a5 m c) := by
  refine (dats m 0 c).arrAt_eq_of_covers 8 _ (by decide +kernel) fun t hf y => ?_
  blk_simp
  rw [after0_8]
  refine (point8 m c t y).trans ((row8 m c t (y 0) (y 1)).trans (congrArg (G8 (a0 m c) (a1 m c) (a2 m c) (a3 m c) (a4 m c) (a5 m c)) (a₁ := ix2 (row t (y 0)) (y 1)) ?_))
  blk_ext [idx t, row]

/-- The array: the gradient by the sub-layer's output. -/
def G9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S4096x1024.Idx → EReal := fun i => all9 g0 g1 g2 g3 g4 g5 (i 0) (i 1)

theorem point9 (t : Fin cfg0.N) (y : S512x1024.Idx) : (outsAt0 m c t.val t.isLt).2.1 y = tile9 (iblk m c 0 t) (iblk m c 1 t) (iblk m c 2 t) (iblk m c 3 t) (iblk m c 4 t) (iblk m c 5 t) (iblk m c 6 t) (iblk m c 7 t) (y 0) (y 1) := by
  by_cases h0 : t.val % 8 = 0
  · rw [outsAt0_A m c t h0]
    dsimp only
    rw [outA9 (h0 := h0)]
  · rw [outsAt0_B m c t h0]
    dsimp only
    rw [outB9 (h0 := h0)]

theorem arr9 : (dats m 0 c).arrAt 9 cfg0.N = G9 (a0 m c) (a1 m c) (a2 m c) (a3 m c) (a4 m c) (a5 m c) := by
  refine (dats m 0 c).arrAt_eq_of_covers 9 _ (by decide +kernel) fun t hf y => ?_
  blk_simp
  rw [after0_9]
  refine (point9 m c t y).trans ((row9 m c t (y 0) (y 1)).trans (congrArg (G9 (a0 m c) (a1 m c) (a2 m c) (a3 m c) (a4 m c) (a5 m c)) (a₁ := ix2 (row t (y 0)) (y 1)) ?_))
  blk_ext [idx t, row]

/-- The sum over all rows: the gradient by the shift. -/
def G10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all10 g0 g1 g2 g3 g4 g5 r (i 1)

/-- A grid point's share. -/
def part10 (t : Fin cfg0.N) (i : S1x1024.Idx) : EReal := ∑ r : Fin 512, tile10 (iblk m c 0 t) (iblk m c 1 t) (iblk m c 2 t) (iblk m c 3 t) (iblk m c 4 t) (iblk m c 5 t) (iblk m c 6 t) (iblk m c 7 t) r (i 1)

theorem acc10 (t : Fin cfg0.N) (hr : t.val % 8 = 7) (i : S1x1024.Idx) :
    (outsAt0 m c t.val t.isLt).2.2.1 i = (0 + ∑ s : Fin 8, part10 m c ⟨8 * (t.val / 8) + s.val, Pipeline.run_point_lt_of_flush t hr s⟩ i : EReal) :=
  Pipeline.eq_sum_fin_of_reset_step_apply_of_flush (M := EReal) (fun n h => (outsAt0 m c n h).2.2.1) 8 (fun _ => 0) (part10 m c)
    (fun t h i => by
      show (outsAt0 m c t.val t.isLt).2.2.1 i = (0 + part10 m c t i : EReal)
      rw [outsAt0_A m c t h, zero_add]
      dsimp only
      rw [outA10 (h0 := h)]
      rfl)
    (fun t h i => by
      rw [outsAt0_B m c t h]
      dsimp only
      rw [outB10 (h0 := h)]
      rfl) t hr i

theorem parts10 (t : Fin cfg0.N) (hr : t.val % 8 = 7) (i : S1x1024.Idx) :
    (∑ s : Fin 8, part10 m c ⟨8 * (t.val / 8) + s.val, Pipeline.run_point_lt_of_flush t hr s⟩ i : EReal) = G10 (a0 m c) (a1 m c) (a2 m c) (a3 m c) (a4 m c) (a5 m c) i := by
  unfold G10
  rw [Fin.sum_univ_tiles 8 512 rfl]
  refine Finset.sum_congr rfl fun s _ => ?_
  unfold part10
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row10 m c _ r (i 1)).trans (congrArg (fun q => all10 (a0 m c) (a1 m c) (a2 m c) (a3 m c) (a4 m c) (a5 m c) q (i 1)) e)

theorem arr10 : (dats m 0 c).arrAt 10 cfg0.N = G10 (a0 m c) (a1 m c) (a2 m c) (a3 m c) (a4 m c) (a5 m c) := by
  refine (dats m 0 c).arrAt_eq_of_covers 10 _ (by decide +kernel) fun t hf y => ?_
  have hr := (flush0_10 t).mp hf
  blk_simp
  rw [after0_10]
  refine (acc10 m c t hr y).trans ((zero_add _).trans ((parts10 m c t hr y).trans (congrArg (G10 (a0 m c) (a1 m c) (a2 m c) (a3 m c) (a4 m c) (a5 m c)) ?_)))
  blk_ext [idx t]

/-- The sum over all rows: the gradient by the scale. -/
def G11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all11 g0 g1 g2 g3 g4 g5 r (i 1)

/-- A grid point's share. -/
def part11 (t : Fin cfg0.N) (i : S1x1024.Idx) : EReal := ∑ r : Fin 512, tile11 (iblk m c 0 t) (iblk m c 1 t) (iblk m c 2 t) (iblk m c 3 t) (iblk m c 4 t) (iblk m c 5 t) (iblk m c 6 t) (iblk m c 7 t) r (i 1)

theorem acc11 (t : Fin cfg0.N) (hr : t.val % 8 = 7) (i : S1x1024.Idx) :
    (outsAt0 m c t.val t.isLt).2.2.2.1 i = (0 + ∑ s : Fin 8, part11 m c ⟨8 * (t.val / 8) + s.val, Pipeline.run_point_lt_of_flush t hr s⟩ i : EReal) :=
  Pipeline.eq_sum_fin_of_reset_step_apply_of_flush (M := EReal) (fun n h => (outsAt0 m c n h).2.2.2.1) 8 (fun _ => 0) (part11 m c)
    (fun t h i => by
      show (outsAt0 m c t.val t.isLt).2.2.2.1 i = (0 + part11 m c t i : EReal)
      rw [outsAt0_A m c t h, zero_add]
      dsimp only
      rw [outA11 (h0 := h)]
      rfl)
    (fun t h i => by
      rw [outsAt0_B m c t h]
      dsimp only
      rw [outB11 (h0 := h)]
      rfl) t hr i

theorem parts11 (t : Fin cfg0.N) (hr : t.val % 8 = 7) (i : S1x1024.Idx) :
    (∑ s : Fin 8, part11 m c ⟨8 * (t.val / 8) + s.val, Pipeline.run_point_lt_of_flush t hr s⟩ i : EReal) = G11 (a0 m c) (a1 m c) (a2 m c) (a3 m c) (a4 m c) (a5 m c) i := by
  unfold G11
  rw [Fin.sum_univ_tiles 8 512 rfl]
  refine Finset.sum_congr rfl fun s _ => ?_
  unfold part11
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row11 m c _ r (i 1)).trans (congrArg (fun q => all11 (a0 m c) (a1 m c) (a2 m c) (a3 m c) (a4 m c) (a5 m c) q (i 1)) e)

theorem arr11 : (dats m 0 c).arrAt 11 cfg0.N = G11 (a0 m c) (a1 m c) (a2 m c) (a3 m c) (a4 m c) (a5 m c) := by
  refine (dats m 0 c).arrAt_eq_of_covers 11 _ (by decide +kernel) fun t hf y => ?_
  have hr := (flush0_11 t).mp hf
  blk_simp
  rw [after0_11]
  refine (acc11 m c t hr y).trans ((zero_add _).trans ((parts11 m c t hr y).trans (congrArg (G11 (a0 m c) (a1 m c) (a2 m c) (a3 m c) (a4 m c) (a5 m c)) ?_)))
  blk_ext [idx t]

/-- The sum over all rows: the gradient by the next norm's gain. -/
def G12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all12 g0 g1 g2 g3 g4 g5 r (i 1)

/-- A grid point's share. -/
def part12 (t : Fin cfg0.N) (i : S1x1024.Idx) : EReal := ∑ r : Fin 512, tile12 (iblk m c 0 t) (iblk m c 1 t) (iblk m c 2 t) (iblk m c 3 t) (iblk m c 4 t) (iblk m c 5 t) (iblk m c 6 t) (iblk m c 7 t) r (i 1)

theorem acc12 (t : Fin cfg0.N) (hr : t.val % 8 = 7) (i : S1x1024.Idx) :
    (outsAt0 m c t.val t.isLt).2.2.2.2.1 i = (0 + ∑ s : Fin 8, part12 m c ⟨8 * (t.val / 8) + s.val, Pipeline.run_point_lt_of_flush t hr s⟩ i : EReal) :=
  Pipeline.eq_sum_fin_of_reset_step_apply_of_flush (M := EReal) (fun n h => (outsAt0 m c n h).2.2.2.2.1) 8 (fun _ => 0) (part12 m c)
    (fun t h i => by
      show (outsAt0 m c t.val t.isLt).2.2.2.2.1 i = (0 + part12 m c t i : EReal)
      rw [outsAt0_A m c t h, zero_add]
      dsimp only
      rw [outA12 (h0 := h)]
      rfl)
    (fun t h i => by
      rw [outsAt0_B m c t h]
      dsimp only
      rw [outB12 (h0 := h)]
      rfl) t hr i

theorem parts12 (t : Fin cfg0.N) (hr : t.val % 8 = 7) (i : S1x1024.Idx) :
    (∑ s : Fin 8, part12 m c ⟨8 * (t.val / 8) + s.val, Pipeline.run_point_lt_of_flush t hr s⟩ i : EReal) = G12 (a0 m c) (a1 m c) (a2 m c) (a3 m c) (a4 m c) (a5 m c) i := by
  unfold G12
  rw [Fin.sum_univ_tiles 8 512 rfl]
  refine Finset.sum_congr rfl fun s _ => ?_
  unfold part12
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row12 m c _ r (i 1)).trans (congrArg (fun q => all12 (a0 m c) (a1 m c) (a2 m c) (a3 m c) (a4 m c) (a5 m c) q (i 1)) e)

theorem arr12 : (dats m 0 c).arrAt 12 cfg0.N = G12 (a0 m c) (a1 m c) (a2 m c) (a3 m c) (a4 m c) (a5 m c) := by
  refine (dats m 0 c).arrAt_eq_of_covers 12 _ (by decide +kernel) fun t hf y => ?_
  have hr := (flush0_12 t).mp hf
  blk_simp
  rw [after0_12]
  refine (acc12 m c t hr y).trans ((zero_add _).trans ((parts12 m c t hr y).trans (congrArg (G12 (a0 m c) (a1 m c) (a2 m c) (a3 m c) (a4 m c) (a5 m c)) ?_)))
  blk_ext [idx t]

/-- The sum over all rows: the gradient by the gate. -/
def G13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all13 g0 g1 g2 g3 g4 g5 r (i 1)

/-- A grid point's share. -/
def part13 (t : Fin cfg0.N) (i : S1x1024.Idx) : EReal := ∑ r : Fin 512, tile13 (iblk m c 0 t) (iblk m c 1 t) (iblk m c 2 t) (iblk m c 3 t) (iblk m c 4 t) (iblk m c 5 t) (iblk m c 6 t) (iblk m c 7 t) r (i 1)

theorem acc13 (t : Fin cfg0.N) (hr : t.val % 8 = 7) (i : S1x1024.Idx) :
    (outsAt0 m c t.val t.isLt).2.2.2.2.2.1 i = (0 + ∑ s : Fin 8, part13 m c ⟨8 * (t.val / 8) + s.val, Pipeline.run_point_lt_of_flush t hr s⟩ i : EReal) :=
  Pipeline.eq_sum_fin_of_reset_step_apply_of_flush (M := EReal) (fun n h => (outsAt0 m c n h).2.2.2.2.2.1) 8 (fun _ => 0) (part13 m c)
    (fun t h i => by
      show (outsAt0 m c t.val t.isLt).2.2.2.2.2.1 i = (0 + part13 m c t i : EReal)
      rw [outsAt0_A m c t h, zero_add]
      dsimp only
      rw [outA13 (h0 := h)]
      rfl)
    (fun t h i => by
      rw [outsAt0_B m c t h]
      dsimp only
      rw [outB13 (h0 := h)]
      rfl) t hr i

theorem parts13 (t : Fin cfg0.N) (hr : t.val % 8 = 7) (i : S1x1024.Idx) :
    (∑ s : Fin 8, part13 m c ⟨8 * (t.val / 8) + s.val, Pipeline.run_point_lt_of_flush t hr s⟩ i : EReal) = G13 (a0 m c) (a1 m c) (a2 m c) (a3 m c) (a4 m c) (a5 m c) i := by
  unfold G13
  rw [Fin.sum_univ_tiles 8 512 rfl]
  refine Finset.sum_congr rfl fun s _ => ?_
  unfold part13
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row13 m c _ r (i 1)).trans (congrArg (fun q => all13 (a0 m c) (a1 m c) (a2 m c) (a3 m c) (a4 m c) (a5 m c) q (i 1)) e)

theorem arr13 : (dats m 0 c).arrAt 13 cfg0.N = G13 (a0 m c) (a1 m c) (a2 m c) (a3 m c) (a4 m c) (a5 m c) := by
  refine (dats m 0 c).arrAt_eq_of_covers 13 _ (by decide +kernel) fun t hf y => ?_
  have hr := (flush0_13 t).mp hf
  blk_simp
  rw [after0_13]
  refine (acc13 m c t hr y).trans ((zero_add _).trans ((parts13 m c t hr y).trans (congrArg (G13 (a0 m c) (a1 m c) (a2 m c) (a3 m c) (a4 m c) (a5 m c)) ?_)))
  blk_ext [idx t]

/-- The sum over all rows: the gradient by the norm's gain. -/
def G14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all14 g0 g1 g2 g3 g4 g5 r (i 1)

/-- A grid point's share. -/
def part14 (t : Fin cfg0.N) (i : S1x1024.Idx) : EReal := ∑ r : Fin 512, tile14 (iblk m c 0 t) (iblk m c 1 t) (iblk m c 2 t) (iblk m c 3 t) (iblk m c 4 t) (iblk m c 5 t) (iblk m c 6 t) (iblk m c 7 t) r (i 1)

theorem acc14 (t : Fin cfg0.N) (hr : t.val % 8 = 7) (i : S1x1024.Idx) :
    (outsAt0 m c t.val t.isLt).2.2.2.2.2.2 i = (0 + ∑ s : Fin 8, part14 m c ⟨8 * (t.val / 8) + s.val, Pipeline.run_point_lt_of_flush t hr s⟩ i : EReal) :=
  Pipeline.eq_sum_fin_of_reset_step_apply_of_flush (M := EReal) (fun n h => (outsAt0 m c n h).2.2.2.2.2.2) 8 (fun _ => 0) (part14 m c)
    (fun t h i => by
      show (outsAt0 m c t.val t.isLt).2.2.2.2.2.2 i = (0 + part14 m c t i : EReal)
      rw [outsAt0_A m c t h, zero_add]
      dsimp only
      rw [outA14 (h0 := h)]
      rfl)
    (fun t h i => by
      rw [outsAt0_B m c t h]
      dsimp only
      rw [outB14 (h0 := h)]
      rfl) t hr i

theorem parts14 (t : Fin cfg0.N) (hr : t.val % 8 = 7) (i : S1x1024.Idx) :
    (∑ s : Fin 8, part14 m c ⟨8 * (t.val / 8) + s.val, Pipeline.run_point_lt_of_flush t hr s⟩ i : EReal) = G14 (a0 m c) (a1 m c) (a2 m c) (a3 m c) (a4 m c) (a5 m c) i := by
  unfold G14
  rw [Fin.sum_univ_tiles 8 512 rfl]
  refine Finset.sum_congr rfl fun s _ => ?_
  unfold part14
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row14 m c _ r (i 1)).trans (congrArg (fun q => all14 (a0 m c) (a1 m c) (a2 m c) (a3 m c) (a4 m c) (a5 m c) q (i 1)) e)

theorem arr14 : (dats m 0 c).arrAt 14 cfg0.N = G14 (a0 m c) (a1 m c) (a2 m c) (a3 m c) (a4 m c) (a5 m c) := by
  refine (dats m 0 c).arrAt_eq_of_covers 14 _ (by decide +kernel) fun t hf y => ?_
  have hr := (flush0_14 t).mp hf
  blk_simp
  rw [after0_14]
  refine (acc14 m c t hr y).trans ((zero_add _).trans ((parts14 m c t hr y).trans (congrArg (G14 (a0 m c) (a1 m c) (a2 m c) (a3 m c) (a4 m c) (a5 m c)) ?_)))
  blk_ext [idx t]

/-! ## The reference -/

/-- The gradient by the normed row, in the reference's order. -/
def grad (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := fun e => g0 (ix2 r e) * (Norm.one + g5 (ix2 13 e)) * g4 (ix2 8 e)

open Cert.NormLinkBwdRefIdeal.Read in
theorem ref_lines (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) :
    val_main_v51 (F := Ideal) g0 g1 g2 g4 g5 (ix2 s a) = (g2 (ix2 s a) + Norm.lines (fun e => g1 (ix2 s e)) (grad g0 g1 g2 g3 g4 g5 s) a : EReal) := by
  unfold val_main_v51 val_main_v50 val_main_v48 val_main_v49 val_main_v41 val_main_v47 val_main_v40 val_main_v46
    val_main_v45 val_main_v44 val_main_cst_9 val_main_v42 val_main_v43 val_main_v39 val_main_v13 val_main_cst_8
    val_main_v38 val_main_v12 val_main_v11 val_main_v10 val_main_v37 val_main_cst_7 val_main_cst_2 val_main_v36
    val_main_v9 val_main_v31 val_main_v35 val_main_v7 val_main_v8 val_main_v24 val_main_v30 val_main_v0
    val_main_v5 val_main_v6 val_main_cst_1 val_main_v19 val_main_v4 val_main_cst_0 val_main_v18 val_main_v1
    val_main_v3 val_main_cst val_main_cst_3
  pointwise [grad, Norm.lines, Norm.share, Norm.mhalf, Norm.width, Norm.rstd, Norm.square, Norm.one, Norm.half]
  simp only [Finset.univ_unique, Finset.sum_const, Finset.card_singleton, one_smul]

theorem grad_eq (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : grad g0 g1 g2 g3 g4 g5 r = fun e => g0 (ix2 r e) * (g4 (ix2 8 e) * (Norm.one + g5 (ix2 13 e))) :=
  funext fun e => (mul_assoc _ _ _).trans (congrArg (fun z : EReal => g0 (ix2 r e) * z) (mul_comm _ _))

open Cert.NormLinkBwdRefIdeal.Read in
theorem ref8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) : val_main_v51 (F := Ideal) g0 g1 g2 g4 g5 (ix2 s a) = all8 g0 g1 g2 g3 g4 g5 s a := by
  rw [ref_lines g0 g1 g2 g3 g4 g5, Norm.back_eq, grad_eq]
  rfl

/-- The gradient by the sub-layer's normed output, in the reference's order. -/
def grad' (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := fun e => Norm.half * (Norm.one + g5 (ix2 11 e)) * all8 g0 g1 g2 g3 g4 g5 r e * g4 (ix2 7 e)

open Cert.NormLinkBwdRefIdeal.Read in
theorem ref_lines' (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) :
    val_main_v102 (F := Ideal) g0 g1 g2 g3 g4 g5 (ix2 s a) = (Norm.lines (fun e => g3 (ix2 s e)) (grad' g0 g1 g2 g3 g4 g5 s) a : EReal) := by
  unfold val_main_v102 val_main_v99 val_main_v97 val_main_v98 val_main_v90 val_main_v96 val_main_v89 val_main_v95
    val_main_v94 val_main_v93 val_main_cst_20 val_main_v91 val_main_v92 val_main_v88 val_main_v68 val_main_cst_19
    val_main_v87 val_main_v67 val_main_v66 val_main_v65 val_main_v86 val_main_cst_18 val_main_cst_15 val_main_v85
    val_main_v64 val_main_v77 val_main_v84 val_main_v62 val_main_v63 val_main_v76 val_main_v52 val_main_v60
    val_main_v61 val_main_cst_14 val_main_v57 val_main_v59 val_main_cst_13 val_main_v56 val_main_v55 val_main_v58
    val_main_cst_12 val_main_cst_11 val_main_v54 val_main_v53 val_main_cst_10
  pointwise [grad', Norm.lines, Norm.share, Norm.mhalf, Norm.width, Norm.rstd, Norm.square, Norm.one, Norm.half]
  simp only [ref8 g0 g1 g2 g3 g4 g5, Finset.univ_unique, Finset.sum_const, Finset.card_singleton, one_smul]

theorem grad'_eq (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : grad' g0 g1 g2 g3 g4 g5 r = fun e => all8 g0 g1 g2 g3 g4 g5 r e * (Norm.half * (Norm.one + g5 (ix2 11 e))) * g4 (ix2 7 e) :=
  funext fun e => congrArg (fun z : EReal => z * g4 (ix2 7 e)) (mul_comm _ _)

open Cert.NormLinkBwdRefIdeal.Read in
theorem ref9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) : val_main_v102 (F := Ideal) g0 g1 g2 g3 g4 g5 (ix2 s a) = G9 g0 g1 g2 g3 g4 g5 (ix2 s a) := by
  rw [ref_lines', Norm.back_eq, grad'_eq]
  rfl

open Cert.NormLinkBwdRefIdeal.Read in
theorem ref10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v26 (F := Ideal) g0 (ix2 z a) = G10 g0 g1 g2 g3 g4 g5 (ix2 z a) := by
  obtain rfl : z = 0 := Subsingleton.elim _ _
  unfold val_main_v26 val_main_v25 val_main_cst_4
  pointwise [G10, all10, Norm.one]

open Cert.NormLinkBwdRefIdeal.Read in
theorem ref11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v29 (F := Ideal) g0 g1 g4 (ix2 z a) = G11 g0 g1 g2 g3 g4 g5 (ix2 z a) := by
  obtain rfl : z = 0 := Subsingleton.elim _ _
  unfold val_main_v29 val_main_v28 val_main_v27 val_main_cst_5 val_main_v17 val_main_v24 val_main_v15 val_main_v16
    val_main_v14 val_main_v0 val_main_v10 val_main_v9 val_main_v7 val_main_v8 val_main_v5 val_main_v6
    val_main_cst_1 val_main_v4 val_main_cst_0 val_main_v3 val_main_cst
  pointwise [G11, all11, Norm.dscale, Norm.rstd, Norm.square]
  exact Finset.sum_congr rfl fun _ _ => mul_comm _ _

open Cert.NormLinkBwdRefIdeal.Read in
theorem ref12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v34 (F := Ideal) g0 g1 g5 (ix2 z a) = G12 g0 g1 g2 g3 g4 g5 (ix2 z a) := by
  obtain rfl : z = 0 := Subsingleton.elim _ _
  unfold val_main_v34 val_main_v33 val_main_v32 val_main_cst_6 val_main_v15 val_main_v31 val_main_v14 val_main_v24
    val_main_v30 val_main_v10 val_main_v19 val_main_v9 val_main_v18 val_main_v1 val_main_v7 val_main_v8
    val_main_cst_3 val_main_v5 val_main_v6 val_main_cst_1 val_main_v4 val_main_cst_0 val_main_v3 val_main_cst
  pointwise [G12, all12, Norm.dgain, Norm.rstd, Norm.square, Norm.one]
  refine Finset.sum_congr rfl fun _ _ => ?_
  rw [mul_comm, mul_assoc]

open Cert.NormLinkBwdRefIdeal.Read in
theorem ref13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v101 (F := Ideal) g0 g1 g2 g3 g4 g5 (ix2 z a) = G13 g0 g1 g2 g3 g4 g5 (ix2 z a) := by
  refine Eq.trans (b := (Norm.half * ∑ r : Fin 4096, all8 g0 g1 g2 g3 g4 g5 r a * (g3 (ix2 r a) * Norm.rstd (fun e => g3 (ix2 r e)) * g4 (ix2 7 a)) : EReal)) ?_ (Norm.half_sum _ _)
  obtain rfl : z = 0 := Subsingleton.elim _ _
  unfold val_main_v101 val_main_v100 val_main_v80 val_main_cst_21 val_main_v79 val_main_v78 val_main_cst_16
    val_main_v72 val_main_v70 val_main_v71 val_main_v69 val_main_v52 val_main_v65 val_main_v64 val_main_v62
    val_main_v63 val_main_v60 val_main_v61 val_main_cst_14 val_main_v59 val_main_cst_13 val_main_v58
    val_main_cst_12
  pointwise [Norm.half, Norm.rstd, Norm.square]
  simp only [ref8 g0 g1 g2 g3 g4 g5]

open Cert.NormLinkBwdRefIdeal.Read in
theorem ref14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v83 (F := Ideal) g0 g1 g2 g3 g4 g5 (ix2 z a) = G14 g0 g1 g2 g3 g4 g5 (ix2 z a) := by
  refine Eq.trans (b := (∑ r : Fin 4096, g3 (ix2 r a) * Norm.rstd (fun e => g3 (ix2 r e)) * (Norm.half * (Norm.one + g5 (ix2 11 a)) * all8 g0 g1 g2 g3 g4 g5 r a) : EReal)) ?_
    (Finset.sum_congr rfl fun _ _ => (mul_comm _ _).trans (congrArg (fun z : EReal => z * _) (mul_comm _ _)))
  obtain rfl : z = 0 := Subsingleton.elim _ _
  unfold val_main_v83 val_main_v82 val_main_v81 val_main_cst_17 val_main_v70 val_main_v77 val_main_v69 val_main_v76
    val_main_v65 val_main_v57 val_main_v64 val_main_v56 val_main_v55 val_main_v62 val_main_v63 val_main_cst_11
    val_main_v54 val_main_v53 val_main_v60 val_main_v61 val_main_cst_14 val_main_cst_10 val_main_v59
    val_main_cst_13 val_main_v58 val_main_cst_12
  pointwise [Norm.half, Norm.rstd, Norm.square, Norm.one]
  simp only [ref8 g0 g1 g2 g3 g4 g5]

theorem frame_ref : Cert.quiescent_NormLinkBwdRefIdeal := by
  intro m ρ _
  exact (θ_run Cert.NormLinkBwdRefIdeal.defs _ _).mono (fun r h => ⟨fun c => (h c).2.2.2.2.2.2.2, sem_eq_zero_of_no_sems (by decide) r.2⟩)
    (Cert.NormLinkBwdRefIdeal.Value.run m ρ)

theorem algebraic : Cert.algebraic_NormLinkBwdIdeal_NormLinkBwdRefIdeal := by
  intro m g m' g' _ hagree
  refine ⟨_, _, _, _, _, _, _, Cert.NormLinkBwdIdeal.Value.run_blocks m g, ?_⟩
  refine (θ_run Cert.NormLinkBwdRefIdeal.defs _ _).mono (fun r h c => ?_) (Cert.NormLinkBwdRefIdeal.Value.run m' g')
  obtain ⟨h8, h9, h10, h11, h12, h13, h14, hk⟩ := h c
  obtain ⟨g0, g1, g2, g3, g4, g5⟩ := hagree c
  refine ⟨?_, ?_, ?_, ?_, ?_, ?_, ?_, hk⟩
  · refine h8.trans ((Cert.NormLinkBwdRefIdeal.Read.val_main_v51_eq _ _).trans ?_)
    rw [g0, g1, g2, g4, g5, arr8]
    funext i
    rw [eq_ix2 i]
    exact ref8 _ _ _ _ _ _ _ _
  · refine h9.trans ((Cert.NormLinkBwdRefIdeal.Read.val_main_v102_eq _ _).trans ?_)
    rw [g0, g1, g2, g3, g4, g5, arr9]
    funext i
    rw [eq_ix2 i]
    exact ref9 _ _ _ _ _ _ _ _
  · refine h10.trans ((Cert.NormLinkBwdRefIdeal.Read.val_main_v26_eq (F := Ideal) _).trans ?_)
    rw [g0, arr10]
    funext i
    rw [eq_ix2 i]
    exact ref10 _ _ _ _ _ _ _ _
  · refine h11.trans ((Cert.NormLinkBwdRefIdeal.Read.val_main_v29_eq (F := Ideal) _ _ _).trans ?_)
    rw [g0, g1, g4, arr11]
    funext i
    rw [eq_ix2 i]
    exact ref11 _ _ _ _ _ _ _ _
  · refine h12.trans ((Cert.NormLinkBwdRefIdeal.Read.val_main_v34_eq (F := Ideal) _ _ _).trans ?_)
    rw [g0, g1, g5, arr12]
    funext i
    rw [eq_ix2 i]
    exact ref12 _ _ _ _ _ _ _ _
  · refine h13.trans ((Cert.NormLinkBwdRefIdeal.Read.val_main_v101_eq _ _).trans ?_)
    rw [g0, g1, g2, g3, g4, g5, arr13]
    funext i
    rw [eq_ix2 i]
    exact ref13 _ _ _ _ _ _ _ _
  · refine h14.trans ((Cert.NormLinkBwdRefIdeal.Read.val_main_v83_eq _ _).trans ?_)
    rw [g0, g1, g2, g3, g4, g5, arr14]
    funext i
    rw [eq_ix2 i]
    exact ref14 _ _ _ _ _ _ _ _

end Cert.LinkBack

end
-- ==== Proof.AdamStep.lean ====
/-
  One entry of the optimiser's step, from the gradient, the weight and the two moments.
-/
module

public import Idealize.ShloMosaic.PureOps
public import Idealize.ShloMosaic.Lib.Pointwise

@[expose] public section

noncomputable section

namespace Cert.Step

open Idealize.ShloMosaic

/-- The new first moment. -/
def mom (g m : EReal) : EReal := Ideal.ofBits .f32 0x3F666666#32 * m + Ideal.ofBits .f32 0x3DCCCCCD#32 * g

/-- The new second moment. -/
def sec (g v : EReal) : EReal := Ideal.ofBits .f32 0x3F7FBE77#32 * v + Ideal.ofBits .f32 0x3A83126F#32 * (g * g)

/-- What is added to the weight. -/
def delta (g w m v : EReal) : EReal :=
  Ideal.ofBits .f32 0xBA83126F#32 *
    (Ideal.div (Ideal.div (mom g m) (Ideal.ofBits .f32 0x3F26BD02#32))
        (Ideal.sqrt (Ideal.div (sec g v) (Ideal.ofBits .f32 0x3C231ACC#32)) + Ideal.ofBits .f32 0x322BCC77#32) +
      Ideal.ofBits .f32 0x3C23D70A#32 * w)

/-- Eight parts added one after the other. -/
theorem sum_parts (f : Fin 8 → EReal) : f 0 + f 1 + f 2 + f 3 + f 4 + f 5 + f 6 + f 7 = ∑ k, f k := by
  rw [Fin.sum_univ_eight]

end Cert.Step

end
-- ==== Proof.AdamO.lean ====
/-
  The optimiser's step on a weight: the kernel takes the rows in two tiles and adds the eight parts of the gradient up one
  after the other; the four arrays it leaves are the reference's, for any arguments.
-/
module

public import proofs.«01_k».proof.Defs
public import proofs.«01_k».proof.Proof.Gen.AdamOIdeal.Value
public import proofs.«01_k».proof.Proof.Gen.AdamORefIdeal.Run
public import proofs.«01_k».proof.Proof.Gen.AdamORefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.OutStep

open Cert.AdamOIdeal Cert.AdamOIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x128x1024 .f32 := m ((c.tc : Thread nD τ).loc main_arg0)
abbrev a1 : FVec Ideal S128x1024 .f32 := m ((c.tc : Thread nD τ).loc main_arg1)
abbrev a2 : FVec Ideal S128x1024 .f32 := m ((c.tc : Thread nD τ).loc main_arg2)
abbrev a3 : FVec Ideal S128x1024 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_2 (t : Fin cfg0.N) : t.val < 2 := lt_of_lt_of_eq t.isLt (show cfg0.N = 2 from N_0)

/-- Row `r` of a grid point's tile. -/
def row (t : Fin cfg0.N) (r : Fin 64) : Fin 128 := ⟨t.val * 64 + r.val, by have := lt_2 t; have := r.isLt; omega⟩

theorem iblk0 (t : Fin cfg0.N) (k : Fin 8) (r : Fin 64) (d : Fin 1024) : iblk m c 0 t (ix3 k r d) = a0 m c (ix3 k (row t r) d) := by
  blk_ext [iblk, idx t, row]

theorem iblk1 (t : Fin cfg0.N) (r : Fin 64) (d : Fin 1024) : iblk m c 1 t (ix2 r d) = a1 m c (ix2 (row t r) d) := by
  blk_ext [iblk, idx t, row]

theorem iblk2 (t : Fin cfg0.N) (r : Fin 64) (d : Fin 1024) : iblk m c 2 t (ix2 r d) = a2 m c (ix2 (row t r) d) := by
  blk_ext [iblk, idx t, row]

theorem iblk3 (t : Fin cfg0.N) (r : Fin 64) (d : Fin 1024) : iblk m c 3 t (ix2 r d) = a3 m c (ix2 (row t r) d) := by
  blk_ext [iblk, idx t, row]

/-- The gradient: the sum of its parts. -/
def grad (x0 : FVec Ideal S8x64x1024 .f32) (y : S64x1024.Idx) : EReal := ∑ k : Fin 8, x0 (ix3 k (y 0) (y 1))

theorem out4_apply (x0 : FVec Ideal S8x64x1024 .f32) (x1 x2 x3 : FVec Ideal S64x1024 .f32) (y : S64x1024.Idx) :
    out0_4 (F := Ideal) x0 x1 x2 x3 y = grad x0 y := by
  rw [grad, ← Step.sum_parts]
  frame_out
  open_payloads
  pointwise [ix3]

theorem out5_apply (x0 : FVec Ideal S8x64x1024 .f32) (x1 x2 x3 : FVec Ideal S64x1024 .f32) (y : S64x1024.Idx) :
    out0_5 (F := Ideal) x0 x1 x2 x3 y = Step.delta (grad x0 y) (x1 y) (x2 y) (x3 y) := by
  rw [grad, ← Step.sum_parts]
  frame_out
  open_payloads
  pointwise [ix3, Step.delta, Step.mom, Step.sec]

theorem out6_apply (x0 : FVec Ideal S8x64x1024 .f32) (x1 x2 x3 : FVec Ideal S64x1024 .f32) (y : S64x1024.Idx) :
    out0_6 (F := Ideal) x0 x1 x2 x3 y = Step.mom (grad x0 y) (x2 y) := by
  rw [grad, ← Step.sum_parts]
  frame_out
  open_payloads
  pointwise [ix3, Step.mom]

theorem out7_apply (x0 : FVec Ideal S8x64x1024 .f32) (x1 x2 x3 : FVec Ideal S64x1024 .f32) (y : S64x1024.Idx) :
    out0_7 (F := Ideal) x0 x1 x2 x3 y = Step.sec (grad x0 y) (x3 y) := by
  rw [grad, ← Step.sum_parts]
  frame_out
  open_payloads
  pointwise [ix3, Step.sec]

/-- The arrays the kernel leaves. -/
def G4 (x0 : FVec Ideal S8x128x1024 .f32) : S128x1024.Idx → EReal := fun i => ∑ k : Fin 8, x0 (ix3 k (i 0) (i 1))
def G5 (x0 : FVec Ideal S8x128x1024 .f32) (x1 x2 x3 : FVec Ideal S128x1024 .f32) : S128x1024.Idx → EReal :=
  fun i => Step.delta (G4 x0 i) (x1 i) (x2 i) (x3 i)
def G6 (x0 : FVec Ideal S8x128x1024 .f32) (x2 : FVec Ideal S128x1024 .f32) : S128x1024.Idx → EReal := fun i => Step.mom (G4 x0 i) (x2 i)
def G7 (x0 : FVec Ideal S8x128x1024 .f32) (x3 : FVec Ideal S128x1024 .f32) : S128x1024.Idx → EReal := fun i => Step.sec (G4 x0 i) (x3 i)

theorem grad_eq (t : Fin cfg0.N) (y : S64x1024.Idx) : grad (iblk m c 0 t) y = G4 (a0 m c) (ix2 (row t (y 0)) (y 1)) :=
  Finset.sum_congr rfl fun k _ => iblk0 m c t k (y 0) (y 1)

theorem blk1 (t : Fin cfg0.N) (y : S64x1024.Idx) : iblk m c 1 t y = a1 m c (ix2 (row t (y 0)) (y 1)) :=
  (congrArg (iblk m c 1 t) (eq_ix2 y)).trans (iblk1 m c t (y 0) (y 1))

theorem blk2 (t : Fin cfg0.N) (y : S64x1024.Idx) : iblk m c 2 t y = a2 m c (ix2 (row t (y 0)) (y 1)) :=
  (congrArg (iblk m c 2 t) (eq_ix2 y)).trans (iblk2 m c t (y 0) (y 1))

theorem blk3 (t : Fin cfg0.N) (y : S64x1024.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamORefIdeal.Read in
theorem ref4 (x0 : FVec Ideal S8x128x1024 .f32) (s : Fin 128) (a : Fin 1024) :
    val_main_v0 (F := Ideal) x0 (ix2 s a) = G4 x0 (ix2 s a) := by
  unfold val_main_v0 val_main_cst
  pointwise [G4]

open Cert.AdamORefIdeal.Read in
theorem ref6 (x0 : FVec Ideal S8x128x1024 .f32) (x2 : FVec Ideal S128x1024 .f32) (s : Fin 128) (a : Fin 1024) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamORefIdeal.Read in
theorem ref7 (x0 : FVec Ideal S8x128x1024 .f32) (x3 : FVec Ideal S128x1024 .f32) (s : Fin 128) (a : Fin 1024) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamORefIdeal.Read in
theorem ref5 (x0 : FVec Ideal S8x128x1024 .f32) (x1 x2 x3 : FVec Ideal S128x1024 .f32) (s : Fin 128) (a : Fin 1024) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamORefIdeal := by
  intro m ρ _
  exact (θ_run Cert.AdamORefIdeal.defs _ _).mono (fun r h => ⟨fun c => (h c).2.2.2.2, sem_eq_zero_of_no_sems (by decide) r.2⟩)
    (Cert.AdamORefIdeal.Value.run m ρ)

theorem algebraic : Cert.algebraic_AdamOIdeal_AdamORefIdeal := by
  intro m g m' g' _ hagree
  refine ⟨_, _, _, _, Cert.AdamOIdeal.Value.run_blocks m g, ?_⟩
  refine (θ_run Cert.AdamORefIdeal.defs _ _).mono (fun r h c => ?_) (Cert.AdamORefIdeal.Value.run m' g')
  obtain ⟨h4, h5, h6, h7, hk⟩ := h c
  obtain ⟨g0, g1, g2, g3⟩ := hagree c
  refine ⟨h4.trans ((Cert.AdamORefIdeal.Read.val_main_v0_eq _).trans ?_), h5.trans ((Cert.AdamORefIdeal.Read.val_main_v24_eq _ _ _ _).trans ?_),
    h6.trans ((Cert.AdamORefIdeal.Read.val_main_v5_eq _ _).trans ?_), h7.trans ((Cert.AdamORefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.OutStep

end
-- ==== Proof.AdamIn.lean ====
/-
  The optimiser's step on a weight: the kernel takes the rows in two tiles and adds the eight parts of the gradient up one
  after the other; the four arrays it leaves are the reference's, for any arguments.
-/
module

public import proofs.«01_k».proof.Defs
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LatStep

open Cert.AdamInIdeal Cert.AdamInIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x128x416 .f32 := m ((c.tc : Thread nD τ).loc main_arg0)
abbrev a1 : FVec Ideal S128x416 .f32 := m ((c.tc : Thread nD τ).loc main_arg1)
abbrev a2 : FVec Ideal S128x416 .f32 := m ((c.tc : Thread nD τ).loc main_arg2)
abbrev a3 : FVec Ideal S128x416 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_2 (t : Fin cfg0.N) : t.val < 2 := lt_of_lt_of_eq t.isLt (show cfg0.N = 2 from N_0)

/-- Row `r` of a grid point's tile. -/
def row (t : Fin cfg0.N) (r : Fin 64) : Fin 128 := ⟨t.val * 64 + r.val, by have := lt_2 t; have := r.isLt; omega⟩

theorem iblk0 (t : Fin cfg0.N) (k : Fin 8) (r : Fin 64) (d : Fin 416) : iblk m c 0 t (ix3 k r d) = a0 m c (ix3 k (row t r) d) := by
  blk_ext [iblk, idx t, row]

theorem iblk1 (t : Fin cfg0.N) (r : Fin 64) (d : Fin 416) : iblk m c 1 t (ix2 r d) = a1 m c (ix2 (row t r) d) := by
  blk_ext [iblk, idx t, row]

theorem iblk2 (t : Fin cfg0.N) (r : Fin 64) (d : Fin 416) : iblk m c 2 t (ix2 r d) = a2 m c (ix2 (row t r) d) := by
  blk_ext [iblk, idx t, row]

theorem iblk3 (t : Fin cfg0.N) (r : Fin 64) (d : Fin 416) : iblk m c 3 t (ix2 r d) = a3 m c (ix2 (row t r) d) := by
  blk_ext [iblk, idx t, row]

/-- The gradient: the sum of its parts. -/
def grad (x0 : FVec Ideal S8x64x416 .f32) (y : S64x416.Idx) : EReal := ∑ k : Fin 8, x0 (ix3 k (y 0) (y 1))

theorem out4_apply (x0 : FVec Ideal S8x64x416 .f32) (x1 x2 x3 : FVec Ideal S64x416 .f32) (y : S64x416.Idx) :
    out0_4 (F := Ideal) x0 x1 x2 x3 y = grad x0 y := by
  rw [grad, ← Step.sum_parts]
  frame_out
  open_payloads
  pointwise [ix3]

theorem out5_apply (x0 : FVec Ideal S8x64x416 .f32) (x1 x2 x3 : FVec Ideal S64x416 .f32) (y : S64x416.Idx) :
    out0_5 (F := Ideal) x0 x1 x2 x3 y = Step.delta (grad x0 y) (x1 y) (x2 y) (x3 y) := by
  rw [grad, ← Step.sum_parts]
  frame_out
  open_payloads
  pointwise [ix3, Step.delta, Step.mom, Step.sec]

theorem out6_apply (x0 : FVec Ideal S8x64x416 .f32) (x1 x2 x3 : FVec Ideal S64x416 .f32) (y : S64x416.Idx) :
    out0_6 (F := Ideal) x0 x1 x2 x3 y = Step.mom (grad x0 y) (x2 y) := by
  rw [grad, ← Step.sum_parts]
  frame_out
  open_payloads
  pointwise [ix3, Step.mom]

theorem out7_apply (x0 : FVec Ideal S8x64x416 .f32) (x1 x2 x3 : FVec Ideal S64x416 .f32) (y : S64x416.Idx) :
    out0_7 (F := Ideal) x0 x1 x2 x3 y = Step.sec (grad x0 y) (x3 y) := by
  rw [grad, ← Step.sum_parts]
  frame_out
  open_payloads
  pointwise [ix3, Step.sec]

/-- The arrays the kernel leaves. -/
def G4 (x0 : FVec Ideal S8x128x416 .f32) : S128x416.Idx → EReal := fun i => ∑ k : Fin 8, x0 (ix3 k (i 0) (i 1))
def G5 (x0 : FVec Ideal S8x128x416 .f32) (x1 x2 x3 : FVec Ideal S128x416 .f32) : S128x416.Idx → EReal :=
  fun i => Step.delta (G4 x0 i) (x1 i) (x2 i) (x3 i)
def G6 (x0 : FVec Ideal S8x128x416 .f32) (x2 : FVec Ideal S128x416 .f32) : S128x416.Idx → EReal := fun i => Step.mom (G4 x0 i) (x2 i)
def G7 (x0 : FVec Ideal S8x128x416 .f32) (x3 : FVec Ideal S128x416 .f32) : S128x416.Idx → EReal := fun i => Step.sec (G4 x0 i) (x3 i)

theorem grad_eq (t : Fin cfg0.N) (y : S64x416.Idx) : grad (iblk m c 0 t) y = G4 (a0 m c) (ix2 (row t (y 0)) (y 1)) :=
  Finset.sum_congr rfl fun k _ => iblk0 m c t k (y 0) (y 1)

theorem blk1 (t : Fin cfg0.N) (y : S64x416.Idx) : iblk m c 1 t y = a1 m c (ix2 (row t (y 0)) (y 1)) :=
  (congrArg (iblk m c 1 t) (eq_ix2 y)).trans (iblk1 m c t (y 0) (y 1))

theorem blk2 (t : Fin cfg0.N) (y : S64x416.Idx) : iblk m c 2 t y = a2 m c (ix2 (row t (y 0)) (y 1)) :=
  (congrArg (iblk m c 2 t) (eq_ix2 y)).trans (iblk2 m c t (y 0) (y 1))

theorem blk3 (t : Fin cfg0.N) (y : S64x416.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamInRefIdeal.Read in
theorem ref4 (x0 : FVec Ideal S8x128x416 .f32) (s : Fin 128) (a : Fin 416) :
    val_main_v0 (F := Ideal) x0 (ix2 s a) = G4 x0 (ix2 s a) := by
  unfold val_main_v0 val_main_cst
  pointwise [G4]

open Cert.AdamInRefIdeal.Read in
theorem ref6 (x0 : FVec Ideal S8x128x416 .f32) (x2 : FVec Ideal S128x416 .f32) (s : Fin 128) (a : Fin 416) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamInRefIdeal.Read in
theorem ref7 (x0 : FVec Ideal S8x128x416 .f32) (x3 : FVec Ideal S128x416 .f32) (s : Fin 128) (a : Fin 416) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamInRefIdeal.Read in
theorem ref5 (x0 : FVec Ideal S8x128x416 .f32) (x1 x2 x3 : FVec Ideal S128x416 .f32) (s : Fin 128) (a : Fin 416) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamInRefIdeal := by
  intro m ρ _
  exact (θ_run Cert.AdamInRefIdeal.defs _ _).mono (fun r h => ⟨fun c => (h c).2.2.2.2, sem_eq_zero_of_no_sems (by decide) r.2⟩)
    (Cert.AdamInRefIdeal.Value.run m ρ)

theorem algebraic : Cert.algebraic_AdamInIdeal_AdamInRefIdeal := by
  intro m g m' g' _ hagree
  refine ⟨_, _, _, _, Cert.AdamInIdeal.Value.run_blocks m g, ?_⟩
  refine (θ_run Cert.AdamInRefIdeal.defs _ _).mono (fun r h c => ?_) (Cert.AdamInRefIdeal.Value.run m' g')
  obtain ⟨h4, h5, h6, h7, hk⟩ := h c
  obtain ⟨g0, g1, g2, g3⟩ := hagree c
  refine ⟨h4.trans ((Cert.AdamInRefIdeal.Read.val_main_v0_eq _).trans ?_), h5.trans ((Cert.AdamInRefIdeal.Read.val_main_v24_eq _ _ _ _).trans ?_),
    h6.trans ((Cert.AdamInRefIdeal.Read.val_main_v5_eq _ _).trans ?_), h7.trans ((Cert.AdamInRefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.LatStep

end
-- ==== Proof.AdamQ.lean ====
/-
  The optimiser's step on a weight: the kernel takes the rows in two tiles and adds the eight parts of the gradient up one
  after the other; the four arrays it leaves are the reference's, for any arguments.
-/
module

public import proofs.«01_k».proof.Defs
public import proofs.«01_k».proof.Proof.Gen.AdamQIdeal.Value
public import proofs.«01_k».proof.Proof.Gen.AdamQRefIdeal.Run
public import proofs.«01_k».proof.Proof.Gen.AdamQRefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.QueryStep

open Cert.AdamQIdeal Cert.AdamQIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x32x1536 .f32 := m ((c.tc : Thread nD τ).loc main_arg0)
abbrev a1 : FVec Ideal S32x1536 .f32 := m ((c.tc : Thread nD τ).loc main_arg1)
abbrev a2 : FVec Ideal S32x1536 .f32 := m ((c.tc : Thread nD τ).loc main_arg2)
abbrev a3 : FVec Ideal S32x1536 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_2 (t : Fin cfg0.N) : t.val < 2 := lt_of_lt_of_eq t.isLt (show cfg0.N = 2 from N_0)

/-- Row `r` of a grid point's tile. -/
def row (t : Fin cfg0.N) (r : Fin 16) : Fin 32 := ⟨t.val * 16 + r.val, by have := lt_2 t; have := r.isLt; omega⟩

theorem iblk0 (t : Fin cfg0.N) (k : Fin 8) (r : Fin 16) (d : Fin 1536) : iblk m c 0 t (ix3 k r d) = a0 m c (ix3 k (row t r) d) := by
  blk_ext [iblk, idx t, row]

theorem iblk1 (t : Fin cfg0.N) (r : Fin 16) (d : Fin 1536) : iblk m c 1 t (ix2 r d) = a1 m c (ix2 (row t r) d) := by
  blk_ext [iblk, idx t, row]

theorem iblk2 (t : Fin cfg0.N) (r : Fin 16) (d : Fin 1536) : iblk m c 2 t (ix2 r d) = a2 m c (ix2 (row t r) d) := by
  blk_ext [iblk, idx t, row]

theorem iblk3 (t : Fin cfg0.N) (r : Fin 16) (d : Fin 1536) : iblk m c 3 t (ix2 r d) = a3 m c (ix2 (row t r) d) := by
  blk_ext [iblk, idx t, row]

/-- The gradient: the sum of its parts. -/
def grad (x0 : FVec Ideal S8x16x1536 .f32) (y : S16x1536.Idx) : EReal := ∑ k : Fin 8, x0 (ix3 k (y 0) (y 1))

theorem out4_apply (x0 : FVec Ideal S8x16x1536 .f32) (x1 x2 x3 : FVec Ideal S16x1536 .f32) (y : S16x1536.Idx) :
    out0_4 (F := Ideal) x0 x1 x2 x3 y = grad x0 y := by
  rw [grad, ← Step.sum_parts]
  frame_out
  open_payloads
  pointwise [ix3]

theorem out5_apply (x0 : FVec Ideal S8x16x1536 .f32) (x1 x2 x3 : FVec Ideal S16x1536 .f32) (y : S16x1536.Idx) :
    out0_5 (F := Ideal) x0 x1 x2 x3 y = Step.delta (grad x0 y) (x1 y) (x2 y) (x3 y) := by
  rw [grad, ← Step.sum_parts]
  frame_out
  open_payloads
  pointwise [ix3, Step.delta, Step.mom, Step.sec]

theorem out6_apply (x0 : FVec Ideal S8x16x1536 .f32) (x1 x2 x3 : FVec Ideal S16x1536 .f32) (y : S16x1536.Idx) :
    out0_6 (F := Ideal) x0 x1 x2 x3 y = Step.mom (grad x0 y) (x2 y) := by
  rw [grad, ← Step.sum_parts]
  frame_out
  open_payloads
  pointwise [ix3, Step.mom]

theorem out7_apply (x0 : FVec Ideal S8x16x1536 .f32) (x1 x2 x3 : FVec Ideal S16x1536 .f32) (y : S16x1536.Idx) :
    out0_7 (F := Ideal) x0 x1 x2 x3 y = Step.sec (grad x0 y) (x3 y) := by
  rw [grad, ← Step.sum_parts]
  frame_out
  open_payloads
  pointwise [ix3, Step.sec]

/-- The arrays the kernel leaves. -/
def G4 (x0 : FVec Ideal S8x32x1536 .f32) : S32x1536.Idx → EReal := fun i => ∑ k : Fin 8, x0 (ix3 k (i 0) (i 1))
def G5 (x0 : FVec Ideal S8x32x1536 .f32) (x1 x2 x3 : FVec Ideal S32x1536 .f32) : S32x1536.Idx → EReal :=
  fun i => Step.delta (G4 x0 i) (x1 i) (x2 i) (x3 i)
def G6 (x0 : FVec Ideal S8x32x1536 .f32) (x2 : FVec Ideal S32x1536 .f32) : S32x1536.Idx → EReal := fun i => Step.mom (G4 x0 i) (x2 i)
def G7 (x0 : FVec Ideal S8x32x1536 .f32) (x3 : FVec Ideal S32x1536 .f32) : S32x1536.Idx → EReal := fun i => Step.sec (G4 x0 i) (x3 i)

theorem grad_eq (t : Fin cfg0.N) (y : S16x1536.Idx) : grad (iblk m c 0 t) y = G4 (a0 m c) (ix2 (row t (y 0)) (y 1)) :=
  Finset.sum_congr rfl fun k _ => iblk0 m c t k (y 0) (y 1)

theorem blk1 (t : Fin cfg0.N) (y : S16x1536.Idx) : iblk m c 1 t y = a1 m c (ix2 (row t (y 0)) (y 1)) :=
  (congrArg (iblk m c 1 t) (eq_ix2 y)).trans (iblk1 m c t (y 0) (y 1))

theorem blk2 (t : Fin cfg0.N) (y : S16x1536.Idx) : iblk m c 2 t y = a2 m c (ix2 (row t (y 0)) (y 1)) :=
  (congrArg (iblk m c 2 t) (eq_ix2 y)).trans (iblk2 m c t (y 0) (y 1))

theorem blk3 (t : Fin cfg0.N) (y : S16x1536.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamQRefIdeal.Read in
theorem ref4 (x0 : FVec Ideal S8x32x1536 .f32) (s : Fin 32) (a : Fin 1536) :
    val_main_v0 (F := Ideal) x0 (ix2 s a) = G4 x0 (ix2 s a) := by
  unfold val_main_v0 val_main_cst
  pointwise [G4]

open Cert.AdamQRefIdeal.Read in
theorem ref6 (x0 : FVec Ideal S8x32x1536 .f32) (x2 : FVec Ideal S32x1536 .f32) (s : Fin 32) (a : Fin 1536) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamQRefIdeal.Read in
theorem ref7 (x0 : FVec Ideal S8x32x1536 .f32) (x3 : FVec Ideal S32x1536 .f32) (s : Fin 32) (a : Fin 1536) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamQRefIdeal.Read in
theorem ref5 (x0 : FVec Ideal S8x32x1536 .f32) (x1 x2 x3 : FVec Ideal S32x1536 .f32) (s : Fin 32) (a : Fin 1536) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamQRefIdeal := by
  intro m ρ _
  exact (θ_run Cert.AdamQRefIdeal.defs _ _).mono (fun r h => ⟨fun c => (h c).2.2.2.2, sem_eq_zero_of_no_sems (by decide) r.2⟩)
    (Cert.AdamQRefIdeal.Value.run m ρ)

theorem algebraic : Cert.algebraic_AdamQIdeal_AdamQRefIdeal := by
  intro m g m' g' _ hagree
  refine ⟨_, _, _, _, Cert.AdamQIdeal.Value.run_blocks m g, ?_⟩
  refine (θ_run Cert.AdamQRefIdeal.defs _ _).mono (fun r h c => ?_) (Cert.AdamQRefIdeal.Value.run m' g')
  obtain ⟨h4, h5, h6, h7, hk⟩ := h c
  obtain ⟨g0, g1, g2, g3⟩ := hagree c
  refine ⟨h4.trans ((Cert.AdamQRefIdeal.Read.val_main_v0_eq _).trans ?_), h5.trans ((Cert.AdamQRefIdeal.Read.val_main_v24_eq _ _ _ _).trans ?_),
    h6.trans ((Cert.AdamQRefIdeal.Read.val_main_v5_eq _ _).trans ?_), h7.trans ((Cert.AdamQRefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.QueryStep

end
-- ==== Proof.AdamPool.lean ====
/-
  The optimiser's step on a weight: the kernel takes the rows in two tiles and adds the eight parts of the gradient up one
  after the other; the four arrays it leaves are the reference's, for any arguments.
-/
module

public import proofs.«01_k».proof.Defs
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.PoolStep

open Cert.AdamPoolIdeal Cert.AdamPoolIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x128x256 .f32 := m ((c.tc : Thread nD τ).loc main_arg0)
abbrev a1 : FVec Ideal S128x256 .f32 := m ((c.tc : Thread nD τ).loc main_arg1)
abbrev a2 : FVec Ideal S128x256 .f32 := m ((c.tc : Thread nD τ).loc main_arg2)
abbrev a3 : FVec Ideal S128x256 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_2 (t : Fin cfg0.N) : t.val < 2 := lt_of_lt_of_eq t.isLt (show cfg0.N = 2 from N_0)

/-- Row `r` of a grid point's tile. -/
def row (t : Fin cfg0.N) (r : Fin 64) : Fin 128 := ⟨t.val * 64 + r.val, by have := lt_2 t; have := r.isLt; omega⟩

theorem iblk0 (t : Fin cfg0.N) (k : Fin 8) (r : Fin 64) (d : Fin 256) : iblk m c 0 t (ix3 k r d) = a0 m c (ix3 k (row t r) d) := by
  blk_ext [iblk, idx t, row]

theorem iblk1 (t : Fin cfg0.N) (r : Fin 64) (d : Fin 256) : iblk m c 1 t (ix2 r d) = a1 m c (ix2 (row t r) d) := by
  blk_ext [iblk, idx t, row]

theorem iblk2 (t : Fin cfg0.N) (r : Fin 64) (d : Fin 256) : iblk m c 2 t (ix2 r d) = a2 m c (ix2 (row t r) d) := by
  blk_ext [iblk, idx t, row]

theorem iblk3 (t : Fin cfg0.N) (r : Fin 64) (d : Fin 256) : iblk m c 3 t (ix2 r d) = a3 m c (ix2 (row t r) d) := by
  blk_ext [iblk, idx t, row]

/-- The gradient: the sum of its parts. -/
def grad (x0 : FVec Ideal S8x64x256 .f32) (y : S64x256.Idx) : EReal := ∑ k : Fin 8, x0 (ix3 k (y 0) (y 1))

theorem out4_apply (x0 : FVec Ideal S8x64x256 .f32) (x1 x2 x3 : FVec Ideal S64x256 .f32) (y : S64x256.Idx) :
    out0_4 (F := Ideal) x0 x1 x2 x3 y = grad x0 y := by
  rw [grad, ← Step.sum_parts]
  frame_out
  open_payloads
  pointwise [ix3]

theorem out5_apply (x0 : FVec Ideal S8x64x256 .f32) (x1 x2 x3 : FVec Ideal S64x256 .f32) (y : S64x256.Idx) :
    out0_5 (F := Ideal) x0 x1 x2 x3 y = Step.delta (grad x0 y) (x1 y) (x2 y) (x3 y) := by
  rw [grad, ← Step.sum_parts]
  frame_out
  open_payloads
  pointwise [ix3, Step.delta, Step.mom, Step.sec]

theorem out6_apply (x0 : FVec Ideal S8x64x256 .f32) (x1 x2 x3 : FVec Ideal S64x256 .f32) (y : S64x256.Idx) :
    out0_6 (F := Ideal) x0 x1 x2 x3 y = Step.mom (grad x0 y) (x2 y) := by
  rw [grad, ← Step.sum_parts]
  frame_out
  open_payloads
  pointwise [ix3, Step.mom]

theorem out7_apply (x0 : FVec Ideal S8x64x256 .f32) (x1 x2 x3 : FVec Ideal S64x256 .f32) (y : S64x256.Idx) :
    out0_7 (F := Ideal) x0 x1 x2 x3 y = Step.sec (grad x0 y) (x3 y) := by
  rw [grad, ← Step.sum_parts]
  frame_out
  open_payloads
  pointwise [ix3, Step.sec]

/-- The arrays the kernel leaves. -/
def G4 (x0 : FVec Ideal S8x128x256 .f32) : S128x256.Idx → EReal := fun i => ∑ k : Fin 8, x0 (ix3 k (i 0) (i 1))
def G5 (x0 : FVec Ideal S8x128x256 .f32) (x1 x2 x3 : FVec Ideal S128x256 .f32) : S128x256.Idx → EReal :=
  fun i => Step.delta (G4 x0 i) (x1 i) (x2 i) (x3 i)
def G6 (x0 : FVec Ideal S8x128x256 .f32) (x2 : FVec Ideal S128x256 .f32) : S128x256.Idx → EReal := fun i => Step.mom (G4 x0 i) (x2 i)
def G7 (x0 : FVec Ideal S8x128x256 .f32) (x3 : FVec Ideal S128x256 .f32) : S128x256.Idx → EReal := fun i => Step.sec (G4 x0 i) (x3 i)

theorem grad_eq (t : Fin cfg0.N) (y : S64x256.Idx) : grad (iblk m c 0 t) y = G4 (a0 m c) (ix2 (row t (y 0)) (y 1)) :=
  Finset.sum_congr rfl fun k _ => iblk0 m c t k (y 0) (y 1)

theorem blk1 (t : Fin cfg0.N) (y : S64x256.Idx) : iblk m c 1 t y = a1 m c (ix2 (row t (y 0)) (y 1)) :=
  (congrArg (iblk m c 1 t) (eq_ix2 y)).trans (iblk1 m c t (y 0) (y 1))

theorem blk2 (t : Fin cfg0.N) (y : S64x256.Idx) : iblk m c 2 t y = a2 m c (ix2 (row t (y 0)) (y 1)) :=
  (congrArg (iblk m c 2 t) (eq_ix2 y)).trans (iblk2 m c t (y 0) (y 1))

theorem blk3 (t : Fin cfg0.N) (y : S64x256.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamPoolRefIdeal.Read in
theorem ref4 (x0 : FVec Ideal S8x128x256 .f32) (s : Fin 128) (a : Fin 256) :
    val_main_v0 (F := Ideal) x0 (ix2 s a) = G4 x0 (ix2 s a) := by
  unfold val_main_v0 val_main_cst
  pointwise [G4]

open Cert.AdamPoolRefIdeal.Read in
theorem ref6 (x0 : FVec Ideal S8x128x256 .f32) (x2 : FVec Ideal S128x256 .f32) (s : Fin 128) (a : Fin 256) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamPoolRefIdeal.Read in
theorem ref7 (x0 : FVec Ideal S8x128x256 .f32) (x3 : FVec Ideal S128x256 .f32) (s : Fin 128) (a : Fin 256) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamPoolRefIdeal.Read in
theorem ref5 (x0 : FVec Ideal S8x128x256 .f32) (x1 x2 x3 : FVec Ideal S128x256 .f32) (s : Fin 128) (a : Fin 256) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamPoolRefIdeal := by
  intro m ρ _
  exact (θ_run Cert.AdamPoolRefIdeal.defs _ _).mono (fun r h => ⟨fun c => (h c).2.2.2.2, sem_eq_zero_of_no_sems (by decide) r.2⟩)
    (Cert.AdamPoolRefIdeal.Value.run m ρ)

theorem algebraic : Cert.algebraic_AdamPoolIdeal_AdamPoolRefIdeal := by
  intro m g m' g' _ hagree
  refine ⟨_, _, _, _, Cert.AdamPoolIdeal.Value.run_blocks m g, ?_⟩
  refine (θ_run Cert.AdamPoolRefIdeal.defs _ _).mono (fun r h c => ?_) (Cert.AdamPoolRefIdeal.Value.run m' g')
  obtain ⟨h4, h5, h6, h7, hk⟩ := h c
  obtain ⟨g0, g1, g2, g3⟩ := hagree c
  refine ⟨h4.trans ((Cert.AdamPoolRefIdeal.Read.val_main_v0_eq _).trans ?_), h5.trans ((Cert.AdamPoolRefIdeal.Read.val_main_v24_eq _ _ _ _).trans ?_),
    h6.trans ((Cert.AdamPoolRefIdeal.Read.val_main_v5_eq _ _).trans ?_), h7.trans ((Cert.AdamPoolRefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.PoolStep

end
-- ==== Proof.NormLoss.lean ====
/-
  The end of the forward pass and the beginning of the backward one: the last sub-layer's output, normed, gated and added to the
  stream by half, the target taken off, and the gradients of half the sum of the mean squares. The kernel takes the rows in eight
  tiles of 512; the squares and the gradients by gate and gain are sums over all rows, accumulated in the result blocks.
-/
module

public import proofs.«01_k».proof.Defs
public import proofs.«01_k».proof.Proof.Gen.NormLossIdeal.Value
public import proofs.«01_k».proof.Proof.Gen.NormLossRefIdeal.Run
public import proofs.«01_k».proof.Proof.Gen.NormLossRefIdeal.Read
public import proofs.«01_k».proof.Proof.NormBack
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LossNorm

open Cert.NormLossIdeal Cert.NormLossIdeal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S4096x1024 .f32 := m ((c.tc : Thread nD τ).loc main_arg2)
abbrev a3 : FVec Ideal S12x1024 .f32 := m ((c.tc : Thread nD τ).loc main_arg3)
abbrev a4 : FVec Ideal S18x1024 .f32 := m ((c.tc : Thread nD τ).loc main_arg4)

theorem V_main_v0 : (V m c main_v0 : FVec Ideal S12x1x1024 .f32) = broadcastInDim S12x1x1024 ![0, 2] bcast_S12x1024_S12x1x1024_0_2 (a3 m c) := by
  unfold_abbrev_sides
  after_reads_simp

theorem V_main_v1 : (V m c main_v1 : FVec Ideal S18x1x1024 .f32) = broadcastInDim S18x1x1024 ![0, 2] bcast_S18x1024_S18x1x1024_0_2 (a4 m c) := by
  unfold_abbrev_sides
  after_reads_simp

theorem V_main_v2 : (V m c main_v2 : FVec Ideal S4096x1024 .bf16) = truncf .bf16 (a1 m c) bitsLt_bf16_f32 := by
  unfold_abbrev_sides
  after_reads_simp

theorem idx : ∀ t : Fin cfg0.N, win0_0.index t = ![t.val, 0] ∧ win0_1.index t = ![t.val, 0] ∧ win0_2.index t = ![t.val, 0] ∧ win0_3.index t = ![11, 0, 0]
    ∧ win0_4.index t = ![17, 0, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_v2 m c) (ix2 (row t r) d))
  blk_ext [iblk, idx t, row]

theorem iblk2 (t : Fin cfg0.N) (r : Fin 512) (d : Fin 1024) : iblk m c 2 t (ix2 r d) = a2 m c (ix2 (row t r) d) := by
  refine Eq.trans ?_ (congrFun (V_main_arg2 m c) (ix2 (row t r) d))
  blk_ext [iblk, idx t, row]

theorem iblk3 (t : Fin cfg0.N) (d : Fin 1024) : iblk m c 3 t (ix3 0 0 d) = a3 m c (ix2 11 d) := by
  refine Eq.trans (b := V m c main_v0 (ix3 11 0 d)) (by blk_ext [iblk, idx t]) ?_
  rw [V_main_v0]
  pointwise []

theorem iblk4 (t : Fin cfg0.N) (d : Fin 1024) : iblk m c 4 t (ix3 0 0 d) = a4 m c (ix2 17 d) := by
  refine Eq.trans (b := V m c main_v1 (ix3 17 0 d)) (by blk_ext [iblk, idx t]) ?_
  rw [V_main_v1]
  pointwise []

/-! ## One row -/

/-- The gradient by the stream, from a tile and from the arguments. -/
def tile5 (x0 : FVec Ideal S512x1024 .f32) (x1 : FVec Ideal S512x1024 .bf16) (x2 : FVec Ideal S512x1024 .f32) (x3 x4 : FVec Ideal S1x1x1024 .f32) (r : Fin 512) : Fin 1024 → EReal := Norm.dloss (fun e => x0 (ix2 r e)) (fun e => x1 (ix2 r e)) (fun e => x2 (ix2 r e)) (fun e => x3 (ix3 0 0 e)) (fun e => x4 (ix3 0 0 e))
def all5 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dloss (fun e => g0 (ix2 r e)) (fun e => g1 (ix2 r e)) (fun e => g2 (ix2 r e)) (fun e => g3 (ix2 11 e)) (fun e => g4 (ix2 17 e))

theorem row5 (t : Fin cfg0.N) (r : Fin 512) (d : Fin 1024) : tile5 (iblk m c 0 t) (iblk m c 1 t) (iblk m c 2 t) (iblk m c 3 t) (iblk m c 4 t) r d = all5 (a0 m c) (a1 m c) (a2 m c) (a3 m c) (a4 m c) (row t r) d := by
  unfold tile5 all5
  simp only [iblk0, iblk1, iblk2, iblk3, iblk4]

/-- The gradient by the sub-layer's output, from a tile and from the arguments. -/
def tile6 (x0 : FVec Ideal S512x1024 .f32) (x1 : FVec Ideal S512x1024 .bf16) (x2 : FVec Ideal S512x1024 .f32) (x3 x4 : FVec Ideal S1x1x1024 .f32) (r : Fin 512) : Fin 1024 → EReal := Norm.dpost Norm.half (Norm.dloss (fun e => x0 (ix2 r e)) (fun e => x1 (ix2 r e)) (fun e => x2 (ix2 r e)) (fun e => x3 (ix3 0 0 e)) (fun e => x4 (ix3 0 0 e))) (fun e => x1 (ix2 r e)) (fun e => x3 (ix3 0 0 e)) (fun e => x4 (ix3 0 0 e))
def all6 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dpost Norm.half (Norm.dloss (fun e => g0 (ix2 r e)) (fun e => g1 (ix2 r e)) (fun e => g2 (ix2 r e)) (fun e => g3 (ix2 11 e)) (fun e => g4 (ix2 17 e))) (fun e => g1 (ix2 r e)) (fun e => g3 (ix2 11 e)) (fun e => g4 (ix2 17 e))

theorem row6 (t : Fin cfg0.N) (r : Fin 512) (d : Fin 1024) : tile6 (iblk m c 0 t) (iblk m c 1 t) (iblk m c 2 t) (iblk m c 3 t) (iblk m c 4 t) r d = all6 (a0 m c) (a1 m c) (a2 m c) (a3 m c) (a4 m c) (row t r) d := by
  unfold tile6 all6
  simp only [iblk0, iblk1, iblk2, iblk3, iblk4]

/-- The square of what is off, from a tile and from the arguments. -/
def tile7 (x0 : FVec Ideal S512x1024 .f32) (x1 : FVec Ideal S512x1024 .bf16) (x2 : FVec Ideal S512x1024 .f32) (x3 x4 : FVec Ideal S1x1x1024 .f32) (r : Fin 512) : Fin 1024 → EReal := fun e => Norm.err (fun e => x0 (ix2 r e)) (fun e => x1 (ix2 r e)) (fun e => x2 (ix2 r e)) (fun e => x3 (ix3 0 0 e)) (fun e => x4 (ix3 0 0 e)) e * Norm.err (fun e => x0 (ix2 r e)) (fun e => x1 (ix2 r e)) (fun e => x2 (ix2 r e)) (fun e => x3 (ix3 0 0 e)) (fun e => x4 (ix3 0 0 e)) e
def all7 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := fun e => Norm.err (fun e => g0 (ix2 r e)) (fun e => g1 (ix2 r e)) (fun e => g2 (ix2 r e)) (fun e => g3 (ix2 11 e)) (fun e => g4 (ix2 17 e)) e * Norm.err (fun e => g0 (ix2 r e)) (fun e => g1 (ix2 r e)) (fun e => g2 (ix2 r e)) (fun e => g3 (ix2 11 e)) (fun e => g4 (ix2 17 e)) e

theorem row7 (t : Fin cfg0.N) (r : Fin 512) (d : Fin 1024) : tile7 (iblk m c 0 t) (iblk m c 1 t) (iblk m c 2 t) (iblk m c 3 t) (iblk m c 4 t) r d = all7 (a0 m c) (a1 m c) (a2 m c) (a3 m c) (a4 m c) (row t r) d := by
  unfold tile7 all7
  simp only [iblk0, iblk1, iblk2, iblk3, iblk4]

/-- The gradient by the gate, from a tile and from the arguments. -/
def tile8 (x0 : FVec Ideal S512x1024 .f32) (x1 : FVec Ideal S512x1024 .bf16) (x2 : FVec Ideal S512x1024 .f32) (x3 x4 : FVec Ideal S1x1x1024 .f32) (r : Fin 512) : Fin 1024 → EReal := Norm.dgate Norm.half (Norm.dloss (fun e => x0 (ix2 r e)) (fun e => x1 (ix2 r e)) (fun e => x2 (ix2 r e)) (fun e => x3 (ix3 0 0 e)) (fun e => x4 (ix3 0 0 e))) (fun e => x1 (ix2 r e)) (fun e => x3 (ix3 0 0 e))
def all8 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dgate Norm.half (Norm.dloss (fun e => g0 (ix2 r e)) (fun e => g1 (ix2 r e)) (fun e => g2 (ix2 r e)) (fun e => g3 (ix2 11 e)) (fun e => g4 (ix2 17 e))) (fun e => g1 (ix2 r e)) (fun e => g3 (ix2 11 e))

theorem row8 (t : Fin cfg0.N) (r : Fin 512) (d : Fin 1024) : tile8 (iblk m c 0 t) (iblk m c 1 t) (iblk m c 2 t) (iblk m c 3 t) (iblk m c 4 t) r d = all8 (a0 m c) (a1 m c) (a2 m c) (a3 m c) (a4 m c) (row t r) d := by
  unfold tile8 all8
  simp only [iblk0, iblk1, iblk2, iblk3, iblk4]

/-- The gradient by the norm's gain, from a tile and from the arguments. -/
def tile9 (x0 : FVec Ideal S512x1024 .f32) (x1 : FVec Ideal S512x1024 .bf16) (x2 : FVec Ideal S512x1024 .f32) (x3 x4 : FVec Ideal S1x1x1024 .f32) (r : Fin 512) : Fin 1024 → EReal := Norm.dgain' Norm.half (Norm.dloss (fun e => x0 (ix2 r e)) (fun e => x1 (ix2 r e)) (fun e => x2 (ix2 r e)) (fun e => x3 (ix3 0 0 e)) (fun e => x4 (ix3 0 0 e))) (fun e => x1 (ix2 r e)) (fun e => x4 (ix3 0 0 e))
def all9 (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := Norm.dgain' Norm.half (Norm.dloss (fun e => g0 (ix2 r e)) (fun e => g1 (ix2 r e)) (fun e => g2 (ix2 r e)) (fun e => g3 (ix2 11 e)) (fun e => g4 (ix2 17 e))) (fun e => g1 (ix2 r e)) (fun e => g4 (ix2 17 e))

theorem row9 (t : Fin cfg0.N) (r : Fin 512) (d : Fin 1024) : tile9 (iblk m c 0 t) (iblk m c 1 t) (iblk m c 2 t) (iblk m c 3 t) (iblk m c 4 t) r d = all9 (a0 m c) (a1 m c) (a2 m c) (a3 m c) (a4 m c) (row t r) d := by
  unfold tile9 all9
  simp only [iblk0, iblk1, iblk2, iblk3, iblk4]

/-! ## One grid point -/

set_option maxHeartbeats 1000000 in
theorem outA5 (c : Dev nD) (t : Fin cfg0.N) (x0 : FVec Ideal S512x1024 .f32) (x1 : FVec Ideal S512x1024 .bf16) (x2 : FVec Ideal S512x1024 .f32) (x3 x4 : FVec Ideal S1x1x1024 .f32)  (h0 : t.val % 8 = 0) (y : S512x1024.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) x0 x1 x2 x3 x4  y = tile5 x0 x1 x2 x3 x4 (y 0) (y 1) := by
  frame_out
  open_payloads
  pointwise [tile5, Norm.dloss, Norm.err, Norm.post, Norm.dpost, Norm.dgate, Norm.dgain', Norm.back, Norm.width, Norm.rstd, Norm.square, Norm.one, Norm.half, ix3, ix2]

set_option maxHeartbeats 1000000 in
theorem outB5 (c : Dev nD) (t : Fin cfg0.N) (x0 : FVec Ideal S512x1024 .f32) (x1 : FVec Ideal S512x1024 .bf16) (x2 : FVec Ideal S512x1024 .f32) (x3 x4 : FVec Ideal S1x1x1024 .f32) (xo7 xo8 xo9 : FVec Ideal S1x1024 .f32) (h0 : ¬t.val % 8 = 0) (y : S512x1024.Idx) :
    out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) x0 x1 x2 x3 x4 xo7 xo8 xo9 y = tile5 x0 x1 x2 x3 x4 (y 0) (y 1) := by
  frame_out
  open_payloads
  pointwise [tile5, Norm.dloss, Norm.err, Norm.post, Norm.dpost, Norm.dgate, Norm.dgain', Norm.back, Norm.width, Norm.rstd, Norm.square, Norm.one, Norm.half, ix3, ix2]

set_option maxHeartbeats 1000000 in
theorem outA6 (c : Dev nD) (t : Fin cfg0.N) (x0 : FVec Ideal S512x1024 .f32) (x1 : FVec Ideal S512x1024 .bf16) (x2 : FVec Ideal S512x1024 .f32) (x3 x4 : FVec Ideal S1x1x1024 .f32)  (h0 : t.val % 8 = 0) (y : S512x1024.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) x0 x1 x2 x3 x4  y = tile6 x0 x1 x2 x3 x4 (y 0) (y 1) := by
  frame_out
  open_payloads
  pointwise [tile6, Norm.dloss, Norm.err, Norm.post, Norm.dpost, Norm.dgate, Norm.dgain', Norm.back, Norm.width, Norm.rstd, Norm.square, Norm.one, Norm.half, ix3, ix2]

set_option maxHeartbeats 1000000 in
theorem outB6 (c : Dev nD) (t : Fin cfg0.N) (x0 : FVec Ideal S512x1024 .f32) (x1 : FVec Ideal S512x1024 .bf16) (x2 : FVec Ideal S512x1024 .f32) (x3 x4 : FVec Ideal S1x1x1024 .f32) (xo7 xo8 xo9 : FVec Ideal S1x1024 .f32) (h0 : ¬t.val % 8 = 0) (y : S512x1024.Idx) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) x0 x1 x2 x3 x4 xo7 xo8 xo9 y = tile6 x0 x1 x2 x3 x4 (y 0) (y 1) := by
  frame_out
  open_payloads
  pointwise [tile6, Norm.dloss, Norm.err, Norm.post, Norm.dpost, Norm.dgate, Norm.dgain', Norm.back, Norm.width, Norm.rstd, Norm.square, Norm.one, Norm.half, ix3, ix2]

set_option maxHeartbeats 1000000 in
theorem outA7 (c : Dev nD) (t : Fin cfg0.N) (x0 : FVec Ideal S512x1024 .f32) (x1 : FVec Ideal S512x1024 .bf16) (x2 : FVec Ideal S512x1024 .f32) (x3 x4 : FVec Ideal S1x1x1024 .f32)  (h0 : t.val % 8 = 0) (y : S1x1024.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) x0 x1 x2 x3 x4  y = (∑ r : Fin 512, tile7 x0 x1 x2 x3 x4 r (y 1) : EReal) := by
  frame_out
  open_payloads
  pointwise [tile7, Norm.dloss, Norm.err, Norm.post, Norm.dpost, Norm.dgate, Norm.dgain', Norm.back, Norm.width, Norm.rstd, Norm.square, Norm.one, Norm.half, ix3, ix2]

set_option maxHeartbeats 1000000 in
theorem outB7 (c : Dev nD) (t : Fin cfg0.N) (x0 : FVec Ideal S512x1024 .f32) (x1 : FVec Ideal S512x1024 .bf16) (x2 : FVec Ideal S512x1024 .f32) (x3 x4 : FVec Ideal S1x1x1024 .f32) (xo7 xo8 xo9 : FVec Ideal S1x1024 .f32) (h0 : ¬t.val % 8 = 0) (y : S1x1024.Idx) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) x0 x1 x2 x3 x4 xo7 xo8 xo9 y = (xo7 y + ∑ r : Fin 512, tile7 x0 x1 x2 x3 x4 r (y 1) : EReal) := by
  frame_out
  open_payloads
  pointwise [tile7, Norm.dloss, Norm.err, Norm.post, Norm.dpost, Norm.dgate, Norm.dgain', Norm.back, Norm.width, Norm.rstd, Norm.square, Norm.one, Norm.half, ix3, ix2]

set_option maxHeartbeats 1000000 in
theorem outA8 (c : Dev nD) (t : Fin cfg0.N) (x0 : FVec Ideal S512x1024 .f32) (x1 : FVec Ideal S512x1024 .bf16) (x2 : FVec Ideal S512x1024 .f32) (x3 x4 : FVec Ideal S1x1x1024 .f32)  (h0 : t.val % 8 = 0) (y : S1x1024.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) x0 x1 x2 x3 x4  y = (∑ r : Fin 512, tile8 x0 x1 x2 x3 x4 r (y 1) : EReal) := by
  frame_out
  open_payloads
  pointwise [tile8, Norm.dloss, Norm.err, Norm.post, Norm.dpost, Norm.dgate, Norm.dgain', Norm.back, Norm.width, Norm.rstd, Norm.square, Norm.one, Norm.half, ix3, ix2]

set_option maxHeartbeats 1000000 in
theorem outB8 (c : Dev nD) (t : Fin cfg0.N) (x0 : FVec Ideal S512x1024 .f32) (x1 : FVec Ideal S512x1024 .bf16) (x2 : FVec Ideal S512x1024 .f32) (x3 x4 : FVec Ideal S1x1x1024 .f32) (xo7 xo8 xo9 : FVec Ideal S1x1024 .f32) (h0 : ¬t.val % 8 = 0) (y : S1x1024.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) x0 x1 x2 x3 x4 xo7 xo8 xo9 y = (xo8 y + ∑ r : Fin 512, tile8 x0 x1 x2 x3 x4 r (y 1) : EReal) := by
  frame_out
  open_payloads
  pointwise [tile8, Norm.dloss, Norm.err, Norm.post, Norm.dpost, Norm.dgate, Norm.dgain', Norm.back, Norm.width, Norm.rstd, Norm.square, Norm.one, Norm.half, ix3, ix2]

set_option maxHeartbeats 1000000 in
theorem outA9 (c : Dev nD) (t : Fin cfg0.N) (x0 : FVec Ideal S512x1024 .f32) (x1 : FVec Ideal S512x1024 .bf16) (x2 : FVec Ideal S512x1024 .f32) (x3 x4 : FVec Ideal S1x1x1024 .f32)  (h0 : t.val % 8 = 0) (y : S1x1024.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) x0 x1 x2 x3 x4  y = (∑ r : Fin 512, tile9 x0 x1 x2 x3 x4 r (y 1) : EReal) := by
  frame_out
  open_payloads
  pointwise [tile9, Norm.dloss, Norm.err, Norm.post, Norm.dpost, Norm.dgate, Norm.dgain', Norm.back, Norm.width, Norm.rstd, Norm.square, Norm.one, Norm.half, ix3, ix2]

set_option maxHeartbeats 1000000 in
theorem outB9 (c : Dev nD) (t : Fin cfg0.N) (x0 : FVec Ideal S512x1024 .f32) (x1 : FVec Ideal S512x1024 .bf16) (x2 : FVec Ideal S512x1024 .f32) (x3 x4 : FVec Ideal S1x1x1024 .f32) (xo7 xo8 xo9 : FVec Ideal S1x1024 .f32) (h0 : ¬t.val % 8 = 0) (y : S1x1024.Idx) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) x0 x1 x2 x3 x4 xo7 xo8 xo9 y = (xo9 y + ∑ r : Fin 512, tile9 x0 x1 x2 x3 x4 r (y 1) : EReal) := by
  frame_out
  open_payloads
  pointwise [tile9, Norm.dloss, Norm.err, Norm.post, Norm.dpost, Norm.dgate, Norm.dgain', Norm.back, Norm.width, Norm.rstd, Norm.square, Norm.one, Norm.half, ix3, ix2]

/-- The array: the gradient by the stream. -/
def G5 (g0 : FVec Ideal S4096x1024 .f32) (g1 : FVec Ideal S4096x1024 .f32) (g2 : FVec Ideal S4096x1024 .f32) (g3 : FVec Ideal S12x1024 .f32) (g4 : FVec Ideal S18x1024 .f32) : S4096x1024.Idx → EReal := fun i => all5 g0 g1 g2 g3 g4 (i 0) (i 1)

theorem point5 (t : Fin cfg0.N) (y : S512x1024.Idx) : (outsAt0 m c t.val t.isLt).1 y = tile5 (iblk m c 0 t) (iblk m c 1 t) (iblk m c 2 t) (iblk m c 3 t) (iblk m c 4 t) (y 0) (y 1) := by
  by_cases h0 : t.val % 8 = 0
  · rw [outsAt0_A m c t h0]
    dsimp only
    rw [outA5 (h0 := h0)]
  · rw [outsAt0_B m c t h0]
    dsimp only
    rw [outB5 (h0 := h0)]

theorem arr5 : (dats m 0 c).arrAt 5 cfg0.N = G5 (a0 m c) (a1 m c) (a2 m c) (a3 m c) (a4 m c) := by
  refine (dats m 0 c).arrAt_eq_of_covers 5 _ (by decide +kernel) fun t hf y => ?_
  blk_simp
  rw [after0_5]
  refine (point5 m c t y).trans ((row5 m c t (y 0) (y 1)).trans (congrArg (G5 (a0 m c) (a1 m c) (a2 m c) (a3 m c) (a4 m c)) (a₁ := ix2 (row t (y 0)) (y 1)) ?_))
  blk_ext [idx t, row]

/-- The array: the gradient by the sub-layer's output. -/
def G6 (g0 : FVec Ideal S4096x1024 .f32) (g1 : FVec Ideal S4096x1024 .f32) (g2 : FVec Ideal S4096x1024 .f32) (g3 : FVec Ideal S12x1024 .f32) (g4 : FVec Ideal S18x1024 .f32) : S4096x1024.Idx → EReal := fun i => all6 g0 g1 g2 g3 g4 (i 0) (i 1)

theorem point6 (t : Fin cfg0.N) (y : S512x1024.Idx) : (outsAt0 m c t.val t.isLt).2.1 y = tile6 (iblk m c 0 t) (iblk m c 1 t) (iblk m c 2 t) (iblk m c 3 t) (iblk m c 4 t) (y 0) (y 1) := by
  by_cases h0 : t.val % 8 = 0
  · rw [outsAt0_A m c t h0]
    dsimp only
    rw [outA6 (h0 := h0)]
  · rw [outsAt0_B m c t h0]
    dsimp only
    rw [outB6 (h0 := h0)]

theorem arr6 : (dats m 0 c).arrAt 6 cfg0.N = G6 (a0 m c) (a1 m c) (a2 m c) (a3 m c) (a4 m c) := by
  refine (dats m 0 c).arrAt_eq_of_covers 6 _ (by decide +kernel) fun t hf y => ?_
  blk_simp
  rw [after0_6]
  refine (point6 m c t y).trans ((row6 m c t (y 0) (y 1)).trans (congrArg (G6 (a0 m c) (a1 m c) (a2 m c) (a3 m c) (a4 m c)) (a₁ := ix2 (row t (y 0)) (y 1)) ?_))
  blk_ext [idx t, row]

/-- The sum over all rows: the square of what is off. -/
def G7 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all7 g0 g1 g2 g3 g4 r (i 1)

/-- A grid point's share. -/
def part7 (t : Fin cfg0.N) (i : S1x1024.Idx) : EReal := ∑ r : Fin 512, tile7 (iblk m c 0 t) (iblk m c 1 t) (iblk m c 2 t) (iblk m c 3 t) (iblk m c 4 t) r (i 1)

theorem acc7 (t : Fin cfg0.N) (hr : t.val % 8 = 7) (i : S1x1024.Idx) :
    (outsAt0 m c t.val t.isLt).2.2.1 i = (0 + ∑ s : Fin 8, part7 m c ⟨8 * (t.val / 8) + s.val, Pipeline.run_point_lt_of_flush t hr s⟩ i : EReal) :=
  Pipeline.eq_sum_fin_of_reset_step_apply_of_flush (M := EReal) (fun n h => (outsAt0 m c n h).2.2.1) 8 (fun _ => 0) (part7 m c)
    (fun t h i => by
      show (outsAt0 m c t.val t.isLt).2.2.1 i = (0 + part7 m c t i : EReal)
      rw [outsAt0_A m c t h, zero_add]
      dsimp only
      rw [outA7 (h0 := h)]
      rfl)
    (fun t h i => by
      rw [outsAt0_B m c t h]
      dsimp only
      rw [outB7 (h0 := h)]
      rfl) t hr i

theorem parts7 (t : Fin cfg0.N) (hr : t.val % 8 = 7) (i : S1x1024.Idx) :
    (∑ s : Fin 8, part7 m c ⟨8 * (t.val / 8) + s.val, Pipeline.run_point_lt_of_flush t hr s⟩ i : EReal) = G7 (a0 m c) (a1 m c) (a2 m c) (a3 m c) (a4 m c) i := by
  unfold G7
  rw [Fin.sum_univ_tiles 8 512 rfl]
  refine Finset.sum_congr rfl fun s _ => ?_
  unfold part7
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row7 m c _ r (i 1)).trans (congrArg (fun q => all7 (a0 m c) (a1 m c) (a2 m c) (a3 m c) (a4 m c) q (i 1)) e)

theorem arr7 : (dats m 0 c).arrAt 7 cfg0.N = G7 (a0 m c) (a1 m c) (a2 m c) (a3 m c) (a4 m c) := by
  refine (dats m 0 c).arrAt_eq_of_covers 7 _ (by decide +kernel) fun t hf y => ?_
  have hr := (flush0_7 t).mp hf
  blk_simp
  rw [after0_7]
  refine (acc7 m c t hr y).trans ((zero_add _).trans ((parts7 m c t hr y).trans (congrArg (G7 (a0 m c) (a1 m c) (a2 m c) (a3 m c) (a4 m c)) ?_)))
  blk_ext [idx t]

/-- The sum over all rows: the gradient by the gate. -/
def G8 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all8 g0 g1 g2 g3 g4 r (i 1)

/-- A grid point's share. -/
def part8 (t : Fin cfg0.N) (i : S1x1024.Idx) : EReal := ∑ r : Fin 512, tile8 (iblk m c 0 t) (iblk m c 1 t) (iblk m c 2 t) (iblk m c 3 t) (iblk m c 4 t) r (i 1)

theorem acc8 (t : Fin cfg0.N) (hr : t.val % 8 = 7) (i : S1x1024.Idx) :
    (outsAt0 m c t.val t.isLt).2.2.2.1 i = (0 + ∑ s : Fin 8, part8 m c ⟨8 * (t.val / 8) + s.val, Pipeline.run_point_lt_of_flush t hr s⟩ i : EReal) :=
  Pipeline.eq_sum_fin_of_reset_step_apply_of_flush (M := EReal) (fun n h => (outsAt0 m c n h).2.2.2.1) 8 (fun _ => 0) (part8 m c)
    (fun t h i => by
      show (outsAt0 m c t.val t.isLt).2.2.2.1 i = (0 + part8 m c t i : EReal)
      rw [outsAt0_A m c t h, zero_add]
      dsimp only
      rw [outA8 (h0 := h)]
      rfl)
    (fun t h i => by
      rw [outsAt0_B m c t h]
      dsimp only
      rw [outB8 (h0 := h)]
      rfl) t hr i

theorem parts8 (t : Fin cfg0.N) (hr : t.val % 8 = 7) (i : S1x1024.Idx) :
    (∑ s : Fin 8, part8 m c ⟨8 * (t.val / 8) + s.val, Pipeline.run_point_lt_of_flush t hr s⟩ i : EReal) = G8 (a0 m c) (a1 m c) (a2 m c) (a3 m c) (a4 m c) i := by
  unfold G8
  rw [Fin.sum_univ_tiles 8 512 rfl]
  refine Finset.sum_congr rfl fun s _ => ?_
  unfold part8
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row8 m c _ r (i 1)).trans (congrArg (fun q => all8 (a0 m c) (a1 m c) (a2 m c) (a3 m c) (a4 m c) q (i 1)) e)

theorem arr8 : (dats m 0 c).arrAt 8 cfg0.N = G8 (a0 m c) (a1 m c) (a2 m c) (a3 m c) (a4 m c) := by
  refine (dats m 0 c).arrAt_eq_of_covers 8 _ (by decide +kernel) fun t hf y => ?_
  have hr := (flush0_8 t).mp hf
  blk_simp
  rw [after0_8]
  refine (acc8 m c t hr y).trans ((zero_add _).trans ((parts8 m c t hr y).trans (congrArg (G8 (a0 m c) (a1 m c) (a2 m c) (a3 m c) (a4 m c)) ?_)))
  blk_ext [idx t]

/-- The sum over all rows: the gradient by the norm's gain. -/
def G9 (g0 : FVec Ideal S4096x1024 .f32) (g1 : FVec Ideal S4096x1024 .f32) (g2 : FVec Ideal S4096x1024 .f32) (g3 : FVec Ideal S12x1024 .f32) (g4 : FVec Ideal S18x1024 .f32) : S1x1024.Idx → EReal := fun i => ∑ r : Fin 4096, all9 g0 g1 g2 g3 g4 r (i 1)

/-- A grid point's share. -/
def part9 (t : Fin cfg0.N) (i : S1x1024.Idx) : EReal := ∑ r : Fin 512, tile9 (iblk m c 0 t) (iblk m c 1 t) (iblk m c 2 t) (iblk m c 3 t) (iblk m c 4 t) r (i 1)

theorem acc9 (t : Fin cfg0.N) (hr : t.val % 8 = 7) (i : S1x1024.Idx) :
    (outsAt0 m c t.val t.isLt).2.2.2.2 i = (0 + ∑ s : Fin 8, part9 m c ⟨8 * (t.val / 8) + s.val, Pipeline.run_point_lt_of_flush t hr s⟩ i : EReal) :=
  Pipeline.eq_sum_fin_of_reset_step_apply_of_flush (M := EReal) (fun n h => (outsAt0 m c n h).2.2.2.2) 8 (fun _ => 0) (part9 m c)
    (fun t h i => by
      show (outsAt0 m c t.val t.isLt).2.2.2.2 i = (0 + part9 m c t i : EReal)
      rw [outsAt0_A m c t h, zero_add]
      dsimp only
      rw [outA9 (h0 := h)]
      rfl)
    (fun t h i => by
      rw [outsAt0_B m c t h]
      dsimp only
      rw [outB9 (h0 := h)]
      rfl) t hr i

theorem parts9 (t : Fin cfg0.N) (hr : t.val % 8 = 7) (i : S1x1024.Idx) :
    (∑ s : Fin 8, part9 m c ⟨8 * (t.val / 8) + s.val, Pipeline.run_point_lt_of_flush t hr s⟩ i : EReal) = G9 (a0 m c) (a1 m c) (a2 m c) (a3 m c) (a4 m c) i := by
  unfold G9
  rw [Fin.sum_univ_tiles 8 512 rfl]
  refine Finset.sum_congr rfl fun s _ => ?_
  unfold part9
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row9 m c _ r (i 1)).trans (congrArg (fun q => all9 (a0 m c) (a1 m c) (a2 m c) (a3 m c) (a4 m c) q (i 1)) e)

theorem arr9 : (dats m 0 c).arrAt 9 cfg0.N = G9 (a0 m c) (a1 m c) (a2 m c) (a3 m c) (a4 m c) := by
  refine (dats m 0 c).arrAt_eq_of_covers 9 _ (by decide +kernel) fun t hf y => ?_
  have hr := (flush0_9 t).mp hf
  blk_simp
  rw [after0_9]
  refine (acc9 m c t hr y).trans ((zero_add _).trans ((parts9 m c t hr y).trans (congrArg (G9 (a0 m c) (a1 m c) (a2 m c) (a3 m c) (a4 m c)) ?_)))
  blk_ext [idx t]

/-! ## The reference -/

open Cert.NormLossRefIdeal.Read in
theorem ref5 (g0 : FVec Ideal S4096x1024 .f32) (g1 : FVec Ideal S4096x1024 .f32) (g2 : FVec Ideal S4096x1024 .f32) (g3 : FVec Ideal S12x1024 .f32) (g4 : FVec Ideal S18x1024 .f32) (s : Fin 4096) (a : Fin 1024) : val_main_v40 (F := Ideal) g0 g1 g2 g3 g4 (ix2 s a) = all5 g0 g1 g2 g3 g4 s a := by
  refine Eq.trans (b := Ideal.div (Norm.half * Norm.one) Norm.width * (Ideal.ofBits .f32 0x40000000#32 * Norm.err (fun e => g0 (ix2 s e)) (fun e => g1 (ix2 s e)) (fun e => g2 (ix2 s e)) (fun e => g3 (ix2 11 e)) (fun e => g4 (ix2 17 e)) a)) ?_ (Norm.dloss_eq _)
  unfold val_main_v40 val_main_v39 val_main_v27 val_main_v38 val_main_v26 val_main_v24 val_main_v36 val_main_v37
    val_main_cst_5 val_main_v23 val_main_v35 val_main_cst_13 val_main_v22 val_main_cst_11 val_main_cst_12
    val_main_v21 val_main_v20 val_main_v5 val_main_v18 val_main_v19 val_main_v4 val_main_v3 val_main_v17
    val_main_v0 val_main_cst_0 val_main_v2 val_main_v1 val_main_v13 val_main_cst val_main_v12 val_main_v10
    val_main_v11 val_main_v8 val_main_v9 val_main_cst_3 val_main_v7 val_main_cst_2 val_main_v6 val_main_cst_1
  pointwise [Norm.err, Norm.post, Norm.width, Norm.rstd, Norm.square, Norm.one, Norm.half]

/-- The gradient by the sub-layer's normed output, in the reference's order. -/
def grad (g0 : FVec Ideal S4096x1024 .f32) (g1 : FVec Ideal S4096x1024 .f32) (g2 : FVec Ideal S4096x1024 .f32) (g3 : FVec Ideal S12x1024 .f32) (g4 : FVec Ideal S18x1024 .f32) (r : Fin 4096) : Fin 1024 → EReal := fun e => Norm.half * (Norm.one + g4 (ix2 17 e)) * all5 g0 g1 g2 g3 g4 r e * g3 (ix2 11 e)

open Cert.NormLossRefIdeal.Read in
theorem ref_lines (g0 : FVec Ideal S4096x1024 .f32) (g1 : FVec Ideal S4096x1024 .f32) (g2 : FVec Ideal S4096x1024 .f32) (g3 : FVec Ideal S12x1024 .f32) (g4 : FVec Ideal S18x1024 .f32) (s : Fin 4096) (a : Fin 1024) :
    val_main_v67 (F := Ideal) g0 g1 g2 g3 g4 (ix2 s a) = (Norm.lines (fun e => g1 (ix2 s e)) (grad g0 g1 g2 g3 g4 s) a : EReal) := by
  unfold val_main_v67 val_main_v64 val_main_v62 val_main_v63 val_main_v55 val_main_v61 val_main_v54 val_main_v60
    val_main_v59 val_main_v58 val_main_cst_18 val_main_v56 val_main_v57 val_main_v53 val_main_v16 val_main_cst_17
    val_main_v52 val_main_v15 val_main_v14 val_main_v13 val_main_v51 val_main_cst_16 val_main_cst_4 val_main_v50
    val_main_v12 val_main_v42 val_main_v49 val_main_v10 val_main_v11 val_main_v41 val_main_v0 val_main_v8
    val_main_v9 val_main_cst_3 val_main_v5 val_main_v7 val_main_cst_2 val_main_v4 val_main_v3 val_main_v6
    val_main_cst_1 val_main_cst_0 val_main_v2 val_main_v1 val_main_cst
  pointwise [grad, Norm.lines, Norm.share, Norm.mhalf, Norm.width, Norm.rstd, Norm.square, Norm.one, Norm.half]
  simp only [ref5 g0 g1 g2 g3 g4, Finset.univ_unique, Finset.sum_const, Finset.card_singleton, one_smul]

theorem grad_eq (g0 : FVec Ideal S4096x1024 .f32) (g1 : FVec Ideal S4096x1024 .f32) (g2 : FVec Ideal S4096x1024 .f32) (g3 : FVec Ideal S12x1024 .f32) (g4 : FVec Ideal S18x1024 .f32) (r : Fin 4096) : grad g0 g1 g2 g3 g4 r = fun e => all5 g0 g1 g2 g3 g4 r e * (Norm.half * (Norm.one + g4 (ix2 17 e))) * g3 (ix2 11 e) :=
  funext fun e => congrArg (fun z : EReal => z * g3 (ix2 11 e)) (mul_comm _ _)

open Cert.NormLossRefIdeal.Read in
theorem ref6 (g0 : FVec Ideal S4096x1024 .f32) (g1 : FVec Ideal S4096x1024 .f32) (g2 : FVec Ideal S4096x1024 .f32) (g3 : FVec Ideal S12x1024 .f32) (g4 : FVec Ideal S18x1024 .f32) (s : Fin 4096) (a : Fin 1024) : val_main_v67 (F := Ideal) g0 g1 g2 g3 g4 (ix2 s a) = G6 g0 g1 g2 g3 g4 (ix2 s a) := by
  rw [ref_lines, Norm.back_eq, grad_eq]
  rfl

open Cert.NormLossRefIdeal.Read in
theorem ref7 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v34 (F := Ideal) g0 g1 g2 g3 g4 (ix2 z a) = G7 g0 g1 g2 g3 g4 (ix2 z a) := by
  obtain rfl : z = 0 := Subsingleton.elim _ _
  unfold val_main_v34 val_main_v33 val_main_v25 val_main_cst_10 val_main_v24 val_main_v23 val_main_v22 val_main_v21
    val_main_v20 val_main_v5 val_main_v18 val_main_v19 val_main_v4 val_main_v3 val_main_v17 val_main_v0
    val_main_cst_0 val_main_v2 val_main_v1 val_main_v13 val_main_cst val_main_v12 val_main_v10 val_main_v11
    val_main_v8 val_main_v9 val_main_cst_3 val_main_v7 val_main_cst_2 val_main_v6 val_main_cst_1
  pointwise [G7, all7, Norm.err, Norm.post, Norm.rstd, Norm.square, Norm.one, Norm.half]

open Cert.NormLossRefIdeal.Read in
theorem ref8 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v66 (F := Ideal) g0 g1 g2 g3 g4 (ix2 z a) = G8 g0 g1 g2 g3 g4 (ix2 z a) := by
  refine Eq.trans (b := (Norm.half * ∑ r : Fin 4096, all5 g0 g1 g2 g3 g4 r a * (g1 (ix2 r a) * Norm.rstd (fun e => g1 (ix2 r e)) * g3 (ix2 11 a)) : EReal)) ?_ (Norm.half_sum _ _)
  obtain rfl : z = 0 := Subsingleton.elim _ _
  unfold val_main_v66 val_main_v65 val_main_v45 val_main_cst_19 val_main_v44 val_main_v43 val_main_cst_14 val_main_v20
    val_main_v18 val_main_v19 val_main_v17 val_main_v0 val_main_v13 val_main_v12 val_main_v10 val_main_v11
    val_main_v8 val_main_v9 val_main_cst_3 val_main_v7 val_main_cst_2 val_main_v6 val_main_cst_1
  pointwise [Norm.half, Norm.rstd, Norm.square]
  simp only [ref5 g0 g1 g2 g3 g4]

open Cert.NormLossRefIdeal.Read in
theorem ref9 (g0 : FVec Ideal S4096x1024 .f32) (g1 : FVec Ideal S4096x1024 .f32) (g2 : FVec Ideal S4096x1024 .f32) (g3 : FVec Ideal S12x1024 .f32) (g4 : FVec Ideal S18x1024 .f32) (z : Fin 1) (a : Fin 1024) : val_main_v48 (F := Ideal) g0 g1 g2 g3 g4 (ix2 z a) = G9 g0 g1 g2 g3 g4 (ix2 z a) := by
  refine Eq.trans (b := (∑ r : Fin 4096, g1 (ix2 r a) * Norm.rstd (fun e => g1 (ix2 r e)) * (Norm.half * (Norm.one + g4 (ix2 17 a)) * all5 g0 g1 g2 g3 g4 r a) : EReal)) ?_
    (Finset.sum_congr rfl fun _ _ => (mul_comm _ _).trans (congrArg (fun z : EReal => z * _) (mul_comm _ _)))
  obtain rfl : z = 0 := Subsingleton.elim _ _
  unfold val_main_v48 val_main_v47 val_main_v46 val_main_cst_15 val_main_v18 val_main_v42 val_main_v17 val_main_v41
    val_main_v13 val_main_v5 val_main_v12 val_main_v4 val_main_v3 val_main_v10 val_main_v11 val_main_cst_0
    val_main_v2 val_main_v1 val_main_v8 val_main_v9 val_main_cst_3 val_main_cst val_main_v7 val_main_cst_2
    val_main_v6 val_main_cst_1
  pointwise [Norm.half, Norm.rstd, Norm.square, Norm.one]
  simp only [ref5 g0 g1 g2 g3 g4]

theorem frame_ref : Cert.quiescent_NormLossRefIdeal := by
  intro m ρ _
  exact (θ_run Cert.NormLossRefIdeal.defs _ _).mono (fun r h => ⟨fun c => (h c).2.2.2.2.2, sem_eq_zero_of_no_sems (by decide) r.2⟩)
    (Cert.NormLossRefIdeal.Value.run m ρ)

theorem algebraic : Cert.algebraic_NormLossIdeal_NormLossRefIdeal := by
  intro m g m' g' _ hagree
  refine ⟨_, _, _, _, _, Cert.NormLossIdeal.Value.run_blocks m g, ?_⟩
  refine (θ_run Cert.NormLossRefIdeal.defs _ _).mono (fun r h c => ?_) (Cert.NormLossRefIdeal.Value.run m' g')
  obtain ⟨h5, h6, h7, h8, h9, hk⟩ := h c
  obtain ⟨g0, g1, g2, g3, g4⟩ := hagree c
  refine ⟨?_, ?_, ?_, ?_, ?_, hk⟩
  · refine h5.trans ((Cert.NormLossRefIdeal.Read.val_main_v40_eq (F := Ideal) _ _ _ _ _).trans ?_)
    rw [g0, g1, g2, g3, g4, arr5]
    funext i
    rw [eq_ix2 i]
    exact ref5 _ _ _ _ _ _ _
  · refine h6.trans ((Cert.NormLossRefIdeal.Read.val_main_v67_eq _ _).trans ?_)
    rw [g0, g1, g2, g3, g4, arr6]
    funext i
    rw [eq_ix2 i]
    exact ref6 _ _ _ _ _ _ _
  · refine h7.trans ((Cert.NormLossRefIdeal.Read.val_main_v34_eq (F := Ideal) _ _ _ _ _).trans ?_)
    rw [g0, g1, g2, g3, g4, arr7]
    funext i
    rw [eq_ix2 i]
    exact ref7 _ _ _ _ _ _ _
  · refine h8.trans ((Cert.NormLossRefIdeal.Read.val_main_v66_eq (F := Ideal) _ _ _ _ _).trans ?_)
    rw [g0, g1, g2, g3, g4, arr8]
    funext i
    rw [eq_ix2 i]
    exact ref8 _ _ _ _ _ _ _
  · refine h9.trans ((Cert.NormLossRefIdeal.Read.val_main_v48_eq (F := Ideal) _ _ _ _ _).trans ?_)
    rw [g0, g1, g2, g3, g4, arr9]
    funext i
    rw [eq_ix2 i]
    exact ref9 _ _ _ _ _ _ _

end Cert.LossNorm

end
-- ==== Proof.NormLink1.lean ====
/-
  A sub-layer's output, normed and gated, added to the stream by half, and the norm in front of the next sub-layer. The kernel
  takes the rows in eight tiles of 512; the arrays it leaves are the reference's, for any arguments.
-/
module

public import proofs.«01_k».proof.Defs
public import proofs.«01_k».proof.Proof.Gen.NormLink1Ideal.Value
public import proofs.«01_k».proof.Proof.Gen.NormLink1RefIdeal.Run
public import proofs.«01_k».proof.Proof.Gen.NormLink1RefIdeal.Read
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkNorm1

open Cert.NormLink1Ideal Cert.NormLink1Ideal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S12x1024 .f32 := m ((c.tc : Thread nD τ).loc main_arg2)
abbrev a3 : FVec Ideal S18x1024 .f32 := m ((c.tc : Thread nD τ).loc main_arg3)

theorem V_main_v0 : (V m c main_v0 : FVec Ideal S12x1x1024 .f32) = broadcastInDim S12x1x1024 ![0, 2] bcast_S12x1024_S12x1x1024_0_2 (a2 m c) := by
  unfold_abbrev_sides
  after_reads_simp

theorem V_main_v1 : (V m c main_v1 : FVec Ideal S18x1x1024 .f32) = broadcastInDim S18x1x1024 ![0, 2] bcast_S18x1024_S18x1x1024_0_2 (a3 m c) := by
  unfold_abbrev_sides
  after_reads_simp

theorem V_main_v2 : (V m c main_v2 : FVec Ideal S4096x1024 .bf16) = truncf .bf16 (a1 m c) bitsLt_bf16_f32 := by
  unfold_abbrev_sides
  after_reads_simp

theorem idx : ∀ t : Fin cfg0.N, win0_0.index t = ![t.val, 0] ∧ win0_1.index t = ![t.val, 0] ∧ win0_2.index t = ![1, 0, 0] ∧ win0_3.index t = ![2, 0, 0]
    ∧ win0_4.index t = ![2, 0, 0] ∧ win0_5.index t = ![4, 0, 0] ∧ win0_6.index t = ![3, 0, 0] ∧ win0_7.index t = ![t.val, 0] ∧ win0_8.index t = ![t.val, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_v2 m c) (ix2 (row t r) d))
  blk_ext [iblk, idx t, row]

theorem iblk2 (t : Fin cfg0.N) (d : Fin 1024) : iblk m c 2 t (ix3 0 0 d) = a2 m c (ix2 1 d) := by
  refine Eq.trans (b := V m c main_v0 (ix3 1 0 d)) (by blk_ext [iblk, idx t]) ?_
  rw [V_main_v0]
  pointwise []

theorem iblk3 (t : Fin cfg0.N) (d : Fin 1024) : iblk m c 3 t (ix3 0 0 d) = a3 m c (ix2 2 d) := by
  refine Eq.trans (b := V m c main_v1 (ix3 2 0 d)) (by blk_ext [iblk, idx t]) ?_
  rw [V_main_v1]
  pointwise []

theorem iblk4 (t : Fin cfg0.N) (d : Fin 1024) : iblk m c 4 t (ix3 0 0 d) = a2 m c (ix2 2 d) := by
  refine Eq.trans (b := V m c main_v0 (ix3 2 0 d)) (by blk_ext [iblk, idx t]) ?_
  rw [V_main_v0]
  pointwise []

theorem iblk5 (t : Fin cfg0.N) (d : Fin 1024) : iblk m c 5 t (ix3 0 0 d) = a3 m c (ix2 4 d) := by
  refine Eq.trans (b := V m c main_v1 (ix3 4 0 d)) (by blk_ext [iblk, idx t]) ?_
  rw [V_main_v1]
  pointwise []

theorem iblk6 (t : Fin cfg0.N) (d : Fin 1024) : iblk m c 6 t (ix3 0 0 d) = a3 m c (ix2 3 d) := by
  refine Eq.trans (b := V m c main_v1 (ix3 3 0 d)) (by blk_ext [iblk, idx t]) ?_
  rw [V_main_v1]
  pointwise []

/-- The stream after the sub-layer, in a tile. -/
def link (x0 : FVec Ideal S512x1024 .f32) (x1 : FVec Ideal S512x1024 .bf16) (x2 x3 : FVec Ideal S1x1x1024 .f32) (r : Fin 512) : Fin 1024 → EReal :=
  Norm.post Norm.half (fun d => x0 (ix2 r d)) (fun d => x1 (ix2 r d)) (fun d => x2 (ix3 0 0 d)) (fun d => x3 (ix3 0 0 d))

theorem out7_apply (x0 : FVec Ideal S512x1024 .f32) (x1 : FVec Ideal S512x1024 .bf16) (x2 x3 x4 x5 x6 : FVec Ideal S1x1x1024 .f32) (y : S512x1024.Idx) :
    out0_7 (F := Ideal) x0 x1 x2 x3 x4 x5 x6 y = link x0 x1 x2 x3 (y 0) (y 1) := by
  frame_out
  open_payloads
  pointwise [link, Norm.post, Norm.rstd, Norm.square, Norm.one, Norm.half, ix2]

theorem out8_apply (x0 : FVec Ideal S512x1024 .f32) (x1 : FVec Ideal S512x1024 .bf16) (x2 x3 x4 x5 x6 : FVec Ideal S1x1x1024 .f32) (y : S512x1024.Idx) :
    out0_8 (F := Ideal) x0 x1 x2 x3 x4 x5 x6 y
      = Norm.pre (link x0 x1 x2 x3 (y 0)) (fun d => x4 (ix3 0 0 d)) (fun d => x5 (ix3 0 0 d)) (fun d => x6 (ix3 0 0 d)) (y 1) := by
  frame_out
  open_payloads
  pointwise [link, Norm.pre, Norm.post, Norm.rstd, Norm.square, Norm.one, Norm.half, ix2]

/-- The arrays the kernel leaves. -/
def G7 (x0 x1 : FVec Ideal S4096x1024 .f32) (x2 : FVec Ideal S12x1024 .f32) (x3 : FVec Ideal S18x1024 .f32) : S4096x1024.Idx → EReal :=
  fun i => Norm.post Norm.half (fun d => x0 (ix2 (i 0) d)) (fun d => x1 (ix2 (i 0) d)) (fun d => x2 (ix2 1 d)) (fun d => x3 (ix2 2 d)) (i 1)
def G8 (x0 x1 : FVec Ideal S4096x1024 .f32) (x2 : FVec Ideal S12x1024 .f32) (x3 : FVec Ideal S18x1024 .f32) : S4096x1024.Idx → EReal :=
  fun i => Norm.pre (fun d => G7 x0 x1 x2 x3 (ix2 (i 0) d)) (fun d => x2 (ix2 2 d)) (fun d => x3 (ix2 4 d)) (fun d => x3 (ix2 3 d)) (i 1)

theorem link_eq (t : Fin cfg0.N) (r : Fin 512) (d : Fin 1024) :
    link (iblk m c 0 t) (iblk m c 1 t) (iblk m c 2 t) (iblk m c 3 t) r d = G7 (a0 m c) (a1 m c) (a2 m c) (a3 m c) (ix2 (row t r) d) :=
  Norm.post_congr (fun d => iblk0 m c t r d) (fun d => iblk1 m c t r d) (iblk2 m c t) (iblk3 m c t) d

theorem arr7 : (dats m 0 c).arrAt 7 cfg0.N = G7 (a0 m c) (a1 m c) (a2 m c) (a3 m c) := by
  refine (dats m 0 c).arrAt_eq_of_covers 7 _ (by decide +kernel) fun t hf y => ?_
  blk_simp
  rw [after0_7, out7_apply]
  refine (link_eq m c t (y 0) (y 1)).trans (congrArg (G7 (a0 m c) (a1 m c) (a2 m c) (a3 m c)) ?_)
  blk_ext [idx t, row]

theorem arr8 : (dats m 0 c).arrAt 8 cfg0.N = G8 (a0 m c) (a1 m c) (a2 m c) (a3 m c) := by
  refine (dats m 0 c).arrAt_eq_of_covers 8 _ (by decide +kernel) fun t hf y => ?_
  blk_simp
  rw [after0_8, out8_apply]
  refine Eq.trans (b := G8 (a0 m c) (a1 m c) (a2 m c) (a3 m c) (ix2 (row t (y 0)) (y 1))) ?_ (congrArg (G8 (a0 m c) (a1 m c) (a2 m c) (a3 m c)) ?_)
  · exact Norm.pre_congr (fun d => link_eq m c t (y 0) d) (iblk4 m c t) (iblk5 m c t) (iblk6 m c t) (y 1)
  · blk_ext [idx t, row]

open Cert.NormLink1RefIdeal.Read in
theorem ref7 (x0 x1 : FVec Ideal S4096x1024 .f32) (x2 : FVec Ideal S12x1024 .f32) (x3 : FVec Ideal S18x1024 .f32) (s : Fin 4096) (a : Fin 1024) :
    val_main_v20 (F := Ideal) x0 x1 x2 x3 (ix2 s a) = G7 x0 x1 x2 x3 (ix2 s a) := by
  unfold val_main_v20 val_main_v19 val_main_v18 val_main_v17 val_main_v5 val_main_v15 val_main_v16 val_main_v4
    val_main_v3 val_main_v14 val_main_v0 val_main_cst_0 val_main_v2 val_main_v1 val_main_v13 val_main_cst
    val_main_v12 val_main_v10 val_main_v11 val_main_v8 val_main_v9 val_main_cst_3 val_main_v7 val_main_cst_2
    val_main_v6 val_main_cst_1
  pointwise [G7, Norm.post, Norm.rstd, Norm.square, Norm.one, Norm.half]

open Cert.NormLink1RefIdeal.Read in
theorem ref8 (x0 x1 : FVec Ideal S4096x1024 .f32) (x2 : FVec Ideal S12x1024 .f32) (x3 : FVec Ideal S18x1024 .f32) (s : Fin 4096) (a : Fin 1024) :
    val_main_v41 (F := Ideal) x0 x1 x2 x3 (ix2 s a) = G8 x0 x1 x2 x3 (ix2 s a) := by
  refine Eq.trans ?_ (Norm.pre_congr (fun d => ref7 x0 x1 x2 x3 s d) (fun _ => rfl) (fun _ => rfl) (fun _ => rfl) a)
  unfold val_main_v41 val_main_v39 val_main_v40 val_main_v35 val_main_v38 val_main_v23 val_main_v33
    val_main_v34 val_main_v37 val_main_v32 val_main_v21 val_main_v36 val_main_v22 val_main_v31 val_main_cst_7
    val_main_v30 val_main_v28 val_main_v29 val_main_v26 val_main_v27 val_main_cst_6 val_main_v25 val_main_cst_5
    val_main_v24 val_main_cst_4
  pointwise [Norm.pre, Norm.rstd, Norm.square, Norm.one]

theorem frame_ref : Cert.quiescent_NormLink1RefIdeal := by
  intro m ρ _
  exact (θ_run Cert.NormLink1RefIdeal.defs _ _).mono (fun r h => ⟨fun c => (h c).2.2, sem_eq_zero_of_no_sems (by decide) r.2⟩)
    (Cert.NormLink1RefIdeal.Value.run m ρ)

theorem algebraic : Cert.algebraic_NormLink1Ideal_NormLink1RefIdeal := by
  intro m g m' g' _ hagree
  refine ⟨_, _, Cert.NormLink1Ideal.Value.run_blocks m g, ?_⟩
  refine (θ_run Cert.NormLink1RefIdeal.defs _ _).mono (fun r h c => ?_) (Cert.NormLink1RefIdeal.Value.run m' g')
  obtain ⟨h7, h8, hk⟩ := h c
  obtain ⟨g0, g1, g2, g3⟩ := hagree c
  refine ⟨h7.trans ((Cert.NormLink1RefIdeal.Read.val_main_v20_eq _ _ _ _).trans ?_), h8.trans ((Cert.NormLink1RefIdeal.Read.val_main_v41_eq _ _).trans ?_), hk⟩
  · rw [g0, g1, g2, g3, arr7]
    funext i
    rw [eq_ix2 i]
    exact ref7 _ _ _ _ _ _
  · rw [g0, g1, g2, g3, arr8]
    funext i
    rw [eq_ix2 i]
    exact ref8 _ _ _ _ _ _

end Cert.LinkNorm1

end
-- ==== Proof.NormLink3.lean ====
/-
  A sub-layer's output, normed and gated, added to the stream by half, and the norm in front of the next sub-layer. The kernel
  takes the rows in eight tiles of 512; the arrays it leaves are the reference's, for any arguments.
-/
module

public import proofs.«01_k».proof.Defs
public import proofs.«01_k».proof.Proof.Gen.NormLink3Ideal.Value
public import proofs.«01_k».proof.Proof.Gen.NormLink3RefIdeal.Run
public import proofs.«01_k».proof.Proof.Gen.NormLink3RefIdeal.Read
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkNorm3

open Cert.NormLink3Ideal Cert.NormLink3Ideal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S12x1024 .f32 := m ((c.tc : Thread nD τ).loc main_arg2)
abbrev a3 : FVec Ideal S18x1024 .f32 := m ((c.tc : Thread nD τ).loc main_arg3)

theorem V_main_v0 : (V m c main_v0 : FVec Ideal S12x1x1024 .f32) = broadcastInDim S12x1x1024 ![0, 2] bcast_S12x1024_S12x1x1024_0_2 (a2 m c) := by
  unfold_abbrev_sides
  after_reads_simp

theorem V_main_v1 : (V m c main_v1 : FVec Ideal S18x1x1024 .f32) = broadcastInDim S18x1x1024 ![0, 2] bcast_S18x1024_S18x1x1024_0_2 (a3 m c) := by
  unfold_abbrev_sides
  after_reads_simp

theorem V_main_v2 : (V m c main_v2 : FVec Ideal S4096x1024 .bf16) = truncf .bf16 (a1 m c) bitsLt_bf16_f32 := by
  unfold_abbrev_sides
  after_reads_simp

theorem idx : ∀ t : Fin cfg0.N, win0_0.index t = ![t.val, 0] ∧ win0_1.index t = ![t.val, 0] ∧ win0_2.index t = ![5, 0, 0] ∧ win0_3.index t = ![8, 0, 0]
    ∧ win0_4.index t = ![6, 0, 0] ∧ win0_5.index t = ![10, 0, 0] ∧ win0_6.index t = ![9, 0, 0] ∧ win0_7.index t = ![t.val, 0] ∧ win0_8.index t = ![t.val, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_v2 m c) (ix2 (row t r) d))
  blk_ext [iblk, idx t, row]

theorem iblk2 (t : Fin cfg0.N) (d : Fin 1024) : iblk m c 2 t (ix3 0 0 d) = a2 m c (ix2 5 d) := by
  refine Eq.trans (b := V m c main_v0 (ix3 5 0 d)) (by blk_ext [iblk, idx t]) ?_
  rw [V_main_v0]
  pointwise []

theorem iblk3 (t : Fin cfg0.N) (d : Fin 1024) : iblk m c 3 t (ix3 0 0 d) = a3 m c (ix2 8 d) := by
  refine Eq.trans (b := V m c main_v1 (ix3 8 0 d)) (by blk_ext [iblk, idx t]) ?_
  rw [V_main_v1]
  pointwise []

theorem iblk4 (t : Fin cfg0.N) (d : Fin 1024) : iblk m c 4 t (ix3 0 0 d) = a2 m c (ix2 6 d) := by
  refine Eq.trans (b := V m c main_v0 (ix3 6 0 d)) (by blk_ext [iblk, idx t]) ?_
  rw [V_main_v0]
  pointwise []

theorem iblk5 (t : Fin cfg0.N) (d : Fin 1024) : iblk m c 5 t (ix3 0 0 d) = a3 m c (ix2 10 d) := by
  refine Eq.trans (b := V m c main_v1 (ix3 10 0 d)) (by blk_ext [iblk, idx t]) ?_
  rw [V_main_v1]
  pointwise []

theorem iblk6 (t : Fin cfg0.N) (d : Fin 1024) : iblk m c 6 t (ix3 0 0 d) = a3 m c (ix2 9 d) := by
  refine Eq.trans (b := V m c main_v1 (ix3 9 0 d)) (by blk_ext [iblk, idx t]) ?_
  rw [V_main_v1]
  pointwise []

/-- The stream after the sub-layer, in a tile. -/
def link (x0 : FVec Ideal S512x1024 .f32) (x1 : FVec Ideal S512x1024 .bf16) (x2 x3 : FVec Ideal S1x1x1024 .f32) (r : Fin 512) : Fin 1024 → EReal :=
  Norm.post Norm.half (fun d => x0 (ix2 r d)) (fun d => x1 (ix2 r d)) (fun d => x2 (ix3 0 0 d)) (fun d => x3 (ix3 0 0 d))

theorem out7_apply (x0 : FVec Ideal S512x1024 .f32) (x1 : FVec Ideal S512x1024 .bf16) (x2 x3 x4 x5 x6 : FVec Ideal S1x1x1024 .f32) (y : S512x1024.Idx) :
    out0_7 (F := Ideal) x0 x1 x2 x3 x4 x5 x6 y = link x0 x1 x2 x3 (y 0) (y 1) := by
  frame_out
  open_payloads
  pointwise [link, Norm.post, Norm.rstd, Norm.square, Norm.one, Norm.half, ix2]

theorem out8_apply (x0 : FVec Ideal S512x1024 .f32) (x1 : FVec Ideal S512x1024 .bf16) (x2 x3 x4 x5 x6 : FVec Ideal S1x1x1024 .f32) (y : S512x1024.Idx) :
    out0_8 (F := Ideal) x0 x1 x2 x3 x4 x5 x6 y
      = Norm.pre (link x0 x1 x2 x3 (y 0)) (fun d => x4 (ix3 0 0 d)) (fun d => x5 (ix3 0 0 d)) (fun d => x6 (ix3 0 0 d)) (y 1) := by
  frame_out
  open_payloads
  pointwise [link, Norm.pre, Norm.post, Norm.rstd, Norm.square, Norm.one, Norm.half, ix2]

/-- The arrays the kernel leaves. -/
def G7 (x0 x1 : FVec Ideal S4096x1024 .f32) (x2 : FVec Ideal S12x1024 .f32) (x3 : FVec Ideal S18x1024 .f32) : S4096x1024.Idx → EReal :=
  fun i => Norm.post Norm.half (fun d => x0 (ix2 (i 0) d)) (fun d => x1 (ix2 (i 0) d)) (fun d => x2 (ix2 5 d)) (fun d => x3 (ix2 8 d)) (i 1)
def G8 (x0 x1 : FVec Ideal S4096x1024 .f32) (x2 : FVec Ideal S12x1024 .f32) (x3 : FVec Ideal S18x1024 .f32) : S4096x1024.Idx → EReal :=
  fun i => Norm.pre (fun d => G7 x0 x1 x2 x3 (ix2 (i 0) d)) (fun d => x2 (ix2 6 d)) (fun d => x3 (ix2 10 d)) (fun d => x3 (ix2 9 d)) (i 1)

theorem link_eq (t : Fin cfg0.N) (r : Fin 512) (d : Fin 1024) :
    link (iblk m c 0 t) (iblk m c 1 t) (iblk m c 2 t) (iblk m c 3 t) r d = G7 (a0 m c) (a1 m c) (a2 m c) (a3 m c) (ix2 (row t r) d) :=
  Norm.post_congr (fun d => iblk0 m c t r d) (fun d => iblk1 m c t r d) (iblk2 m c t) (iblk3 m c t) d

theorem arr7 : (dats m 0 c).arrAt 7 cfg0.N = G7 (a0 m c) (a1 m c) (a2 m c) (a3 m c) := by
  refine (dats m 0 c).arrAt_eq_of_covers 7 _ (by decide +kernel) fun t hf y => ?_
  blk_simp
  rw [after0_7, out7_apply]
  refine (link_eq m c t (y 0) (y 1)).trans (congrArg (G7 (a0 m c) (a1 m c) (a2 m c) (a3 m c)) ?_)
  blk_ext [idx t, row]

theorem arr8 : (dats m 0 c).arrAt 8 cfg0.N = G8 (a0 m c) (a1 m c) (a2 m c) (a3 m c) := by
  refine (dats m 0 c).arrAt_eq_of_covers 8 _ (by decide +kernel) fun t hf y => ?_
  blk_simp
  rw [after0_8, out8_apply]
  refine Eq.trans (b := G8 (a0 m c) (a1 m c) (a2 m c) (a3 m c) (ix2 (row t (y 0)) (y 1))) ?_ (congrArg (G8 (a0 m c) (a1 m c) (a2 m c) (a3 m c)) ?_)
  · exact Norm.pre_congr (fun d => link_eq m c t (y 0) d) (iblk4 m c t) (iblk5 m c t) (iblk6 m c t) (y 1)
  · blk_ext [idx t, row]

open Cert.NormLink3RefIdeal.Read in
theorem ref7 (x0 x1 : FVec Ideal S4096x1024 .f32) (x2 : FVec Ideal S12x1024 .f32) (x3 : FVec Ideal S18x1024 .f32) (s : Fin 4096) (a : Fin 1024) :
    val_main_v20 (F := Ideal) x0 x1 x2 x3 (ix2 s a) = G7 x0 x1 x2 x3 (ix2 s a) := by
  unfold val_main_v20 val_main_v19 val_main_v18 val_main_v17 val_main_v5 val_main_v15 val_main_v16 val_main_v4
    val_main_v3 val_main_v14 val_main_v0 val_main_cst_0 val_main_v2 val_main_v1 val_main_v13 val_main_cst
    val_main_v12 val_main_v10 val_main_v11 val_main_v8 val_main_v9 val_main_cst_3 val_main_v7 val_main_cst_2
    val_main_v6 val_main_cst_1
  pointwise [G7, Norm.post, Norm.rstd, Norm.square, Norm.one, Norm.half]

open Cert.NormLink3RefIdeal.Read in
theorem ref8 (x0 x1 : FVec Ideal S4096x1024 .f32) (x2 : FVec Ideal S12x1024 .f32) (x3 : FVec Ideal S18x1024 .f32) (s : Fin 4096) (a : Fin 1024) :
    val_main_v42 (F := Ideal) x0 x1 x2 x3 (ix2 s a) = G8 x0 x1 x2 x3 (ix2 s a) := by
  refine Eq.trans ?_ (Norm.pre_congr (fun d => ref7 x0 x1 x2 x3 s d) (fun _ => rfl) (fun _ => rfl) (fun _ => rfl) a)
  unfold val_main_v42 val_main_v41 val_main_v39 val_main_v40 val_main_v35 val_main_v38 val_main_v23 val_main_v33
    val_main_v34 val_main_v37 val_main_v32 val_main_v21 val_main_v36 val_main_v22 val_main_v31 val_main_cst_7
    val_main_v30 val_main_v28 val_main_v29 val_main_v26 val_main_v27 val_main_cst_6 val_main_v25 val_main_cst_5
    val_main_v24 val_main_cst_4
  pointwise [Norm.pre, Norm.rstd, Norm.square, Norm.one]

theorem frame_ref : Cert.quiescent_NormLink3RefIdeal := by
  intro m ρ _
  exact (θ_run Cert.NormLink3RefIdeal.defs _ _).mono (fun r h => ⟨fun c => (h c).2.2, sem_eq_zero_of_no_sems (by decide) r.2⟩)
    (Cert.NormLink3RefIdeal.Value.run m ρ)

theorem algebraic : Cert.algebraic_NormLink3Ideal_NormLink3RefIdeal := by
  intro m g m' g' _ hagree
  refine ⟨_, _, Cert.NormLink3Ideal.Value.run_blocks m g, ?_⟩
  refine (θ_run Cert.NormLink3RefIdeal.defs _ _).mono (fun r h c => ?_) (Cert.NormLink3RefIdeal.Value.run m' g')
  obtain ⟨h7, h8, hk⟩ := h c
  obtain ⟨g0, g1, g2, g3⟩ := hagree c
  refine ⟨h7.trans ((Cert.NormLink3RefIdeal.Read.val_main_v20_eq _ _ _ _).trans ?_), h8.trans ((Cert.NormLink3RefIdeal.Read.val_main_v42_eq _ _).trans ?_), hk⟩
  · rw [g0, g1, g2, g3, arr7]
    funext i
    rw [eq_ix2 i]
    exact ref7 _ _ _ _ _ _
  · rw [g0, g1, g2, g3, arr8]
    funext i
    rw [eq_ix2 i]
    exact ref8 _ _ _ _ _ _

end Cert.LinkNorm3

end
-- ==== Proof.NormLink5.lean ====
/-
  A sub-layer's output, normed and gated, added to the stream, and the norm in front of the next sub-layer. The kernel
  takes the rows in eight tiles of 512; the arrays it leaves are the reference's, for any arguments.
-/
module

public import proofs.«01_k».proof.Defs
public import proofs.«01_k».proof.Proof.Gen.NormLink5Ideal.Value
public import proofs.«01_k».proof.Proof.Gen.NormLink5RefIdeal.Run
public import proofs.«01_k».proof.Proof.Gen.NormLink5RefIdeal.Read
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkNorm5

open Cert.NormLink5Ideal Cert.NormLink5Ideal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S12x1024 .f32 := m ((c.tc : Thread nD τ).loc main_arg2)
abbrev a3 : FVec Ideal S18x1024 .f32 := m ((c.tc : Thread nD τ).loc main_arg3)

theorem V_main_v0 : (V m c main_v0 : FVec Ideal S12x1x1024 .f32) = broadcastInDim S12x1x1024 ![0, 2] bcast_S12x1024_S12x1x1024_0_2 (a2 m c) := by
  unfold_abbrev_sides
  after_reads_simp

theorem V_main_v1 : (V m c main_v1 : FVec Ideal S18x1x1024 .f32) = broadcastInDim S18x1x1024 ![0, 2] bcast_S18x1024_S18x1x1024_0_2 (a3 m c) := by
  unfold_abbrev_sides
  after_reads_simp

theorem V_main_v2 : (V m c main_v2 : FVec Ideal S4096x1024 .bf16) = truncf .bf16 (a1 m c) bitsLt_bf16_f32 := by
  unfold_abbrev_sides
  after_reads_simp

theorem idx : ∀ t : Fin cfg0.N, win0_0.index t = ![t.val, 0] ∧ win0_1.index t = ![t.val, 0] ∧ win0_2.index t = ![9, 0, 0] ∧ win0_3.index t = ![14, 0, 0]
    ∧ win0_4.index t = ![10, 0, 0] ∧ win0_5.index t = ![16, 0, 0] ∧ win0_6.index t = ![15, 0, 0] ∧ win0_7.index t = ![t.val, 0] ∧ win0_8.index t = ![t.val, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_arg0 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_v2 m c) (ix2 (row t r) d))
  blk_ext [iblk, idx t, row]

theorem iblk2 (t : Fin cfg0.N) (d : Fin 1024) : iblk m c 2 t (ix3 0 0 d) = a2 m c (ix2 9 d) := by
  refine Eq.trans (b := V m c main_v0 (ix3 9 0 d)) (by blk_ext [iblk, idx t]) ?_
  rw [V_main_v0]
  pointwise []

theorem iblk3 (t : Fin cfg0.N) (d : Fin 1024) : iblk m c 3 t (ix3 0 0 d) = a3 m c (ix2 14 d) := by
  refine Eq.trans (b := V m c main_v1 (ix3 14 0 d)) (by blk_ext [iblk, idx t]) ?_
  rw [V_main_v1]
  pointwise []

theorem iblk4 (t : Fin cfg0.N) (d : Fin 1024) : iblk m c 4 t (ix3 0 0 d) = a2 m c (ix2 10 d) := by
  refine Eq.trans (b := V m c main_v0 (ix3 10 0 d)) (by blk_ext [iblk, idx t]) ?_
  rw [V_main_v0]
  pointwise []

theorem iblk5 (t : Fin cfg0.N) (d : Fin 1024) : iblk m c 5 t (ix3 0 0 d) = a3 m c (ix2 16 d) := by
  refine Eq.trans (b := V m c main_v1 (ix3 16 0 d)) (by blk_ext [iblk, idx t]) ?_
  rw [V_main_v1]
  pointwise []

theorem iblk6 (t : Fin cfg0.N) (d : Fin 1024) : iblk m c 6 t (ix3 0 0 d) = a3 m c (ix2 15 d) := by
  refine Eq.trans (b := V m c main_v1 (ix3 15 0 d)) (by blk_ext [iblk, idx t]) ?_
  rw [V_main_v1]
  pointwise []

/-- The stream after the sub-layer, in a tile. -/
def link (x0 : FVec Ideal S512x1024 .f32) (x1 : FVec Ideal S512x1024 .bf16) (x2 x3 : FVec Ideal S1x1x1024 .f32) (r : Fin 512) : Fin 1024 → EReal :=
  Norm.post Norm.one (fun d => x0 (ix2 r d)) (fun d => x1 (ix2 r d)) (fun d => x2 (ix3 0 0 d)) (fun d => x3 (ix3 0 0 d))

theorem out7_apply (x0 : FVec Ideal S512x1024 .f32) (x1 : FVec Ideal S512x1024 .bf16) (x2 x3 x4 x5 x6 : FVec Ideal S1x1x1024 .f32) (y : S512x1024.Idx) :
    out0_7 (F := Ideal) x0 x1 x2 x3 x4 x5 x6 y = link x0 x1 x2 x3 (y 0) (y 1) := by
  frame_out
  open_payloads
  pointwise [link, Norm.post, Norm.rstd, Norm.square, Norm.one, Norm.half, ix2]

theorem out8_apply (x0 : FVec Ideal S512x1024 .f32) (x1 : FVec Ideal S512x1024 .bf16) (x2 x3 x4 x5 x6 : FVec Ideal S1x1x1024 .f32) (y : S512x1024.Idx) :
    out0_8 (F := Ideal) x0 x1 x2 x3 x4 x5 x6 y
      = Norm.pre (link x0 x1 x2 x3 (y 0)) (fun d => x4 (ix3 0 0 d)) (fun d => x5 (ix3 0 0 d)) (fun d => x6 (ix3 0 0 d)) (y 1) := by
  frame_out
  open_payloads
  pointwise [link, Norm.pre, Norm.post, Norm.rstd, Norm.square, Norm.one, Norm.half, ix2]

/-- The arrays the kernel leaves. -/
def G7 (x0 x1 : FVec Ideal S4096x1024 .f32) (x2 : FVec Ideal S12x1024 .f32) (x3 : FVec Ideal S18x1024 .f32) : S4096x1024.Idx → EReal :=
  fun i => Norm.post Norm.one (fun d => x0 (ix2 (i 0) d)) (fun d => x1 (ix2 (i 0) d)) (fun d => x2 (ix2 9 d)) (fun d => x3 (ix2 14 d)) (i 1)
def G8 (x0 x1 : FVec Ideal S4096x1024 .f32) (x2 : FVec Ideal S12x1024 .f32) (x3 : FVec Ideal S18x1024 .f32) : S4096x1024.Idx → EReal :=
  fun i => Norm.pre (fun d => G7 x0 x1 x2 x3 (ix2 (i 0) d)) (fun d => x2 (ix2 10 d)) (fun d => x3 (ix2 16 d)) (fun d => x3 (ix2 15 d)) (i 1)

theorem link_eq (t : Fin cfg0.N) (r : Fin 512) (d : Fin 1024) :
    link (iblk m c 0 t) (iblk m c 1 t) (iblk m c 2 t) (iblk m c 3 t) r d = G7 (a0 m c) (a1 m c) (a2 m c) (a3 m c) (ix2 (row t r) d) :=
  Norm.post_congr (fun d => iblk0 m c t r d) (fun d => iblk1 m c t r d) (iblk2 m c t) (iblk3 m c t) d

theorem arr7 : (dats m 0 c).arrAt 7 cfg0.N = G7 (a0 m c) (a1 m c) (a2 m c) (a3 m c) := by
  refine (dats m 0 c).arrAt_eq_of_covers 7 _ (by decide +kernel) fun t hf y => ?_
  blk_simp
  rw [after0_7, out7_apply]
  refine (link_eq m c t (y 0) (y 1)).trans (congrArg (G7 (a0 m c) (a1 m c) (a2 m c) (a3 m c)) ?_)
  blk_ext [idx t, row]

theorem arr8 : (dats m 0 c).arrAt 8 cfg0.N = G8 (a0 m c) (a1 m c) (a2 m c) (a3 m c) := by
  refine (dats m 0 c).arrAt_eq_of_covers 8 _ (by decide +kernel) fun t hf y => ?_
  blk_simp
  rw [after0_8, out8_apply]
  refine Eq.trans (b := G8 (a0 m c) (a1 m c) (a2 m c) (a3 m c) (ix2 (row t (y 0)) (y 1))) ?_ (congrArg (G8 (a0 m c) (a1 m c) (a2 m c) (a3 m c)) ?_)
  · exact Norm.pre_congr (fun d => link_eq m c t (y 0) d) (iblk4 m c t) (iblk5 m c t) (iblk6 m c t) (y 1)
  · blk_ext [idx t, row]

open Cert.NormLink5RefIdeal.Read in
theorem ref7 (x0 x1 : FVec Ideal S4096x1024 .f32) (x2 : FVec Ideal S12x1024 .f32) (x3 : FVec Ideal S18x1024 .f32) (s : Fin 4096) (a : Fin 1024) :
    val_main_v20 (F := Ideal) x0 x1 x2 x3 (ix2 s a) = G7 x0 x1 x2 x3 (ix2 s a) := by
  unfold val_main_v20 val_main_v19 val_main_v18 val_main_v17 val_main_v5 val_main_v15 val_main_v16 val_main_v4
    val_main_v3 val_main_v14 val_main_v0 val_main_cst_0 val_main_v2 val_main_v1 val_main_v13 val_main_cst
    val_main_v12 val_main_v10 val_main_v11 val_main_v8 val_main_v9 val_main_cst_3 val_main_v7 val_main_cst_2
    val_main_v6 val_main_cst_1
  pointwise [G7, Norm.post, Norm.rstd, Norm.square, Norm.one, Norm.half]

open Cert.NormLink5RefIdeal.Read in
theorem ref8 (x0 x1 : FVec Ideal S4096x1024 .f32) (x2 : FVec Ideal S12x1024 .f32) (x3 : FVec Ideal S18x1024 .f32) (s : Fin 4096) (a : Fin 1024) :
    val_main_v42 (F := Ideal) x0 x1 x2 x3 (ix2 s a) = G8 x0 x1 x2 x3 (ix2 s a) := by
  refine Eq.trans ?_ (Norm.pre_congr (fun d => ref7 x0 x1 x2 x3 s d) (fun _ => rfl) (fun _ => rfl) (fun _ => rfl) a)
  unfold val_main_v42 val_main_v41 val_main_v39 val_main_v40 val_main_v35 val_main_v38 val_main_v23 val_main_v33
    val_main_v34 val_main_v37 val_main_v32 val_main_v21 val_main_v36 val_main_v22 val_main_v31 val_main_cst_7
    val_main_v30 val_main_v28 val_main_v29 val_main_v26 val_main_v27 val_main_cst_6 val_main_v25 val_main_cst_5
    val_main_v24 val_main_cst_4
  pointwise [Norm.pre, Norm.rstd, Norm.square, Norm.one]

theorem frame_ref : Cert.quiescent_NormLink5RefIdeal := by
  intro m ρ _
  exact (θ_run Cert.NormLink5RefIdeal.defs _ _).mono (fun r h => ⟨fun c => (h c).2.2, sem_eq_zero_of_no_sems (by decide) r.2⟩)
    (Cert.NormLink5RefIdeal.Value.run m ρ)

theorem algebraic : Cert.algebraic_NormLink5Ideal_NormLink5RefIdeal := by
  intro m g m' g' _ hagree
  refine ⟨_, _, Cert.NormLink5Ideal.Value.run_blocks m g, ?_⟩
  refine (θ_run Cert.NormLink5RefIdeal.defs _ _).mono (fun r h c => ?_) (Cert.NormLink5RefIdeal.Value.run m' g')
  obtain ⟨h7, h8, hk⟩ := h c
  obtain ⟨g0, g1, g2, g3⟩ := hagree c
  refine ⟨h7.trans ((Cert.NormLink5RefIdeal.Read.val_main_v20_eq _ _ _ _).trans ?_), h8.trans ((Cert.NormLink5RefIdeal.Read.val_main_v42_eq _ _).trans ?_), hk⟩
  · rw [g0, g1, g2, g3, arr7]
    funext i
    rw [eq_ix2 i]
    exact ref7 _ _ _ _ _ _
  · rw [g0, g1, g2, g3, arr8]
    funext i
    rw [eq_ix2 i]
    exact ref8 _ _ _ _ _ _

end Cert.LinkNorm5

end
-- ==== Proof.NormLinkBwd5.lean ====
/-
  The backward pass of the norms between the fifth and the sixth sub-layer. The kernel takes the rows in eight tiles of 512; the
  gradients by the modulation and the gains are sums over all rows, accumulated in the result blocks.
-/
module

public import proofs.«01_k».proof.Defs
public import proofs.«01_k».proof.Proof.Gen.NormLinkBwd5Ideal.Value
public import proofs.«01_k».proof.Proof.Gen.NormLinkBwd5RefIdeal.Run
public import proofs.«01_k».proof.Proof.Gen.NormLinkBwd5RefIdeal.Read
public import proofs.«01_k».proof.Proof.NormBack
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.LinkBack5

open Cert.NormLinkBwd5Ideal Cert.NormLinkBwd5Ideal.Gen Idealize.ShloMosaic Idealize.ShloMosaic.TcCoe Idealize.SL.Sem

variable (m : (ℓ : Loc nD τ sig) → Buf (Elt Ideal) ℓ) (c : Dev nD)

theorem lt_8 (t : Fin cfg0.N) : t.val < 8 := lt_of_lt_of_eq t.isLt (show cfg0.N = 8 from N_0)

/-- Row `r` of a grid point's tile. -/
def row (t : Fin cfg0.N) (r : Fin 512) : Fin 4096 := ⟨t.val * 512 + r.val, by have := lt_8 t; have := r.isLt; omega⟩

/-- The arguments of the program on a device. -/
abbrev a0 : FVec Ideal S4096x1024 .f32 := m ((c.tc : Thread nD τ).loc main_arg0)
abbrev a1 : FVec Ideal S4096x1024 .f32 := m ((c.tc : Thread nD τ).loc main_arg1)
abbrev a2 : FVec Ideal S4096x1024 .f32 := m ((c.tc : Thread nD τ).loc main_arg2)
abbrev a3 : FVec Ideal S4096x1024 .f32 := m ((c.tc : Thread nD τ).loc main_arg3)
abbrev a4 : FVec Ideal S12x1024 .f32 := m ((c.tc : Thread nD τ).loc main_arg4)
abbrev a5 : FVec Ideal S18x1024 .f32 := m ((c.tc : Thread nD τ).loc main_arg5)

theorem V_main_v0 : (V m c main_v0 : FVec Ideal S12x1x1024 .f32) = broadcastInDim S12x1x1024 ![0, 2] bcast_S12x1024_S12x1x1024_0_2 (a4 m c) := by
  unfold_abbrev_sides
  after_reads_simp

theorem V_main_v1 : (V m c main_v1 : FVec Ideal S18x1x1024 .f32) = broadcastInDim S18x1x1024 ![0, 2] bcast_S18x1024_S18x1x1024_0_2 (a5 m c) := by
  unfold_abbrev_sides
  after_reads_simp

theorem V_main_v2 : (V m c main_v2 : FVec Ideal S4096x1024 .bf16) = truncf .bf16 (a0 m c) bitsLt_bf16_f32 := by
  unfold_abbrev_sides
  after_reads_simp

theorem V_main_v3 : (V m c main_v3 : FVec Ideal S4096x1024 .bf16) = truncf .bf16 (a3 m c) bitsLt_bf16_f32 := by
  unfold_abbrev_sides
  after_reads_simp

theorem idx : ∀ t : Fin cfg0.N, win0_0.index t = ![t.val, 0] ∧ win0_1.index t = ![t.val, 0] ∧ win0_2.index t = ![t.val, 0] ∧ win0_3.index t = ![t.val, 0]
    ∧ win0_4.index t = ![10, 0, 0] ∧ win0_5.index t = ![16, 0, 0] ∧ win0_6.index t = ![9, 0, 0] ∧ win0_7.index t = ![14, 0, 0]
    ∧ win0_8.index t = ![t.val, 0] ∧ win0_9.index t = ![t.val, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

theorem iblk0 (t : Fin cfg0.N) (r : Fin 512) (d : Fin 1024) : iblk m c 0 t (ix2 r d) = a0 m c (ix2 (row t r) d) := by
  refine Eq.trans ?_ (congrFun (V_main_v2 m c) (ix2 (row t r) d))
  blk_ext [iblk, idx t, row]

theorem iblk1 (t : Fin cfg0.N) (r : Fin 512) (d : Fin 1024) : iblk m c 1 t (ix2 r d) = a1 m c (ix2 (row t r) d) := by
  refine Eq.trans ?_ (congrFun (V_main_arg1 m c) (ix2 (row t r) d))
  blk_ext [iblk, idx t, row]

theorem iblk2 (t : Fin cfg0.N) (r : Fin 512) (d : Fin 1024) : iblk m c 2 t (ix2 r d) = a2 m c (ix2 (row t r) d) := by
  refine Eq.trans ?_ (congrFun (V_main_arg2 m c) (ix2 (row t r) d))
  blk_ext [iblk, idx t, row]

theorem iblk3 (t : Fin cfg0.N) (r : Fin 512) (d : Fin 1024) : iblk m c 3 t (ix2 r d) = a3 m c (ix2 (row t r) d) := by
  refine Eq.trans ?_ (congrFun (V_main_v3 m c) (ix2 (row t r) d))
  blk_ext [iblk, idx t, row]

theorem iblk4 (t : Fin cfg0.N) (d : Fin 1024) : iblk m c 4 t (ix3 0 0 d) = a4 m c (ix2 10 d) := by
  refine Eq.trans (b := V m c main_v0 (ix3 10 0 d)) (by blk_ext [iblk, idx t]) ?_
  rw [V_main_v0]
  pointwise []

theorem iblk5 (t : Fin cfg0.N) (d : Fin 1024) : iblk m c 5 t (ix3 0 0 d) = a5 m c (ix2 16 d) := by
  refine Eq.trans (b := V m c main_v1 (ix3 16 0 d)) (by blk_ext [iblk, idx t]) ?_
  rw [V_main_v1]
  pointwise []

theorem iblk6 (t : Fin cfg0.N) (d : Fin 1024) : iblk m c 6 t (ix3 0 0 d) = a4 m c (ix2 9 d) := by
  refine Eq.trans (b := V m c main_v0 (ix3 9 0 d)) (by blk_ext [iblk, idx t]) ?_
  rw [V_main_v0]
  pointwise []

theorem iblk7 (t : Fin cfg0.N) (d : Fin 1024) : iblk m c 7 t (ix3 0 0 d) = a5 m c (ix2 14 d) := by
  refine Eq.trans (b := V m c main_v1 (ix3 14 0 d)) (by blk_ext [iblk, idx t]) ?_
  rw [V_main_v1]
  pointwise []

/-! ## One row -/

/-- The gradient by the stream, from a tile and from the arguments. -/
def tile8 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dpre (fun e => x0 (ix2 r e)) (fun e => x1 (ix2 r e)) (fun e => x2 (ix2 r e)) (fun e => x4 (ix3 0 0 e)) (fun e => x5 (ix3 0 0 e))
def all8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dpre (fun e => g0 (ix2 r e)) (fun e => g1 (ix2 r e)) (fun e => g2 (ix2 r e)) (fun e => g4 (ix2 10 e)) (fun e => g5 (ix2 16 e))

theorem row8 (t : Fin cfg0.N) (r : Fin 512) (d : Fin 1024) : tile8 (iblk m c 0 t) (iblk m c 1 t) (iblk m c 2 t) (iblk m c 3 t) (iblk m c 4 t) (iblk m c 5 t) (iblk m c 6 t) (iblk m c 7 t) r d = all8 (a0 m c) (a1 m c) (a2 m c) (a3 m c) (a4 m c) (a5 m c) (row t r) d := by
  unfold tile8 all8
  simp only [iblk0, iblk1, iblk2, iblk3, iblk4, iblk5, iblk6, iblk7]

/-- The gradient by the sub-layer's output, from a tile and from the arguments. -/
def tile9 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dpost Norm.one (Norm.dpre (fun e => x0 (ix2 r e)) (fun e => x1 (ix2 r e)) (fun e => x2 (ix2 r e)) (fun e => x4 (ix3 0 0 e)) (fun e => x5 (ix3 0 0 e))) (fun e => x3 (ix2 r e)) (fun e => x6 (ix3 0 0 e)) (fun e => x7 (ix3 0 0 e))
def all9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dpost Norm.one (Norm.dpre (fun e => g0 (ix2 r e)) (fun e => g1 (ix2 r e)) (fun e => g2 (ix2 r e)) (fun e => g4 (ix2 10 e)) (fun e => g5 (ix2 16 e))) (fun e => g3 (ix2 r e)) (fun e => g4 (ix2 9 e)) (fun e => g5 (ix2 14 e))

theorem row9 (t : Fin cfg0.N) (r : Fin 512) (d : Fin 1024) : tile9 (iblk m c 0 t) (iblk m c 1 t) (iblk m c 2 t) (iblk m c 3 t) (iblk m c 4 t) (iblk m c 5 t) (iblk m c 6 t) (iblk m c 7 t) r d = all9 (a0 m c) (a1 m c) (a2 m c) (a3 m c) (a4 m c) (a5 m c) (row t r) d := by
  unfold tile9 all9
  simp only [iblk0, iblk1, iblk2, iblk3, iblk4, iblk5, iblk6, iblk7]

/-- The gradient by the shift, from a tile and from the arguments. -/
def tile10 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := (fun e => x0 (ix2 r e))
def all10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := (fun e => g0 (ix2 r e))

theorem row10 (t : Fin cfg0.N) (r : Fin 512) (d : Fin 1024) : tile10 (iblk m c 0 t) (iblk m c 1 t) (iblk m c 2 t) (iblk m c 3 t) (iblk m c 4 t) (iblk m c 5 t) (iblk m c 6 t) (iblk m c 7 t) r d = all10 (a0 m c) (a1 m c) (a2 m c) (a3 m c) (a4 m c) (a5 m c) (row t r) d := by
  unfold tile10 all10
  simp only [iblk0, iblk1, iblk2, iblk3, iblk4, iblk5, iblk6, iblk7]

/-- The gradient by the scale, from a tile and from the arguments. -/
def tile11 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dscale (fun e => x0 (ix2 r e)) (fun e => x1 (ix2 r e)) (fun e => x4 (ix3 0 0 e))
def all11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dscale (fun e => g0 (ix2 r e)) (fun e => g1 (ix2 r e)) (fun e => g4 (ix2 10 e))

theorem row11 (t : Fin cfg0.N) (r : Fin 512) (d : Fin 1024) : tile11 (iblk m c 0 t) (iblk m c 1 t) (iblk m c 2 t) (iblk m c 3 t) (iblk m c 4 t) (iblk m c 5 t) (iblk m c 6 t) (iblk m c 7 t) r d = all11 (a0 m c) (a1 m c) (a2 m c) (a3 m c) (a4 m c) (a5 m c) (row t r) d := by
  unfold tile11 all11
  simp only [iblk0, iblk1, iblk2, iblk3, iblk4, iblk5, iblk6, iblk7]

/-- The gradient by the next norm's gain, from a tile and from the arguments. -/
def tile12 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgain (fun e => x0 (ix2 r e)) (fun e => x1 (ix2 r e)) (fun e => x5 (ix3 0 0 e))
def all12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgain (fun e => g0 (ix2 r e)) (fun e => g1 (ix2 r e)) (fun e => g5 (ix2 16 e))

theorem row12 (t : Fin cfg0.N) (r : Fin 512) (d : Fin 1024) : tile12 (iblk m c 0 t) (iblk m c 1 t) (iblk m c 2 t) (iblk m c 3 t) (iblk m c 4 t) (iblk m c 5 t) (iblk m c 6 t) (iblk m c 7 t) r d = all12 (a0 m c) (a1 m c) (a2 m c) (a3 m c) (a4 m c) (a5 m c) (row t r) d := by
  unfold tile12 all12
  simp only [iblk0, iblk1, iblk2, iblk3, iblk4, iblk5, iblk6, iblk7]

/-- The gradient by the gate, from a tile and from the arguments. -/
def tile13 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgate Norm.one (Norm.dpre (fun e => x0 (ix2 r e)) (fun e => x1 (ix2 r e)) (fun e => x2 (ix2 r e)) (fun e => x4 (ix3 0 0 e)) (fun e => x5 (ix3 0 0 e))) (fun e => x3 (ix2 r e)) (fun e => x6 (ix3 0 0 e))
def all13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgate Norm.one (Norm.dpre (fun e => g0 (ix2 r e)) (fun e => g1 (ix2 r e)) (fun e => g2 (ix2 r e)) (fun e => g4 (ix2 10 e)) (fun e => g5 (ix2 16 e))) (fun e => g3 (ix2 r e)) (fun e => g4 (ix2 9 e))

theorem row13 (t : Fin cfg0.N) (r : Fin 512) (d : Fin 1024) : tile13 (iblk m c 0 t) (iblk m c 1 t) (iblk m c 2 t) (iblk m c 3 t) (iblk m c 4 t) (iblk m c 5 t) (iblk m c 6 t) (iblk m c 7 t) r d = all13 (a0 m c) (a1 m c) (a2 m c) (a3 m c) (a4 m c) (a5 m c) (row t r) d := by
  unfold tile13 all13
  simp only [iblk0, iblk1, iblk2, iblk3, iblk4, iblk5, iblk6, iblk7]

/-- The gradient by the norm's gain, from a tile and from the arguments. -/
def tile14 (x0 : FVec Ideal S512x1024 .bf16) (x1 : FVec Ideal S512x1024 .f32) (x2 : FVec Ideal S512x1024 .f32) (x3 : FVec Ideal S512x1024 .bf16) (x4 x5 x6 x7 : FVec Ideal S1x1x1024 .f32) (r : Fin 512) : Fin 1024 → EReal := Norm.dgain' Norm.one (Norm.dpre (fun e => x0 (ix2 r e)) (fun e => x1 (ix2 r e)) (fun e => x2 (ix2 r e)) (fun e => x4 (ix3 0 0 e)) (fun e => x5 (ix3 0 0 e))) (fun e => x3 (ix2 r e)) (fun e => x7 (ix3 0 0 e))
def all14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := Norm.dgain' Norm.one (Norm.dpre (fun e => g0 (ix2 r e)) (fun e => g1 (ix2 r e)) (fun e => g2 (ix2 r e)) (fun e => g4 (ix2 10 e)) (fun e => g5 (ix2 16 e))) (fun e => g3 (ix2 r e)) (fun e => g5 (ix2 14 e))

theorem row14 (t : Fin cfg0.N) (r : Fin 512) (d : Fin 1024) : tile14 (iblk m c 0 t) (iblk m c 1 t) (iblk m c 2 t) (iblk m c 3 t) (iblk m c 4 t) (iblk m c 5 t) (iblk m c 6 t) (iblk m c 7 t) r d = all14 (a0 m c) (a1 m c) (a2 m c) (a3 m c) (a4 m c) (a5 m c) (row t r) d := by
  unfold tile14 all14
  simp only [iblk0, iblk1, iblk2, iblk3, iblk4, iblk5, iblk6, iblk7]

/-! ## One grid point -/

set_option maxHeartbeats 1000000 in
theorem outA8 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S512x1024.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = tile8 x0 x1 x2 x3 x4 x5 x6 x7 (y 0) (y 1) := by
  frame_out
  open_payloads
  pointwise [tile8, Norm.dpre, Norm.dscale, Norm.dgain, Norm.dpost, Norm.dgate, Norm.dgain', Norm.back, Norm.width, Norm.rstd, Norm.square, Norm.one, ix3, ix2]

set_option maxHeartbeats 1000000 in
theorem outB8 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S512x1024.Idx) :
    out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = tile8 x0 x1 x2 x3 x4 x5 x6 x7 (y 0) (y 1) := by
  frame_out
  open_payloads
  pointwise [tile8, Norm.dpre, Norm.dscale, Norm.dgain, Norm.dpost, Norm.dgate, Norm.dgain', Norm.back, Norm.width, Norm.rstd, Norm.square, Norm.one, ix3, ix2]

set_option maxHeartbeats 1000000 in
theorem outA9 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S512x1024.Idx) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = tile9 x0 x1 x2 x3 x4 x5 x6 x7 (y 0) (y 1) := by
  frame_out
  open_payloads
  pointwise [tile9, Norm.dpre, Norm.dscale, Norm.dgain, Norm.dpost, Norm.dgate, Norm.dgain', Norm.back, Norm.width, Norm.rstd, Norm.square, Norm.one, ix3, ix2]

set_option maxHeartbeats 1000000 in
theorem outB9 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S512x1024.Idx) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = tile9 x0 x1 x2 x3 x4 x5 x6 x7 (y 0) (y 1) := by
  frame_out
  open_payloads
  pointwise [tile9, Norm.dpre, Norm.dscale, Norm.dgain, Norm.dpost, Norm.dgate, Norm.dgain', Norm.back, Norm.width, Norm.rstd, Norm.square, Norm.one, ix3, ix2]

set_option maxHeartbeats 1000000 in
theorem outA10 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile10 x0 x1 x2 x3 x4 x5 x6 x7 r (y 1) : EReal) := by
  frame_out
  open_payloads
  pointwise [tile10, Norm.dpre, Norm.dscale, Norm.dgain, Norm.dpost, Norm.dgate, Norm.dgain', Norm.back, Norm.width, Norm.rstd, Norm.square, Norm.one, ix3, ix2]

set_option maxHeartbeats 1000000 in
theorem outB10 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo10 y + ∑ r : Fin 512, tile10 x0 x1 x2 x3 x4 x5 x6 x7 r (y 1) : EReal) := by
  frame_out
  open_payloads
  pointwise [tile10, Norm.dpre, Norm.dscale, Norm.dgain, Norm.dpost, Norm.dgate, Norm.dgain', Norm.back, Norm.width, Norm.rstd, Norm.square, Norm.one, ix3, ix2]

set_option maxHeartbeats 1000000 in
theorem outA11 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile11 x0 x1 x2 x3 x4 x5 x6 x7 r (y 1) : EReal) := by
  frame_out
  open_payloads
  pointwise [tile11, Norm.dpre, Norm.dscale, Norm.dgain, Norm.dpost, Norm.dgate, Norm.dgain', Norm.back, Norm.width, Norm.rstd, Norm.square, Norm.one, ix3, ix2]

set_option maxHeartbeats 1000000 in
theorem outB11 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo11 y + ∑ r : Fin 512, tile11 x0 x1 x2 x3 x4 x5 x6 x7 r (y 1) : EReal) := by
  frame_out
  open_payloads
  pointwise [tile11, Norm.dpre, Norm.dscale, Norm.dgain, Norm.dpost, Norm.dgate, Norm.dgain', Norm.back, Norm.width, Norm.rstd, Norm.square, Norm.one, ix3, ix2]

set_option maxHeartbeats 1000000 in
theorem outA12 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile12 x0 x1 x2 x3 x4 x5 x6 x7 r (y 1) : EReal) := by
  frame_out
  open_payloads
  pointwise [tile12, Norm.dpre, Norm.dscale, Norm.dgain, Norm.dpost, Norm.dgate, Norm.dgain', Norm.back, Norm.width, Norm.rstd, Norm.square, Norm.one, ix3, ix2]

set_option maxHeartbeats 1000000 in
theorem outB12 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo12 y + ∑ r : Fin 512, tile12 x0 x1 x2 x3 x4 x5 x6 x7 r (y 1) : EReal) := by
  frame_out
  open_payloads
  pointwise [tile12, Norm.dpre, Norm.dscale, Norm.dgain, Norm.dpost, Norm.dgate, Norm.dgain', Norm.back, Norm.width, Norm.rstd, Norm.square, Norm.one, ix3, ix2]

set_option maxHeartbeats 1000000 in
theorem outA13 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile13 x0 x1 x2 x3 x4 x5 x6 x7 r (y 1) : EReal) := by
  frame_out
  open_payloads
  pointwise [tile13, Norm.dpre, Norm.dscale, Norm.dgain, Norm.dpost, Norm.dgate, Norm.dgain', Norm.back, Norm.width, Norm.rstd, Norm.square, Norm.one, ix3, ix2]

set_option maxHeartbeats 1000000 in
theorem outB13 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo13 y + ∑ r : Fin 512, tile13 x0 x1 x2 x3 x4 x5 x6 x7 r (y 1) : EReal) := by
  frame_out
  open_payloads
  pointwise [tile13, Norm.dpre, Norm.dscale, Norm.dgain, Norm.dpost, Norm.dgate, Norm.dgain', Norm.back, Norm.width, Norm.rstd, Norm.square, Norm.one, ix3, ix2]

set_option maxHeartbeats 1000000 in
theorem outA14 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32)  (h0 : t.val % 8 = 0) (y : S1x1024.Idx) :
    out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) x0 x1 x2 x3 x4 x5 x6 x7  y = (∑ r : Fin 512, tile14 x0 x1 x2 x3 x4 x5 x6 x7 r (y 1) : EReal) := by
  frame_out
  open_payloads
  pointwise [tile14, Norm.dpre, Norm.dscale, Norm.dgain, Norm.dpost, Norm.dgate, Norm.dgain', Norm.back, Norm.width, Norm.rstd, Norm.square, Norm.one, ix3, ix2]

set_option maxHeartbeats 1000000 in
theorem outB14 (c : Dev nD) (t : Fin cfg0.N) (x0 : FVec Ideal S512x1024 .bf16) (x1 : FVec Ideal S512x1024 .f32) (x2 : FVec Ideal S512x1024 .f32) (x3 : FVec Ideal S512x1024 .bf16) (x4 x5 x6 x7 : FVec Ideal S1x1x1024 .f32) (xo10 xo11 xo12 xo13 xo14 : FVec Ideal S1x1024 .f32) (h0 : ¬t.val % 8 = 0) (y : S1x1024.Idx) :
    out0_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) x0 x1 x2 x3 x4 x5 x6 x7 xo10 xo11 xo12 xo13 xo14 y = (xo14 y + ∑ r : Fin 512, tile14 x0 x1 x2 x3 x4 x5 x6 x7 r (y 1) : EReal) := by
  frame_out
  open_payloads
  pointwise [tile14, Norm.dpre, Norm.dscale, Norm.dgain, Norm.dpost, Norm.dgate, Norm.dgain', Norm.back, Norm.width, Norm.rstd, Norm.square, Norm.one, ix3, ix2]

/-- The array: the gradient by the stream. -/
def G8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S4096x1024.Idx → EReal := fun i => all8 g0 g1 g2 g3 g4 g5 (i 0) (i 1)

theorem point8 (t : Fin cfg0.N) (y : S512x1024.Idx) : (outsAt0 m c t.val t.isLt).1 y = tile8 (iblk m c 0 t) (iblk m c 1 t) (iblk m c 2 t) (iblk m c 3 t) (iblk m c 4 t) (iblk m c 5 t) (iblk m c 6 t) (iblk m c 7 t) (y 0) (y 1) := by
  by_cases h0 : t.val % 8 = 0
  · rw [outsAt0_A m c t h0]
    dsimp only
    rw [outA8 (h0 := h0)]
  · rw [outsAt0_B m c t h0]
    dsimp only
    rw [outB8 (h0 := h0)]

theorem arr8 : (dats m 0 c).arrAt 8 cfg0.N = G8 (a0 m c) (a1 m c) (a2 m c) (a3 m c) (a4 m c) (a5 m c) := by
  refine (dats m 0 c).arrAt_eq_of_covers 8 _ (by decide +kernel) fun t hf y => ?_
  blk_simp
  rw [after0_8]
  refine (point8 m c t y).trans ((row8 m c t (y 0) (y 1)).trans (congrArg (G8 (a0 m c) (a1 m c) (a2 m c) (a3 m c) (a4 m c) (a5 m c)) (a₁ := ix2 (row t (y 0)) (y 1)) ?_))
  blk_ext [idx t, row]

/-- The array: the gradient by the sub-layer's output. -/
def G9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S4096x1024.Idx → EReal := fun i => all9 g0 g1 g2 g3 g4 g5 (i 0) (i 1)

theorem point9 (t : Fin cfg0.N) (y : S512x1024.Idx) : (outsAt0 m c t.val t.isLt).2.1 y = tile9 (iblk m c 0 t) (iblk m c 1 t) (iblk m c 2 t) (iblk m c 3 t) (iblk m c 4 t) (iblk m c 5 t) (iblk m c 6 t) (iblk m c 7 t) (y 0) (y 1) := by
  by_cases h0 : t.val % 8 = 0
  · rw [outsAt0_A m c t h0]
    dsimp only
    rw [outA9 (h0 := h0)]
  · rw [outsAt0_B m c t h0]
    dsimp only
    rw [outB9 (h0 := h0)]

theorem arr9 : (dats m 0 c).arrAt 9 cfg0.N = G9 (a0 m c) (a1 m c) (a2 m c) (a3 m c) (a4 m c) (a5 m c) := by
  refine (dats m 0 c).arrAt_eq_of_covers 9 _ (by decide +kernel) fun t hf y => ?_
  blk_simp
  rw [after0_9]
  refine (point9 m c t y).trans ((row9 m c t (y 0) (y 1)).trans (congrArg (G9 (a0 m c) (a1 m c) (a2 m c) (a3 m c) (a4 m c) (a5 m c)) (a₁ := ix2 (row t (y 0)) (y 1)) ?_))
  blk_ext [idx t, row]

/-- The sum over all rows: the gradient by the shift. -/
def G10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all10 g0 g1 g2 g3 g4 g5 r (i 1)

/-- A grid point's share. -/
def part10 (t : Fin cfg0.N) (i : S1x1024.Idx) : EReal := ∑ r : Fin 512, tile10 (iblk m c 0 t) (iblk m c 1 t) (iblk m c 2 t) (iblk m c 3 t) (iblk m c 4 t) (iblk m c 5 t) (iblk m c 6 t) (iblk m c 7 t) r (i 1)

theorem acc10 (t : Fin cfg0.N) (hr : t.val % 8 = 7) (i : S1x1024.Idx) :
    (outsAt0 m c t.val t.isLt).2.2.1 i = (0 + ∑ s : Fin 8, part10 m c ⟨8 * (t.val / 8) + s.val, Pipeline.run_point_lt_of_flush t hr s⟩ i : EReal) :=
  Pipeline.eq_sum_fin_of_reset_step_apply_of_flush (M := EReal) (fun n h => (outsAt0 m c n h).2.2.1) 8 (fun _ => 0) (part10 m c)
    (fun t h i => by
      show (outsAt0 m c t.val t.isLt).2.2.1 i = (0 + part10 m c t i : EReal)
      rw [outsAt0_A m c t h, zero_add]
      dsimp only
      rw [outA10 (h0 := h)]
      rfl)
    (fun t h i => by
      rw [outsAt0_B m c t h]
      dsimp only
      rw [outB10 (h0 := h)]
      rfl) t hr i

theorem parts10 (t : Fin cfg0.N) (hr : t.val % 8 = 7) (i : S1x1024.Idx) :
    (∑ s : Fin 8, part10 m c ⟨8 * (t.val / 8) + s.val, Pipeline.run_point_lt_of_flush t hr s⟩ i : EReal) = G10 (a0 m c) (a1 m c) (a2 m c) (a3 m c) (a4 m c) (a5 m c) i := by
  unfold G10
  rw [Fin.sum_univ_tiles 8 512 rfl]
  refine Finset.sum_congr rfl fun s _ => ?_
  unfold part10
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row10 m c _ r (i 1)).trans (congrArg (fun q => all10 (a0 m c) (a1 m c) (a2 m c) (a3 m c) (a4 m c) (a5 m c) q (i 1)) e)

theorem arr10 : (dats m 0 c).arrAt 10 cfg0.N = G10 (a0 m c) (a1 m c) (a2 m c) (a3 m c) (a4 m c) (a5 m c) := by
  refine (dats m 0 c).arrAt_eq_of_covers 10 _ (by decide +kernel) fun t hf y => ?_
  have hr := (flush0_10 t).mp hf
  blk_simp
  rw [after0_10]
  refine (acc10 m c t hr y).trans ((zero_add _).trans ((parts10 m c t hr y).trans (congrArg (G10 (a0 m c) (a1 m c) (a2 m c) (a3 m c) (a4 m c) (a5 m c)) ?_)))
  blk_ext [idx t]

/-- The sum over all rows: the gradient by the scale. -/
def G11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all11 g0 g1 g2 g3 g4 g5 r (i 1)

/-- A grid point's share. -/
def part11 (t : Fin cfg0.N) (i : S1x1024.Idx) : EReal := ∑ r : Fin 512, tile11 (iblk m c 0 t) (iblk m c 1 t) (iblk m c 2 t) (iblk m c 3 t) (iblk m c 4 t) (iblk m c 5 t) (iblk m c 6 t) (iblk m c 7 t) r (i 1)

theorem acc11 (t : Fin cfg0.N) (hr : t.val % 8 = 7) (i : S1x1024.Idx) :
    (outsAt0 m c t.val t.isLt).2.2.2.1 i = (0 + ∑ s : Fin 8, part11 m c ⟨8 * (t.val / 8) + s.val, Pipeline.run_point_lt_of_flush t hr s⟩ i : EReal) :=
  Pipeline.eq_sum_fin_of_reset_step_apply_of_flush (M := EReal) (fun n h => (outsAt0 m c n h).2.2.2.1) 8 (fun _ => 0) (part11 m c)
    (fun t h i => by
      show (outsAt0 m c t.val t.isLt).2.2.2.1 i = (0 + part11 m c t i : EReal)
      rw [outsAt0_A m c t h, zero_add]
      dsimp only
      rw [outA11 (h0 := h)]
      rfl)
    (fun t h i => by
      rw [outsAt0_B m c t h]
      dsimp only
      rw [outB11 (h0 := h)]
      rfl) t hr i

theorem parts11 (t : Fin cfg0.N) (hr : t.val % 8 = 7) (i : S1x1024.Idx) :
    (∑ s : Fin 8, part11 m c ⟨8 * (t.val / 8) + s.val, Pipeline.run_point_lt_of_flush t hr s⟩ i : EReal) = G11 (a0 m c) (a1 m c) (a2 m c) (a3 m c) (a4 m c) (a5 m c) i := by
  unfold G11
  rw [Fin.sum_univ_tiles 8 512 rfl]
  refine Finset.sum_congr rfl fun s _ => ?_
  unfold part11
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row11 m c _ r (i 1)).trans (congrArg (fun q => all11 (a0 m c) (a1 m c) (a2 m c) (a3 m c) (a4 m c) (a5 m c) q (i 1)) e)

theorem arr11 : (dats m 0 c).arrAt 11 cfg0.N = G11 (a0 m c) (a1 m c) (a2 m c) (a3 m c) (a4 m c) (a5 m c) := by
  refine (dats m 0 c).arrAt_eq_of_covers 11 _ (by decide +kernel) fun t hf y => ?_
  have hr := (flush0_11 t).mp hf
  blk_simp
  rw [after0_11]
  refine (acc11 m c t hr y).trans ((zero_add _).trans ((parts11 m c t hr y).trans (congrArg (G11 (a0 m c) (a1 m c) (a2 m c) (a3 m c) (a4 m c) (a5 m c)) ?_)))
  blk_ext [idx t]

/-- The sum over all rows: the gradient by the next norm's gain. -/
def G12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all12 g0 g1 g2 g3 g4 g5 r (i 1)

/-- A grid point's share. -/
def part12 (t : Fin cfg0.N) (i : S1x1024.Idx) : EReal := ∑ r : Fin 512, tile12 (iblk m c 0 t) (iblk m c 1 t) (iblk m c 2 t) (iblk m c 3 t) (iblk m c 4 t) (iblk m c 5 t) (iblk m c 6 t) (iblk m c 7 t) r (i 1)

theorem acc12 (t : Fin cfg0.N) (hr : t.val % 8 = 7) (i : S1x1024.Idx) :
    (outsAt0 m c t.val t.isLt).2.2.2.2.1 i = (0 + ∑ s : Fin 8, part12 m c ⟨8 * (t.val / 8) + s.val, Pipeline.run_point_lt_of_flush t hr s⟩ i : EReal) :=
  Pipeline.eq_sum_fin_of_reset_step_apply_of_flush (M := EReal) (fun n h => (outsAt0 m c n h).2.2.2.2.1) 8 (fun _ => 0) (part12 m c)
    (fun t h i => by
      show (outsAt0 m c t.val t.isLt).2.2.2.2.1 i = (0 + part12 m c t i : EReal)
      rw [outsAt0_A m c t h, zero_add]
      dsimp only
      rw [outA12 (h0 := h)]
      rfl)
    (fun t h i => by
      rw [outsAt0_B m c t h]
      dsimp only
      rw [outB12 (h0 := h)]
      rfl) t hr i

theorem parts12 (t : Fin cfg0.N) (hr : t.val % 8 = 7) (i : S1x1024.Idx) :
    (∑ s : Fin 8, part12 m c ⟨8 * (t.val / 8) + s.val, Pipeline.run_point_lt_of_flush t hr s⟩ i : EReal) = G12 (a0 m c) (a1 m c) (a2 m c) (a3 m c) (a4 m c) (a5 m c) i := by
  unfold G12
  rw [Fin.sum_univ_tiles 8 512 rfl]
  refine Finset.sum_congr rfl fun s _ => ?_
  unfold part12
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row12 m c _ r (i 1)).trans (congrArg (fun q => all12 (a0 m c) (a1 m c) (a2 m c) (a3 m c) (a4 m c) (a5 m c) q (i 1)) e)

theorem arr12 : (dats m 0 c).arrAt 12 cfg0.N = G12 (a0 m c) (a1 m c) (a2 m c) (a3 m c) (a4 m c) (a5 m c) := by
  refine (dats m 0 c).arrAt_eq_of_covers 12 _ (by decide +kernel) fun t hf y => ?_
  have hr := (flush0_12 t).mp hf
  blk_simp
  rw [after0_12]
  refine (acc12 m c t hr y).trans ((zero_add _).trans ((parts12 m c t hr y).trans (congrArg (G12 (a0 m c) (a1 m c) (a2 m c) (a3 m c) (a4 m c) (a5 m c)) ?_)))
  blk_ext [idx t]

/-- The sum over all rows: the gradient by the gate. -/
def G13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all13 g0 g1 g2 g3 g4 g5 r (i 1)

/-- A grid point's share. -/
def part13 (t : Fin cfg0.N) (i : S1x1024.Idx) : EReal := ∑ r : Fin 512, tile13 (iblk m c 0 t) (iblk m c 1 t) (iblk m c 2 t) (iblk m c 3 t) (iblk m c 4 t) (iblk m c 5 t) (iblk m c 6 t) (iblk m c 7 t) r (i 1)

theorem acc13 (t : Fin cfg0.N) (hr : t.val % 8 = 7) (i : S1x1024.Idx) :
    (outsAt0 m c t.val t.isLt).2.2.2.2.2.1 i = (0 + ∑ s : Fin 8, part13 m c ⟨8 * (t.val / 8) + s.val, Pipeline.run_point_lt_of_flush t hr s⟩ i : EReal) :=
  Pipeline.eq_sum_fin_of_reset_step_apply_of_flush (M := EReal) (fun n h => (outsAt0 m c n h).2.2.2.2.2.1) 8 (fun _ => 0) (part13 m c)
    (fun t h i => by
      show (outsAt0 m c t.val t.isLt).2.2.2.2.2.1 i = (0 + part13 m c t i : EReal)
      rw [outsAt0_A m c t h, zero_add]
      dsimp only
      rw [outA13 (h0 := h)]
      rfl)
    (fun t h i => by
      rw [outsAt0_B m c t h]
      dsimp only
      rw [outB13 (h0 := h)]
      rfl) t hr i

theorem parts13 (t : Fin cfg0.N) (hr : t.val % 8 = 7) (i : S1x1024.Idx) :
    (∑ s : Fin 8, part13 m c ⟨8 * (t.val / 8) + s.val, Pipeline.run_point_lt_of_flush t hr s⟩ i : EReal) = G13 (a0 m c) (a1 m c) (a2 m c) (a3 m c) (a4 m c) (a5 m c) i := by
  unfold G13
  rw [Fin.sum_univ_tiles 8 512 rfl]
  refine Finset.sum_congr rfl fun s _ => ?_
  unfold part13
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row13 m c _ r (i 1)).trans (congrArg (fun q => all13 (a0 m c) (a1 m c) (a2 m c) (a3 m c) (a4 m c) (a5 m c) q (i 1)) e)

theorem arr13 : (dats m 0 c).arrAt 13 cfg0.N = G13 (a0 m c) (a1 m c) (a2 m c) (a3 m c) (a4 m c) (a5 m c) := by
  refine (dats m 0 c).arrAt_eq_of_covers 13 _ (by decide +kernel) fun t hf y => ?_
  have hr := (flush0_13 t).mp hf
  blk_simp
  rw [after0_13]
  refine (acc13 m c t hr y).trans ((zero_add _).trans ((parts13 m c t hr y).trans (congrArg (G13 (a0 m c) (a1 m c) (a2 m c) (a3 m c) (a4 m c) (a5 m c)) ?_)))
  blk_ext [idx t]

/-- The sum over all rows: the gradient by the norm's gain. -/
def G14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) : S1x1024.Idx → EReal := fun i => ∑ r : Fin 4096, all14 g0 g1 g2 g3 g4 g5 r (i 1)

/-- A grid point's share. -/
def part14 (t : Fin cfg0.N) (i : S1x1024.Idx) : EReal := ∑ r : Fin 512, tile14 (iblk m c 0 t) (iblk m c 1 t) (iblk m c 2 t) (iblk m c 3 t) (iblk m c 4 t) (iblk m c 5 t) (iblk m c 6 t) (iblk m c 7 t) r (i 1)

theorem acc14 (t : Fin cfg0.N) (hr : t.val % 8 = 7) (i : S1x1024.Idx) :
    (outsAt0 m c t.val t.isLt).2.2.2.2.2.2 i = (0 + ∑ s : Fin 8, part14 m c ⟨8 * (t.val / 8) + s.val, Pipeline.run_point_lt_of_flush t hr s⟩ i : EReal) :=
  Pipeline.eq_sum_fin_of_reset_step_apply_of_flush (M := EReal) (fun n h => (outsAt0 m c n h).2.2.2.2.2.2) 8 (fun _ => 0) (part14 m c)
    (fun t h i => by
      show (outsAt0 m c t.val t.isLt).2.2.2.2.2.2 i = (0 + part14 m c t i : EReal)
      rw [outsAt0_A m c t h, zero_add]
      dsimp only
      rw [outA14 (h0 := h)]
      rfl)
    (fun t h i => by
      rw [outsAt0_B m c t h]
      dsimp only
      rw [outB14 (h0 := h)]
      rfl) t hr i

theorem parts14 (t : Fin cfg0.N) (hr : t.val % 8 = 7) (i : S1x1024.Idx) :
    (∑ s : Fin 8, part14 m c ⟨8 * (t.val / 8) + s.val, Pipeline.run_point_lt_of_flush t hr s⟩ i : EReal) = G14 (a0 m c) (a1 m c) (a2 m c) (a3 m c) (a4 m c) (a5 m c) i := by
  unfold G14
  rw [Fin.sum_univ_tiles 8 512 rfl]
  refine Finset.sum_congr rfl fun s _ => ?_
  unfold part14
  refine Finset.sum_congr rfl fun r _ => ?_
  have hz : t.val / 8 = 0 := by have := lt_8 t; omega
  have e : row ⟨8 * (t.val / 8) + s.val, Pipeline.run_point_lt_of_flush t hr s⟩ r = ⟨s.val * 512 + r.val, by have := s.isLt; have := r.isLt; omega⟩ :=
    Fin.ext (by simp only [row, hz]; omega)
  exact (row14 m c _ r (i 1)).trans (congrArg (fun q => all14 (a0 m c) (a1 m c) (a2 m c) (a3 m c) (a4 m c) (a5 m c) q (i 1)) e)

theorem arr14 : (dats m 0 c).arrAt 14 cfg0.N = G14 (a0 m c) (a1 m c) (a2 m c) (a3 m c) (a4 m c) (a5 m c) := by
  refine (dats m 0 c).arrAt_eq_of_covers 14 _ (by decide +kernel) fun t hf y => ?_
  have hr := (flush0_14 t).mp hf
  blk_simp
  rw [after0_14]
  refine (acc14 m c t hr y).trans ((zero_add _).trans ((parts14 m c t hr y).trans (congrArg (G14 (a0 m c) (a1 m c) (a2 m c) (a3 m c) (a4 m c) (a5 m c)) ?_)))
  blk_ext [idx t]

/-! ## The reference -/

/-- The gradient by the normed row, in the reference's order. -/
def grad (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := fun e => g0 (ix2 r e) * (Norm.one + g5 (ix2 16 e)) * g4 (ix2 10 e)

open Cert.NormLinkBwd5RefIdeal.Read in
theorem ref_lines (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) :
    val_main_v51 (F := Ideal) g0 g1 g2 g4 g5 (ix2 s a) = (g2 (ix2 s a) + Norm.lines (fun e => g1 (ix2 s e)) (grad g0 g1 g2 g3 g4 g5 s) a : EReal) := by
  unfold val_main_v51 val_main_v50 val_main_v48 val_main_v49 val_main_v41 val_main_v47 val_main_v40 val_main_v46
    val_main_v45 val_main_v44 val_main_cst_9 val_main_v42 val_main_v43 val_main_v39 val_main_v13 val_main_cst_8
    val_main_v38 val_main_v12 val_main_v11 val_main_v10 val_main_v37 val_main_cst_7 val_main_cst_2 val_main_v36
    val_main_v9 val_main_v31 val_main_v35 val_main_v7 val_main_v8 val_main_v24 val_main_v30 val_main_v0
    val_main_v5 val_main_v6 val_main_cst_1 val_main_v19 val_main_v4 val_main_cst_0 val_main_v18 val_main_v1
    val_main_v3 val_main_cst val_main_cst_3
  pointwise [grad, Norm.lines, Norm.share, Norm.mhalf, Norm.width, Norm.rstd, Norm.square, Norm.one]
  simp only [Finset.univ_unique, Finset.sum_const, Finset.card_singleton, one_smul]

theorem grad_eq (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : grad g0 g1 g2 g3 g4 g5 r = fun e => g0 (ix2 r e) * (g4 (ix2 10 e) * (Norm.one + g5 (ix2 16 e))) :=
  funext fun e => (mul_assoc _ _ _).trans (congrArg (fun z : EReal => g0 (ix2 r e) * z) (mul_comm _ _))

open Cert.NormLinkBwd5RefIdeal.Read in
theorem ref8 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) : val_main_v51 (F := Ideal) g0 g1 g2 g4 g5 (ix2 s a) = all8 g0 g1 g2 g3 g4 g5 s a := by
  rw [ref_lines g0 g1 g2 g3 g4 g5, Norm.back_eq, grad_eq]
  rfl

/-- The gradient by the sub-layer's normed output, in the reference's order. -/
def grad' (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : Fin 1024 → EReal := fun e => Norm.one * (Norm.one + g5 (ix2 14 e)) * all8 g0 g1 g2 g3 g4 g5 r e * g4 (ix2 9 e)

open Cert.NormLinkBwd5RefIdeal.Read in
theorem ref_lines' (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) :
    val_main_v102 (F := Ideal) g0 g1 g2 g3 g4 g5 (ix2 s a) = (Norm.lines (fun e => g3 (ix2 s e)) (grad' g0 g1 g2 g3 g4 g5 s) a : EReal) := by
  unfold val_main_v102 val_main_v99 val_main_v97 val_main_v98 val_main_v90 val_main_v96 val_main_v89 val_main_v95
    val_main_v94 val_main_v93 val_main_cst_20 val_main_v91 val_main_v92 val_main_v88 val_main_v68 val_main_cst_19
    val_main_v87 val_main_v67 val_main_v66 val_main_v65 val_main_v86 val_main_cst_18 val_main_cst_15 val_main_v85
    val_main_v64 val_main_v77 val_main_v84 val_main_v62 val_main_v63 val_main_v76 val_main_v52 val_main_v60
    val_main_v61 val_main_cst_14 val_main_v57 val_main_v59 val_main_cst_13 val_main_v56 val_main_v55 val_main_v58
    val_main_cst_12 val_main_cst_11 val_main_v54 val_main_v53 val_main_cst_10
  pointwise [grad', Norm.lines, Norm.share, Norm.mhalf, Norm.width, Norm.rstd, Norm.square, Norm.one]
  simp only [ref8 g0 g1 g2 g3 g4 g5, Finset.univ_unique, Finset.sum_const, Finset.card_singleton, one_smul]

theorem grad'_eq (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (r : Fin 4096) : grad' g0 g1 g2 g3 g4 g5 r = fun e => all8 g0 g1 g2 g3 g4 g5 r e * (Norm.one * (Norm.one + g5 (ix2 14 e))) * g4 (ix2 9 e) :=
  funext fun e => congrArg (fun z : EReal => z * g4 (ix2 9 e)) (mul_comm _ _)

open Cert.NormLinkBwd5RefIdeal.Read in
theorem ref9 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (s : Fin 4096) (a : Fin 1024) : val_main_v102 (F := Ideal) g0 g1 g2 g3 g4 g5 (ix2 s a) = G9 g0 g1 g2 g3 g4 g5 (ix2 s a) := by
  rw [ref_lines', Norm.back_eq, grad'_eq]
  rfl

open Cert.NormLinkBwd5RefIdeal.Read in
theorem ref10 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v26 (F := Ideal) g0 (ix2 z a) = G10 g0 g1 g2 g3 g4 g5 (ix2 z a) := by
  obtain rfl : z = 0 := Subsingleton.elim _ _
  unfold val_main_v26 val_main_v25 val_main_cst_4
  pointwise [G10, all10, Norm.one]

open Cert.NormLinkBwd5RefIdeal.Read in
theorem ref11 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v29 (F := Ideal) g0 g1 g4 (ix2 z a) = G11 g0 g1 g2 g3 g4 g5 (ix2 z a) := by
  obtain rfl : z = 0 := Subsingleton.elim _ _
  unfold val_main_v29 val_main_v28 val_main_v27 val_main_cst_5 val_main_v17 val_main_v24 val_main_v15 val_main_v16
    val_main_v14 val_main_v0 val_main_v10 val_main_v9 val_main_v7 val_main_v8 val_main_v5 val_main_v6
    val_main_cst_1 val_main_v4 val_main_cst_0 val_main_v3 val_main_cst
  pointwise [G11, all11, Norm.dscale, Norm.rstd, Norm.square]
  exact Finset.sum_congr rfl fun _ _ => mul_comm _ _

open Cert.NormLinkBwd5RefIdeal.Read in
theorem ref12 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v34 (F := Ideal) g0 g1 g5 (ix2 z a) = G12 g0 g1 g2 g3 g4 g5 (ix2 z a) := by
  obtain rfl : z = 0 := Subsingleton.elim _ _
  unfold val_main_v34 val_main_v33 val_main_v32 val_main_cst_6 val_main_v15 val_main_v31 val_main_v14 val_main_v24
    val_main_v30 val_main_v10 val_main_v19 val_main_v9 val_main_v18 val_main_v1 val_main_v7 val_main_v8
    val_main_cst_3 val_main_v5 val_main_v6 val_main_cst_1 val_main_v4 val_main_cst_0 val_main_v3 val_main_cst
  pointwise [G12, all12, Norm.dgain, Norm.rstd, Norm.square, Norm.one]
  refine Finset.sum_congr rfl fun _ _ => ?_
  rw [mul_comm, mul_assoc]

open Cert.NormLinkBwd5RefIdeal.Read in
theorem ref13 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v101 (F := Ideal) g0 g1 g2 g3 g4 g5 (ix2 z a) = G13 g0 g1 g2 g3 g4 g5 (ix2 z a) := by
  refine Eq.trans (b := (Norm.one * ∑ r : Fin 4096, all8 g0 g1 g2 g3 g4 g5 r a * (g3 (ix2 r a) * Norm.rstd (fun e => g3 (ix2 r e)) * g4 (ix2 9 a)) : EReal)) ?_ (Norm.one_sum _ _)
  obtain rfl : z = 0 := Subsingleton.elim _ _
  unfold val_main_v101 val_main_v100 val_main_v80 val_main_cst_21 val_main_v79 val_main_v78 val_main_cst_16
    val_main_v72 val_main_v70 val_main_v71 val_main_v69 val_main_v52 val_main_v65 val_main_v64 val_main_v62
    val_main_v63 val_main_v60 val_main_v61 val_main_cst_14 val_main_v59 val_main_cst_13 val_main_v58
    val_main_cst_12
  pointwise [Norm.one, Norm.rstd, Norm.square]
  simp only [ref8 g0 g1 g2 g3 g4 g5]

open Cert.NormLinkBwd5RefIdeal.Read in
theorem ref14 (g0 : FVec Ideal S4096x1024 .f32) (g1 : FVec Ideal S4096x1024 .f32) (g2 : FVec Ideal S4096x1024 .f32) (g3 : FVec Ideal S4096x1024 .f32) (g4 : FVec Ideal S12x1024 .f32) (g5 : FVec Ideal S18x1024 .f32) (z : Fin 1) (a : Fin 1024) : val_main_v83 (F := Ideal) g0 g1 g2 g3 g4 g5 (ix2 z a) = G14 g0 g1 g2 g3 g4 g5 (ix2 z a) := by
  refine Eq.trans (b := (∑ r : Fin 4096, g3 (ix2 r a) * Norm.rstd (fun e => g3 (ix2 r e)) * (Norm.one * (Norm.one + g5 (ix2 14 a)) * all8 g0 g1 g2 g3 g4 g5 r a) : EReal)) ?_
    (Finset.sum_congr rfl fun _ _ => (mul_comm _ _).trans (congrArg (fun z : EReal => z * _) (mul_comm _ _)))
  obtain rfl : z = 0 := Subsingleton.elim _ _
  unfold val_main_v83 val_main_v82 val_main_v81 val_main_cst_17 val_main_v70 val_main_v77 val_main_v69 val_main_v76
    val_main_v65 val_main_v57 val_main_v64 val_main_v56 val_main_v55 val_main_v62 val_main_v63 val_main_cst_11
    val_main_v54 val_main_v53 val_main_v60 val_main_v61 val_main_cst_14 val_main_cst_10 val_main_v59
    val_main_cst_13 val_main_v58 val_main_cst_12
  pointwise [Norm.one, Norm.rstd, Norm.square, Norm.one]
  simp only [ref8 g0 g1 g2 g3 g4 g5]

theorem frame_ref : Cert.quiescent_NormLinkBwd5RefIdeal := by
  intro m ρ _
  exact (θ_run Cert.NormLinkBwd5RefIdeal.defs _ _).mono (fun r h => ⟨fun c => (h c).2.2.2.2.2.2.2, sem_eq_zero_of_no_sems (by decide) r.2⟩)
    (Cert.NormLinkBwd5RefIdeal.Value.run m ρ)

theorem algebraic : Cert.algebraic_NormLinkBwd5Ideal_NormLinkBwd5RefIdeal := by
  intro m g m' g' _ hagree
  refine ⟨_, _, _, _, _, _, _, Cert.NormLinkBwd5Ideal.Value.run_blocks m g, ?_⟩
  refine (θ_run Cert.NormLinkBwd5RefIdeal.defs _ _).mono (fun r h c => ?_) (Cert.NormLinkBwd5RefIdeal.Value.run m' g')
  obtain ⟨h8, h9, h10, h11, h12, h13, h14, hk⟩ := h c
  obtain ⟨g0, g1, g2, g3, g4, g5⟩ := hagree c
  refine ⟨?_, ?_, ?_, ?_, ?_, ?_, ?_, hk⟩
  · refine h8.trans ((Cert.NormLinkBwd5RefIdeal.Read.val_main_v51_eq _ _).trans ?_)
    rw [g0, g1, g2, g4, g5, arr8]
    funext i
    rw [eq_ix2 i]
    exact ref8 _ _ _ _ _ _ _ _
  · refine h9.trans ((Cert.NormLinkBwd5RefIdeal.Read.val_main_v102_eq _ _).trans ?_)
    rw [g0, g1, g2, g3, g4, g5, arr9]
    funext i
    rw [eq_ix2 i]
    exact ref9 _ _ _ _ _ _ _ _
  · refine h10.trans ((Cert.NormLinkBwd5RefIdeal.Read.val_main_v26_eq (F := Ideal) _).trans ?_)
    rw [g0, arr10]
    funext i
    rw [eq_ix2 i]
    exact ref10 _ _ _ _ _ _ _ _
  · refine h11.trans ((Cert.NormLinkBwd5RefIdeal.Read.val_main_v29_eq (F := Ideal) _ _ _).trans ?_)
    rw [g0, g1, g4, arr11]
    funext i
    rw [eq_ix2 i]
    exact ref11 _ _ _ _ _ _ _ _
  · refine h12.trans ((Cert.NormLinkBwd5RefIdeal.Read.val_main_v34_eq (F := Ideal) _ _ _).trans ?_)
    rw [g0, g1, g5, arr12]
    funext i
    rw [eq_ix2 i]
    exact ref12 _ _ _ _ _ _ _ _
  · refine h13.trans ((Cert.NormLinkBwd5RefIdeal.Read.val_main_v101_eq _ _).trans ?_)
    rw [g0, g1, g2, g3, g4, g5, arr13]
    funext i
    rw [eq_ix2 i]
    exact ref13 _ _ _ _ _ _ _ _
  · refine h14.trans ((Cert.NormLinkBwd5RefIdeal.Read.val_main_v83_eq _ _).trans ?_)
    rw [g0, g1, g2, g3, g4, g5, arr14]
    funext i
    rw [eq_ix2 i]
    exact ref14 _ _ _ _ _ _ _ _

end Cert.LinkBack5

end
-- ==== Proof.AdamNorm.lean ====
/-
  The optimiser's step on a weight: the kernel takes all rows at once and adds the eight parts of the gradient up one
  after the other; the four arrays it leaves are the reference's, for any arguments.
-/
module

public import proofs.«01_k».proof.Defs
public import proofs.«01_k».proof.Proof.Gen.AdamNormIdeal.Value
public import proofs.«01_k».proof.Proof.Gen.AdamNormRefIdeal.Run
public import proofs.«01_k».proof.Proof.Gen.AdamNormRefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.GainStep

open Cert.AdamNormIdeal Cert.AdamNormIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x12x128 .f32 := m ((c.tc : Thread nD τ).loc main_arg0)
abbrev a1 : FVec Ideal S12x128 .f32 := m ((c.tc : Thread nD τ).loc main_arg1)
abbrev a2 : FVec Ideal S12x128 .f32 := m ((c.tc : Thread nD τ).loc main_arg2)
abbrev a3 : FVec Ideal S12x128 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_1 (t : Fin cfg0.N) : t.val < 1 := lt_of_lt_of_eq t.isLt (show cfg0.N = 1 from N_0)

/-- Row `r` of a grid point's tile. -/
def row (t : Fin cfg0.N) (r : Fin 12) : Fin 12 := ⟨t.val * 12 + r.val, by have := lt_1 t; have := r.isLt; omega⟩

theorem iblk0 (t : Fin cfg0.N) (k : Fin 8) (r : Fin 12) (d : Fin 128) : iblk m c 0 t (ix3 k r d) = a0 m c (ix3 k (row t r) d) := by
  blk_ext [iblk, idx t, row]

theorem iblk1 (t : Fin cfg0.N) (r : Fin 12) (d : Fin 128) : iblk m c 1 t (ix2 r d) = a1 m c (ix2 (row t r) d) := by
  blk_ext [iblk, idx t, row]

theorem iblk2 (t : Fin cfg0.N) (r : Fin 12) (d : Fin 128) : iblk m c 2 t (ix2 r d) = a2 m c (ix2 (row t r) d) := by
  blk_ext [iblk, idx t, row]

theorem iblk3 (t : Fin cfg0.N) (r : Fin 12) (d : Fin 128) : iblk m c 3 t (ix2 r d) = a3 m c (ix2 (row t r) d) := by
  blk_ext [iblk, idx t, row]

/-- The gradient: the sum of its parts. -/
def grad (x0 : FVec Ideal S8x12x128 .f32) (y : S12x128.Idx) : EReal := ∑ k : Fin 8, x0 (ix3 k (y 0) (y 1))

theorem out4_apply (x0 : FVec Ideal S8x12x128 .f32) (x1 x2 x3 : FVec Ideal S12x128 .f32) (y : S12x128.Idx) :
    out0_4 (F := Ideal) x0 x1 x2 x3 y = grad x0 y := by
  rw [grad, ← Step.sum_parts]
  frame_out
  open_payloads
  pointwise [ix3]

theorem out5_apply (x0 : FVec Ideal S8x12x128 .f32) (x1 x2 x3 : FVec Ideal S12x128 .f32) (y : S12x128.Idx) :
    out0_5 (F := Ideal) x0 x1 x2 x3 y = Step.delta (grad x0 y) (x1 y) (x2 y) (x3 y) := by
  rw [grad, ← Step.sum_parts]
  frame_out
  open_payloads
  pointwise [ix3, Step.delta, Step.mom, Step.sec]

theorem out6_apply (x0 : FVec Ideal S8x12x128 .f32) (x1 x2 x3 : FVec Ideal S12x128 .f32) (y : S12x128.Idx) :
    out0_6 (F := Ideal) x0 x1 x2 x3 y = Step.mom (grad x0 y) (x2 y) := by
  rw [grad, ← Step.sum_parts]
  frame_out
  open_payloads
  pointwise [ix3, Step.mom]

theorem out7_apply (x0 : FVec Ideal S8x12x128 .f32) (x1 x2 x3 : FVec Ideal S12x128 .f32) (y : S12x128.Idx) :
    out0_7 (F := Ideal) x0 x1 x2 x3 y = Step.sec (grad x0 y) (x3 y) := by
  rw [grad, ← Step.sum_parts]
  frame_out
  open_payloads
  pointwise [ix3, Step.sec]

/-- The arrays the kernel leaves. -/
def G4 (x0 : FVec Ideal S8x12x128 .f32) : S12x128.Idx → EReal := fun i => ∑ k : Fin 8, x0 (ix3 k (i 0) (i 1))
def G5 (x0 : FVec Ideal S8x12x128 .f32) (x1 x2 x3 : FVec Ideal S12x128 .f32) : S12x128.Idx → EReal :=
  fun i => Step.delta (G4 x0 i) (x1 i) (x2 i) (x3 i)
def G6 (x0 : FVec Ideal S8x12x128 .f32) (x2 : FVec Ideal S12x128 .f32) : S12x128.Idx → EReal := fun i => Step.mom (G4 x0 i) (x2 i)
def G7 (x0 : FVec Ideal S8x12x128 .f32) (x3 : FVec Ideal S12x128 .f32) : S12x128.Idx → EReal := fun i => Step.sec (G4 x0 i) (x3 i)

theorem grad_eq (t : Fin cfg0.N) (y : S12x128.Idx) : grad (iblk m c 0 t) y = G4 (a0 m c) (ix2 (row t (y 0)) (y 1)) :=
  Finset.sum_congr rfl fun k _ => iblk0 m c t k (y 0) (y 1)

theorem blk1 (t : Fin cfg0.N) (y : S12x128.Idx) : iblk m c 1 t y = a1 m c (ix2 (row t (y 0)) (y 1)) :=
  (congrArg (iblk m c 1 t) (eq_ix2 y)).trans (iblk1 m c t (y 0) (y 1))

theorem blk2 (t : Fin cfg0.N) (y : S12x128.Idx) : iblk m c 2 t y = a2 m c (ix2 (row t (y 0)) (y 1)) :=
  (congrArg (iblk m c 2 t) (eq_ix2 y)).trans (iblk2 m c t (y 0) (y 1))

theorem blk3 (t : Fin cfg0.N) (y : S12x128.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamNormRefIdeal.Read in
theorem ref4 (x0 : FVec Ideal S8x12x128 .f32) (s : Fin 12) (a : Fin 128) :
    val_main_v0 (F := Ideal) x0 (ix2 s a) = G4 x0 (ix2 s a) := by
  unfold val_main_v0 val_main_cst
  pointwise [G4]

open Cert.AdamNormRefIdeal.Read in
theorem ref6 (x0 : FVec Ideal S8x12x128 .f32) (x2 : FVec Ideal S12x128 .f32) (s : Fin 12) (a : Fin 128) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamNormRefIdeal.Read in
theorem ref7 (x0 : FVec Ideal S8x12x128 .f32) (x3 : FVec Ideal S12x128 .f32) (s : Fin 12) (a : Fin 128) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamNormRefIdeal.Read in
theorem ref5 (x0 : FVec Ideal S8x12x128 .f32) (x1 x2 x3 : FVec Ideal S12x128 .f32) (s : Fin 12) (a : Fin 128) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamNormRefIdeal := by
  intro m ρ _
  exact (θ_run Cert.AdamNormRefIdeal.defs _ _).mono (fun r h => ⟨fun c => (h c).2.2.2.2, sem_eq_zero_of_no_sems (by decide) r.2⟩)
    (Cert.AdamNormRefIdeal.Value.run m ρ)

theorem algebraic : Cert.algebraic_AdamNormIdeal_AdamNormRefIdeal := by
  intro m g m' g' _ hagree
  refine ⟨_, _, _, _, Cert.AdamNormIdeal.Value.run_blocks m g, ?_⟩
  refine (θ_run Cert.AdamNormRefIdeal.defs _ _).mono (fun r h c => ?_) (Cert.AdamNormRefIdeal.Value.run m' g')
  obtain ⟨h4, h5, h6, h7, hk⟩ := h c
  obtain ⟨g0, g1, g2, g3⟩ := hagree c
  refine ⟨h4.trans ((Cert.AdamNormRefIdeal.Read.val_main_v0_eq _).trans ?_), h5.trans ((Cert.AdamNormRefIdeal.Read.val_main_v24_eq _ _ _ _).trans ?_),
    h6.trans ((Cert.AdamNormRefIdeal.Read.val_main_v5_eq _ _).trans ?_), h7.trans ((Cert.AdamNormRefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.GainStep

end
-- ==== Proof.AdamScale.lean ====
/-
  The optimiser's step on a weight: the kernel takes all rows at once and adds the eight parts of the gradient up one
  after the other; the four arrays it leaves are the reference's, for any arguments.
-/
module

public import proofs.«01_k».proof.Defs
public import proofs.«01_k».proof.Proof.Gen.AdamScaleIdeal.Value
public import proofs.«01_k».proof.Proof.Gen.AdamScaleRefIdeal.Run
public import proofs.«01_k».proof.Proof.Gen.AdamScaleRefIdeal.Read
public import proofs.«01_k».proof.Proof.AdamStep
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.ScaleStep

open Cert.AdamScaleIdeal Cert.AdamScaleIdeal.Gen Idealize.ShloMosaic Idealize.ShloMosaic.TcCoe Idealize.SL.Sem

variable (m : (ℓ : Loc nD τ sig) → Buf (Elt Ideal) ℓ) (c : Dev nD)

/-- The arguments of the program on a device. -/
abbrev a0 : FVec Ideal S8x1x1024 .f32 := m ((c.tc : Thread nD τ).loc main_arg0)
abbrev a1 : FVec Ideal S1x1024 .f32 := m ((c.tc : Thread nD τ).loc main_arg1)
abbrev a2 : FVec Ideal S1x1024 .f32 := m ((c.tc : Thread nD τ).loc main_arg2)
abbrev a3 : FVec Ideal S1x1024 .f32 := m ((c.tc : Thread nD τ).loc main_arg3)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_1 (t : Fin cfg0.N) : t.val < 1 := lt_of_lt_of_eq t.isLt (show cfg0.N = 1 from N_0)

/-- Row `r` of a grid point's tile. -/
def row (t : Fin cfg0.N) (r : Fin 1) : Fin 1 := ⟨t.val * 1 + r.val, by have := lt_1 t; have := r.isLt; omega⟩

theorem iblk0 (t : Fin cfg0.N) (k : Fin 8) (r : Fin 1) (d : Fin 1024) : iblk m c 0 t (ix3 k r d) = a0 m c (ix3 k (row t r) d) := by
  blk_ext [iblk, idx t, row]

theorem iblk1 (t : Fin cfg0.N) (r : Fin 1) (d : Fin 1024) : iblk m c 1 t (ix2 r d) = a1 m c (ix2 (row t r) d) := by
  blk_ext [iblk, idx t, row]

theorem iblk2 (t : Fin cfg0.N) (r : Fin 1) (d : Fin 1024) : iblk m c 2 t (ix2 r d) = a2 m c (ix2 (row t r) d) := by
  blk_ext [iblk, idx t, row]

theorem iblk3 (t : Fin cfg0.N) (r : Fin 1) (d : Fin 1024) : iblk m c 3 t (ix2 r d) = a3 m c (ix2 (row t r) d) := by
  blk_ext [iblk, idx t, row]

/-- The gradient: the sum of its parts. -/
def grad (x0 : FVec Ideal S8x1x1024 .f32) (y : S1x1024.Idx) : EReal := ∑ k : Fin 8, x0 (ix3 k (y 0) (y 1))

theorem out4_apply (x0 : FVec Ideal S8x1x1024 .f32) (x1 x2 x3 : FVec Ideal S1x1024 .f32) (y : S1x1024.Idx) :
    out0_4 (F := Ideal) x0 x1 x2 x3 y = grad x0 y := by
  rw [grad, ← Step.sum_parts, show y 0 = (0 : Fin 1) from Subsingleton.elim (α := Fin 1) _ _]
  frame_out
  open_payloads
  pointwise [ix3]

theorem out5_apply (x0 : FVec Ideal S8x1x1024 .f32) (x1 x2 x3 : FVec Ideal S1x1024 .f32) (y : S1x1024.Idx) :
    out0_5 (F := Ideal) x0 x1 x2 x3 y = Step.delta (grad x0 y) (x1 y) (x2 y) (x3 y) := by
  rw [grad, ← Step.sum_parts, show y 0 = (0 : Fin 1) from Subsingleton.elim (α := Fin 1) _ _]
  frame_out
  open_payloads
  pointwise [ix3, Step.delta, Step.mom, Step.sec]

theorem out6_apply (x0 : FVec Ideal S8x1x1024 .f32) (x1 x2 x3 : FVec Ideal S1x1024 .f32) (y : S1x1024.Idx) :
    out0_6 (F := Ideal) x0 x1 x2 x3 y = Step.mom (grad x0 y) (x2 y) := by
  rw [grad, ← Step.sum_parts, show y 0 = (0 : Fin 1) from Subsingleton.elim (α := Fin 1) _ _]
  frame_out
  open_payloads
  pointwise [ix3, Step.mom]

theorem out7_apply (x0 : FVec Ideal S8x1x1024 .f32) (x1 x2 x3 : FVec Ideal S1x1024 .f32) (y : S1x1024.Idx) :
    out0_7 (F := Ideal) x0 x1 x2 x3 y = Step.sec (grad x0 y) (x3 y) := by
  rw [grad, ← Step.sum_parts, show y 0 = (0 : Fin 1) from Subsingleton.elim (α := Fin 1) _ _]
  frame_out
  open_payloads
  pointwise [ix3, Step.sec]

/-- The arrays the kernel leaves. -/
def G4 (x0 : FVec Ideal S8x1x1024 .f32) : S1x1024.Idx → EReal := fun i => ∑ k : Fin 8, x0 (ix3 k (i 0) (i 1))
def G5 (x0 : FVec Ideal S8x1x1024 .f32) (x1 x2 x3 : FVec Ideal S1x1024 .f32) : S1x1024.Idx → EReal :=
  fun i => Step.delta (G4 x0 i) (x1 i) (x2 i) (x3 i)
def G6 (x0 : FVec Ideal S8x1x1024 .f32) (x2 : FVec Ideal S1x1024 .f32) : S1x1024.Idx → EReal := fun i => Step.mom (G4 x0 i) (x2 i)
def G7 (x0 : FVec Ideal S8x1x1024 .f32) (x3 : FVec Ideal S1x1024 .f32) : S1x1024.Idx → EReal := fun i => Step.sec (G4 x0 i) (x3 i)

theorem grad_eq (t : Fin cfg0.N) (y : S1x1024.Idx) : grad (iblk m c 0 t) y = G4 (a0 m c) (ix2 (row t (y 0)) (y 1)) :=
  Finset.sum_congr rfl fun k _ => iblk0 m c t k (y 0) (y 1)

theorem blk1 (t : Fin cfg0.N) (y : S1x1024.Idx) : iblk m c 1 t y = a1 m c (ix2 (row t (y 0)) (y 1)) :=
  (congrArg (iblk m c 1 t) (eq_ix2 y)).trans (iblk1 m c t (y 0) (y 1))

theorem blk2 (t : Fin cfg0.N) (y : S1x1024.Idx) : iblk m c 2 t y = a2 m c (ix2 (row t (y 0)) (y 1)) :=
  (congrArg (iblk m c 2 t) (eq_ix2 y)).trans (iblk2 m c t (y 0) (y 1))

theorem blk3 (t : Fin cfg0.N) (y : S1x1024.Idx) : iblk m c 3 t y = a3 m c (ix2 (row t (y 0)) (y 1)) :=
  (congrArg (iblk m c 3 t) (eq_ix2 y)).trans (iblk3 m c t (y 0) (y 1))

theorem arr4 : (dats m 0 c).arrAt 4 cfg0.N = G4 (a0 m c) := by
  refine (dats m 0 c).arrAt_eq_of_covers 4 _ (by decide +kernel) fun t hf y => ?_
  blk_simp
  rw [after0_4, out4_apply]
  refine (grad_eq m c t y).trans (congrArg (G4 (a0 m c)) ?_)
  blk_ext [idx t, row]

theorem arr5 : (dats m 0 c).arrAt 5 cfg0.N = G5 (a0 m c) (a1 m c) (a2 m c) (a3 m c) := by
  refine (dats m 0 c).arrAt_eq_of_covers 5 _ (by decide +kernel) fun t hf y => ?_
  blk_simp
  rw [after0_5, out5_apply]
  refine Eq.trans (b := G5 (a0 m c) (a1 m c) (a2 m c) (a3 m c) (ix2 (row t (y 0)) (y 1))) ?_ (congrArg (G5 (a0 m c) (a1 m c) (a2 m c) (a3 m c)) ?_)
  · rw [grad_eq, blk1, blk2, blk3]
    rfl
  · blk_ext [idx t, row]

theorem arr6 : (dats m 0 c).arrAt 6 cfg0.N = G6 (a0 m c) (a2 m c) := by
  refine (dats m 0 c).arrAt_eq_of_covers 6 _ (by decide +kernel) fun t hf y => ?_
  blk_simp
  rw [after0_6, out6_apply]
  refine Eq.trans (b := G6 (a0 m c) (a2 m c) (ix2 (row t (y 0)) (y 1))) ?_ (congrArg (G6 (a0 m c) (a2 m c)) ?_)
  · rw [grad_eq, blk2]
    rfl
  · blk_ext [idx t, row]

theorem arr7 : (dats m 0 c).arrAt 7 cfg0.N = G7 (a0 m c) (a3 m c) := by
  refine (dats m 0 c).arrAt_eq_of_covers 7 _ (by decide +kernel) fun t hf y => ?_
  blk_simp
  rw [after0_7, out7_apply]
  refine Eq.trans (b := G7 (a0 m c) (a3 m c) (ix2 (row t (y 0)) (y 1))) ?_ (congrArg (G7 (a0 m c) (a3 m c)) ?_)
  · rw [grad_eq, blk3]
    rfl
  · blk_ext [idx t, row]

open Cert.AdamScaleRefIdeal.Read in
theorem ref4 (x0 : FVec Ideal S8x1x1024 .f32) (s : Fin 1) (a : Fin 1024) :
    val_main_v0 (F := Ideal) x0 (ix2 s a) = G4 x0 (ix2 s a) := by
  obtain rfl : s = 0 := Subsingleton.elim _ _
  unfold val_main_v0 val_main_cst
  pointwise [G4]

open Cert.AdamScaleRefIdeal.Read in
theorem ref6 (x0 : FVec Ideal S8x1x1024 .f32) (x2 : FVec Ideal S1x1024 .f32) (s : Fin 1) (a : Fin 1024) :
    val_main_v5 (F := Ideal) x0 x2 (ix2 s a) = G6 x0 x2 (ix2 s a) := by
  unfold G6
  rw [← ref4]
  unfold val_main_v5 val_main_v4 val_main_v3 val_main_v2 val_main_v1 val_main_cst_0 val_main_cst_1
  pointwise [Step.mom]

open Cert.AdamScaleRefIdeal.Read in
theorem ref7 (x0 : FVec Ideal S8x1x1024 .f32) (x3 : FVec Ideal S1x1024 .f32) (s : Fin 1) (a : Fin 1024) :
    val_main_v11 (F := Ideal) x0 x3 (ix2 s a) = G7 x0 x3 (ix2 s a) := by
  unfold G7
  rw [← ref4]
  unfold val_main_v11 val_main_v10 val_main_v9 val_main_v8 val_main_v7 val_main_v6 val_main_cst_2 val_main_cst_3
  pointwise [Step.sec]

open Cert.AdamScaleRefIdeal.Read in
theorem ref5 (x0 : FVec Ideal S8x1x1024 .f32) (x1 x2 x3 : FVec Ideal S1x1024 .f32) (s : Fin 1) (a : Fin 1024) :
    val_main_v24 (F := Ideal) x0 x1 x2 x3 (ix2 s a) = G5 x0 x1 x2 x3 (ix2 s a) := by
  show _ = Step.delta _ _ _ _
  unfold Step.delta
  change _ = Ideal.ofBits .f32 0xBA83126F#32 * (Ideal.div (Ideal.div (G6 x0 x2 (ix2 s a)) _) (Ideal.sqrt (Ideal.div (G7 x0 x3 (ix2 s a)) _) + _) + _)
  rw [← ref6, ← ref7]
  unfold val_main_v24 val_main_v23 val_main_v22 val_main_v21 val_main_v20 val_main_v19 val_main_v18 val_main_v17 val_main_v16 val_main_v15 val_main_v14
    val_main_v13 val_main_v12 val_main_cst_4 val_main_cst_5 val_main_cst_6 val_main_cst_7 val_main_cst_8
  pointwise []

theorem frame_ref : Cert.quiescent_AdamScaleRefIdeal := by
  intro m ρ _
  exact (θ_run Cert.AdamScaleRefIdeal.defs _ _).mono (fun r h => ⟨fun c => (h c).2.2.2.2, sem_eq_zero_of_no_sems (by decide) r.2⟩)
    (Cert.AdamScaleRefIdeal.Value.run m ρ)

theorem algebraic : Cert.algebraic_AdamScaleIdeal_AdamScaleRefIdeal := by
  intro m g m' g' _ hagree
  refine ⟨_, _, _, _, Cert.AdamScaleIdeal.Value.run_blocks m g, ?_⟩
  refine (θ_run Cert.AdamScaleRefIdeal.defs _ _).mono (fun r h c => ?_) (Cert.AdamScaleRefIdeal.Value.run m' g')
  obtain ⟨h4, h5, h6, h7, hk⟩ := h c
  obtain ⟨g0, g1, g2, g3⟩ := hagree c
  refine ⟨h4.trans ((Cert.AdamScaleRefIdeal.Read.val_main_v0_eq _).trans ?_), h5.trans ((Cert.AdamScaleRefIdeal.Read.val_main_v24_eq _ _ _ _).trans ?_),
    h6.trans ((Cert.AdamScaleRefIdeal.Read.val_main_v5_eq _ _).trans ?_), h7.trans ((Cert.AdamScaleRefIdeal.Read.val_main_v11_eq _ _).trans ?_), hk⟩
  · rw [g0, arr4]
    funext i
    rw [eq_ix2 i]
    exact ref4 _ _ _
  · rw [g0, g1, g2, g3, arr5]
    funext i
    rw [eq_ix2 i]
    exact ref5 _ _ _ _ _ _
  · rw [g0, g2, arr6]
    funext i
    rw [eq_ix2 i]
    exact ref6 _ _ _ _
  · rw [g0, g3, arr7]
    funext i
    rw [eq_ix2 i]
    exact ref7 _ _ _ _

end Cert.ScaleStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_all_finite
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.AttFwd
public import proofs.«01_k».proof.Proof.Gen.AttFwd.Skeleton
public import proofs.«01_k».proof.Proof.Gen.AttFwd.Launch
public import proofs.«01_k».proof.Proof.Gen.AttFwd.Points
public import proofs.«01_k».proof.Proof.Gen.AttFwd.Frame
public import proofs.«01_k».proof.Proof.Gen.AttFwdIdeal
public import proofs.«01_k».proof.Proof.Gen.AttFwdIdeal.Skeleton
public import proofs.«01_k».proof.Proof.Gen.AttFwdIdeal.Launch
public import proofs.«01_k».proof.Proof.Gen.AttFwdIdeal.Points
public import proofs.«01_k».proof.Proof.Gen.AttFwdIdeal.Frame
public import proofs.«01_k».proof.Proof.Gen.AttFwdIdeal.Value
public import proofs.«01_k».proof.Proof.Gen.AttFwdRefIdeal
public import proofs.«01_k».proof.Proof.Gen.AttFwdRefIdeal.Run
public import proofs.«01_k».proof.Proof.Gen.AttFwdRefIdeal.Read
public import proofs.«01_k».proof.Proof.Gen.Pre_att_finite
public import proofs.«01_k».proof.Proof.Gen.FfnDwIn
public import proofs.«01_k».proof.Proof.Gen.FfnDwIn.Skeleton
public import proofs.«01_k».proof.Proof.Gen.FfnDwIn.Launch
public import proofs.«01_k».proof.Proof.Gen.FfnDwIn.Points
public import proofs.«01_k».proof.Proof.Gen.FfnDwIn.Frame
public import proofs.«01_k».proof.Proof.Gen.FfnDwInIdeal
public import proofs.«01_k».proof.Proof.Gen.FfnDwInIdeal.Skeleton
public import proofs.«01_k».proof.Proof.Gen.FfnDwInIdeal.Launch
public import proofs.«01_k».proof.Proof.Gen.FfnDwInIdeal.Points
public import proofs.«01_k».proof.Proof.Gen.FfnDwInIdeal.Frame
public import proofs.«01_k».proof.Proof.Gen.FfnDwInIdeal.Value
public import proofs.«01_k».proof.Proof.Gen.FfnDwInRefIdeal
public import proofs.«01_k».proof.Proof.Gen.FfnDwInRefIdeal.Run
public import proofs.«01_k».proof.Proof.Gen.FfnDwInRefIdeal.Read
public import proofs.«01_k».proof.Proof.Gen.FfnDwOut
public import proofs.«01_k».proof.Proof.Gen.FfnDwOut.Skeleton
public import proofs.«01_k».proof.Proof.Gen.FfnDwOut.Launch
public import proofs.«01_k».proof.Proof.Gen.FfnDwOut.Points
public import proofs.«01_k».proof.Proof.Gen.FfnDwOut.Frame
public import proofs.«01_k».proof.Proof.Gen.FfnDwOutIdeal
public import proofs.«01_k».proof.Proof.Gen.FfnDwOutIdeal.Skeleton
public import proofs.«01_k».proof.Proof.Gen.FfnDwOutIdeal.Launch
public import proofs.«01_k».proof.Proof.Gen.FfnDwOutIdeal.Points
public import proofs.«01_k».proof.Proof.Gen.FfnDwOutIdeal.Frame
public import proofs.«01_k».proof.Proof.Gen.FfnDwOutIdeal.Value
public import proofs.«01_k».proof.Proof.Gen.FfnDwOutRefIdeal
public import proofs.«01_k».proof.Proof.Gen.FfnDwOutRefIdeal.Run
public import proofs.«01_k».proof.Proof.Gen.FfnDwOutRefIdeal.Read
public import proofs.«01_k».proof.Proof.Gen.MlaUvBwd
public import proofs.«01_k».proof.Proof.Gen.MlaUvBwd.Skeleton
public import proofs.«01_k».proof.Proof.Gen.MlaUvBwd.Launch
public import proofs.«01_k».proof.Proof.Gen.MlaUvBwd.Points
public import proofs.«01_k».proof.Proof.Gen.MlaUvBwd.Frame
public import proofs.«01_k».proof.Proof.Gen.MlaUvBwdIdeal
public import proofs.«01_k».proof.Proof.Gen.MlaUvBwdIdeal.Skeleton
public import proofs.«01_k».proof.Proof.Gen.MlaUvBwdIdeal.Launch
public import proofs.«01_k».proof.Proof.Gen.MlaUvBwdIdeal.Points
public import proofs.«01_k».proof.Proof.Gen.MlaUvBwdIdeal.Frame
public import proofs.«01_k».proof.Proof.Gen.MlaUvBwdIdeal.Value
public import proofs.«01_k».proof.Proof.Gen.MlaUvBwdRefIdeal
public import proofs.«01_k».proof.Proof.Gen.MlaUvBwdRefIdeal.Run
public import proofs.«01_k».proof.Proof.Gen.MlaUvBwdRefIdeal.Read
public import proofs.«01_k».proof.Proof.Gen.MlaDo
public import proofs.«01_k».proof.Proof.Gen.MlaDo.Skeleton
public import proofs.«01_k».proof.Proof.Gen.MlaDo.Launch
public import proofs.«01_k».proof.Proof.Gen.MlaDo.Points
public import proofs.«01_k».proof.Proof.Gen.MlaDo.Frame
public import proofs.«01_k».proof.Proof.Gen.MlaDoIdeal
public import proofs.«01_k».proof.Proof.Gen.MlaDoIdeal.Skeleton
public import proofs.«01_k».proof.Proof.Gen.MlaDoIdeal.Launch
public import proofs.«01_k».proof.Proof.Gen.MlaDoIdeal.Points
public import proofs.«01_k».proof.Proof.Gen.MlaDoIdeal.Frame
public import proofs.«01_k».proof.Proof.Gen.MlaDoIdeal.Value
public import proofs.«01_k».proof.Proof.Gen.MlaDoRefIdeal
public import proofs.«01_k».proof.Proof.Gen.MlaDoRefIdeal.Run
public import proofs.«01_k».proof.Proof.Gen.MlaDoRefIdeal.Read
public import proofs.«01_k».proof.Proof.Gen.MlaDwo
public import proofs.«01_k».proof.Proof.Gen.MlaDwo.Skeleton
public import proofs.«01_k».proof.Proof.Gen.MlaDwo.Launch
public import proofs.«01_k».proof.Proof.Gen.MlaDwo.Points
public import proofs.«01_k».proof.Proof.Gen.MlaDwo.Frame
public import proofs.«01_k».proof.Proof.Gen.MlaDwoIdeal
public import proofs.«01_k».proof.Proof.Gen.MlaDwoIdeal.Skeleton
public import proofs.«01_k».proof.Proof.Gen.MlaDwoIdeal.Launch
public import proofs.«01_k».proof.Proof.Gen.MlaDwoIdeal.Points
public import proofs.«01_k».proof.Proof.Gen.MlaDwoIdeal.Frame
public import proofs.«01_k».proof.Proof.Gen.MlaDwoIdeal.Value
public import proofs.«01_k».proof.Proof.Gen.MlaDwoRefIdeal
public import proofs.«01_k».proof.Proof.Gen.MlaDwoRefIdeal.Run
public import proofs.«01_k».proof.Proof.Gen.MlaDwoRefIdeal.Read
public import proofs.«01_k».proof.Proof.Gen.MlaDh
public import proofs.«01_k».proof.Proof.Gen.MlaDh.Skeleton
public import proofs.«01_k».proof.Proof.Gen.MlaDh.Launch
public import proofs.«01_k».proof.Proof.Gen.MlaDh.Points
public import proofs.«01_k».proof.Proof.Gen.MlaDh.Frame
public import proofs.«01_k».proof.Proof.Gen.MlaDhIdeal
public import proofs.«01_k».proof.Proof.Gen.MlaDhIdeal.Skeleton
public import proofs.«01_k».proof.Proof.Gen.MlaDhIdeal.Launch
public import proofs.«01_k».proof.Proof.Gen.MlaDhIdeal.Points
public import proofs.«01_k».proof.Proof.Gen.MlaDhIdeal.Frame
public import proofs.«01_k».proof.Proof.Gen.MlaDhIdeal.Value
public import proofs.«01_k».proof.Proof.Gen.MlaDhRefIdeal
public import proofs.«01_k».proof.Proof.Gen.MlaDhRefIdeal.Run
public import proofs.«01_k».proof.Proof.Gen.MlaDhRefIdeal.Read
public import proofs.«01_k».proof.Proof.Gen.MlaDwin
public import proofs.«01_k».proof.Proof.Gen.MlaDwin.Skeleton
public import proofs.«01_k».proof.Proof.Gen.MlaDwin.Launch
public import proofs.«01_k».proof.Proof.Gen.MlaDwin.Points
public import proofs.«01_k».proof.Proof.Gen.MlaDwin.Frame
public import proofs.«01_k».proof.Proof.Gen.MlaDwinIdeal
public import proofs.«01_k».proof.Proof.Gen.MlaDwinIdeal.Skeleton
public import proofs.«01_k».proof.Proof.Gen.MlaDwinIdeal.Launch
public import proofs.«01_k».proof.Proof.Gen.MlaDwinIdeal.Points
public import proofs.«01_k».proof.Proof.Gen.MlaDwinIdeal.Frame
public import proofs.«01_k».proof.Proof.Gen.MlaDwinIdeal.Value
public import proofs.«01_k».proof.Proof.Gen.MlaDwinRefIdeal
public import proofs.«01_k».proof.Proof.Gen.MlaDwinRefIdeal.Run
public import proofs.«01_k».proof.Proof.Gen.MlaDwinRefIdeal.Read
public import proofs.«01_k».proof.Proof.Gen.MlaLat
public import proofs.«01_k».proof.Proof.Gen.MlaLat.Skeleton
public import proofs.«01_k».proof.Proof.Gen.MlaLat.Launch
public import proofs.«01_k».proof.Proof.Gen.MlaLat.Points
public import proofs.«01_k».proof.Proof.Gen.MlaLat.Frame
public import proofs.«01_k».proof.Proof.Gen.MlaLatIdeal
public import proofs.«01_k».proof.Proof.Gen.MlaLatIdeal.Skeleton
public import proofs.«01_k».proof.Proof.Gen.MlaLatIdeal.Launch
public import proofs.«01_k».proof.Proof.Gen.MlaLatIdeal.Points
public import proofs.«01_k».proof.Proof.Gen.MlaLatIdeal.Frame
public import proofs.«01_k».proof.Proof.Gen.MlaLatIdeal.Value
public import proofs.«01_k».proof.Proof.Gen.MlaLatRefIdeal
public import proofs.«01_k».proof.Proof.Gen.MlaLatRefIdeal.Run
public import proofs.«01_k».proof.Proof.Gen.MlaLatRefIdeal.Read
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutIdeal.Value
public import proofs.«01_k».proof.Proof.Gen.MlaOutRefIdeal
public import proofs.«01_k».proof.Proof.Gen.MlaOutRefIdeal.Run
public import proofs.«01_k».proof.Proof.Gen.MlaOutRefIdeal.Read
public import proofs.«01_k».proof.Proof.Gen.MlaUv
public import proofs.«01_k».proof.Proof.Gen.MlaUv.Skeleton
public import proofs.«01_k».proof.Proof.Gen.MlaUv.Launch
public import proofs.«01_k».proof.Proof.Gen.MlaUv.Points
public import proofs.«01_k».proof.Proof.Gen.MlaUv.Frame
public import proofs.«01_k».proof.Proof.Gen.MlaUvIdeal
public import proofs.«01_k».proof.Proof.Gen.MlaUvIdeal.Skeleton
public import proofs.«01_k».proof.Proof.Gen.MlaUvIdeal.Launch
public import proofs.«01_k».proof.Proof.Gen.MlaUvIdeal.Points
public import proofs.«01_k».proof.Proof.Gen.MlaUvIdeal.Frame
public import proofs.«01_k».proof.Proof.Gen.MlaUvIdeal.Value
public import proofs.«01_k».proof.Proof.Gen.MlaUvRefIdeal
public import proofs.«01_k».proof.Proof.Gen.MlaUvRefIdeal.Run
public import proofs.«01_k».proof.Proof.Gen.MlaUvRefIdeal.Read
public import proofs.«01_k».proof.Proof.Gen.PoolProj
public import proofs.«01_k».proof.Proof.Gen.PoolProj.Skeleton
public import proofs.«01_k».proof.Proof.Gen.PoolProj.Launch
public import proofs.«01_k».proof.Proof.Gen.PoolProj.Points
public import proofs.«01_k».proof.Proof.Gen.PoolProj.Frame
public import proofs.«01_k».proof.Proof.Gen.PoolProjIdeal
public import proofs.«01_k».proof.Proof.Gen.PoolProjIdeal.Skeleton
public import proofs.«01_k».proof.Proof.Gen.PoolProjIdeal.Launch
public import proofs.«01_k».proof.Proof.Gen.PoolProjIdeal.Points
public import proofs.«01_k».proof.Proof.Gen.PoolProjIdeal.Frame
public import proofs.«01_k».proof.Proof.Gen.PoolProjIdeal.Value
public import proofs.«01_k».proof.Proof.Gen.PoolProjRefIdeal
public import proofs.«01_k».proof.Proof.Gen.PoolProjRefIdeal.Run
public import proofs.«01_k».proof.Proof.Gen.PoolProjRefIdeal.Read
public import proofs.«01_k».proof.Proof.Gen.PoolDw
public import proofs.«01_k».proof.Proof.Gen.PoolDw.Skeleton
public import proofs.«01_k».proof.Proof.Gen.PoolDw.Launch
public import proofs.«01_k».proof.Proof.Gen.PoolDw.Points
public import proofs.«01_k».proof.Proof.Gen.PoolDw.Frame
public import proofs.«01_k».proof.Proof.Gen.PoolDwIdeal
public import proofs.«01_k».proof.Proof.Gen.PoolDwIdeal.Skeleton
public import proofs.«01_k».proof.Proof.Gen.PoolDwIdeal.Launch
public import proofs.«01_k».proof.Proof.Gen.PoolDwIdeal.Points
public import proofs.«01_k».proof.Proof.Gen.PoolDwIdeal.Frame
public import proofs.«01_k».proof.Proof.Gen.PoolDwIdeal.Value
public import proofs.«01_k».proof.Proof.Gen.PoolDwRefIdeal
public import proofs.«01_k».proof.Proof.Gen.PoolDwRefIdeal.Run
public import proofs.«01_k».proof.Proof.Gen.PoolDwRefIdeal.Read
public import proofs.«01_k».proof.Proof.Gen.PoolDz
public import proofs.«01_k».proof.Proof.Gen.PoolDz.Skeleton
public import proofs.«01_k».proof.Proof.Gen.PoolDz.Launch
public import proofs.«01_k».proof.Proof.Gen.PoolDz.Points
public import proofs.«01_k».proof.Proof.Gen.PoolDz.Frame
public import proofs.«01_k».proof.Proof.Gen.PoolDzIdeal
public import proofs.«01_k».proof.Proof.Gen.PoolDzIdeal.Skeleton
public import proofs.«01_k».proof.Proof.Gen.PoolDzIdeal.Launch
public import proofs.«01_k».proof.Proof.Gen.PoolDzIdeal.Points
public import proofs.«01_k».proof.Proof.Gen.PoolDzIdeal.Frame
public import proofs.«01_k».proof.Proof.Gen.PoolDzIdeal.Value
public import proofs.«01_k».proof.Proof.Gen.PoolDzRefIdeal
public import proofs.«01_k».proof.Proof.Gen.PoolDzRefIdeal.Run
public import proofs.«01_k».proof.Proof.Gen.PoolDzRefIdeal.Read
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNorm.Frame
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.PreNormIdeal.Frame
public import proofs.«01_k».proof.Proof.Gen.PreNormIdeal.Value
public import proofs.«01_k».proof.Proof.Gen.PreNormRefIdeal
public import proofs.«01_k».proof.Proof.Gen.PreNormRefIdeal.Run
public import proofs.«01_k».proof.Proof.Gen.PreNormRefIdeal.Read
public import proofs.«01_k».proof.Proof.Gen.NormLink
public import proofs.«01_k».proof.Proof.Gen.NormLink.Skeleton
public import proofs.«01_k».proof.Proof.Gen.NormLink.Launch
public import proofs.«01_k».proof.Proof.Gen.NormLink.Points
public import proofs.«01_k».proof.Proof.Gen.NormLink.Frame
public import proofs.«01_k».proof.Proof.Gen.NormLinkIdeal
public import proofs.«01_k».proof.Proof.Gen.NormLinkIdeal.Skeleton
public import proofs.«01_k».proof.Proof.Gen.NormLinkIdeal.Launch
public import proofs.«01_k».proof.Proof.Gen.NormLinkIdeal.Points
public import proofs.«01_k».proof.Proof.Gen.NormLinkIdeal.Frame
public import proofs.«01_k».proof.Proof.Gen.NormLinkIdeal.Value
public import proofs.«01_k».proof.Proof.Gen.NormLinkRefIdeal
public import proofs.«01_k».proof.Proof.Gen.NormLinkRefIdeal.Run
public import proofs.«01_k».proof.Proof.Gen.NormLinkRefIdeal.Read
public import proofs.«01_k».proof.Proof.Gen.PreNormBwd
public import proofs.«01_k».proof.Proof.Gen.PreNormBwd.Skeleton
public import proofs.«01_k».proof.Proof.Gen.PreNormBwd.Launch
public import proofs.«01_k».proof.Proof.Gen.PreNormBwd.Points
public import proofs.«01_k».proof.Proof.Gen.PreNormBwd.Frame
public import proofs.«01_k».proof.Proof.Gen.PreNormBwdIdeal
public import proofs.«01_k».proof.Proof.Gen.PreNormBwdIdeal.Skeleton
public import proofs.«01_k».proof.Proof.Gen.PreNormBwdIdeal.Launch
public import proofs.«01_k».proof.Proof.Gen.PreNormBwdIdeal.Points
public import proofs.«01_k».proof.Proof.Gen.PreNormBwdIdeal.Frame
public import proofs.«01_k».proof.Proof.Gen.PreNormBwdIdeal.Value
public import proofs.«01_k».proof.Proof.Gen.PreNormBwdRefIdeal
public import proofs.«01_k».proof.Proof.Gen.PreNormBwdRefIdeal.Run
public import proofs.«01_k».proof.Proof.Gen.PreNormBwdRefIdeal.Read
public import proofs.«01_k».proof.Proof.Gen.NormLinkBwd
public import proofs.«01_k».proof.Proof.Gen.NormLinkBwd.Skeleton
public import proofs.«01_k».proof.Proof.Gen.NormLinkBwd.Launch
public import proofs.«01_k».proof.Proof.Gen.NormLinkBwd.Points
public import proofs.«01_k».proof.Proof.Gen.NormLinkBwd.Frame
public import proofs.«01_k».proof.Proof.Gen.NormLinkBwdIdeal
public import proofs.«01_k».proof.Proof.Gen.NormLinkBwdIdeal.Skeleton
public import proofs.«01_k».proof.Proof.Gen.NormLinkBwdIdeal.Launch
public import proofs.«01_k».proof.Proof.Gen.NormLinkBwdIdeal.Points
public import proofs.«01_k».proof.Proof.Gen.NormLinkBwdIdeal.Frame
public import proofs.«01_k».proof.Proof.Gen.NormLinkBwdIdeal.Value
public import proofs.«01_k».proof.Proof.Gen.NormLinkBwdRefIdeal
public import proofs.«01_k».proof.Proof.Gen.NormLinkBwdRefIdeal.Run
public import proofs.«01_k».proof.Proof.Gen.NormLinkBwdRefIdeal.Read
public import proofs.«01_k».proof.Proof.Gen.AdamO
public import proofs.«01_k».proof.Proof.Gen.AdamO.Skeleton
public import proofs.«01_k».proof.Proof.Gen.AdamO.Launch
public import proofs.«01_k».proof.Proof.Gen.AdamO.Points
public import proofs.«01_k».proof.Proof.Gen.AdamO.Frame
public import proofs.«01_k».proof.Proof.Gen.AdamOIdeal
public import proofs.«01_k».proof.Proof.Gen.AdamOIdeal.Skeleton
public import proofs.«01_k».proof.Proof.Gen.AdamOIdeal.Launch
public import proofs.«01_k».proof.Proof.Gen.AdamOIdeal.Points
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamQ
public import proofs.«01_k».proof.Proof.Gen.AdamQ.Skeleton
public import proofs.«01_k».proof.Proof.Gen.AdamQ.Launch
public import proofs.«01_k».proof.Proof.Gen.AdamQ.Points
public import proofs.«01_k».proof.Proof.Gen.AdamQ.Frame
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQIdeal.Value
public import proofs.«01_k».proof.Proof.Gen.AdamQRefIdeal
public import proofs.«01_k».proof.Proof.Gen.AdamQRefIdeal.Run
public import proofs.«01_k».proof.Proof.Gen.AdamQRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.NormLoss
public import proofs.«01_k».proof.Proof.Gen.NormLoss.Skeleton
public import proofs.«01_k».proof.Proof.Gen.NormLoss.Launch
public import proofs.«01_k».proof.Proof.Gen.NormLoss.Points
public import proofs.«01_k».proof.Proof.Gen.NormLoss.Frame
public import proofs.«01_k».proof.Proof.Gen.NormLossIdeal
public import proofs.«01_k».proof.Proof.Gen.NormLossIdeal.Skeleton
public import proofs.«01_k».proof.Proof.Gen.NormLossIdeal.Launch
public import proofs.«01_k».proof.Proof.Gen.NormLossIdeal.Points
public import proofs.«01_k».proof.Proof.Gen.NormLossIdeal.Frame
public import proofs.«01_k».proof.Proof.Gen.NormLossIdeal.Value
public import proofs.«01_k».proof.Proof.Gen.NormLossRefIdeal
public import proofs.«01_k».proof.Proof.Gen.NormLossRefIdeal.Run
public import proofs.«01_k».proof.Proof.Gen.NormLossRefIdeal.Read
public import proofs.«01_k».proof.Proof.Gen.NormLink1
public import proofs.«01_k».proof.Proof.Gen.NormLink1.Skeleton
public import proofs.«01_k».proof.Proof.Gen.NormLink1.Launch
public import proofs.«01_k».proof.Proof.Gen.NormLink1.Points
public import proofs.«01_k».proof.Proof.Gen.NormLink1.Frame
public import proofs.«01_k».proof.Proof.Gen.NormLink1Ideal
public import proofs.«01_k».proof.Proof.Gen.NormLink1Ideal.Skeleton
public import proofs.«01_k».proof.Proof.Gen.NormLink1Ideal.Launch
public import proofs.«01_k».proof.Proof.Gen.NormLink1Ideal.Points
public import proofs.«01_k».proof.Proof.Gen.NormLink1Ideal.Frame
public import proofs.«01_k».proof.Proof.Gen.NormLink1Ideal.Value
public import proofs.«01_k».proof.Proof.Gen.NormLink1RefIdeal
public import proofs.«01_k».proof.Proof.Gen.NormLink1RefIdeal.Run
public import proofs.«01_k».proof.Proof.Gen.NormLink1RefIdeal.Read
public import proofs.«01_k».proof.Proof.Gen.NormLink3
public import proofs.«01_k».proof.Proof.Gen.NormLink3.Skeleton
public import proofs.«01_k».proof.Proof.Gen.NormLink3.Launch
public import proofs.«01_k».proof.Proof.Gen.NormLink3.Points
public import proofs.«01_k».proof.Proof.Gen.NormLink3.Frame
public import proofs.«01_k».proof.Proof.Gen.NormLink3Ideal
public import proofs.«01_k».proof.Proof.Gen.NormLink3Ideal.Skeleton
public import proofs.«01_k».proof.Proof.Gen.NormLink3Ideal.Launch
public import proofs.«01_k».proof.Proof.Gen.NormLink3Ideal.Points
public import proofs.«01_k».proof.Proof.Gen.NormLink3Ideal.Frame
public import proofs.«01_k».proof.Proof.Gen.NormLink3Ideal.Value
public import proofs.«01_k».proof.Proof.Gen.NormLink3RefIdeal
public import proofs.«01_k».proof.Proof.Gen.NormLink3RefIdeal.Run
public import proofs.«01_k».proof.Proof.Gen.NormLink3RefIdeal.Read
public import proofs.«01_k».proof.Proof.Gen.NormLink5
public import proofs.«01_k».proof.Proof.Gen.NormLink5.Skeleton
public import proofs.«01_k».proof.Proof.Gen.NormLink5.Launch
public import proofs.«01_k».proof.Proof.Gen.NormLink5.Points
public import proofs.«01_k».proof.Proof.Gen.NormLink5.Frame
public import proofs.«01_k».proof.Proof.Gen.NormLink5Ideal
public import proofs.«01_k».proof.Proof.Gen.NormLink5Ideal.Skeleton
public import proofs.«01_k».proof.Proof.Gen.NormLink5Ideal.Launch
public import proofs.«01_k».proof.Proof.Gen.NormLink5Ideal.Points
public import proofs.«01_k».proof.Proof.Gen.NormLink5Ideal.Frame
public import proofs.«01_k».proof.Proof.Gen.NormLink5Ideal.Value
public import proofs.«01_k».proof.Proof.Gen.NormLink5RefIdeal
public import proofs.«01_k».proof.Proof.Gen.NormLink5RefIdeal.Run
public import proofs.«01_k».proof.Proof.Gen.NormLink5RefIdeal.Read
public import proofs.«01_k».proof.Proof.Gen.NormLinkBwd5
public import proofs.«01_k».proof.Proof.Gen.NormLinkBwd5.Skeleton
public import proofs.«01_k».proof.Proof.Gen.NormLinkBwd5.Launch
public import proofs.«01_k».proof.Proof.Gen.NormLinkBwd5.Points
public import proofs.«01_k».proof.Proof.Gen.NormLinkBwd5.Frame
public import proofs.«01_k».proof.Proof.Gen.NormLinkBwd5Ideal
public import proofs.«01_k».proof.Proof.Gen.NormLinkBwd5Ideal.Skeleton
public import proofs.«01_k».proof.Proof.Gen.NormLinkBwd5Ideal.Launch
public import proofs.«01_k».proof.Proof.Gen.NormLinkBwd5Ideal.Points
public import proofs.«01_k».proof.Proof.Gen.NormLinkBwd5Ideal.Frame
public import proofs.«01_k».proof.Proof.Gen.NormLinkBwd5Ideal.Value
public import proofs.«01_k».proof.Proof.Gen.NormLinkBwd5RefIdeal
public import proofs.«01_k».proof.Proof.Gen.NormLinkBwd5RefIdeal.Run
public import proofs.«01_k».proof.Proof.Gen.NormLinkBwd5RefIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamNormRefIdeal.Read
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleIdeal.Value
public import proofs.«01_k».proof.Proof.Gen.AdamScaleRefIdeal
public import proofs.«01_k».proof.Proof.Gen.AdamScaleRefIdeal.Run
public import proofs.«01_k».proof.Proof.Gen.AdamScaleRefIdeal.Read
public import proofs.«01_k».proof.Proof.Gen.Pre_ffn_finite
public import proofs.«01_k».proof.Proof.Attention
public import proofs.«01_k».proof.Proof.FfnBwd
public import proofs.«01_k».proof.Proof.FfnFwd
public import proofs.«01_k».proof.Proof.FfnDwIn
public import proofs.«01_k».proof.Proof.FfnDwOut
public import proofs.«01_k».proof.Proof.AttFwd
public import proofs.«01_k».proof.Proof.MlaUvBwd
public import proofs.«01_k».proof.Proof.MlaDo
public import proofs.«01_k».proof.Proof.MlaDwo
public import proofs.«01_k».proof.Proof.MlaDh
public import proofs.«01_k».proof.Proof.MlaDwin
public import proofs.«01_k».proof.Proof.MlaLat
public import proofs.«01_k».proof.Proof.MlaOut
public import proofs.«01_k».proof.Proof.MlaUv
public import proofs.«01_k».proof.Proof.PoolProj
public import proofs.«01_k».proof.Proof.PoolDw
public import proofs.«01_k».proof.Proof.PoolDz
public import proofs.«01_k».proof.Proof.PreNorm
public import proofs.«01_k».proof.Proof.NormLink
public import proofs.«01_k».proof.Proof.PreNormBwd
public import proofs.«01_k».proof.Proof.NormLinkBwd
public import proofs.«01_k».proof.Proof.AdamO
public import proofs.«01_k».proof.Proof.AdamIn
public import proofs.«01_k».proof.Proof.AdamQ
public import proofs.«01_k».proof.Proof.AdamPool
public import proofs.«01_k».proof.Proof.NormLoss
public import proofs.«01_k».proof.Proof.NormLink1
public import proofs.«01_k».proof.Proof.NormLink3
public import proofs.«01_k».proof.Proof.NormLink5
public import proofs.«01_k».proof.Proof.NormLinkBwd5
public import proofs.«01_k».proof.Proof.AdamNorm
public import proofs.«01_k».proof.Proof.AdamScale
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.FfnBwd.Gen.facts, Cert.FfnBwdIdeal.Gen.facts, Cert.FfnBwdRefIdeal.Gen.facts,
  Cert.FfnFwd.Gen.facts, Cert.FfnFwdIdeal.Gen.facts, Cert.FfnFwdRefIdeal.Gen.facts,
  Cert.FfnDwIn.Gen.facts, Cert.FfnDwInIdeal.Gen.facts, Cert.FfnDwInRefIdeal.Gen.facts,
  Cert.FfnDwOut.Gen.facts, Cert.FfnDwOutIdeal.Gen.facts, Cert.FfnDwOutRefIdeal.Gen.facts,
  Cert.AttFwd.Gen.facts, Cert.AttFwdIdeal.Gen.facts, Cert.AttFwdRefIdeal.Gen.facts,
  Cert.MlaUvBwd.Gen.facts, Cert.MlaUvBwdIdeal.Gen.facts, Cert.MlaUvBwdRefIdeal.Gen.facts,
  Cert.MlaDo.Gen.facts, Cert.MlaDoIdeal.Gen.facts, Cert.MlaDoRefIdeal.Gen.facts,
  Cert.MlaDwo.Gen.facts, Cert.MlaDwoIdeal.Gen.facts, Cert.MlaDwoRefIdeal.Gen.facts,
  Cert.MlaDh.Gen.facts, Cert.MlaDhIdeal.Gen.facts, Cert.MlaDhRefIdeal.Gen.facts,
  Cert.MlaDwin.Gen.facts, Cert.MlaDwinIdeal.Gen.facts, Cert.MlaDwinRefIdeal.Gen.facts,
  Cert.MlaLat.Gen.facts, Cert.MlaLatIdeal.Gen.facts, Cert.MlaLatRefIdeal.Gen.facts,
  Cert.MlaOut.Gen.facts, Cert.MlaOutIdeal.Gen.facts, Cert.MlaOutRefIdeal.Gen.facts,
  Cert.MlaUv.Gen.facts, Cert.MlaUvIdeal.Gen.facts, Cert.MlaUvRefIdeal.Gen.facts,
  Cert.PoolProj.Gen.facts, Cert.PoolProjIdeal.Gen.facts, Cert.PoolProjRefIdeal.Gen.facts,
  Cert.PoolDw.Gen.facts, Cert.PoolDwIdeal.Gen.facts, Cert.PoolDwRefIdeal.Gen.facts,
  Cert.PoolDz.Gen.facts, Cert.PoolDzIdeal.Gen.facts, Cert.PoolDzRefIdeal.Gen.facts,
  Cert.PreNorm.Gen.facts, Cert.PreNormIdeal.Gen.facts, Cert.PreNormRefIdeal.Gen.facts,
  Cert.NormLink.Gen.facts, Cert.NormLinkIdeal.Gen.facts, Cert.NormLinkRefIdeal.Gen.facts,
  Cert.PreNormBwd.Gen.facts, Cert.PreNormBwdIdeal.Gen.facts, Cert.PreNormBwdRefIdeal.Gen.facts,
  Cert.NormLinkBwd.Gen.facts, Cert.NormLinkBwdIdeal.Gen.facts, Cert.NormLinkBwdRefIdeal.Gen.facts,
  Cert.AdamO.Gen.facts, Cert.AdamOIdeal.Gen.facts, Cert.AdamORefIdeal.Gen.facts,
  Cert.AdamIn.Gen.facts, Cert.AdamInIdeal.Gen.facts, Cert.AdamInRefIdeal.Gen.facts,
  Cert.AdamQ.Gen.facts, Cert.AdamQIdeal.Gen.facts, Cert.AdamQRefIdeal.Gen.facts,
  Cert.AdamPool.Gen.facts, Cert.AdamPoolIdeal.Gen.facts, Cert.AdamPoolRefIdeal.Gen.facts,
  Cert.NormLoss.Gen.facts, Cert.NormLossIdeal.Gen.facts, Cert.NormLossRefIdeal.Gen.facts,
  Cert.NormLink1.Gen.facts, Cert.NormLink1Ideal.Gen.facts, Cert.NormLink1RefIdeal.Gen.facts,
  Cert.NormLink3.Gen.facts, Cert.NormLink3Ideal.Gen.facts, Cert.NormLink3RefIdeal.Gen.facts,
  Cert.NormLink5.Gen.facts, Cert.NormLink5Ideal.Gen.facts, Cert.NormLink5RefIdeal.Gen.facts,
  Cert.NormLinkBwd5.Gen.facts, Cert.NormLinkBwd5Ideal.Gen.facts, Cert.NormLinkBwd5RefIdeal.Gen.facts,
  Cert.AdamNorm.Gen.facts, Cert.AdamNormIdeal.Gen.facts, Cert.AdamNormRefIdeal.Gen.facts,
  Cert.AdamScale.Gen.facts, Cert.AdamScaleIdeal.Gen.facts, Cert.AdamScaleRefIdeal.Gen.facts,
  Cert.Pre_all_finite.Gen.facts, Cert.Pre_ffn_finite.Gen.facts, Cert.Pre_att_finite.Gen.facts,
  fun m ρ _ => Cert.Kernel.Gen.frame m ρ,
  fun m ρ _ => Cert.KernelIdeal.Gen.frame m ρ,
  fun m ρ _ => Cert.KernelIdeal.Gen.frame m ρ,
  Cert.Att.frame_ref,
  fun m ρ _ => Cert.Att.frame_ref m ρ trivial,
  fun m ρ _ => Cert.FfnBwd.Gen.frame m ρ,
  fun m ρ _ => Cert.FfnBwdIdeal.Gen.frame m ρ,
  fun m ρ _ => Cert.FfnBwdIdeal.Gen.frame m ρ,
  Cert.Bwd.frame_ref,
  fun m ρ _ => Cert.Bwd.frame_ref m ρ trivial,
  fun m ρ _ => Cert.FfnFwd.Gen.frame m ρ,
  fun m ρ _ => Cert.FfnFwdIdeal.Gen.frame m ρ,
  Cert.Fwd.frame_ref,
  fun m ρ _ => Cert.FfnDwIn.Gen.frame m ρ,
  fun m ρ _ => Cert.FfnDwInIdeal.Gen.frame m ρ,
  Cert.DwIn.frame_ref,
  fun m ρ _ => Cert.FfnDwOut.Gen.frame m ρ,
  fun m ρ _ => Cert.FfnDwOutIdeal.Gen.frame m ρ,
  Cert.DwOut.frame_ref,
  fun m ρ _ => Cert.AttFwd.Gen.frame m ρ,
  fun m ρ _ => Cert.AttFwdIdeal.Gen.frame m ρ,
  fun m ρ _ => Cert.AttFwdIdeal.Gen.frame m ρ,
  Cert.AF.frame_ref,
  fun m ρ _ => Cert.AF.frame_ref m ρ trivial,
  fun m ρ _ => Cert.MlaUvBwd.Gen.frame m ρ,
  fun m ρ _ => Cert.MlaUvBwdIdeal.Gen.frame m ρ,
  Cert.ValBack.frame_ref,
  fun m ρ _ => Cert.MlaDo.Gen.frame m ρ,
  fun m ρ _ => Cert.MlaDoIdeal.Gen.frame m ρ,
  Cert.OutBack.frame_ref,
  fun m ρ _ => Cert.MlaDwo.Gen.frame m ρ,
  fun m ρ _ => Cert.MlaDwoIdeal.Gen.frame m ρ,
  Cert.OutWeight.frame_ref,
  fun m ρ _ => Cert.MlaDh.Gen.frame m ρ,
  fun m ρ _ => Cert.MlaDhIdeal.Gen.frame m ρ,
  Cert.LatBack.frame_ref,
  fun m ρ _ => Cert.MlaDwin.Gen.frame m ρ,
  fun m ρ _ => Cert.MlaDwinIdeal.Gen.frame m ρ,
  Cert.LatWeight.frame_ref,
  fun m ρ _ => Cert.MlaLat.Gen.frame m ρ,
  fun m ρ _ => Cert.MlaLatIdeal.Gen.frame m ρ,
  Cert.LatProj.frame_ref,
  fun m ρ _ => Cert.MlaOut.Gen.frame m ρ,
  fun m ρ _ => Cert.MlaOutIdeal.Gen.frame m ρ,
  Cert.OutProj.frame_ref,
  fun m ρ _ => Cert.MlaUv.Gen.frame m ρ,
  fun m ρ _ => Cert.MlaUvIdeal.Gen.frame m ρ,
  Cert.ValProj.frame_ref,
  fun m ρ _ => Cert.PoolProj.Gen.frame m ρ,
  fun m ρ _ => Cert.PoolProjIdeal.Gen.frame m ρ,
  Cert.Pool.frame_ref,
  fun m ρ _ => Cert.PoolDw.Gen.frame m ρ,
  fun m ρ _ => Cert.PoolDwIdeal.Gen.frame m ρ,
  Cert.PoolWeight.frame_ref,
  fun m ρ _ => Cert.PoolDz.Gen.frame m ρ,
  fun m ρ _ => Cert.PoolDzIdeal.Gen.frame m ρ,
  Cert.PoolBack.frame_ref,
  fun m ρ _ => Cert.PreNorm.Gen.frame m ρ,
  fun m ρ _ => Cert.PreNormIdeal.Gen.frame m ρ,
  Cert.FirstNorm.frame_ref,
  fun m ρ _ => Cert.NormLink.Gen.frame m ρ,
  fun m ρ _ => Cert.NormLinkIdeal.Gen.frame m ρ,
  Cert.LinkNorm.frame_ref,
  fun m ρ _ => Cert.PreNormBwd.Gen.frame m ρ,
  fun m ρ _ => Cert.PreNormBwdIdeal.Gen.frame m ρ,
  Cert.FirstBack.frame_ref,
  fun m ρ _ => Cert.NormLinkBwd.Gen.frame m ρ,
  fun m ρ _ => Cert.NormLinkBwdIdeal.Gen.frame m ρ,
  Cert.LinkBack.frame_ref,
  fun m ρ _ => Cert.AdamO.Gen.frame m ρ,
  fun m ρ _ => Cert.AdamOIdeal.Gen.frame m ρ,
  Cert.OutStep.frame_ref,
  fun m ρ _ => Cert.AdamIn.Gen.frame m ρ,
  fun m ρ _ => Cert.AdamInIdeal.Gen.frame m ρ,
  Cert.LatStep.frame_ref,
  fun m ρ _ => Cert.AdamQ.Gen.frame m ρ,
  fun m ρ _ => Cert.AdamQIdeal.Gen.frame m ρ,
  Cert.QueryStep.frame_ref,
  fun m ρ _ => Cert.AdamPool.Gen.frame m ρ,
  fun m ρ _ => Cert.AdamPoolIdeal.Gen.frame m ρ,
  Cert.PoolStep.frame_ref,
  fun m ρ _ => Cert.NormLoss.Gen.frame m ρ,
  fun m ρ _ => Cert.NormLossIdeal.Gen.frame m ρ,
  Cert.LossNorm.frame_ref,
  fun m ρ _ => Cert.NormLink1.Gen.frame m ρ,
  fun m ρ _ => Cert.NormLink1Ideal.Gen.frame m ρ,
  Cert.LinkNorm1.frame_ref,
  fun m ρ _ => Cert.NormLink3.Gen.frame m ρ,
  fun m ρ _ => Cert.NormLink3Ideal.Gen.frame m ρ,
  Cert.LinkNorm3.frame_ref,
  fun m ρ _ => Cert.NormLink5.Gen.frame m ρ,
  fun m ρ _ => Cert.NormLink5Ideal.Gen.frame m ρ,
  Cert.LinkNorm5.frame_ref,
  fun m ρ _ => Cert.NormLinkBwd5.Gen.frame m ρ,
  fun m ρ _ => Cert.NormLinkBwd5Ideal.Gen.frame m ρ,
  Cert.LinkBack5.frame_ref,
  fun m ρ _ => Cert.AdamNorm.Gen.frame m ρ,
  fun m ρ _ => Cert.AdamNormIdeal.Gen.frame m ρ,
  Cert.GainStep.frame_ref,
  fun m ρ _ => Cert.AdamScale.Gen.frame m ρ,
  fun m ρ _ => Cert.AdamScaleIdeal.Gen.frame m ρ,
  Cert.ScaleStep.frame_ref,
  trivial,
  Cert.Att.algebraic,
  trivial,
  Cert.Bwd.algebraic,
  trivial,
  Cert.Fwd.algebraic,
  trivial,
  Cert.DwIn.algebraic,
  trivial,
  Cert.DwOut.algebraic,
  Cert.AF.preserves,
  Cert.AF.algebraic,
  trivial,
  Cert.ValBack.algebraic,
  trivial,
  Cert.OutBack.algebraic,
  trivial,
  Cert.OutWeight.algebraic,
  trivial,
  Cert.LatBack.algebraic,
  trivial,
  Cert.LatWeight.algebraic,
  trivial,
  Cert.LatProj.algebraic,
  trivial,
  Cert.OutProj.algebraic,
  trivial,
  Cert.ValProj.algebraic,
  trivial,
  Cert.Pool.algebraic,
  trivial,
  Cert.PoolWeight.algebraic,
  trivial,
  Cert.PoolBack.algebraic,
  trivial,
  Cert.FirstNorm.algebraic,
  trivial,
  Cert.LinkNorm.algebraic,
  trivial,
  Cert.FirstBack.algebraic,
  trivial,
  Cert.LinkBack.algebraic,
  trivial,
  Cert.OutStep.algebraic,
  trivial,
  Cert.LatStep.algebraic,
  trivial,
  Cert.QueryStep.algebraic,
  trivial,
  Cert.PoolStep.algebraic,
  trivial,
  Cert.LossNorm.algebraic,
  trivial,
  Cert.LinkNorm1.algebraic,
  trivial,
  Cert.LinkNorm3.algebraic,
  trivial,
  Cert.LinkNorm5.algebraic,
  trivial,
  Cert.LinkBack5.algebraic,
  trivial,
  Cert.GainStep.algebraic,
  trivial,
  Cert.ScaleStep.algebraic⟩

end Cert.Proof

end
